-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneReferenceIdeal (m : (ℓ : Loc Cert.FfnOneReferenceIdeal.nD Cert.FfnOneReferenceIdeal.τ Cert.FfnOneReferenceIdeal.sig) → Buf (Elt Ideal) ℓ) : Prop :=
  True

def Pre_FfnZero (m : (ℓ : Loc Cert.FfnZero.nD Cert.FfnZero.τ Cert.FfnZero.sig) → Buf (Elt Bits) ℓ) : Prop :=
  True

def Pre_FfnZeroIdeal (m : (ℓ : Loc Cert.FfnZeroIdeal.nD Cert.FfnZeroIdeal.τ Cert.FfnZeroIdeal.sig) → Buf (Elt Ideal) ℓ) : Prop :=
  True

def Pre_FfnZeroReferenceIdeal (m : (ℓ : Loc Cert.FfnZeroReferenceIdeal.nD Cert.FfnZeroReferenceIdeal.τ Cert.FfnZeroReferenceIdeal.sig) → Buf (Elt Ideal) ℓ) : Prop :=
  True

def Pre_FfnThree (m : (ℓ : Loc Cert.FfnThree.nD Cert.FfnThree.τ Cert.FfnThree.sig) → Buf (Elt Bits) ℓ) : Prop :=
  True

def Pre_FfnThreeIdeal (m : (ℓ : Loc Cert.FfnThreeIdeal.nD Cert.FfnThreeIdeal.τ Cert.FfnThreeIdeal.sig) → Buf (Elt Ideal) ℓ) : Prop :=
  True

def Pre_FfnThreeReferenceIdeal (m : (ℓ : Loc Cert.FfnThreeReferenceIdeal.nD Cert.FfnThreeReferenceIdeal.τ Cert.FfnThreeReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def Pre_CrossGrads (m : (ℓ : Loc Cert.CrossGrads.nD Cert.CrossGrads.τ Cert.CrossGrads.sig) → Buf (Elt Bits) ℓ) : Prop :=
  True

def Pre_CrossGradsIdeal (m : (ℓ : Loc Cert.CrossGradsIdeal.nD Cert.CrossGradsIdeal.τ Cert.CrossGradsIdeal.sig) → Buf (Elt Ideal) ℓ) : Prop :=
  True

def Pre_CrossGradsReferenceIdeal (m : (ℓ : Loc Cert.CrossGradsReferenceIdeal.nD Cert.CrossGradsReferenceIdeal.τ Cert.CrossGradsReferenceIdeal.sig) → Buf (Elt Ideal) ℓ) : Prop :=
  True

def Pre_Hyb (m : (ℓ : Loc Cert.Hyb.nD Cert.Hyb.τ Cert.Hyb.sig) → Buf (Elt Bits) ℓ) : Prop :=
  True

def Pre_HybIdeal (m : (ℓ : Loc Cert.HybIdeal.nD Cert.HybIdeal.τ Cert.HybIdeal.sig) → Buf (Elt Ideal) ℓ) : Prop :=
  True

def Pre_HybReferenceIdeal (m : (ℓ : Loc Cert.HybReferenceIdeal.nD Cert.HybReferenceIdeal.τ Cert.HybReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4)
      ∧ r.2.mem ((c.tc : Thread Cert.FfnOne.nD Cert.FfnOne.τ).loc Cert.FfnOne.main_arg5) = m ((c.tc : Thread Cert.FfnOne.nD Cert.FfnOne.τ).loc Cert.FfnOne.main_arg5)
      ∧ r.2.mem ((c.tc : Thread Cert.FfnOne.nD Cert.FfnOne.τ).loc Cert.FfnOne.main_arg6) = m ((c.tc : Thread Cert.FfnOne.nD Cert.FfnOne.τ).loc Cert.FfnOne.main_arg6)
      ∧ r.2.mem ((c.tc : Thread Cert.FfnOne.nD Cert.FfnOne.τ).loc Cert.FfnOne.main_arg7) = m ((c.tc : Thread Cert.FfnOne.nD Cert.FfnOne.τ).loc Cert.FfnOne.main_arg7))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
      ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5)
      ∧ r.2.mem ((c.tc : Thread Cert.FfnOneIdeal.nD Cert.FfnOneIdeal.τ).loc Cert.FfnOneIdeal.main_arg6) = m ((c.tc : Thread Cert.FfnOneIdeal.nD Cert.FfnOneIdeal.τ).loc Cert.FfnOneIdeal.main_arg6)
      ∧ r.2.mem ((c.tc : Thread Cert.FfnOneIdeal.nD Cert.FfnOneIdeal.τ).loc Cert.FfnOneIdeal.main_arg7) = m ((c.tc : Thread Cert.FfnOneIdeal.nD Cert.FfnOneIdeal.τ).loc Cert.FfnOneIdeal.main_arg7))
      ∧ r.2.sem = fun _ => 0)

def quiescent_FfnOneReferenceIdeal [hFfnOneReferenceIdeal : Cert.FfnOneReferenceIdeal.Facts] : Prop :=
  ∀ (m : (ℓ : Loc Cert.FfnOneReferenceIdeal.nD Cert.FfnOneReferenceIdeal.τ Cert.FfnOneReferenceIdeal.sig) → Buf (Elt Ideal) ℓ) (g : Dev Cert.FfnOneReferenceIdeal.nD → PrngReg), Pre_FfnOneReferenceIdeal m →
    θ_run (Cert.FfnOneReferenceIdeal.defs (F := Ideal)) (onTc (τ := Cert.FfnOneReferenceIdeal.τ) (Cert.FfnOneReferenceIdeal.main (F := Ideal))) ⟨m, fun _ => 0, g⟩ (fun r => (∀ c : Dev Cert.FfnOneReferenceIdeal.nD,
      r.2.mem ((c.tc : Thread Cert.FfnOneReferenceIdeal.nD Cert.FfnOneReferenceIdeal.τ).loc Cert.FfnOneReferenceIdeal.main_arg0) = m ((c.tc : Thread Cert.FfnOneReferenceIdeal.nD Cert.FfnOneReferenceIdeal.τ).loc Cert.FfnOneReferenceIdeal.main_arg0)
      ∧ r.2.mem ((c.tc : Thread Cert.FfnOneReferenceIdeal.nD Cert.FfnOneReferenceIdeal.τ).loc Cert.FfnOneReferenceIdeal.main_arg1) = m ((c.tc : Thread Cert.FfnOneReferenceIdeal.nD Cert.FfnOneReferenceIdeal.τ).loc Cert.FfnOneReferenceIdeal.main_arg1)
      ∧ r.2.mem ((c.tc : Thread Cert.FfnOneReferenceIdeal.nD Cert.FfnOneReferenceIdeal.τ).loc Cert.FfnOneReferenceIdeal.main_arg2) = m ((c.tc : Thread Cert.FfnOneReferenceIdeal.nD Cert.FfnOneReferenceIdeal.τ).loc Cert.FfnOneReferenceIdeal.main_arg2)
      ∧ r.2.mem ((c.tc : Thread Cert.FfnOneReferenceIdeal.nD Cert.FfnOneReferenceIdeal.τ).loc Cert.FfnOneReferenceIdeal.main_arg3) = m ((c.tc : Thread Cert.FfnOneReferenceIdeal.nD Cert.FfnOneReferenceIdeal.τ).loc Cert.FfnOneReferenceIdeal.main_arg3)
      ∧ r.2.mem ((c.tc : Thread Cert.FfnOneReferenceIdeal.nD Cert.FfnOneReferenceIdeal.τ).loc Cert.FfnOneReferenceIdeal.main_arg4) = m ((c.tc : Thread Cert.FfnOneReferenceIdeal.nD Cert.FfnOneReferenceIdeal.τ).loc Cert.FfnOneReferenceIdeal.main_arg4)
      ∧ r.2.mem ((c.tc : Thread Cert.FfnOneReferenceIdeal.nD Cert.FfnOneReferenceIdeal.τ).loc Cert.FfnOneReferenceIdeal.main_arg5) = m ((c.tc : Thread Cert.FfnOneReferenceIdeal.nD Cert.FfnOneReferenceIdeal.τ).loc Cert.FfnOneReferenceIdeal.main_arg5)
      ∧ r.2.mem ((c.tc : Thread Cert.FfnOneReferenceIdeal.nD Cert.FfnOneReferenceIdeal.τ).loc Cert.FfnOneReferenceIdeal.main_arg6) = m ((c.tc : Thread Cert.FfnOneReferenceIdeal.nD Cert.FfnOneReferenceIdeal.τ).loc Cert.FfnOneReferenceIdeal.main_arg6)
      ∧ r.2.mem ((c.tc : Thread Cert.FfnOneReferenceIdeal.nD Cert.FfnOneReferenceIdeal.τ).loc Cert.FfnOneReferenceIdeal.main_arg7) = m ((c.tc : Thread Cert.FfnOneReferenceIdeal.nD Cert.FfnOneReferenceIdeal.τ).loc Cert.FfnOneReferenceIdeal.main_arg7))
      ∧ r.2.sem = fun _ => 0)

def quiescent_FfnZero [hFfnZero : Cert.FfnZero.Facts] : Prop :=
  ∀ (m : (ℓ : Loc Cert.FfnZero.nD Cert.FfnZero.τ Cert.FfnZero.sig) → Buf (Elt Bits) ℓ) (g : Dev Cert.FfnZero.nD → PrngReg), Pre_FfnZero m →
    θ_run (Cert.FfnZero.defs (F := Bits)) (onTc (τ := Cert.FfnZero.τ) (Cert.FfnZero.main (F := Bits))) ⟨m, fun _ => 0, g⟩ (fun r => (∀ c : Dev Cert.FfnZero.nD,
      r.2.mem ((c.tc : Thread Cert.FfnZero.nD Cert.FfnZero.τ).loc Cert.FfnZero.main_arg0) = m ((c.tc : Thread Cert.FfnZero.nD Cert.FfnZero.τ).loc Cert.FfnZero.main_arg0)
      ∧ r.2.mem ((c.tc : Thread Cert.FfnZero.nD Cert.FfnZero.τ).loc Cert.FfnZero.main_arg1) = m ((c.tc : Thread Cert.FfnZero.nD Cert.FfnZero.τ).loc Cert.FfnZero.main_arg1)
      ∧ r.2.mem ((c.tc : Thread Cert.FfnZero.nD Cert.FfnZero.τ).loc Cert.FfnZero.main_arg2) = m ((c.tc : Thread Cert.FfnZero.nD Cert.FfnZero.τ).loc Cert.FfnZero.main_arg2)
      ∧ r.2.mem ((c.tc : Thread Cert.FfnZero.nD Cert.FfnZero.τ).loc Cert.FfnZero.main_arg3) = m ((c.tc : Thread Cert.FfnZero.nD Cert.FfnZero.τ).loc Cert.FfnZero.main_arg3)
      ∧ r.2.mem ((c.tc : Thread Cert.FfnZero.nD Cert.FfnZero.τ).loc Cert.FfnZero.main_arg4) = m ((c.tc : Thread Cert.FfnZero.nD Cert.FfnZero.τ).loc Cert.FfnZero.main_arg4)
      ∧ r.2.mem ((c.tc : Thread Cert.FfnZero.nD Cert.FfnZero.τ).loc Cert.FfnZero.main_arg5) = m ((c.tc : Thread Cert.FfnZero.nD Cert.FfnZero.τ).loc Cert.FfnZero.main_arg5)
      ∧ r.2.mem ((c.tc : Thread Cert.FfnZero.nD Cert.FfnZero.τ).loc Cert.FfnZero.main_arg6) = m ((c.tc : Thread Cert.FfnZero.nD Cert.FfnZero.τ).loc Cert.FfnZero.main_arg6)
      ∧ r.2.mem ((c.tc : Thread Cert.FfnZero.nD Cert.FfnZero.τ).loc Cert.FfnZero.main_arg7) = m ((c.tc : Thread Cert.FfnZero.nD Cert.FfnZero.τ).loc Cert.FfnZero.main_arg7))
      ∧ r.2.sem = fun _ => 0)

def quiescent_FfnZeroIdeal [hFfnZeroIdeal : Cert.FfnZeroIdeal.Facts] : Prop :=
  ∀ (m : (ℓ : Loc Cert.FfnZeroIdeal.nD Cert.FfnZeroIdeal.τ Cert.FfnZeroIdeal.sig) → Buf (Elt Ideal) ℓ) (g : Dev Cert.FfnZeroIdeal.nD → PrngReg), Pre_FfnZeroIdeal m →
    θ_run (Cert.FfnZeroIdeal.defs (F := Ideal)) (onTc (τ := Cert.FfnZeroIdeal.τ) (Cert.FfnZeroIdeal.main (F := Ideal))) ⟨m, fun _ => 0, g⟩ (fun r => (∀ c : Dev Cert.FfnZeroIdeal.nD,
      r.2.mem ((c.tc : Thread Cert.FfnZeroIdeal.nD Cert.FfnZeroIdeal.τ).loc Cert.FfnZeroIdeal.main_arg0) = m ((c.tc : Thread Cert.FfnZeroIdeal.nD Cert.FfnZeroIdeal.τ).loc Cert.FfnZeroIdeal.main_arg0)
      ∧ r.2.mem ((c.tc : Thread Cert.FfnZeroIdeal.nD Cert.FfnZeroIdeal.τ).loc Cert.FfnZeroIdeal.main_arg1) = m ((c.tc : Thread Cert.FfnZeroIdeal.nD Cert.FfnZeroIdeal.τ).loc Cert.FfnZeroIdeal.main_arg1)
      ∧ r.2.mem ((c.tc : Thread Cert.FfnZeroIdeal.nD Cert.FfnZeroIdeal.τ).loc Cert.FfnZeroIdeal.main_arg2) = m ((c.tc : Thread Cert.FfnZeroIdeal.nD Cert.FfnZeroIdeal.τ).loc Cert.FfnZeroIdeal.main_arg2)
      ∧ r.2.mem ((c.tc : Thread Cert.FfnZeroIdeal.nD Cert.FfnZeroIdeal.τ).loc Cert.FfnZeroIdeal.main_arg3) = m ((c.tc : Thread Cert.FfnZeroIdeal.nD Cert.FfnZeroIdeal.τ).loc Cert.FfnZeroIdeal.main_arg3)
      ∧ r.2.mem ((c.tc : Thread Cert.FfnZeroIdeal.nD Cert.FfnZeroIdeal.τ).loc Cert.FfnZeroIdeal.main_arg4) = m ((c.tc : Thread Cert.FfnZeroIdeal.nD Cert.FfnZeroIdeal.τ).loc Cert.FfnZeroIdeal.main_arg4)
      ∧ r.2.mem ((c.tc : Thread Cert.FfnZeroIdeal.nD Cert.FfnZeroIdeal.τ).loc Cert.FfnZeroIdeal.main_arg5) = m ((c.tc : Thread Cert.FfnZeroIdeal.nD Cert.FfnZeroIdeal.τ).loc Cert.FfnZeroIdeal.main_arg5)
      ∧ r.2.mem ((c.tc : Thread Cert.FfnZeroIdeal.nD Cert.FfnZeroIdeal.τ).loc Cert.FfnZeroIdeal.main_arg6) = m ((c.tc : Thread Cert.FfnZeroIdeal.nD Cert.FfnZeroIdeal.τ).loc Cert.FfnZeroIdeal.main_arg6)
      ∧ r.2.mem ((c.tc : Thread Cert.FfnZeroIdeal.nD Cert.FfnZeroIdeal.τ).loc Cert.FfnZeroIdeal.main_arg7) = m ((c.tc : Thread Cert.FfnZeroIdeal.nD Cert.FfnZeroIdeal.τ).loc Cert.FfnZeroIdeal.main_arg7))
      ∧ r.2.sem = fun _ => 0)

def quiescent_FfnZeroReferenceIdeal [hFfnZeroReferenceIdeal : Cert.FfnZeroReferenceIdeal.Facts] : Prop :=
  ∀ (m : (ℓ : Loc Cert.FfnZeroReferenceIdeal.nD Cert.FfnZeroReferenceIdeal.τ Cert.FfnZeroReferenceIdeal.sig) → Buf (Elt Ideal) ℓ) (g : Dev Cert.FfnZeroReferenceIdeal.nD → PrngReg), Pre_FfnZeroReferenceIdeal m →
    θ_run (Cert.FfnZeroReferenceIdeal.defs (F := Ideal)) (onTc (τ := Cert.FfnZeroReferenceIdeal.τ) (Cert.FfnZeroReferenceIdeal.main (F := Ideal))) ⟨m, fun _ => 0, g⟩ (fun r => (∀ c : Dev Cert.FfnZeroReferenceIdeal.nD,
      r.2.mem ((c.tc : Thread Cert.FfnZeroReferenceIdeal.nD Cert.FfnZeroReferenceIdeal.τ).loc Cert.FfnZeroReferenceIdeal.main_arg0) = m ((c.tc : Thread Cert.FfnZeroReferenceIdeal.nD Cert.FfnZeroReferenceIdeal.τ).loc Cert.FfnZeroReferenceIdeal.main_arg0)
      ∧ r.2.mem ((c.tc : Thread Cert.FfnZeroReferenceIdeal.nD Cert.FfnZeroReferenceIdeal.τ).loc Cert.FfnZeroReferenceIdeal.main_arg1) = m ((c.tc : Thread Cert.FfnZeroReferenceIdeal.nD Cert.FfnZeroReferenceIdeal.τ).loc Cert.FfnZeroReferenceIdeal.main_arg1)
      ∧ r.2.mem ((c.tc : Thread Cert.FfnZeroReferenceIdeal.nD Cert.FfnZeroReferenceIdeal.τ).loc Cert.FfnZeroReferenceIdeal.main_arg2) = m ((c.tc : Thread Cert.FfnZeroReferenceIdeal.nD Cert.FfnZeroReferenceIdeal.τ).loc Cert.FfnZeroReferenceIdeal.main_arg2)
      ∧ r.2.mem ((c.tc : Thread Cert.FfnZeroReferenceIdeal.nD Cert.FfnZeroReferenceIdeal.τ).loc Cert.FfnZeroReferenceIdeal.main_arg3) = m ((c.tc : Thread Cert.FfnZeroReferenceIdeal.nD Cert.FfnZeroReferenceIdeal.τ).loc Cert.FfnZeroReferenceIdeal.main_arg3)
      ∧ r.2.mem ((c.tc : Thread Cert.FfnZeroReferenceIdeal.nD Cert.FfnZeroReferenceIdeal.τ).loc Cert.FfnZeroReferenceIdeal.main_arg4) = m ((c.tc : Thread Cert.FfnZeroReferenceIdeal.nD Cert.FfnZeroReferenceIdeal.τ).loc Cert.FfnZeroReferenceIdeal.main_arg4)
      ∧ r.2.mem ((c.tc : Thread Cert.FfnZeroReferenceIdeal.nD Cert.FfnZeroReferenceIdeal.τ).loc Cert.FfnZeroReferenceIdeal.main_arg5) = m ((c.tc : Thread Cert.FfnZeroReferenceIdeal.nD Cert.FfnZeroReferenceIdeal.τ).loc Cert.FfnZeroReferenceIdeal.main_arg5)
      ∧ r.2.mem ((c.tc : Thread Cert.FfnZeroReferenceIdeal.nD Cert.FfnZeroReferenceIdeal.τ).loc Cert.FfnZeroReferenceIdeal.main_arg6) = m ((c.tc : Thread Cert.FfnZeroReferenceIdeal.nD Cert.FfnZeroReferenceIdeal.τ).loc Cert.FfnZeroReferenceIdeal.main_arg6)
      ∧ r.2.mem ((c.tc : Thread Cert.FfnZeroReferenceIdeal.nD Cert.FfnZeroReferenceIdeal.τ).loc Cert.FfnZeroReferenceIdeal.main_arg7) = m ((c.tc : Thread Cert.FfnZeroReferenceIdeal.nD Cert.FfnZeroReferenceIdeal.τ).loc Cert.FfnZeroReferenceIdeal.main_arg7))
      ∧ r.2.sem = fun _ => 0)

def quiescent_FfnThree [hFfnThree : Cert.FfnThree.Facts] : Prop :=
  ∀ (m : (ℓ : Loc Cert.FfnThree.nD Cert.FfnThree.τ Cert.FfnThree.sig) → Buf (Elt Bits) ℓ) (g : Dev Cert.FfnThree.nD → PrngReg), Pre_FfnThree m →
    θ_run (Cert.FfnThree.defs (F := Bits)) (onTc (τ := Cert.FfnThree.τ) (Cert.FfnThree.main (F := Bits))) ⟨m, fun _ => 0, g⟩ (fun r => (∀ c : Dev Cert.FfnThree.nD,
      r.2.mem ((c.tc : Thread Cert.FfnThree.nD Cert.FfnThree.τ).loc Cert.FfnThree.main_arg0) = m ((c.tc : Thread Cert.FfnThree.nD Cert.FfnThree.τ).loc Cert.FfnThree.main_arg0)
      ∧ r.2.mem ((c.tc : Thread Cert.FfnThree.nD Cert.FfnThree.τ).loc Cert.FfnThree.main_arg1) = m ((c.tc : Thread Cert.FfnThree.nD Cert.FfnThree.τ).loc Cert.FfnThree.main_arg1)
      ∧ r.2.mem ((c.tc : Thread Cert.FfnThree.nD Cert.FfnThree.τ).loc Cert.FfnThree.main_arg2) = m ((c.tc : Thread Cert.FfnThree.nD Cert.FfnThree.τ).loc Cert.FfnThree.main_arg2)
      ∧ r.2.mem ((c.tc : Thread Cert.FfnThree.nD Cert.FfnThree.τ).loc Cert.FfnThree.main_arg3) = m ((c.tc : Thread Cert.FfnThree.nD Cert.FfnThree.τ).loc Cert.FfnThree.main_arg3)
      ∧ r.2.mem ((c.tc : Thread Cert.FfnThree.nD Cert.FfnThree.τ).loc Cert.FfnThree.main_arg4) = m ((c.tc : Thread Cert.FfnThree.nD Cert.FfnThree.τ).loc Cert.FfnThree.main_arg4))
      ∧ r.2.sem = fun _ => 0)

def quiescent_FfnThreeIdeal [hFfnThreeIdeal : Cert.FfnThreeIdeal.Facts] : Prop :=
  ∀ (m : (ℓ : Loc Cert.FfnThreeIdeal.nD Cert.FfnThreeIdeal.τ Cert.FfnThreeIdeal.sig) → Buf (Elt Ideal) ℓ) (g : Dev Cert.FfnThreeIdeal.nD → PrngReg), Pre_FfnThreeIdeal m →
    θ_run (Cert.FfnThreeIdeal.defs (F := Ideal)) (onTc (τ := Cert.FfnThreeIdeal.τ) (Cert.FfnThreeIdeal.main (F := Ideal))) ⟨m, fun _ => 0, g⟩ (fun r => (∀ c : Dev Cert.FfnThreeIdeal.nD,
      r.2.mem ((c.tc : Thread Cert.FfnThreeIdeal.nD Cert.FfnThreeIdeal.τ).loc Cert.FfnThreeIdeal.main_arg0) = m ((c.tc : Thread Cert.FfnThreeIdeal.nD Cert.FfnThreeIdeal.τ).loc Cert.FfnThreeIdeal.main_arg0)
      ∧ r.2.mem ((c.tc : Thread Cert.FfnThreeIdeal.nD Cert.FfnThreeIdeal.τ).loc Cert.FfnThreeIdeal.main_arg1) = m ((c.tc : Thread Cert.FfnThreeIdeal.nD Cert.FfnThreeIdeal.τ).loc Cert.FfnThreeIdeal.main_arg1)
      ∧ r.2.mem ((c.tc : Thread Cert.FfnThreeIdeal.nD Cert.FfnThreeIdeal.τ).loc Cert.FfnThreeIdeal.main_arg2) = m ((c.tc : Thread Cert.FfnThreeIdeal.nD Cert.FfnThreeIdeal.τ).loc Cert.FfnThreeIdeal.main_arg2)
      ∧ r.2.mem ((c.tc : Thread Cert.FfnThreeIdeal.nD Cert.FfnThreeIdeal.τ).loc Cert.FfnThreeIdeal.main_arg3) = m ((c.tc : Thread Cert.FfnThreeIdeal.nD Cert.FfnThreeIdeal.τ).loc Cert.FfnThreeIdeal.main_arg3)
      ∧ r.2.mem ((c.tc : Thread Cert.FfnThreeIdeal.nD Cert.FfnThreeIdeal.τ).loc Cert.FfnThreeIdeal.main_arg4) = m ((c.tc : Thread Cert.FfnThreeIdeal.nD Cert.FfnThreeIdeal.τ).loc Cert.FfnThreeIdeal.main_arg4))
      ∧ r.2.sem = fun _ => 0)

def quiescent_FfnThreeReferenceIdeal [hFfnThreeReferenceIdeal : Cert.FfnThreeReferenceIdeal.Facts] : Prop :=
  ∀ (m : (ℓ : Loc Cert.FfnThreeReferenceIdeal.nD Cert.FfnThreeReferenceIdeal.τ Cert.FfnThreeReferenceIdeal.sig) → Buf (Elt Ideal) ℓ) (g : Dev Cert.FfnThreeReferenceIdeal.nD → PrngReg), Pre_FfnThreeReferenceIdeal m →
    θ_run (Cert.FfnThreeReferenceIdeal.defs (F := Ideal)) (onTc (τ := Cert.FfnThreeReferenceIdeal.τ) (Cert.FfnThreeReferenceIdeal.main (F := Ideal))) ⟨m, fun _ => 0, g⟩ (fun r => (∀ c : Dev Cert.FfnThreeReferenceIdeal.nD,
      r.2.mem ((c.tc : Thread Cert.FfnThreeReferenceIdeal.nD Cert.FfnThreeReferenceIdeal.τ).loc Cert.FfnThreeReferenceIdeal.main_arg0) = m ((c.tc : Thread Cert.FfnThreeReferenceIdeal.nD Cert.FfnThreeReferenceIdeal.τ).loc Cert.FfnThreeReferenceIdeal.main_arg0)
      ∧ r.2.mem ((c.tc : Thread Cert.FfnThreeReferenceIdeal.nD Cert.FfnThreeReferenceIdeal.τ).loc Cert.FfnThreeReferenceIdeal.main_arg1) = m ((c.tc : Thread Cert.FfnThreeReferenceIdeal.nD Cert.FfnThreeReferenceIdeal.τ).loc Cert.FfnThreeReferenceIdeal.main_arg1)
      ∧ r.2.mem ((c.tc : Thread Cert.FfnThreeReferenceIdeal.nD Cert.FfnThreeReferenceIdeal.τ).loc Cert.FfnThreeReferenceIdeal.main_arg2) = m ((c.tc : Thread Cert.FfnThreeReferenceIdeal.nD Cert.FfnThreeReferenceIdeal.τ).loc Cert.FfnThreeReferenceIdeal.main_arg2)
      ∧ r.2.mem ((c.tc : Thread Cert.FfnThreeReferenceIdeal.nD Cert.FfnThreeReferenceIdeal.τ).loc Cert.FfnThreeReferenceIdeal.main_arg3) = m ((c.tc : Thread Cert.FfnThreeReferenceIdeal.nD Cert.FfnThreeReferenceIdeal.τ).loc Cert.FfnThreeReferenceIdeal.main_arg3)
      ∧ r.2.mem ((c.tc : Thread Cert.FfnThreeReferenceIdeal.nD Cert.FfnThreeReferenceIdeal.τ).loc Cert.FfnThreeReferenceIdeal.main_arg4) = m ((c.tc : Thread Cert.FfnThreeReferenceIdeal.nD Cert.FfnThreeReferenceIdeal.τ).loc Cert.FfnThreeReferenceIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6))
      ∧ r.2.sem = fun _ => 0)

def quiescent_CrossGrads [hCrossGrads : Cert.CrossGrads.Facts] : Prop :=
  ∀ (m : (ℓ : Loc Cert.CrossGrads.nD Cert.CrossGrads.τ Cert.CrossGrads.sig) → Buf (Elt Bits) ℓ) (g : Dev Cert.CrossGrads.nD → PrngReg), Pre_CrossGrads m →
    θ_run (Cert.CrossGrads.defs (F := Bits)) (onTc (τ := Cert.CrossGrads.τ) (Cert.CrossGrads.main (F := Bits))) ⟨m, fun _ => 0, g⟩ (fun r => (∀ c : Dev Cert.CrossGrads.nD,
      r.2.mem ((c.tc : Thread Cert.CrossGrads.nD Cert.CrossGrads.τ).loc Cert.CrossGrads.main_arg0) = m ((c.tc : Thread Cert.CrossGrads.nD Cert.CrossGrads.τ).loc Cert.CrossGrads.main_arg0)
      ∧ r.2.mem ((c.tc : Thread Cert.CrossGrads.nD Cert.CrossGrads.τ).loc Cert.CrossGrads.main_arg1) = m ((c.tc : Thread Cert.CrossGrads.nD Cert.CrossGrads.τ).loc Cert.CrossGrads.main_arg1)
      ∧ r.2.mem ((c.tc : Thread Cert.CrossGrads.nD Cert.CrossGrads.τ).loc Cert.CrossGrads.main_arg2) = m ((c.tc : Thread Cert.CrossGrads.nD Cert.CrossGrads.τ).loc Cert.CrossGrads.main_arg2)
      ∧ r.2.mem ((c.tc : Thread Cert.CrossGrads.nD Cert.CrossGrads.τ).loc Cert.CrossGrads.main_arg3) = m ((c.tc : Thread Cert.CrossGrads.nD Cert.CrossGrads.τ).loc Cert.CrossGrads.main_arg3)
      ∧ r.2.mem ((c.tc : Thread Cert.CrossGrads.nD Cert.CrossGrads.τ).loc Cert.CrossGrads.main_arg4) = m ((c.tc : Thread Cert.CrossGrads.nD Cert.CrossGrads.τ).loc Cert.CrossGrads.main_arg4)
      ∧ r.2.mem ((c.tc : Thread Cert.CrossGrads.nD Cert.CrossGrads.τ).loc Cert.CrossGrads.main_arg5) = m ((c.tc : Thread Cert.CrossGrads.nD Cert.CrossGrads.τ).loc Cert.CrossGrads.main_arg5)
      ∧ r.2.mem ((c.tc : Thread Cert.CrossGrads.nD Cert.CrossGrads.τ).loc Cert.CrossGrads.main_arg6) = m ((c.tc : Thread Cert.CrossGrads.nD Cert.CrossGrads.τ).loc Cert.CrossGrads.main_arg6)
      ∧ r.2.mem ((c.tc : Thread Cert.CrossGrads.nD Cert.CrossGrads.τ).loc Cert.CrossGrads.main_arg7) = m ((c.tc : Thread Cert.CrossGrads.nD Cert.CrossGrads.τ).loc Cert.CrossGrads.main_arg7)
      ∧ r.2.mem ((c.tc : Thread Cert.CrossGrads.nD Cert.CrossGrads.τ).loc Cert.CrossGrads.main_arg8) = m ((c.tc : Thread Cert.CrossGrads.nD Cert.CrossGrads.τ).loc Cert.CrossGrads.main_arg8)
      ∧ r.2.mem ((c.tc : Thread Cert.CrossGrads.nD Cert.CrossGrads.τ).loc Cert.CrossGrads.main_arg9) = m ((c.tc : Thread Cert.CrossGrads.nD Cert.CrossGrads.τ).loc Cert.CrossGrads.main_arg9)
      ∧ r.2.mem ((c.tc : Thread Cert.CrossGrads.nD Cert.CrossGrads.τ).loc Cert.CrossGrads.main_arg10) = m ((c.tc : Thread Cert.CrossGrads.nD Cert.CrossGrads.τ).loc Cert.CrossGrads.main_arg10)
      ∧ r.2.mem ((c.tc : Thread Cert.CrossGrads.nD Cert.CrossGrads.τ).loc Cert.CrossGrads.main_arg11) = m ((c.tc : Thread Cert.CrossGrads.nD Cert.CrossGrads.τ).loc Cert.CrossGrads.main_arg11)
      ∧ r.2.mem ((c.tc : Thread Cert.CrossGrads.nD Cert.CrossGrads.τ).loc Cert.CrossGrads.main_arg12) = m ((c.tc : Thread Cert.CrossGrads.nD Cert.CrossGrads.τ).loc Cert.CrossGrads.main_arg12)
      ∧ r.2.mem ((c.tc : Thread Cert.CrossGrads.nD Cert.CrossGrads.τ).loc Cert.CrossGrads.main_arg13) = m ((c.tc : Thread Cert.CrossGrads.nD Cert.CrossGrads.τ).loc Cert.CrossGrads.main_arg13)
      ∧ r.2.mem ((c.tc : Thread Cert.CrossGrads.nD Cert.CrossGrads.τ).loc Cert.CrossGrads.main_arg14) = m ((c.tc : Thread Cert.CrossGrads.nD Cert.CrossGrads.τ).loc Cert.CrossGrads.main_arg14)
      ∧ r.2.mem ((c.tc : Thread Cert.CrossGrads.nD Cert.CrossGrads.τ).loc Cert.CrossGrads.main_arg15) = m ((c.tc : Thread Cert.CrossGrads.nD Cert.CrossGrads.τ).loc Cert.CrossGrads.main_arg15)
      ∧ r.2.mem ((c.tc : Thread Cert.CrossGrads.nD Cert.CrossGrads.τ).loc Cert.CrossGrads.main_arg16) = m ((c.tc : Thread Cert.CrossGrads.nD Cert.CrossGrads.τ).loc Cert.CrossGrads.main_arg16)
      ∧ r.2.mem ((c.tc : Thread Cert.CrossGrads.nD Cert.CrossGrads.τ).loc Cert.CrossGrads.main_arg17) = m ((c.tc : Thread Cert.CrossGrads.nD Cert.CrossGrads.τ).loc Cert.CrossGrads.main_arg17)
      ∧ r.2.mem ((c.tc : Thread Cert.CrossGrads.nD Cert.CrossGrads.τ).loc Cert.CrossGrads.main_arg18) = m ((c.tc : Thread Cert.CrossGrads.nD Cert.CrossGrads.τ).loc Cert.CrossGrads.main_arg18)
      ∧ r.2.mem ((c.tc : Thread Cert.CrossGrads.nD Cert.CrossGrads.τ).loc Cert.CrossGrads.main_arg19) = m ((c.tc : Thread Cert.CrossGrads.nD Cert.CrossGrads.τ).loc Cert.CrossGrads.main_arg19)
      ∧ r.2.mem ((c.tc : Thread Cert.CrossGrads.nD Cert.CrossGrads.τ).loc Cert.CrossGrads.main_arg20) = m ((c.tc : Thread Cert.CrossGrads.nD Cert.CrossGrads.τ).loc Cert.CrossGrads.main_arg20))
      ∧ r.2.sem = fun _ => 0)

def quiescent_CrossGradsIdeal [hCrossGradsIdeal : Cert.CrossGradsIdeal.Facts] : Prop :=
  ∀ (m : (ℓ : Loc Cert.CrossGradsIdeal.nD Cert.CrossGradsIdeal.τ Cert.CrossGradsIdeal.sig) → Buf (Elt Ideal) ℓ) (g : Dev Cert.CrossGradsIdeal.nD → PrngReg), Pre_CrossGradsIdeal m →
    θ_run (Cert.CrossGradsIdeal.defs (F := Ideal)) (onTc (τ := Cert.CrossGradsIdeal.τ) (Cert.CrossGradsIdeal.main (F := Ideal))) ⟨m, fun _ => 0, g⟩ (fun r => (∀ c : Dev Cert.CrossGradsIdeal.nD,
      r.2.mem ((c.tc : Thread Cert.CrossGradsIdeal.nD Cert.CrossGradsIdeal.τ).loc Cert.CrossGradsIdeal.main_arg0) = m ((c.tc : Thread Cert.CrossGradsIdeal.nD Cert.CrossGradsIdeal.τ).loc Cert.CrossGradsIdeal.main_arg0)
      ∧ r.2.mem ((c.tc : Thread Cert.CrossGradsIdeal.nD Cert.CrossGradsIdeal.τ).loc Cert.CrossGradsIdeal.main_arg1) = m ((c.tc : Thread Cert.CrossGradsIdeal.nD Cert.CrossGradsIdeal.τ).loc Cert.CrossGradsIdeal.main_arg1)
      ∧ r.2.mem ((c.tc : Thread Cert.CrossGradsIdeal.nD Cert.CrossGradsIdeal.τ).loc Cert.CrossGradsIdeal.main_arg2) = m ((c.tc : Thread Cert.CrossGradsIdeal.nD Cert.CrossGradsIdeal.τ).loc Cert.CrossGradsIdeal.main_arg2)
      ∧ r.2.mem ((c.tc : Thread Cert.CrossGradsIdeal.nD Cert.CrossGradsIdeal.τ).loc Cert.CrossGradsIdeal.main_arg3) = m ((c.tc : Thread Cert.CrossGradsIdeal.nD Cert.CrossGradsIdeal.τ).loc Cert.CrossGradsIdeal.main_arg3)
      ∧ r.2.mem ((c.tc : Thread Cert.CrossGradsIdeal.nD Cert.CrossGradsIdeal.τ).loc Cert.CrossGradsIdeal.main_arg4) = m ((c.tc : Thread Cert.CrossGradsIdeal.nD Cert.CrossGradsIdeal.τ).loc Cert.CrossGradsIdeal.main_arg4)
      ∧ r.2.mem ((c.tc : Thread Cert.CrossGradsIdeal.nD Cert.CrossGradsIdeal.τ).loc Cert.CrossGradsIdeal.main_arg5) = m ((c.tc : Thread Cert.CrossGradsIdeal.nD Cert.CrossGradsIdeal.τ).loc Cert.CrossGradsIdeal.main_arg5)
      ∧ r.2.mem ((c.tc : Thread Cert.CrossGradsIdeal.nD Cert.CrossGradsIdeal.τ).loc Cert.CrossGradsIdeal.main_arg6) = m ((c.tc : Thread Cert.CrossGradsIdeal.nD Cert.CrossGradsIdeal.τ).loc Cert.CrossGradsIdeal.main_arg6)
      ∧ r.2.mem ((c.tc : Thread Cert.CrossGradsIdeal.nD Cert.CrossGradsIdeal.τ).loc Cert.CrossGradsIdeal.main_arg7) = m ((c.tc : Thread Cert.CrossGradsIdeal.nD Cert.CrossGradsIdeal.τ).loc Cert.CrossGradsIdeal.main_arg7)
      ∧ r.2.mem ((c.tc : Thread Cert.CrossGradsIdeal.nD Cert.CrossGradsIdeal.τ).loc Cert.CrossGradsIdeal.main_arg8) = m ((c.tc : Thread Cert.CrossGradsIdeal.nD Cert.CrossGradsIdeal.τ).loc Cert.CrossGradsIdeal.main_arg8)
      ∧ r.2.mem ((c.tc : Thread Cert.CrossGradsIdeal.nD Cert.CrossGradsIdeal.τ).loc Cert.CrossGradsIdeal.main_arg9) = m ((c.tc : Thread Cert.CrossGradsIdeal.nD Cert.CrossGradsIdeal.τ).loc Cert.CrossGradsIdeal.main_arg9)
      ∧ r.2.mem ((c.tc : Thread Cert.CrossGradsIdeal.nD Cert.CrossGradsIdeal.τ).loc Cert.CrossGradsIdeal.main_arg10) = m ((c.tc : Thread Cert.CrossGradsIdeal.nD Cert.CrossGradsIdeal.τ).loc Cert.CrossGradsIdeal.main_arg10)
      ∧ r.2.mem ((c.tc : Thread Cert.CrossGradsIdeal.nD Cert.CrossGradsIdeal.τ).loc Cert.CrossGradsIdeal.main_arg11) = m ((c.tc : Thread Cert.CrossGradsIdeal.nD Cert.CrossGradsIdeal.τ).loc Cert.CrossGradsIdeal.main_arg11)
      ∧ r.2.mem ((c.tc : Thread Cert.CrossGradsIdeal.nD Cert.CrossGradsIdeal.τ).loc Cert.CrossGradsIdeal.main_arg12) = m ((c.tc : Thread Cert.CrossGradsIdeal.nD Cert.CrossGradsIdeal.τ).loc Cert.CrossGradsIdeal.main_arg12)
      ∧ r.2.mem ((c.tc : Thread Cert.CrossGradsIdeal.nD Cert.CrossGradsIdeal.τ).loc Cert.CrossGradsIdeal.main_arg13) = m ((c.tc : Thread Cert.CrossGradsIdeal.nD Cert.CrossGradsIdeal.τ).loc Cert.CrossGradsIdeal.main_arg13)
      ∧ r.2.mem ((c.tc : Thread Cert.CrossGradsIdeal.nD Cert.CrossGradsIdeal.τ).loc Cert.CrossGradsIdeal.main_arg14) = m ((c.tc : Thread Cert.CrossGradsIdeal.nD Cert.CrossGradsIdeal.τ).loc Cert.CrossGradsIdeal.main_arg14)
      ∧ r.2.mem ((c.tc : Thread Cert.CrossGradsIdeal.nD Cert.CrossGradsIdeal.τ).loc Cert.CrossGradsIdeal.main_arg15) = m ((c.tc : Thread Cert.CrossGradsIdeal.nD Cert.CrossGradsIdeal.τ).loc Cert.CrossGradsIdeal.main_arg15)
      ∧ r.2.mem ((c.tc : Thread Cert.CrossGradsIdeal.nD Cert.CrossGradsIdeal.τ).loc Cert.CrossGradsIdeal.main_arg16) = m ((c.tc : Thread Cert.CrossGradsIdeal.nD Cert.CrossGradsIdeal.τ).loc Cert.CrossGradsIdeal.main_arg16)
      ∧ r.2.mem ((c.tc : Thread Cert.CrossGradsIdeal.nD Cert.CrossGradsIdeal.τ).loc Cert.CrossGradsIdeal.main_arg17) = m ((c.tc : Thread Cert.CrossGradsIdeal.nD Cert.CrossGradsIdeal.τ).loc Cert.CrossGradsIdeal.main_arg17)
      ∧ r.2.mem ((c.tc : Thread Cert.CrossGradsIdeal.nD Cert.CrossGradsIdeal.τ).loc Cert.CrossGradsIdeal.main_arg18) = m ((c.tc : Thread Cert.CrossGradsIdeal.nD Cert.CrossGradsIdeal.τ).loc Cert.CrossGradsIdeal.main_arg18)
      ∧ r.2.mem ((c.tc : Thread Cert.CrossGradsIdeal.nD Cert.CrossGradsIdeal.τ).loc Cert.CrossGradsIdeal.main_arg19) = m ((c.tc : Thread Cert.CrossGradsIdeal.nD Cert.CrossGradsIdeal.τ).loc Cert.CrossGradsIdeal.main_arg19)
      ∧ r.2.mem ((c.tc : Thread Cert.CrossGradsIdeal.nD Cert.CrossGradsIdeal.τ).loc Cert.CrossGradsIdeal.main_arg20) = m ((c.tc : Thread Cert.CrossGradsIdeal.nD Cert.CrossGradsIdeal.τ).loc Cert.CrossGradsIdeal.main_arg20))
      ∧ r.2.sem = fun _ => 0)

def quiescent_CrossGradsReferenceIdeal [hCrossGradsReferenceIdeal : Cert.CrossGradsReferenceIdeal.Facts] : Prop :=
  ∀ (m : (ℓ : Loc Cert.CrossGradsReferenceIdeal.nD Cert.CrossGradsReferenceIdeal.τ Cert.CrossGradsReferenceIdeal.sig) → Buf (Elt Ideal) ℓ) (g : Dev Cert.CrossGradsReferenceIdeal.nD → PrngReg), Pre_CrossGradsReferenceIdeal m →
    θ_run (Cert.CrossGradsReferenceIdeal.defs (F := Ideal)) (onTc (τ := Cert.CrossGradsReferenceIdeal.τ) (Cert.CrossGradsReferenceIdeal.main (F := Ideal))) ⟨m, fun _ => 0, g⟩ (fun r => (∀ c : Dev Cert.CrossGradsReferenceIdeal.nD,
      r.2.mem ((c.tc : Thread Cert.CrossGradsReferenceIdeal.nD Cert.CrossGradsReferenceIdeal.τ).loc Cert.CrossGradsReferenceIdeal.main_arg0) = m ((c.tc : Thread Cert.CrossGradsReferenceIdeal.nD Cert.CrossGradsReferenceIdeal.τ).loc Cert.CrossGradsReferenceIdeal.main_arg0)
      ∧ r.2.mem ((c.tc : Thread Cert.CrossGradsReferenceIdeal.nD Cert.CrossGradsReferenceIdeal.τ).loc Cert.CrossGradsReferenceIdeal.main_arg1) = m ((c.tc : Thread Cert.CrossGradsReferenceIdeal.nD Cert.CrossGradsReferenceIdeal.τ).loc Cert.CrossGradsReferenceIdeal.main_arg1)
      ∧ r.2.mem ((c.tc : Thread Cert.CrossGradsReferenceIdeal.nD Cert.CrossGradsReferenceIdeal.τ).loc Cert.CrossGradsReferenceIdeal.main_arg2) = m ((c.tc : Thread Cert.CrossGradsReferenceIdeal.nD Cert.CrossGradsReferenceIdeal.τ).loc Cert.CrossGradsReferenceIdeal.main_arg2)
      ∧ r.2.mem ((c.tc : Thread Cert.CrossGradsReferenceIdeal.nD Cert.CrossGradsReferenceIdeal.τ).loc Cert.CrossGradsReferenceIdeal.main_arg3) = m ((c.tc : Thread Cert.CrossGradsReferenceIdeal.nD Cert.CrossGradsReferenceIdeal.τ).loc Cert.CrossGradsReferenceIdeal.main_arg3)
      ∧ r.2.mem ((c.tc : Thread Cert.CrossGradsReferenceIdeal.nD Cert.CrossGradsReferenceIdeal.τ).loc Cert.CrossGradsReferenceIdeal.main_arg4) = m ((c.tc : Thread Cert.CrossGradsReferenceIdeal.nD Cert.CrossGradsReferenceIdeal.τ).loc Cert.CrossGradsReferenceIdeal.main_arg4)
      ∧ r.2.mem ((c.tc : Thread Cert.CrossGradsReferenceIdeal.nD Cert.CrossGradsReferenceIdeal.τ).loc Cert.CrossGradsReferenceIdeal.main_arg5) = m ((c.tc : Thread Cert.CrossGradsReferenceIdeal.nD Cert.CrossGradsReferenceIdeal.τ).loc Cert.CrossGradsReferenceIdeal.main_arg5)
      ∧ r.2.mem ((c.tc : Thread Cert.CrossGradsReferenceIdeal.nD Cert.CrossGradsReferenceIdeal.τ).loc Cert.CrossGradsReferenceIdeal.main_arg6) = m ((c.tc : Thread Cert.CrossGradsReferenceIdeal.nD Cert.CrossGradsReferenceIdeal.τ).loc Cert.CrossGradsReferenceIdeal.main_arg6)
      ∧ r.2.mem ((c.tc : Thread Cert.CrossGradsReferenceIdeal.nD Cert.CrossGradsReferenceIdeal.τ).loc Cert.CrossGradsReferenceIdeal.main_arg7) = m ((c.tc : Thread Cert.CrossGradsReferenceIdeal.nD Cert.CrossGradsReferenceIdeal.τ).loc Cert.CrossGradsReferenceIdeal.main_arg7)
      ∧ r.2.mem ((c.tc : Thread Cert.CrossGradsReferenceIdeal.nD Cert.CrossGradsReferenceIdeal.τ).loc Cert.CrossGradsReferenceIdeal.main_arg8) = m ((c.tc : Thread Cert.CrossGradsReferenceIdeal.nD Cert.CrossGradsReferenceIdeal.τ).loc Cert.CrossGradsReferenceIdeal.main_arg8)
      ∧ r.2.mem ((c.tc : Thread Cert.CrossGradsReferenceIdeal.nD Cert.CrossGradsReferenceIdeal.τ).loc Cert.CrossGradsReferenceIdeal.main_arg9) = m ((c.tc : Thread Cert.CrossGradsReferenceIdeal.nD Cert.CrossGradsReferenceIdeal.τ).loc Cert.CrossGradsReferenceIdeal.main_arg9)
      ∧ r.2.mem ((c.tc : Thread Cert.CrossGradsReferenceIdeal.nD Cert.CrossGradsReferenceIdeal.τ).loc Cert.CrossGradsReferenceIdeal.main_arg10) = m ((c.tc : Thread Cert.CrossGradsReferenceIdeal.nD Cert.CrossGradsReferenceIdeal.τ).loc Cert.CrossGradsReferenceIdeal.main_arg10)
      ∧ r.2.mem ((c.tc : Thread Cert.CrossGradsReferenceIdeal.nD Cert.CrossGradsReferenceIdeal.τ).loc Cert.CrossGradsReferenceIdeal.main_arg11) = m ((c.tc : Thread Cert.CrossGradsReferenceIdeal.nD Cert.CrossGradsReferenceIdeal.τ).loc Cert.CrossGradsReferenceIdeal.main_arg11)
      ∧ r.2.mem ((c.tc : Thread Cert.CrossGradsReferenceIdeal.nD Cert.CrossGradsReferenceIdeal.τ).loc Cert.CrossGradsReferenceIdeal.main_arg12) = m ((c.tc : Thread Cert.CrossGradsReferenceIdeal.nD Cert.CrossGradsReferenceIdeal.τ).loc Cert.CrossGradsReferenceIdeal.main_arg12)
      ∧ r.2.mem ((c.tc : Thread Cert.CrossGradsReferenceIdeal.nD Cert.CrossGradsReferenceIdeal.τ).loc Cert.CrossGradsReferenceIdeal.main_arg13) = m ((c.tc : Thread Cert.CrossGradsReferenceIdeal.nD Cert.CrossGradsReferenceIdeal.τ).loc Cert.CrossGradsReferenceIdeal.main_arg13)
      ∧ r.2.mem ((c.tc : Thread Cert.CrossGradsReferenceIdeal.nD Cert.CrossGradsReferenceIdeal.τ).loc Cert.CrossGradsReferenceIdeal.main_arg14) = m ((c.tc : Thread Cert.CrossGradsReferenceIdeal.nD Cert.CrossGradsReferenceIdeal.τ).loc Cert.CrossGradsReferenceIdeal.main_arg14)
      ∧ r.2.mem ((c.tc : Thread Cert.CrossGradsReferenceIdeal.nD Cert.CrossGradsReferenceIdeal.τ).loc Cert.CrossGradsReferenceIdeal.main_arg15) = m ((c.tc : Thread Cert.CrossGradsReferenceIdeal.nD Cert.CrossGradsReferenceIdeal.τ).loc Cert.CrossGradsReferenceIdeal.main_arg15)
      ∧ r.2.mem ((c.tc : Thread Cert.CrossGradsReferenceIdeal.nD Cert.CrossGradsReferenceIdeal.τ).loc Cert.CrossGradsReferenceIdeal.main_arg16) = m ((c.tc : Thread Cert.CrossGradsReferenceIdeal.nD Cert.CrossGradsReferenceIdeal.τ).loc Cert.CrossGradsReferenceIdeal.main_arg16)
      ∧ r.2.mem ((c.tc : Thread Cert.CrossGradsReferenceIdeal.nD Cert.CrossGradsReferenceIdeal.τ).loc Cert.CrossGradsReferenceIdeal.main_arg17) = m ((c.tc : Thread Cert.CrossGradsReferenceIdeal.nD Cert.CrossGradsReferenceIdeal.τ).loc Cert.CrossGradsReferenceIdeal.main_arg17)
      ∧ r.2.mem ((c.tc : Thread Cert.CrossGradsReferenceIdeal.nD Cert.CrossGradsReferenceIdeal.τ).loc Cert.CrossGradsReferenceIdeal.main_arg18) = m ((c.tc : Thread Cert.CrossGradsReferenceIdeal.nD Cert.CrossGradsReferenceIdeal.τ).loc Cert.CrossGradsReferenceIdeal.main_arg18)
      ∧ r.2.mem ((c.tc : Thread Cert.CrossGradsReferenceIdeal.nD Cert.CrossGradsReferenceIdeal.τ).loc Cert.CrossGradsReferenceIdeal.main_arg19) = m ((c.tc : Thread Cert.CrossGradsReferenceIdeal.nD Cert.CrossGradsReferenceIdeal.τ).loc Cert.CrossGradsReferenceIdeal.main_arg19)
      ∧ r.2.mem ((c.tc : Thread Cert.CrossGradsReferenceIdeal.nD Cert.CrossGradsReferenceIdeal.τ).loc Cert.CrossGradsReferenceIdeal.main_arg20) = m ((c.tc : Thread Cert.CrossGradsReferenceIdeal.nD Cert.CrossGradsReferenceIdeal.τ).loc Cert.CrossGradsReferenceIdeal.main_arg20))
      ∧ r.2.sem = fun _ => 0)

def quiescent_Hyb [hHyb : Cert.Hyb.Facts] : Prop :=
  ∀ (m : (ℓ : Loc Cert.Hyb.nD Cert.Hyb.τ Cert.Hyb.sig) → Buf (Elt Bits) ℓ) (g : Dev Cert.Hyb.nD → PrngReg), Pre_Hyb m →
    θ_run (Cert.Hyb.defs (F := Bits)) (onTc (τ := Cert.Hyb.τ) (Cert.Hyb.main (F := Bits))) ⟨m, fun _ => 0, g⟩ (fun r => (∀ c : Dev Cert.Hyb.nD,
      r.2.mem ((c.tc : Thread Cert.Hyb.nD Cert.Hyb.τ).loc Cert.Hyb.main_arg0) = m ((c.tc : Thread Cert.Hyb.nD Cert.Hyb.τ).loc Cert.Hyb.main_arg0)
      ∧ r.2.mem ((c.tc : Thread Cert.Hyb.nD Cert.Hyb.τ).loc Cert.Hyb.main_arg1) = m ((c.tc : Thread Cert.Hyb.nD Cert.Hyb.τ).loc Cert.Hyb.main_arg1)
      ∧ r.2.mem ((c.tc : Thread Cert.Hyb.nD Cert.Hyb.τ).loc Cert.Hyb.main_arg2) = m ((c.tc : Thread Cert.Hyb.nD Cert.Hyb.τ).loc Cert.Hyb.main_arg2)
      ∧ r.2.mem ((c.tc : Thread Cert.Hyb.nD Cert.Hyb.τ).loc Cert.Hyb.main_arg3) = m ((c.tc : Thread Cert.Hyb.nD Cert.Hyb.τ).loc Cert.Hyb.main_arg3)
      ∧ r.2.mem ((c.tc : Thread Cert.Hyb.nD Cert.Hyb.τ).loc Cert.Hyb.main_arg4) = m ((c.tc : Thread Cert.Hyb.nD Cert.Hyb.τ).loc Cert.Hyb.main_arg4)
      ∧ r.2.mem ((c.tc : Thread Cert.Hyb.nD Cert.Hyb.τ).loc Cert.Hyb.main_arg5) = m ((c.tc : Thread Cert.Hyb.nD Cert.Hyb.τ).loc Cert.Hyb.main_arg5)
      ∧ r.2.mem ((c.tc : Thread Cert.Hyb.nD Cert.Hyb.τ).loc Cert.Hyb.main_arg6) = m ((c.tc : Thread Cert.Hyb.nD Cert.Hyb.τ).loc Cert.Hyb.main_arg6)
      ∧ r.2.mem ((c.tc : Thread Cert.Hyb.nD Cert.Hyb.τ).loc Cert.Hyb.main_arg7) = m ((c.tc : Thread Cert.Hyb.nD Cert.Hyb.τ).loc Cert.Hyb.main_arg7))
      ∧ r.2.sem = fun _ => 0)

def quiescent_HybIdeal [hHybIdeal : Cert.HybIdeal.Facts] : Prop :=
  ∀ (m : (ℓ : Loc Cert.HybIdeal.nD Cert.HybIdeal.τ Cert.HybIdeal.sig) → Buf (Elt Ideal) ℓ) (g : Dev Cert.HybIdeal.nD → PrngReg), Pre_HybIdeal m →
    θ_run (Cert.HybIdeal.defs (F := Ideal)) (onTc (τ := Cert.HybIdeal.τ) (Cert.HybIdeal.main (F := Ideal))) ⟨m, fun _ => 0, g⟩ (fun r => (∀ c : Dev Cert.HybIdeal.nD,
      r.2.mem ((c.tc : Thread Cert.HybIdeal.nD Cert.HybIdeal.τ).loc Cert.HybIdeal.main_arg0) = m ((c.tc : Thread Cert.HybIdeal.nD Cert.HybIdeal.τ).loc Cert.HybIdeal.main_arg0)
      ∧ r.2.mem ((c.tc : Thread Cert.HybIdeal.nD Cert.HybIdeal.τ).loc Cert.HybIdeal.main_arg1) = m ((c.tc : Thread Cert.HybIdeal.nD Cert.HybIdeal.τ).loc Cert.HybIdeal.main_arg1)
      ∧ r.2.mem ((c.tc : Thread Cert.HybIdeal.nD Cert.HybIdeal.τ).loc Cert.HybIdeal.main_arg2) = m ((c.tc : Thread Cert.HybIdeal.nD Cert.HybIdeal.τ).loc Cert.HybIdeal.main_arg2)
      ∧ r.2.mem ((c.tc : Thread Cert.HybIdeal.nD Cert.HybIdeal.τ).loc Cert.HybIdeal.main_arg3) = m ((c.tc : Thread Cert.HybIdeal.nD Cert.HybIdeal.τ).loc Cert.HybIdeal.main_arg3)
      ∧ r.2.mem ((c.tc : Thread Cert.HybIdeal.nD Cert.HybIdeal.τ).loc Cert.HybIdeal.main_arg4) = m ((c.tc : Thread Cert.HybIdeal.nD Cert.HybIdeal.τ).loc Cert.HybIdeal.main_arg4)
      ∧ r.2.mem ((c.tc : Thread Cert.HybIdeal.nD Cert.HybIdeal.τ).loc Cert.HybIdeal.main_arg5) = m ((c.tc : Thread Cert.HybIdeal.nD Cert.HybIdeal.τ).loc Cert.HybIdeal.main_arg5)
      ∧ r.2.mem ((c.tc : Thread Cert.HybIdeal.nD Cert.HybIdeal.τ).loc Cert.HybIdeal.main_arg6) = m ((c.tc : Thread Cert.HybIdeal.nD Cert.HybIdeal.τ).loc Cert.HybIdeal.main_arg6)
      ∧ r.2.mem ((c.tc : Thread Cert.HybIdeal.nD Cert.HybIdeal.τ).loc Cert.HybIdeal.main_arg7) = m ((c.tc : Thread Cert.HybIdeal.nD Cert.HybIdeal.τ).loc Cert.HybIdeal.main_arg7))
      ∧ r.2.sem = fun _ => 0)

def quiescent_HybReferenceIdeal [hHybReferenceIdeal : Cert.HybReferenceIdeal.Facts] : Prop :=
  ∀ (m : (ℓ : Loc Cert.HybReferenceIdeal.nD Cert.HybReferenceIdeal.τ Cert.HybReferenceIdeal.sig) → Buf (Elt Ideal) ℓ) (g : Dev Cert.HybReferenceIdeal.nD → PrngReg), Pre_HybReferenceIdeal m →
    θ_run (Cert.HybReferenceIdeal.defs (F := Ideal)) (onTc (τ := Cert.HybReferenceIdeal.τ) (Cert.HybReferenceIdeal.main (F := Ideal))) ⟨m, fun _ => 0, g⟩ (fun r => (∀ c : Dev Cert.HybReferenceIdeal.nD,
      r.2.mem ((c.tc : Thread Cert.HybReferenceIdeal.nD Cert.HybReferenceIdeal.τ).loc Cert.HybReferenceIdeal.main_arg0) = m ((c.tc : Thread Cert.HybReferenceIdeal.nD Cert.HybReferenceIdeal.τ).loc Cert.HybReferenceIdeal.main_arg0)
      ∧ r.2.mem ((c.tc : Thread Cert.HybReferenceIdeal.nD Cert.HybReferenceIdeal.τ).loc Cert.HybReferenceIdeal.main_arg1) = m ((c.tc : Thread Cert.HybReferenceIdeal.nD Cert.HybReferenceIdeal.τ).loc Cert.HybReferenceIdeal.main_arg1)
      ∧ r.2.mem ((c.tc : Thread Cert.HybReferenceIdeal.nD Cert.HybReferenceIdeal.τ).loc Cert.HybReferenceIdeal.main_arg2) = m ((c.tc : Thread Cert.HybReferenceIdeal.nD Cert.HybReferenceIdeal.τ).loc Cert.HybReferenceIdeal.main_arg2)
      ∧ r.2.mem ((c.tc : Thread Cert.HybReferenceIdeal.nD Cert.HybReferenceIdeal.τ).loc Cert.HybReferenceIdeal.main_arg3) = m ((c.tc : Thread Cert.HybReferenceIdeal.nD Cert.HybReferenceIdeal.τ).loc Cert.HybReferenceIdeal.main_arg3)
      ∧ r.2.mem ((c.tc : Thread Cert.HybReferenceIdeal.nD Cert.HybReferenceIdeal.τ).loc Cert.HybReferenceIdeal.main_arg4) = m ((c.tc : Thread Cert.HybReferenceIdeal.nD Cert.HybReferenceIdeal.τ).loc Cert.HybReferenceIdeal.main_arg4)
      ∧ r.2.mem ((c.tc : Thread Cert.HybReferenceIdeal.nD Cert.HybReferenceIdeal.τ).loc Cert.HybReferenceIdeal.main_arg5) = m ((c.tc : Thread Cert.HybReferenceIdeal.nD Cert.HybReferenceIdeal.τ).loc Cert.HybReferenceIdeal.main_arg5)
      ∧ r.2.mem ((c.tc : Thread Cert.HybReferenceIdeal.nD Cert.HybReferenceIdeal.τ).loc Cert.HybReferenceIdeal.main_arg6) = m ((c.tc : Thread Cert.HybReferenceIdeal.nD Cert.HybReferenceIdeal.τ).loc Cert.HybReferenceIdeal.main_arg6)
      ∧ r.2.mem ((c.tc : Thread Cert.HybReferenceIdeal.nD Cert.HybReferenceIdeal.τ).loc Cert.HybReferenceIdeal.main_arg7) = m ((c.tc : Thread Cert.HybReferenceIdeal.nD Cert.HybReferenceIdeal.τ).loc Cert.HybReferenceIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7)
      ∧ r.2.mem ((c.tc : Thread Cert.Mixed.nD Cert.Mixed.τ).loc Cert.Mixed.main_arg8) = m ((c.tc : Thread Cert.Mixed.nD Cert.Mixed.τ).loc Cert.Mixed.main_arg8)
      ∧ r.2.mem ((c.tc : Thread Cert.Mixed.nD Cert.Mixed.τ).loc Cert.Mixed.main_arg9) = m ((c.tc : Thread Cert.Mixed.nD Cert.Mixed.τ).loc Cert.Mixed.main_arg9))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
      ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1)
      ∧ r.2.mem ((c.tc : Thread Cert.MixedReferenceIdeal.nD Cert.MixedReferenceIdeal.τ).loc Cert.MixedReferenceIdeal.main_arg2) = m ((c.tc : Thread Cert.MixedReferenceIdeal.nD Cert.MixedReferenceIdeal.τ).loc Cert.MixedReferenceIdeal.main_arg2)
      ∧ r.2.mem ((c.tc : Thread Cert.MixedReferenceIdeal.nD Cert.MixedReferenceIdeal.τ).loc Cert.MixedReferenceIdeal.main_arg3) = m ((c.tc : Thread Cert.MixedReferenceIdeal.nD Cert.MixedReferenceIdeal.τ).loc Cert.MixedReferenceIdeal.main_arg3)
      ∧ r.2.mem ((c.tc : Thread Cert.MixedReferenceIdeal.nD Cert.MixedReferenceIdeal.τ).loc Cert.MixedReferenceIdeal.main_arg4) = m ((c.tc : Thread Cert.MixedReferenceIdeal.nD Cert.MixedReferenceIdeal.τ).loc Cert.MixedReferenceIdeal.main_arg4)
      ∧ r.2.mem ((c.tc : Thread Cert.MixedReferenceIdeal.nD Cert.MixedReferenceIdeal.τ).loc Cert.MixedReferenceIdeal.main_arg5) = m ((c.tc : Thread Cert.MixedReferenceIdeal.nD Cert.MixedReferenceIdeal.τ).loc Cert.MixedReferenceIdeal.main_arg5)
      ∧ r.2.mem ((c.tc : Thread Cert.MixedReferenceIdeal.nD Cert.MixedReferenceIdeal.τ).loc Cert.MixedReferenceIdeal.main_arg6) = m ((c.tc : Thread Cert.MixedReferenceIdeal.nD Cert.MixedReferenceIdeal.τ).loc Cert.MixedReferenceIdeal.main_arg6)
      ∧ r.2.mem ((c.tc : Thread Cert.MixedReferenceIdeal.nD Cert.MixedReferenceIdeal.τ).loc Cert.MixedReferenceIdeal.main_arg7) = m ((c.tc : Thread Cert.MixedReferenceIdeal.nD Cert.MixedReferenceIdeal.τ).loc Cert.MixedReferenceIdeal.main_arg7)
      ∧ r.2.mem ((c.tc : Thread Cert.MixedReferenceIdeal.nD Cert.MixedReferenceIdeal.τ).loc Cert.MixedReferenceIdeal.main_arg8) = m ((c.tc : Thread Cert.MixedReferenceIdeal.nD Cert.MixedReferenceIdeal.τ).loc Cert.MixedReferenceIdeal.main_arg8)
      ∧ r.2.mem ((c.tc : Thread Cert.MixedReferenceIdeal.nD Cert.MixedReferenceIdeal.τ).loc Cert.MixedReferenceIdeal.main_arg9) = m ((c.tc : Thread Cert.MixedReferenceIdeal.nD Cert.MixedReferenceIdeal.τ).loc Cert.MixedReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v133) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v2)) (v1 : (c : Dev Cert.FfnIdeal.nD) → Buf (Elt Ideal) ((c.tc : Thread Cert.FfnIdeal.nD Cert.FfnIdeal.τ).loc Cert.FfnIdeal.main_v3_0)) (v2 : (c : Dev Cert.FfnIdeal.nD) → Buf (Elt Ideal) ((c.tc : Thread Cert.FfnIdeal.nD Cert.FfnIdeal.τ).loc Cert.FfnIdeal.main_v3_1)) (v3 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_v3_0) = v1 c
          ∧ r.2.mem ((c.tc : Thread Cert.FfnIdeal.nD Cert.FfnIdeal.τ).loc Cert.FfnIdeal.main_v3_1) = v2 c
          ∧ r.2.mem ((c.tc : Thread Cert.FfnIdeal.nD Cert.FfnIdeal.τ).loc Cert.FfnIdeal.main_v4) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_v39) = v1 c
          ∧ r.2.mem ((c.tc : Thread Cert.FfnReferenceIdeal.nD Cert.FfnReferenceIdeal.τ).loc Cert.FfnReferenceIdeal.main_v43) = v2 c
          ∧ r.2.mem ((c.tc : Thread Cert.FfnReferenceIdeal.nD Cert.FfnReferenceIdeal.τ).loc Cert.FfnReferenceIdeal.main_v47) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_FfnOne_FfnOneIdeal : Prop :=
  True

def algebraic_FfnOneIdeal_FfnOneReferenceIdeal [hFfnOneIdeal : Cert.FfnOneIdeal.Facts] [hFfnOneReferenceIdeal : Cert.FfnOneReferenceIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneReferenceIdeal.nD Cert.FfnOneReferenceIdeal.τ Cert.FfnOneReferenceIdeal.sig) → Buf (Elt Ideal) ℓ) (g' : Dev Cert.FfnOneReferenceIdeal.nD → PrngReg), Pre_FfnOneIdeal m →
    (∀ c : Dev Cert.FfnOneIdeal.nD,
      m' ((c.tc : Thread Cert.FfnOneReferenceIdeal.nD Cert.FfnOneReferenceIdeal.τ).loc Cert.FfnOneReferenceIdeal.main_arg0) = m ((c.tc : Thread Cert.FfnOneIdeal.nD Cert.FfnOneIdeal.τ).loc Cert.FfnOneIdeal.main_arg0)
      ∧ m' ((c.tc : Thread Cert.FfnOneReferenceIdeal.nD Cert.FfnOneReferenceIdeal.τ).loc Cert.FfnOneReferenceIdeal.main_arg1) = m ((c.tc : Thread Cert.FfnOneIdeal.nD Cert.FfnOneIdeal.τ).loc Cert.FfnOneIdeal.main_arg1)
      ∧ m' ((c.tc : Thread Cert.FfnOneReferenceIdeal.nD Cert.FfnOneReferenceIdeal.τ).loc Cert.FfnOneReferenceIdeal.main_arg2) = m ((c.tc : Thread Cert.FfnOneIdeal.nD Cert.FfnOneIdeal.τ).loc Cert.FfnOneIdeal.main_arg2)
      ∧ m' ((c.tc : Thread Cert.FfnOneReferenceIdeal.nD Cert.FfnOneReferenceIdeal.τ).loc Cert.FfnOneReferenceIdeal.main_arg3) = m ((c.tc : Thread Cert.FfnOneIdeal.nD Cert.FfnOneIdeal.τ).loc Cert.FfnOneIdeal.main_arg3)
      ∧ m' ((c.tc : Thread Cert.FfnOneReferenceIdeal.nD Cert.FfnOneReferenceIdeal.τ).loc Cert.FfnOneReferenceIdeal.main_arg4) = m ((c.tc : Thread Cert.FfnOneIdeal.nD Cert.FfnOneIdeal.τ).loc Cert.FfnOneIdeal.main_arg4)
      ∧ m' ((c.tc : Thread Cert.FfnOneReferenceIdeal.nD Cert.FfnOneReferenceIdeal.τ).loc Cert.FfnOneReferenceIdeal.main_arg5) = m ((c.tc : Thread Cert.FfnOneIdeal.nD Cert.FfnOneIdeal.τ).loc Cert.FfnOneIdeal.main_arg5)
      ∧ m' ((c.tc : Thread Cert.FfnOneReferenceIdeal.nD Cert.FfnOneReferenceIdeal.τ).loc Cert.FfnOneReferenceIdeal.main_arg6) = m ((c.tc : Thread Cert.FfnOneIdeal.nD Cert.FfnOneIdeal.τ).loc Cert.FfnOneIdeal.main_arg6)
      ∧ m' ((c.tc : Thread Cert.FfnOneReferenceIdeal.nD Cert.FfnOneReferenceIdeal.τ).loc Cert.FfnOneReferenceIdeal.main_arg7) = m ((c.tc : Thread Cert.FfnOneIdeal.nD Cert.FfnOneIdeal.τ).loc Cert.FfnOneIdeal.main_arg7)) →
    ∃ (v0 : (c : Dev Cert.FfnOneIdeal.nD) → Buf (Elt Ideal) ((c.tc : Thread Cert.FfnOneIdeal.nD Cert.FfnOneIdeal.τ).loc Cert.FfnOneIdeal.main_v2)) (v1 : (c : Dev Cert.FfnOneIdeal.nD) → Buf (Elt Ideal) ((c.tc : Thread Cert.FfnOneIdeal.nD Cert.FfnOneIdeal.τ).loc Cert.FfnOneIdeal.main_v3_0)) (v2 : (c : Dev Cert.FfnOneIdeal.nD) → Buf (Elt Ideal) ((c.tc : Thread Cert.FfnOneIdeal.nD Cert.FfnOneIdeal.τ).loc Cert.FfnOneIdeal.main_v3_1)) (v3 : (c : Dev Cert.FfnOneIdeal.nD) → Buf (Elt Ideal) ((c.tc : Thread Cert.FfnOneIdeal.nD Cert.FfnOneIdeal.τ).loc Cert.FfnOneIdeal.main_v4)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v2) = v0 c
          ∧ r.2.mem ((c.tc : Thread Cert.FfnOneIdeal.nD Cert.FfnOneIdeal.τ).loc Cert.FfnOneIdeal.main_v3_0) = v1 c
          ∧ r.2.mem ((c.tc : Thread Cert.FfnOneIdeal.nD Cert.FfnOneIdeal.τ).loc Cert.FfnOneIdeal.main_v3_1) = v2 c
          ∧ r.2.mem ((c.tc : Thread Cert.FfnOneIdeal.nD Cert.FfnOneIdeal.τ).loc Cert.FfnOneIdeal.main_v4) = v3 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
          ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5)
          ∧ r.2.mem ((c.tc : Thread Cert.FfnOneIdeal.nD Cert.FfnOneIdeal.τ).loc Cert.FfnOneIdeal.main_arg6) = m ((c.tc : Thread Cert.FfnOneIdeal.nD Cert.FfnOneIdeal.τ).loc Cert.FfnOneIdeal.main_arg6)
          ∧ r.2.mem ((c.tc : Thread Cert.FfnOneIdeal.nD Cert.FfnOneIdeal.τ).loc Cert.FfnOneIdeal.main_arg7) = m ((c.tc : Thread Cert.FfnOneIdeal.nD Cert.FfnOneIdeal.τ).loc Cert.FfnOneIdeal.main_arg7))
      ∧ θ_run (Cert.FfnOneReferenceIdeal.defs (F := Ideal)) (onTc (τ := Cert.FfnOneReferenceIdeal.τ) (Cert.FfnOneReferenceIdeal.main (F := Ideal))) ⟨m', fun _ => 0, g'⟩ (fun r => ∀ c : Dev Cert.FfnOneReferenceIdeal.nD,
          r.2.mem ((c.tc : Thread Cert.FfnOneReferenceIdeal.nD Cert.FfnOneReferenceIdeal.τ).loc Cert.FfnOneReferenceIdeal.main_v34) = v0 c
          ∧ r.2.mem ((c.tc : Thread Cert.FfnOneReferenceIdeal.nD Cert.FfnOneReferenceIdeal.τ).loc Cert.FfnOneReferenceIdeal.main_v39) = v1 c
          ∧ r.2.mem ((c.tc : Thread Cert.FfnOneReferenceIdeal.nD Cert.FfnOneReferenceIdeal.τ).loc Cert.FfnOneReferenceIdeal.main_v43) = v2 c
          ∧ r.2.mem ((c.tc : Thread Cert.FfnOneReferenceIdeal.nD Cert.FfnOneReferenceIdeal.τ).loc Cert.FfnOneReferenceIdeal.main_v47) = v3 c
          ∧ r.2.mem ((c.tc : Thread Cert.FfnOneReferenceIdeal.nD Cert.FfnOneReferenceIdeal.τ).loc Cert.FfnOneReferenceIdeal.main_arg0) = m' ((c.tc : Thread Cert.FfnOneReferenceIdeal.nD Cert.FfnOneReferenceIdeal.τ).loc Cert.FfnOneReferenceIdeal.main_arg0)
          ∧ r.2.mem ((c.tc : Thread Cert.FfnOneReferenceIdeal.nD Cert.FfnOneReferenceIdeal.τ).loc Cert.FfnOneReferenceIdeal.main_arg1) = m' ((c.tc : Thread Cert.FfnOneReferenceIdeal.nD Cert.FfnOneReferenceIdeal.τ).loc Cert.FfnOneReferenceIdeal.main_arg1)
          ∧ r.2.mem ((c.tc : Thread Cert.FfnOneReferenceIdeal.nD Cert.FfnOneReferenceIdeal.τ).loc Cert.FfnOneReferenceIdeal.main_arg2) = m' ((c.tc : Thread Cert.FfnOneReferenceIdeal.nD Cert.FfnOneReferenceIdeal.τ).loc Cert.FfnOneReferenceIdeal.main_arg2)
          ∧ r.2.mem ((c.tc : Thread Cert.FfnOneReferenceIdeal.nD Cert.FfnOneReferenceIdeal.τ).loc Cert.FfnOneReferenceIdeal.main_arg3) = m' ((c.tc : Thread Cert.FfnOneReferenceIdeal.nD Cert.FfnOneReferenceIdeal.τ).loc Cert.FfnOneReferenceIdeal.main_arg3)
          ∧ r.2.mem ((c.tc : Thread Cert.FfnOneReferenceIdeal.nD Cert.FfnOneReferenceIdeal.τ).loc Cert.FfnOneReferenceIdeal.main_arg4) = m' ((c.tc : Thread Cert.FfnOneReferenceIdeal.nD Cert.FfnOneReferenceIdeal.τ).loc Cert.FfnOneReferenceIdeal.main_arg4)
          ∧ r.2.mem ((c.tc : Thread Cert.FfnOneReferenceIdeal.nD Cert.FfnOneReferenceIdeal.τ).loc Cert.FfnOneReferenceIdeal.main_arg5) = m' ((c.tc : Thread Cert.FfnOneReferenceIdeal.nD Cert.FfnOneReferenceIdeal.τ).loc Cert.FfnOneReferenceIdeal.main_arg5)
          ∧ r.2.mem ((c.tc : Thread Cert.FfnOneReferenceIdeal.nD Cert.FfnOneReferenceIdeal.τ).loc Cert.FfnOneReferenceIdeal.main_arg6) = m' ((c.tc : Thread Cert.FfnOneReferenceIdeal.nD Cert.FfnOneReferenceIdeal.τ).loc Cert.FfnOneReferenceIdeal.main_arg6)
          ∧ r.2.mem ((c.tc : Thread Cert.FfnOneReferenceIdeal.nD Cert.FfnOneReferenceIdeal.τ).loc Cert.FfnOneReferenceIdeal.main_arg7) = m' ((c.tc : Thread Cert.FfnOneReferenceIdeal.nD Cert.FfnOneReferenceIdeal.τ).loc Cert.FfnOneReferenceIdeal.main_arg7))

def preserves_FfnZero_FfnZeroIdeal : Prop :=
  True

def algebraic_FfnZeroIdeal_FfnZeroReferenceIdeal [hFfnZeroIdeal : Cert.FfnZeroIdeal.Facts] [hFfnZeroReferenceIdeal : Cert.FfnZeroReferenceIdeal.Facts] : Prop :=
  ∀ (m : (ℓ : Loc Cert.FfnZeroIdeal.nD Cert.FfnZeroIdeal.τ Cert.FfnZeroIdeal.sig) → Buf (Elt Ideal) ℓ) (g : Dev Cert.FfnZeroIdeal.nD → PrngReg)
    (m' : (ℓ : Loc Cert.FfnZeroReferenceIdeal.nD Cert.FfnZeroReferenceIdeal.τ Cert.FfnZeroReferenceIdeal.sig) → Buf (Elt Ideal) ℓ) (g' : Dev Cert.FfnZeroReferenceIdeal.nD → PrngReg), Pre_FfnZeroIdeal m →
    (∀ c : Dev Cert.FfnZeroIdeal.nD,
      m' ((c.tc : Thread Cert.FfnZeroReferenceIdeal.nD Cert.FfnZeroReferenceIdeal.τ).loc Cert.FfnZeroReferenceIdeal.main_arg0) = m ((c.tc : Thread Cert.FfnZeroIdeal.nD Cert.FfnZeroIdeal.τ).loc Cert.FfnZeroIdeal.main_arg0)
      ∧ m' ((c.tc : Thread Cert.FfnZeroReferenceIdeal.nD Cert.FfnZeroReferenceIdeal.τ).loc Cert.FfnZeroReferenceIdeal.main_arg1) = m ((c.tc : Thread Cert.FfnZeroIdeal.nD Cert.FfnZeroIdeal.τ).loc Cert.FfnZeroIdeal.main_arg1)
      ∧ m' ((c.tc : Thread Cert.FfnZeroReferenceIdeal.nD Cert.FfnZeroReferenceIdeal.τ).loc Cert.FfnZeroReferenceIdeal.main_arg2) = m ((c.tc : Thread Cert.FfnZeroIdeal.nD Cert.FfnZeroIdeal.τ).loc Cert.FfnZeroIdeal.main_arg2)
      ∧ m' ((c.tc : Thread Cert.FfnZeroReferenceIdeal.nD Cert.FfnZeroReferenceIdeal.τ).loc Cert.FfnZeroReferenceIdeal.main_arg3) = m ((c.tc : Thread Cert.FfnZeroIdeal.nD Cert.FfnZeroIdeal.τ).loc Cert.FfnZeroIdeal.main_arg3)
      ∧ m' ((c.tc : Thread Cert.FfnZeroReferenceIdeal.nD Cert.FfnZeroReferenceIdeal.τ).loc Cert.FfnZeroReferenceIdeal.main_arg4) = m ((c.tc : Thread Cert.FfnZeroIdeal.nD Cert.FfnZeroIdeal.τ).loc Cert.FfnZeroIdeal.main_arg4)
      ∧ m' ((c.tc : Thread Cert.FfnZeroReferenceIdeal.nD Cert.FfnZeroReferenceIdeal.τ).loc Cert.FfnZeroReferenceIdeal.main_arg5) = m ((c.tc : Thread Cert.FfnZeroIdeal.nD Cert.FfnZeroIdeal.τ).loc Cert.FfnZeroIdeal.main_arg5)
      ∧ m' ((c.tc : Thread Cert.FfnZeroReferenceIdeal.nD Cert.FfnZeroReferenceIdeal.τ).loc Cert.FfnZeroReferenceIdeal.main_arg6) = m ((c.tc : Thread Cert.FfnZeroIdeal.nD Cert.FfnZeroIdeal.τ).loc Cert.FfnZeroIdeal.main_arg6)
      ∧ m' ((c.tc : Thread Cert.FfnZeroReferenceIdeal.nD Cert.FfnZeroReferenceIdeal.τ).loc Cert.FfnZeroReferenceIdeal.main_arg7) = m ((c.tc : Thread Cert.FfnZeroIdeal.nD Cert.FfnZeroIdeal.τ).loc Cert.FfnZeroIdeal.main_arg7)) →
    ∃ (v0 : (c : Dev Cert.FfnZeroIdeal.nD) → Buf (Elt Ideal) ((c.tc : Thread Cert.FfnZeroIdeal.nD Cert.FfnZeroIdeal.τ).loc Cert.FfnZeroIdeal.main_v2)) (v1 : (c : Dev Cert.FfnZeroIdeal.nD) → Buf (Elt Ideal) ((c.tc : Thread Cert.FfnZeroIdeal.nD Cert.FfnZeroIdeal.τ).loc Cert.FfnZeroIdeal.main_v3_0)) (v2 : (c : Dev Cert.FfnZeroIdeal.nD) → Buf (Elt Ideal) ((c.tc : Thread Cert.FfnZeroIdeal.nD Cert.FfnZeroIdeal.τ).loc Cert.FfnZeroIdeal.main_v3_1)) (v3 : (c : Dev Cert.FfnZeroIdeal.nD) → Buf (Elt Ideal) ((c.tc : Thread Cert.FfnZeroIdeal.nD Cert.FfnZeroIdeal.τ).loc Cert.FfnZeroIdeal.main_v4)),
      θ_run (Cert.FfnZeroIdeal.defs (F := Ideal)) (onTc (τ := Cert.FfnZeroIdeal.τ) (Cert.FfnZeroIdeal.main (F := Ideal))) ⟨m, fun _ => 0, g⟩ (fun r => ∀ c : Dev Cert.FfnZeroIdeal.nD,
          r.2.mem ((c.tc : Thread Cert.FfnZeroIdeal.nD Cert.FfnZeroIdeal.τ).loc Cert.FfnZeroIdeal.main_v2) = v0 c
          ∧ r.2.mem ((c.tc : Thread Cert.FfnZeroIdeal.nD Cert.FfnZeroIdeal.τ).loc Cert.FfnZeroIdeal.main_v3_0) = v1 c
          ∧ r.2.mem ((c.tc : Thread Cert.FfnZeroIdeal.nD Cert.FfnZeroIdeal.τ).loc Cert.FfnZeroIdeal.main_v3_1) = v2 c
          ∧ r.2.mem ((c.tc : Thread Cert.FfnZeroIdeal.nD Cert.FfnZeroIdeal.τ).loc Cert.FfnZeroIdeal.main_v4) = v3 c
          ∧ r.2.mem ((c.tc : Thread Cert.FfnZeroIdeal.nD Cert.FfnZeroIdeal.τ).loc Cert.FfnZeroIdeal.main_arg0) = m ((c.tc : Thread Cert.FfnZeroIdeal.nD Cert.FfnZeroIdeal.τ).loc Cert.FfnZeroIdeal.main_arg0)
          ∧ r.2.mem ((c.tc : Thread Cert.FfnZeroIdeal.nD Cert.FfnZeroIdeal.τ).loc Cert.FfnZeroIdeal.main_arg1) = m ((c.tc : Thread Cert.FfnZeroIdeal.nD Cert.FfnZeroIdeal.τ).loc Cert.FfnZeroIdeal.main_arg1)
          ∧ r.2.mem ((c.tc : Thread Cert.FfnZeroIdeal.nD Cert.FfnZeroIdeal.τ).loc Cert.FfnZeroIdeal.main_arg2) = m ((c.tc : Thread Cert.FfnZeroIdeal.nD Cert.FfnZeroIdeal.τ).loc Cert.FfnZeroIdeal.main_arg2)
          ∧ r.2.mem ((c.tc : Thread Cert.FfnZeroIdeal.nD Cert.FfnZeroIdeal.τ).loc Cert.FfnZeroIdeal.main_arg3) = m ((c.tc : Thread Cert.FfnZeroIdeal.nD Cert.FfnZeroIdeal.τ).loc Cert.FfnZeroIdeal.main_arg3)
          ∧ r.2.mem ((c.tc : Thread Cert.FfnZeroIdeal.nD Cert.FfnZeroIdeal.τ).loc Cert.FfnZeroIdeal.main_arg4) = m ((c.tc : Thread Cert.FfnZeroIdeal.nD Cert.FfnZeroIdeal.τ).loc Cert.FfnZeroIdeal.main_arg4)
          ∧ r.2.mem ((c.tc : Thread Cert.FfnZeroIdeal.nD Cert.FfnZeroIdeal.τ).loc Cert.FfnZeroIdeal.main_arg5) = m ((c.tc : Thread Cert.FfnZeroIdeal.nD Cert.FfnZeroIdeal.τ).loc Cert.FfnZeroIdeal.main_arg5)
          ∧ r.2.mem ((c.tc : Thread Cert.FfnZeroIdeal.nD Cert.FfnZeroIdeal.τ).loc Cert.FfnZeroIdeal.main_arg6) = m ((c.tc : Thread Cert.FfnZeroIdeal.nD Cert.FfnZeroIdeal.τ).loc Cert.FfnZeroIdeal.main_arg6)
          ∧ r.2.mem ((c.tc : Thread Cert.FfnZeroIdeal.nD Cert.FfnZeroIdeal.τ).loc Cert.FfnZeroIdeal.main_arg7) = m ((c.tc : Thread Cert.FfnZeroIdeal.nD Cert.FfnZeroIdeal.τ).loc Cert.FfnZeroIdeal.main_arg7))
      ∧ θ_run (Cert.FfnZeroReferenceIdeal.defs (F := Ideal)) (onTc (τ := Cert.FfnZeroReferenceIdeal.τ) (Cert.FfnZeroReferenceIdeal.main (F := Ideal))) ⟨m', fun _ => 0, g'⟩ (fun r => ∀ c : Dev Cert.FfnZeroReferenceIdeal.nD,
          r.2.mem ((c.tc : Thread Cert.FfnZeroReferenceIdeal.nD Cert.FfnZeroReferenceIdeal.τ).loc Cert.FfnZeroReferenceIdeal.main_v34) = v0 c
          ∧ r.2.mem ((c.tc : Thread Cert.FfnZeroReferenceIdeal.nD Cert.FfnZeroReferenceIdeal.τ).loc Cert.FfnZeroReferenceIdeal.main_v38) = v1 c
          ∧ r.2.mem ((c.tc : Thread Cert.FfnZeroReferenceIdeal.nD Cert.FfnZeroReferenceIdeal.τ).loc Cert.FfnZeroReferenceIdeal.main_v41) = v2 c
          ∧ r.2.mem ((c.tc : Thread Cert.FfnZeroReferenceIdeal.nD Cert.FfnZeroReferenceIdeal.τ).loc Cert.FfnZeroReferenceIdeal.main_v44) = v3 c
          ∧ r.2.mem ((c.tc : Thread Cert.FfnZeroReferenceIdeal.nD Cert.FfnZeroReferenceIdeal.τ).loc Cert.FfnZeroReferenceIdeal.main_arg0) = m' ((c.tc : Thread Cert.FfnZeroReferenceIdeal.nD Cert.FfnZeroReferenceIdeal.τ).loc Cert.FfnZeroReferenceIdeal.main_arg0)
          ∧ r.2.mem ((c.tc : Thread Cert.FfnZeroReferenceIdeal.nD Cert.FfnZeroReferenceIdeal.τ).loc Cert.FfnZeroReferenceIdeal.main_arg1) = m' ((c.tc : Thread Cert.FfnZeroReferenceIdeal.nD Cert.FfnZeroReferenceIdeal.τ).loc Cert.FfnZeroReferenceIdeal.main_arg1)
          ∧ r.2.mem ((c.tc : Thread Cert.FfnZeroReferenceIdeal.nD Cert.FfnZeroReferenceIdeal.τ).loc Cert.FfnZeroReferenceIdeal.main_arg2) = m' ((c.tc : Thread Cert.FfnZeroReferenceIdeal.nD Cert.FfnZeroReferenceIdeal.τ).loc Cert.FfnZeroReferenceIdeal.main_arg2)
          ∧ r.2.mem ((c.tc : Thread Cert.FfnZeroReferenceIdeal.nD Cert.FfnZeroReferenceIdeal.τ).loc Cert.FfnZeroReferenceIdeal.main_arg3) = m' ((c.tc : Thread Cert.FfnZeroReferenceIdeal.nD Cert.FfnZeroReferenceIdeal.τ).loc Cert.FfnZeroReferenceIdeal.main_arg3)
          ∧ r.2.mem ((c.tc : Thread Cert.FfnZeroReferenceIdeal.nD Cert.FfnZeroReferenceIdeal.τ).loc Cert.FfnZeroReferenceIdeal.main_arg4) = m' ((c.tc : Thread Cert.FfnZeroReferenceIdeal.nD Cert.FfnZeroReferenceIdeal.τ).loc Cert.FfnZeroReferenceIdeal.main_arg4)
          ∧ r.2.mem ((c.tc : Thread Cert.FfnZeroReferenceIdeal.nD Cert.FfnZeroReferenceIdeal.τ).loc Cert.FfnZeroReferenceIdeal.main_arg5) = m' ((c.tc : Thread Cert.FfnZeroReferenceIdeal.nD Cert.FfnZeroReferenceIdeal.τ).loc Cert.FfnZeroReferenceIdeal.main_arg5)
          ∧ r.2.mem ((c.tc : Thread Cert.FfnZeroReferenceIdeal.nD Cert.FfnZeroReferenceIdeal.τ).loc Cert.FfnZeroReferenceIdeal.main_arg6) = m' ((c.tc : Thread Cert.FfnZeroReferenceIdeal.nD Cert.FfnZeroReferenceIdeal.τ).loc Cert.FfnZeroReferenceIdeal.main_arg6)
          ∧ r.2.mem ((c.tc : Thread Cert.FfnZeroReferenceIdeal.nD Cert.FfnZeroReferenceIdeal.τ).loc Cert.FfnZeroReferenceIdeal.main_arg7) = m' ((c.tc : Thread Cert.FfnZeroReferenceIdeal.nD Cert.FfnZeroReferenceIdeal.τ).loc Cert.FfnZeroReferenceIdeal.main_arg7))

def preserves_FfnThree_FfnThreeIdeal : Prop :=
  True

def algebraic_FfnThreeIdeal_FfnThreeReferenceIdeal [hFfnThreeIdeal : Cert.FfnThreeIdeal.Facts] [hFfnThreeReferenceIdeal : Cert.FfnThreeReferenceIdeal.Facts] : Prop :=
  ∀ (m : (ℓ : Loc Cert.FfnThreeIdeal.nD Cert.FfnThreeIdeal.τ Cert.FfnThreeIdeal.sig) → Buf (Elt Ideal) ℓ) (g : Dev Cert.FfnThreeIdeal.nD → PrngReg)
    (m' : (ℓ : Loc Cert.FfnThreeReferenceIdeal.nD Cert.FfnThreeReferenceIdeal.τ Cert.FfnThreeReferenceIdeal.sig) → Buf (Elt Ideal) ℓ) (g' : Dev Cert.FfnThreeReferenceIdeal.nD → PrngReg), Pre_FfnThreeIdeal m →
    (∀ c : Dev Cert.FfnThreeIdeal.nD,
      m' ((c.tc : Thread Cert.FfnThreeReferenceIdeal.nD Cert.FfnThreeReferenceIdeal.τ).loc Cert.FfnThreeReferenceIdeal.main_arg0) = m ((c.tc : Thread Cert.FfnThreeIdeal.nD Cert.FfnThreeIdeal.τ).loc Cert.FfnThreeIdeal.main_arg0)
      ∧ m' ((c.tc : Thread Cert.FfnThreeReferenceIdeal.nD Cert.FfnThreeReferenceIdeal.τ).loc Cert.FfnThreeReferenceIdeal.main_arg1) = m ((c.tc : Thread Cert.FfnThreeIdeal.nD Cert.FfnThreeIdeal.τ).loc Cert.FfnThreeIdeal.main_arg1)
      ∧ m' ((c.tc : Thread Cert.FfnThreeReferenceIdeal.nD Cert.FfnThreeReferenceIdeal.τ).loc Cert.FfnThreeReferenceIdeal.main_arg2) = m ((c.tc : Thread Cert.FfnThreeIdeal.nD Cert.FfnThreeIdeal.τ).loc Cert.FfnThreeIdeal.main_arg2)
      ∧ m' ((c.tc : Thread Cert.FfnThreeReferenceIdeal.nD Cert.FfnThreeReferenceIdeal.τ).loc Cert.FfnThreeReferenceIdeal.main_arg3) = m ((c.tc : Thread Cert.FfnThreeIdeal.nD Cert.FfnThreeIdeal.τ).loc Cert.FfnThreeIdeal.main_arg3)
      ∧ m' ((c.tc : Thread Cert.FfnThreeReferenceIdeal.nD Cert.FfnThreeReferenceIdeal.τ).loc Cert.FfnThreeReferenceIdeal.main_arg4) = m ((c.tc : Thread Cert.FfnThreeIdeal.nD Cert.FfnThreeIdeal.τ).loc Cert.FfnThreeIdeal.main_arg4)) →
    ∃ (v0 : (c : Dev Cert.FfnThreeIdeal.nD) → Buf (Elt Ideal) ((c.tc : Thread Cert.FfnThreeIdeal.nD Cert.FfnThreeIdeal.τ).loc Cert.FfnThreeIdeal.main_v2)) (v1 : (c : Dev Cert.FfnThreeIdeal.nD) → Buf (Elt Ideal) ((c.tc : Thread Cert.FfnThreeIdeal.nD Cert.FfnThreeIdeal.τ).loc Cert.FfnThreeIdeal.main_v6)) (v2 : (c : Dev Cert.FfnThreeIdeal.nD) → Buf (Elt Ideal) ((c.tc : Thread Cert.FfnThreeIdeal.nD Cert.FfnThreeIdeal.τ).loc Cert.FfnThreeIdeal.main_v8)) (v3 : (c : Dev Cert.FfnThreeIdeal.nD) → Buf (Elt Ideal) ((c.tc : Thread Cert.FfnThreeIdeal.nD Cert.FfnThreeIdeal.τ).loc Cert.FfnThreeIdeal.main_v10)),
      θ_run (Cert.FfnThreeIdeal.defs (F := Ideal)) (onTc (τ := Cert.FfnThreeIdeal.τ) (Cert.FfnThreeIdeal.main (F := Ideal))) ⟨m, fun _ => 0, g⟩ (fun r => ∀ c : Dev Cert.FfnThreeIdeal.nD,
          r.2.mem ((c.tc : Thread Cert.FfnThreeIdeal.nD Cert.FfnThreeIdeal.τ).loc Cert.FfnThreeIdeal.main_v2) = v0 c
          ∧ r.2.mem ((c.tc : Thread Cert.FfnThreeIdeal.nD Cert.FfnThreeIdeal.τ).loc Cert.FfnThreeIdeal.main_v6) = v1 c
          ∧ r.2.mem ((c.tc : Thread Cert.FfnThreeIdeal.nD Cert.FfnThreeIdeal.τ).loc Cert.FfnThreeIdeal.main_v8) = v2 c
          ∧ r.2.mem ((c.tc : Thread Cert.FfnThreeIdeal.nD Cert.FfnThreeIdeal.τ).loc Cert.FfnThreeIdeal.main_v10) = v3 c
          ∧ r.2.mem ((c.tc : Thread Cert.FfnThreeIdeal.nD Cert.FfnThreeIdeal.τ).loc Cert.FfnThreeIdeal.main_arg0) = m ((c.tc : Thread Cert.FfnThreeIdeal.nD Cert.FfnThreeIdeal.τ).loc Cert.FfnThreeIdeal.main_arg0)
          ∧ r.2.mem ((c.tc : Thread Cert.FfnThreeIdeal.nD Cert.FfnThreeIdeal.τ).loc Cert.FfnThreeIdeal.main_arg1) = m ((c.tc : Thread Cert.FfnThreeIdeal.nD Cert.FfnThreeIdeal.τ).loc Cert.FfnThreeIdeal.main_arg1)
          ∧ r.2.mem ((c.tc : Thread Cert.FfnThreeIdeal.nD Cert.FfnThreeIdeal.τ).loc Cert.FfnThreeIdeal.main_arg2) = m ((c.tc : Thread Cert.FfnThreeIdeal.nD Cert.FfnThreeIdeal.τ).loc Cert.FfnThreeIdeal.main_arg2)
          ∧ r.2.mem ((c.tc : Thread Cert.FfnThreeIdeal.nD Cert.FfnThreeIdeal.τ).loc Cert.FfnThreeIdeal.main_arg3) = m ((c.tc : Thread Cert.FfnThreeIdeal.nD Cert.FfnThreeIdeal.τ).loc Cert.FfnThreeIdeal.main_arg3)
          ∧ r.2.mem ((c.tc : Thread Cert.FfnThreeIdeal.nD Cert.FfnThreeIdeal.τ).loc Cert.FfnThreeIdeal.main_arg4) = m ((c.tc : Thread Cert.FfnThreeIdeal.nD Cert.FfnThreeIdeal.τ).loc Cert.FfnThreeIdeal.main_arg4))
      ∧ θ_run (Cert.FfnThreeReferenceIdeal.defs (F := Ideal)) (onTc (τ := Cert.FfnThreeReferenceIdeal.τ) (Cert.FfnThreeReferenceIdeal.main (F := Ideal))) ⟨m', fun _ => 0, g'⟩ (fun r => ∀ c : Dev Cert.FfnThreeReferenceIdeal.nD,
          r.2.mem ((c.tc : Thread Cert.FfnThreeReferenceIdeal.nD Cert.FfnThreeReferenceIdeal.τ).loc Cert.FfnThreeReferenceIdeal.main_v34) = v0 c
          ∧ r.2.mem ((c.tc : Thread Cert.FfnThreeReferenceIdeal.nD Cert.FfnThreeReferenceIdeal.τ).loc Cert.FfnThreeReferenceIdeal.main_v36) = v1 c
          ∧ r.2.mem ((c.tc : Thread Cert.FfnThreeReferenceIdeal.nD Cert.FfnThreeReferenceIdeal.τ).loc Cert.FfnThreeReferenceIdeal.main_v37) = v2 c
          ∧ r.2.mem ((c.tc : Thread Cert.FfnThreeReferenceIdeal.nD Cert.FfnThreeReferenceIdeal.τ).loc Cert.FfnThreeReferenceIdeal.main_v38) = v3 c
          ∧ r.2.mem ((c.tc : Thread Cert.FfnThreeReferenceIdeal.nD Cert.FfnThreeReferenceIdeal.τ).loc Cert.FfnThreeReferenceIdeal.main_arg0) = m' ((c.tc : Thread Cert.FfnThreeReferenceIdeal.nD Cert.FfnThreeReferenceIdeal.τ).loc Cert.FfnThreeReferenceIdeal.main_arg0)
          ∧ r.2.mem ((c.tc : Thread Cert.FfnThreeReferenceIdeal.nD Cert.FfnThreeReferenceIdeal.τ).loc Cert.FfnThreeReferenceIdeal.main_arg1) = m' ((c.tc : Thread Cert.FfnThreeReferenceIdeal.nD Cert.FfnThreeReferenceIdeal.τ).loc Cert.FfnThreeReferenceIdeal.main_arg1)
          ∧ r.2.mem ((c.tc : Thread Cert.FfnThreeReferenceIdeal.nD Cert.FfnThreeReferenceIdeal.τ).loc Cert.FfnThreeReferenceIdeal.main_arg2) = m' ((c.tc : Thread Cert.FfnThreeReferenceIdeal.nD Cert.FfnThreeReferenceIdeal.τ).loc Cert.FfnThreeReferenceIdeal.main_arg2)
          ∧ r.2.mem ((c.tc : Thread Cert.FfnThreeReferenceIdeal.nD Cert.FfnThreeReferenceIdeal.τ).loc Cert.FfnThreeReferenceIdeal.main_arg3) = m' ((c.tc : Thread Cert.FfnThreeReferenceIdeal.nD Cert.FfnThreeReferenceIdeal.τ).loc Cert.FfnThreeReferenceIdeal.main_arg3)
          ∧ r.2.mem ((c.tc : Thread Cert.FfnThreeReferenceIdeal.nD Cert.FfnThreeReferenceIdeal.τ).loc Cert.FfnThreeReferenceIdeal.main_arg4) = m' ((c.tc : Thread Cert.FfnThreeReferenceIdeal.nD Cert.FfnThreeReferenceIdeal.τ).loc Cert.FfnThreeReferenceIdeal.main_arg4))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)
      ∧ m' ((c.tc : Thread Cert.GluReferenceIdeal.nD Cert.GluReferenceIdeal.τ).loc Cert.GluReferenceIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v6)) (v1 : (c : Dev Cert.GluIdeal.nD) → Buf (Elt Ideal) ((c.tc : Thread Cert.GluIdeal.nD Cert.GluIdeal.τ).loc Cert.GluIdeal.main_v13)) (v2 : (c : Dev Cert.GluIdeal.nD) → Buf (Elt Ideal) ((c.tc : Thread Cert.GluIdeal.nD Cert.GluIdeal.τ).loc Cert.GluIdeal.main_v10)) (v3 : (c : Dev Cert.GluIdeal.nD) → Buf (Elt Ideal) ((c.tc : Thread Cert.GluIdeal.nD Cert.GluIdeal.τ).loc Cert.GluIdeal.main_v11)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6) = v0 c
          ∧ r.2.mem ((c.tc : Thread Cert.GluIdeal.nD Cert.GluIdeal.τ).loc Cert.GluIdeal.main_v13) = v1 c
          ∧ r.2.mem ((c.tc : Thread Cert.GluIdeal.nD Cert.GluIdeal.τ).loc Cert.GluIdeal.main_v10) = v2 c
          ∧ r.2.mem ((c.tc : Thread Cert.GluIdeal.nD Cert.GluIdeal.τ).loc Cert.GluIdeal.main_v11) = v3 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v58) = v0 c
          ∧ r.2.mem ((c.tc : Thread Cert.GluReferenceIdeal.nD Cert.GluReferenceIdeal.τ).loc Cert.GluReferenceIdeal.main_v117) = v1 c
          ∧ r.2.mem ((c.tc : Thread Cert.GluReferenceIdeal.nD Cert.GluReferenceIdeal.τ).loc Cert.GluReferenceIdeal.main_v120) = v2 c
          ∧ r.2.mem ((c.tc : Thread Cert.GluReferenceIdeal.nD Cert.GluReferenceIdeal.τ).loc Cert.GluReferenceIdeal.main_v123) = v3 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5))

def preserves_Cross_CrossIdeal : Prop :=
  True

def algebraic_CrossIdeal_CrossReferenceIdeal [hCrossIdeal : Cert.CrossIdeal.Facts] [hCrossReferenceIdeal : Cert.CrossReferenceIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)
      ∧ m' ((c.tc : Thread Cert.CrossReferenceIdeal.nD Cert.CrossReferenceIdeal.τ).loc Cert.CrossReferenceIdeal.main_arg4) = m ((c.tc : Thread Cert.CrossIdeal.nD Cert.CrossIdeal.τ).loc Cert.CrossIdeal.main_arg4)
      ∧ m' ((c.tc : Thread Cert.CrossReferenceIdeal.nD Cert.CrossReferenceIdeal.τ).loc Cert.CrossReferenceIdeal.main_arg5) = m ((c.tc : Thread Cert.CrossIdeal.nD Cert.CrossIdeal.τ).loc Cert.CrossIdeal.main_arg5)
      ∧ m' ((c.tc : Thread Cert.CrossReferenceIdeal.nD Cert.CrossReferenceIdeal.τ).loc Cert.CrossReferenceIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v2)) (v1 : (c : Dev Cert.CrossIdeal.nD) → Buf (Elt Ideal) ((c.tc : Thread Cert.CrossIdeal.nD Cert.CrossIdeal.τ).loc Cert.CrossIdeal.main_v3)) (v2 : (c : Dev Cert.CrossIdeal.nD) → Buf (Elt Ideal) ((c.tc : Thread Cert.CrossIdeal.nD Cert.CrossIdeal.τ).loc Cert.CrossIdeal.main_v4)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v2) = v0 c
          ∧ r.2.mem ((c.tc : Thread Cert.CrossIdeal.nD Cert.CrossIdeal.τ).loc Cert.CrossIdeal.main_v3) = v1 c
          ∧ r.2.mem ((c.tc : Thread Cert.CrossIdeal.nD Cert.CrossIdeal.τ).loc Cert.CrossIdeal.main_v4) = v2 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v35) = v0 c
          ∧ r.2.mem ((c.tc : Thread Cert.CrossReferenceIdeal.nD Cert.CrossReferenceIdeal.τ).loc Cert.CrossReferenceIdeal.main_v32) = v1 c
          ∧ r.2.mem ((c.tc : Thread Cert.CrossReferenceIdeal.nD Cert.CrossReferenceIdeal.τ).loc Cert.CrossReferenceIdeal.main_v34) = v2 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4)
          ∧ r.2.mem ((c.tc : Thread Cert.CrossReferenceIdeal.nD Cert.CrossReferenceIdeal.τ).loc Cert.CrossReferenceIdeal.main_arg5) = m' ((c.tc : Thread Cert.CrossReferenceIdeal.nD Cert.CrossReferenceIdeal.τ).loc Cert.CrossReferenceIdeal.main_arg5)
          ∧ r.2.mem ((c.tc : Thread Cert.CrossReferenceIdeal.nD Cert.CrossReferenceIdeal.τ).loc Cert.CrossReferenceIdeal.main_arg6) = m' ((c.tc : Thread Cert.CrossReferenceIdeal.nD Cert.CrossReferenceIdeal.τ).loc Cert.CrossReferenceIdeal.main_arg6))

def preserves_CrossGrads_CrossGradsIdeal : Prop :=
  True

def algebraic_CrossGradsIdeal_CrossGradsReferenceIdeal [hCrossGradsIdeal : Cert.CrossGradsIdeal.Facts] [hCrossGradsReferenceIdeal : Cert.CrossGradsReferenceIdeal.Facts] : Prop :=
  ∀ (m : (ℓ : Loc Cert.CrossGradsIdeal.nD Cert.CrossGradsIdeal.τ Cert.CrossGradsIdeal.sig) → Buf (Elt Ideal) ℓ) (g : Dev Cert.CrossGradsIdeal.nD → PrngReg)
    (m' : (ℓ : Loc Cert.CrossGradsReferenceIdeal.nD Cert.CrossGradsReferenceIdeal.τ Cert.CrossGradsReferenceIdeal.sig) → Buf (Elt Ideal) ℓ) (g' : Dev Cert.CrossGradsReferenceIdeal.nD → PrngReg), Pre_CrossGradsIdeal m →
    (∀ c : Dev Cert.CrossGradsIdeal.nD,
      m' ((c.tc : Thread Cert.CrossGradsReferenceIdeal.nD Cert.CrossGradsReferenceIdeal.τ).loc Cert.CrossGradsReferenceIdeal.main_arg0) = m ((c.tc : Thread Cert.CrossGradsIdeal.nD Cert.CrossGradsIdeal.τ).loc Cert.CrossGradsIdeal.main_arg0)
      ∧ m' ((c.tc : Thread Cert.CrossGradsReferenceIdeal.nD Cert.CrossGradsReferenceIdeal.τ).loc Cert.CrossGradsReferenceIdeal.main_arg1) = m ((c.tc : Thread Cert.CrossGradsIdeal.nD Cert.CrossGradsIdeal.τ).loc Cert.CrossGradsIdeal.main_arg1)
      ∧ m' ((c.tc : Thread Cert.CrossGradsReferenceIdeal.nD Cert.CrossGradsReferenceIdeal.τ).loc Cert.CrossGradsReferenceIdeal.main_arg2) = m ((c.tc : Thread Cert.CrossGradsIdeal.nD Cert.CrossGradsIdeal.τ).loc Cert.CrossGradsIdeal.main_arg2)
      ∧ m' ((c.tc : Thread Cert.CrossGradsReferenceIdeal.nD Cert.CrossGradsReferenceIdeal.τ).loc Cert.CrossGradsReferenceIdeal.main_arg3) = m ((c.tc : Thread Cert.CrossGradsIdeal.nD Cert.CrossGradsIdeal.τ).loc Cert.CrossGradsIdeal.main_arg3)
      ∧ m' ((c.tc : Thread Cert.CrossGradsReferenceIdeal.nD Cert.CrossGradsReferenceIdeal.τ).loc Cert.CrossGradsReferenceIdeal.main_arg4) = m ((c.tc : Thread Cert.CrossGradsIdeal.nD Cert.CrossGradsIdeal.τ).loc Cert.CrossGradsIdeal.main_arg4)
      ∧ m' ((c.tc : Thread Cert.CrossGradsReferenceIdeal.nD Cert.CrossGradsReferenceIdeal.τ).loc Cert.CrossGradsReferenceIdeal.main_arg5) = m ((c.tc : Thread Cert.CrossGradsIdeal.nD Cert.CrossGradsIdeal.τ).loc Cert.CrossGradsIdeal.main_arg5)
      ∧ m' ((c.tc : Thread Cert.CrossGradsReferenceIdeal.nD Cert.CrossGradsReferenceIdeal.τ).loc Cert.CrossGradsReferenceIdeal.main_arg6) = m ((c.tc : Thread Cert.CrossGradsIdeal.nD Cert.CrossGradsIdeal.τ).loc Cert.CrossGradsIdeal.main_arg6)
      ∧ m' ((c.tc : Thread Cert.CrossGradsReferenceIdeal.nD Cert.CrossGradsReferenceIdeal.τ).loc Cert.CrossGradsReferenceIdeal.main_arg7) = m ((c.tc : Thread Cert.CrossGradsIdeal.nD Cert.CrossGradsIdeal.τ).loc Cert.CrossGradsIdeal.main_arg7)
      ∧ m' ((c.tc : Thread Cert.CrossGradsReferenceIdeal.nD Cert.CrossGradsReferenceIdeal.τ).loc Cert.CrossGradsReferenceIdeal.main_arg8) = m ((c.tc : Thread Cert.CrossGradsIdeal.nD Cert.CrossGradsIdeal.τ).loc Cert.CrossGradsIdeal.main_arg8)
      ∧ m' ((c.tc : Thread Cert.CrossGradsReferenceIdeal.nD Cert.CrossGradsReferenceIdeal.τ).loc Cert.CrossGradsReferenceIdeal.main_arg9) = m ((c.tc : Thread Cert.CrossGradsIdeal.nD Cert.CrossGradsIdeal.τ).loc Cert.CrossGradsIdeal.main_arg9)
      ∧ m' ((c.tc : Thread Cert.CrossGradsReferenceIdeal.nD Cert.CrossGradsReferenceIdeal.τ).loc Cert.CrossGradsReferenceIdeal.main_arg10) = m ((c.tc : Thread Cert.CrossGradsIdeal.nD Cert.CrossGradsIdeal.τ).loc Cert.CrossGradsIdeal.main_arg10)
      ∧ m' ((c.tc : Thread Cert.CrossGradsReferenceIdeal.nD Cert.CrossGradsReferenceIdeal.τ).loc Cert.CrossGradsReferenceIdeal.main_arg11) = m ((c.tc : Thread Cert.CrossGradsIdeal.nD Cert.CrossGradsIdeal.τ).loc Cert.CrossGradsIdeal.main_arg11)
      ∧ m' ((c.tc : Thread Cert.CrossGradsReferenceIdeal.nD Cert.CrossGradsReferenceIdeal.τ).loc Cert.CrossGradsReferenceIdeal.main_arg12) = m ((c.tc : Thread Cert.CrossGradsIdeal.nD Cert.CrossGradsIdeal.τ).loc Cert.CrossGradsIdeal.main_arg12)
      ∧ m' ((c.tc : Thread Cert.CrossGradsReferenceIdeal.nD Cert.CrossGradsReferenceIdeal.τ).loc Cert.CrossGradsReferenceIdeal.main_arg13) = m ((c.tc : Thread Cert.CrossGradsIdeal.nD Cert.CrossGradsIdeal.τ).loc Cert.CrossGradsIdeal.main_arg13)
      ∧ m' ((c.tc : Thread Cert.CrossGradsReferenceIdeal.nD Cert.CrossGradsReferenceIdeal.τ).loc Cert.CrossGradsReferenceIdeal.main_arg14) = m ((c.tc : Thread Cert.CrossGradsIdeal.nD Cert.CrossGradsIdeal.τ).loc Cert.CrossGradsIdeal.main_arg14)
      ∧ m' ((c.tc : Thread Cert.CrossGradsReferenceIdeal.nD Cert.CrossGradsReferenceIdeal.τ).loc Cert.CrossGradsReferenceIdeal.main_arg15) = m ((c.tc : Thread Cert.CrossGradsIdeal.nD Cert.CrossGradsIdeal.τ).loc Cert.CrossGradsIdeal.main_arg15)
      ∧ m' ((c.tc : Thread Cert.CrossGradsReferenceIdeal.nD Cert.CrossGradsReferenceIdeal.τ).loc Cert.CrossGradsReferenceIdeal.main_arg16) = m ((c.tc : Thread Cert.CrossGradsIdeal.nD Cert.CrossGradsIdeal.τ).loc Cert.CrossGradsIdeal.main_arg16)
      ∧ m' ((c.tc : Thread Cert.CrossGradsReferenceIdeal.nD Cert.CrossGradsReferenceIdeal.τ).loc Cert.CrossGradsReferenceIdeal.main_arg17) = m ((c.tc : Thread Cert.CrossGradsIdeal.nD Cert.CrossGradsIdeal.τ).loc Cert.CrossGradsIdeal.main_arg17)
      ∧ m' ((c.tc : Thread Cert.CrossGradsReferenceIdeal.nD Cert.CrossGradsReferenceIdeal.τ).loc Cert.CrossGradsReferenceIdeal.main_arg18) = m ((c.tc : Thread Cert.CrossGradsIdeal.nD Cert.CrossGradsIdeal.τ).loc Cert.CrossGradsIdeal.main_arg18)
      ∧ m' ((c.tc : Thread Cert.CrossGradsReferenceIdeal.nD Cert.CrossGradsReferenceIdeal.τ).loc Cert.CrossGradsReferenceIdeal.main_arg19) = m ((c.tc : Thread Cert.CrossGradsIdeal.nD Cert.CrossGradsIdeal.τ).loc Cert.CrossGradsIdeal.main_arg19)
      ∧ m' ((c.tc : Thread Cert.CrossGradsReferenceIdeal.nD Cert.CrossGradsReferenceIdeal.τ).loc Cert.CrossGradsReferenceIdeal.main_arg20) = m ((c.tc : Thread Cert.CrossGradsIdeal.nD Cert.CrossGradsIdeal.τ).loc Cert.CrossGradsIdeal.main_arg20)) →
    ∃ (v0 : (c : Dev Cert.CrossGradsIdeal.nD) → Buf (Elt Ideal) ((c.tc : Thread Cert.CrossGradsIdeal.nD Cert.CrossGradsIdeal.τ).loc Cert.CrossGradsIdeal.main_v13)) (v1 : (c : Dev Cert.CrossGradsIdeal.nD) → Buf (Elt Ideal) ((c.tc : Thread Cert.CrossGradsIdeal.nD Cert.CrossGradsIdeal.τ).loc Cert.CrossGradsIdeal.main_v14)) (v2 : (c : Dev Cert.CrossGradsIdeal.nD) → Buf (Elt Ideal) ((c.tc : Thread Cert.CrossGradsIdeal.nD Cert.CrossGradsIdeal.τ).loc Cert.CrossGradsIdeal.main_v15)) (v3 : (c : Dev Cert.CrossGradsIdeal.nD) → Buf (Elt Ideal) ((c.tc : Thread Cert.CrossGradsIdeal.nD Cert.CrossGradsIdeal.τ).loc Cert.CrossGradsIdeal.main_v12)),
      θ_run (Cert.CrossGradsIdeal.defs (F := Ideal)) (onTc (τ := Cert.CrossGradsIdeal.τ) (Cert.CrossGradsIdeal.main (F := Ideal))) ⟨m, fun _ => 0, g⟩ (fun r => ∀ c : Dev Cert.CrossGradsIdeal.nD,
          r.2.mem ((c.tc : Thread Cert.CrossGradsIdeal.nD Cert.CrossGradsIdeal.τ).loc Cert.CrossGradsIdeal.main_v13) = v0 c
          ∧ r.2.mem ((c.tc : Thread Cert.CrossGradsIdeal.nD Cert.CrossGradsIdeal.τ).loc Cert.CrossGradsIdeal.main_v14) = v1 c
          ∧ r.2.mem ((c.tc : Thread Cert.CrossGradsIdeal.nD Cert.CrossGradsIdeal.τ).loc Cert.CrossGradsIdeal.main_v15) = v2 c
          ∧ r.2.mem ((c.tc : Thread Cert.CrossGradsIdeal.nD Cert.CrossGradsIdeal.τ).loc Cert.CrossGradsIdeal.main_v12) = v3 c
          ∧ r.2.mem ((c.tc : Thread Cert.CrossGradsIdeal.nD Cert.CrossGradsIdeal.τ).loc Cert.CrossGradsIdeal.main_arg0) = m ((c.tc : Thread Cert.CrossGradsIdeal.nD Cert.CrossGradsIdeal.τ).loc Cert.CrossGradsIdeal.main_arg0)
          ∧ r.2.mem ((c.tc : Thread Cert.CrossGradsIdeal.nD Cert.CrossGradsIdeal.τ).loc Cert.CrossGradsIdeal.main_arg1) = m ((c.tc : Thread Cert.CrossGradsIdeal.nD Cert.CrossGradsIdeal.τ).loc Cert.CrossGradsIdeal.main_arg1)
          ∧ r.2.mem ((c.tc : Thread Cert.CrossGradsIdeal.nD Cert.CrossGradsIdeal.τ).loc Cert.CrossGradsIdeal.main_arg2) = m ((c.tc : Thread Cert.CrossGradsIdeal.nD Cert.CrossGradsIdeal.τ).loc Cert.CrossGradsIdeal.main_arg2)
          ∧ r.2.mem ((c.tc : Thread Cert.CrossGradsIdeal.nD Cert.CrossGradsIdeal.τ).loc Cert.CrossGradsIdeal.main_arg3) = m ((c.tc : Thread Cert.CrossGradsIdeal.nD Cert.CrossGradsIdeal.τ).loc Cert.CrossGradsIdeal.main_arg3)
          ∧ r.2.mem ((c.tc : Thread Cert.CrossGradsIdeal.nD Cert.CrossGradsIdeal.τ).loc Cert.CrossGradsIdeal.main_arg4) = m ((c.tc : Thread Cert.CrossGradsIdeal.nD Cert.CrossGradsIdeal.τ).loc Cert.CrossGradsIdeal.main_arg4)
          ∧ r.2.mem ((c.tc : Thread Cert.CrossGradsIdeal.nD Cert.CrossGradsIdeal.τ).loc Cert.CrossGradsIdeal.main_arg5) = m ((c.tc : Thread Cert.CrossGradsIdeal.nD Cert.CrossGradsIdeal.τ).loc Cert.CrossGradsIdeal.main_arg5)
          ∧ r.2.mem ((c.tc : Thread Cert.CrossGradsIdeal.nD Cert.CrossGradsIdeal.τ).loc Cert.CrossGradsIdeal.main_arg6) = m ((c.tc : Thread Cert.CrossGradsIdeal.nD Cert.CrossGradsIdeal.τ).loc Cert.CrossGradsIdeal.main_arg6)
          ∧ r.2.mem ((c.tc : Thread Cert.CrossGradsIdeal.nD Cert.CrossGradsIdeal.τ).loc Cert.CrossGradsIdeal.main_arg7) = m ((c.tc : Thread Cert.CrossGradsIdeal.nD Cert.CrossGradsIdeal.τ).loc Cert.CrossGradsIdeal.main_arg7)
          ∧ r.2.mem ((c.tc : Thread Cert.CrossGradsIdeal.nD Cert.CrossGradsIdeal.τ).loc Cert.CrossGradsIdeal.main_arg8) = m ((c.tc : Thread Cert.CrossGradsIdeal.nD Cert.CrossGradsIdeal.τ).loc Cert.CrossGradsIdeal.main_arg8)
          ∧ r.2.mem ((c.tc : Thread Cert.CrossGradsIdeal.nD Cert.CrossGradsIdeal.τ).loc Cert.CrossGradsIdeal.main_arg9) = m ((c.tc : Thread Cert.CrossGradsIdeal.nD Cert.CrossGradsIdeal.τ).loc Cert.CrossGradsIdeal.main_arg9)
          ∧ r.2.mem ((c.tc : Thread Cert.CrossGradsIdeal.nD Cert.CrossGradsIdeal.τ).loc Cert.CrossGradsIdeal.main_arg10) = m ((c.tc : Thread Cert.CrossGradsIdeal.nD Cert.CrossGradsIdeal.τ).loc Cert.CrossGradsIdeal.main_arg10)
          ∧ r.2.mem ((c.tc : Thread Cert.CrossGradsIdeal.nD Cert.CrossGradsIdeal.τ).loc Cert.CrossGradsIdeal.main_arg11) = m ((c.tc : Thread Cert.CrossGradsIdeal.nD Cert.CrossGradsIdeal.τ).loc Cert.CrossGradsIdeal.main_arg11)
          ∧ r.2.mem ((c.tc : Thread Cert.CrossGradsIdeal.nD Cert.CrossGradsIdeal.τ).loc Cert.CrossGradsIdeal.main_arg12) = m ((c.tc : Thread Cert.CrossGradsIdeal.nD Cert.CrossGradsIdeal.τ).loc Cert.CrossGradsIdeal.main_arg12)
          ∧ r.2.mem ((c.tc : Thread Cert.CrossGradsIdeal.nD Cert.CrossGradsIdeal.τ).loc Cert.CrossGradsIdeal.main_arg13) = m ((c.tc : Thread Cert.CrossGradsIdeal.nD Cert.CrossGradsIdeal.τ).loc Cert.CrossGradsIdeal.main_arg13)
          ∧ r.2.mem ((c.tc : Thread Cert.CrossGradsIdeal.nD Cert.CrossGradsIdeal.τ).loc Cert.CrossGradsIdeal.main_arg14) = m ((c.tc : Thread Cert.CrossGradsIdeal.nD Cert.CrossGradsIdeal.τ).loc Cert.CrossGradsIdeal.main_arg14)
          ∧ r.2.mem ((c.tc : Thread Cert.CrossGradsIdeal.nD Cert.CrossGradsIdeal.τ).loc Cert.CrossGradsIdeal.main_arg15) = m ((c.tc : Thread Cert.CrossGradsIdeal.nD Cert.CrossGradsIdeal.τ).loc Cert.CrossGradsIdeal.main_arg15)
          ∧ r.2.mem ((c.tc : Thread Cert.CrossGradsIdeal.nD Cert.CrossGradsIdeal.τ).loc Cert.CrossGradsIdeal.main_arg16) = m ((c.tc : Thread Cert.CrossGradsIdeal.nD Cert.CrossGradsIdeal.τ).loc Cert.CrossGradsIdeal.main_arg16)
          ∧ r.2.mem ((c.tc : Thread Cert.CrossGradsIdeal.nD Cert.CrossGradsIdeal.τ).loc Cert.CrossGradsIdeal.main_arg17) = m ((c.tc : Thread Cert.CrossGradsIdeal.nD Cert.CrossGradsIdeal.τ).loc Cert.CrossGradsIdeal.main_arg17)
          ∧ r.2.mem ((c.tc : Thread Cert.CrossGradsIdeal.nD Cert.CrossGradsIdeal.τ).loc Cert.CrossGradsIdeal.main_arg18) = m ((c.tc : Thread Cert.CrossGradsIdeal.nD Cert.CrossGradsIdeal.τ).loc Cert.CrossGradsIdeal.main_arg18)
          ∧ r.2.mem ((c.tc : Thread Cert.CrossGradsIdeal.nD Cert.CrossGradsIdeal.τ).loc Cert.CrossGradsIdeal.main_arg19) = m ((c.tc : Thread Cert.CrossGradsIdeal.nD Cert.CrossGradsIdeal.τ).loc Cert.CrossGradsIdeal.main_arg19)
          ∧ r.2.mem ((c.tc : Thread Cert.CrossGradsIdeal.nD Cert.CrossGradsIdeal.τ).loc Cert.CrossGradsIdeal.main_arg20) = m ((c.tc : Thread Cert.CrossGradsIdeal.nD Cert.CrossGradsIdeal.τ).loc Cert.CrossGradsIdeal.main_arg20))
      ∧ θ_run (Cert.CrossGradsReferenceIdeal.defs (F := Ideal)) (onTc (τ := Cert.CrossGradsReferenceIdeal.τ) (Cert.CrossGradsReferenceIdeal.main (F := Ideal))) ⟨m', fun _ => 0, g'⟩ (fun r => ∀ c : Dev Cert.CrossGradsReferenceIdeal.nD,
          r.2.mem ((c.tc : Thread Cert.CrossGradsReferenceIdeal.nD Cert.CrossGradsReferenceIdeal.τ).loc Cert.CrossGradsReferenceIdeal.main_v80) = v0 c
          ∧ r.2.mem ((c.tc : Thread Cert.CrossGradsReferenceIdeal.nD Cert.CrossGradsReferenceIdeal.τ).loc Cert.CrossGradsReferenceIdeal.main_v85) = v1 c
          ∧ r.2.mem ((c.tc : Thread Cert.CrossGradsReferenceIdeal.nD Cert.CrossGradsReferenceIdeal.τ).loc Cert.CrossGradsReferenceIdeal.main_v90) = v2 c
          ∧ r.2.mem ((c.tc : Thread Cert.CrossGradsReferenceIdeal.nD Cert.CrossGradsReferenceIdeal.τ).loc Cert.CrossGradsReferenceIdeal.main_v95) = v3 c
          ∧ r.2.mem ((c.tc : Thread Cert.CrossGradsReferenceIdeal.nD Cert.CrossGradsReferenceIdeal.τ).loc Cert.CrossGradsReferenceIdeal.main_arg0) = m' ((c.tc : Thread Cert.CrossGradsReferenceIdeal.nD Cert.CrossGradsReferenceIdeal.τ).loc Cert.CrossGradsReferenceIdeal.main_arg0)
          ∧ r.2.mem ((c.tc : Thread Cert.CrossGradsReferenceIdeal.nD Cert.CrossGradsReferenceIdeal.τ).loc Cert.CrossGradsReferenceIdeal.main_arg1) = m' ((c.tc : Thread Cert.CrossGradsReferenceIdeal.nD Cert.CrossGradsReferenceIdeal.τ).loc Cert.CrossGradsReferenceIdeal.main_arg1)
          ∧ r.2.mem ((c.tc : Thread Cert.CrossGradsReferenceIdeal.nD Cert.CrossGradsReferenceIdeal.τ).loc Cert.CrossGradsReferenceIdeal.main_arg2) = m' ((c.tc : Thread Cert.CrossGradsReferenceIdeal.nD Cert.CrossGradsReferenceIdeal.τ).loc Cert.CrossGradsReferenceIdeal.main_arg2)
          ∧ r.2.mem ((c.tc : Thread Cert.CrossGradsReferenceIdeal.nD Cert.CrossGradsReferenceIdeal.τ).loc Cert.CrossGradsReferenceIdeal.main_arg3) = m' ((c.tc : Thread Cert.CrossGradsReferenceIdeal.nD Cert.CrossGradsReferenceIdeal.τ).loc Cert.CrossGradsReferenceIdeal.main_arg3)
          ∧ r.2.mem ((c.tc : Thread Cert.CrossGradsReferenceIdeal.nD Cert.CrossGradsReferenceIdeal.τ).loc Cert.CrossGradsReferenceIdeal.main_arg4) = m' ((c.tc : Thread Cert.CrossGradsReferenceIdeal.nD Cert.CrossGradsReferenceIdeal.τ).loc Cert.CrossGradsReferenceIdeal.main_arg4)
          ∧ r.2.mem ((c.tc : Thread Cert.CrossGradsReferenceIdeal.nD Cert.CrossGradsReferenceIdeal.τ).loc Cert.CrossGradsReferenceIdeal.main_arg5) = m' ((c.tc : Thread Cert.CrossGradsReferenceIdeal.nD Cert.CrossGradsReferenceIdeal.τ).loc Cert.CrossGradsReferenceIdeal.main_arg5)
          ∧ r.2.mem ((c.tc : Thread Cert.CrossGradsReferenceIdeal.nD Cert.CrossGradsReferenceIdeal.τ).loc Cert.CrossGradsReferenceIdeal.main_arg6) = m' ((c.tc : Thread Cert.CrossGradsReferenceIdeal.nD Cert.CrossGradsReferenceIdeal.τ).loc Cert.CrossGradsReferenceIdeal.main_arg6)
          ∧ r.2.mem ((c.tc : Thread Cert.CrossGradsReferenceIdeal.nD Cert.CrossGradsReferenceIdeal.τ).loc Cert.CrossGradsReferenceIdeal.main_arg7) = m' ((c.tc : Thread Cert.CrossGradsReferenceIdeal.nD Cert.CrossGradsReferenceIdeal.τ).loc Cert.CrossGradsReferenceIdeal.main_arg7)
          ∧ r.2.mem ((c.tc : Thread Cert.CrossGradsReferenceIdeal.nD Cert.CrossGradsReferenceIdeal.τ).loc Cert.CrossGradsReferenceIdeal.main_arg8) = m' ((c.tc : Thread Cert.CrossGradsReferenceIdeal.nD Cert.CrossGradsReferenceIdeal.τ).loc Cert.CrossGradsReferenceIdeal.main_arg8)
          ∧ r.2.mem ((c.tc : Thread Cert.CrossGradsReferenceIdeal.nD Cert.CrossGradsReferenceIdeal.τ).loc Cert.CrossGradsReferenceIdeal.main_arg9) = m' ((c.tc : Thread Cert.CrossGradsReferenceIdeal.nD Cert.CrossGradsReferenceIdeal.τ).loc Cert.CrossGradsReferenceIdeal.main_arg9)
          ∧ r.2.mem ((c.tc : Thread Cert.CrossGradsReferenceIdeal.nD Cert.CrossGradsReferenceIdeal.τ).loc Cert.CrossGradsReferenceIdeal.main_arg10) = m' ((c.tc : Thread Cert.CrossGradsReferenceIdeal.nD Cert.CrossGradsReferenceIdeal.τ).loc Cert.CrossGradsReferenceIdeal.main_arg10)
          ∧ r.2.mem ((c.tc : Thread Cert.CrossGradsReferenceIdeal.nD Cert.CrossGradsReferenceIdeal.τ).loc Cert.CrossGradsReferenceIdeal.main_arg11) = m' ((c.tc : Thread Cert.CrossGradsReferenceIdeal.nD Cert.CrossGradsReferenceIdeal.τ).loc Cert.CrossGradsReferenceIdeal.main_arg11)
          ∧ r.2.mem ((c.tc : Thread Cert.CrossGradsReferenceIdeal.nD Cert.CrossGradsReferenceIdeal.τ).loc Cert.CrossGradsReferenceIdeal.main_arg12) = m' ((c.tc : Thread Cert.CrossGradsReferenceIdeal.nD Cert.CrossGradsReferenceIdeal.τ).loc Cert.CrossGradsReferenceIdeal.main_arg12)
          ∧ r.2.mem ((c.tc : Thread Cert.CrossGradsReferenceIdeal.nD Cert.CrossGradsReferenceIdeal.τ).loc Cert.CrossGradsReferenceIdeal.main_arg13) = m' ((c.tc : Thread Cert.CrossGradsReferenceIdeal.nD Cert.CrossGradsReferenceIdeal.τ).loc Cert.CrossGradsReferenceIdeal.main_arg13)
          ∧ r.2.mem ((c.tc : Thread Cert.CrossGradsReferenceIdeal.nD Cert.CrossGradsReferenceIdeal.τ).loc Cert.CrossGradsReferenceIdeal.main_arg14) = m' ((c.tc : Thread Cert.CrossGradsReferenceIdeal.nD Cert.CrossGradsReferenceIdeal.τ).loc Cert.CrossGradsReferenceIdeal.main_arg14)
          ∧ r.2.mem ((c.tc : Thread Cert.CrossGradsReferenceIdeal.nD Cert.CrossGradsReferenceIdeal.τ).loc Cert.CrossGradsReferenceIdeal.main_arg15) = m' ((c.tc : Thread Cert.CrossGradsReferenceIdeal.nD Cert.CrossGradsReferenceIdeal.τ).loc Cert.CrossGradsReferenceIdeal.main_arg15)
          ∧ r.2.mem ((c.tc : Thread Cert.CrossGradsReferenceIdeal.nD Cert.CrossGradsReferenceIdeal.τ).loc Cert.CrossGradsReferenceIdeal.main_arg16) = m' ((c.tc : Thread Cert.CrossGradsReferenceIdeal.nD Cert.CrossGradsReferenceIdeal.τ).loc Cert.CrossGradsReferenceIdeal.main_arg16)
          ∧ r.2.mem ((c.tc : Thread Cert.CrossGradsReferenceIdeal.nD Cert.CrossGradsReferenceIdeal.τ).loc Cert.CrossGradsReferenceIdeal.main_arg17) = m' ((c.tc : Thread Cert.CrossGradsReferenceIdeal.nD Cert.CrossGradsReferenceIdeal.τ).loc Cert.CrossGradsReferenceIdeal.main_arg17)
          ∧ r.2.mem ((c.tc : Thread Cert.CrossGradsReferenceIdeal.nD Cert.CrossGradsReferenceIdeal.τ).loc Cert.CrossGradsReferenceIdeal.main_arg18) = m' ((c.tc : Thread Cert.CrossGradsReferenceIdeal.nD Cert.CrossGradsReferenceIdeal.τ).loc Cert.CrossGradsReferenceIdeal.main_arg18)
          ∧ r.2.mem ((c.tc : Thread Cert.CrossGradsReferenceIdeal.nD Cert.CrossGradsReferenceIdeal.τ).loc Cert.CrossGradsReferenceIdeal.main_arg19) = m' ((c.tc : Thread Cert.CrossGradsReferenceIdeal.nD Cert.CrossGradsReferenceIdeal.τ).loc Cert.CrossGradsReferenceIdeal.main_arg19)
          ∧ r.2.mem ((c.tc : Thread Cert.CrossGradsReferenceIdeal.nD Cert.CrossGradsReferenceIdeal.τ).loc Cert.CrossGradsReferenceIdeal.main_arg20) = m' ((c.tc : Thread Cert.CrossGradsReferenceIdeal.nD Cert.CrossGradsReferenceIdeal.τ).loc Cert.CrossGradsReferenceIdeal.main_arg20))

def preserves_Hyb_HybIdeal : Prop :=
  True

def algebraic_HybIdeal_HybReferenceIdeal [hHybIdeal : Cert.HybIdeal.Facts] [hHybReferenceIdeal : Cert.HybReferenceIdeal.Facts] : Prop :=
  ∀ (m : (ℓ : Loc Cert.HybIdeal.nD Cert.HybIdeal.τ Cert.HybIdeal.sig) → Buf (Elt Ideal) ℓ) (g : Dev Cert.HybIdeal.nD → PrngReg)
    (m' : (ℓ : Loc Cert.HybReferenceIdeal.nD Cert.HybReferenceIdeal.τ Cert.HybReferenceIdeal.sig) → Buf (Elt Ideal) ℓ) (g' : Dev Cert.HybReferenceIdeal.nD → PrngReg), Pre_HybIdeal m →
    (∀ c : Dev Cert.HybIdeal.nD,
      m' ((c.tc : Thread Cert.HybReferenceIdeal.nD Cert.HybReferenceIdeal.τ).loc Cert.HybReferenceIdeal.main_arg0) = m ((c.tc : Thread Cert.HybIdeal.nD Cert.HybIdeal.τ).loc Cert.HybIdeal.main_arg0)
      ∧ m' ((c.tc : Thread Cert.HybReferenceIdeal.nD Cert.HybReferenceIdeal.τ).loc Cert.HybReferenceIdeal.main_arg1) = m ((c.tc : Thread Cert.HybIdeal.nD Cert.HybIdeal.τ).loc Cert.HybIdeal.main_arg1)
      ∧ m' ((c.tc : Thread Cert.HybReferenceIdeal.nD Cert.HybReferenceIdeal.τ).loc Cert.HybReferenceIdeal.main_arg2) = m ((c.tc : Thread Cert.HybIdeal.nD Cert.HybIdeal.τ).loc Cert.HybIdeal.main_arg2)
      ∧ m' ((c.tc : Thread Cert.HybReferenceIdeal.nD Cert.HybReferenceIdeal.τ).loc Cert.HybReferenceIdeal.main_arg3) = m ((c.tc : Thread Cert.HybIdeal.nD Cert.HybIdeal.τ).loc Cert.HybIdeal.main_arg3)
      ∧ m' ((c.tc : Thread Cert.HybReferenceIdeal.nD Cert.HybReferenceIdeal.τ).loc Cert.HybReferenceIdeal.main_arg4) = m ((c.tc : Thread Cert.HybIdeal.nD Cert.HybIdeal.τ).loc Cert.HybIdeal.main_arg4)
      ∧ m' ((c.tc : Thread Cert.HybReferenceIdeal.nD Cert.HybReferenceIdeal.τ).loc Cert.HybReferenceIdeal.main_arg5) = m ((c.tc : Thread Cert.HybIdeal.nD Cert.HybIdeal.τ).loc Cert.HybIdeal.main_arg5)
      ∧ m' ((c.tc : Thread Cert.HybReferenceIdeal.nD Cert.HybReferenceIdeal.τ).loc Cert.HybReferenceIdeal.main_arg6) = m ((c.tc : Thread Cert.HybIdeal.nD Cert.HybIdeal.τ).loc Cert.HybIdeal.main_arg6)
      ∧ m' ((c.tc : Thread Cert.HybReferenceIdeal.nD Cert.HybReferenceIdeal.τ).loc Cert.HybReferenceIdeal.main_arg7) = m ((c.tc : Thread Cert.HybIdeal.nD Cert.HybIdeal.τ).loc Cert.HybIdeal.main_arg7)) →
    ∃ (v0 : (c : Dev Cert.HybIdeal.nD) → Buf (Elt Ideal) ((c.tc : Thread Cert.HybIdeal.nD Cert.HybIdeal.τ).loc Cert.HybIdeal.main_v0)) (v1 : (c : Dev Cert.HybIdeal.nD) → Buf (Elt Ideal) ((c.tc : Thread Cert.HybIdeal.nD Cert.HybIdeal.τ).loc Cert.HybIdeal.main_v3)) (v2 : (c : Dev Cert.HybIdeal.nD) → Buf (Elt Ideal) ((c.tc : Thread Cert.HybIdeal.nD Cert.HybIdeal.τ).loc Cert.HybIdeal.main_v5)) (v3 : (c : Dev Cert.HybIdeal.nD) → Buf (Elt Ideal) ((c.tc : Thread Cert.HybIdeal.nD Cert.HybIdeal.τ).loc Cert.HybIdeal.main_v4)) (v4 : (c : Dev Cert.HybIdeal.nD) → Buf (Elt Ideal) ((c.tc : Thread Cert.HybIdeal.nD Cert.HybIdeal.τ).loc Cert.HybIdeal.main_v2)),
      θ_run (Cert.HybIdeal.defs (F := Ideal)) (onTc (τ := Cert.HybIdeal.τ) (Cert.HybIdeal.main (F := Ideal))) ⟨m, fun _ => 0, g⟩ (fun r => ∀ c : Dev Cert.HybIdeal.nD,
          r.2.mem ((c.tc : Thread Cert.HybIdeal.nD Cert.HybIdeal.τ).loc Cert.HybIdeal.main_v0) = v0 c
          ∧ r.2.mem ((c.tc : Thread Cert.HybIdeal.nD Cert.HybIdeal.τ).loc Cert.HybIdeal.main_v3) = v1 c
          ∧ r.2.mem ((c.tc : Thread Cert.HybIdeal.nD Cert.HybIdeal.τ).loc Cert.HybIdeal.main_v5) = v2 c
          ∧ r.2.mem ((c.tc : Thread Cert.HybIdeal.nD Cert.HybIdeal.τ).loc Cert.HybIdeal.main_v4) = v3 c
          ∧ r.2.mem ((c.tc : Thread Cert.HybIdeal.nD Cert.HybIdeal.τ).loc Cert.HybIdeal.main_v2) = v4 c
          ∧ r.2.mem ((c.tc : Thread Cert.HybIdeal.nD Cert.HybIdeal.τ).loc Cert.HybIdeal.main_arg0) = m ((c.tc : Thread Cert.HybIdeal.nD Cert.HybIdeal.τ).loc Cert.HybIdeal.main_arg0)
          ∧ r.2.mem ((c.tc : Thread Cert.HybIdeal.nD Cert.HybIdeal.τ).loc Cert.HybIdeal.main_arg1) = m ((c.tc : Thread Cert.HybIdeal.nD Cert.HybIdeal.τ).loc Cert.HybIdeal.main_arg1)
          ∧ r.2.mem ((c.tc : Thread Cert.HybIdeal.nD Cert.HybIdeal.τ).loc Cert.HybIdeal.main_arg2) = m ((c.tc : Thread Cert.HybIdeal.nD Cert.HybIdeal.τ).loc Cert.HybIdeal.main_arg2)
          ∧ r.2.mem ((c.tc : Thread Cert.HybIdeal.nD Cert.HybIdeal.τ).loc Cert.HybIdeal.main_arg3) = m ((c.tc : Thread Cert.HybIdeal.nD Cert.HybIdeal.τ).loc Cert.HybIdeal.main_arg3)
          ∧ r.2.mem ((c.tc : Thread Cert.HybIdeal.nD Cert.HybIdeal.τ).loc Cert.HybIdeal.main_arg4) = m ((c.tc : Thread Cert.HybIdeal.nD Cert.HybIdeal.τ).loc Cert.HybIdeal.main_arg4)
          ∧ r.2.mem ((c.tc : Thread Cert.HybIdeal.nD Cert.HybIdeal.τ).loc Cert.HybIdeal.main_arg5) = m ((c.tc : Thread Cert.HybIdeal.nD Cert.HybIdeal.τ).loc Cert.HybIdeal.main_arg5)
          ∧ r.2.mem ((c.tc : Thread Cert.HybIdeal.nD Cert.HybIdeal.τ).loc Cert.HybIdeal.main_arg6) = m ((c.tc : Thread Cert.HybIdeal.nD Cert.HybIdeal.τ).loc Cert.HybIdeal.main_arg6)
          ∧ r.2.mem ((c.tc : Thread Cert.HybIdeal.nD Cert.HybIdeal.τ).loc Cert.HybIdeal.main_arg7) = m ((c.tc : Thread Cert.HybIdeal.nD Cert.HybIdeal.τ).loc Cert.HybIdeal.main_arg7))
      ∧ θ_run (Cert.HybReferenceIdeal.defs (F := Ideal)) (onTc (τ := Cert.HybReferenceIdeal.τ) (Cert.HybReferenceIdeal.main (F := Ideal))) ⟨m', fun _ => 0, g'⟩ (fun r => ∀ c : Dev Cert.HybReferenceIdeal.nD,
          r.2.mem ((c.tc : Thread Cert.HybReferenceIdeal.nD Cert.HybReferenceIdeal.τ).loc Cert.HybReferenceIdeal.main_v5) = v0 c
          ∧ r.2.mem ((c.tc : Thread Cert.HybReferenceIdeal.nD Cert.HybReferenceIdeal.τ).loc Cert.HybReferenceIdeal.main_v12) = v1 c
          ∧ r.2.mem ((c.tc : Thread Cert.HybReferenceIdeal.nD Cert.HybReferenceIdeal.τ).loc Cert.HybReferenceIdeal.main_v8) = v2 c
          ∧ r.2.mem ((c.tc : Thread Cert.HybReferenceIdeal.nD Cert.HybReferenceIdeal.τ).loc Cert.HybReferenceIdeal.main_v7) = v3 c
          ∧ r.2.mem ((c.tc : Thread Cert.HybReferenceIdeal.nD Cert.HybReferenceIdeal.τ).loc Cert.HybReferenceIdeal.main_v19) = v4 c
          ∧ r.2.mem ((c.tc : Thread Cert.HybReferenceIdeal.nD Cert.HybReferenceIdeal.τ).loc Cert.HybReferenceIdeal.main_arg0) = m' ((c.tc : Thread Cert.HybReferenceIdeal.nD Cert.HybReferenceIdeal.τ).loc Cert.HybReferenceIdeal.main_arg0)
          ∧ r.2.mem ((c.tc : Thread Cert.HybReferenceIdeal.nD Cert.HybReferenceIdeal.τ).loc Cert.HybReferenceIdeal.main_arg1) = m' ((c.tc : Thread Cert.HybReferenceIdeal.nD Cert.HybReferenceIdeal.τ).loc Cert.HybReferenceIdeal.main_arg1)
          ∧ r.2.mem ((c.tc : Thread Cert.HybReferenceIdeal.nD Cert.HybReferenceIdeal.τ).loc Cert.HybReferenceIdeal.main_arg2) = m' ((c.tc : Thread Cert.HybReferenceIdeal.nD Cert.HybReferenceIdeal.τ).loc Cert.HybReferenceIdeal.main_arg2)
          ∧ r.2.mem ((c.tc : Thread Cert.HybReferenceIdeal.nD Cert.HybReferenceIdeal.τ).loc Cert.HybReferenceIdeal.main_arg3) = m' ((c.tc : Thread Cert.HybReferenceIdeal.nD Cert.HybReferenceIdeal.τ).loc Cert.HybReferenceIdeal.main_arg3)
          ∧ r.2.mem ((c.tc : Thread Cert.HybReferenceIdeal.nD Cert.HybReferenceIdeal.τ).loc Cert.HybReferenceIdeal.main_arg4) = m' ((c.tc : Thread Cert.HybReferenceIdeal.nD Cert.HybReferenceIdeal.τ).loc Cert.HybReferenceIdeal.main_arg4)
          ∧ r.2.mem ((c.tc : Thread Cert.HybReferenceIdeal.nD Cert.HybReferenceIdeal.τ).loc Cert.HybReferenceIdeal.main_arg5) = m' ((c.tc : Thread Cert.HybReferenceIdeal.nD Cert.HybReferenceIdeal.τ).loc Cert.HybReferenceIdeal.main_arg5)
          ∧ r.2.mem ((c.tc : Thread Cert.HybReferenceIdeal.nD Cert.HybReferenceIdeal.τ).loc Cert.HybReferenceIdeal.main_arg6) = m' ((c.tc : Thread Cert.HybReferenceIdeal.nD Cert.HybReferenceIdeal.τ).loc Cert.HybReferenceIdeal.main_arg6)
          ∧ r.2.mem ((c.tc : Thread Cert.HybReferenceIdeal.nD Cert.HybReferenceIdeal.τ).loc Cert.HybReferenceIdeal.main_arg7) = m' ((c.tc : Thread Cert.HybReferenceIdeal.nD Cert.HybReferenceIdeal.τ).loc Cert.HybReferenceIdeal.main_arg7))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v1_0)) (v4 : (c : Dev Cert.DownIdeal.nD) → Buf (Elt Ideal) ((c.tc : Thread Cert.DownIdeal.nD Cert.DownIdeal.τ).loc Cert.DownIdeal.main_v1_1)) (v5 : (c : Dev Cert.DownIdeal.nD) → Buf (Elt Ideal) ((c.tc : Thread Cert.DownIdeal.nD Cert.DownIdeal.τ).loc Cert.DownIdeal.main_v1_2)) (v6 : (c : Dev Cert.DownIdeal.nD) → Buf (Elt Ideal) ((c.tc : Thread Cert.DownIdeal.nD Cert.DownIdeal.τ).loc Cert.DownIdeal.main_v2_0)) (v7 : (c : Dev Cert.DownIdeal.nD) → Buf (Elt Ideal) ((c.tc : Thread Cert.DownIdeal.nD Cert.DownIdeal.τ).loc Cert.DownIdeal.main_v2_1)) (v8 : (c : Dev Cert.DownIdeal.nD) → Buf (Elt Ideal) ((c.tc : Thread Cert.DownIdeal.nD Cert.DownIdeal.τ).loc Cert.DownIdeal.main_v2_2)) (v9 : (c : Dev Cert.DownIdeal.nD) → Buf (Elt Ideal) ((c.tc : Thread Cert.DownIdeal.nD Cert.DownIdeal.τ).loc Cert.DownIdeal.main_v3_0)) (v10 : (c : Dev Cert.DownIdeal.nD) → Buf (Elt Ideal) ((c.tc : Thread Cert.DownIdeal.nD Cert.DownIdeal.τ).loc Cert.DownIdeal.main_v3_1)) (v11 : (c : Dev Cert.DownIdeal.nD) → Buf (Elt Ideal) ((c.tc : Thread Cert.DownIdeal.nD Cert.DownIdeal.τ).loc Cert.DownIdeal.main_v3_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v1_0) = v3 c
          ∧ r.2.mem ((c.tc : Thread Cert.DownIdeal.nD Cert.DownIdeal.τ).loc Cert.DownIdeal.main_v1_1) = v4 c
          ∧ r.2.mem ((c.tc : Thread Cert.DownIdeal.nD Cert.DownIdeal.τ).loc Cert.DownIdeal.main_v1_2) = v5 c
          ∧ r.2.mem ((c.tc : Thread Cert.DownIdeal.nD Cert.DownIdeal.τ).loc Cert.DownIdeal.main_v2_0) = v6 c
          ∧ r.2.mem ((c.tc : Thread Cert.DownIdeal.nD Cert.DownIdeal.τ).loc Cert.DownIdeal.main_v2_1) = v7 c
          ∧ r.2.mem ((c.tc : Thread Cert.DownIdeal.nD Cert.DownIdeal.τ).loc Cert.DownIdeal.main_v2_2) = v8 c
          ∧ r.2.mem ((c.tc : Thread Cert.DownIdeal.nD Cert.DownIdeal.τ).loc Cert.DownIdeal.main_v3_0) = v9 c
          ∧ r.2.mem ((c.tc : Thread Cert.DownIdeal.nD Cert.DownIdeal.τ).loc Cert.DownIdeal.main_v3_1) = v10 c
          ∧ r.2.mem ((c.tc : Thread Cert.DownIdeal.nD Cert.DownIdeal.τ).loc Cert.DownIdeal.main_v3_2) = v11 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v7) = v0 c
          ∧ r.2.mem ((c.tc : Thread Cert.DownReferenceIdeal.nD Cert.DownReferenceIdeal.τ).loc Cert.DownReferenceIdeal.main_v36) = v1 c
          ∧ r.2.mem ((c.tc : Thread Cert.DownReferenceIdeal.nD Cert.DownReferenceIdeal.τ).loc Cert.DownReferenceIdeal.main_v37) = v2 c
          ∧ r.2.mem ((c.tc : Thread Cert.DownReferenceIdeal.nD Cert.DownReferenceIdeal.τ).loc Cert.DownReferenceIdeal.main_v42) = v3 c
          ∧ r.2.mem ((c.tc : Thread Cert.DownReferenceIdeal.nD Cert.DownReferenceIdeal.τ).loc Cert.DownReferenceIdeal.main_v71) = v4 c
          ∧ r.2.mem ((c.tc : Thread Cert.DownReferenceIdeal.nD Cert.DownReferenceIdeal.τ).loc Cert.DownReferenceIdeal.main_v72) = v5 c
          ∧ r.2.mem ((c.tc : Thread Cert.DownReferenceIdeal.nD Cert.DownReferenceIdeal.τ).loc Cert.DownReferenceIdeal.main_v77) = v6 c
          ∧ r.2.mem ((c.tc : Thread Cert.DownReferenceIdeal.nD Cert.DownReferenceIdeal.τ).loc Cert.DownReferenceIdeal.main_v106) = v7 c
          ∧ r.2.mem ((c.tc : Thread Cert.DownReferenceIdeal.nD Cert.DownReferenceIdeal.τ).loc Cert.DownReferenceIdeal.main_v107) = v8 c
          ∧ r.2.mem ((c.tc : Thread Cert.DownReferenceIdeal.nD Cert.DownReferenceIdeal.τ).loc Cert.DownReferenceIdeal.main_v112) = v9 c
          ∧ r.2.mem ((c.tc : Thread Cert.DownReferenceIdeal.nD Cert.DownReferenceIdeal.τ).loc Cert.DownReferenceIdeal.main_v141) = v10 c
          ∧ r.2.mem ((c.tc : Thread Cert.DownReferenceIdeal.nD Cert.DownReferenceIdeal.τ).loc Cert.DownReferenceIdeal.main_v142) = v11 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Mixed_MixedIdeal : Prop :=
  True

def algebraic_MixedIdeal_MixedReferenceIdeal [hMixedIdeal : Cert.MixedIdeal.Facts] [hMixedReferenceIdeal : Cert.MixedReferenceIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedIdeal m →
    (∀ c : Dev Cert.MixedIdeal.nD,
      m' ((c.tc : Thread Cert.MixedReferenceIdeal.nD Cert.MixedReferenceIdeal.τ).loc Cert.MixedReferenceIdeal.main_arg0) = m ((c.tc : Thread Cert.MixedIdeal.nD Cert.MixedIdeal.τ).loc Cert.MixedIdeal.main_arg0)
      ∧ m' ((c.tc : Thread Cert.MixedReferenceIdeal.nD Cert.MixedReferenceIdeal.τ).loc Cert.MixedReferenceIdeal.main_arg1) = m ((c.tc : Thread Cert.MixedIdeal.nD Cert.MixedIdeal.τ).loc Cert.MixedIdeal.main_arg1)
      ∧ m' ((c.tc : Thread Cert.MixedReferenceIdeal.nD Cert.MixedReferenceIdeal.τ).loc Cert.MixedReferenceIdeal.main_arg2) = m ((c.tc : Thread Cert.MixedIdeal.nD Cert.MixedIdeal.τ).loc Cert.MixedIdeal.main_arg2)
      ∧ m' ((c.tc : Thread Cert.MixedReferenceIdeal.nD Cert.MixedReferenceIdeal.τ).loc Cert.MixedReferenceIdeal.main_arg3) = m ((c.tc : Thread Cert.MixedIdeal.nD Cert.MixedIdeal.τ).loc Cert.MixedIdeal.main_arg3)
      ∧ m' ((c.tc : Thread Cert.MixedReferenceIdeal.nD Cert.MixedReferenceIdeal.τ).loc Cert.MixedReferenceIdeal.main_arg4) = m ((c.tc : Thread Cert.MixedIdeal.nD Cert.MixedIdeal.τ).loc Cert.MixedIdeal.main_arg4)
      ∧ m' ((c.tc : Thread Cert.MixedReferenceIdeal.nD Cert.MixedReferenceIdeal.τ).loc Cert.MixedReferenceIdeal.main_arg5) = m ((c.tc : Thread Cert.MixedIdeal.nD Cert.MixedIdeal.τ).loc Cert.MixedIdeal.main_arg5)
      ∧ m' ((c.tc : Thread Cert.MixedReferenceIdeal.nD Cert.MixedReferenceIdeal.τ).loc Cert.MixedReferenceIdeal.main_arg6) = m ((c.tc : Thread Cert.MixedIdeal.nD Cert.MixedIdeal.τ).loc Cert.MixedIdeal.main_arg6)
      ∧ m' ((c.tc : Thread Cert.MixedReferenceIdeal.nD Cert.MixedReferenceIdeal.τ).loc Cert.MixedReferenceIdeal.main_arg7) = m ((c.tc : Thread Cert.MixedIdeal.nD Cert.MixedIdeal.τ).loc Cert.MixedIdeal.main_arg7)
      ∧ m' ((c.tc : Thread Cert.MixedReferenceIdeal.nD Cert.MixedReferenceIdeal.τ).loc Cert.MixedReferenceIdeal.main_arg8) = m ((c.tc : Thread Cert.MixedIdeal.nD Cert.MixedIdeal.τ).loc Cert.MixedIdeal.main_arg8)
      ∧ m' ((c.tc : Thread Cert.MixedReferenceIdeal.nD Cert.MixedReferenceIdeal.τ).loc Cert.MixedReferenceIdeal.main_arg9) = m ((c.tc : Thread Cert.MixedIdeal.nD Cert.MixedIdeal.τ).loc Cert.MixedIdeal.main_arg9)) →
    ∃ (v0 : (c : Dev Cert.MixedIdeal.nD) → Buf (Elt Ideal) ((c.tc : Thread Cert.MixedIdeal.nD Cert.MixedIdeal.τ).loc Cert.MixedIdeal.main_v0_0)) (v1 : (c : Dev Cert.MixedIdeal.nD) → Buf (Elt Ideal) ((c.tc : Thread Cert.MixedIdeal.nD Cert.MixedIdeal.τ).loc Cert.MixedIdeal.main_v0_1)) (v2 : (c : Dev Cert.MixedIdeal.nD) → Buf (Elt Ideal) ((c.tc : Thread Cert.MixedIdeal.nD Cert.MixedIdeal.τ).loc Cert.MixedIdeal.main_v0_2)) (v3 : (c : Dev Cert.MixedIdeal.nD) → Buf (Elt Ideal) ((c.tc : Thread Cert.MixedIdeal.nD Cert.MixedIdeal.τ).loc Cert.MixedIdeal.main_v1_0)) (v4 : (c : Dev Cert.MixedIdeal.nD) → Buf (Elt Ideal) ((c.tc : Thread Cert.MixedIdeal.nD Cert.MixedIdeal.τ).loc Cert.MixedIdeal.main_v1_1)) (v5 : (c : Dev Cert.MixedIdeal.nD) → Buf (Elt Ideal) ((c.tc : Thread Cert.MixedIdeal.nD Cert.MixedIdeal.τ).loc Cert.MixedIdeal.main_v1_2)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0_0) = v0 c
          ∧ r.2.mem ((c.tc : Thread Cert.MixedIdeal.nD Cert.MixedIdeal.τ).loc Cert.MixedIdeal.main_v0_1) = v1 c
          ∧ r.2.mem ((c.tc : Thread Cert.MixedIdeal.nD Cert.MixedIdeal.τ).loc Cert.MixedIdeal.main_v0_2) = v2 c
          ∧ r.2.mem ((c.tc : Thread Cert.MixedIdeal.nD Cert.MixedIdeal.τ).loc Cert.MixedIdeal.main_v1_0) = v3 c
          ∧ r.2.mem ((c.tc : Thread Cert.MixedIdeal.nD Cert.MixedIdeal.τ).loc Cert.MixedIdeal.main_v1_1) = v4 c
          ∧ r.2.mem ((c.tc : Thread Cert.MixedIdeal.nD Cert.MixedIdeal.τ).loc Cert.MixedIdeal.main_v1_2) = v5 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
          ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
          ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v1) = v0 c
          ∧ r.2.mem ((c.tc : Thread Cert.MixedReferenceIdeal.nD Cert.MixedReferenceIdeal.τ).loc Cert.MixedReferenceIdeal.main_v30) = v1 c
          ∧ r.2.mem ((c.tc : Thread Cert.MixedReferenceIdeal.nD Cert.MixedReferenceIdeal.τ).loc Cert.MixedReferenceIdeal.main_v63) = v2 c
          ∧ r.2.mem ((c.tc : Thread Cert.MixedReferenceIdeal.nD Cert.MixedReferenceIdeal.τ).loc Cert.MixedReferenceIdeal.main_v33) = v3 c
          ∧ r.2.mem ((c.tc : Thread Cert.MixedReferenceIdeal.nD Cert.MixedReferenceIdeal.τ).loc Cert.MixedReferenceIdeal.main_v62) = v4 c
          ∧ r.2.mem ((c.tc : Thread Cert.MixedReferenceIdeal.nD Cert.MixedReferenceIdeal.τ).loc Cert.MixedReferenceIdeal.main_v64) = v5 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1)
          ∧ r.2.mem ((c.tc : Thread Cert.MixedReferenceIdeal.nD Cert.MixedReferenceIdeal.τ).loc Cert.MixedReferenceIdeal.main_arg2) = m' ((c.tc : Thread Cert.MixedReferenceIdeal.nD Cert.MixedReferenceIdeal.τ).loc Cert.MixedReferenceIdeal.main_arg2)
          ∧ r.2.mem ((c.tc : Thread Cert.MixedReferenceIdeal.nD Cert.MixedReferenceIdeal.τ).loc Cert.MixedReferenceIdeal.main_arg3) = m' ((c.tc : Thread Cert.MixedReferenceIdeal.nD Cert.MixedReferenceIdeal.τ).loc Cert.MixedReferenceIdeal.main_arg3)
          ∧ r.2.mem ((c.tc : Thread Cert.MixedReferenceIdeal.nD Cert.MixedReferenceIdeal.τ).loc Cert.MixedReferenceIdeal.main_arg4) = m' ((c.tc : Thread Cert.MixedReferenceIdeal.nD Cert.MixedReferenceIdeal.τ).loc Cert.MixedReferenceIdeal.main_arg4)
          ∧ r.2.mem ((c.tc : Thread Cert.MixedReferenceIdeal.nD Cert.MixedReferenceIdeal.τ).loc Cert.MixedReferenceIdeal.main_arg5) = m' ((c.tc : Thread Cert.MixedReferenceIdeal.nD Cert.MixedReferenceIdeal.τ).loc Cert.MixedReferenceIdeal.main_arg5)
          ∧ r.2.mem ((c.tc : Thread Cert.MixedReferenceIdeal.nD Cert.MixedReferenceIdeal.τ).loc Cert.MixedReferenceIdeal.main_arg6) = m' ((c.tc : Thread Cert.MixedReferenceIdeal.nD Cert.MixedReferenceIdeal.τ).loc Cert.MixedReferenceIdeal.main_arg6)
          ∧ r.2.mem ((c.tc : Thread Cert.MixedReferenceIdeal.nD Cert.MixedReferenceIdeal.τ).loc Cert.MixedReferenceIdeal.main_arg7) = m' ((c.tc : Thread Cert.MixedReferenceIdeal.nD Cert.MixedReferenceIdeal.τ).loc Cert.MixedReferenceIdeal.main_arg7)
          ∧ r.2.mem ((c.tc : Thread Cert.MixedReferenceIdeal.nD Cert.MixedReferenceIdeal.τ).loc Cert.MixedReferenceIdeal.main_arg8) = m' ((c.tc : Thread Cert.MixedReferenceIdeal.nD Cert.MixedReferenceIdeal.τ).loc Cert.MixedReferenceIdeal.main_arg8)
          ∧ r.2.mem ((c.tc : Thread Cert.MixedReferenceIdeal.nD Cert.MixedReferenceIdeal.τ).loc Cert.MixedReferenceIdeal.main_arg9) = m' ((c.tc : Thread Cert.MixedReferenceIdeal.nD Cert.MixedReferenceIdeal.τ).loc Cert.MixedReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnOne : Cert.FfnOne.Facts) (hFfnOneIdeal : Cert.FfnOneIdeal.Facts) (hFfnOneReferenceIdeal : Cert.FfnOneReferenceIdeal.Facts) (hFfnZero : Cert.FfnZero.Facts) (hFfnZeroIdeal : Cert.FfnZeroIdeal.Facts) (hFfnZeroReferenceIdeal : Cert.FfnZeroReferenceIdeal.Facts) (hFfnThree : Cert.FfnThree.Facts) (hFfnThreeIdeal : Cert.FfnThreeIdeal.Facts) (hFfnThreeReferenceIdeal : Cert.FfnThreeReferenceIdeal.Facts) (hGlu : Cert.Glu.Facts) (hGluIdeal : Cert.GluIdeal.Facts) (hGluReferenceIdeal : Cert.GluReferenceIdeal.Facts) (hCross : Cert.Cross.Facts) (hCrossIdeal : Cert.CrossIdeal.Facts) (hCrossReferenceIdeal : Cert.CrossReferenceIdeal.Facts) (hCrossGrads : Cert.CrossGrads.Facts) (hCrossGradsIdeal : Cert.CrossGradsIdeal.Facts) (hCrossGradsReferenceIdeal : Cert.CrossGradsReferenceIdeal.Facts) (hHyb : Cert.Hyb.Facts) (hHybIdeal : Cert.HybIdeal.Facts) (hHybReferenceIdeal : Cert.HybReferenceIdeal.Facts) (hDown : Cert.Down.Facts) (hDownIdeal : Cert.DownIdeal.Facts) (hDownReferenceIdeal : Cert.DownReferenceIdeal.Facts) (hMixed : Cert.Mixed.Facts) (hMixedIdeal : Cert.MixedIdeal.Facts) (hMixedReferenceIdeal : Cert.MixedReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnOne (hFfnOne := hFfnOne)
    ∧ quiescent_FfnOneIdeal (hFfnOneIdeal := hFfnOneIdeal)
    ∧ quiescent_FfnOneReferenceIdeal (hFfnOneReferenceIdeal := hFfnOneReferenceIdeal)
    ∧ quiescent_FfnZero (hFfnZero := hFfnZero)
    ∧ quiescent_FfnZeroIdeal (hFfnZeroIdeal := hFfnZeroIdeal)
    ∧ quiescent_FfnZeroReferenceIdeal (hFfnZeroReferenceIdeal := hFfnZeroReferenceIdeal)
    ∧ quiescent_FfnThree (hFfnThree := hFfnThree)
    ∧ quiescent_FfnThreeIdeal (hFfnThreeIdeal := hFfnThreeIdeal)
    ∧ quiescent_FfnThreeReferenceIdeal (hFfnThreeReferenceIdeal := hFfnThreeReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Cross (hCross := hCross)
    ∧ quiescent_CrossIdeal (hCrossIdeal := hCrossIdeal)
    ∧ quiescent_CrossReferenceIdeal (hCrossReferenceIdeal := hCrossReferenceIdeal)
    ∧ quiescent_CrossGrads (hCrossGrads := hCrossGrads)
    ∧ quiescent_CrossGradsIdeal (hCrossGradsIdeal := hCrossGradsIdeal)
    ∧ quiescent_CrossGradsReferenceIdeal (hCrossGradsReferenceIdeal := hCrossGradsReferenceIdeal)
    ∧ quiescent_Hyb (hHyb := hHyb)
    ∧ quiescent_HybIdeal (hHybIdeal := hHybIdeal)
    ∧ quiescent_HybReferenceIdeal (hHybReferenceIdeal := hHybReferenceIdeal)
    ∧ quiescent_Down (hDown := hDown)
    ∧ quiescent_DownIdeal (hDownIdeal := hDownIdeal)
    ∧ quiescent_DownReferenceIdeal (hDownReferenceIdeal := hDownReferenceIdeal)
    ∧ quiescent_Mixed (hMixed := hMixed)
    ∧ quiescent_MixedIdeal (hMixedIdeal := hMixedIdeal)
    ∧ quiescent_MixedReferenceIdeal (hMixedReferenceIdeal := hMixedReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_FfnOne_FfnOneIdeal
    ∧ algebraic_FfnOneIdeal_FfnOneReferenceIdeal (hFfnOneIdeal := hFfnOneIdeal) (hFfnOneReferenceIdeal := hFfnOneReferenceIdeal)
    ∧ preserves_FfnZero_FfnZeroIdeal
    ∧ algebraic_FfnZeroIdeal_FfnZeroReferenceIdeal (hFfnZeroIdeal := hFfnZeroIdeal) (hFfnZeroReferenceIdeal := hFfnZeroReferenceIdeal)
    ∧ preserves_FfnThree_FfnThreeIdeal
    ∧ algebraic_FfnThreeIdeal_FfnThreeReferenceIdeal (hFfnThreeIdeal := hFfnThreeIdeal) (hFfnThreeReferenceIdeal := hFfnThreeReferenceIdeal)
    ∧ preserves_Glu_GluIdeal
    ∧ algebraic_GluIdeal_GluReferenceIdeal (hGluIdeal := hGluIdeal) (hGluReferenceIdeal := hGluReferenceIdeal)
    ∧ preserves_Cross_CrossIdeal
    ∧ algebraic_CrossIdeal_CrossReferenceIdeal (hCrossIdeal := hCrossIdeal) (hCrossReferenceIdeal := hCrossReferenceIdeal)
    ∧ preserves_CrossGrads_CrossGradsIdeal
    ∧ algebraic_CrossGradsIdeal_CrossGradsReferenceIdeal (hCrossGradsIdeal := hCrossGradsIdeal) (hCrossGradsReferenceIdeal := hCrossGradsReferenceIdeal)
    ∧ preserves_Hyb_HybIdeal
    ∧ algebraic_HybIdeal_HybReferenceIdeal (hHybIdeal := hHybIdeal) (hHybReferenceIdeal := hHybReferenceIdeal)
    ∧ preserves_Down_DownIdeal
    ∧ algebraic_DownIdeal_DownReferenceIdeal (hDownIdeal := hDownIdeal) (hDownReferenceIdeal := hDownReferenceIdeal)
    ∧ preserves_Mixed_MixedIdeal
    ∧ algebraic_MixedIdeal_MixedReferenceIdeal (hMixedIdeal := hMixedIdeal) (hMixedReferenceIdeal := hMixedReferenceIdeal)
-- ==== Kernel.lean ====
abbrev S4096x512 : Shape := ⟨2, ![4096, 512]⟩
abbrev S1024x2048 : Shape := ⟨2, ![1024, 2048]⟩
abbrev S128x512 : Shape := ⟨2, ![128, 512]⟩
abbrev S256x512 : Shape := ⟨2, ![256, 512]⟩
abbrev S128x256 : Shape := ⟨2, ![128, 256]⟩
abbrev S1x128 : Shape := ⟨2, ![1, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S256x384 : Shape := ⟨2, ![256, 384]⟩
abbrev S128x384 : Shape := ⟨2, ![128, 384]⟩
abbrev S256x256 : Shape := ⟨2, ![256, 256]⟩

abbrev nBuf : Space → Nat
  | .hbm => 15
  | .vmem => 24
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x512, .f32⟩
  | .hbm, ⟨5, _⟩ => ⟨S1024x2048, .bf16⟩
  | .hbm, ⟨6, _⟩ => ⟨S1024x2048, .bf16⟩
  | .hbm, ⟨7, _⟩ => ⟨S1024x2048, .bf16⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S1024x4x8x64 : Shape := ⟨4, ![1024, 4, 8, 64]⟩
abbrev S4x1024x8x64 : Shape := ⟨4, ![4, 1024, 8, 64]⟩
abbrev S4x8x128x8x64 : Shape := ⟨5, ![4, 8, 128, 8, 64]⟩
abbrev S_ : Shape := ⟨0, ![]⟩
abbrev S4x9x128x8x64 : Shape := ⟨5, ![4, 9, 128, 8, 64]⟩
abbrev S4x8x256x8x64 : Shape := ⟨5, ![4, 8, 256, 8, 64]⟩
abbrev S4x8x8x128x256 : Shape := ⟨5, ![4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S4x8x8x128 : Shape := ⟨4, ![4, 8, 8, 128]⟩
abbrev S4x8x8x128x1 : Shape := ⟨5, ![4, 8, 8, 128, 1]⟩
abbrev S4x8x8x64x128 : Shape := ⟨5, ![4, 8, 8, 64, 128]⟩
abbrev S4x8x128x8 : Shape := ⟨4, ![4, 8, 128, 8]⟩
abbrev S4x8x128x8x1 : Shape := ⟨5, ![4, 8, 128, 8, 1]⟩
abbrev S4x8x8x64x256 : Shape := ⟨5, ![4, 8, 8, 64, 256]⟩
abbrev S4x8x8x256x64 : Shape := ⟨5, ![4, 8, 8, 256, 64]⟩
abbrev S4x8x8x128x64 : Shape := ⟨5, ![4, 8, 8, 128, 64]⟩
abbrev S4x1024x512 : Shape := ⟨3, ![4, 1024, 512]⟩
abbrev S1024x4x512 : Shape := ⟨3, ![1024, 4, 512]⟩
abbrev S1024x2048 : Shape := ⟨2, ![1024, 2048]⟩

abbrev nBuf : Space → Nat
  | .hbm => 167
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x512, .f32⟩
  | 4 => ⟨S4096x512, .f32⟩
  | 5 => ⟨S4096x512, .f32⟩
  | 6 => ⟨S1024x4x8x64, .f32⟩
  | 7 => ⟨S4x1024x8x64, .f32⟩
  | 8 => ⟨S4x8x128x8x64, .f32⟩
  | 9 => ⟨S4096x512, .f32⟩
  | 10 => ⟨S1024x4x8x64, .f32⟩
  | 11 => ⟨S4x1024x8x64, .f32⟩
  | 12 => ⟨S4x8x128x8x64, .f32⟩
  | 13 => ⟨S4096x512, .f32⟩
  | 14 => ⟨S1024x4x8x64, .f32⟩
  | 15 => ⟨S4x1024x8x64, .f32⟩
  | 16 => ⟨S4x8x128x8x64, .f32⟩
  | 17 => ⟨S_, .i32⟩
  | 18 => ⟨S_, .f32⟩
  | 19 => ⟨S4x9x128x8x64, .f32⟩
  | 20 => ⟨S4x8x128x8x64, .f32⟩
  | 21 => ⟨S_, .i32⟩
  | 22 => ⟨S_, .f32⟩
  | 23 => ⟨S4x9x128x8x64, .f32⟩
  | 24 => ⟨S4x8x128x8x64, .f32⟩
  | 25 => ⟨S4x8x256x8x64, .f32⟩
  | 26 => ⟨S4x8x256x8x64, .f32⟩
  | 27 => ⟨S4x8x8x128x256, .f32⟩
  | 28 => ⟨S_, .f32⟩
  | 29 => ⟨S4x8x8x128x256, .f32⟩
  | 30 => ⟨S4x8x8x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S8, .i32⟩
  | 42 => ⟨S8x1x1, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S_, .i32⟩
  | 51 => ⟨S8x1x1, .i32⟩
  | 52 => ⟨S8x1x1, .i32⟩
  | 53 => ⟨S1x1x256, .i32⟩
  | 54 => ⟨S8x1x256, .i32⟩
  | 55 => ⟨S8x1x256, .i32⟩
  | 56 => ⟨S8x1x256, .i32⟩
  | 57 => ⟨S_, .i32⟩
  | 58 => ⟨S8x1x256, .i32⟩
  | 59 => ⟨S8x1x256, .i32⟩
  | 60 => ⟨S_, .i32⟩
  | 61 => ⟨S8x1x256, .i32⟩
  | 62 => ⟨S8x1x256, .i1⟩
  | 63 => ⟨S1x128x256, .i1⟩
  | 64 => ⟨S8x128x256, .i1⟩
  | 65 => ⟨S8x128x256, .i1⟩
  | 66 => ⟨S8x128x256, .i1⟩
  | 67 => ⟨S1x8x1x128x256, .i1⟩
  | 68 => ⟨S_, .f32⟩
  | 69 => ⟨S_, .f32⟩
  | 70 => ⟨S4x8x8x128x256, .i1⟩
  | 71 => ⟨S4x8x8x128x256, .f32⟩
  | 72 => ⟨S4x8x8x128x256, .f32⟩
  | 73 => ⟨S_, .f32⟩
  | 74 => ⟨S4x8x8x128x256, .f32⟩
  | 75 => ⟨S_, .f32⟩
  | 76 => ⟨S4x8x8x128, .f32⟩
  | 77 => ⟨S4x8x8x128x1, .f32⟩
  | 78 => ⟨S4x8x8x128x256, .f32⟩
  | 79 => ⟨S4x8x8x128x256, .i1⟩
  | 80 => ⟨S4x8x8x128x256, .f32⟩
  | 81 => ⟨S_, .f32⟩
  | 82 => ⟨S4x8x8x128, .f32⟩
  | 83 => ⟨S4x8x8x128x1, .f32⟩
  | 84 => ⟨S4x8x8x128x256, .f32⟩
  | 85 => ⟨S4x8x8x128x256, .f32⟩
  | 86 => ⟨S4x8x8x128x256, .f32⟩
  | 87 => ⟨S_, .f32⟩
  | 88 => ⟨S4x8x8x128, .f32⟩
  | 89 => ⟨S4x8x8x64x128, .f32⟩
  | 90 => ⟨S4x8x128x8x64, .f32⟩
  | 91 => ⟨S4x8x128x8, .f32⟩
  | 92 => ⟨S4x8x128x8x1, .f32⟩
  | 93 => ⟨S4x8x128x8x64, .f32⟩
  | 94 => ⟨S4x8x128x8x64, .f32⟩
  | 95 => ⟨S4x8x128x8x1, .f32⟩
  | 96 => ⟨S_, .f32⟩
  | 97 => ⟨S4x8x128x8x1, .f32⟩
  | 98 => ⟨S4x8x128x8x1, .f32⟩
  | 99 => ⟨S4x8x8x128, .f32⟩
  | 100 => ⟨S4x8x8x128, .f32⟩
  | 101 => ⟨S4x8x8x128, .f32⟩
  | 102 => ⟨S4x8x128x8, .f32⟩
  | 103 => ⟨S4x8x128x8x1, .f32⟩
  | 104 => ⟨S4x8x128x8x64, .f32⟩
  | 105 => ⟨S1024x4x8x64, .f32⟩
  | 106 => ⟨S4x1024x8x64, .f32⟩
  | 107 => ⟨S4x8x128x8x64, .f32⟩
  | 108 => ⟨S1024x4x8x64, .f32⟩
  | 109 => ⟨S4x1024x8x64, .f32⟩
  | 110 => ⟨S4x8x128x8x64, .f32⟩
  | 111 => ⟨S_, .f32⟩
  | 112 => ⟨S4x8x128x8, .f32⟩
  | 113 => ⟨S4x8x128x8x1, .f32⟩
  | 114 => ⟨S_, .f32⟩
  | 115 => ⟨S4x8x128x8, .f32⟩
  | 116 => ⟨S4x8x8x128, .f32⟩
  | 117 => ⟨S4x8x8x128, .f32⟩
  | 118 => ⟨S4x8x128x8x64, .f32⟩
  | 119 => ⟨S4x8x128x8x64, .f32⟩
  | 120 => ⟨S4x8x128x8x64, .f32⟩
  | 121 => ⟨S_, .f32⟩
  | 122 => ⟨S4x8x128x8, .f32⟩
  | 123 => ⟨S4x8x128x8x1, .f32⟩
  | 124 => ⟨S4x8x128x8x1, .f32⟩
  | 125 => ⟨S4x8x128x8x64, .f32⟩
  | 126 => ⟨S4x8x128x8x64, .f32⟩
  | 127 => ⟨S_, .f32⟩
  | _ => ⟨S4096x512, .bf16⟩

abbrev hbmTy0_1 (i : Nat) : BufTy := match i % 128 with
  | 0 => ⟨S4x8x128x8, .f32⟩
  | 1 => ⟨S4x8x8x128, .f32⟩
  | 2 => ⟨S4x8x8x128, .f32⟩
  | 3 => ⟨S4x8x8x64x128, .f32⟩
  | 4 => ⟨S4x8x8x128x256, .f32⟩
  | 5 => ⟨S4x8x8x64x256, .f32⟩
  | 6 => ⟨S4x8x256x8x64, .f32⟩
  | 7 => ⟨S4x8x8x128x256, .f32⟩
  | 8 => ⟨S4x8x8x128x256, .f32⟩
  | 9 => ⟨S4x8x8x128x256, .f32⟩
  | 10 => ⟨S_, .f32⟩
  | 11 => ⟨S4x8x8x128x256, .f32⟩
  | 12 => ⟨S4x8x8x128x256, .f32⟩
  | 13 => ⟨S_, .f32⟩
  | 14 => ⟨S4x8x8x128x256, .f32⟩
  | 15 => ⟨S4x8x8x128x256, .f32⟩
  | 16 => ⟨S4x8x8x256x64, .f32⟩
  | 17 => ⟨S4x8x256x8x64, .f32⟩
  | 18 => ⟨S4x8x8x128x64, .f32⟩
  | 19 => ⟨S4x8x128x8x64, .f32⟩
  | 20 => ⟨S4x8x128x8x64, .f32⟩
  | 21 => ⟨S4x8x128x8x64, .f32⟩
  | 22 => ⟨S4x8x128x8x64, .f32⟩
  | 23 => ⟨S4x8x128x8x64, .f32⟩
  | 24 => ⟨S4x1024x512, .f32⟩
  | 25 => ⟨S1024x4x512, .f32⟩
  | 26 => ⟨S1024x2048, .f32⟩
  | 27 => ⟨S4x1024x512, .f32⟩
  | 28 => ⟨S1024x4x512, .f32⟩
  | 29 => ⟨S1024x2048, .f32⟩
  | 30 => ⟨S4x1024x512, .f32⟩
  | 31 => ⟨S1024x4x512, .f32⟩
  | 32 => ⟨S1024x2048, .f32⟩
  | 33 => ⟨S4x1024x512, .f32⟩
  | 34 => ⟨S1024x4x512, .f32⟩
  | 35 => ⟨S1024x2048, .f32⟩
  | 36 => ⟨S4x1024x512, .f32⟩
  | 37 => ⟨S1024x4x512, .f32⟩
  | 38 => ⟨S1024x2048, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_call2_v0 : Ref sig .tc := ⟨.hbm, 69, rfl⟩
abbrev main_v52_1 : Ref sig .tc := ⟨.hbm, 70, rfl⟩
abbrev main_call2_v2 : Ref sig .tc := ⟨.hbm, 71, rfl⟩
abbrev main_v52_0 : Ref sig .tc := ⟨.hbm, 72, rfl⟩
abbrev main_call2_cst : Ref sig .tc := ⟨.hbm, 73, rfl⟩
abbrev main_v52_2 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_15 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_call3_cst : Ref sig .tc := ⟨.hbm, 138, rfl⟩
abbrev main_call3_v0 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩

abbrev nD : Nat := 1
abbrev τ : Topo := Topo.v7x

variable {F : FTy → Type} [FloatOps F]
-- ==== Ffn.lean ====
abbrev S4096x1024 : Shape := ⟨2, ![4096, 1024]⟩
abbrev S4x4x704x1024 : Shape := ⟨4, ![4, 4, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x4096x704 : Shape := ⟨3, ![1, 4096, 704]⟩
abbrev S4096x704 : Shape := ⟨2, ![4096, 704]⟩
abbrev S4096x256 : Shape := ⟨2, ![4096, 256]⟩
abbrev S704x256 : Shape := ⟨2, ![704, 256]⟩
abbrev S1x1x704x256 : Shape := ⟨4, ![1, 1, 704, 256]⟩

abbrev nBuf : Space → Nat
  | .hbm => 17
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4x4096x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .hbm, ⟨13, _⟩ => ⟨S4096x1024, .f32⟩
  | .hbm, ⟨14, _⟩ => ⟨S4x4x704x1024, .f32⟩
  | .hbm, ⟨15, _⟩ => ⟨S4x4x704x1024, .f32⟩
  | .hbm, ⟨16, _⟩ => ⟨S4x4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S4x1x704x1024, .bf16⟩
  | .local _ .vmem, ⟨30, _⟩ => ⟨S512x1024, .f32⟩
  | .local _ .vmem, ⟨31, _⟩ => ⟨S512x1024, .f32⟩
  | .local _ .vmem, ⟨32, _⟩ => ⟨S4096x1024, .bf16⟩
  | .local _ .vmem, ⟨33, _⟩ => ⟨S1x4096x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S1x4096x704, .bf16⟩
  | .local _ .vmem, ⟨37, _⟩ => ⟨S1x1x704x1024, .f32⟩
  | .local _ .vmem, ⟨38, _⟩ => ⟨S1x1x704x1024, .f32⟩
  | .local _ .vmem, ⟨39, _⟩ => ⟨S1x1x704x1024, .f32⟩
  | .local _ .vmem, ⟨40, _⟩ => ⟨S1x1x704x1024, .f32⟩
  | .local _ .vmem, ⟨41, _⟩ => ⟨S1x4096x704, .bf16⟩
  | .local _ .vmem, ⟨42, _⟩ => ⟨S1x4096x704, .bf16⟩
  | .local _ .vmem, ⟨43, _⟩ => ⟨S4096x1024, .bf16⟩
  | .local _ .vmem, ⟨44, _⟩ => ⟨S1x1x704x1024, .f32⟩
  | .local _ .vmem, ⟨45, _⟩ => ⟨S1x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x704x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc3_transform_6 (i : grid3.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x704x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x704x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnIdeal.lean ====
abbrev S4096x1024 : Shape := ⟨2, ![4096, 1024]⟩
abbrev S4x4x704x1024 : Shape := ⟨4, ![4, 4, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x4096x704 : Shape := ⟨3, ![1, 4096, 704]⟩
abbrev S4096x704 : Shape := ⟨2, ![4096, 704]⟩
abbrev S4096x256 : Shape := ⟨2, ![4096, 256]⟩
abbrev S704x256 : Shape := ⟨2, ![704, 256]⟩
abbrev S1x1x704x256 : Shape := ⟨4, ![1, 1, 704, 256]⟩

abbrev nBuf : Space → Nat
  | .hbm => 17
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4x4096x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .hbm, ⟨13, _⟩ => ⟨S4096x1024, .f32⟩
  | .hbm, ⟨14, _⟩ => ⟨S4x4x704x1024, .f32⟩
  | .hbm, ⟨15, _⟩ => ⟨S4x4x704x1024, .f32⟩
  | .hbm, ⟨16, _⟩ => ⟨S4x4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S4x1x704x1024, .bf16⟩
  | .local _ .vmem, ⟨30, _⟩ => ⟨S512x1024, .f32⟩
  | .local _ .vmem, ⟨31, _⟩ => ⟨S512x1024, .f32⟩
  | .local _ .vmem, ⟨32, _⟩ => ⟨S4096x1024, .bf16⟩
  | .local _ .vmem, ⟨33, _⟩ => ⟨S1x4096x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S1x4096x704, .bf16⟩
  | .local _ .vmem, ⟨37, _⟩ => ⟨S1x1x704x1024, .f32⟩
  | .local _ .vmem, ⟨38, _⟩ => ⟨S1x1x704x1024, .f32⟩
  | .local _ .vmem, ⟨39, _⟩ => ⟨S1x1x704x1024, .f32⟩
  | .local _ .vmem, ⟨40, _⟩ => ⟨S1x1x704x1024, .f32⟩
  | .local _ .vmem, ⟨41, _⟩ => ⟨S1x4096x704, .bf16⟩
  | .local _ .vmem, ⟨42, _⟩ => ⟨S1x4096x704, .bf16⟩
  | .local _ .vmem, ⟨43, _⟩ => ⟨S4096x1024, .bf16⟩
  | .local _ .vmem, ⟨44, _⟩ => ⟨S1x1x704x1024, .f32⟩
  | .local _ .vmem, ⟨45, _⟩ => ⟨S1x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x704x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc3_transform_6 (i : grid3.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x704x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x704x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnReferenceIdeal.lean ====
abbrev S4096x1024 : Shape := ⟨2, ![4096, 1024]⟩
abbrev S4x4x704x1024 : Shape := ⟨4, ![4, 4, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4x2x704x1024 : Shape := ⟨4, ![4, 2, 704, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4096x1024, .f32⟩
  | .hbm, ⟨9, _⟩ => ⟨S4x1x704x1024, .bf16⟩
  | .hbm, ⟨10, _⟩ => ⟨S4x704x1024, .bf16⟩
  | .hbm, ⟨11, _⟩ => ⟨S2816x1024, .bf16⟩
  | .hbm, ⟨12, _⟩ => ⟨S2816x1024, .f32⟩
  | .hbm, ⟨13, _⟩ => ⟨S4x1x704x1024, .bf16⟩
  | .hbm, ⟨14, _⟩ => ⟨S4x704x1024, .bf16⟩
  | .hbm, ⟨15, _⟩ => ⟨S2816x1024, .bf16⟩
  | .hbm, ⟨16, _⟩ => ⟨S2816x1024, .f32⟩
  | .hbm, ⟨17, _⟩ => ⟨S4x1x704x1024, .bf16⟩
  | .hbm, ⟨18, _⟩ => ⟨S4x704x1024, .bf16⟩
  | .hbm, ⟨19, _⟩ => ⟨S2816x1024, .bf16⟩
  | .hbm, ⟨20, _⟩ => ⟨S2816x1024, .f32⟩
  | .hbm, ⟨21, _⟩ => ⟨S1024x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S1024x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S2816x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S2816x1024, .f32⟩
  | .hbm, ⟨47, _⟩ => ⟨S1024x2816, .f32⟩
  | .hbm, ⟨48, _⟩ => ⟨S4096x1024, .f32⟩
  | .hbm, ⟨49, _⟩ => ⟨S2816x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S2816x1024, .f32⟩
  | .hbm, ⟨55, _⟩ => ⟨S1024x2816, .f32⟩
  | .hbm, ⟨56, _⟩ => ⟨S4096x1024, .f32⟩
  | .hbm, ⟨57, _⟩ => ⟨S4096x1024, .f32⟩
  | .hbm, ⟨58, _⟩ => ⟨S2816x1024, .f32⟩
  | .hbm, ⟨59, _⟩ => ⟨S4x1x704x1024, .f32⟩
  | .hbm, ⟨60, _⟩ => ⟨S4x2x704x1024, .f32⟩
  | .hbm, ⟨61, _⟩ => ⟨S4x1x704x1024, .f32⟩
  | .hbm, ⟨62, _⟩ => ⟨S4x4x704x1024, .f32⟩
  | .hbm, ⟨63, _⟩ => ⟨S4x1x704x1024, .f32⟩
  | .hbm, ⟨64, _⟩ => ⟨S4x2x704x1024, .f32⟩
  | .hbm, ⟨65, _⟩ => ⟨S4x1x704x1024, .f32⟩
  | .hbm, ⟨66, _⟩ => ⟨S4x4x704x1024, .f32⟩
  | .hbm, ⟨67, _⟩ => ⟨S4x1x704x1024, .f32⟩
  | .hbm, ⟨68, _⟩ => ⟨S4x2x704x1024, .f32⟩
  | .hbm, ⟨69, _⟩ => ⟨S4x1x704x1024, .f32⟩
  | .hbm, ⟨70, _⟩ => ⟨S4x4x704x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== FfnOne.lean ====
abbrev S4096x1024 : Shape := ⟨2, ![4096, 1024]⟩
abbrev S4x4x704x1024 : Shape := ⟨4, ![4, 4, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x4096x704 : Shape := ⟨3, ![1, 4096, 704]⟩
abbrev S4096x704 : Shape := ⟨2, ![4096, 704]⟩
abbrev S4096x256 : Shape := ⟨2, ![4096, 256]⟩
abbrev S704x256 : Shape := ⟨2, ![704, 256]⟩
abbrev S1x1x704x256 : Shape := ⟨4, ![1, 1, 704, 256]⟩

abbrev nBuf : Space → Nat
  | .hbm => 17
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4x4096x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .hbm, ⟨13, _⟩ => ⟨S4096x1024, .f32⟩
  | .hbm, ⟨14, _⟩ => ⟨S4x4x704x1024, .f32⟩
  | .hbm, ⟨15, _⟩ => ⟨S4x4x704x1024, .f32⟩
  | .hbm, ⟨16, _⟩ => ⟨S4x4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S4x1x704x1024, .bf16⟩
  | .local _ .vmem, ⟨30, _⟩ => ⟨S512x1024, .f32⟩
  | .local _ .vmem, ⟨31, _⟩ => ⟨S512x1024, .f32⟩
  | .local _ .vmem, ⟨32, _⟩ => ⟨S4096x1024, .bf16⟩
  | .local _ .vmem, ⟨33, _⟩ => ⟨S1x4096x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S1x4096x704, .bf16⟩
  | .local _ .vmem, ⟨37, _⟩ => ⟨S1x1x704x1024, .f32⟩
  | .local _ .vmem, ⟨38, _⟩ => ⟨S1x1x704x1024, .f32⟩
  | .local _ .vmem, ⟨39, _⟩ => ⟨S1x1x704x1024, .f32⟩
  | .local _ .vmem, ⟨40, _⟩ => ⟨S1x1x704x1024, .f32⟩
  | .local _ .vmem, ⟨41, _⟩ => ⟨S1x4096x704, .bf16⟩
  | .local _ .vmem, ⟨42, _⟩ => ⟨S1x4096x704, .bf16⟩
  | .local _ .vmem, ⟨43, _⟩ => ⟨S4096x1024, .bf16⟩
  | .local _ .vmem, ⟨44, _⟩ => ⟨S1x1x704x1024, .f32⟩
  | .local _ .vmem, ⟨45, _⟩ => ⟨S1x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x704x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc3_transform_6 (i : grid3.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x704x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x704x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnOneIdeal.lean ====
abbrev S4096x1024 : Shape := ⟨2, ![4096, 1024]⟩
abbrev S4x4x704x1024 : Shape := ⟨4, ![4, 4, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x4096x704 : Shape := ⟨3, ![1, 4096, 704]⟩
abbrev S4096x704 : Shape := ⟨2, ![4096, 704]⟩
abbrev S4096x256 : Shape := ⟨2, ![4096, 256]⟩
abbrev S704x256 : Shape := ⟨2, ![704, 256]⟩
abbrev S1x1x704x256 : Shape := ⟨4, ![1, 1, 704, 256]⟩

abbrev nBuf : Space → Nat
  | .hbm => 17
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4x4096x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .hbm, ⟨13, _⟩ => ⟨S4096x1024, .f32⟩
  | .hbm, ⟨14, _⟩ => ⟨S4x4x704x1024, .f32⟩
  | .hbm, ⟨15, _⟩ => ⟨S4x4x704x1024, .f32⟩
  | .hbm, ⟨16, _⟩ => ⟨S4x4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S4x1x704x1024, .bf16⟩
  | .local _ .vmem, ⟨30, _⟩ => ⟨S512x1024, .f32⟩
  | .local _ .vmem, ⟨31, _⟩ => ⟨S512x1024, .f32⟩
  | .local _ .vmem, ⟨32, _⟩ => ⟨S4096x1024, .bf16⟩
  | .local _ .vmem, ⟨33, _⟩ => ⟨S1x4096x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S1x4096x704, .bf16⟩
  | .local _ .vmem, ⟨37, _⟩ => ⟨S1x1x704x1024, .f32⟩
  | .local _ .vmem, ⟨38, _⟩ => ⟨S1x1x704x1024, .f32⟩
  | .local _ .vmem, ⟨39, _⟩ => ⟨S1x1x704x1024, .f32⟩
  | .local _ .vmem, ⟨40, _⟩ => ⟨S1x1x704x1024, .f32⟩
  | .local _ .vmem, ⟨41, _⟩ => ⟨S1x4096x704, .bf16⟩
  | .local _ .vmem, ⟨42, _⟩ => ⟨S1x4096x704, .bf16⟩
  | .local _ .vmem, ⟨43, _⟩ => ⟨S4096x1024, .bf16⟩
  | .local _ .vmem, ⟨44, _⟩ => ⟨S1x1x704x1024, .f32⟩
  | .local _ .vmem, ⟨45, _⟩ => ⟨S1x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x704x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc3_transform_6 (i : grid3.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x704x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x704x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnOneReferenceIdeal.lean ====
abbrev S4096x1024 : Shape := ⟨2, ![4096, 1024]⟩
abbrev S4x4x704x1024 : Shape := ⟨4, ![4, 4, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4x2x704x1024 : Shape := ⟨4, ![4, 2, 704, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4096x1024, .f32⟩
  | .hbm, ⟨9, _⟩ => ⟨S4x1x704x1024, .bf16⟩
  | .hbm, ⟨10, _⟩ => ⟨S4x704x1024, .bf16⟩
  | .hbm, ⟨11, _⟩ => ⟨S2816x1024, .bf16⟩
  | .hbm, ⟨12, _⟩ => ⟨S2816x1024, .f32⟩
  | .hbm, ⟨13, _⟩ => ⟨S4x1x704x1024, .bf16⟩
  | .hbm, ⟨14, _⟩ => ⟨S4x704x1024, .bf16⟩
  | .hbm, ⟨15, _⟩ => ⟨S2816x1024, .bf16⟩
  | .hbm, ⟨16, _⟩ => ⟨S2816x1024, .f32⟩
  | .hbm, ⟨17, _⟩ => ⟨S4x1x704x1024, .bf16⟩
  | .hbm, ⟨18, _⟩ => ⟨S4x704x1024, .bf16⟩
  | .hbm, ⟨19, _⟩ => ⟨S2816x1024, .bf16⟩
  | .hbm, ⟨20, _⟩ => ⟨S2816x1024, .f32⟩
  | .hbm, ⟨21, _⟩ => ⟨S1024x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S1024x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S2816x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S2816x1024, .f32⟩
  | .hbm, ⟨47, _⟩ => ⟨S1024x2816, .f32⟩
  | .hbm, ⟨48, _⟩ => ⟨S4096x1024, .f32⟩
  | .hbm, ⟨49, _⟩ => ⟨S2816x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S2816x1024, .f32⟩
  | .hbm, ⟨55, _⟩ => ⟨S1024x2816, .f32⟩
  | .hbm, ⟨56, _⟩ => ⟨S4096x1024, .f32⟩
  | .hbm, ⟨57, _⟩ => ⟨S4096x1024, .f32⟩
  | .hbm, ⟨58, _⟩ => ⟨S2816x1024, .f32⟩
  | .hbm, ⟨59, _⟩ => ⟨S4x1x704x1024, .f32⟩
  | .hbm, ⟨60, _⟩ => ⟨S4x1x704x1024, .f32⟩
  | .hbm, ⟨61, _⟩ => ⟨S4x2x704x1024, .f32⟩
  | .hbm, ⟨62, _⟩ => ⟨S4x4x704x1024, .f32⟩
  | .hbm, ⟨63, _⟩ => ⟨S4x1x704x1024, .f32⟩
  | .hbm, ⟨64, _⟩ => ⟨S4x1x704x1024, .f32⟩
  | .hbm, ⟨65, _⟩ => ⟨S4x2x704x1024, .f32⟩
  | .hbm, ⟨66, _⟩ => ⟨S4x4x704x1024, .f32⟩
  | .hbm, ⟨67, _⟩ => ⟨S4x1x704x1024, .f32⟩
  | .hbm, ⟨68, _⟩ => ⟨S4x1x704x1024, .f32⟩
  | .hbm, ⟨69, _⟩ => ⟨S4x2x704x1024, .f32⟩
  | .hbm, ⟨70, _⟩ => ⟨S4x4x704x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== FfnZero.lean ====
abbrev S4096x1024 : Shape := ⟨2, ![4096, 1024]⟩
abbrev S4x4x704x1024 : Shape := ⟨4, ![4, 4, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x4096x704 : Shape := ⟨3, ![1, 4096, 704]⟩
abbrev S4096x704 : Shape := ⟨2, ![4096, 704]⟩
abbrev S4096x256 : Shape := ⟨2, ![4096, 256]⟩
abbrev S704x256 : Shape := ⟨2, ![704, 256]⟩
abbrev S1x1x704x256 : Shape := ⟨4, ![1, 1, 704, 256]⟩

abbrev nBuf : Space → Nat
  | .hbm => 17
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4x4096x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .hbm, ⟨13, _⟩ => ⟨S4096x1024, .f32⟩
  | .hbm, ⟨14, _⟩ => ⟨S4x4x704x1024, .f32⟩
  | .hbm, ⟨15, _⟩ => ⟨S4x4x704x1024, .f32⟩
  | .hbm, ⟨16, _⟩ => ⟨S4x4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S4x1x704x1024, .bf16⟩
  | .local _ .vmem, ⟨30, _⟩ => ⟨S512x1024, .f32⟩
  | .local _ .vmem, ⟨31, _⟩ => ⟨S512x1024, .f32⟩
  | .local _ .vmem, ⟨32, _⟩ => ⟨S4096x1024, .bf16⟩
  | .local _ .vmem, ⟨33, _⟩ => ⟨S1x4096x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S1x4096x704, .bf16⟩
  | .local _ .vmem, ⟨37, _⟩ => ⟨S1x1x704x1024, .f32⟩
  | .local _ .vmem, ⟨38, _⟩ => ⟨S1x1x704x1024, .f32⟩
  | .local _ .vmem, ⟨39, _⟩ => ⟨S1x1x704x1024, .f32⟩
  | .local _ .vmem, ⟨40, _⟩ => ⟨S1x1x704x1024, .f32⟩
  | .local _ .vmem, ⟨41, _⟩ => ⟨S1x4096x704, .bf16⟩
  | .local _ .vmem, ⟨42, _⟩ => ⟨S1x4096x704, .bf16⟩
  | .local _ .vmem, ⟨43, _⟩ => ⟨S4096x1024, .bf16⟩
  | .local _ .vmem, ⟨44, _⟩ => ⟨S1x1x704x1024, .f32⟩
  | .local _ .vmem, ⟨45, _⟩ => ⟨S1x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x704x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x704x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x704x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnZeroIdeal.lean ====
abbrev S4096x1024 : Shape := ⟨2, ![4096, 1024]⟩
abbrev S4x4x704x1024 : Shape := ⟨4, ![4, 4, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x4096x704 : Shape := ⟨3, ![1, 4096, 704]⟩
abbrev S4096x704 : Shape := ⟨2, ![4096, 704]⟩
abbrev S4096x256 : Shape := ⟨2, ![4096, 256]⟩
abbrev S704x256 : Shape := ⟨2, ![704, 256]⟩
abbrev S1x1x704x256 : Shape := ⟨4, ![1, 1, 704, 256]⟩

abbrev nBuf : Space → Nat
  | .hbm => 17
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4x4096x704, .bf16⟩
  | .hbm, ⟨9, _⟩ => ⟨S4x4096x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .hbm, ⟨13, _⟩ => ⟨S4096x1024, .f32⟩
  | .hbm, ⟨14, _⟩ => ⟨S4x4x704x1024, .f32⟩
  | .hbm, ⟨15, _⟩ => ⟨S4x4x704x1024, .f32⟩
  | .hbm, ⟨16, _⟩ => ⟨S4x4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S4x1x704x1024, .bf16⟩
  | .local _ .vmem, ⟨30, _⟩ => ⟨S512x1024, .f32⟩
  | .local _ .vmem, ⟨31, _⟩ => ⟨S512x1024, .f32⟩
  | .local _ .vmem, ⟨32, _⟩ => ⟨S4096x1024, .bf16⟩
  | .local _ .vmem, ⟨33, _⟩ => ⟨S1x4096x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S1x4096x704, .bf16⟩
  | .local _ .vmem, ⟨37, _⟩ => ⟨S1x1x704x1024, .f32⟩
  | .local _ .vmem, ⟨38, _⟩ => ⟨S1x1x704x1024, .f32⟩
  | .local _ .vmem, ⟨39, _⟩ => ⟨S1x1x704x1024, .f32⟩
  | .local _ .vmem, ⟨40, _⟩ => ⟨S1x1x704x1024, .f32⟩
  | .local _ .vmem, ⟨41, _⟩ => ⟨S1x4096x704, .bf16⟩
  | .local _ .vmem, ⟨42, _⟩ => ⟨S1x4096x704, .bf16⟩
  | .local _ .vmem, ⟨43, _⟩ => ⟨S4096x1024, .bf16⟩
  | .local _ .vmem, ⟨44, _⟩ => ⟨S1x1x704x1024, .f32⟩
  | .local _ .vmem, ⟨45, _⟩ => ⟨S1x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x704x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x704x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x704x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnZeroReferenceIdeal.lean ====
abbrev S4096x1024 : Shape := ⟨2, ![4096, 1024]⟩
abbrev S4x4x704x1024 : Shape := ⟨4, ![4, 4, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4x3x704x1024 : Shape := ⟨4, ![4, 3, 704, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4x704x1024, .f32⟩
  | .hbm, ⟨6, _⟩ => ⟨S4x4x704x1024, .f32⟩
  | .hbm, ⟨7, _⟩ => ⟨S4x4x704x1024, .f32⟩
  | .hbm, ⟨8, _⟩ => ⟨S4096x1024, .f32⟩
  | .hbm, ⟨9, _⟩ => ⟨S4x1x704x1024, .bf16⟩
  | .hbm, ⟨10, _⟩ => ⟨S4x704x1024, .bf16⟩
  | .hbm, ⟨11, _⟩ => ⟨S2816x1024, .bf16⟩
  | .hbm, ⟨12, _⟩ => ⟨S2816x1024, .f32⟩
  | .hbm, ⟨13, _⟩ => ⟨S4x1x704x1024, .bf16⟩
  | .hbm, ⟨14, _⟩ => ⟨S4x704x1024, .bf16⟩
  | .hbm, ⟨15, _⟩ => ⟨S2816x1024, .bf16⟩
  | .hbm, ⟨16, _⟩ => ⟨S2816x1024, .f32⟩
  | .hbm, ⟨17, _⟩ => ⟨S4x1x704x1024, .bf16⟩
  | .hbm, ⟨18, _⟩ => ⟨S4x704x1024, .bf16⟩
  | .hbm, ⟨19, _⟩ => ⟨S2816x1024, .bf16⟩
  | .hbm, ⟨20, _⟩ => ⟨S2816x1024, .f32⟩
  | .hbm, ⟨21, _⟩ => ⟨S1024x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S1024x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S2816x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S2816x1024, .f32⟩
  | .hbm, ⟨47, _⟩ => ⟨S1024x2816, .f32⟩
  | .hbm, ⟨48, _⟩ => ⟨S4096x1024, .f32⟩
  | .hbm, ⟨49, _⟩ => ⟨S2816x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S2816x1024, .f32⟩
  | .hbm, ⟨55, _⟩ => ⟨S1024x2816, .f32⟩
  | .hbm, ⟨56, _⟩ => ⟨S4096x1024, .f32⟩
  | .hbm, ⟨57, _⟩ => ⟨S4096x1024, .f32⟩
  | .hbm, ⟨58, _⟩ => ⟨S2816x1024, .f32⟩
  | .hbm, ⟨59, _⟩ => ⟨S4x1x704x1024, .f32⟩
  | .hbm, ⟨60, _⟩ => ⟨S4x3x704x1024, .f32⟩
  | .hbm, ⟨61, _⟩ => ⟨S4x4x704x1024, .f32⟩
  | .hbm, ⟨62, _⟩ => ⟨S4x1x704x1024, .f32⟩
  | .hbm, ⟨63, _⟩ => ⟨S4x3x704x1024, .f32⟩
  | .hbm, ⟨64, _⟩ => ⟨S4x4x704x1024, .f32⟩
  | .hbm, ⟨65, _⟩ => ⟨S4x1x704x1024, .f32⟩
  | .hbm, ⟨66, _⟩ => ⟨S4x3x704x1024, .f32⟩
  | .hbm, ⟨67, _⟩ => ⟨S4x4x704x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== FfnThree.lean ====
abbrev S4096x1024 : Shape := ⟨2, ![4096, 1024]⟩
abbrev S4x4x704x1024 : Shape := ⟨4, ![4, 4, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x4096x704 : Shape := ⟨3, ![1, 4096, 704]⟩
abbrev S4096x704 : Shape := ⟨2, ![4096, 704]⟩
abbrev S4096x256 : Shape := ⟨2, ![4096, 256]⟩
abbrev S704x256 : Shape := ⟨2, ![704, 256]⟩
abbrev S1x1x704x256 : Shape := ⟨4, ![1, 1, 704, 256]⟩
abbrev S4x704x1024 : Shape := ⟨3, ![4, 704, 1024]⟩

abbrev nBuf : Space → Nat
  | .hbm => 20
  | .vmem => 46
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4x4096x704, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .hbm, ⟨9, _⟩ => ⟨S4x4096x704, .bf16⟩
  | .hbm, ⟨10, _⟩ => ⟨S4096x1024, .f32⟩
  | .hbm, ⟨11, _⟩ => ⟨S4x4x704x1024, .f32⟩
  | .hbm, ⟨12, _⟩ => ⟨S4x4x704x1024, .f32⟩
  | .hbm, ⟨13, _⟩ => ⟨S4x4x704x1024, .f32⟩
  | .hbm, ⟨14, _⟩ => ⟨S4x1x704x1024, .f32⟩
  | .hbm, ⟨15, _⟩ => ⟨S4x704x1024, .f32⟩
  | .hbm, ⟨16, _⟩ => ⟨S4x1x704x1024, .f32⟩
  | .hbm, ⟨17, _⟩ => ⟨S4x704x1024, .f32⟩
  | .hbm, ⟨18, _⟩ => ⟨S4x1x704x1024, .f32⟩
  | .hbm, ⟨19, _⟩ => ⟨S4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S4x1x704x1024, .bf16⟩
  | .local _ .vmem, ⟨30, _⟩ => ⟨S512x1024, .f32⟩
  | .local _ .vmem, ⟨31, _⟩ => ⟨S512x1024, .f32⟩
  | .local _ .vmem, ⟨32, _⟩ => ⟨S4096x1024, .bf16⟩
  | .local _ .vmem, ⟨33, _⟩ => ⟨S1x4096x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S1x4096x704, .bf16⟩
  | .local _ .vmem, ⟨37, _⟩ => ⟨S1x1x704x1024, .f32⟩
  | .local _ .vmem, ⟨38, _⟩ => ⟨S1x1x704x1024, .f32⟩
  | .local _ .vmem, ⟨39, _⟩ => ⟨S1x1x704x1024, .f32⟩
  | .local _ .vmem, ⟨40, _⟩ => ⟨S1x1x704x1024, .f32⟩
  | .local _ .vmem, ⟨41, _⟩ => ⟨S1x4096x704, .bf16⟩
  | .local _ .vmem, ⟨42, _⟩ => ⟨S1x4096x704, .bf16⟩
  | .local _ .vmem, ⟨43, _⟩ => ⟨S4096x1024, .bf16⟩
  | .local _ .vmem, ⟨44, _⟩ => ⟨S1x1x704x1024, .f32⟩
  | .local _ .vmem, ⟨45, _⟩ => ⟨S1x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x704x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc3_transform_4 (i : grid3.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x704x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x704x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== FfnThreeReferenceIdeal.lean ====
abbrev S4096x1024 : Shape := ⟨2, ![4096, 1024]⟩
abbrev S4x4x704x1024 : Shape := ⟨4, ![4, 4, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4x704x1024, .bf16⟩
  | .hbm, ⟨2, _⟩ => ⟨S4x4x704x1024, .bf16⟩
  | .hbm, ⟨3, _⟩ => ⟨S4x4x704x1024, .bf16⟩
  | .hbm, ⟨4, _⟩ => ⟨S4096x1024, .bf16⟩
  | .hbm, ⟨5, _⟩ => ⟨S4096x1024, .f32⟩
  | .hbm, ⟨6, _⟩ => ⟨S4x1x704x1024, .bf16⟩
  | .hbm, ⟨7, _⟩ => ⟨S4x704x1024, .bf16⟩
  | .hbm, ⟨8, _⟩ => ⟨S2816x1024, .bf16⟩
  | .hbm, ⟨9, _⟩ => ⟨S2816x1024, .f32⟩
  | .hbm, ⟨10, _⟩ => ⟨S4x1x704x1024, .bf16⟩
  | .hbm, ⟨11, _⟩ => ⟨S4x704x1024, .bf16⟩
  | .hbm, ⟨12, _⟩ => ⟨S2816x1024, .bf16⟩
  | .hbm, ⟨13, _⟩ => ⟨S2816x1024, .f32⟩
  | .hbm, ⟨14, _⟩ => ⟨S4x1x704x1024, .bf16⟩
  | .hbm, ⟨15, _⟩ => ⟨S4x704x1024, .bf16⟩
  | .hbm, ⟨16, _⟩ => ⟨S2816x1024, .bf16⟩
  | .hbm, ⟨17, _⟩ => ⟨S2816x1024, .f32⟩
  | .hbm, ⟨18, _⟩ => ⟨S1024x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S1024x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x1024, .f32⟩
  | .hbm, ⟨38, _⟩ => ⟨S1024x2816, .f32⟩
  | .hbm, ⟨39, _⟩ => ⟨S2816x1024, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S2816x1024, .f32⟩
  | .hbm, ⟨44, _⟩ => ⟨S1024x2816, .f32⟩
  | .hbm, ⟨45, _⟩ => ⟨S4096x1024, .f32⟩
  | .hbm, ⟨46, _⟩ => ⟨S2816x1024, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S2816x1024, .f32⟩
  | .hbm, ⟨52, _⟩ => ⟨S1024x2816, .f32⟩
  | .hbm, ⟨53, _⟩ => ⟨S4096x1024, .f32⟩
  | .hbm, ⟨54, _⟩ => ⟨S4096x1024, .f32⟩
  | .hbm, ⟨55, _⟩ => ⟨S2816x1024, .f32⟩
  | .hbm, ⟨56, _⟩ => ⟨S4x704x1024, .f32⟩
  | .hbm, ⟨57, _⟩ => ⟨S4x704x1024, .f32⟩
  | .hbm, ⟨58, _⟩ => ⟨S4x704x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v15_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v15_1 : Ref sig .tc := ⟨.hbm, 31, rfl⟩
abbrev main_v15_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Glu.lean ====
abbrev S4096x1024 : Shape := ⟨2, ![4096, 1024]⟩
abbrev S1024x2048 : Shape := ⟨2, ![1024, 2048]⟩
abbrev S512x1024 : Shape := ⟨2, ![512, 1024]⟩
abbrev S4096x2048 : Shape := ⟨2, ![4096, 2048]⟩
abbrev S1024x1024 : Shape := ⟨2, ![1024, 1024]⟩
abbrev S1024x512 : Shape := ⟨2, ![1024, 512]⟩
abbrev S512x2048 : Shape := ⟨2, ![512, 2048]⟩
abbrev S4x2x256x1024 : Shape := ⟨4, ![4, 2, 256, 1024]⟩
abbrev S4096x256 : Shape := ⟨2, ![4096, 256]⟩
abbrev S4x1x256x256 : Shape := ⟨4, ![4, 1, 256, 256]⟩
abbrev S256x256 : Shape := ⟨2, ![256, 256]⟩
abbrev S1x1x256x256 : Shape := ⟨4, ![1, 1, 256, 256]⟩

abbrev nBuf : Space → Nat
  | .hbm => 20
  | .vmem => 72
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x1024, .bf16⟩
  | .hbm, ⟨3, _⟩ => ⟨S4096x1024, .f32⟩
  | .hbm, ⟨4, _⟩ => ⟨S1024x2048, .bf16⟩
  | .hbm, ⟨5, _⟩ => ⟨S4096x1024, .bf16⟩
  | .hbm, ⟨6, _⟩ => ⟨S4096x1024, .bf16⟩
  | .hbm, ⟨7, _⟩ => ⟨S4096x2048, .f32⟩
  | .hbm, ⟨8, _⟩ => ⟨S4096x2048, .f32⟩
  | .hbm, ⟨9, _⟩ => ⟨S4x2x256x1024, .f32⟩
  | .hbm, ⟨10, _⟩ => ⟨S4x2x256x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x2048, .f32⟩
  | .hbm, ⟨15, _⟩ => ⟨S4096x2048, .f32⟩
  | .hbm, ⟨16, _⟩ => ⟨S4x2x256x1024, .f32⟩
  | .hbm, ⟨17, _⟩ => ⟨S4x2x256x1024, .f32⟩
  | .hbm, ⟨18, _⟩ => ⟨S4096x1024, .f32⟩
  | .hbm, ⟨19, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S512x2048, .f32⟩
  | .local _ .vmem, ⟨10, _⟩ => ⟨S512x2048, .f32⟩
  | .local _ .vmem, ⟨11, _⟩ => ⟨S512x1024, .bf16⟩
  | .local _ .vmem, ⟨12, _⟩ => ⟨S512x1024, .bf16⟩
  | .local _ .vmem, ⟨13, _⟩ => ⟨S512x2048, .f32⟩
  | .local _ .vmem, ⟨14, _⟩ => ⟨S512x2048, .f32⟩
  | .local _ .vmem, ⟨15, _⟩ => ⟨S4096x1024, .bf16⟩
  | .local _ .vmem, ⟨16, _⟩ => ⟨S4096x256, .f32⟩
  | .local _ .vmem, ⟨17, _⟩ => ⟨S4096x256, .f32⟩
  | .local _ .vmem, ⟨18, _⟩ => ⟨S4x1x256x256, .f32⟩
  | .local _ .vmem, ⟨19, _⟩ => ⟨S4x1x256x256, .f32⟩
  | .local _ .vmem, ⟨20, _⟩ => ⟨S4096x1024, .bf16⟩
  | .local _ .vmem, ⟨21, _⟩ => ⟨S4096x256, .f32⟩
  | .local _ .vmem, ⟨22, _⟩ => ⟨S4096x256, .f32⟩
  | .local _ .vmem, ⟨23, _⟩ => ⟨S4x1x256x256, .f32⟩
  | .local _ .vmem, ⟨24, _⟩ => ⟨S4x1x256x256, .f32⟩
  | .local _ .vmem, ⟨25, _⟩ => ⟨S1024x2048, .f32⟩
  | .local _ .vmem, ⟨26, _⟩ => ⟨S1024x2048, .f32⟩
  | .local _ .vmem, ⟨27, _⟩ => ⟨S1024x2048, .bf16⟩
  | .local _ .vmem, ⟨28, _⟩ => ⟨S1024x1024, .f32⟩
  | .local _ .vmem, ⟨29, _⟩ => ⟨S1024x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .bf16⟩
  | .local _ .vmem, ⟨39, _⟩ => ⟨S512x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1024x2048, .bf16⟩
  | .local _ .vmem, ⟨43, _⟩ => ⟨S1024x2048, .f32⟩
  | .local _ .vmem, ⟨44, _⟩ => ⟨S1024x2048, .f32⟩
  | .local _ .vmem, ⟨45, _⟩ => ⟨S512x2048, .f32⟩
  | .local _ .vmem, ⟨46, _⟩ => ⟨S512x2048, .f32⟩
  | .local _ .vmem, ⟨47, _⟩ => ⟨S512x1024, .bf16⟩
  | .local _ .vmem, ⟨48, _⟩ => ⟨S512x1024, .bf16⟩
  | .local _ .vmem, ⟨49, _⟩ => ⟨S512x2048, .f32⟩
  | .local _ .vmem, ⟨50, _⟩ => ⟨S512x2048, .f32⟩
  | .local _ .vmem, ⟨51, _⟩ => ⟨S4096x1024, .bf16⟩
  | .local _ .vmem, ⟨52, _⟩ => ⟨S4096x256, .f32⟩
  | .local _ .vmem, ⟨53, _⟩ => ⟨S4096x256, .f32⟩
  | .local _ .vmem, ⟨54, _⟩ => ⟨S4x1x256x256, .f32⟩
  | .local _ .vmem, ⟨55, _⟩ => ⟨S4x1x256x256, .f32⟩
  | .local _ .vmem, ⟨56, _⟩ => ⟨S4096x1024, .bf16⟩
  | .local _ .vmem, ⟨57, _⟩ => ⟨S4096x256, .f32⟩
  | .local _ .vmem, ⟨58, _⟩ => ⟨S4096x256, .f32⟩
  | .local _ .vmem, ⟨59, _⟩ => ⟨S4x1x256x256, .f32⟩
  | .local _ .vmem, ⟨60, _⟩ => ⟨S4x1x256x256, .f32⟩
  | .local _ .vmem, ⟨61, _⟩ => ⟨S1024x2048, .f32⟩
  | .local _ .vmem, ⟨62, _⟩ => ⟨S1024x2048, .f32⟩
  | .local _ .vmem, ⟨63, _⟩ => ⟨S1024x2048, .bf16⟩
  | .local _ .vmem, ⟨64, _⟩ => ⟨S1024x1024, .f32⟩
  | .local _ .vmem, ⟨65, _⟩ => ⟨S1024x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg1_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg1_1 : Ref sig .tc := ⟨.vmem, 48, rfl⟩
abbrev cc9_stg2_0 : Ref sig .tc := ⟨.vmem, 49, rfl⟩
abbrev cc9_stg2_1 : Ref sig .tc := ⟨.vmem, 50, rfl⟩
abbrev cc10_stg0_0 : Ref sig .tc := ⟨.vmem, 51, rfl⟩
abbrev cc10_stg1_0 : Ref sig .tc := ⟨.vmem, 52, rfl⟩
abbrev cc10_stg1_1 : Ref sig .tc := ⟨.vmem, 53, rfl⟩
abbrev cc10_stg2_0 : Ref sig .tc := ⟨.vmem, 54, rfl⟩
abbrev cc10_stg2_1 : Ref sig .tc := ⟨.vmem, 55, rfl⟩
abbrev cc11_stg0_0 : Ref sig .tc := ⟨.vmem, 56, rfl⟩
abbrev cc11_stg1_0 : Ref sig .tc := ⟨.vmem, 57, rfl⟩
abbrev cc11_stg1_1 : Ref sig .tc := ⟨.vmem, 58, rfl⟩
abbrev cc11_stg2_0 : Ref sig .tc := ⟨.vmem, 59, rfl⟩
abbrev cc11_stg2_1 : Ref sig .tc := ⟨.vmem, 60, rfl⟩
abbrev cc12_stg0_0 : Ref sig .tc := ⟨.vmem, 61, rfl⟩
abbrev cc12_stg0_1 : Ref sig .tc := ⟨.vmem, 62, rfl⟩
abbrev cc12_stg1_0 : Ref sig .tc := ⟨.vmem, 63, rfl⟩
abbrev cc12_stg2_0 : Ref sig .tc := ⟨.vmem, 64, rfl⟩
abbrev cc12_stg2_1 : Ref sig .tc := ⟨.vmem, 65, rfl⟩
abbrev cc13_stg0_0 : Ref sig .tc := ⟨.vmem, 66, rfl⟩
abbrev cc13_stg0_1 : Ref sig .tc := ⟨.vmem, 67, rfl⟩
abbrev cc13_stg1_0 : Ref sig .tc := ⟨.vmem, 68, rfl⟩
abbrev cc13_stg1_1 : Ref sig .tc := ⟨.vmem, 69, rfl⟩
abbrev cc13_stg2_0 : Ref sig .tc := ⟨.vmem, 70, rfl⟩
abbrev cc13_stg2_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem1_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem1_1 : DmaSem sig := 48
abbrev cc9_sem2_0 : DmaSem sig := 49
abbrev cc9_sem2_1 : DmaSem sig := 50
abbrev cc10_sem0_0 : DmaSem sig := 51
abbrev cc10_sem1_0 : DmaSem sig := 52
abbrev cc10_sem1_1 : DmaSem sig := 53
abbrev cc10_sem2_0 : DmaSem sig := 54
abbrev cc10_sem2_1 : DmaSem sig := 55
abbrev cc11_sem0_0 : DmaSem sig := 56
abbrev cc11_sem1_0 : DmaSem sig := 57
abbrev cc11_sem1_1 : DmaSem sig := 58
abbrev cc11_sem2_0 : DmaSem sig := 59
abbrev cc11_sem2_1 : DmaSem sig := 60
abbrev cc12_sem0_0 : DmaSem sig := 61
abbrev cc12_sem0_1 : DmaSem sig := 62
abbrev cc12_sem1_0 : DmaSem sig := 63
abbrev cc12_sem2_0 : DmaSem sig := 64
abbrev cc12_sem2_1 : DmaSem sig := 65
abbrev cc13_sem0_0 : DmaSem sig := 66
abbrev cc13_sem0_1 : DmaSem sig := 67
abbrev cc13_sem1_0 : DmaSem sig := 68
abbrev cc13_sem1_1 : DmaSem sig := 69
abbrev cc13_sem2_0 : DmaSem sig := 70
abbrev cc13_sem2_1 : DmaSem sig := 71

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_2 (i : grid3.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4x1x256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc4_transform_2 (i : grid4.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4x1x256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x2048 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x2048 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S512x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S512x2048 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc10_transform_3 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage10_0 : Fin 1 → Memref sig .tc .vmem S4096x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S4096x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4x1x256x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc11_transform_3 (i : grid11.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage11_0 : Fin 1 → Memref sig .tc .vmem S4096x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 2 → Memref sig .tc .vmem S4096x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4x1x256x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x2048 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1024x2048 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1024x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S512x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S512x1024 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S512x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]
-- ==== GluReferenceIdeal.lean ====
abbrev S4096x1024 : Shape := ⟨2, ![4096, 1024]⟩
abbrev S1024x2048 : Shape := ⟨2, ![1024, 2048]⟩
abbrev S1024x1024 : Shape := ⟨2, ![1024, 1024]⟩
abbrev S_ : Shape := ⟨0, ![]⟩
abbrev S4x1x256x1024 : Shape := ⟨4, ![4, 1, 256, 1024]⟩
abbrev S4x2x256x1024 : Shape := ⟨4, ![4, 2, 256, 1024]⟩

abbrev nBuf : Space → Nat
  | .hbm => 156
  | .vmem => 0
  | .smem => 0
  | _ => 0

abbrev hbmTy0_0 (i : Nat) : BufTy := match i % 128 with
  | 0 => ⟨S4096x1024, .f32⟩
  | 1 => ⟨S1024x2048, .bf16⟩
  | 2 => ⟨S4096x1024, .bf16⟩
  | 3 => ⟨S4096x1024, .f32⟩
  | 4 => ⟨S1024x2048, .bf16⟩
  | 5 => ⟨S4096x1024, .bf16⟩
  | 6 => ⟨S1024x2048, .f32⟩
  | 7 => ⟨S1024x1024, .f32⟩
  | 8 => ⟨S1024x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S1024x1024, .f32⟩
  | 57 => ⟨S1024x1024, .f32⟩
  | 58 => ⟨S4096x1024, .f32⟩
  | 59 => ⟨S1024x1024, .f32⟩
  | 60 => ⟨S1024x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S1024x2048, .f32⟩
  | 79 => ⟨S1024x1024, .f32⟩
  | 80 => ⟨S1024x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1024x1024, .f32⟩
  | 1 => ⟨S1024x1024, .f32⟩
  | 2 => ⟨S4096x1024, .f32⟩
  | 3 => ⟨S1024x1024, .f32⟩
  | 4 => ⟨S1024x1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S4x1x256x1024, .f32⟩
  | 23 => ⟨S4x1x256x1024, .f32⟩
  | 24 => ⟨S4x2x256x1024, .f32⟩
  | 25 => ⟨S4x1x256x1024, .f32⟩
  | 26 => ⟨S4x1x256x1024, .f32⟩
  | 27 => ⟨S4x2x256x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_22 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_23 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_24 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩

abbrev nD : Nat := 1
abbrev τ : Topo := Topo.v7x

variable {F : FTy → Type} [FloatOps F]
-- ==== Cross.lean ====
abbrev S4096x1024 : Shape := ⟨2, ![4096, 1024]⟩
abbrev S256x1024 : Shape := ⟨2, ![256, 1024]⟩
abbrev S1024x1024 : Shape := ⟨2, ![1024, 1024]⟩
abbrev S1024x2048 : Shape := ⟨2, ![1024, 2048]⟩
abbrev S1024x512 : Shape := ⟨2, ![1024, 512]⟩
abbrev S256x2048 : Shape := ⟨2, ![256, 2048]⟩
abbrev S256x512 : Shape := ⟨2, ![256, 512]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 12
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S1024x1024, .bf16⟩
  | .hbm, ⟨3, _⟩ => ⟨S1024x2048, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S256x2048, .f32⟩
  | .hbm, ⟨9, _⟩ => ⟨S4096x1024, .bf16⟩
  | .hbm, ⟨10, _⟩ => ⟨S4096x1024, .f32⟩
  | .hbm, ⟨11, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S1024x2048, .bf16⟩
  | .local _ .vmem, ⟨7, _⟩ => ⟨S256x2048, .f32⟩
  | .local _ .vmem, ⟨8, _⟩ => ⟨S512x1024, .bf16⟩
  | .local _ .vmem, ⟨9, _⟩ => ⟨S512x1024, .bf16⟩
  | .local _ .vmem, ⟨10, _⟩ => ⟨S256x2048, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== CrossReferenceIdeal.lean ====
abbrev S4096x1024 : Shape := ⟨2, ![4096, 1024]⟩
abbrev S256x1024 : Shape := ⟨2, ![256, 1024]⟩
abbrev S1024x1024 : Shape := ⟨2, ![1024, 1024]⟩
abbrev S1024x2048 : Shape := ⟨2, ![1024, 2048]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S1024x1024, .bf16⟩
  | .hbm, ⟨3, _⟩ => ⟨S1024x2048, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S1024x2048, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x4x256, .f32⟩
  | .hbm, ⟨15, _⟩ => ⟨S1024x1024, .f32⟩
  | .hbm, ⟨16, _⟩ => ⟨S256x1024, .f32⟩
  | .hbm, ⟨17, _⟩ => ⟨S256x4x256, .f32⟩
  | .hbm, ⟨18, _⟩ => ⟨S1024x1024, .f32⟩
  | .hbm, ⟨19, _⟩ => ⟨S256x1024, .f32⟩
  | .hbm, ⟨20, _⟩ => ⟨S256x4x256, .f32⟩
  | .hbm, ⟨21, _⟩ => ⟨S4x4096x256, .f32⟩
  | .hbm, ⟨22, _⟩ => ⟨S_, .f32⟩
  | .hbm, ⟨23, _⟩ => ⟨S4x4096x256, .f32⟩
  | .hbm, ⟨24, _⟩ => ⟨S4x4096x256, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x256, .f32⟩
  | .hbm, ⟨32, _⟩ => ⟨S4x4096x256, .f32⟩
  | .hbm, ⟨33, _⟩ => ⟨S4x4096x256, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x256, .f32⟩
  | .hbm, ⟨38, _⟩ => ⟨S4x4096x256, .f32⟩
  | .hbm, ⟨39, _⟩ => ⟨S4x256x4096, .f32⟩
  | .hbm, ⟨40, _⟩ => ⟨S4096x4x256, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== CrossGrads.lean ====
abbrev S256x1024 : Shape := ⟨2, ![256, 1024]⟩
abbrev S4096x1024 : Shape := ⟨2, ![4096, 1024]⟩
abbrev S256x2048 : Shape := ⟨2, ![256, 2048]⟩
abbrev S4x4x256x1024 : Shape := ⟨4, ![4, 4, 256, 1024]⟩
abbrev S4096x256 : Shape := ⟨2, ![4096, 256]⟩
abbrev S4x1x256x256 : Shape := ⟨4, ![4, 1, 256, 256]⟩
abbrev S256x256 : Shape := ⟨2, ![256, 256]⟩
abbrev S1x1x256x256 : Shape := ⟨4, ![1, 1, 256, 256]⟩

abbrev nBuf : Space → Nat
  | .hbm => 37
  | .vmem => 80
  | .smem => 0
  | _ => 0

abbrev bufTy : (tb : Table) → Fin (tcTables nBuf tb) → BufTy
  | .hbm, ⟨0, _⟩ => ⟨S256x1024, .f32⟩
  | .hbm, ⟨1, _⟩ => ⟨S4096x1024, .bf16⟩
  | .hbm, ⟨2, _⟩ => ⟨S4096x1024, .bf16⟩
  | .hbm, ⟨3, _⟩ => ⟨S256x2048, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S256x2048, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S256x2048, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S256x2048, .f32⟩
  | .hbm, ⟨19, _⟩ => ⟨S4096x1024, .bf16⟩
  | .hbm, ⟨20, _⟩ => ⟨S4096x1024, .bf16⟩
  | .hbm, ⟨21, _⟩ => ⟨S4x4x256x1024, .f32⟩
  | .hbm, ⟨22, _⟩ => ⟨S4x4x256x1024, .f32⟩
  | .hbm, ⟨23, _⟩ => ⟨S4x4x256x1024, .f32⟩
  | .hbm, ⟨24, _⟩ => ⟨S4x4x256x1024, .f32⟩
  | .hbm, ⟨25, _⟩ => ⟨S4x4x256x1024, .f32⟩
  | .hbm, ⟨26, _⟩ => ⟨S4x4x256x1024, .f32⟩
  | .hbm, ⟨27, _⟩ => ⟨S4x4x256x1024, .f32⟩
  | .hbm, ⟨28, _⟩ => ⟨S4x4x256x1024, .f32⟩
  | .hbm, ⟨29, _⟩ => ⟨S4x4x256x1024, .f32⟩
  | .hbm, ⟨30, _⟩ => ⟨S4x4x256x1024, .f32⟩
  | .hbm, ⟨31, _⟩ => ⟨S4x4x256x1024, .f32⟩
  | .hbm, ⟨32, _⟩ => ⟨S4x4x256x1024, .f32⟩
  | .hbm, ⟨33, _⟩ => ⟨S4x4x256x1024, .f32⟩
  | .hbm, ⟨34, _⟩ => ⟨S4x4x256x1024, .f32⟩
  | .hbm, ⟨35, _⟩ => ⟨S4x4x256x1024, .f32⟩
  | .hbm, ⟨36, _⟩ => ⟨S4x4x256x1024, .f32⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S4x1x256x256, .f32⟩
  | .local _ .vmem, ⟨4, _⟩ => ⟨S4x1x256x256, .f32⟩
  | .local _ .vmem, ⟨5, _⟩ => ⟨S4096x1024, .bf16⟩
  | .local _ .vmem, ⟨6, _⟩ => ⟨S4096x256, .bf16⟩
  | .local _ .vmem, ⟨7, _⟩ => ⟨S4096x256, .bf16⟩
  | .local _ .vmem, ⟨8, _⟩ => ⟨S4x1x256x256, .f32⟩
  | .local _ .vmem, ⟨9, _⟩ => ⟨S4x1x256x256, .f32⟩
  | .local _ .vmem, ⟨10, _⟩ => ⟨S256x1024, .f32⟩
  | .local _ .vmem, ⟨11, _⟩ => ⟨S256x256, .f32⟩
  | .local _ .vmem, ⟨12, _⟩ => ⟨S256x256, .f32⟩
  | .local _ .vmem, ⟨13, _⟩ => ⟨S4x1x256x256, .f32⟩
  | .local _ .vmem, ⟨14, _⟩ => ⟨S4x1x256x256, .f32⟩
  | .local _ .vmem, ⟨15, _⟩ => ⟨S256x1024, .f32⟩
  | .local _ .vmem, ⟨16, _⟩ => ⟨S256x256, .f32⟩
  | .local _ .vmem, ⟨17, _⟩ => ⟨S256x256, .f32⟩
  | .local _ .vmem, ⟨18, _⟩ => ⟨S4x1x256x256, .f32⟩
  | .local _ .vmem, ⟨19, _⟩ => ⟨S4x1x256x256, .f32⟩
  | .local _ .vmem, ⟨20, _⟩ => ⟨S4096x1024, .bf16⟩
  | .local _ .vmem, ⟨21, _⟩ => ⟨S4096x256, .bf16⟩
  | .local _ .vmem, ⟨22, _⟩ => ⟨S4096x256, .bf16⟩
  | .local _ .vmem, ⟨23, _⟩ => ⟨S4x1x256x256, .f32⟩
  | .local _ .vmem, ⟨24, _⟩ => ⟨S4x1x256x256, .f32⟩
  | .local _ .vmem, ⟨25, _⟩ => ⟨S4096x1024, .bf16⟩
  | .local _ .vmem, ⟨26, _⟩ => ⟨S4096x256, .bf16⟩
  | .local _ .vmem, ⟨27, _⟩ => ⟨S4096x256, .bf16⟩
  | .local _ .vmem, ⟨28, _⟩ => ⟨S4x1x256x256, .f32⟩
  | .local _ .vmem, ⟨29, _⟩ => ⟨S4x1x256x256, .f32⟩
  | .local _ .vmem, ⟨30, _⟩ => ⟨S256x1024, .f32⟩
  | .local _ .vmem, ⟨31, _⟩ => ⟨S256x256, .f32⟩
  | .local _ .vmem, ⟨32, _⟩ => ⟨S256x256, .f32⟩
  | .local _ .vmem, ⟨33, _⟩ => ⟨S4x1x256x256, .f32⟩
  | .local _ .vmem, ⟨34, _⟩ => ⟨S4x1x256x256, .f32⟩
  | .local _ .vmem, ⟨35, _⟩ => ⟨S256x1024, .f32⟩
  | .local _ .vmem, ⟨36, _⟩ => ⟨S256x256, .f32⟩
  | .local _ .vmem, ⟨37, _⟩ => ⟨S256x256, .f32⟩
  | .local _ .vmem, ⟨38, _⟩ => ⟨S4x1x256x256, .f32⟩
  | .local _ .vmem, ⟨39, _⟩ => ⟨S4x1x256x256, .f32⟩
  | .local _ .vmem, ⟨40, _⟩ => ⟨S4096x1024, .bf16⟩
  | .local _ .vmem, ⟨41, _⟩ => ⟨S4096x256, .bf16⟩
  | .local _ .vmem, ⟨42, _⟩ => ⟨S4096x256, .bf16⟩
  | .local _ .vmem, ⟨43, _⟩ => ⟨S4x1x256x256, .f32⟩
  | .local _ .vmem, ⟨44, _⟩ => ⟨S4x1x256x256, .f32⟩
  | .local _ .vmem, ⟨45, _⟩ => ⟨S4096x1024, .bf16⟩
  | .local _ .vmem, ⟨46, _⟩ => ⟨S4096x256, .bf16⟩
  | .local _ .vmem, ⟨47, _⟩ => ⟨S4096x256, .bf16⟩
  | .local _ .vmem, ⟨48, _⟩ => ⟨S4x1x256x256, .f32⟩
  | .local _ .vmem, ⟨49, _⟩ => ⟨S4x1x256x256, .f32⟩
  | .local _ .vmem, ⟨50, _⟩ => ⟨S256x1024, .f32⟩
  | .local _ .vmem, ⟨51, _⟩ => ⟨S256x256, .f32⟩
  | .local _ .vmem, ⟨52, _⟩ => ⟨S256x256, .f32⟩
  | .local _ .vmem, ⟨53, _⟩ => ⟨S4x1x256x256, .f32⟩
  | .local _ .vmem, ⟨54, _⟩ => ⟨S4x1x256x256, .f32⟩
  | .local _ .vmem, ⟨55, _⟩ => ⟨S256x1024, .f32⟩
  | .local _ .vmem, ⟨56, _⟩ => ⟨S256x256, .f32⟩
  | .local _ .vmem, ⟨57, _⟩ => ⟨S256x256, .f32⟩
  | .local _ .vmem, ⟨58, _⟩ => ⟨S4x1x256x256, .f32⟩
  | .local _ .vmem, ⟨59, _⟩ => ⟨S4x1x256x256, .f32⟩
  | .local _ .vmem, ⟨60, _⟩ => ⟨S4096x1024, .bf16⟩
  | .local _ .vmem, ⟨61, _⟩ => ⟨S4096x256, .bf16⟩
  | .local _ .vmem, ⟨62, _⟩ => ⟨S4096x256, .bf16⟩
  | .local _ .vmem, ⟨63, _⟩ => ⟨S4x1x256x256, .f32⟩
  | .local _ .vmem, ⟨64, _⟩ => ⟨S4x1x256x256, .f32⟩
  | .local _ .vmem, ⟨65, _⟩ => ⟨S4096x1024, .bf16⟩
  | .local _ .vmem, ⟨66, _⟩ => ⟨S4096x256, .bf16⟩
  | .local _ .vmem, ⟨67, _⟩ => ⟨S4096x256, .bf16⟩
  | .local _ .vmem, ⟨68, _⟩ => ⟨S4x1x256x256, .f32⟩
  | .local _ .vmem, ⟨69, _⟩ => ⟨S4x1x256x256, .f32⟩
  | .local _ .vmem, ⟨70, _⟩ => ⟨S256x1024, .f32⟩
  | .local _ .vmem, ⟨71, _⟩ => ⟨S256x256, .f32⟩
  | .local _ .vmem, ⟨72, _⟩ => ⟨S256x256, .f32⟩
  | .local _ .vmem, ⟨73, _⟩ => ⟨S4x1x256x256, .f32⟩
  | .local _ .vmem, ⟨74, _⟩ => ⟨S4x1x256x256, .f32⟩
  | .local _ .vmem, ⟨75, _⟩ => ⟨S256x1024, .f32⟩
  | .local _ .vmem, ⟨76, _⟩ => ⟨S256x256, .f32⟩
  | .local _ .vmem, ⟨77, _⟩ => ⟨S256x256, .f32⟩
  | .local _ .vmem, ⟨78, _⟩ => ⟨S4x1x256x256, .f32⟩
  | .local _ .vmem, ⟨79, _⟩ => ⟨S4x1x256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg1_1 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg1_1 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg1_0 : Ref sig .tc := ⟨.vmem, 46, rfl⟩
abbrev cc9_stg1_1 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg1_0 : Ref sig .tc := ⟨.vmem, 51, rfl⟩
abbrev cc10_stg1_1 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg1_0 : Ref sig .tc := ⟨.vmem, 56, rfl⟩
abbrev cc11_stg1_1 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg1_0 : Ref sig .tc := ⟨.vmem, 61, rfl⟩
abbrev cc12_stg1_1 : Ref sig .tc := ⟨.vmem, 62, rfl⟩
abbrev cc12_stg2_0 : Ref sig .tc := ⟨.vmem, 63, rfl⟩
abbrev cc12_stg2_1 : Ref sig .tc := ⟨.vmem, 64, rfl⟩
abbrev cc13_stg0_0 : Ref sig .tc := ⟨.vmem, 65, rfl⟩
abbrev cc13_stg1_0 : Ref sig .tc := ⟨.vmem, 66, rfl⟩
abbrev cc13_stg1_1 : Ref sig .tc := ⟨.vmem, 67, rfl⟩
abbrev cc13_stg2_0 : Ref sig .tc := ⟨.vmem, 68, rfl⟩
abbrev cc13_stg2_1 : Ref sig .tc := ⟨.vmem, 69, rfl⟩
abbrev cc14_stg0_0 : Ref sig .tc := ⟨.vmem, 70, rfl⟩
abbrev cc14_stg1_0 : Ref sig .tc := ⟨.vmem, 71, rfl⟩
abbrev cc14_stg1_1 : Ref sig .tc := ⟨.vmem, 72, rfl⟩
abbrev cc14_stg2_0 : Ref sig .tc := ⟨.vmem, 73, rfl⟩
abbrev cc14_stg2_1 : Ref sig .tc := ⟨.vmem, 74, rfl⟩
abbrev cc15_stg0_0 : Ref sig .tc := ⟨.vmem, 75, rfl⟩
abbrev cc15_stg1_0 : Ref sig .tc := ⟨.vmem, 76, rfl⟩
abbrev cc15_stg1_1 : Ref sig .tc := ⟨.vmem, 77, rfl⟩
abbrev cc15_stg2_0 : Ref sig .tc := ⟨.vmem, 78, rfl⟩
abbrev cc15_stg2_1 : Ref sig .tc := ⟨.vmem, 79, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem1_1 : DmaSem sig := 32
abbrev cc6_sem2_0 : DmaSem sig := 33
abbrev cc6_sem2_1 : DmaSem sig := 34
abbrev cc7_sem0_0 : DmaSem sig := 35
abbrev cc7_sem1_0 : DmaSem sig := 36
abbrev cc7_sem1_1 : DmaSem sig := 37
abbrev cc7_sem2_0 : DmaSem sig := 38
abbrev cc7_sem2_1 : DmaSem sig := 39
abbrev cc8_sem0_0 : DmaSem sig := 40
abbrev cc8_sem1_0 : DmaSem sig := 41
abbrev cc8_sem1_1 : DmaSem sig := 42
abbrev cc8_sem2_0 : DmaSem sig := 43
abbrev cc8_sem2_1 : DmaSem sig := 44
abbrev cc9_sem0_0 : DmaSem sig := 45
abbrev cc9_sem1_0 : DmaSem sig := 46
abbrev cc9_sem1_1 : DmaSem sig := 47
abbrev cc9_sem2_0 : DmaSem sig := 48
abbrev cc9_sem2_1 : DmaSem sig := 49
abbrev cc10_sem0_0 : DmaSem sig := 50
abbrev cc10_sem1_0 : DmaSem sig := 51
abbrev cc10_sem1_1 : DmaSem sig := 52
abbrev cc10_sem2_0 : DmaSem sig := 53
abbrev cc10_sem2_1 : DmaSem sig := 54
abbrev cc11_sem0_0 : DmaSem sig := 55
abbrev cc11_sem1_0 : DmaSem sig := 56
abbrev cc11_sem1_1 : DmaSem sig := 57
abbrev cc11_sem2_0 : DmaSem sig := 58
abbrev cc11_sem2_1 : DmaSem sig := 59
abbrev cc12_sem0_0 : DmaSem sig := 60
abbrev cc12_sem1_0 : DmaSem sig := 61
abbrev cc12_sem1_1 : DmaSem sig := 62
abbrev cc12_sem2_0 : DmaSem sig := 63
abbrev cc12_sem2_1 : DmaSem sig := 64
abbrev cc13_sem0_0 : DmaSem sig := 65
abbrev cc13_sem1_0 : DmaSem sig := 66
abbrev cc13_sem1_1 : DmaSem sig := 67
abbrev cc13_sem2_0 : DmaSem sig := 68
abbrev cc13_sem2_1 : DmaSem sig := 69
abbrev cc14_sem0_0 : DmaSem sig := 70
abbrev cc14_sem1_0 : DmaSem sig := 71
abbrev cc14_sem1_1 : DmaSem sig := 72
abbrev cc14_sem2_0 : DmaSem sig := 73
abbrev cc14_sem2_1 : DmaSem sig := 74
abbrev cc15_sem0_0 : DmaSem sig := 75
abbrev cc15_sem1_0 : DmaSem sig := 76
abbrev cc15_sem1_1 : DmaSem sig := 77
abbrev cc15_sem2_0 : DmaSem sig := 78
abbrev cc15_sem2_1 : DmaSem sig := 79

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_2 (i : grid2.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x1x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc3_transform_2 (i : grid3.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

abbrev stage3_0 : Fin 1 → Memref sig .tc .vmem S256x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4x1x256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc4_transform_3 (i : grid4.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4x1x256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc5_transform_3 (i : grid5.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4x1x256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_3 (i : grid6.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

abbrev stage6_0 : Fin 1 → Memref sig .tc .vmem S256x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S256x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4x1x256x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc7_transform_3 (i : grid7.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

abbrev stage7_0 : Fin 1 → Memref sig .tc .vmem S256x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S256x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4x1x256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc8_transform_3 (i : grid8.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S4096x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4x1x256x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc9_transform_3 (i : grid9.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S4096x256 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4x1x256x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc10_transform_3 (i : grid10.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

abbrev stage10_0 : Fin 1 → Memref sig .tc .vmem S256x1024 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S256x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4x1x256x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc11_transform_3 (i : grid11.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

abbrev stage11_0 : Fin 1 → Memref sig .tc .vmem S256x1024 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 2 → Memref sig .tc .vmem S256x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4x1x256x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc12_transform_3 (i : grid12.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage12_0 : Fin 1 → Memref sig .tc .vmem S4096x1024 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 2 → Memref sig .tc .vmem S4096x256 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4x1x256x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc13_transform_3 (i : grid13.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage13_0 : Fin 1 → Memref sig .tc .vmem S4096x1024 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 2 → Memref sig .tc .vmem S4096x256 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4x1x256x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![4], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc14_transform_3 (i : grid14.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage14_0 : Fin 1 → Memref sig .tc .vmem S256x1024 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 2 → Memref sig .tc .vmem S256x256 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S4x1x256x256 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![4], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_1 (i : grid15.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc15_transform_3 (i : grid15.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage15_0 : Fin 1 → Memref sig .tc .vmem S256x1024 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false]

abbrev stage15_1 : Fin 2 → Memref sig .tc .vmem S256x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S4x1x256x256 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]
-- ==== CrossGradsReferenceIdeal.lean ====
abbrev S256x1024 : Shape := ⟨2, ![256, 1024]⟩
abbrev S4096x1024 : Shape := ⟨2, ![4096, 1024]⟩
abbrev S256x2048 : Shape := ⟨2, ![256, 2048]⟩
abbrev S_ : Shape := ⟨0, ![]⟩
abbrev S1024x1024 : Shape := ⟨2, ![1024, 1024]⟩
abbrev S4x1x256x1024 : Shape := ⟨4, ![4, 1, 256, 1024]⟩
abbrev S4x4x256x1024 : Shape := ⟨4, ![4, 4, 256, 1024]⟩

abbrev nBuf : Space → Nat
  | .hbm => 121
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x1024, .bf16⟩
  | .hbm, ⟨2, _⟩ => ⟨S4096x1024, .bf16⟩
  | .hbm, ⟨3, _⟩ => ⟨S256x2048, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S256x2048, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S256x2048, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S256x2048, .f32⟩
  | .hbm, ⟨19, _⟩ => ⟨S4096x1024, .bf16⟩
  | .hbm, ⟨20, _⟩ => ⟨S4096x1024, .bf16⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024x1024, .f32⟩
  | .hbm, ⟨27, _⟩ => ⟨S4096x1024, .f32⟩
  | .hbm, ⟨28, _⟩ => ⟨S256x1024, .f32⟩
  | .hbm, ⟨29, _⟩ => ⟨S256x1024, .f32⟩
  | .hbm, ⟨30, _⟩ => ⟨S4096x1024, .f32⟩
  | .hbm, ⟨31, _⟩ => ⟨S256x1024, .f32⟩
  | .hbm, ⟨32, _⟩ => ⟨S256x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024x1024, .f32⟩
  | .hbm, ⟨47, _⟩ => ⟨S4096x1024, .f32⟩
  | .hbm, ⟨48, _⟩ => ⟨S256x1024, .f32⟩
  | .hbm, ⟨49, _⟩ => ⟨S256x1024, .f32⟩
  | .hbm, ⟨50, _⟩ => ⟨S4096x1024, .f32⟩
  | .hbm, ⟨51, _⟩ => ⟨S256x1024, .f32⟩
  | .hbm, ⟨52, _⟩ => ⟨S256x1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024x1024, .f32⟩
  | .hbm, ⟨67, _⟩ => ⟨S4096x1024, .f32⟩
  | .hbm, ⟨68, _⟩ => ⟨S256x1024, .f32⟩
  | .hbm, ⟨69, _⟩ => ⟨S256x1024, .f32⟩
  | .hbm, ⟨70, _⟩ => ⟨S4096x1024, .f32⟩
  | .hbm, ⟨71, _⟩ => ⟨S256x1024, .f32⟩
  | .hbm, ⟨72, _⟩ => ⟨S256x1024, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024x1024, .f32⟩
  | .hbm, ⟨87, _⟩ => ⟨S4096x1024, .f32⟩
  | .hbm, ⟨88, _⟩ => ⟨S256x1024, .f32⟩
  | .hbm, ⟨89, _⟩ => ⟨S256x1024, .f32⟩
  | .hbm, ⟨90, _⟩ => ⟨S4096x1024, .f32⟩
  | .hbm, ⟨91, _⟩ => ⟨S256x1024, .f32⟩
  | .hbm, ⟨92, _⟩ => ⟨S256x1024, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S1024x1024, .f32⟩
  | .hbm, ⟨97, _⟩ => ⟨S1024x1024, .f32⟩
  | .hbm, ⟨98, _⟩ => ⟨S1024x1024, .f32⟩
  | .hbm, ⟨99, _⟩ => ⟨S1024x1024, .f32⟩
  | .hbm, ⟨100, _⟩ => ⟨S1024x1024, .f32⟩
  | .hbm, ⟨101, _⟩ => ⟨S4x1x256x1024, .f32⟩
  | .hbm, ⟨102, _⟩ => ⟨S4x1x256x1024, .f32⟩
  | .hbm, ⟨103, _⟩ => ⟨S4x1x256x1024, .f32⟩
  | .hbm, ⟨104, _⟩ => ⟨S4x1x256x1024, .f32⟩
  | .hbm, ⟨105, _⟩ => ⟨S4x4x256x1024, .f32⟩
  | .hbm, ⟨106, _⟩ => ⟨S4x1x256x1024, .f32⟩
  | .hbm, ⟨107, _⟩ => ⟨S4x1x256x1024, .f32⟩
  | .hbm, ⟨108, _⟩ => ⟨S4x1x256x1024, .f32⟩
  | .hbm, ⟨109, _⟩ => ⟨S4x1x256x1024, .f32⟩
  | .hbm, ⟨110, _⟩ => ⟨S4x4x256x1024, .f32⟩
  | .hbm, ⟨111, _⟩ => ⟨S4x1x256x1024, .f32⟩
  | .hbm, ⟨112, _⟩ => ⟨S4x1x256x1024, .f32⟩
  | .hbm, ⟨113, _⟩ => ⟨S4x1x256x1024, .f32⟩
  | .hbm, ⟨114, _⟩ => ⟨S4x1x256x1024, .f32⟩
  | .hbm, ⟨115, _⟩ => ⟨S4x4x256x1024, .f32⟩
  | .hbm, ⟨116, _⟩ => ⟨S4x1x256x1024, .f32⟩
  | .hbm, ⟨117, _⟩ => ⟨S4x1x256x1024, .f32⟩
  | .hbm, ⟨118, _⟩ => ⟨S4x1x256x1024, .f32⟩
  | .hbm, ⟨119, _⟩ => ⟨S4x1x256x1024, .f32⟩
  | .hbm, ⟨120, _⟩ => ⟨S4x4x256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_1 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_2 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== Hyb.lean ====
abbrev S4096x1024 : Shape := ⟨2, ![4096, 1024]⟩
abbrev S1024x3840 : Shape := ⟨2, ![1024, 3840]⟩
abbrev S4096x3840 : Shape := ⟨2, ![4096, 3840]⟩
abbrev S1024x1024 : Shape := ⟨2, ![1024, 1024]⟩
abbrev S512x1024 : Shape := ⟨2, ![512, 1024]⟩
abbrev S512x3840 : Shape := ⟨2, ![512, 3840]⟩
abbrev S1024x256 : Shape := ⟨2, ![1024, 256]⟩
abbrev S512x256 : Shape := ⟨2, ![512, 256]⟩
abbrev S4x2x256x1024 : Shape := ⟨4, ![4, 2, 256, 1024]⟩
abbrev S4096x256 : Shape := ⟨2, ![4096, 256]⟩
abbrev S4x1x256x256 : Shape := ⟨4, ![4, 1, 256, 256]⟩
abbrev S256x256 : Shape := ⟨2, ![256, 256]⟩
abbrev S1x1x256x256 : Shape := ⟨4, ![1, 1, 256, 256]⟩
abbrev S1024x512 : Shape := ⟨2, ![1024, 512]⟩
abbrev S512x512 : Shape := ⟨2, ![512, 512]⟩

abbrev nBuf : Space → Nat
  | .hbm => 14
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S1024x3840, .bf16⟩
  | .hbm, ⟨2, _⟩ => ⟨S4096x3840, .f32⟩
  | .hbm, ⟨3, _⟩ => ⟨S4096x1024, .f32⟩
  | .hbm, ⟨4, _⟩ => ⟨S1024x1024, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x3840, .f32⟩
  | .hbm, ⟨9, _⟩ => ⟨S4x2x256x1024, .f32⟩
  | .hbm, ⟨10, _⟩ => ⟨S4x2x256x1024, .f32⟩
  | .hbm, ⟨11, _⟩ => ⟨S4096x1024, .f32⟩
  | .hbm, ⟨12, _⟩ => ⟨S1024x3840, .f32⟩
  | .hbm, ⟨13, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3840, .bf16⟩
  | .local _ .vmem, ⟨3, _⟩ => ⟨S512x3840, .f32⟩
  | .local _ .vmem, ⟨4, _⟩ => ⟨S512x3840, .f32⟩
  | .local _ .vmem, ⟨5, _⟩ => ⟨S4096x1024, .f32⟩
  | .local _ .vmem, ⟨6, _⟩ => ⟨S4096x256, .bf16⟩
  | .local _ .vmem, ⟨7, _⟩ => ⟨S4096x256, .bf16⟩
  | .local _ .vmem, ⟨8, _⟩ => ⟨S4x1x256x256, .f32⟩
  | .local _ .vmem, ⟨9, _⟩ => ⟨S4x1x256x256, .f32⟩
  | .local _ .vmem, ⟨10, _⟩ => ⟨S4096x1024, .f32⟩
  | .local _ .vmem, ⟨11, _⟩ => ⟨S4096x256, .bf16⟩
  | .local _ .vmem, ⟨12, _⟩ => ⟨S4096x256, .bf16⟩
  | .local _ .vmem, ⟨13, _⟩ => ⟨S4x1x256x256, .f32⟩
  | .local _ .vmem, ⟨14, _⟩ => ⟨S4x1x256x256, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S4096x1024, .bf16⟩
  | .local _ .vmem, ⟨21, _⟩ => ⟨S4096x256, .f32⟩
  | .local _ .vmem, ⟨22, _⟩ => ⟨S4096x256, .f32⟩
  | .local _ .vmem, ⟨23, _⟩ => ⟨S1024x256, .f32⟩
  | .local _ .vmem, ⟨24, _⟩ => ⟨S1024x256, .f32⟩
  | .local _ .vmem, ⟨25, _⟩ => ⟨S512x3840, .f32⟩
  | .local _ .vmem, ⟨26, _⟩ => ⟨S512x3840, .f32⟩
  | .local _ .vmem, ⟨27, _⟩ => ⟨S1024x3840, .bf16⟩
  | .local _ .vmem, ⟨28, _⟩ => ⟨S512x1024, .f32⟩
  | .local _ .vmem, ⟨29, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

abbrev stage1_0 : Fin 1 → Memref sig .tc .vmem S4096x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage2_0 : Fin 1 → Memref sig .tc .vmem S4096x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x1x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x3840 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x3840 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== HybReferenceIdeal.lean ====
abbrev S4096x1024 : Shape := ⟨2, ![4096, 1024]⟩
abbrev S1024x3840 : Shape := ⟨2, ![1024, 3840]⟩
abbrev S4096x3840 : Shape := ⟨2, ![4096, 3840]⟩
abbrev S1024x1024 : Shape := ⟨2, ![1024, 1024]⟩
abbrev S3840x1024 : Shape := ⟨2, ![3840, 1024]⟩
abbrev S4x1x256x1024 : Shape := ⟨4, ![4, 1, 256, 1024]⟩
abbrev S4x2x256x1024 : Shape := ⟨4, ![4, 2, 256, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3840, .bf16⟩
  | .hbm, ⟨2, _⟩ => ⟨S4096x3840, .f32⟩
  | .hbm, ⟨3, _⟩ => ⟨S4096x1024, .f32⟩
  | .hbm, ⟨4, _⟩ => ⟨S1024x1024, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1024x3840, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x3840, .f32⟩
  | .hbm, ⟨14, _⟩ => ⟨S3840x1024, .f32⟩
  | .hbm, ⟨15, _⟩ => ⟨S1024x3840, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S1024x1024, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S1024x1024, .f32⟩
  | .hbm, ⟨24, _⟩ => ⟨S4096x1024, .f32⟩
  | .hbm, ⟨25, _⟩ => ⟨S4x1x256x1024, .f32⟩
  | .hbm, ⟨26, _⟩ => ⟨S4x1x256x1024, .f32⟩
  | .hbm, ⟨27, _⟩ => ⟨S4x2x256x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Down.lean ====
abbrev S4x4096x704 : Shape := ⟨3, ![4, 4096, 704]⟩
abbrev S4x4x704x1024 : Shape := ⟨4, ![4, 4, 704, 1024]⟩
abbrev S4096x1024 : Shape := ⟨2, ![4096, 1024]⟩
abbrev S1x1024 : Shape := ⟨2, ![1, 1024]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 17
  | .vmem => 52
  | .smem => 0
  | _ => 0

abbrev bufTy : (tb : Table) → Fin (tcTables nBuf tb) → BufTy
  | .hbm, ⟨0, _⟩ => ⟨S4x4096x704, .bf16⟩
  | .hbm, ⟨1, _⟩ => ⟨S4x4x704x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S4x512x704, .bf16⟩
  | .local _ .vmem, ⟨14, _⟩ => ⟨S4x512x704, .bf16⟩
  | .local _ .vmem, ⟨15, _⟩ => ⟨S4x1x704x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S4x512x704, .bf16⟩
  | .local _ .vmem, ⟨27, _⟩ => ⟨S4x512x704, .bf16⟩
  | .local _ .vmem, ⟨28, _⟩ => ⟨S4x1x704x1024, .bf16⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .bf16⟩
  | .local _ .vmem, ⟨38, _⟩ => ⟨S512x1024, .bf16⟩
  | .local _ .vmem, ⟨39, _⟩ => ⟨S4x512x704, .bf16⟩
  | .local _ .vmem, ⟨40, _⟩ => ⟨S4x512x704, .bf16⟩
  | .local _ .vmem, ⟨41, _⟩ => ⟨S4x1x704x1024, .bf16⟩
  | .local _ .vmem, ⟨42, _⟩ => ⟨S512x1024, .f32⟩
  | .local _ .vmem, ⟨43, _⟩ => ⟨S512x1024, .f32⟩
  | .local _ .vmem, ⟨44, _⟩ => ⟨S1x1024, .f32⟩
  | .local _ .vmem, ⟨45, _⟩ => ⟨S1x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .bf16⟩
  | .local _ .vmem, ⟨51, _⟩ => ⟨S512x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem6_1 : DmaSem sig := 49
abbrev cc3_sem7_0 : DmaSem sig := 50
abbrev cc3_sem7_1 : DmaSem sig := 51

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1x704x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4x512x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x1x704x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== DownReferenceIdeal.lean ====
abbrev S4x4096x704 : Shape := ⟨3, ![4, 4096, 704]⟩
abbrev S4x4x704x1024 : Shape := ⟨4, ![4, 4, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 172
  | .vmem => 0
  | .smem => 0
  | _ => 0

abbrev hbmTy0_0 (i : Nat) : BufTy := match i % 128 with
  | 0 => ⟨S4x4096x704, .bf16⟩
  | 1 => ⟨S4x4x704x1024, .bf16⟩
  | 2 => ⟨S4096x1024, .f32⟩
  | 3 => ⟨S1x1024, .f32⟩
  | 4 => ⟨S1x1024, .f32⟩
  | 5 => ⟨S4x4096x704, .f32⟩
  | 6 => ⟨S4096x4x704, .f32⟩
  | 7 => ⟨S4096x2816, .f32⟩
  | 8 => ⟨S4x1x704x1024, .bf16⟩
  | 9 => ⟨S4x704x1024, .bf16⟩
  | 10 => ⟨S2816x1024, .bf16⟩
  | 11 => ⟨S2816x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S1024, .f32⟩
  | 18 => ⟨S1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x1024, .f32⟩
  | 35 => ⟨S4096x1024, .f32⟩
  | 36 => ⟨S_, .f32⟩
  | 37 => ⟨S4096x1, .f32⟩
  | 38 => ⟨S4096x1, .f32⟩
  | 39 => ⟨S4096x1, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x1024, .bf16⟩
  | 49 => ⟨S4x1x704x1024, .bf16⟩
  | 50 => ⟨S4x704x1024, .bf16⟩
  | 51 => ⟨S2816x1024, .bf16⟩
  | 52 => ⟨S2816x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S1024, .f32⟩
  | 59 => ⟨S1024, .f32⟩
  | 60 => ⟨S_, .f32⟩
  | 61 => ⟨S4096, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S_, .f32⟩
  | 78 => ⟨S4096x1, .f32⟩
  | 79 => ⟨S4096x1, .f32⟩
  | 80 => ⟨S4096x1, .f32⟩
  | 81 => ⟨S4096x1024, .f32⟩
  | 82 => ⟨S4096x1024, .f32⟩
  | 83 => ⟨S1x1024, .f32⟩
  | 84 => ⟨S4096x1024, .f32⟩
  | 85 => ⟨S4096x1024, .f32⟩
  | 86 => ⟨S1x1024, .f32⟩
  | 87 => ⟨S4096x1024, .f32⟩
  | 88 => ⟨S4096x1024, .f32⟩
  | 89 => ⟨S4096x1024, .bf16⟩
  | 90 => ⟨S4x1x704x1024, .bf16⟩
  | 91 => ⟨S4x704x1024, .bf16⟩
  | 92 => ⟨S2816x1024, .bf16⟩
  | 93 => ⟨S2816x1024, .f32⟩
  | 94 => ⟨S4096x1024, .f32⟩
  | 95 => ⟨S_, .f32⟩
  | 96 => ⟨S4096x1024, .f32⟩
  | 97 => ⟨S4096x1024, .f32⟩
  | 98 => ⟨S4096x1024, .f32⟩
  | 99 => ⟨S1024, .f32⟩
  | 100 => ⟨S1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x1024, .f32⟩
  | 108 => ⟨S4096x1024, .f32⟩
  | 109 => ⟨S4096x1024, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S4096x1024, .f32⟩
  | 117 => ⟨S4096x1024, .f32⟩
  | 118 => ⟨S_, .f32⟩
  | 119 => ⟨S4096x1, .f32⟩
  | 120 => ⟨S4096x1, .f32⟩
  | 121 => ⟨S4096x1, .f32⟩
  | 122 => ⟨S4096x1024, .f32⟩
  | 123 => ⟨S4096x1024, .f32⟩
  | 124 => ⟨S1x1024, .f32⟩
  | 125 => ⟨S4096x1024, .f32⟩
  | 126 => ⟨S4096x1024, .f32⟩
  | 127 => ⟨S1x1024, .f32⟩
  | _ => ⟨S4x4096x704, .bf16⟩

abbrev hbmTy0_1 (i : Nat) : BufTy := match i % 128 with
  | 0 => ⟨S4096x1024, .f32⟩
  | 1 => ⟨S4096x1024, .f32⟩
  | 2 => ⟨S4096x1024, .bf16⟩
  | 3 => ⟨S4x1x704x1024, .bf16⟩
  | 4 => ⟨S4x704x1024, .bf16⟩
  | 5 => ⟨S2816x1024, .bf16⟩
  | 6 => ⟨S2816x1024, .f32⟩
  | 7 => ⟨S4096x1024, .f32⟩
  | 8 => ⟨S_, .f32⟩
  | 9 => ⟨S4096x1024, .f32⟩
  | 10 => ⟨S4096x1024, .f32⟩
  | 11 => ⟨S4096x1024, .f32⟩
  | 12 => ⟨S1024, .f32⟩
  | 13 => ⟨S1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S_, .f32⟩
  | 32 => ⟨S4096x1, .f32⟩
  | 33 => ⟨S4096x1, .f32⟩
  | 34 => ⟨S4096x1, .f32⟩
  | 35 => ⟨S4096x1024, .f32⟩
  | 36 => ⟨S4096x1024, .f32⟩
  | 37 => ⟨S1x1024, .f32⟩
  | 38 => ⟨S4096x1024, .f32⟩
  | 39 => ⟨S4096x1024, .f32⟩
  | 40 => ⟨S1x1024, .f32⟩
  | 41 => ⟨S4096x1024, .f32⟩
  | 42 => ⟨S4096x1024, .f32⟩
  | 43 => ⟨S4096x1024, .bf16⟩
  | _ => ⟨S4x4096x704, .bf16⟩

abbrev hbmTy (i : Nat) : BufTy := match i / 128 with
  | 0 => hbmTy0_0 i
  | 1 => hbmTy0_1 i
  | _ => ⟨S4x4096x704, .bf16⟩

abbrev bufTy : (tb : Table) → Fin (tcTables nBuf tb) → BufTy
  | .hbm, ⟨i, _⟩ => hbmTy i
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_cst_13 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_14 : Ref sig .tc := ⟨.hbm, 110, rfl⟩
abbrev main_v90 : Ref sig .tc := ⟨.hbm, 111, rfl⟩
abbrev main_v91 : Ref sig .tc := ⟨.hbm, 112, rfl⟩
abbrev main_cst_15 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_16 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_17 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_18 : Ref sig .tc := ⟨.hbm, 142, rfl⟩
abbrev main_v118 : Ref sig .tc := ⟨.hbm, 143, rfl⟩
abbrev main_v119 : Ref sig .tc := ⟨.hbm, 144, rfl⟩
abbrev main_cst_19 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_20 : Ref sig .tc := ⟨.hbm, 151, rfl⟩
abbrev main_v125 : Ref sig .tc := ⟨.hbm, 152, rfl⟩
abbrev main_v126 : Ref sig .tc := ⟨.hbm, 153, rfl⟩
abbrev main_cst_21 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_22 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩

abbrev nD : Nat := 1
abbrev τ : Topo := Topo.v7x

variable {F : FTy → Type} [FloatOps F]
-- ==== Mixed.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== MixedReferenceIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1024x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | .hbm, ⟨86, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Proof.Head.lean ====
/-
  One attention head on one block of 128 queries and 256 keys, as formulas over the extended reals: the weights of the
  softmax, and the gradients of the block's output and of its log-sum-exp with respect to queries, keys and values.
  The lanes of a head are a finite type: the kernel works on 128 lanes of which one half is masked to zero, the
  reference on the 64 lanes of the head.
-/
module

public import Idealize.ShloMosaic.Lib.Pointwise

@[expose] public section

noncomputable section

namespace Cert.Attention

open Idealize.ShloMosaic

/-- What one head of one block is given: queries, keys, values, the cotangent of the output (`g`) and of the
    log-sum-exp (`gl`, one per lane), which pairs of query and key may meet (`ok`), and the scale of the scores. -/
structure Head (ι : Type) where
  q : Fin 128 → ι → EReal
  k : Fin 256 → ι → EReal
  v : Fin 256 → ι → EReal
  g : Fin 128 → ι → EReal
  gl : Fin 128 → ι → EReal
  ok : Fin 128 → Fin 256 → BitVec 1
  scale : EReal

/-- The single-precision word of `-∞` denotes the least extended real. -/
theorem ofBits_neg_inf : Ideal.ofBits .f32 0xFF800000#32 = ⊥ := by
  simp [Ideal.ofBits, Ideal.ieee]

namespace Head

variable {ι κ : Type} [Fintype ι] [Fintype κ]

/-- The scaled score of a pair that may meet, `-∞` otherwise. -/
def score (X : Head ι) (a : Fin 128) (b : Fin 256) : EReal :=
  Scalar.select (X.ok a b) ((∑ c, X.q a c * X.k b c) * X.scale) ⊥

/-- The greatest score of a query. -/
def top (X : Head ι) (a : Fin 128) : EReal := Finset.univ.fold max ⊥ fun b => X.score a b

/-- The weight of a pair before normalisation. -/
def weight (X : Head ι) (a : Fin 128) (b : Fin 256) : EReal := Ideal.exp (X.score a b - X.top a)

/-- The sum of a query's weights. -/
def total (X : Head ι) (a : Fin 128) : EReal := ∑ b, X.weight a b

/-- The output before normalisation. -/
def mix (X : Head ι) (a : Fin 128) (c : ι) : EReal := ∑ b, X.weight a b * X.v b c

/-- The cotangent of the sum of the weights: through the log-sum-exp, and through the division of the output. -/
def gradTotal (X : Head ι) (a : Fin 128) : EReal :=
  Ideal.div (∑ c, X.gl a c) (X.total a) + -∑ c, X.g a c * Ideal.div 1 (X.total a * X.total a) * X.mix a c

/-- The cotangent of the output before normalisation. -/
def gradMix (X : Head ι) (a : Fin 128) (c : ι) : EReal := Ideal.div (X.g a c) (X.total a)

/-- The cotangent of the product of query and key, zero for a pair that may not meet. -/
def gradScore (X : Head ι) (a : Fin 128) (b : Fin 256) : EReal :=
  Scalar.select (X.ok a b) (((∑ c, X.gradMix a c * X.v b c) + X.gradTotal a) * X.weight a b * X.scale) 0

/-- The gradient of the queries. -/
def gradQ (X : Head ι) (a : Fin 128) (c : ι) : EReal := ∑ b, X.gradScore a b * X.k b c

/-- The gradient of the keys. -/
def gradK (X : Head ι) (b : Fin 256) (c : ι) : EReal := ∑ a, X.gradScore a b * X.q a c

/-- The gradient of the values. -/
def gradV (X : Head ι) (b : Fin 256) (c : ι) : EReal := ∑ a, X.weight a b * X.gradMix a c

theorem exp_nonneg (x : EReal) : 0 ≤ Ideal.exp x := by
  induction x with
  | bot => exact le_refl _
  | top => exact le_top
  | coe r => exact EReal.coe_nonneg.mpr (Real.exp_pos r).le

theorem weight_nonneg (X : Head ι) (a : Fin 128) (b : Fin 256) : 0 ≤ X.weight a b := exp_nonneg _

/-- A query whose weights sum to zero has no weight at all. -/
theorem weight_of_total (X : Head ι) {a : Fin 128} (h : X.total a = 0) (b : Fin 256) : X.weight a b = 0 :=
  (Finset.sum_eq_zero_iff_of_nonneg fun b _ => X.weight_nonneg a b).mp h b (Finset.mem_univ b)

theorem div_zero_left {y : EReal} (h : y ≠ 0) : Ideal.div 0 y = 0 := by
  simp [Ideal.div, h]

/-- `Y` is the head `X` laid into more lanes: the lane `c` of `X` is the lane `e c` of `Y`, and in the other lanes the
    queries and the cotangents of `Y` are zero. -/
structure Lays (e : κ → ι) (X : Head κ) (Y : Head ι) : Prop where
  inj : Function.Injective e
  q : ∀ a c, Y.q a (e c) = X.q a c
  k : ∀ b c, Y.k b (e c) = X.k b c
  v : ∀ b c, Y.v b (e c) = X.v b c
  g : ∀ a c, Y.g a (e c) = X.g a c
  gl : ∀ a c, Y.gl a (e c) = X.gl a c
  ok : Y.ok = X.ok
  scale : Y.scale = X.scale
  q0 : ∀ a, ∀ c ∉ Set.range e, Y.q a c = 0
  g0 : ∀ a, ∀ c ∉ Set.range e, Y.g a c = 0
  gl0 : ∀ a, ∀ c ∉ Set.range e, Y.gl a c = 0

namespace Lays

variable {e : κ → ι} {X : Head κ} {Y : Head ι} (h : Lays e X Y)
include h

theorem score (a : Fin 128) (b : Fin 256) : Y.score a b = X.score a b := by
  have : ∑ c, X.q a c * X.k b c = ∑ c, Y.q a c * Y.k b c :=
    Fintype.sum_of_injective e h.inj _ _ (fun c hc => by rw [h.q0 a c hc, zero_mul]) fun c => by rw [h.q, h.k]
  rw [Head.score, Head.score, this, h.ok, h.scale]

theorem top (a : Fin 128) : Y.top a = X.top a := by
  unfold Head.top
  exact congrArg (fun f => Finset.univ.fold max ⊥ f) (funext fun b => h.score a b)

theorem weight (a : Fin 128) (b : Fin 256) : Y.weight a b = X.weight a b := by
  rw [Head.weight, Head.weight, h.score, h.top]

theorem total (a : Fin 128) : Y.total a = X.total a :=
  Finset.sum_congr rfl fun b _ => h.weight a b

theorem mix (a : Fin 128) (c : κ) : Y.mix a (e c) = X.mix a c :=
  Finset.sum_congr rfl fun b _ => by rw [h.weight, h.v]

theorem gradTotal (a : Fin 128) : Y.gradTotal a = X.gradTotal a := by
  have h1 : ∑ c, X.gl a c = ∑ c, Y.gl a c :=
    Fintype.sum_of_injective e h.inj _ _ (fun c hc => h.gl0 a c hc) fun c => (h.gl a c).symm
  have h2 : ∑ c, X.g a c * Ideal.div 1 (X.total a * X.total a) * X.mix a c
      = ∑ c, Y.g a c * Ideal.div 1 (Y.total a * Y.total a) * Y.mix a c :=
    Fintype.sum_of_injective e h.inj _ _ (fun c hc => by rw [h.g0 a c hc, zero_mul, zero_mul]) fun c => by
      rw [h.g, h.total, h.mix]
  rw [Head.gradTotal, Head.gradTotal, h1, h2, h.total]

theorem gradMix (a : Fin 128) (c : κ) : Y.gradMix a (e c) = X.gradMix a c := by
  rw [Head.gradMix, Head.gradMix, h.g, h.total]

theorem gradScore (a : Fin 128) (b : Fin 256) : Y.gradScore a b = X.gradScore a b := by
  by_cases h0 : X.total a = 0
  · rw [Head.gradScore, Head.gradScore, h.ok, h.scale, h.weight, X.weight_of_total h0, mul_zero, mul_zero, zero_mul]
  · have : ∑ c, X.gradMix a c * X.v b c = ∑ c, Y.gradMix a c * Y.v b c :=
      Fintype.sum_of_injective e h.inj _ _
        (fun c hc => by rw [Head.gradMix, h.g0 a c hc, h.total, div_zero_left h0, zero_mul])
        fun c => by rw [h.gradMix, h.v]
    rw [Head.gradScore, Head.gradScore, this, h.ok, h.scale, h.weight, h.gradTotal]

theorem gradQ (a : Fin 128) (c : κ) : Y.gradQ a (e c) = X.gradQ a c :=
  Finset.sum_congr rfl fun b _ => by rw [h.gradScore, h.k]

theorem gradK (b : Fin 256) (c : κ) : Y.gradK b (e c) = X.gradK b c :=
  Finset.sum_congr rfl fun a _ => by rw [h.gradScore, h.q]

theorem gradK_off (b : Fin 256) (c : ι) (hc : c ∉ Set.range e) : Y.gradK b c = 0 :=
  Finset.sum_eq_zero fun a _ => by rw [h.q0 a c hc, mul_zero]

theorem gradV (b : Fin 256) (c : κ) : Y.gradV b (e c) = X.gradV b c :=
  Finset.sum_congr rfl fun a _ => by rw [h.weight, h.gradMix]

theorem gradV_off (b : Fin 256) (c : ι) (hc : c ∉ Set.range e) : Y.gradV b c = 0 :=
  Finset.sum_eq_zero fun a _ => by
    by_cases h0 : X.total a = 0
    · rw [h.weight, X.weight_of_total h0, zero_mul]
    · rw [Head.gradMix, h.g0 a c hc, h.total, div_zero_left h0, mul_zero]

end Lays

/-- `X` and `Y` are the same but for keys and values no query may meet. -/
structure Agrees (X Y : Head ι) : Prop where
  q : Y.q = X.q
  g : Y.g = X.g
  gl : Y.gl = X.gl
  ok : Y.ok = X.ok
  scale : Y.scale = X.scale
  kv : ∀ b, (∀ c, Y.k b c = X.k b c ∧ Y.v b c = X.v b c) ∨ ∀ a, X.ok a b = 0#1

/-- A pair that may not meet has no weight. -/
theorem weight_of_not (X : Head ι) {a : Fin 128} {b : Fin 256} (h : X.ok a b = 0#1) : X.weight a b = 0 := by
  have : X.score a b = ⊥ := by rw [score, h]; rfl
  rw [weight, this, sub_eq_add_neg, EReal.bot_add, Ideal.exp_bot]

theorem gradScore_of_not (X : Head ι) {a : Fin 128} {b : Fin 256} (h : X.ok a b = 0#1) : X.gradScore a b = 0 := by
  rw [gradScore, h]; rfl

namespace Agrees

variable {X Y : Head ι} (h : Agrees X Y)
include h

theorem score (a : Fin 128) (b : Fin 256) : Y.score a b = X.score a b := by
  rcases h.kv b with hb | hb
  · rw [Head.score, Head.score, h.ok, h.scale, h.q]
    simp only [fun c => (hb c).1]
  · rw [Head.score, Head.score, h.ok, hb a]; rfl

theorem top (a : Fin 128) : Y.top a = X.top a := by
  unfold Head.top
  exact congrArg (fun f => Finset.univ.fold max ⊥ f) (funext fun b => h.score a b)

theorem weight (a : Fin 128) (b : Fin 256) : Y.weight a b = X.weight a b := by
  rw [Head.weight, Head.weight, h.score, h.top]

theorem total (a : Fin 128) : Y.total a = X.total a :=
  Finset.sum_congr rfl fun b _ => h.weight a b

theorem mix (a : Fin 128) (c : ι) : Y.mix a c = X.mix a c :=
  Finset.sum_congr rfl fun b _ => by
    rw [h.weight]
    rcases h.kv b with hb | hb
    · rw [(hb c).2]
    · rw [X.weight_of_not (hb a), zero_mul, zero_mul]

theorem gradTotal (a : Fin 128) : Y.gradTotal a = X.gradTotal a := by
  simp only [Head.gradTotal, h.total, h.mix, h.g, h.gl]

theorem gradMix (a : Fin 128) (c : ι) : Y.gradMix a c = X.gradMix a c := by
  rw [Head.gradMix, Head.gradMix, h.g, h.total]

theorem gradScore (a : Fin 128) (b : Fin 256) : Y.gradScore a b = X.gradScore a b := by
  rcases h.kv b with hb | hb
  · simp only [Head.gradScore, h.ok, h.scale, h.weight, h.gradTotal, h.gradMix, fun c => (hb c).2]
  · rw [X.gradScore_of_not (hb a), Y.gradScore_of_not (by rw [h.ok]; exact hb a)]

theorem gradQ (a : Fin 128) (c : ι) : Y.gradQ a c = X.gradQ a c :=
  Finset.sum_congr rfl fun b _ => by
    rw [h.gradScore]
    rcases h.kv b with hb | hb
    · rw [(hb c).1]
    · rw [X.gradScore_of_not (hb a), zero_mul, zero_mul]

theorem gradK (b : Fin 256) (c : ι) : Y.gradK b c = X.gradK b c :=
  Finset.sum_congr rfl fun a _ => by rw [h.gradScore, h.q]

theorem gradV (b : Fin 256) (c : ι) : Y.gradV b c = X.gradV b c :=
  Finset.sum_congr rfl fun a _ => by rw [h.weight, h.gradMix]

end Agrees

end Head

end Cert.Attention

end
-- ==== Proof.Block.lean ====
/-
  What the kernel computes of one block, written once: the vector operations of one head (`weights` … `headV`), of a
  pair of heads that share 128 lanes, and of the four pairs laid side by side; and each of them read at an index, as
  the formulas of Head.lean over 128 lanes.
-/
module

public import proofs.«01_k».proof.Proof.Gen.KernelIdeal.Skeleton
public import proofs.«01_k».proof.Proof.Head

@[expose] public section

set_option maxRecDepth 16384
noncomputable section

namespace Cert.KernelIdeal.Block

open Cert.KernelIdeal Cert.KernelIdeal.Gen Idealize.ShloMosaic Cert.Attention

/-! ## The operations of one head -/

/-- The lanes of one head: those whose number divided by 64 is `e`. -/
def lanesOf (e : BitVec 32) (lane : IVec S1x128 32) : IVec S128x128 1 :=
  broadcastTo S128x128 (shapeCast S1x128 (cmpi .eq lane (broadcast S1x128 e)) shapeCasts_S1x128_S1x128) broadcasts_S1x128_S128x128

/-- A vector with the other head's lanes set to zero. -/
def only (msk : IVec S128x128 1) (x : FVec Ideal S128x128 .f32) : FVec Ideal S128x128 .f32 :=
  select msk x (broadcast S128x128 (Scalar.ofBits .f32 0x00000000#32))

def scores (ok : IVec S128x256 1) (q : FVec Ideal S128x128 .f32) (k : FVec Ideal S256x128 .f32) : FVec Ideal S128x256 .f32 :=
  select ok
    (mulf (matmul dot_S128x128_S256x128_S128x256_1_1_0_0_n_n none (truncf .bf16 q bitsLt_bf16_f32) (truncf .bf16 k bitsLt_bf16_f32) (constant S128x256 .f32 0x00000000#32))
      (broadcast S128x256 (Scalar.ofBits .f32 0x3E000000#32)))
    (broadcast S128x256 (Named.named κ "mask" 0xF149F2CA#32))

def weights (ok : IVec S128x256 1) (q : FVec Ideal S128x128 .f32) (k : FVec Ideal S256x128 .f32) : FVec Ideal S128x256 .f32 :=
  exp (subf (scores ok q k) (broadcastTo S128x256 (shapeCast S128x1
    (multiReduction .maximumf [1] S128 (scores ok q k) 0xFF800000#32 reduces_S128x256_S128 (.inl rfl) rfl) shapeCasts_S128_S128x1) broadcasts_S128x1_S128x256))

def totals (w : FVec Ideal S128x256 .f32) : FVec Ideal S128x1 .f32 :=
  shapeCast S128x1 (multiReduction .add [1] S128 w 0x00000000#32 reduces_S128x256_S128 (.inl rfl) rfl) shapeCasts_S128_S128x1

def mixed (w : FVec Ideal S128x256 .f32) (v : FVec Ideal S256x128 .f32) : FVec Ideal S128x128 .f32 :=
  matmul dot_S128x256_S256x128_S128x128_1_0_0_1_n_n none (truncf .bf16 w bitsLt_bf16_f32) (truncf .bf16 v bitsLt_bf16_f32) (constant S128x128 .f32 0x00000000#32)

def invSq (l : FVec Ideal S128x1 .f32) : FVec Ideal S128x1 .f32 :=
  divf (broadcast S128x1 (Scalar.ofBits .f32 0x3F800000#32)) (mulf l l)

def rowSum (x : FVec Ideal S128x128 .f32) : FVec Ideal S128x1 .f32 :=
  shapeCast S128x1 (multiReduction .add [1] S128 x 0x00000000#32 reduces_S128x128_S128 (.inl rfl) rfl) shapeCasts_S128_S128x1

def gradTotals (l i : FVec Ideal S128x1 .f32) (n g gl : FVec Ideal S128x128 .f32) : FVec Ideal S128x1 .f32 :=
  addf (divf (rowSum gl) l)
    (subf (broadcast S128x1 (Scalar.ofBits .f32 0x00000000#32))
      (rowSum (mulf (mulf g (broadcastTo S128x128 i broadcasts_S128x1_S128x128)) n)))

def gradMixed (l : FVec Ideal S128x1 .f32) (g : FVec Ideal S128x128 .f32) : FVec Ideal S128x128 .bf16 :=
  truncf .bf16 (divf g (broadcastTo S128x128 l broadcasts_S128x1_S128x128)) bitsLt_bf16_f32

def gradScores (ok : IVec S128x256 1) (w : FVec Ideal S128x256 .f32) (gm : FVec Ideal S128x128 .bf16)
    (v : FVec Ideal S256x128 .f32) (gt : FVec Ideal S128x1 .f32) : FVec Ideal S128x256 .bf16 :=
  truncf .bf16 (mulf (select ok
    (mulf (addf (matmul dot_S128x128_S256x128_S128x256_1_1_0_0_n_n none gm (truncf .bf16 v bitsLt_bf16_f32) (constant S128x256 .f32 0x00000000#32))
      (broadcastTo S128x256 (shapeCast S128x1 (multiReduction .add [1] S128 gt 0x00000000#32 reduces_S128x1_S128 (.inl rfl) rfl) shapeCasts_S128_S128x1)
        broadcasts_S128x1_S128x256)) w)
    (broadcast S128x256 (Scalar.ofBits .f32 0x00000000#32)))
    (broadcast S128x256 (Scalar.ofBits .f32 0x3E000000#32))) bitsLt_bf16_f32

def headQ (ds : FVec Ideal S128x256 .bf16) (k : FVec Ideal S256x128 .f32) : FVec Ideal S128x128 .f32 :=
  matmul dot_S128x256_S256x128_S128x128_1_0_0_1_n_n none ds (truncf .bf16 k bitsLt_bf16_f32) (constant S128x128 .f32 0x00000000#32)

def headK (ds : FVec Ideal S128x256 .bf16) (q : FVec Ideal S128x128 .f32) : FVec Ideal S256x128 .f32 :=
  matmul dot_S128x256_S128x128_S256x128_0_0_1_1_n_n none ds (truncf .bf16 q bitsLt_bf16_f32) (constant S256x128 .f32 0x00000000#32)

def headV (w : FVec Ideal S128x256 .f32) (gm : FVec Ideal S128x128 .bf16) : FVec Ideal S256x128 .f32 :=
  matmul dot_S128x256_S128x128_S256x128_0_0_1_1_n_n none (truncf .bf16 w bitsLt_bf16_f32) gm (constant S256x128 .f32 0x00000000#32)

/-! ## One head over 128 lanes, from its operands -/

variable (ok : IVec S128x256 1) (q g gl : FVec Ideal S128x128 .f32) (k v : FVec Ideal S256x128 .f32)

def gm : FVec Ideal S128x128 .bf16 := gradMixed (totals (weights ok q k)) g

def ds : FVec Ideal S128x256 .bf16 :=
  gradScores ok (weights ok q k) (gm ok q g k) v
    (gradTotals (totals (weights ok q k)) (invSq (totals (weights ok q k))) (mixed (weights ok q k) v) g gl)

/-- The operands of a head as the data of Head.lean. -/
def lanes : Head (Fin 128) where
  q := fun a c => q (ix2 a c)
  k := fun b c => k (ix2 b c)
  v := fun b c => v (ix2 b c)
  g := fun a c => g (ix2 a c)
  gl := fun a c => gl (ix2 a c)
  ok := fun a b => ok (ix2 a b)
  scale := Ideal.ofBits .f32 0x3E000000#32

theorem scores_at (a : Fin 128) (b : Fin 256) : scores ok q k (ix2 a b) = (lanes ok q g gl k v).score a b := by
  pointwise [scores]
  rfl

theorem weights_at (a : Fin 128) (b : Fin 256) : weights ok q k (ix2 a b) = (lanes ok q g gl k v).weight a b := by
  pointwise [weights]
  simp only [scores_at ok q g gl k v]
  rw [ofBits_neg_inf]
  rfl

theorem totals_at (a : Fin 128) : totals (weights ok q k) (ix2 a 0) = (lanes ok q g gl k v).total a := by
  pointwise [totals]
  exact Finset.sum_congr rfl fun b _ => weights_at ok q g gl k v a b

theorem mixed_at (a : Fin 128) (c : Fin 128) : mixed (weights ok q k) v (ix2 a c) = (lanes ok q g gl k v).mix a c := by
  pointwise [mixed]
  exact Finset.sum_congr rfl fun b _ => by rw [weights_at ok q g gl k v]; rfl

theorem gm_at (a : Fin 128) (c : Fin 128) : gm ok q g k (ix2 a c) = (lanes ok q g gl k v).gradMix a c := by
  pointwise [gm, gradMixed]
  rw [totals_at ok q g gl k v]; rfl

theorem gradTotals_at (a : Fin 128) :
    gradTotals (totals (weights ok q k)) (invSq (totals (weights ok q k))) (mixed (weights ok q k) v) g gl (ix2 a 0)
      = (lanes ok q g gl k v).gradTotal a := by
  pointwise [gradTotals, invSq, rowSum]
  simp only [totals_at ok q g gl k v, mixed_at ok q g gl k v, zero_sub]
  rfl

theorem ds_at (a : Fin 128) (b : Fin 256) : ds ok q g gl k v (ix2 a b) = (lanes ok q g gl k v).gradScore a b := by
  pointwise [ds, gradScores]
  simp only [weights_at ok q g gl k v, gm_at ok q g gl k v, Finset.univ_unique, Finset.sum_singleton, Fin.default_eq_zero]
  rw [gradTotals_at ok q g gl k v]
  rfl

theorem headQ_at (a c : Fin 128) : headQ (ds ok q g gl k v) k (ix2 a c) = (lanes ok q g gl k v).gradQ a c := by
  pointwise [headQ]
  exact Finset.sum_congr rfl fun b _ => by rw [ds_at ok q g gl k v]; rfl

theorem headK_at (b : Fin 256) (c : Fin 128) : headK (ds ok q g gl k v) q (ix2 b c) = (lanes ok q g gl k v).gradK b c := by
  pointwise [headK]
  exact Finset.sum_congr rfl fun a _ => by rw [ds_at ok q g gl k v]; rfl

theorem headV_at (b : Fin 256) (c : Fin 128) : headV (weights ok q k) (gm ok q g k) (ix2 b c) = (lanes ok q g gl k v).gradV b c := by
  pointwise [headV]
  exact Finset.sum_congr rfl fun a _ => by rw [weights_at ok q g gl k v, gm_at ok q g gl k v]

end Cert.KernelIdeal.Block

end
-- ==== Proof.Payload.lean ====
/-
  What the kernel stores in one block, written with the operations of `Block`: for each of the four pairs of heads the
  sum of its two heads' gradients, and the four pairs side by side.
-/
module

public import proofs.«01_k».proof.Proof.Gen.KernelIdeal.Frame
public import proofs.«01_k».proof.Proof.Block

@[expose] public section

set_option maxRecDepth 16384
noncomputable section

namespace Cert.KernelIdeal.Block

open Cert.KernelIdeal Cert.KernelIdeal.Gen Idealize.ShloMosaic Cert.Attention

/-! ## A pair of heads -/

section Pair
variable (ok : IVec S128x256 1) (lane : IVec S1x128 32) (q g gl : FVec Ideal S128x128 .f32) (k v : FVec Ideal S256x128 .f32)

/-- The gradient of the scores of the pair's head `e`. -/
def pairS (e : BitVec 32) : FVec Ideal S128x256 .bf16 :=
  ds ok (only (lanesOf e lane) q) (only (lanesOf e lane) g) (only (lanesOf e lane) gl) k v

def pairQ : FVec Ideal S128x128 .f32 :=
  addf (only (lanesOf 1#32 lane) (headQ (pairS ok lane q g gl k v 1#32) k))
    (only (lanesOf 0#32 lane) (headQ (pairS ok lane q g gl k v 0#32) k))

def pairK : FVec Ideal S256x128 .f32 :=
  addf (headK (pairS ok lane q g gl k v 1#32) (only (lanesOf 1#32 lane) q))
    (headK (pairS ok lane q g gl k v 0#32) (only (lanesOf 0#32 lane) q))

/-- The gradient of the values from the pair's head `e`. -/
def pairV1 (e : BitVec 32) : FVec Ideal S256x128 .f32 :=
  headV (weights ok (only (lanesOf e lane) q) k) (gm ok (only (lanesOf e lane) q) (only (lanesOf e lane) g) k)

def pairV : FVec Ideal S256x128 .f32 := addf (pairV1 ok lane q g k 1#32) (pairV1 ok lane q g k 0#32)

end Pair

/-! ## The four pairs side by side -/

def side128 (x0 x1 x2 x3 : FVec Ideal S128x128 .f32) : FVec Ideal S128x512 .f32 :=
  addf (addf (addf
    (concatenate S128x512 1 [⟨S128x384, broadcast S128x384 (Scalar.ofBits .f32 0x00000000#32)⟩, ⟨S128x128, x3⟩] concatenates_S128x384_S128x128_S128x512_d1)
    (concatenate S128x512 1 [⟨S128x384, concatenate S128x384 1 [⟨S128x256, broadcast S128x256 (Scalar.ofBits .f32 0x00000000#32)⟩, ⟨S128x128, x2⟩] concatenates_S128x256_S128x128_S128x384_d1⟩, ⟨S128x128, broadcast S128x128 (Scalar.ofBits .f32 0x00000000#32)⟩] concatenates_S128x384_S128x128_S128x512_d1))
    (concatenate S128x512 1 [⟨S128x256, concatenate S128x256 1 [⟨S128x128, broadcast S128x128 (Scalar.ofBits .f32 0x00000000#32)⟩, ⟨S128x128, x1⟩] concatenates_S128x128_S128x128_S128x256_d1⟩, ⟨S128x256, broadcast S128x256 (Scalar.ofBits .f32 0x00000000#32)⟩] concatenates_S128x256_S128x256_S128x512_d1))
    (concatenate S128x512 1 [⟨S128x128, x0⟩, ⟨S128x384, broadcast S128x384 (Scalar.ofBits .f32 0x00000000#32)⟩] concatenates_S128x128_S128x384_S128x512_d1)

def side256 (x0 x1 x2 x3 : FVec Ideal S256x128 .f32) : FVec Ideal S256x512 .f32 :=
  addf (addf (addf
    (concatenate S256x512 1 [⟨S256x384, broadcast S256x384 (Scalar.ofBits .f32 0x00000000#32)⟩, ⟨S256x128, x3⟩] concatenates_S256x384_S256x128_S256x512_d1)
    (concatenate S256x512 1 [⟨S256x384, concatenate S256x384 1 [⟨S256x256, broadcast S256x256 (Scalar.ofBits .f32 0x00000000#32)⟩, ⟨S256x128, x2⟩] concatenates_S256x256_S256x128_S256x384_d1⟩, ⟨S256x128, broadcast S256x128 (Scalar.ofBits .f32 0x00000000#32)⟩] concatenates_S256x384_S256x128_S256x512_d1))
    (concatenate S256x512 1 [⟨S256x256, concatenate S256x256 1 [⟨S256x128, broadcast S256x128 (Scalar.ofBits .f32 0x00000000#32)⟩, ⟨S256x128, x1⟩] concatenates_S256x128_S256x128_S256x256_d1⟩, ⟨S256x256, broadcast S256x256 (Scalar.ofBits .f32 0x00000000#32)⟩] concatenates_S256x256_S256x256_S256x512_d1))
    (concatenate S256x512 1 [⟨S256x128, x0⟩, ⟨S256x384, broadcast S256x384 (Scalar.ofBits .f32 0x00000000#32)⟩] concatenates_S256x128_S256x384_S256x512_d1)

/-- Lanes 0 to 127, 128 to 255, … of a block of queries. -/
def q0 (x : FVec Ideal S128x512 .f32) : FVec Ideal S128x128 .f32 := extractStridedSlice S128x128 ![0, 0] x slices_S128x512_o0_0_S128x128
def q1 (x : FVec Ideal S128x512 .f32) : FVec Ideal S128x128 .f32 := extractStridedSlice S128x128 ![0, 128] x slices_S128x512_o0_128_S128x128
def q2 (x : FVec Ideal S128x512 .f32) : FVec Ideal S128x128 .f32 := extractStridedSlice S128x128 ![0, 256] x slices_S128x512_o0_256_S128x128
def q3 (x : FVec Ideal S128x512 .f32) : FVec Ideal S128x128 .f32 := extractStridedSlice S128x128 ![0, 384] x slices_S128x512_o0_384_S128x128
/-- The same lanes of a block of keys or values. -/
def k0 (x : FVec Ideal S256x512 .f32) : FVec Ideal S256x128 .f32 := extractStridedSlice S256x128 ![0, 0] x slices_S256x512_o0_0_S256x128
def k1 (x : FVec Ideal S256x512 .f32) : FVec Ideal S256x128 .f32 := extractStridedSlice S256x128 ![0, 128] x slices_S256x512_o0_128_S256x128
def k2 (x : FVec Ideal S256x512 .f32) : FVec Ideal S256x128 .f32 := extractStridedSlice S256x128 ![0, 256] x slices_S256x512_o0_256_S256x128
def k3 (x : FVec Ideal S256x512 .f32) : FVec Ideal S256x128 .f32 := extractStridedSlice S256x128 ![0, 384] x slices_S256x512_o0_384_S256x128

section Whole
variable (ok : IVec S128x256 1) (lane : IVec S1x128 32) (q g gl : FVec Ideal S128x512 .f32) (k v : FVec Ideal S256x512 .f32)

def blockQ : FVec Ideal S128x512 .f32 :=
  side128 (pairQ ok lane (q0 q) (q0 g) (q0 gl) (k0 k) (k0 v)) (pairQ ok lane (q1 q) (q1 g) (q1 gl) (k1 k) (k1 v))
    (pairQ ok lane (q2 q) (q2 g) (q2 gl) (k2 k) (k2 v)) (pairQ ok lane (q3 q) (q3 g) (q3 gl) (k3 k) (k3 v))

def blockK : FVec Ideal S256x512 .f32 :=
  side256 (pairK ok lane (q0 q) (q0 g) (q0 gl) (k0 k) (k0 v)) (pairK ok lane (q1 q) (q1 g) (q1 gl) (k1 k) (k1 v))
    (pairK ok lane (q2 q) (q2 g) (q2 gl) (k2 k) (k2 v)) (pairK ok lane (q3 q) (q3 g) (q3 gl) (k3 k) (k3 v))

def blockV : FVec Ideal S256x512 .f32 :=
  side256 (pairV ok lane (q0 q) (q0 g) (k0 k)) (pairV ok lane (q1 q) (q1 g) (k1 k))
    (pairV ok lane (q2 q) (q2 g) (k2 k)) (pairV ok lane (q3 q) (q3 g) (k3 k))
end Whole

/-- The number of a lane divided by 64, as the kernel computes it. -/
def laneHead : IVec S1x128 32 := k0_pay12 (iota .tc S1x128 32 [1] iota_S1x128_d1_w32) 64#32 k0_pay10 k0_pay11

section Out
variable (i : grid0.Coords) (x0 x1 x2 x3 x4 : Vec Ideal S128x512 .bf16) (x5 x6 : Vec Ideal S128x512 .f32)

theorem out7 : out0_7 i x0 x1 x2 x3 x4 x5 x6
    = View.canon [⟨r0_0, blockQ (k0_pay9 i) laneHead (k0_pay6 (View.ld x0 r0_0)) (k0_pay105 (View.ld x5 r0_0)) (k0_pay106 (View.ld x6 r0_0))
        (k0_pay7 (View.ld x1 r0_0) (View.ld x2 r0_0)) (k0_pay8 (View.ld x3 r0_0) (View.ld x4 r0_0))⟩] := rfl

theorem out8 : out0_8 i x0 x1 x2 x3 x4 x5 x6
    = View.canon [⟨r0_0, k0_pay4 (blockK (k0_pay9 i) laneHead (k0_pay6 (View.ld x0 r0_0)) (k0_pay105 (View.ld x5 r0_0)) (k0_pay106 (View.ld x6 r0_0))
        (k0_pay7 (View.ld x1 r0_0) (View.ld x2 r0_0)) (k0_pay8 (View.ld x3 r0_0) (View.ld x4 r0_0)))⟩] := rfl

theorem out9 : out0_9 i x0 x1 x2 x3 x4 x5 x6
    = View.canon [⟨r0_0, k0_pay5 (blockK (k0_pay9 i) laneHead (k0_pay6 (View.ld x0 r0_0)) (k0_pay105 (View.ld x5 r0_0)) (k0_pay106 (View.ld x6 r0_0))
        (k0_pay7 (View.ld x1 r0_0) (View.ld x2 r0_0)) (k0_pay8 (View.ld x3 r0_0) (View.ld x4 r0_0)))⟩] := rfl

theorem out10 : out0_10 i x0 x1 x2 x3 x4 x5 x6
    = View.canon [⟨r0_0, k0_pay2 (blockV (k0_pay9 i) laneHead (k0_pay6 (View.ld x0 r0_0)) (k0_pay105 (View.ld x5 r0_0))
        (k0_pay7 (View.ld x1 r0_0) (View.ld x2 r0_0)))⟩] := rfl

theorem out11 : out0_11 i x0 x1 x2 x3 x4 x5 x6
    = View.canon [⟨r0_0, k0_pay3 (blockV (k0_pay9 i) laneHead (k0_pay6 (View.ld x0 r0_0)) (k0_pay105 (View.ld x5 r0_0))
        (k0_pay7 (View.ld x1 r0_0) (View.ld x2 r0_0)))⟩] := rfl
end Out

end Cert.KernelIdeal.Block

end
-- ==== Proof.Pairs.lean ====
/-
  The whole block read at an index: lane `64 h + d` of the gradients of queries, keys and values is lane `d` of the
  gradients of head `h`, taken over its own 64 lanes.
-/
module

public import proofs.«01_k».proof.Proof.Payload

@[expose] public section

set_option maxRecDepth 16384
noncomputable section

namespace Cert.KernelIdeal.Block

open Cert.KernelIdeal Cert.KernelIdeal.Gen Idealize.ShloMosaic Cert.Attention

/-! ## The two heads of a pair -/

/-- Lane `d` of head `e` of a pair. -/
def at64 (e : Fin 2) (d : Fin 64) : Fin 128 := ⟨64 * e.val + d.val, by omega⟩

theorem at64_inj (e : Fin 2) : Function.Injective (at64 e) := fun d d' h => by
  have := congrArg Fin.val h
  simp only [at64] at this
  exact Fin.ext (by omega)

theorem not_at64 {e : Fin 2} {c : Fin 128} (h : c ∉ Set.range (at64 e)) : c.val / 64 ≠ e.val := fun h' =>
  h ⟨⟨c.val - 64 * e.val, by omega⟩, Fin.ext (by simp only [at64]; omega)⟩

/-- The head's number as the kernel's word. -/
def word (e : Fin 2) : BitVec 32 := BitVec.ofNat 32 e.val

theorem lanesOf_at (e : Fin 2) (a c : Fin 128) :
    lanesOf (word e) laneHead (ix2 a c) = BitVec.ofBool (decide (c.val / 64 = e.val)) := by
  pointwise [lanesOf, laneHead, k0_pay12, k0_pay10, k0_pay11, word]
  revert e c
  decide +kernel

theorem only_at (e : Fin 2) (x : FVec Ideal S128x128 .f32) (a c : Fin 128) :
    only (lanesOf (word e) laneHead) x (ix2 a c) = if c.val / 64 = e.val then x (ix2 a c) else 0 := by
  pointwise [only]
  rw [lanesOf_at]
  by_cases h : c.val / 64 = e.val <;> simp [h, Scalar.select]

theorem only_in (e : Fin 2) (x : FVec Ideal S128x128 .f32) (a : Fin 128) (d : Fin 64) :
    only (lanesOf (word e) laneHead) x (ix2 a (at64 e d)) = x (ix2 a (at64 e d)) := by
  rw [only_at, if_pos (by simp only [at64]; omega)]

theorem only_out (e : Fin 2) (x : FVec Ideal S128x128 .f32) (a c : Fin 128) (h : c ∉ Set.range (at64 e)) :
    only (lanesOf (word e) laneHead) x (ix2 a c) = 0 := by
  rw [only_at, if_neg (not_at64 h)]

theorem at64_ne {e e' : Fin 2} (h : e ≠ e') (d : Fin 64) : at64 e d ∉ Set.range (at64 e') := by
  rintro ⟨d', hd⟩
  have := congrArg Fin.val hd
  simp only [at64] at this
  exact h (Fin.ext (by omega))

section Pair
variable (ok : IVec S128x256 1) (q g gl : FVec Ideal S128x128 .f32) (k v : FVec Ideal S256x128 .f32)

/-- Head `e` of a pair over its own lanes. -/
def half (e : Fin 2) : Head (Fin 64) where
  q := fun a d => q (ix2 a (at64 e d))
  k := fun b d => k (ix2 b (at64 e d))
  v := fun b d => v (ix2 b (at64 e d))
  g := fun a d => g (ix2 a (at64 e d))
  gl := fun a d => gl (ix2 a (at64 e d))
  ok := fun a b => ok (ix2 a b)
  scale := Ideal.ofBits .f32 0x3E000000#32

theorem half_lays (e : Fin 2) : Head.Lays (at64 e) (half ok q g gl k v e)
    (lanes ok (only (lanesOf (word e) laneHead) q) (only (lanesOf (word e) laneHead) g) (only (lanesOf (word e) laneHead) gl) k v) where
  inj := at64_inj e
  q := fun _ _ => only_in e _ _ _
  k := fun _ _ => rfl
  v := fun _ _ => rfl
  g := fun _ _ => only_in e _ _ _
  gl := fun _ _ => only_in e _ _ _
  ok := rfl
  scale := rfl
  q0 := fun _ _ h => only_out e _ _ _ h
  g0 := fun _ _ h => only_out e _ _ _ h
  gl0 := fun _ _ h => only_out e _ _ _ h

theorem pairQ_at (e : Fin 2) (a : Fin 128) (d : Fin 64) :
    pairQ ok laneHead q g gl k v (ix2 a (at64 e d)) = (half ok q g gl k v e).gradQ a d := by
  have key : ∀ e', only (lanesOf (word e') laneHead) (headQ (pairS ok laneHead q g gl k v (word e')) k) (ix2 a (at64 e d))
      = if e = e' then (half ok q g gl k v e).gradQ a d else 0 := fun e' => by
    by_cases h : e = e'
    · subst h
      rw [if_pos rfl, only_in]
      exact (headQ_at _ _ _ _ _ _ a _).trans ((half_lays ok q g gl k v e).gradQ a d)
    · rw [if_neg h, only_out _ _ _ _ (at64_ne h d)]
  have : pairQ ok laneHead q g gl k v (ix2 a (at64 e d))
      = (if e = 1 then (half ok q g gl k v e).gradQ a d else 0) + (if e = 0 then (half ok q g gl k v e).gradQ a d else 0) := by
    rw [← key 1, ← key 0]; rfl
  rw [this]
  fin_cases e
  · exact zero_add _
  · exact add_zero _

theorem pairK_at (e : Fin 2) (b : Fin 256) (d : Fin 64) :
    pairK ok laneHead q g gl k v (ix2 b (at64 e d)) = (half ok q g gl k v e).gradK b d := by
  have key : ∀ e', headK (pairS ok laneHead q g gl k v (word e')) (only (lanesOf (word e') laneHead) q) (ix2 b (at64 e d))
      = if e = e' then (half ok q g gl k v e).gradK b d else 0 := fun e' => by
    rw [pairS, headK_at]
    by_cases h : e = e'
    · subst h
      rw [if_pos rfl]
      exact (half_lays ok q g gl k v e).gradK b d
    · rw [if_neg h]
      exact (half_lays ok q g gl k v e').gradK_off b _ (at64_ne h d)
  have : pairK ok laneHead q g gl k v (ix2 b (at64 e d))
      = (if e = 1 then (half ok q g gl k v e).gradK b d else 0) + (if e = 0 then (half ok q g gl k v e).gradK b d else 0) := by
    rw [← key 1, ← key 0]; rfl
  rw [this]
  fin_cases e
  · exact zero_add _
  · exact add_zero _

theorem pairV_at (e : Fin 2) (b : Fin 256) (d : Fin 64) :
    pairV ok laneHead q g k (ix2 b (at64 e d)) = (half ok q g gl k v e).gradV b d := by
  have key : ∀ e', pairV1 ok laneHead q g k (word e') (ix2 b (at64 e d))
      = if e = e' then (half ok q g gl k v e).gradV b d else 0 := fun e' => by
    rw [pairV1, headV_at ok _ _ (only (lanesOf (word e') laneHead) gl) k v]
    by_cases h : e = e'
    · subst h
      rw [if_pos rfl]
      exact (half_lays ok q g gl k v e).gradV b d
    · rw [if_neg h]
      exact (half_lays ok q g gl k v e').gradV_off b _ (at64_ne h d)
  have : pairV ok laneHead q g k (ix2 b (at64 e d))
      = (if e = 1 then (half ok q g gl k v e).gradV b d else 0) + (if e = 0 then (half ok q g gl k v e).gradV b d else 0) := by
    rw [← key 1, ← key 0]; rfl
  rw [this]
  fin_cases e
  · exact zero_add _
  · exact add_zero _

end Pair

/-! ## The four pairs -/

/-- Lane `c` of pair `p`. -/
def at128 (p : Fin 4) (c : Fin 128) : Fin 512 := ⟨128 * p.val + c.val, by omega⟩

theorem side128_at (x : Fin 4 → FVec Ideal S128x128 .f32) (p : Fin 4) (a : Fin 128) (c : Fin 128) :
    side128 (x 0) (x 1) (x 2) (x 3) (ix2 a (at128 p c)) = x p (ix2 a c) := by
  have := c.isLt
  obtain ⟨p, hp⟩ := p
  pointwise [side128, at128]
  interval_cases p <;>
  · repeat first | rw [dif_neg (by omega)] | rw [dif_pos (by omega)]
    simp only [zero_add, add_zero]
    refine congrArg (fun c' => x ⟨_, hp⟩ (ix2 a c')) (Fin.ext ?_)
    simp

theorem side256_at (x : Fin 4 → FVec Ideal S256x128 .f32) (p : Fin 4) (a : Fin 256) (c : Fin 128) :
    side256 (x 0) (x 1) (x 2) (x 3) (ix2 a (at128 p c)) = x p (ix2 a c) := by
  have := c.isLt
  obtain ⟨p, hp⟩ := p
  pointwise [side256, at128]
  interval_cases p <;>
  · repeat first | rw [dif_neg (by omega)] | rw [dif_pos (by omega)]
    simp only [zero_add, add_zero]
    refine congrArg (fun c' => x ⟨_, hp⟩ (ix2 a c')) (Fin.ext ?_)
    simp

/-- Pair `p` of a block. -/
def qp (x : FVec Ideal S128x512 .f32) (p : Fin 4) : FVec Ideal S128x128 .f32 := ![q0 x, q1 x, q2 x, q3 x] p
def kp (x : FVec Ideal S256x512 .f32) (p : Fin 4) : FVec Ideal S256x128 .f32 := ![k0 x, k1 x, k2 x, k3 x] p

theorem qp_at (x : FVec Ideal S128x512 .f32) (p : Fin 4) (a c : Fin 128) : qp x p (ix2 a c) = x (ix2 a (at128 p c)) := by
  obtain ⟨p, hp⟩ := p
  interval_cases p
  · exact (by pointwise [q0, at128] : q0 x (ix2 a c) = x (ix2 a (at128 0 c)))
  · exact (by pointwise [q1, at128] : q1 x (ix2 a c) = x (ix2 a (at128 1 c)))
  · exact (by pointwise [q2, at128] : q2 x (ix2 a c) = x (ix2 a (at128 2 c)))
  · exact (by pointwise [q3, at128] : q3 x (ix2 a c) = x (ix2 a (at128 3 c)))

theorem kp_at (x : FVec Ideal S256x512 .f32) (p : Fin 4) (b : Fin 256) (c : Fin 128) : kp x p (ix2 b c) = x (ix2 b (at128 p c)) := by
  obtain ⟨p, hp⟩ := p
  interval_cases p
  · exact (by pointwise [k0, at128] : k0 x (ix2 b c) = x (ix2 b (at128 0 c)))
  · exact (by pointwise [k1, at128] : k1 x (ix2 b c) = x (ix2 b (at128 1 c)))
  · exact (by pointwise [k2, at128] : k2 x (ix2 b c) = x (ix2 b (at128 2 c)))
  · exact (by pointwise [k3, at128] : k3 x (ix2 b c) = x (ix2 b (at128 3 c)))

/-! ## The block -/

/-- Lane `d` of head `h`. -/
def at512 (h : Fin 8) (d : Fin 64) : Fin 512 := ⟨64 * h.val + d.val, by omega⟩

section Whole
variable (ok : IVec S128x256 1) (q g gl : FVec Ideal S128x512 .f32) (k v : FVec Ideal S256x512 .f32)

/-- Head `h` of a block. -/
def head (h : Fin 8) : Head (Fin 64) where
  q := fun a d => q (ix2 a (at512 h d))
  k := fun b d => k (ix2 b (at512 h d))
  v := fun b d => v (ix2 b (at512 h d))
  g := fun a d => g (ix2 a (at512 h d))
  gl := fun a d => gl (ix2 a (at512 h d))
  ok := fun a b => ok (ix2 a b)
  scale := Ideal.ofBits .f32 0x3E000000#32

/-- The pair of head `h`, and the head's place in it. -/
def pairOf (h : Fin 8) : Fin 4 := ⟨h.val / 2, by omega⟩
def halfOf (h : Fin 8) : Fin 2 := ⟨h.val % 2, by omega⟩

theorem at_pair (h : Fin 8) (d : Fin 64) : at128 (pairOf h) (at64 (halfOf h) d) = at512 h d :=
  Fin.ext (by simp only [at128, at64, pairOf, halfOf, at512]; omega)

theorem half_eq (h : Fin 8) :
    half ok (qp q (pairOf h)) (qp g (pairOf h)) (qp gl (pairOf h)) (kp k (pairOf h)) (kp v (pairOf h)) (halfOf h)
      = head ok q g gl k v h := by
  simp only [half, head, qp_at, kp_at, at_pair]

theorem blockQ_at (h : Fin 8) (a : Fin 128) (d : Fin 64) :
    blockQ ok laneHead q g gl k v (ix2 a (at512 h d)) = (head ok q g gl k v h).gradQ a d := by
  rw [← half_eq, ← pairQ_at, ← at_pair]
  exact side128_at (fun p => pairQ ok laneHead (qp q p) (qp g p) (qp gl p) (kp k p) (kp v p)) (pairOf h) a _

theorem blockK_at (h : Fin 8) (b : Fin 256) (d : Fin 64) :
    blockK ok laneHead q g gl k v (ix2 b (at512 h d)) = (head ok q g gl k v h).gradK b d := by
  rw [← half_eq, ← pairK_at, ← at_pair]
  exact side256_at (fun p => pairK ok laneHead (qp q p) (qp g p) (qp gl p) (kp k p) (kp v p)) (pairOf h) b _

theorem blockV_at (h : Fin 8) (b : Fin 256) (d : Fin 64) :
    blockV ok laneHead q g k (ix2 b (at512 h d)) = (head ok q g gl k v h).gradV b d := by
  rw [← half_eq, ← pairV_at, ← at_pair]
  exact side256_at (fun p => pairV ok laneHead (qp q p) (qp g p) (kp k p)) (pairOf h) b _

end Whole

end Cert.KernelIdeal.Block

end
-- ==== Proof.Whole.lean ====
/-
  The whole call: 4096 rows of 512 lanes, taken apart into 4 residues of the row number (the dilation), 8 blocks of 128
  queries in each, and 8 heads of 64 lanes. A block of queries meets the keys of its own block and of the block before.
  Block 0 has no block before: `near` lets its 128 missing keys be whatever rows lie at hand, `padded` lets them be
  zero. No query meets them, so that all gradients are the same.
-/
module

public import proofs.«01_k».proof.Proof.Head

@[expose] public section

noncomputable section

namespace Cert.Attention

open Idealize.ShloMosaic

/-- The arguments of the call, by row and lane. -/
structure Args where
  q : Fin 4096 → Fin 512 → EReal
  k : Fin 4096 → Fin 512 → EReal
  v : Fin 4096 → Fin 512 → EReal
  g : Fin 4096 → Fin 512 → EReal
  gl : Fin 4096 → Fin 512 → EReal

/-- Row `a` of block `n` of residue `ρ`. -/
def row (ρ : Fin 4) (n : Fin 8) (a : Fin 128) : Fin 4096 := ⟨(n.val * 128 + a.val) * 4 + ρ.val, by omega⟩

/-- Lane `d` of head `h`. -/
def lane (h : Fin 8) (d : Fin 64) : Fin 512 := ⟨64 * h.val + d.val, by omega⟩

/-- The block before, or block 0. -/
def before (n : Fin 8) : Fin 8 := ⟨n.val - 1, by omega⟩

/-- Query `a` and key `b` of block `n` may meet: the key is not after the query, not more than 128 before it, and
    there. -/
def meets (n : Fin 8) (a : Fin 128) (b : Fin 256) : BitVec 1 :=
  BitVec.ofBool (decide (a.val ≤ b.val ∧ b.val ≤ a.val + 128 ∧ (128 ≤ b.val ∨ n ≠ 0)))

/-! ### The same in 32-bit words -/

theorem dist_word : ∀ x : Fin 383,
    IntOp.andi (IntOp.cmpi CmpIPredicate.sge (BitVec.ofNat 32 (x.val + 4294967169)) 0#32)
        (IntOp.cmpi CmpIPredicate.sle (BitVec.ofNat 32 (x.val + 4294967169)) 128#32)
      = BitVec.ofBool (decide (127 ≤ x.val ∧ x.val ≤ 255)) := by
  decide +kernel

theorem near_word (a : Fin 128) (b : Fin 256) :
    IntOp.andi (IntOp.cmpi CmpIPredicate.sge (IntOp.subi (IntOp.addi (BitVec.ofNat 32 a.val) 128#32) (BitVec.ofNat 32 b.val)) 0#32)
        (IntOp.cmpi CmpIPredicate.sle (IntOp.subi (IntOp.addi (BitVec.ofNat 32 a.val) 128#32) (BitVec.ofNat 32 b.val)) 128#32)
      = BitVec.ofBool (decide (a.val ≤ b.val ∧ b.val ≤ a.val + 128)) := by
  have e : IntOp.subi (IntOp.addi (BitVec.ofNat 32 a.val) 128#32) (BitVec.ofNat 32 b.val)
      = BitVec.ofNat 32 (a.val + 255 - b.val + 4294967169) := by
    apply BitVec.eq_of_toNat_eq
    simp only [IntOp.subi, IntOp.addi, BitVec.toNat_sub, BitVec.toNat_add, BitVec.toNat_ofNat]
    omega
  have := dist_word ⟨a.val + 255 - b.val, by omega⟩
  simp only at this
  rw [e, this]
  congr 2
  exact propext ⟨fun h => by omega, fun h => by omega⟩

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

namespace Args

variable (A : Args) (ρ : Fin 4) (n : Fin 8) (h : Fin 8)

/-- Keys or values of a block: first the block before, then the block. -/
def two (x : Fin 4096 → Fin 512 → EReal) (b : Fin 256) (d : Fin 64) : EReal :=
  if hb : b.val < 128 then x (row ρ (before n) ⟨b.val, hb⟩) (lane h d)
  else x (row ρ n ⟨b.val - 128, by omega⟩) (lane h d)

/-- The same with zeros before block 0. -/
def twoPadded (x : Fin 4096 → Fin 512 → EReal) (b : Fin 256) (d : Fin 64) : EReal :=
  if hb : b.val < 128 then (if n = 0 then 0 else x (row ρ (before n) ⟨b.val, hb⟩) (lane h d))
  else x (row ρ n ⟨b.val - 128, by omega⟩) (lane h d)

/-- Head `h` of block `n` of residue `ρ`. -/
def near : Head (Fin 64) where
  q := fun a d => A.q (row ρ n a) (lane h d)
  k := two ρ n h A.k
  v := two ρ n h A.v
  g := fun a d => A.g (row ρ n a) (lane h d)
  gl := fun a d => A.gl (row ρ n a) (lane h d)
  ok := meets n
  scale := Ideal.ofBits .f32 0x3E000000#32

/-- The same with zeros before block 0. -/
def padded : Head (Fin 64) where
  q := fun a d => A.q (row ρ n a) (lane h d)
  k := twoPadded ρ n h A.k
  v := twoPadded ρ n h A.v
  g := fun a d => A.g (row ρ n a) (lane h d)
  gl := fun a d => A.gl (row ρ n a) (lane h d)
  ok := meets n
  scale := Ideal.ofBits .f32 0x3E000000#32

/-- The two differ only in keys that no query meets. -/
theorem agrees : Head.Agrees (A.near ρ n h) (A.padded ρ n h) where
  q := rfl
  g := rfl
  gl := rfl
  ok := rfl
  scale := rfl
  kv := fun b => by
    by_cases hb : b.val < 128
    · by_cases hn : n = 0
      · exact Or.inr fun a => by
          show meets n a b = 0#1
          have : ¬ (a.val ≤ b.val ∧ b.val ≤ a.val + 128 ∧ (128 ≤ b.val ∨ n ≠ 0)) := by omega
          rw [meets, decide_eq_false this]; rfl
      · exact Or.inl fun d => by simp only [near, padded, two, twoPadded, dif_pos hb, if_neg hn, and_self]
    · exact Or.inl fun d => by simp only [near, padded, two, twoPadded, dif_neg hb, and_self]

/-! ## The five results, of 1024 rows and 2048 lanes: residue `ρ` has lanes `512 ρ` to `512 ρ + 511` -/

/-- The place of lane `d` of head `h` of residue `ρ`. -/
def col (ρ : Fin 4) (h : Fin 8) (d : Fin 64) : Fin 2048 := ⟨512 * ρ.val + (64 * h.val + d.val), by omega⟩

/-- The place of row `a` of block `n`. -/
def line (n : Fin 8) (a : Fin 128) : Fin 1024 := ⟨n.val * 128 + a.val, by omega⟩

/-- The array whose entry at row `a` of block `n` and lane `d` of head `h` of residue `ρ` is `f ρ n h a d`. -/
def spread (f : Fin 4 → Fin 8 → Fin 8 → Fin 128 → Fin 64 → EReal) (l : Fin 1024) (j : Fin 2048) : EReal :=
  f ⟨j.val / 512, by omega⟩ ⟨l.val / 128, by omega⟩ ⟨j.val % 512 / 64, by omega⟩ ⟨l.val % 128, by omega⟩ ⟨j.val % 64, by omega⟩

theorem spread_at (f : Fin 4 → Fin 8 → Fin 8 → Fin 128 → Fin 64 → EReal) (a : Fin 128) (d : Fin 64) :
    spread f (line n a) (col ρ h d) = f ρ n h a d := by
  unfold spread
  congr 1
  all_goals exact Fin.ext (by simp only [line, col]; omega)

/-- The gradient of the queries. -/
def arrQ : (⟨2, ![1024, 2048]⟩ : Shape).Idx → EReal := fun i => spread (fun ρ n h a d => (A.near ρ n h).gradQ a d) (i 0) (i 1)

/-- The gradient of the keys through the block after, at the place of the block that looks at them. -/
def arrKprev : (⟨2, ![1024, 2048]⟩ : Shape).Idx → EReal :=
  fun i => spread (fun ρ n h a d => (A.near ρ n h).gradK (a.castLE (by decide)) d) (i 0) (i 1)

/-- The gradient of the keys through their own block. -/
def arrK : (⟨2, ![1024, 2048]⟩ : Shape).Idx → EReal :=
  fun i => spread (fun ρ n h a d => (A.near ρ n h).gradK (a.natAdd 128) d) (i 0) (i 1)

/-- The gradient of the values through the block after, and through their own. -/
def arrVprev : (⟨2, ![1024, 2048]⟩ : Shape).Idx → EReal :=
  fun i => spread (fun ρ n h a d => (A.near ρ n h).gradV (a.castLE (by decide)) d) (i 0) (i 1)
def arrV : (⟨2, ![1024, 2048]⟩ : Shape).Idx → EReal :=
  fun i => spread (fun ρ n h a d => (A.near ρ n h).gradV (a.natAdd 128) d) (i 0) (i 1)

/-- Every place is of this kind. -/
theorem line_cases (l : Fin 1024) : ∃ n a, l = line n a :=
  ⟨⟨l.val / 128, by omega⟩, ⟨l.val % 128, by omega⟩, Fin.ext (by simp only [line]; omega)⟩

theorem col_cases (j : Fin 2048) : ∃ ρ h d, j = col ρ h d :=
  ⟨⟨j.val / 512, by omega⟩, ⟨j.val % 512 / 64, by omega⟩, ⟨j.val % 64, by omega⟩, Fin.ext (by simp only [col]; omega)⟩

end Args

end Cert.Attention

end
-- ==== Proof.Array.lean ====
/-
  What the kernel leaves in its five results: at row `a` of block `n` and lane `d` of head `h` of residue `ρ`, the
  gradients of that head and block. The grid point `(ρ, n)` writes the block at `(n, ρ)` and reads the keys of the blocks
  at `(n, ρ)` and `(n - 1, ρ)`, or at `(0, ρ)` twice for the first.
-/
module

public import proofs.«01_k».proof.Proof.Gen.KernelIdeal.Value
public import proofs.«01_k».proof.Proof.Pairs
public import proofs.«01_k».proof.Proof.Whole
public import Idealize.ShloMosaic.Lib.Pipeline.ValueKit

@[expose] public section

set_option maxRecDepth 16384
noncomputable section

namespace Cert.KernelIdeal.Block

open Cert.KernelIdeal Cert.KernelIdeal.Gen Idealize.ShloMosaic Idealize.ShloMosaic.TcCoe Cert.Attention
open Idealize.ShloMosaic.Pipeline (Dat)
open Cert.Attention.Args (line col two)

variable (m : (ℓ : Loc nD τ sig) → Buf (Elt Ideal) ℓ)

/-- The arguments the kernel is given. -/
def args (c : Dev nD) : Args where
  q := fun r j => m ((c : Thread nD τ).loc main_arg0) (ix2 r j)
  k := fun r j => m ((c : Thread nD τ).loc main_arg1) (ix2 r j)
  v := fun r j => m ((c : Thread nD τ).loc main_arg2) (ix2 r j)
  g := fun r j => m ((c : Thread nD τ).loc main_arg3) (ix2 r j)
  gl := fun r j => m ((c : Thread nD τ).loc main_arg4) (ix2 r j)

/-- The residue and the block of a grid point. -/
def resOf (t : Fin cfg0.N) : Fin 4 := grid0.coords t 0
def blkOf (t : Fin cfg0.N) : Fin 8 := grid0.coords t 1

theorem idx : ∀ t : Fin cfg0.N,
    win0_0.index t = ![(blkOf t).val, (resOf t).val] ∧ win0_1.index t = ![(before (blkOf t)).val, (resOf t).val] ∧
    win0_2.index t = ![(blkOf t).val, (resOf t).val] ∧ win0_3.index t = ![(before (blkOf t)).val, (resOf t).val] ∧
    win0_4.index t = ![(blkOf t).val, (resOf t).val] ∧ win0_5.index t = ![(blkOf t).val, (resOf t).val] ∧
    win0_6.index t = ![(blkOf t).val, (resOf t).val] ∧ win0_7.index t = ![(blkOf t).val, (resOf t).val] ∧
    win0_8.index t = ![(blkOf t).val, (resOf t).val] ∧ win0_9.index t = ![(blkOf t).val, (resOf t).val] ∧
    win0_10.index t = ![(blkOf t).val, (resOf t).val] ∧ win0_11.index t = ![(blkOf t).val, (resOf t).val] :=
  (by decide +kernel : ∀ t : Fin grid0.N, _)

/-! ## What the blocks of the arguments hold -/

theorem V0 (c : Dev nD) (ρ : Fin 4) (n : Fin 8) (a : Fin 128) (h : Fin 8) (d : Fin 64) :
    V m c main_v0 (ix2 (line n a) (col ρ h d)) = (args m c).q (row ρ n a) (lane h d) := by
  entry_read
  pointwise [args]
  refine congrArg (m (c.tc.loc main_arg0)) (congrArg₂ ix2 (Fin.ext ?_) (Fin.ext ?_)) <;>
    simp only [line, col, row, lane] <;> omega

theorem V1 (c : Dev nD) (ρ : Fin 4) (n : Fin 8) (a : Fin 128) (h : Fin 8) (d : Fin 64) :
    V m c main_v1 (ix2 (line n a) (col ρ h d)) = (args m c).k (row ρ n a) (lane h d) := by
  entry_read
  pointwise [args]
  refine congrArg (m (c.tc.loc main_arg1)) (congrArg₂ ix2 (Fin.ext ?_) (Fin.ext ?_)) <;>
    simp only [line, col, row, lane] <;> omega

theorem V2 (c : Dev nD) (ρ : Fin 4) (n : Fin 8) (a : Fin 128) (h : Fin 8) (d : Fin 64) :
    V m c main_v2 (ix2 (line n a) (col ρ h d)) = (args m c).v (row ρ n a) (lane h d) := by
  entry_read
  pointwise [args]
  refine congrArg (m (c.tc.loc main_arg2)) (congrArg₂ ix2 (Fin.ext ?_) (Fin.ext ?_)) <;>
    simp only [line, col, row, lane] <;> omega

theorem V3 (c : Dev nD) (ρ : Fin 4) (n : Fin 8) (a : Fin 128) (h : Fin 8) (d : Fin 64) :
    V m c main_v3 (ix2 (line n a) (col ρ h d)) = (args m c).g (row ρ n a) (lane h d) := by
  entry_read
  pointwise [args]
  refine congrArg (m (c.tc.loc main_arg3)) (congrArg₂ ix2 (Fin.ext ?_) (Fin.ext ?_)) <;>
    simp only [line, col, row, lane] <;> omega

theorem V4 (c : Dev nD) (ρ : Fin 4) (n : Fin 8) (a : Fin 128) (h : Fin 8) (d : Fin 64) :
    V m c main_v4 (ix2 (line n a) (col ρ h d)) = (args m c).gl (row ρ n a) (lane h d) := by
  entry_read
  pointwise [args]
  refine congrArg (m (c.tc.loc main_arg4)) (congrArg₂ ix2 (Fin.ext ?_) (Fin.ext ?_)) <;>
    simp only [line, col, row, lane] <;> omega

theorem emb0 (t : Fin cfg0.N) (a : Fin 128) (h : Fin 8) (d : Fin 64) :
    ((cfg0.win 0).blk t).view.emb (ix2 a (at512 h d)) = ix2 (line (blkOf t) a) (col (resOf t) h d) := by
  blk_ext [idx t, at512, line, col]

theorem emb1 (t : Fin cfg0.N) (a : Fin 128) (h : Fin 8) (d : Fin 64) :
    ((cfg0.win 1).blk t).view.emb (ix2 a (at512 h d)) = ix2 (line (before (blkOf t)) a) (col (resOf t) h d) := by
  blk_ext [idx t, at512, line, col]

theorem emb2 (t : Fin cfg0.N) (a : Fin 128) (h : Fin 8) (d : Fin 64) :
    ((cfg0.win 2).blk t).view.emb (ix2 a (at512 h d)) = ix2 (line (blkOf t) a) (col (resOf t) h d) := by
  blk_ext [idx t, at512, line, col]

theorem emb3 (t : Fin cfg0.N) (a : Fin 128) (h : Fin 8) (d : Fin 64) :
    ((cfg0.win 3).blk t).view.emb (ix2 a (at512 h d)) = ix2 (line (before (blkOf t)) a) (col (resOf t) h d) := by
  blk_ext [idx t, at512, line, col]

theorem emb4 (t : Fin cfg0.N) (a : Fin 128) (h : Fin 8) (d : Fin 64) :
    ((cfg0.win 4).blk t).view.emb (ix2 a (at512 h d)) = ix2 (line (blkOf t) a) (col (resOf t) h d) := by
  blk_ext [idx t, at512, line, col]

theorem emb5 (t : Fin cfg0.N) (a : Fin 128) (h : Fin 8) (d : Fin 64) :
    ((cfg0.win 5).blk t).view.emb (ix2 a (at512 h d)) = ix2 (line (blkOf t) a) (col (resOf t) h d) := by
  blk_ext [idx t, at512, line, col]

theorem emb6 (t : Fin cfg0.N) (a : Fin 128) (h : Fin 8) (d : Fin 64) :
    ((cfg0.win 6).blk t).view.emb (ix2 a (at512 h d)) = ix2 (line (blkOf t) a) (col (resOf t) h d) := by
  blk_ext [idx t, at512, line, col]

theorem emb7 (t : Fin cfg0.N) (a : Fin 128) (h : Fin 8) (d : Fin 64) :
    ((cfg0.win 7).blk t).view.emb (ix2 a (at512 h d)) = ix2 (line (blkOf t) a) (col (resOf t) h d) := by
  blk_ext [idx t, at512, line, col]

theorem emb8 (t : Fin cfg0.N) (a : Fin 128) (h : Fin 8) (d : Fin 64) :
    ((cfg0.win 8).blk t).view.emb (ix2 a (at512 h d)) = ix2 (line (blkOf t) a) (col (resOf t) h d) := by
  blk_ext [idx t, at512, line, col]

theorem emb9 (t : Fin cfg0.N) (a : Fin 128) (h : Fin 8) (d : Fin 64) :
    ((cfg0.win 9).blk t).view.emb (ix2 a (at512 h d)) = ix2 (line (blkOf t) a) (col (resOf t) h d) := by
  blk_ext [idx t, at512, line, col]

theorem emb10 (t : Fin cfg0.N) (a : Fin 128) (h : Fin 8) (d : Fin 64) :
    ((cfg0.win 10).blk t).view.emb (ix2 a (at512 h d)) = ix2 (line (blkOf t) a) (col (resOf t) h d) := by
  blk_ext [idx t, at512, line, col]

theorem emb11 (t : Fin cfg0.N) (a : Fin 128) (h : Fin 8) (d : Fin 64) :
    ((cfg0.win 11).blk t).view.emb (ix2 a (at512 h d)) = ix2 (line (blkOf t) a) (col (resOf t) h d) := by
  blk_ext [idx t, at512, line, col]

theorem blk0 (c : Dev nD) (t : Fin cfg0.N) (a : Fin 128) (h : Fin 8) (d : Fin 64) :
    iblk m c 0 t (ix2 a (at512 h d)) = (args m c).q (row (resOf t) (blkOf t) a) (lane h d) := by
  show V m c main_v0 (((cfg0.win 0).blk t).view.emb (ix2 a (at512 h d))) = _
  rw [emb0, V0]

theorem blk1 (c : Dev nD) (t : Fin cfg0.N) (a : Fin 128) (h : Fin 8) (d : Fin 64) :
    iblk m c 1 t (ix2 a (at512 h d)) = (args m c).k (row (resOf t) (before (blkOf t)) a) (lane h d) := by
  show V m c main_v1 (((cfg0.win 1).blk t).view.emb (ix2 a (at512 h d))) = _
  rw [emb1, V1]

theorem blk2 (c : Dev nD) (t : Fin cfg0.N) (a : Fin 128) (h : Fin 8) (d : Fin 64) :
    iblk m c 2 t (ix2 a (at512 h d)) = (args m c).k (row (resOf t) (blkOf t) a) (lane h d) := by
  show V m c main_v1 (((cfg0.win 2).blk t).view.emb (ix2 a (at512 h d))) = _
  rw [emb2, V1]

theorem blk3 (c : Dev nD) (t : Fin cfg0.N) (a : Fin 128) (h : Fin 8) (d : Fin 64) :
    iblk m c 3 t (ix2 a (at512 h d)) = (args m c).v (row (resOf t) (before (blkOf t)) a) (lane h d) := by
  show V m c main_v2 (((cfg0.win 3).blk t).view.emb (ix2 a (at512 h d))) = _
  rw [emb3, V2]

theorem blk4 (c : Dev nD) (t : Fin cfg0.N) (a : Fin 128) (h : Fin 8) (d : Fin 64) :
    iblk m c 4 t (ix2 a (at512 h d)) = (args m c).v (row (resOf t) (blkOf t) a) (lane h d) := by
  show V m c main_v2 (((cfg0.win 4).blk t).view.emb (ix2 a (at512 h d))) = _
  rw [emb4, V2]

theorem blk5 (c : Dev nD) (t : Fin cfg0.N) (a : Fin 128) (h : Fin 8) (d : Fin 64) :
    iblk m c 5 t (ix2 a (at512 h d)) = (args m c).g (row (resOf t) (blkOf t) a) (lane h d) := by
  show V m c main_v3 (((cfg0.win 5).blk t).view.emb (ix2 a (at512 h d))) = _
  rw [emb5, V3]

theorem blk6 (c : Dev nD) (t : Fin cfg0.N) (a : Fin 128) (h : Fin 8) (d : Fin 64) :
    iblk m c 6 t (ix2 a (at512 h d)) = (args m c).gl (row (resOf t) (blkOf t) a) (lane h d) := by
  show V m c main_v4 (((cfg0.win 6).blk t).view.emb (ix2 a (at512 h d))) = _
  rw [emb6, V4]

/-! ## The pairs that may meet -/

theorem there_word : ∀ (n : Fin 8) (b : Fin 256),
    IntOp.ori (IntOp.cmpi CmpIPredicate.sge (BitVec.ofNat 32 b.val) 128#32)
        (Scalar.xori (Scalar.cmpi CmpIPredicate.eq (BitVec.ofNat 32 n.val) 0#32) 1#1)
      = BitVec.ofBool (decide (128 ≤ b.val ∨ n ≠ 0)) := by
  decide +kernel

theorem ok_at (t : Fin cfg0.N) (a : Fin 128) (b : Fin 256) :
    k0_pay9 (grid0.coords t) (ix2 a b) = meets (blkOf t) a b := by
  pointwise [k0_pay9, meets]
  rw [near_word, show grid0.coords t 1 = blkOf t from rfl, there_word (blkOf t), and_word]
  simp only [and_assoc]

/-! ## The block of a grid point -/

section Point
variable (c : Dev nD) (t : Fin cfg0.N)

def bq : FVec Ideal S128x512 .f32 := k0_pay6 (View.ld (iblk m c 0 t) r0_0)
def bk : FVec Ideal S256x512 .f32 := k0_pay7 (View.ld (iblk m c 1 t) r0_0) (View.ld (iblk m c 2 t) r0_0)
def bv : FVec Ideal S256x512 .f32 := k0_pay8 (View.ld (iblk m c 3 t) r0_0) (View.ld (iblk m c 4 t) r0_0)
def bg : FVec Ideal S128x512 .f32 := k0_pay105 (View.ld (iblk m c 5 t) r0_0)
def bgl : FVec Ideal S128x512 .f32 := k0_pay106 (View.ld (iblk m c 6 t) r0_0)

theorem ld_r0 {e : EltTy} (x : Vec Ideal S128x512 e) : View.ld x r0_0 = x := View.ld_unit_zero (by decide) _ x

theorem bq_at (a : Fin 128) (h : Fin 8) (d : Fin 64) :
    bq m c t (ix2 a (at512 h d)) = (args m c).q (row (resOf t) (blkOf t) a) (lane h d) := by
  rw [← blk0, bq, ld_r0]
  pointwise [k0_pay6]

theorem bk_at (b : Fin 256) (h : Fin 8) (d : Fin 64) :
    bk m c t (ix2 b (at512 h d)) = two (resOf t) (blkOf t) h (args m c).k b d := by
  unfold two
  simp only [← blk1, ← blk2]
  rw [bk, ld_r0, ld_r0]
  pointwise [k0_pay7]

theorem bv_at (b : Fin 256) (h : Fin 8) (d : Fin 64) :
    bv m c t (ix2 b (at512 h d)) = two (resOf t) (blkOf t) h (args m c).v b d := by
  unfold two
  simp only [← blk3, ← blk4]
  rw [bv, ld_r0, ld_r0]
  pointwise [k0_pay8]

theorem bg_at (a : Fin 128) (h : Fin 8) (d : Fin 64) :
    bg m c t (ix2 a (at512 h d)) = (args m c).g (row (resOf t) (blkOf t) a) (lane h d) := by
  rw [← blk5, bg, ld_r0]
  pointwise [k0_pay105]

theorem bgl_at (a : Fin 128) (h : Fin 8) (d : Fin 64) :
    bgl m c t (ix2 a (at512 h d)) = (args m c).gl (row (resOf t) (blkOf t) a) (lane h d) := by
  rw [← blk6, bgl, ld_r0]
  pointwise [k0_pay106]

theorem head_near (h : Fin 8) :
    head (k0_pay9 (grid0.coords t)) (bq m c t) (bg m c t) (bgl m c t) (bk m c t) (bv m c t) h
      = (args m c).near (resOf t) (blkOf t) h := by
  simp only [head, bq_at, bk_at, bv_at, bg_at, bgl_at, ok_at]; rfl

end Point

/-! ## The two halves of the keys -/

theorem k0_pay4_at (x : FVec Ideal S256x512 .f32) (a : Fin 128) (j : Fin 512) : k0_pay4 x (ix2 a j) = x (ix2 (a.castLE (by decide)) j) := by
  pointwise [k0_pay4]; rfl

theorem k0_pay5_at (x : FVec Ideal S256x512 .f32) (a : Fin 128) (j : Fin 512) : k0_pay5 x (ix2 a j) = x (ix2 (a.natAdd 128) j) := by
  pointwise [k0_pay5]; rfl

theorem k0_pay2_at (x : FVec Ideal S256x512 .f32) (a : Fin 128) (j : Fin 512) : k0_pay2 x (ix2 a j) = x (ix2 (a.castLE (by decide)) j) := by
  pointwise [k0_pay2]; rfl

theorem k0_pay3_at (x : FVec Ideal S256x512 .f32) (a : Fin 128) (j : Fin 512) : k0_pay3 x (ix2 a j) = x (ix2 (a.natAdd 128) j) := by
  pointwise [k0_pay3]; rfl

/-! ## The five arrays -/

/-- Every index of a block is a row and a lane of a head. -/
theorem at_cases (y : S128x512.Idx) : ∃ a h d, y = ix2 a (at512 h d) := by
  idx_vars y
  exact ⟨y0, ⟨y1.val / 64, by omega⟩, ⟨y1.val % 64, by omega⟩, congrArg (ix2 y0) (Fin.ext (by simp only [at512]; omega))⟩

theorem final7 (c : Dev nD) : (dats m 0 c).arrAt 7 cfg0.N = (args m c).arrQ := by
  refine (dats m 0 c).arrAt_eq_of_covers 7 _ (by decide +kernel) fun t _ y => ?_
  obtain ⟨a, h, d, rfl⟩ := at_cases y
  blk_simp
  rw [after0_7, out7]
  refine (congrFun (View.canon_unit_zero (by decide) _ _) _).trans ?_
  refine Eq.trans ?_ (congrArg (args m c).arrQ (emb7 t a h d)).symm
  refine Eq.trans ?_ (Args.spread_at (resOf t) (blkOf t) h (fun ρ n h a d => ((args m c).near ρ n h).gradQ a d) a d).symm
  show blockQ (k0_pay9 (grid0.coords t)) laneHead (bq m c t) (bg m c t) (bgl m c t) (bk m c t) (bv m c t) (ix2 a (at512 h d)) = _
  rw [blockQ_at, head_near]

theorem final8 (c : Dev nD) : (dats m 0 c).arrAt 8 cfg0.N = (args m c).arrKprev := by
  refine (dats m 0 c).arrAt_eq_of_covers 8 _ (by decide +kernel) fun t _ y => ?_
  obtain ⟨a, h, d, rfl⟩ := at_cases y
  blk_simp
  rw [after0_8, out8]
  refine (congrFun (View.canon_unit_zero (by decide) _ _) _).trans ?_
  refine Eq.trans ?_ (congrArg (args m c).arrKprev (emb8 t a h d)).symm
  refine Eq.trans ?_ (Args.spread_at (resOf t) (blkOf t) h (fun ρ n h a d => ((args m c).near ρ n h).gradK (a.castLE (by decide)) d) a d).symm
  show k0_pay4 (blockK (k0_pay9 (grid0.coords t)) laneHead (bq m c t) (bg m c t) (bgl m c t) (bk m c t) (bv m c t)) (ix2 a (at512 h d)) = _
  rw [k0_pay4_at]
  rw [blockK_at, head_near]

theorem final9 (c : Dev nD) : (dats m 0 c).arrAt 9 cfg0.N = (args m c).arrK := by
  refine (dats m 0 c).arrAt_eq_of_covers 9 _ (by decide +kernel) fun t _ y => ?_
  obtain ⟨a, h, d, rfl⟩ := at_cases y
  blk_simp
  rw [after0_9, out9]
  refine (congrFun (View.canon_unit_zero (by decide) _ _) _).trans ?_
  refine Eq.trans ?_ (congrArg (args m c).arrK (emb9 t a h d)).symm
  refine Eq.trans ?_ (Args.spread_at (resOf t) (blkOf t) h (fun ρ n h a d => ((args m c).near ρ n h).gradK (a.natAdd 128) d) a d).symm
  show k0_pay5 (blockK (k0_pay9 (grid0.coords t)) laneHead (bq m c t) (bg m c t) (bgl m c t) (bk m c t) (bv m c t)) (ix2 a (at512 h d)) = _
  rw [k0_pay5_at]
  rw [blockK_at, head_near]

theorem final10 (c : Dev nD) : (dats m 0 c).arrAt 10 cfg0.N = (args m c).arrVprev := by
  refine (dats m 0 c).arrAt_eq_of_covers 10 _ (by decide +kernel) fun t _ y => ?_
  obtain ⟨a, h, d, rfl⟩ := at_cases y
  blk_simp
  rw [after0_10, out10]
  refine (congrFun (View.canon_unit_zero (by decide) _ _) _).trans ?_
  refine Eq.trans ?_ (congrArg (args m c).arrVprev (emb10 t a h d)).symm
  refine Eq.trans ?_ (Args.spread_at (resOf t) (blkOf t) h (fun ρ n h a d => ((args m c).near ρ n h).gradV (a.castLE (by decide)) d) a d).symm
  show k0_pay2 (blockV (k0_pay9 (grid0.coords t)) laneHead (bq m c t) (bg m c t) (bk m c t)) (ix2 a (at512 h d)) = _
  rw [k0_pay2_at]
  rw [blockV_at _ _ _ (bgl m c t) _ (bv m c t), head_near]

theorem final11 (c : Dev nD) : (dats m 0 c).arrAt 11 cfg0.N = (args m c).arrV := by
  refine (dats m 0 c).arrAt_eq_of_covers 11 _ (by decide +kernel) fun t _ y => ?_
  obtain ⟨a, h, d, rfl⟩ := at_cases y
  blk_simp
  rw [after0_11, out11]
  refine (congrFun (View.canon_unit_zero (by decide) _ _) _).trans ?_
  refine Eq.trans ?_ (congrArg (args m c).arrV (emb11 t a h d)).symm
  refine Eq.trans ?_ (Args.spread_at (resOf t) (blkOf t) h (fun ρ n h a d => ((args m c).near ρ n h).gradV (a.natAdd 128) d) a d).symm
  show k0_pay3 (blockV (k0_pay9 (grid0.coords t)) laneHead (bq m c t) (bg m c t) (bk m c t)) (ix2 a (at512 h d)) = _
  rw [k0_pay3_at]
  rw [blockV_at _ _ _ (bgl m c t) _ (bv m c t), head_near]

end Cert.KernelIdeal.Block

end
-- ==== Proof.Stages.lean ====
/-
  The reference's operations, named. Its arguments are laid as 4 residues of 8 blocks of 128 rows of 8 heads of 64 lanes
  (`blocks`); keys and values are put after those of the block before (`two`); the results are laid back (`flat`).
-/
module

public import proofs.«01_k».proof.Proof.Gen.ReferenceIdeal.Run
public import proofs.«01_k».proof.Proof.Whole

@[expose] public section

set_option maxRecDepth 16384
noncomputable section

namespace Cert.ReferenceIdeal.Stage

open Cert.ReferenceIdeal Cert.ReferenceIdeal.Gen Idealize.ShloMosaic Idealize.ShloMosaic.TcCoe

def blocks (x : FVec Ideal S4096x512 .f32) : FVec Ideal S4x8x128x8x64 .f32 :=
  shapeCast _ (transpose S4x1024x8x64 [1, 0, 2, 3] (shapeCast _ x shapeCasts_S4096x512_S1024x4x8x64) transposes_S1024x4x8x64_S4x1024x8x64_1_0_2_3) shapeCasts_S4x1024x8x64_S4x8x128x8x64

def flat (x : FVec Ideal S4x8x128x8x64 .f32) : FVec Ideal S1024x2048 .f32 :=
  shapeCast _ (transpose S1024x4x512 [1, 0, 2] (shapeCast _ x shapeCasts_S4x8x128x8x64_S4x1024x512) transposes_S4x1024x512_S1024x4x512_1_0_2) shapeCasts_S1024x4x512_S1024x2048

def two (x : FVec Ideal S4x8x128x8x64 .f32) : FVec Ideal S4x8x256x8x64 .f32 :=
  concatenate S4x8x256x8x64 2 [⟨S4x8x128x8x64, (extractStridedSlice S4x8x128x8x64 ![0, 0, 0, 0, 0] (pad S4x9x128x8x64 ![0, 1, 0, 0, 0] ![0, 0, 0, 0, 0] ![0, 0, 0, 0, 0] x (sitofp .f32 (constantI S_ 32 0#32)) pads_S4x8x128x8x64_S4x9x128x8x64_000_100_000_000_000 h_S_) slices_S4x9x128x8x64_S4x8x128x8x64_0_0_0_0_0)⟩, ⟨S4x8x128x8x64, x⟩] concatenates_S4x8x128x8x64_S4x8x128x8x64_S4x8x256x8x64_d2

/-- The half of the block before, and the half of the block itself. -/
def half0 (x : FVec Ideal S4x8x256x8x64 .f32) : FVec Ideal S4x8x128x8x64 .f32 :=
  extractStridedSlice S4x8x128x8x64 ![0, 0, 0, 0, 0] x slices_S4x8x256x8x64_S4x8x128x8x64_0_0_0_0_0
def half1 (x : FVec Ideal S4x8x256x8x64 .f32) : FVec Ideal S4x8x128x8x64 .f32 :=
  extractStridedSlice S4x8x128x8x64 ![0, 0, 128, 0, 0] x slices_S4x8x256x8x64_S4x8x128x8x64_0_0_128_0_0

/-- Which pairs of query and key may meet. -/
def mask : IVec S4x8x8x128x256 1 :=
  broadcastInDim S4x8x8x128x256 ![0, 1, 2, 3, 4] bcast_S1x8x1x128x256_S4x8x8x128x256_0_1_2_3_4 (broadcastInDim S1x8x1x128x256 ![1, 3, 4] bcast_S8x128x256_S1x8x1x128x256_1_3_4 (andi (broadcastInDim S8x128x256 ![0, 1, 2] bcast_S1x128x256_S8x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S8x128x256 ![0, 1, 2] bcast_S8x1x256_S8x128x256_0_1_2 (cmpi .sge (subi (addi (broadcastInDim S8x1x256 ![0, 1, 2] bcast_S8x1x1_S8x1x256_0_1_2 (muli (broadcastInDim S8x1x1 ![0] bcast_S8_S8x1x1_0 (iotaInDim S8 32 0)) (broadcastInDim S8x1x1 ![] bcast_S_S8x1x1 (constantI S_ 32 128#32)))) (broadcastInDim S8x1x256 ![0, 1, 2] bcast_S1x1x256_S8x1x256_0_1_2 (broadcastInDim S1x1x256 ![1, 2] bcast_S1x256_S1x1x256_1_2 (broadcastInDim S1x256 ![1] bcast_S256_S1x256_1 (iotaInDim S256 32 0))))) (broadcastInDim S8x1x256 ![] bcast_S_S8x1x256 (constantI S_ 32 128#32))) (broadcastInDim S8x1x256 ![] bcast_S_S8x1x256 (constantI S_ 32 0#32))))))

section
variable (q k v g gl : FVec Ideal S4x8x128x8x64 .f32)

/-- The scaled scores, `-∞` for pairs that may not meet. -/
def score : FVec Ideal S4x8x8x128x256 .f32 :=
  select mask (mulf (Host.dotGeneral dot_S4x8x128x8x64_S4x8x256x8x64_S4x8x8x128x256_4_4_2_2_013_013 none q (two k)) (broadcastInDim S4x8x8x128x256 ![] bcast_S_S4x8x8x128x256 (constant S_ .f32 0x3E000000#32))) (broadcastInDim S4x8x8x128x256 ![] bcast_S_S4x8x8x128x256 (id (constant S_ .f32 0xFF800000#32)))

/-- The weights before normalisation. -/
def weight : FVec Ideal S4x8x8x128x256 .f32 :=
  Host.exp (subf (score q k) (broadcastInDim S4x8x8x128x256 ![0, 1, 2, 3, 4] bcast_S4x8x8x128x1_S4x8x8x128x256_0_1_2_3_4 (broadcastInDim S4x8x8x128x1 ![0, 1, 2, 3] bcast_S4x8x8x128_S4x8x8x128x1_0_1_2_3 (Host.reduce FloatOps.maximumf (score q k) (constant S_ .f32 0xFF800000#32) reducesTo_S4x8x8x128x256_S4x8x8x128_d4 h_S_))))

/-- Their sums. -/
def total : FVec Ideal S4x8x8x128 .f32 :=
  Host.reduceAdd (weight q k) (constant S_ .f32 0x00000000#32) reducesTo_S4x8x8x128x256_S4x8x8x128_d4 h_S_

/-- The sums, with the heads after the queries. -/
def wide : FVec Ideal S4x8x128x8x1 .f32 :=
  broadcastInDim S4x8x128x8x1 ![0, 1, 2, 3] bcast_S4x8x128x8_S4x8x128x8x1_0_1_2_3 (transpose S4x8x128x8 [0, 1, 3, 2] (total q k) transposes_S4x8x8x128_S4x8x128x8_0_1_3_2)

/-- The output before normalisation. -/
def mix : FVec Ideal S4x8x128x8x64 .f32 :=
  transpose S4x8x128x8x64 [0, 1, 4, 2, 3] (Host.dotGeneral dot_S4x8x256x8x64_S4x8x8x128x256_S4x8x8x64x128_2_4_4_3_013_012 none (two v) (weight q k)) transposes_S4x8x8x64x128_S4x8x128x8x64_0_1_4_2_3

/-- Its cotangent. -/
def gradMix : FVec Ideal S4x8x8x64x128 .f32 :=
  transpose S4x8x8x64x128 [0, 1, 3, 4, 2] (Host.divf g (broadcastInDim S4x8x128x8x64 ![0, 1, 2, 3, 4] bcast_S4x8x128x8x1_S4x8x128x8x64_0_1_2_3_4 (wide q k))) transposes_S4x8x128x8x64_S4x8x8x64x128_0_1_3_4_2

/-- The cotangent of the sums of the weights. -/
def gradTotal : FVec Ideal S4x8x8x128 .f32 :=
  addf (Host.divf (transpose S4x8x8x128 [0, 1, 3, 2] (Host.reduceAdd (broadcastInDim S4x8x128x8x1 ![0, 1, 2, 3] bcast_S4x8x128x8_S4x8x128x8x1_0_1_2_3 (Host.reduceAdd gl (constant S_ .f32 0x00000000#32) reducesTo_S4x8x128x8x64_S4x8x128x8_d4 h_S_)) (constant S_ .f32 0x00000000#32) reducesTo_S4x8x128x8x1_S4x8x128x8_d4 h_S_) transposes_S4x8x128x8_S4x8x8x128_0_1_3_2) (total q k)) (transpose S4x8x8x128 [0, 1, 3, 2] (Host.reduceAdd (Host.negf (shapeCast _ (Host.reduceAdd (mulf (mulf g (broadcastInDim S4x8x128x8x64 ![0, 1, 2, 3, 4] bcast_S4x8x128x8x1_S4x8x128x8x64_0_1_2_3_4 (Host.divf (broadcastInDim S4x8x128x8x1 ![] bcast_S_S4x8x128x8x1 (constant S_ .f32 0x3F800000#32)) (mulf (wide q k) (wide q k))))) (mix q k v)) (constant S_ .f32 0x00000000#32) reducesTo_S4x8x128x8x64_S4x8x128x8_d4 h_S_) shapeCasts_S4x8x128x8_S4x8x128x8x1)) (constant S_ .f32 0x00000000#32) reducesTo_S4x8x128x8x1_S4x8x128x8_d4 h_S_) transposes_S4x8x128x8_S4x8x8x128_0_1_3_2)

/-- The cotangent of the scaled scores. -/
def gradScore : FVec Ideal S4x8x8x128x256 .f32 :=
  select mask (mulf (addf (Host.dotGeneral dot_S4x8x8x64x128_S4x8x256x8x64_S4x8x8x128x256_3_4_4_2_012_013 none (gradMix q k g) (two v)) (broadcastInDim S4x8x8x128x256 ![0, 1, 2, 3] bcast_S4x8x8x128_S4x8x8x128x256_0_1_2_3 (gradTotal q k v g gl))) (weight q k)) (broadcastInDim S4x8x8x128x256 ![] bcast_S_S4x8x8x128x256 (constant S_ .f32 0x00000000#32))

/-- The cotangent of the products of queries and keys. -/
def scaled : FVec Ideal S4x8x8x128x256 .f32 :=
  mulf (gradScore q k v g gl) (broadcastInDim S4x8x8x128x256 ![] bcast_S_S4x8x8x128x256 (constant S_ .f32 0x3E000000#32))

/-- The gradient of the queries. -/
def gradQ : FVec Ideal S4x8x128x8x64 .f32 :=
  transpose S4x8x128x8x64 [0, 1, 3, 2, 4] (Host.dotGeneral dot_S4x8x8x128x256_S4x8x256x8x64_S4x8x8x128x64_4_2_3_4_012_013 none (scaled q k v g gl) (two k)) transposes_S4x8x8x128x64_S4x8x128x8x64_0_1_3_2_4

/-- The gradient of the keys. -/
def gradK : FVec Ideal S4x8x256x8x64 .f32 :=
  transpose S4x8x256x8x64 [0, 1, 3, 2, 4] (Host.dotGeneral dot_S4x8x8x128x256_S4x8x128x8x64_S4x8x8x256x64_3_2_4_4_012_013 none (scaled q k v g gl) q) transposes_S4x8x8x256x64_S4x8x256x8x64_0_1_3_2_4

/-- The gradient of the values. -/
def gradV : FVec Ideal S4x8x256x8x64 .f32 :=
  transpose S4x8x256x8x64 [0, 1, 4, 2, 3] (Host.dotGeneral dot_S4x8x8x64x128_S4x8x8x128x256_S4x8x8x64x256_4_3_3_4_012_012 none (gradMix q k g) (weight q k)) transposes_S4x8x8x64x256_S4x8x256x8x64_0_1_4_2_3

end

section
variable (m : (ℓ : Loc nD τ sig) → Buf (Elt Ideal) ℓ) (c : Dev nD)

def q : FVec Ideal S4x8x128x8x64 .f32 := blocks (extf .f32 (m ((c.tc : Thread nD τ).loc main_arg0)) bitsLt_bf16_f32)
def k : FVec Ideal S4x8x128x8x64 .f32 := blocks (extf .f32 (m ((c.tc : Thread nD τ).loc main_arg1)) bitsLt_bf16_f32)
def v : FVec Ideal S4x8x128x8x64 .f32 := blocks (extf .f32 (m ((c.tc : Thread nD τ).loc main_arg2)) bitsLt_bf16_f32)
def g : FVec Ideal S4x8x128x8x64 .f32 := blocks (m ((c.tc : Thread nD τ).loc main_arg3))
def gl : FVec Ideal S4x8x128x8x64 .f32 := blocks (m ((c.tc : Thread nD τ).loc main_arg4))

theorem out0 : Value.res_main_v121 m c = flat (gradQ (q m c) (k m c) (v m c) (g m c) (gl m c)) := rfl

theorem out1 : Value.res_main_v124 m c = flat (half0 (gradK (q m c) (k m c) (v m c) (g m c) (gl m c))) := rfl

theorem out2 : Value.res_main_v127 m c = flat (half1 (gradK (q m c) (k m c) (v m c) (g m c) (gl m c))) := rfl

theorem out3 : Value.res_main_v130 m c = flat (half0 (gradV (q m c) (k m c) (g m c))) := rfl

theorem out4 : Value.res_main_v133 m c = flat (half1 (gradV (q m c) (k m c) (g m c))) := rfl

end

end Cert.ReferenceIdeal.Stage

end
-- ==== Proof.StagesAt.lean ====
/-
  The reference's operations read at an index: entry `(r, n, h, a, b)` of each is the formula of `Attention.Head` for
  head `h` of block `n` of residue `r`.
-/
module

public import proofs.«01_k».proof.Proof.Stages

@[expose] public section

set_option maxRecDepth 16384
noncomputable section

namespace Cert.ReferenceIdeal.Stage

open Cert.ReferenceIdeal Cert.ReferenceIdeal.Gen Idealize.ShloMosaic Idealize.ShloMosaic.TcCoe Cert.Attention

section
variable (q k v g gl : FVec Ideal S4x8x128x8x64 .f32) (r : Fin 4) (n : Fin 8) (h : Fin 8)

/-- What head `h` of block `n` of residue `r` is given. -/
def headAt : Head (Fin 64) where
  q := fun a d => q (ix5 r n a h d)
  k := fun b d => two k (ix5 r n b h d)
  v := fun b d => two v (ix5 r n b h d)
  g := fun a d => g (ix5 r n a h d)
  gl := fun a d => gl (ix5 r n a h d)
  ok := fun a b => mask (ix5 r n h a b)
  scale := Ideal.ofBits .f32 0x3E000000#32

theorem score_at (a : Fin 128) (b : Fin 256) : score q k (ix5 r n h a b) = (headAt q k v g gl r n h).score a b := by
  pointwise [score, Head.score, headAt]
  rw [show id (constant (F := Ideal) S_ .f32 0xFF800000#32) ix0 = ⊥ from ofBits_neg_inf]

theorem weight_at (a : Fin 128) (b : Fin 256) : weight q k (ix5 r n h a b) = (headAt q k v g gl r n h).weight a b := by
  pointwise [weight, Head.weight, Head.top]
  simp only [score_at q k v g gl]
  rw [ofBits_neg_inf]

theorem total_at (a : Fin 128) : total q k (ix4 r n h a) = (headAt q k v g gl r n h).total a := by
  pointwise [total, Head.total]
  simp only [weight_at q k v g gl]

theorem mix_at (a : Fin 128) (d : Fin 64) : mix q k v (ix5 r n a h d) = (headAt q k v g gl r n h).mix a d := by
  pointwise [mix, Head.mix]
  simp only [weight_at q k v g gl]
  exact Finset.sum_congr rfl fun b _ => mul_comm _ _

theorem gradMix_at (a : Fin 128) (d : Fin 64) : gradMix q k g (ix5 r n h d a) = (headAt q k v g gl r n h).gradMix a d := by
  pointwise [gradMix, wide, Head.gradMix]
  simp only [total_at q k v g gl]
  rfl

theorem gradTotal_at (a : Fin 128) : gradTotal q k v g gl (ix4 r n h a) = (headAt q k v g gl r n h).gradTotal a := by
  pointwise [gradTotal, wide, Head.gradTotal]
  simp only [total_at q k v g gl, mix_at q k v g gl]
  simp only [Finset.univ_unique, Finset.sum_singleton, Fin.default_eq_zero]; rfl

theorem scaled_at (a : Fin 128) (b : Fin 256) : scaled q k v g gl (ix5 r n h a b) = (headAt q k v g gl r n h).gradScore a b := by
  pointwise [scaled, gradScore, Head.gradScore]
  simp only [gradTotal_at q k v g gl, gradMix_at q k v g gl, weight_at q k v g gl]
  rfl

theorem gradQ_at (a : Fin 128) (d : Fin 64) : gradQ q k v g gl (ix5 r n a h d) = (headAt q k v g gl r n h).gradQ a d := by
  pointwise [gradQ, Head.gradQ]
  simp only [scaled_at q k v g gl]
  rfl

theorem gradK_at (b : Fin 256) (d : Fin 64) : gradK q k v g gl (ix5 r n b h d) = (headAt q k v g gl r n h).gradK b d := by
  pointwise [gradK, Head.gradK]
  simp only [scaled_at q k v g gl]
  rfl

theorem gradV_at (b : Fin 256) (d : Fin 64) : gradV q k g (ix5 r n b h d) = (headAt q k v g gl r n h).gradV b d := by
  pointwise [gradV, Head.gradV]
  simp only [gradMix_at q k v g gl, weight_at q k v g gl]
  exact Finset.sum_congr rfl fun a _ => mul_comm _ _

end

/-! ## The arguments and the results -/

theorem there_word : ∀ (n : Fin 8) (b : Fin 256),
    IntOp.cmpi CmpIPredicate.sge (IntOp.subi (IntOp.addi (IntOp.muli (BitVec.ofNat 32 n.val) 128#32) (BitVec.ofNat 32 b.val)) 128#32) 0#32
      = BitVec.ofBool (decide (128 ≤ b.val ∨ n ≠ 0)) := by
  decide +kernel

theorem mask_at (r : Fin 4) (n h : Fin 8) (a : Fin 128) (b : Fin 256) : mask (ix5 r n h a b) = meets n a b := by
  pointwise [mask, meets]
  rw [near_word, there_word, and_word]
  simp only [and_assoc]

theorem two_at (x : FVec Ideal S4x8x128x8x64 .f32) (r : Fin 4) (n h : Fin 8) (b : Fin 256) (d : Fin 64) :
    two x (ix5 r n b h d)
      = if hb : b.val < 128 then (if n = 0 then 0 else x (ix5 r (before n) ⟨b.val, hb⟩ h d)) else x (ix5 r n ⟨b.val - 128, by omega⟩ h d) := by
  pointwise [two]
  by_cases hb : b.val < 128
  · rw [dif_pos hb, dif_pos hb]
    by_cases hn : n = 0
    · rw [if_pos hn, dif_neg (by omega)]
      exact (by simp [FloatOps.sitofp] : FloatOps.sitofp (F := Ideal) .f32 (0#32) = (0 : EReal))
    · rw [if_neg hn, dif_pos (by omega)]
      rfl
  · rw [dif_neg hb, dif_neg hb]

theorem blocks_at (x : FVec Ideal S4096x512 .f32) (r : Fin 4) (n h : Fin 8) (a : Fin 128) (d : Fin 64) :
    blocks x (ix5 r n a h d) = x (ix2 (row r n a) (lane h d)) := by
  pointwise [blocks]
  exact congrArg x (congrArg₂ ix2 rfl (Fin.ext (by simp only [lane]; omega)))

theorem flat_at (x : FVec Ideal S4x8x128x8x64 .f32) (r : Fin 4) (n h : Fin 8) (a : Fin 128) (d : Fin 64) :
    flat x (ix2 (Args.line n a) (Args.col r h d)) = x (ix5 r n a h d) := by
  pointwise [flat]
  simp only [Args.line, Args.col]
  congr 1
  congr 1 <;> exact Fin.ext (by simp only; omega)

/-! ## The five results -/

section
variable (m : (ℓ : Loc nD τ sig) → Buf (Elt Ideal) ℓ) (c : Dev nD)

/-- The arguments the reference is given. -/
def args : Args where
  q := fun r j => m ((c : Thread nD τ).loc main_arg0) (ix2 r j)
  k := fun r j => m ((c : Thread nD τ).loc main_arg1) (ix2 r j)
  v := fun r j => m ((c : Thread nD τ).loc main_arg2) (ix2 r j)
  g := fun r j => m ((c : Thread nD τ).loc main_arg3) (ix2 r j)
  gl := fun r j => m ((c : Thread nD τ).loc main_arg4) (ix2 r j)

theorem headAt_eq (r : Fin 4) (n h : Fin 8) :
    headAt (q m c) (k m c) (v m c) (g m c) (gl m c) r n h = (args m c).padded r n h := by
  simp only [headAt, two_at, mask_at, q, k, v, g, gl, blocks_at]
  rfl

/-- An array is known by its entries at rows of blocks and lanes of heads of residues. -/
theorem spread_ext (x : FVec Ideal S1024x2048 .f32) (f : Fin 4 → Fin 8 → Fin 8 → Fin 128 → Fin 64 → EReal)
    (e : ∀ r n h a d, x (ix2 (Args.line n a) (Args.col r h d)) = f r n h a d) : x = fun i => Args.spread f (i 0) (i 1) := by
  funext i
  idx_vars i
  obtain ⟨n, a, rfl⟩ := Args.line_cases i0
  obtain ⟨r, h, d, rfl⟩ := Args.col_cases i1
  rw [e]
  exact (Args.spread_at r n h f a d).symm

theorem half0_at (x : FVec Ideal S4x8x256x8x64 .f32) (r : Fin 4) (n h : Fin 8) (a : Fin 128) (d : Fin 64) :
    half0 x (ix5 r n a h d) = x (ix5 r n (a.castLE (by decide)) h d) := by
  pointwise [half0]; rfl

theorem half1_at (x : FVec Ideal S4x8x256x8x64 .f32) (r : Fin 4) (n h : Fin 8) (a : Fin 128) (d : Fin 64) :
    half1 x (ix5 r n a h d) = x (ix5 r n (a.natAdd 128) h d) := by
  pointwise [half1]; rfl

theorem result0 : Value.res_main_v121 m c = (args m c).arrQ := by
  rw [out0]
  refine spread_ext _ _ fun r n h a d => ?_
  rw [flat_at, gradQ_at, headAt_eq, ((args m c).agrees r n h).gradQ]

theorem result1 : Value.res_main_v124 m c = (args m c).arrKprev := by
  rw [out1]
  refine spread_ext _ _ fun r n h a d => ?_
  rw [flat_at, half0_at, gradK_at, headAt_eq, ((args m c).agrees r n h).gradK]

theorem result2 : Value.res_main_v127 m c = (args m c).arrK := by
  rw [out2]
  refine spread_ext _ _ fun r n h a d => ?_
  rw [flat_at, half1_at, gradK_at, headAt_eq, ((args m c).agrees r n h).gradK]

theorem result3 : Value.res_main_v130 m c = (args m c).arrVprev := by
  rw [out3]
  refine spread_ext _ _ fun r n h a d => ?_
  rw [flat_at, half0_at, gradV_at _ _ (v m c) _ (gl m c), headAt_eq, ((args m c).agrees r n h).gradV]

theorem result4 : Value.res_main_v133 m c = (args m c).arrV := by
  rw [out4]
  refine spread_ext _ _ fun r n h a d => ?_
  rw [flat_at, half1_at, gradV_at _ _ (v m c) _ (gl m c), headAt_eq, ((args m c).agrees r n h).gradV]

end

end Cert.ReferenceIdeal.Stage

end
-- ==== Proof.Swa.lean ====
/-
  The five claims about the gradient of the dilated sliding-window attention: the three frames, the ledger, and the
  equation of the kernel with the reference.
-/
module

public import proofs.«01_k».proof.Defs
public import proofs.«01_k».proof.Proof.Gen.Kernel.Frame
public import proofs.«01_k».proof.Proof.Array
public import proofs.«01_k».proof.Proof.StagesAt
public import Idealize.ShloMosaic.Lib.Claim

@[expose] public section

noncomputable section

namespace Cert.Swa

open Idealize.ShloMosaic Idealize.ShloMosaic.TcCoe Idealize.SL.Sem Cert.Attention

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal := by
  intro m ρ m' ρ' _ hag
  have e : ∀ c : Dev Cert.KernelIdeal.nD, Cert.ReferenceIdeal.Stage.args m' c = Cert.KernelIdeal.Block.args m c := fun c => by
    obtain ⟨h0, h1, h2, h3, h4⟩ := hag c
    simp only [Cert.ReferenceIdeal.Stage.args, Cert.KernelIdeal.Block.args]
    rw [h0, h1, h2, h3, h4]
  refine ⟨fun c => (Cert.KernelIdeal.Block.args m c).arrQ, fun c => (Cert.KernelIdeal.Block.args m c).arrKprev,
    fun c => (Cert.KernelIdeal.Block.args m c).arrK, fun c => (Cert.KernelIdeal.Block.args m c).arrVprev,
    fun c => (Cert.KernelIdeal.Block.args m c).arrV, ?_, ?_⟩
  · refine (θ_run Cert.KernelIdeal.defs _ _).mono (fun _ h c => ?_) (Cert.KernelIdeal.Value.run_blocks (F := Ideal) m ρ)
    obtain ⟨h0, h1, h2, h3, h4, ha⟩ := h c
    exact ⟨h0.trans (Cert.KernelIdeal.Block.final7 m c), h1.trans (Cert.KernelIdeal.Block.final8 m c),
      h2.trans (Cert.KernelIdeal.Block.final9 m c), h3.trans (Cert.KernelIdeal.Block.final10 m c),
      h4.trans (Cert.KernelIdeal.Block.final11 m c), ha⟩
  · refine (θ_run Cert.ReferenceIdeal.defs _ _).mono (fun _ h c => ?_) (Cert.ReferenceIdeal.Value.run (F := Ideal) m' ρ')
    obtain ⟨h0, h1, h2, h3, h4, ha⟩ := h c
    exact ⟨h0.trans ((Cert.ReferenceIdeal.Stage.result0 m' c).trans (congrArg Args.arrQ (e c))),
      h1.trans ((Cert.ReferenceIdeal.Stage.result1 m' c).trans (congrArg Args.arrKprev (e c))),
      h2.trans ((Cert.ReferenceIdeal.Stage.result2 m' c).trans (congrArg Args.arrK (e c))),
      h3.trans ((Cert.ReferenceIdeal.Stage.result3 m' c).trans (congrArg Args.arrVprev (e c))),
      h4.trans ((Cert.ReferenceIdeal.Stage.result4 m' c).trans (congrArg Args.arrV (e c))), ha⟩

end Cert.Swa

end
-- ==== Proof.FfnRun.lean ====
/-
  The feed-forward program runs to its end: what every buffer of a core holds there. Its five calls run one after the
  other, and the contents after the last of them are the fold of the five over the launch contents.
-/
module

public import proofs.«01_k».proof.Proof.Gen.FfnIdeal.Frame
public import Idealize.ShloMosaic.Lib.Pointwise

@[expose] public section

noncomputable section

namespace Cert.FfnIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.FfnIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the five calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W7 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W7 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W7 m ρ c) s)
    isplitl [Hbufs] <;> iassumption

end Cert.FfnIdeal.Whole

end
-- ==== Proof.FfnActs.lean ====
/-
  The arrays of hidden units of the feed-forward program.
-/
module

public import proofs.«01_k».proof.Proof.Gen.FfnIdeal.Frame
public import Idealize.ShloMosaic.Lib.Pointwise

@[expose] public section

noncomputable section

namespace Cert.FfnIdeal.Whole

open Cert.FfnIdeal Cert.FfnIdeal.Gen Idealize.ShloMosaic Idealize.ShloMosaic.TcCoe

/-- An array of one number per part, row and hidden unit. -/
def acts (g : Fin 4 → Fin 4096 → Fin 704 → EReal) : FVec Ideal S4x4096x704 .bf16 := fun j => g (j 0) (j 1) (j 2)

end Cert.FfnIdeal.Whole

end
-- ==== Proof.Swiglu.lean ====
/-
  The gated feed-forward layer `(silu (x Wg) * (x Wu)) Wd` and its derivative, on extended reals. The hidden units come in
  four parts of 704, and a unit is named by its part and its place there.
-/
module

public import Idealize.ShloMosaic.Lib.Pointwise

@[expose] public section

noncomputable section

namespace Cert.Swiglu

open Idealize.ShloMosaic

/-- The derivatives of `silu a * u` in `a` and in `u`, times `s`. -/
def stepGate (a u s : EReal) : EReal :=
  s * u * Ideal.logistic a + a * (s * u) * (Ideal.logistic a * (1 - Ideal.logistic a))
def stepUp (a s : EReal) : EReal := a * Ideal.logistic a * s

/-- One layer: its input, its three weights by hidden unit, and the derivative at its output. -/
structure Layer where
  x : Fin 4096 → Fin 1024 → EReal
  wg : Fin 4 → Fin 704 → Fin 1024 → EReal
  wu : Fin 4 → Fin 704 → Fin 1024 → EReal
  wd : Fin 4 → Fin 704 → Fin 1024 → EReal
  dy : Fin 4096 → Fin 1024 → EReal

namespace Layer

variable (L : Layer)

/-- What is put through the gate, and what the gate multiplies. -/
def gate (k : Fin 4) (i : Fin 4096) (f : Fin 704) : EReal := ∑ d, L.x i d * L.wg k f d
def up (k : Fin 4) (i : Fin 4096) (f : Fin 704) : EReal := ∑ d, L.x i d * L.wu k f d

/-- The hidden units. -/
def hid (k : Fin 4) (i : Fin 4096) (f : Fin 704) : EReal := L.gate k i f * Ideal.logistic (L.gate k i f) * L.up k i f

/-- The derivative at the hidden units, and at the two products that make them. -/
def dHid (k : Fin 4) (i : Fin 4096) (f : Fin 704) : EReal := ∑ d, L.dy i d * L.wd k f d
def dGate (k : Fin 4) (i : Fin 4096) (f : Fin 704) : EReal := stepGate (L.gate k i f) (L.up k i f) (L.dHid k i f)
def dUp (k : Fin 4) (i : Fin 4096) (f : Fin 704) : EReal := stepUp (L.gate k i f) (L.dHid k i f)

/-- The derivative at the input and at the three weights. -/
def gradX (i : Fin 4096) (d : Fin 1024) : EReal :=
  ∑ k, ((∑ f, L.dGate k i f * L.wg k f d) + ∑ f, L.dUp k i f * L.wu k f d)
def gradWg (k : Fin 4) (f : Fin 704) (d : Fin 1024) : EReal := ∑ i, L.dGate k i f * L.x i d
def gradWu (k : Fin 4) (f : Fin 704) (d : Fin 1024) : EReal := ∑ i, L.dUp k i f * L.x i d
def gradWd (k : Fin 4) (f : Fin 704) (d : Fin 1024) : EReal := ∑ i, L.hid k i f * L.dy i d

/-- The layer held by arrays: the rows of the input, one of the four layers of each stack of weights, and the rows
    of the derivative at the output. -/
def ofArrays (n : Fin 4) (x : (⟨2, ![4096, 1024]⟩ : Shape).Idx → EReal) (wg wu wd : (⟨4, ![4, 4, 704, 1024]⟩ : Shape).Idx → EReal)
    (dy : (⟨2, ![4096, 1024]⟩ : Shape).Idx → EReal) : Layer where
  x := fun i d => x (ix2 i d)
  wg := fun k f d => wg (ix4 k n f d)
  wu := fun k f d => wu (ix4 k n f d)
  wd := fun k f d => wd (ix4 k n f d)
  dy := fun i d => dy (ix2 i d)

end Layer

/-- Rows as an array, the weight gradients of one layer, and a stack of weight gradients with one layer replaced. -/
def arrRows (g : Fin 4096 → Fin 1024 → EReal) : (⟨2, ![4096, 1024]⟩ : Shape).Idx → EReal := fun i => g (i 0) (i 1)
def arrParts (g : Fin 4 → Fin 704 → Fin 1024 → EReal) : (⟨3, ![4, 704, 1024]⟩ : Shape).Idx → EReal :=
  fun j => g (j 0) (j 1) (j 2)
def arrStack (n : ℕ) (g : Fin 4 → Fin 704 → Fin 1024 → EReal) (old : (⟨4, ![4, 4, 704, 1024]⟩ : Shape).Idx → EReal) :
    (⟨4, ![4, 4, 704, 1024]⟩ : Shape).Idx → EReal := fun j => if (j 1 : ℕ) = n then g (j 0) (j 2) (j 3) else old j

end Cert.Swiglu

end
-- ==== Proof.FfnValue.lean ====
/-
  What the first call of the feed-forward program leaves in its arrays.
-/
module

public import proofs.«01_k».proof.Proof.FfnActs
public import proofs.«01_k».proof.Proof.Swiglu
public import Idealize.ShloMosaic.Lib.Pipeline.ValueKit
public import Idealize.ShloMosaic.Lib.Claim

@[expose] public section

set_option maxRecDepth 16384
noncomputable section

namespace Cert.FfnIdeal.Whole

open Cert.FfnIdeal Cert.FfnIdeal.Gen Idealize.ShloMosaic Idealize.ShloMosaic.TcCoe Cert.Swiglu
open Idealize.ShloMosaic.Pipeline (Dat)

variable (m : (ℓ : Loc nD τ sig) → Buf (Elt Ideal) ℓ) (ρ : Dev nD → PrngReg)

/-- The layer that a core is given: the third of four. -/
def layer (c : Dev nD) : Layer :=
  Layer.ofArrays 2 (m ((c : Thread nD τ).loc main_arg0)) (m ((c : Thread nD τ).loc main_arg1))
    (m ((c : Thread nD τ).loc main_arg2)) (m ((c : Thread nD τ).loc main_arg3)) (m ((c : Thread nD τ).loc main_arg4))

theorem idx0 : ∀ t : Fin cfg0.N, win0_0.index t = ![(grid0.coords t 1).val, 0] ∧
    win0_1.index t = ![(grid0.coords t 0).val, 2, 0, 0] ∧ win0_2.index t = ![(grid0.coords t 0).val, 2, 0, 0] ∧
    win0_3.index t = ![(grid0.coords t 0).val, (grid0.coords t 1).val, 0] ∧
    win0_4.index t = ![(grid0.coords t 0).val, (grid0.coords t 1).val, 0] ∧
    win0_5.index t = ![(grid0.coords t 0).val, (grid0.coords t 1).val, 0] := (by decide +kernel : ∀ t : Fin grid0.N, _)

/-! ## The first call: the products with the two input weights, and the hidden units -/

theorem up3 (c : Dev nD) : (dat0 (V0 m ρ) c).arrAt 3 cfg0.N = acts (layer m c).gate := by
  refine (dat0 (V0 m ρ) c).arrAt_eq_of_covers 3 _ (by decide +kernel) fun t _ y => ?_
  blk_simp
  rw [after0_3]
  frame_out
  idx_vars y
  pointwise [k0_pay3, k0_pay1, acts, Layer.gate, layer, Layer.ofArrays]
  blk_point [iblk0, V0, idx0 t]

theorem up4 (c : Dev nD) : (dat0 (V0 m ρ) c).arrAt 4 cfg0.N = acts (layer m c).up := by
  refine (dat0 (V0 m ρ) c).arrAt_eq_of_covers 4 _ (by decide +kernel) fun t _ y => ?_
  blk_simp
  rw [after0_4]
  frame_out
  idx_vars y
  pointwise [k0_pay4, k0_pay2, acts, Layer.up, layer, Layer.ofArrays]
  blk_point [iblk0, V0, idx0 t]

theorem up5 (c : Dev nD) : (dat0 (V0 m ρ) c).arrAt 5 cfg0.N = acts (layer m c).hid := by
  refine (dat0 (V0 m ρ) c).arrAt_eq_of_covers 5 _ (by decide +kernel) fun t _ y => ?_
  blk_simp
  rw [after0_5]
  frame_out
  idx_vars y
  pointwise [k0_pay5, k0_pay1, k0_pay2, acts, Layer.hid, Layer.gate, Layer.up, layer, Layer.ofArrays]
  blk_point [iblk0, V0, idx0 t]

end Cert.FfnIdeal.Whole

end
-- ==== Proof.FfnCalls.lean ====
/-
  What the second and the third call of the feed-forward program leave in their arrays, whatever the arrays they read
  hold.
-/
module

public import proofs.«01_k».proof.Proof.FfnActs
public import proofs.«01_k».proof.Proof.Swiglu
public import Idealize.ShloMosaic.Lib.Pipeline.ValueKit
public import Idealize.ShloMosaic.Lib.Claim

@[expose] public section

set_option maxRecDepth 16384
noncomputable section

namespace Cert.FfnIdeal.Whole

open Cert.FfnIdeal Cert.FfnIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The second call: the derivative at the two products with the input weights -/

theorem idx1 : ∀ t : Fin cfg1.N, win1_0.index t = ![(grid1.coords t 1).val, 0] ∧
    win1_1.index t = ![(grid1.coords t 0).val, 2, 0, 0] ∧
    win1_2.index t = ![(grid1.coords t 0).val, (grid1.coords t 1).val, 0] ∧
    win1_3.index t = ![(grid1.coords t 0).val, (grid1.coords t 1).val, 0] ∧
    win1_4.index t = ![(grid1.coords t 0).val, (grid1.coords t 1).val, 0] ∧
    win1_5.index t = ![(grid1.coords t 0).val, (grid1.coords t 1).val, 0] := (by decide +kernel : ∀ t : Fin grid1.N, _)

/-- The derivative at the hidden units. -/
def dhid (dy : FVec Ideal S4096x1024 .bf16) (wd : FVec Ideal S4x4x704x1024 .bf16) (k : Fin 4) (i : Fin 4096) (f : Fin 704) :
    EReal := ∑ d : Fin 1024, dy (ix2 i d) * wd (ix4 k 2 f d)

theorem dact4 (c : Dev nD) : (dat1 V c).arrAt 4 cfg1.N
    = acts fun k i f => stepGate (V c main_v0_0 (ix3 k i f)) (V c main_v0_1 (ix3 k i f)) (dhid (V c main_arg4) (V c main_arg3) k i f) := by
  refine (dat1 V c).arrAt_eq_of_covers 4 _ (by decide +kernel) fun t _ y => ?_
  blk_simp
  rw [after1_4]
  frame_out
  idx_vars y
  pointwise [k1_pay4, k1_pay3, k1_pay2, k1_pay1, acts, stepGate, dhid]
  blk_point [iblk1, idx1 t]

theorem dact5 (c : Dev nD) : (dat1 V c).arrAt 5 cfg1.N
    = acts fun k i f => stepUp (V c main_v0_0 (ix3 k i f)) (dhid (V c main_arg4) (V c main_arg3) k i f) := by
  refine (dat1 V c).arrAt_eq_of_covers 5 _ (by decide +kernel) fun t _ y => ?_
  blk_simp
  rw [after1_5]
  frame_out
  idx_vars y
  pointwise [k1_pay5, k1_pay3, k1_pay2, k1_pay1, acts, stepUp, dhid]
  blk_point [iblk1, idx1 t]

/-! ## The third call: the derivative at the layer's input -/

theorem idx2 : ∀ t : Fin cfg2.N, win2_0.index t = ![0, (grid2.coords t 0).val, 0] ∧
    win2_1.index t = ![0, (grid2.coords t 0).val, 0] ∧ win2_2.index t = ![0, 2, 0, 0] ∧ win2_3.index t = ![0, 2, 0, 0] ∧
    win2_4.index t = ![(grid2.coords t 0).val, 0] := (by decide +kernel : ∀ t : Fin grid2.N, _)

/-- The derivative at the layer's input, one part after another. -/
def dxSum (da du : FVec Ideal S4x4096x704 .bf16) (wg wu : FVec Ideal S4x4x704x1024 .bf16) (i : Fin 4096) (d : Fin 1024) :
    EReal := ∑ k : Fin 4, ((∑ f : Fin 704, da (ix3 k i f) * wg (ix4 k 2 f d)) + ∑ f : Fin 704, du (ix3 k i f) * wu (ix4 k 2 f d))

theorem dx4 (c : Dev nD) : (dat2 V c).arrAt 4 cfg2.N = (fun j => dxSum (V c main_v1_0) (V c main_v1_1) (V c main_arg1) (V c main_arg2) (j 0) (j 1) : FVec Ideal S4096x1024 .f32) := by
  refine (dat2 V c).arrAt_eq_of_covers 4 _ (by decide +kernel) fun t _ y => ?_
  blk_simp
  rw [after2_4]
  frame_out
  idx_vars y
  pointwise [k2_pay1, k2_pay2, dxSum, Fin.sum_univ_four]
  blk_point [iblk2, idx2 t]

end Cert.FfnIdeal.Whole

end
-- ==== Proof.FfnGrads.lean ====
/-
  What the last two calls of the feed-forward program leave in their arrays, whatever the arrays they read
  hold.
-/
module

public import proofs.«01_k».proof.Proof.Gen.FfnIdeal.Frame
public import proofs.«01_k».proof.Proof.Swiglu
public import Idealize.ShloMosaic.Lib.Pipeline.ValueKit
public import Idealize.ShloMosaic.Lib.Claim

@[expose] public section

set_option maxRecDepth 16384
noncomputable section

namespace Cert.FfnIdeal.Whole

open Cert.FfnIdeal Cert.FfnIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The fourth call: the derivatives at the two input weights -/

theorem idx3 : ∀ t : Fin cfg3.N, win3_0.index t = ![0, 0] ∧ win3_1.index t = ![(grid3.coords t 0).val, 0, 0] ∧
    win3_2.index t = ![(grid3.coords t 0).val, 0, 0] ∧ win3_3.index t = ![(grid3.coords t 0).val, 2, 0, 0] ∧
    win3_4.index t = ![(grid3.coords t 0).val, 2, 0, 0] := (by decide +kernel : ∀ t : Fin grid3.N, _)

/-- The derivative at one weight: over the rows, the derivative at the product times what the weight met. -/
def weightSum (a : FVec Ideal S4x4096x704 .bf16) (x : FVec Ideal S4096x1024 .bf16) (k : Fin 4) (f : Fin 704) (d : Fin 1024) :
    EReal := ∑ i : Fin 4096, a (ix3 k i f) * x (ix2 i d)

/-- The same of two blocks the call reads. -/
def blockSum (a : Vec Ideal S1x4096x704 .bf16) (x : Vec Ideal S4096x1024 .bf16) (f : Fin 704) (d : Fin 1024) : EReal :=
  ∑ i : Fin 4096, (a : FVec Ideal S1x4096x704 .bf16) (ix3 0 i f) * (x : FVec Ideal S4096x1024 .bf16) (ix2 i d)

theorem dwin3_point (c : Dev nD) (t : Fin cfg3.N) (y : S1x1x704x1024.Idx) :
    (outsAt3 V c t).1 y = blockSum (iblk3 V c 1 t) (iblk3 V c 0 t) (y 2) (y 3) := by
  dsimp only [outsAt3, out3_A_3]
  frame_out
  canon_tiles x h
  all_goals (open_payloads; pointwise [blockSum]; blk_point [])

theorem dwin4_point (c : Dev nD) (t : Fin cfg3.N) (y : S1x1x704x1024.Idx) :
    (outsAt3 V c t).2 y = blockSum (iblk3 V c 2 t) (iblk3 V c 0 t) (y 2) (y 3) := by
  dsimp only [outsAt3, out3_A_4]
  frame_out
  canon_tiles x h
  all_goals (open_payloads; pointwise [blockSum]; blk_point [])

theorem dwin3 (c : Dev nD) : (dat3 V c).arrAt 3 cfg3.N
    = (fun j => if (j 1 : ℕ) = 2 then weightSum (V c main_v1_0) (V c main_arg0) (j 0) (j 2) (j 3) else V c main_v3_0 j
        : FVec Ideal S4x4x704x1024 .f32) := by
  refine (dat3 V c).arrAt_eq_of_coversWhere 3 _ (fun β => (β 1 : ℕ) = 2) (by decide +kernel) (fun t hf y => ?_)
    (fun j => by blk_simp [Pipeline.Window.cell_apply]; omega)
  blk_simp
  rw [after3_3]
  refine (dwin3_point V c t y).trans ?_
  idx_vars y
  pointwise [blockSum, weightSum]
  blk_point [iblk3, idx3 t]

theorem dwin4 (c : Dev nD) : (dat3 V c).arrAt 4 cfg3.N
    = (fun j => if (j 1 : ℕ) = 2 then weightSum (V c main_v1_1) (V c main_arg0) (j 0) (j 2) (j 3) else V c main_v3_1 j
        : FVec Ideal S4x4x704x1024 .f32) := by
  refine (dat3 V c).arrAt_eq_of_coversWhere 4 _ (fun β => (β 1 : ℕ) = 2) (by decide +kernel) (fun t hf y => ?_)
    (fun j => by blk_simp [Pipeline.Window.cell_apply]; omega)
  blk_simp
  rw [after3_4]
  refine (dwin4_point V c t y).trans ?_
  idx_vars y
  pointwise [blockSum, weightSum]
  blk_point [iblk3, idx3 t]

/-! ## The fifth call: the derivative at the output weight -/

theorem idx4 : ∀ t : Fin cfg4.N, win4_0.index t = ![(grid4.coords t 0).val, 0, 0] ∧ win4_1.index t = ![0, 0] ∧
    win4_2.index t = ![(grid4.coords t 0).val, 2, 0, 0] := (by decide +kernel : ∀ t : Fin grid4.N, _)

theorem dwd2_point (c : Dev nD) (t : Fin cfg4.N) (y : S1x1x704x1024.Idx) :
    (outsAt4 V c t) y = blockSum (iblk4 V c 0 t) (iblk4 V c 1 t) (y 2) (y 3) := by
  dsimp only [outsAt4, out4_A_2]
  frame_out
  canon_tiles x h
  all_goals (open_payloads; pointwise [blockSum]; blk_point [])

theorem dwd2 (c : Dev nD) : (dat4 V c).arrAt 2 cfg4.N
    = (fun j => if (j 1 : ℕ) = 2 then weightSum (V c main_v0_2) (V c main_arg4) (j 0) (j 2) (j 3) else V c main_v4 j
        : FVec Ideal S4x4x704x1024 .f32) := by
  refine (dat4 V c).arrAt_eq_of_coversWhere 2 _ (fun β => (β 1 : ℕ) = 2) (by decide +kernel) (fun t hf y => ?_)
    (fun j => by blk_simp [Pipeline.Window.cell_apply]; omega)
  blk_simp
  rw [after4_2]
  refine (dwd2_point V c t y).trans ?_
  idx_vars y
  pointwise [blockSum, weightSum]
  blk_point [iblk4, idx4 t]

end Cert.FfnIdeal.Whole

end
-- ==== Proof.FfnResults.lean ====
/-
  What the feed-forward program leaves in its results: the derivatives of the layer it is given.
-/
module

public import proofs.«01_k».proof.Proof.FfnRun
public import proofs.«01_k».proof.Proof.FfnValue
public import proofs.«01_k».proof.Proof.FfnCalls
public import proofs.«01_k».proof.Proof.FfnGrads

@[expose] public section

set_option maxRecDepth 16384
noncomputable section

namespace Cert.FfnIdeal.Whole

open Cert.FfnIdeal Cert.FfnIdeal.Gen Idealize.ShloMosaic Idealize.ShloMosaic.TcCoe Cert.Swiglu

variable (m : (ℓ : Loc nD τ sig) → Buf (Elt Ideal) ℓ) (ρ : Dev nD → PrngReg) (c : Dev nD)

/-! ## Between the calls -/

theorem gate1 : V1 m ρ c main_v0_0 = acts (layer m c).gate := (W1_arr m ρ c 3).trans (up3 m ρ c)
theorem up1 : V1 m ρ c main_v0_1 = acts (layer m c).up := (W1_arr m ρ c 4).trans (up4 m ρ c)
theorem hid1 : V1 m ρ c main_v0_2 = acts (layer m c).hid := (W1_arr m ρ c 5).trans (up5 m ρ c)
theorem wd1 : V1 m ρ c main_arg3 = m ((c : Thread nD τ).loc main_arg3) := W1_args m ρ c main_arg3 (by decide)
theorem dy1 : V1 m ρ c main_arg4 = m ((c : Thread nD τ).loc main_arg4) := W1_args m ρ c main_arg4 (by decide)

theorem dgate2 : V2 m ρ c main_v1_0 = acts (layer m c).dGate :=
  (W2_arr m ρ c 4).trans ((dact4 (V1 m ρ) c).trans (by rw [gate1, up1, wd1, dy1]; rfl))
theorem dup2 : V2 m ρ c main_v1_1 = acts (layer m c).dUp :=
  (W2_arr m ρ c 5).trans ((dact5 (V1 m ρ) c).trans (by rw [gate1, wd1, dy1]; rfl))
theorem wg2 : V2 m ρ c main_arg1 = m ((c : Thread nD τ).loc main_arg1) := W2_args m ρ c main_arg1 (by decide)
theorem wu2 : V2 m ρ c main_arg2 = m ((c : Thread nD τ).loc main_arg2) := W2_args m ρ c main_arg2 (by decide)

theorem dx3 : W3 m ρ c (Proc.devRef .tc main_v2) = arrRows (layer m c).gradX :=
  (W3_arr m ρ c 4).trans ((dx4 (V2 m ρ) c).trans (by rw [dgate2, dup2, wg2, wu2]; rfl))

theorem dgate4 : V4 m ρ c main_v1_0 = acts (layer m c).dGate :=
  (W4_of m ρ c main_v1_0 (by decide)).trans ((W3_of m ρ c main_v1_0 (by decide)).trans (dgate2 m ρ c))
theorem dup4 : V4 m ρ c main_v1_1 = acts (layer m c).dUp :=
  (W4_of m ρ c main_v1_1 (by decide)).trans ((W3_of m ρ c main_v1_1 (by decide)).trans (dup2 m ρ c))
theorem x4 : V4 m ρ c main_arg0 = m ((c : Thread nD τ).loc main_arg0) := W4_args m ρ c main_arg0 (by decide)
theorem oldg4 : V4 m ρ c main_v3_0 = m ((c : Thread nD τ).loc main_arg5) := by
  refine Eq.trans ?_ (W3_args m ρ c main_arg5 (by decide))
  show W4 m ρ c _ = _
  unfold W4
  after_results
  rfl
theorem oldu4 : V4 m ρ c main_v3_1 = m ((c : Thread nD τ).loc main_arg6) := by
  refine Eq.trans ?_ (W3_args m ρ c main_arg6 (by decide))
  show W4 m ρ c _ = _
  unfold W4
  after_results
  rfl

theorem hid6 : V6 m ρ c main_v0_2 = acts (layer m c).hid :=
  (W6_of m ρ c main_v0_2 (by decide)).trans ((W5_of m ρ c main_v0_2 (by decide)).trans
    ((W4_of m ρ c main_v0_2 (by decide)).trans ((W3_of m ρ c main_v0_2 (by decide)).trans
      ((W2_of m ρ c main_v0_2 (by decide)).trans (hid1 m ρ c)))))
theorem dy6 : V6 m ρ c main_arg4 = m ((c : Thread nD τ).loc main_arg4) := W6_args m ρ c main_arg4 (by decide)
theorem oldd6 : V6 m ρ c main_v4 = m ((c : Thread nD τ).loc main_arg7) := by
  refine Eq.trans ?_ (W5_args m ρ c main_arg7 (by decide))
  show W6 m ρ c _ = _
  unfold W6
  after_results
  rfl

/-! ## At the end -/

theorem out_x : W7 m ρ c (Proc.devRef .tc main_v2) = arrRows (layer m c).gradX :=
  (W7_of m ρ c main_v2 (by decide)).trans ((W6_of m ρ c main_v2 (by decide)).trans
    ((W5_of m ρ c main_v2 (by decide)).trans ((W4_of m ρ c main_v2 (by decide)).trans (dx3 m ρ c))))

theorem out_wg : W7 m ρ c (Proc.devRef .tc main_v3_0)
    = arrStack 2 (layer m c).gradWg (m ((c : Thread nD τ).loc main_arg5)) :=
  (W7_of m ρ c main_v3_0 (by decide)).trans ((W6_of m ρ c main_v3_0 (by decide)).trans
    ((W5_arr m ρ c 3).trans ((dwin3 (V4 m ρ) c).trans (by rw [dgate4, x4, oldg4]; rfl))))

theorem out_wu : W7 m ρ c (Proc.devRef .tc main_v3_1)
    = arrStack 2 (layer m c).gradWu (m ((c : Thread nD τ).loc main_arg6)) :=
  (W7_of m ρ c main_v3_1 (by decide)).trans ((W6_of m ρ c main_v3_1 (by decide)).trans
    ((W5_arr m ρ c 4).trans ((dwin4 (V4 m ρ) c).trans (by rw [dup4, x4, oldu4]; rfl))))

theorem out_wd : W7 m ρ c (Proc.devRef .tc main_v4)
    = arrStack 2 (layer m c).gradWd (m ((c : Thread nD τ).loc main_arg7)) :=
  (W7_arr m ρ c 2).trans ((dwd2 (V6 m ρ) c).trans (by rw [hid6, dy6, oldd6]; rfl))

end Cert.FfnIdeal.Whole

end
-- ==== Proof.FfnStages.lean ====
/-
  The operations of the feed-forward reference, named, and read at an index. Its 2816 hidden units are the four parts of
  704 one after another.
-/
module

public import proofs.«01_k».proof.Proof.Gen.FfnReferenceIdeal.Run
public import proofs.«01_k».proof.Proof.Swiglu
public import Idealize.ShloMosaic.Lib.Claim

@[expose] public section

set_option maxRecDepth 16384
noncomputable section

namespace Cert.FfnReferenceIdeal.Stage

open Cert.FfnReferenceIdeal Cert.FfnReferenceIdeal.Gen Idealize.ShloMosaic Idealize.ShloMosaic.TcCoe Cert.Swiglu

section
variable (x : FVec Ideal S4096x1024 .bf16) (wg wu wd w : FVec Ideal S4x4x704x1024 .bf16) (dy : FVec Ideal S4096x1024 .bf16)

/-- The third layer of a stack of weights, a row for each hidden unit. -/
def flat : FVec Ideal S2816x1024 .f32 :=
  extf .f32 (shapeCast _ (shapeCast _ (extractStridedSlice S4x1x704x1024 ![0, 2, 0, 0] w slices_S4x4x704x1024_S4x1x704x1024_0_2_0_0) shapeCasts_S4x1x704x1024_S4x704x1024) shapeCasts_S4x704x1024_S2816x1024) bitsLt_bf16_f32

def turned : FVec Ideal S1024x2816 .f32 := transpose S1024x2816 [1, 0] (flat w) transposes_S2816x1024_S1024x2816_1_0

/-- The product with an input weight. -/
def act : FVec Ideal S4096x2816 .f32 :=
  Host.dotGeneral dot_S4096x1024_S1024x2816_S4096x2816_1_0_0_1_n_n none (extf .f32 x bitsLt_bf16_f32) (turned w)

def one : FVec Ideal S4096x2816 .f32 := broadcastInDim S4096x2816 ![] bcast_S_S4096x2816 (constant S_ .f32 0x3F800000#32)

def opening : FVec Ideal S4096x2816 .f32 := Host.divf one (addf one (Host.exp (Host.negf (act x wg))))

/-- The derivative at the hidden units, and at the two products. -/
def dHid : FVec Ideal S4096x2816 .f32 :=
  Host.dotGeneral dot_S4096x1024_S2816x1024_S4096x2816_1_1_0_0_n_n none (extf .f32 dy bitsLt_bf16_f32) (flat wd)

def dUp : FVec Ideal S4096x2816 .f32 := mulf (mulf (act x wg) (opening x wg)) (dHid wd dy)

def dGate : FVec Ideal S4096x2816 .f32 :=
  addf (mulf (mulf (dHid wd dy) (act x wu)) (opening x wg))
    (mulf (mulf (act x wg) (mulf (dHid wd dy) (act x wu))) (mulf (opening x wg) (subf one (opening x wg))))

def hid : FVec Ideal S4096x2816 .f32 := mulf (mulf (act x wg) (opening x wg)) (act x wu)

/-- The derivative at the input and at the weights. -/
def gradX : FVec Ideal S4096x1024 .f32 :=
  addf (Host.dotGeneral dot_S4096x2816_S1024x2816_S4096x1024_1_1_0_0_n_n none (dUp x wg wd dy) (turned wu))
    (Host.dotGeneral dot_S4096x2816_S1024x2816_S4096x1024_1_1_0_0_n_n none (dGate x wg wu wd dy) (turned wg))

def gradIn (d : FVec Ideal S4096x2816 .f32) : FVec Ideal S1024x2816 .f32 :=
  transpose S1024x2816 [1, 0] (Host.dotGeneral dot_S4096x2816_S4096x1024_S2816x1024_0_0_1_1_n_n none d (extf .f32 x bitsLt_bf16_f32)) transposes_S2816x1024_S1024x2816_1_0

def gradOut : FVec Ideal S1024x2816 .f32 :=
  Host.dotGeneral dot_S4096x1024_S4096x2816_S1024x2816_0_0_1_1_n_n none (extf .f32 dy bitsLt_bf16_f32) (hid x wg wu)

/-- A stack of gradients with its third layer replaced. -/
def put (g : FVec Ideal S1024x2816 .f32) (old : FVec Ideal S4x4x704x1024 .f32) : FVec Ideal S4x4x704x1024 .f32 :=
  concatenate S4x4x704x1024 1 [⟨S4x2x704x1024, extractStridedSlice S4x2x704x1024 ![0, 0, 0, 0] old slices_S4x4x704x1024_S4x2x704x1024_0_0_0_0⟩, ⟨S4x1x704x1024, shapeCast _ (transpose S2816x1024 [1, 0] g transposes_S1024x2816_S2816x1024_1_0) shapeCasts_S2816x1024_S4x1x704x1024⟩, ⟨S4x1x704x1024, extractStridedSlice S4x1x704x1024 ![0, 3, 0, 0] old slices_S4x4x704x1024_S4x1x704x1024_0_3_0_0⟩] concatenates_S4x2x704x1024_S4x1x704x1024_S4x1x704x1024_S4x4x704x1024_d1

end

section
variable (m : (ℓ : Loc nD τ sig) → Buf (Elt Ideal) ℓ) (c : Dev nD)

/-- The arguments. -/
def ax : FVec Ideal S4096x1024 .bf16 := m ((c.tc : Thread nD τ).loc main_arg0)
def awg : FVec Ideal S4x4x704x1024 .bf16 := m ((c.tc : Thread nD τ).loc main_arg1)
def awu : FVec Ideal S4x4x704x1024 .bf16 := m ((c.tc : Thread nD τ).loc main_arg2)
def awd : FVec Ideal S4x4x704x1024 .bf16 := m ((c.tc : Thread nD τ).loc main_arg3)
def ady : FVec Ideal S4096x1024 .bf16 := m ((c.tc : Thread nD τ).loc main_arg4)

theorem out0 : Value.res_main_v34 m c = gradX (ax m c) (awg m c) (awu m c) (awd m c) (ady m c) := rfl

theorem out1 : Value.res_main_v39 m c
    = put (gradIn (ax m c) (dGate (ax m c) (awg m c) (awu m c) (awd m c) (ady m c))) (m ((c.tc : Thread nD τ).loc main_arg5)) := rfl

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v34) = gradX (ax m c) (awg m c) (awu m c) (awd m c) (ady m c)
    ∧ r.2.mem ((c.tc : Thread nD τ).loc main_v39)
      = put (gradIn (ax m c) (dGate (ax m c) (awg m c) (awu m c) (awd m c) (ady m c))) (m ((c.tc : Thread nD τ).loc main_arg5))
    ∧ r.2.mem ((c.tc : Thread nD τ).loc main_v43)
      = put (gradIn (ax m c) (dUp (ax m c) (awg m c) (awd m c) (ady m c))) (m ((c.tc : Thread nD τ).loc main_arg6))
    ∧ r.2.mem ((c.tc : Thread nD τ).loc main_v47)
      = put (gradOut (ax m c) (awg m c) (awu m c) (ady m c)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => by
    obtain ⟨h0, h1, h2, h3, ha⟩ := h c
    exact ⟨h0.trans (out0 m c), h1.trans (out1 m c), h2, h3, ha⟩) (Value.run (F := Ideal) m ρ)

end

end Cert.FfnReferenceIdeal.Stage

end
-- ==== Proof.FfnStagesAt.lean ====
/-
  The operations of the feed-forward reference read at an index: they are the layer's formulas.
-/
module

public import proofs.«01_k».proof.Proof.FfnStages

@[expose] public section

set_option maxRecDepth 16384
noncomputable section

namespace Cert.FfnReferenceIdeal.Stage

open Cert.FfnReferenceIdeal Cert.FfnReferenceIdeal.Gen Idealize.ShloMosaic Idealize.ShloMosaic.TcCoe Cert.Swiglu

/-- Unit `f` of part `k` among all. -/
def unit (k : Fin 4) (f : Fin 704) : Fin 2816 := ⟨704 * k + f, by omega⟩

theorem sum_units (F : Fin 2816 → EReal) : ∑ x, F x = ∑ k, ∑ f, F (unit k f) := by
  rw [← Fintype.sum_prod_type' (fun k f => F (unit k f))]
  refine (Fintype.sum_equiv (finProdFinEquiv (m := 4) (n := 704)) _ _ fun p => congrArg F (Fin.ext ?_)).symm
  simp only [unit, finProdFinEquiv_apply_val]
  omega

section
variable (x : FVec Ideal S4096x1024 .bf16) (wg wu wd w : FVec Ideal S4x4x704x1024 .bf16) (dy : FVec Ideal S4096x1024 .bf16)

/-- The layer given. -/
abbrev lay : Layer := Layer.ofArrays 2 x wg wu wd dy

theorem flat_at (k : Fin 4) (f : Fin 704) (d : Fin 1024) : flat w (ix2 (unit k f) d) = w (ix4 k 2 f d) := by
  pointwise [flat]
  refine congrArg w ?_
  congr 1 <;> (apply Fin.ext; simp only [unit]; omega)

theorem turned_at (k : Fin 4) (f : Fin 704) (d : Fin 1024) : turned w (ix2 d (unit k f)) = w (ix4 k 2 f d) := by
  pointwise [turned]
  exact flat_at w k f d

theorem act_at (k : Fin 4) (i : Fin 4096) (f : Fin 704) : act x w (ix2 i (unit k f)) = ∑ d, x (ix2 i d) * w (ix4 k 2 f d) := by
  pointwise [act]
  simp only [turned_at]

theorem opening_at (k : Fin 4) (i : Fin 4096) (f : Fin 704) :
    opening x wg (ix2 i (unit k f)) = Ideal.logistic ((lay x wg wu wd dy).gate k i f) := by
  pointwise [opening, one]
  rw [act_at]
  rfl

theorem dHid_at (k : Fin 4) (i : Fin 4096) (f : Fin 704) :
    dHid wd dy (ix2 i (unit k f)) = (lay x wg wu wd dy).dHid k i f := by
  pointwise [dHid]
  simp only [flat_at]
  rfl

theorem dUp_at (k : Fin 4) (i : Fin 4096) (f : Fin 704) :
    dUp x wg wd dy (ix2 i (unit k f)) = (lay x wg wu wd dy).dUp k i f := by
  pointwise [dUp]
  rw [act_at, opening_at x wg wu wd dy, dHid_at x wg wu wd dy]
  rfl

theorem dGate_at (k : Fin 4) (i : Fin 4096) (f : Fin 704) :
    dGate x wg wu wd dy (ix2 i (unit k f)) = (lay x wg wu wd dy).dGate k i f := by
  pointwise [dGate, one]
  rw [act_at, act_at, opening_at x wg wu wd dy, dHid_at x wg wu wd dy]
  rfl

theorem hid_at (k : Fin 4) (i : Fin 4096) (f : Fin 704) :
    hid x wg wu (ix2 i (unit k f)) = (lay x wg wu wd dy).hid k i f := by
  pointwise [hid]
  rw [act_at, act_at, opening_at x wg wu wd dy]
  rfl

theorem gradX_eq : gradX x wg wu wd dy = arrRows (lay x wg wu wd dy).gradX := by
  funext j
  idx_vars j
  pointwise [gradX, arrRows]
  simp only [sum_units, turned_at, dUp_at x wg wu wd dy, dGate_at x wg wu wd dy]
  rw [add_comm, ← Finset.sum_add_distrib]
  rfl

theorem gradWg_at (k : Fin 4) (f : Fin 704) (d : Fin 1024) :
    gradIn x (dGate x wg wu wd dy) (ix2 d (unit k f)) = (lay x wg wu wd dy).gradWg k f d := by
  pointwise [gradIn]
  simp only [dGate_at x wg wu wd dy]
  rfl

theorem gradWu_at (k : Fin 4) (f : Fin 704) (d : Fin 1024) :
    gradIn x (dUp x wg wd dy) (ix2 d (unit k f)) = (lay x wg wu wd dy).gradWu k f d := by
  pointwise [gradIn]
  simp only [dUp_at x wg wu wd dy]
  rfl

theorem gradWd_at (k : Fin 4) (f : Fin 704) (d : Fin 1024) :
    gradOut x wg wu dy (ix2 d (unit k f)) = (lay x wg wu wd dy).gradWd k f d := by
  pointwise [gradOut]
  simp only [hid_at x wg wu wd dy]
  exact Finset.sum_congr rfl fun i _ => mul_comm _ _

end

/-- The stack with the third layer replaced, by its entries. -/
theorem put_eq (g : FVec Ideal S1024x2816 .f32) (old : FVec Ideal S4x4x704x1024 .f32) (G : Fin 4 → Fin 704 → Fin 1024 → EReal)
    (h : ∀ k f d, g (ix2 d (unit k f)) = G k f d) : put g old = arrStack 2 G old := by
  funext j
  idx_vars j
  pointwise [put, arrStack]
  rw [← h j0 j2 j3]
  have hu : (⟨(j0 : ℕ) * 704 + j2, by omega⟩ : Fin 2816) = unit j0 j2 := Fin.ext (by simp only [unit]; omega)
  split
  · exact (if_neg (c := (j1 : ℕ) = 2) (by omega)).symm
  · split
    · exact (congrArg (fun b => g (ix2 j3 b)) hu).trans (if_pos (c := (j1 : ℕ) = 2) (by omega)).symm
    · exact (congrArg (fun b => old (ix4 j0 b j2 j3)) (Fin.ext (by show 3 + ((j1 : ℕ) - 2 - 1) = j1; omega))).trans
        (if_neg (c := (j1 : ℕ) = 2) (by omega)).symm

end Cert.FfnReferenceIdeal.Stage

end
-- ==== Proof.Ffn.lean ====
/-
  The five claims about the feed-forward layer: the three frames, the ledger, and the equation of the kernel with the
  reference.
-/
module

public import proofs.«01_k».proof.Defs
public import proofs.«01_k».proof.Proof.Gen.Ffn.Frame
public import proofs.«01_k».proof.Proof.FfnResults
public import proofs.«01_k».proof.Proof.FfnStagesAt

@[expose] public section

noncomputable section

namespace Cert.FfnClaims

open Idealize.ShloMosaic Idealize.ShloMosaic.TcCoe Idealize.SL.Sem Cert.Swiglu

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnReferenceIdeal := fun m ρ _ =>
  (θ_run Cert.FfnReferenceIdeal.defs _ _).mono
    (fun r h => ⟨fun c => (h c).2.2.2.2, sem_eq_zero_of_no_sems (by decide) r.2⟩)
    (Cert.FfnReferenceIdeal.Value.run (F := Ideal) m ρ)

theorem preserves : Cert.preserves_Ffn_FfnIdeal := trivial

section
open Cert.FfnIdeal Cert.FfnIdeal.Whole

theorem algebraic : Cert.algebraic_FfnIdeal_FfnReferenceIdeal := by
  intro m ρ m' ρ' _ hag
  have e : ∀ c : Dev nD, Layer.ofArrays 2 (Cert.FfnReferenceIdeal.Stage.ax m' c) (Cert.FfnReferenceIdeal.Stage.awg m' c)
      (Cert.FfnReferenceIdeal.Stage.awu m' c) (Cert.FfnReferenceIdeal.Stage.awd m' c) (Cert.FfnReferenceIdeal.Stage.ady m' c)
        = layer m c := fun c => by
    obtain ⟨h0, h1, h2, h3, h4, -, -, -⟩ := hag c
    simp only [Cert.FfnReferenceIdeal.Stage.ax, Cert.FfnReferenceIdeal.Stage.awg, Cert.FfnReferenceIdeal.Stage.awu,
      Cert.FfnReferenceIdeal.Stage.awd, Cert.FfnReferenceIdeal.Stage.ady, layer]
    rw [h0, h1, h2, h3, h4]
  refine ⟨fun c => arrRows (layer m c).gradX,
    fun c => arrStack 2 (layer m c).gradWg (m ((c.tc : Thread nD τ).loc main_arg5)),
    fun c => arrStack 2 (layer m c).gradWu (m ((c.tc : Thread nD τ).loc main_arg6)),
    fun c => arrStack 2 (layer m c).gradWd (m ((c.tc : Thread nD τ).loc main_arg7)), ?_, ?_⟩
  · refine (θ_run defs _ _).mono (fun r h c => ?_) (run m ρ)
    exact ⟨(h c main_v2 (by decide)).trans (out_x m ρ c), (h c main_v3_0 (by decide)).trans (out_wg m ρ c),
      (h c main_v3_1 (by decide)).trans (out_wu m ρ c), (h c main_v4 (by decide)).trans (out_wd m ρ c),
      (h c main_arg0 (by decide)).trans (Gen.W7_main_arg0 m ρ c), (h c main_arg1 (by decide)).trans (Gen.W7_main_arg1 m ρ c),
      (h c main_arg2 (by decide)).trans (Gen.W7_main_arg2 m ρ c), (h c main_arg3 (by decide)).trans (Gen.W7_main_arg3 m ρ c),
      (h c main_arg4 (by decide)).trans (Gen.W7_main_arg4 m ρ c), (h c main_arg5 (by decide)).trans (Gen.W7_main_arg5 m ρ c),
      (h c main_arg6 (by decide)).trans (Gen.W7_main_arg6 m ρ c), (h c main_arg7 (by decide)).trans (Gen.W7_main_arg7 m ρ c)⟩
  · refine (θ_run Cert.FfnReferenceIdeal.defs _ _).mono (fun r h c => ?_) (Cert.FfnReferenceIdeal.Stage.run m' ρ')
    obtain ⟨h0, h1, h2, h3, ha⟩ := h c
    obtain ⟨-, -, -, -, -, h5, h6, h7⟩ := hag c
    refine ⟨h0.trans ?_, h1.trans ?_, h2.trans ?_, h3.trans ?_, ha⟩
    · rw [Cert.FfnReferenceIdeal.Stage.gradX_eq]
      exact congrArg (fun L => arrRows (Layer.gradX L)) (e c)
    · rw [h5, Cert.FfnReferenceIdeal.Stage.put_eq _ _ _ (Cert.FfnReferenceIdeal.Stage.gradWg_at _ _ _ _ _)]
      exact congrArg (fun L => arrStack 2 (Layer.gradWg L) _) (e c)
    · rw [h6, Cert.FfnReferenceIdeal.Stage.put_eq _ _ _ (Cert.FfnReferenceIdeal.Stage.gradWu_at _ _ (Cert.FfnReferenceIdeal.Stage.awu m' c) _ _)]
      exact congrArg (fun L => arrStack 2 (Layer.gradWu L) _) (e c)
    · rw [h7, Cert.FfnReferenceIdeal.Stage.put_eq _ _ _ (Cert.FfnReferenceIdeal.Stage.gradWd_at _ _ _ (Cert.FfnReferenceIdeal.Stage.awd m' c) _)]
      exact congrArg (fun L => arrStack 2 (Layer.gradWd L) _) (e c)

end

end Cert.FfnClaims

end
-- ==== Proof.FfnOneRun.lean ====
/-
  The feed-forward program runs to its end: what every buffer of a core holds there. Its five calls run one after the
  other, and the contents after the last of them are the fold of the five over the launch contents.
-/
module

public import proofs.«01_k».proof.Proof.Gen.FfnOneIdeal.Frame
public import Idealize.ShloMosaic.Lib.Pointwise

@[expose] public section

noncomputable section

namespace Cert.FfnOneIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.FfnOneIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the five calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W7 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W7 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W7 m ρ c) s)
    isplitl [Hbufs] <;> iassumption

end Cert.FfnOneIdeal.Whole

end
-- ==== Proof.FfnOneActs.lean ====
/-
  The arrays of hidden units of the feed-forward program of the second layer.
-/
module

public import proofs.«01_k».proof.Proof.Gen.FfnOneIdeal.Frame
public import Idealize.ShloMosaic.Lib.Pointwise

@[expose] public section

noncomputable section

namespace Cert.FfnOneIdeal.Whole

open Cert.FfnOneIdeal Cert.FfnOneIdeal.Gen Idealize.ShloMosaic Idealize.ShloMosaic.TcCoe

/-- An array of one number per part, row and hidden unit. -/
def acts (g : Fin 4 → Fin 4096 → Fin 704 → EReal) : FVec Ideal S4x4096x704 .bf16 := fun j => g (j 0) (j 1) (j 2)

end Cert.FfnOneIdeal.Whole

end
-- ==== Proof.FfnOneValue.lean ====
/-
  What the first call of the feed-forward program of the second layer leaves in its arrays.
-/
module

public import proofs.«01_k».proof.Proof.FfnOneActs
public import proofs.«01_k».proof.Proof.Swiglu
public import Idealize.ShloMosaic.Lib.Pipeline.ValueKit
public import Idealize.ShloMosaic.Lib.Claim

@[expose] public section

set_option maxRecDepth 16384
noncomputable section

namespace Cert.FfnOneIdeal.Whole

open Cert.FfnOneIdeal Cert.FfnOneIdeal.Gen Idealize.ShloMosaic Idealize.ShloMosaic.TcCoe Cert.Swiglu
open Idealize.ShloMosaic.Pipeline (Dat)

variable (m : (ℓ : Loc nD τ sig) → Buf (Elt Ideal) ℓ) (ρ : Dev nD → PrngReg)

/-- The layer that a core is given: the second of four. -/
def layer (c : Dev nD) : Layer :=
  Layer.ofArrays 1 (m ((c : Thread nD τ).loc main_arg0)) (m ((c : Thread nD τ).loc main_arg1))
    (m ((c : Thread nD τ).loc main_arg2)) (m ((c : Thread nD τ).loc main_arg3)) (m ((c : Thread nD τ).loc main_arg4))

theorem idx0 : ∀ t : Fin cfg0.N, win0_0.index t = ![(grid0.coords t 1).val, 0] ∧
    win0_1.index t = ![(grid0.coords t 0).val, 1, 0, 0] ∧ win0_2.index t = ![(grid0.coords t 0).val, 1, 0, 0] ∧
    win0_3.index t = ![(grid0.coords t 0).val, (grid0.coords t 1).val, 0] ∧
    win0_4.index t = ![(grid0.coords t 0).val, (grid0.coords t 1).val, 0] ∧
    win0_5.index t = ![(grid0.coords t 0).val, (grid0.coords t 1).val, 0] := (by decide +kernel : ∀ t : Fin grid0.N, _)

/-! ## The first call: the products with the two input weights, and the hidden units -/

theorem up3 (c : Dev nD) : (dat0 (V0 m ρ) c).arrAt 3 cfg0.N = acts (layer m c).gate := by
  refine (dat0 (V0 m ρ) c).arrAt_eq_of_covers 3 _ (by decide +kernel) fun t _ y => ?_
  blk_simp
  rw [after0_3]
  frame_out
  idx_vars y
  pointwise [k0_pay3, k0_pay1, acts, Layer.gate, layer, Layer.ofArrays]
  blk_point [iblk0, V0, idx0 t]

theorem up4 (c : Dev nD) : (dat0 (V0 m ρ) c).arrAt 4 cfg0.N = acts (layer m c).up := by
  refine (dat0 (V0 m ρ) c).arrAt_eq_of_covers 4 _ (by decide +kernel) fun t _ y => ?_
  blk_simp
  rw [after0_4]
  frame_out
  idx_vars y
  pointwise [k0_pay4, k0_pay2, acts, Layer.up, layer, Layer.ofArrays]
  blk_point [iblk0, V0, idx0 t]

theorem up5 (c : Dev nD) : (dat0 (V0 m ρ) c).arrAt 5 cfg0.N = acts (layer m c).hid := by
  refine (dat0 (V0 m ρ) c).arrAt_eq_of_covers 5 _ (by decide +kernel) fun t _ y => ?_
  blk_simp
  rw [after0_5]
  frame_out
  idx_vars y
  pointwise [k0_pay5, k0_pay1, k0_pay2, acts, Layer.hid, Layer.gate, Layer.up, layer, Layer.ofArrays]
  blk_point [iblk0, V0, idx0 t]

end Cert.FfnOneIdeal.Whole

end
-- ==== Proof.FfnOneCalls.lean ====
/-
  What the second and the third call of the feed-forward program of the second layer leave in their arrays, whatever the arrays they read
  hold.
-/
module

public import proofs.«01_k».proof.Proof.FfnOneActs
public import proofs.«01_k».proof.Proof.Swiglu
public import Idealize.ShloMosaic.Lib.Pipeline.ValueKit
public import Idealize.ShloMosaic.Lib.Claim

@[expose] public section

set_option maxRecDepth 16384
noncomputable section

namespace Cert.FfnOneIdeal.Whole

open Cert.FfnOneIdeal Cert.FfnOneIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The second call: the derivative at the two products with the input weights -/

theorem idx1 : ∀ t : Fin cfg1.N, win1_0.index t = ![(grid1.coords t 1).val, 0] ∧
    win1_1.index t = ![(grid1.coords t 0).val, 1, 0, 0] ∧
    win1_2.index t = ![(grid1.coords t 0).val, (grid1.coords t 1).val, 0] ∧
    win1_3.index t = ![(grid1.coords t 0).val, (grid1.coords t 1).val, 0] ∧
    win1_4.index t = ![(grid1.coords t 0).val, (grid1.coords t 1).val, 0] ∧
    win1_5.index t = ![(grid1.coords t 0).val, (grid1.coords t 1).val, 0] := (by decide +kernel : ∀ t : Fin grid1.N, _)

/-- The derivative at the hidden units. -/
def dhid (dy : FVec Ideal S4096x1024 .bf16) (wd : FVec Ideal S4x4x704x1024 .bf16) (k : Fin 4) (i : Fin 4096) (f : Fin 704) :
    EReal := ∑ d : Fin 1024, dy (ix2 i d) * wd (ix4 k 1 f d)

theorem dact4 (c : Dev nD) : (dat1 V c).arrAt 4 cfg1.N
    = acts fun k i f => stepGate (V c main_v0_0 (ix3 k i f)) (V c main_v0_1 (ix3 k i f)) (dhid (V c main_arg4) (V c main_arg3) k i f) := by
  refine (dat1 V c).arrAt_eq_of_covers 4 _ (by decide +kernel) fun t _ y => ?_
  blk_simp
  rw [after1_4]
  frame_out
  idx_vars y
  pointwise [k1_pay4, k1_pay3, k1_pay2, k1_pay1, acts, stepGate, dhid]
  blk_point [iblk1, idx1 t]

theorem dact5 (c : Dev nD) : (dat1 V c).arrAt 5 cfg1.N
    = acts fun k i f => stepUp (V c main_v0_0 (ix3 k i f)) (dhid (V c main_arg4) (V c main_arg3) k i f) := by
  refine (dat1 V c).arrAt_eq_of_covers 5 _ (by decide +kernel) fun t _ y => ?_
  blk_simp
  rw [after1_5]
  frame_out
  idx_vars y
  pointwise [k1_pay5, k1_pay3, k1_pay2, k1_pay1, acts, stepUp, dhid]
  blk_point [iblk1, idx1 t]

/-! ## The third call: the derivative at the layer's input -/

theorem idx2 : ∀ t : Fin cfg2.N, win2_0.index t = ![0, (grid2.coords t 0).val, 0] ∧
    win2_1.index t = ![0, (grid2.coords t 0).val, 0] ∧ win2_2.index t = ![0, 1, 0, 0] ∧ win2_3.index t = ![0, 1, 0, 0] ∧
    win2_4.index t = ![(grid2.coords t 0).val, 0] := (by decide +kernel : ∀ t : Fin grid2.N, _)

/-- The derivative at the layer's input, one part after another. -/
def dxSum (da du : FVec Ideal S4x4096x704 .bf16) (wg wu : FVec Ideal S4x4x704x1024 .bf16) (i : Fin 4096) (d : Fin 1024) :
    EReal := ∑ k : Fin 4, ((∑ f : Fin 704, da (ix3 k i f) * wg (ix4 k 1 f d)) + ∑ f : Fin 704, du (ix3 k i f) * wu (ix4 k 1 f d))

theorem dx4 (c : Dev nD) : (dat2 V c).arrAt 4 cfg2.N = (fun j => dxSum (V c main_v1_0) (V c main_v1_1) (V c main_arg1) (V c main_arg2) (j 0) (j 1) : FVec Ideal S4096x1024 .f32) := by
  refine (dat2 V c).arrAt_eq_of_covers 4 _ (by decide +kernel) fun t _ y => ?_
  blk_simp
  rw [after2_4]
  frame_out
  idx_vars y
  pointwise [k2_pay1, k2_pay2, dxSum, Fin.sum_univ_four]
  blk_point [iblk2, idx2 t]

end Cert.FfnOneIdeal.Whole

end
-- ==== Proof.FfnOneGrads.lean ====
/-
  What the last two calls of the feed-forward program of the second layer leave in their arrays, whatever the arrays they read
  hold.
-/
module

public import proofs.«01_k».proof.Proof.Gen.FfnOneIdeal.Frame
public import proofs.«01_k».proof.Proof.Swiglu
public import Idealize.ShloMosaic.Lib.Pipeline.ValueKit
public import Idealize.ShloMosaic.Lib.Claim

@[expose] public section

set_option maxRecDepth 16384
noncomputable section

namespace Cert.FfnOneIdeal.Whole

open Cert.FfnOneIdeal Cert.FfnOneIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The fourth call: the derivatives at the two input weights -/

theorem idx3 : ∀ t : Fin cfg3.N, win3_0.index t = ![0, 0] ∧ win3_1.index t = ![(grid3.coords t 0).val, 0, 0] ∧
    win3_2.index t = ![(grid3.coords t 0).val, 0, 0] ∧ win3_3.index t = ![(grid3.coords t 0).val, 1, 0, 0] ∧
    win3_4.index t = ![(grid3.coords t 0).val, 1, 0, 0] := (by decide +kernel : ∀ t : Fin grid3.N, _)

/-- The derivative at one weight: over the rows, the derivative at the product times what the weight met. -/
def weightSum (a : FVec Ideal S4x4096x704 .bf16) (x : FVec Ideal S4096x1024 .bf16) (k : Fin 4) (f : Fin 704) (d : Fin 1024) :
    EReal := ∑ i : Fin 4096, a (ix3 k i f) * x (ix2 i d)

/-- The same of two blocks the call reads. -/
def blockSum (a : Vec Ideal S1x4096x704 .bf16) (x : Vec Ideal S4096x1024 .bf16) (f : Fin 704) (d : Fin 1024) : EReal :=
  ∑ i : Fin 4096, (a : FVec Ideal S1x4096x704 .bf16) (ix3 0 i f) * (x : FVec Ideal S4096x1024 .bf16) (ix2 i d)

theorem dwin3_point (c : Dev nD) (t : Fin cfg3.N) (y : S1x1x704x1024.Idx) :
    (outsAt3 V c t).1 y = blockSum (iblk3 V c 1 t) (iblk3 V c 0 t) (y 2) (y 3) := by
  dsimp only [outsAt3, out3_A_3]
  frame_out
  canon_tiles x h
  all_goals (open_payloads; pointwise [blockSum]; blk_point [])

theorem dwin4_point (c : Dev nD) (t : Fin cfg3.N) (y : S1x1x704x1024.Idx) :
    (outsAt3 V c t).2 y = blockSum (iblk3 V c 2 t) (iblk3 V c 0 t) (y 2) (y 3) := by
  dsimp only [outsAt3, out3_A_4]
  frame_out
  canon_tiles x h
  all_goals (open_payloads; pointwise [blockSum]; blk_point [])

theorem dwin3 (c : Dev nD) : (dat3 V c).arrAt 3 cfg3.N
    = (fun j => if (j 1 : ℕ) = 1 then weightSum (V c main_v1_0) (V c main_arg0) (j 0) (j 2) (j 3) else V c main_v3_0 j
        : FVec Ideal S4x4x704x1024 .f32) := by
  refine (dat3 V c).arrAt_eq_of_coversWhere 3 _ (fun β => (β 1 : ℕ) = 1) (by decide +kernel) (fun t hf y => ?_)
    (fun j => by blk_simp [Pipeline.Window.cell_apply]; omega)
  blk_simp
  rw [after3_3]
  refine (dwin3_point V c t y).trans ?_
  idx_vars y
  pointwise [blockSum, weightSum]
  blk_point [iblk3, idx3 t]

theorem dwin4 (c : Dev nD) : (dat3 V c).arrAt 4 cfg3.N
    = (fun j => if (j 1 : ℕ) = 1 then weightSum (V c main_v1_1) (V c main_arg0) (j 0) (j 2) (j 3) else V c main_v3_1 j
        : FVec Ideal S4x4x704x1024 .f32) := by
  refine (dat3 V c).arrAt_eq_of_coversWhere 4 _ (fun β => (β 1 : ℕ) = 1) (by decide +kernel) (fun t hf y => ?_)
    (fun j => by blk_simp [Pipeline.Window.cell_apply]; omega)
  blk_simp
  rw [after3_4]
  refine (dwin4_point V c t y).trans ?_
  idx_vars y
  pointwise [blockSum, weightSum]
  blk_point [iblk3, idx3 t]

/-! ## The fifth call: the derivative at the output weight -/

theorem idx4 : ∀ t : Fin cfg4.N, win4_0.index t = ![(grid4.coords t 0).val, 0, 0] ∧ win4_1.index t = ![0, 0] ∧
    win4_2.index t = ![(grid4.coords t 0).val, 1, 0, 0] := (by decide +kernel : ∀ t : Fin grid4.N, _)

theorem dwd2_point (c : Dev nD) (t : Fin cfg4.N) (y : S1x1x704x1024.Idx) :
    (outsAt4 V c t) y = blockSum (iblk4 V c 0 t) (iblk4 V c 1 t) (y 2) (y 3) := by
  dsimp only [outsAt4, out4_A_2]
  frame_out
  canon_tiles x h
  all_goals (open_payloads; pointwise [blockSum]; blk_point [])

theorem dwd2 (c : Dev nD) : (dat4 V c).arrAt 2 cfg4.N
    = (fun j => if (j 1 : ℕ) = 1 then weightSum (V c main_v0_2) (V c main_arg4) (j 0) (j 2) (j 3) else V c main_v4 j
        : FVec Ideal S4x4x704x1024 .f32) := by
  refine (dat4 V c).arrAt_eq_of_coversWhere 2 _ (fun β => (β 1 : ℕ) = 1) (by decide +kernel) (fun t hf y => ?_)
    (fun j => by blk_simp [Pipeline.Window.cell_apply]; omega)
  blk_simp
  rw [after4_2]
  refine (dwd2_point V c t y).trans ?_
  idx_vars y
  pointwise [blockSum, weightSum]
  blk_point [iblk4, idx4 t]

end Cert.FfnOneIdeal.Whole

end
-- ==== Proof.FfnOneResults.lean ====
/-
  What the feed-forward program of the second layer leaves in its results: the derivatives of the layer it is given.
-/
module

public import proofs.«01_k».proof.Proof.FfnOneRun
public import proofs.«01_k».proof.Proof.FfnOneValue
public import proofs.«01_k».proof.Proof.FfnOneCalls
public import proofs.«01_k».proof.Proof.FfnOneGrads

@[expose] public section

set_option maxRecDepth 16384
noncomputable section

namespace Cert.FfnOneIdeal.Whole

open Cert.FfnOneIdeal Cert.FfnOneIdeal.Gen Idealize.ShloMosaic Idealize.ShloMosaic.TcCoe Cert.Swiglu

variable (m : (ℓ : Loc nD τ sig) → Buf (Elt Ideal) ℓ) (ρ : Dev nD → PrngReg) (c : Dev nD)

/-! ## Between the calls -/

theorem gate1 : V1 m ρ c main_v0_0 = acts (layer m c).gate := (W1_arr m ρ c 3).trans (up3 m ρ c)
theorem up1 : V1 m ρ c main_v0_1 = acts (layer m c).up := (W1_arr m ρ c 4).trans (up4 m ρ c)
theorem hid1 : V1 m ρ c main_v0_2 = acts (layer m c).hid := (W1_arr m ρ c 5).trans (up5 m ρ c)
theorem wd1 : V1 m ρ c main_arg3 = m ((c : Thread nD τ).loc main_arg3) := W1_args m ρ c main_arg3 (by decide)
theorem dy1 : V1 m ρ c main_arg4 = m ((c : Thread nD τ).loc main_arg4) := W1_args m ρ c main_arg4 (by decide)

theorem dgate2 : V2 m ρ c main_v1_0 = acts (layer m c).dGate :=
  (W2_arr m ρ c 4).trans ((dact4 (V1 m ρ) c).trans (by rw [gate1, up1, wd1, dy1]; rfl))
theorem dup2 : V2 m ρ c main_v1_1 = acts (layer m c).dUp :=
  (W2_arr m ρ c 5).trans ((dact5 (V1 m ρ) c).trans (by rw [gate1, wd1, dy1]; rfl))
theorem wg2 : V2 m ρ c main_arg1 = m ((c : Thread nD τ).loc main_arg1) := W2_args m ρ c main_arg1 (by decide)
theorem wu2 : V2 m ρ c main_arg2 = m ((c : Thread nD τ).loc main_arg2) := W2_args m ρ c main_arg2 (by decide)

theorem dx3 : W3 m ρ c (Proc.devRef .tc main_v2) = arrRows (layer m c).gradX :=
  (W3_arr m ρ c 4).trans ((dx4 (V2 m ρ) c).trans (by rw [dgate2, dup2, wg2, wu2]; rfl))

theorem dgate4 : V4 m ρ c main_v1_0 = acts (layer m c).dGate :=
  (W4_of m ρ c main_v1_0 (by decide)).trans ((W3_of m ρ c main_v1_0 (by decide)).trans (dgate2 m ρ c))
theorem dup4 : V4 m ρ c main_v1_1 = acts (layer m c).dUp :=
  (W4_of m ρ c main_v1_1 (by decide)).trans ((W3_of m ρ c main_v1_1 (by decide)).trans (dup2 m ρ c))
theorem x4 : V4 m ρ c main_arg0 = m ((c : Thread nD τ).loc main_arg0) := W4_args m ρ c main_arg0 (by decide)
theorem oldg4 : V4 m ρ c main_v3_0 = m ((c : Thread nD τ).loc main_arg5) := by
  refine Eq.trans ?_ (W3_args m ρ c main_arg5 (by decide))
  show W4 m ρ c _ = _
  unfold W4
  after_results
  rfl
theorem oldu4 : V4 m ρ c main_v3_1 = m ((c : Thread nD τ).loc main_arg6) := by
  refine Eq.trans ?_ (W3_args m ρ c main_arg6 (by decide))
  show W4 m ρ c _ = _
  unfold W4
  after_results
  rfl

theorem hid6 : V6 m ρ c main_v0_2 = acts (layer m c).hid :=
  (W6_of m ρ c main_v0_2 (by decide)).trans ((W5_of m ρ c main_v0_2 (by decide)).trans
    ((W4_of m ρ c main_v0_2 (by decide)).trans ((W3_of m ρ c main_v0_2 (by decide)).trans
      ((W2_of m ρ c main_v0_2 (by decide)).trans (hid1 m ρ c)))))
theorem dy6 : V6 m ρ c main_arg4 = m ((c : Thread nD τ).loc main_arg4) := W6_args m ρ c main_arg4 (by decide)
theorem oldd6 : V6 m ρ c main_v4 = m ((c : Thread nD τ).loc main_arg7) := by
  refine Eq.trans ?_ (W5_args m ρ c main_arg7 (by decide))
  show W6 m ρ c _ = _
  unfold W6
  after_results
  rfl

/-! ## At the end -/

theorem out_x : W7 m ρ c (Proc.devRef .tc main_v2) = arrRows (layer m c).gradX :=
  (W7_of m ρ c main_v2 (by decide)).trans ((W6_of m ρ c main_v2 (by decide)).trans
    ((W5_of m ρ c main_v2 (by decide)).trans ((W4_of m ρ c main_v2 (by decide)).trans (dx3 m ρ c))))

theorem out_wg : W7 m ρ c (Proc.devRef .tc main_v3_0)
    = arrStack 1 (layer m c).gradWg (m ((c : Thread nD τ).loc main_arg5)) :=
  (W7_of m ρ c main_v3_0 (by decide)).trans ((W6_of m ρ c main_v3_0 (by decide)).trans
    ((W5_arr m ρ c 3).trans ((dwin3 (V4 m ρ) c).trans (by rw [dgate4, x4, oldg4]; rfl))))

theorem out_wu : W7 m ρ c (Proc.devRef .tc main_v3_1)
    = arrStack 1 (layer m c).gradWu (m ((c : Thread nD τ).loc main_arg6)) :=
  (W7_of m ρ c main_v3_1 (by decide)).trans ((W6_of m ρ c main_v3_1 (by decide)).trans
    ((W5_arr m ρ c 4).trans ((dwin4 (V4 m ρ) c).trans (by rw [dup4, x4, oldu4]; rfl))))

theorem out_wd : W7 m ρ c (Proc.devRef .tc main_v4)
    = arrStack 1 (layer m c).gradWd (m ((c : Thread nD τ).loc main_arg7)) :=
  (W7_arr m ρ c 2).trans ((dwd2 (V6 m ρ) c).trans (by rw [hid6, dy6, oldd6]; rfl))

end Cert.FfnOneIdeal.Whole

end
-- ==== Proof.FfnOneStages.lean ====
/-
  The operations of the feed-forward reference of the second layer, named, and read at an index. Its 2816 hidden units are the four parts of
  704 one after another.
-/
module

public import proofs.«01_k».proof.Proof.Gen.FfnOneReferenceIdeal.Run
public import proofs.«01_k».proof.Proof.Swiglu
public import Idealize.ShloMosaic.Lib.Claim

@[expose] public section

set_option maxRecDepth 16384
noncomputable section

namespace Cert.FfnOneReferenceIdeal.Stage

open Cert.FfnOneReferenceIdeal Cert.FfnOneReferenceIdeal.Gen Idealize.ShloMosaic Idealize.ShloMosaic.TcCoe Cert.Swiglu

section
variable (x : FVec Ideal S4096x1024 .bf16) (wg wu wd w : FVec Ideal S4x4x704x1024 .bf16) (dy : FVec Ideal S4096x1024 .bf16)

/-- The second layer of a stack of weights, a row for each hidden unit. -/
def flat : FVec Ideal S2816x1024 .f32 :=
  extf .f32 (shapeCast _ (shapeCast _ (extractStridedSlice S4x1x704x1024 ![0, 1, 0, 0] w slices_S4x4x704x1024_S4x1x704x1024_0_1_0_0) shapeCasts_S4x1x704x1024_S4x704x1024) shapeCasts_S4x704x1024_S2816x1024) bitsLt_bf16_f32

def turned : FVec Ideal S1024x2816 .f32 := transpose S1024x2816 [1, 0] (flat w) transposes_S2816x1024_S1024x2816_1_0

/-- The product with an input weight. -/
def act : FVec Ideal S4096x2816 .f32 :=
  Host.dotGeneral dot_S4096x1024_S1024x2816_S4096x2816_1_0_0_1_n_n none (extf .f32 x bitsLt_bf16_f32) (turned w)

def one : FVec Ideal S4096x2816 .f32 := broadcastInDim S4096x2816 ![] bcast_S_S4096x2816 (constant S_ .f32 0x3F800000#32)

def opening : FVec Ideal S4096x2816 .f32 := Host.divf one (addf one (Host.exp (Host.negf (act x wg))))

/-- The derivative at the hidden units, and at the two products. -/
def dHid : FVec Ideal S4096x2816 .f32 :=
  Host.dotGeneral dot_S4096x1024_S2816x1024_S4096x2816_1_1_0_0_n_n none (extf .f32 dy bitsLt_bf16_f32) (flat wd)

def dUp : FVec Ideal S4096x2816 .f32 := mulf (mulf (act x wg) (opening x wg)) (dHid wd dy)

def dGate : FVec Ideal S4096x2816 .f32 :=
  addf (mulf (mulf (dHid wd dy) (act x wu)) (opening x wg))
    (mulf (mulf (act x wg) (mulf (dHid wd dy) (act x wu))) (mulf (opening x wg) (subf one (opening x wg))))

def hid : FVec Ideal S4096x2816 .f32 := mulf (mulf (act x wg) (opening x wg)) (act x wu)

/-- The derivative at the input and at the weights. -/
def gradX : FVec Ideal S4096x1024 .f32 :=
  addf (Host.dotGeneral dot_S4096x2816_S1024x2816_S4096x1024_1_1_0_0_n_n none (dUp x wg wd dy) (turned wu))
    (Host.dotGeneral dot_S4096x2816_S1024x2816_S4096x1024_1_1_0_0_n_n none (dGate x wg wu wd dy) (turned wg))

def gradIn (d : FVec Ideal S4096x2816 .f32) : FVec Ideal S1024x2816 .f32 :=
  transpose S1024x2816 [1, 0] (Host.dotGeneral dot_S4096x2816_S4096x1024_S2816x1024_0_0_1_1_n_n none d (extf .f32 x bitsLt_bf16_f32)) transposes_S2816x1024_S1024x2816_1_0

def gradOut : FVec Ideal S1024x2816 .f32 :=
  Host.dotGeneral dot_S4096x1024_S4096x2816_S1024x2816_0_0_1_1_n_n none (extf .f32 dy bitsLt_bf16_f32) (hid x wg wu)

/-- A stack of gradients with its second layer replaced. -/
def put (g : FVec Ideal S1024x2816 .f32) (old : FVec Ideal S4x4x704x1024 .f32) : FVec Ideal S4x4x704x1024 .f32 :=
  concatenate S4x4x704x1024 1 [⟨S4x1x704x1024, extractStridedSlice S4x1x704x1024 ![0, 0, 0, 0] old slices_S4x4x704x1024_S4x1x704x1024_0_0_0_0⟩, ⟨S4x1x704x1024, shapeCast _ (transpose S2816x1024 [1, 0] g transposes_S1024x2816_S2816x1024_1_0) shapeCasts_S2816x1024_S4x1x704x1024⟩, ⟨S4x2x704x1024, extractStridedSlice S4x2x704x1024 ![0, 2, 0, 0] old slices_S4x4x704x1024_S4x2x704x1024_0_2_0_0⟩] concatenates_S4x1x704x1024_S4x1x704x1024_S4x2x704x1024_S4x4x704x1024_d1

end

section
variable (m : (ℓ : Loc nD τ sig) → Buf (Elt Ideal) ℓ) (c : Dev nD)

/-- The arguments. -/
def ax : FVec Ideal S4096x1024 .bf16 := m ((c.tc : Thread nD τ).loc main_arg0)
def awg : FVec Ideal S4x4x704x1024 .bf16 := m ((c.tc : Thread nD τ).loc main_arg1)
def awu : FVec Ideal S4x4x704x1024 .bf16 := m ((c.tc : Thread nD τ).loc main_arg2)
def awd : FVec Ideal S4x4x704x1024 .bf16 := m ((c.tc : Thread nD τ).loc main_arg3)
def ady : FVec Ideal S4096x1024 .bf16 := m ((c.tc : Thread nD τ).loc main_arg4)

theorem out0 : Value.res_main_v34 m c = gradX (ax m c) (awg m c) (awu m c) (awd m c) (ady m c) := rfl

theorem out1 : Value.res_main_v39 m c
    = put (gradIn (ax m c) (dGate (ax m c) (awg m c) (awu m c) (awd m c) (ady m c))) (m ((c.tc : Thread nD τ).loc main_arg5)) := rfl

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v34) = gradX (ax m c) (awg m c) (awu m c) (awd m c) (ady m c)
    ∧ r.2.mem ((c.tc : Thread nD τ).loc main_v39)
      = put (gradIn (ax m c) (dGate (ax m c) (awg m c) (awu m c) (awd m c) (ady m c))) (m ((c.tc : Thread nD τ).loc main_arg5))
    ∧ r.2.mem ((c.tc : Thread nD τ).loc main_v43)
      = put (gradIn (ax m c) (dUp (ax m c) (awg m c) (awd m c) (ady m c))) (m ((c.tc : Thread nD τ).loc main_arg6))
    ∧ r.2.mem ((c.tc : Thread nD τ).loc main_v47)
      = put (gradOut (ax m c) (awg m c) (awu m c) (ady m c)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => by
    obtain ⟨h0, h1, h2, h3, ha⟩ := h c
    exact ⟨h0.trans (out0 m c), h1.trans (out1 m c), h2, h3, ha⟩) (Value.run (F := Ideal) m ρ)

end

end Cert.FfnOneReferenceIdeal.Stage

end
-- ==== Proof.FfnOneStagesAt.lean ====
/-
  The operations of the feed-forward reference of the second layer read at an index: they are the layer's formulas.
-/
module

public import proofs.«01_k».proof.Proof.FfnOneStages

@[expose] public section

set_option maxRecDepth 16384
noncomputable section

namespace Cert.FfnOneReferenceIdeal.Stage

open Cert.FfnOneReferenceIdeal Cert.FfnOneReferenceIdeal.Gen Idealize.ShloMosaic Idealize.ShloMosaic.TcCoe Cert.Swiglu

/-- Unit `f` of part `k` among all. -/
def unit (k : Fin 4) (f : Fin 704) : Fin 2816 := ⟨704 * k + f, by omega⟩

theorem sum_units (F : Fin 2816 → EReal) : ∑ x, F x = ∑ k, ∑ f, F (unit k f) := by
  rw [← Fintype.sum_prod_type' (fun k f => F (unit k f))]
  refine (Fintype.sum_equiv (finProdFinEquiv (m := 4) (n := 704)) _ _ fun p => congrArg F (Fin.ext ?_)).symm
  simp only [unit, finProdFinEquiv_apply_val]
  omega

section
variable (x : FVec Ideal S4096x1024 .bf16) (wg wu wd w : FVec Ideal S4x4x704x1024 .bf16) (dy : FVec Ideal S4096x1024 .bf16)

/-- The layer given. -/
abbrev lay : Layer := Layer.ofArrays 1 x wg wu wd dy

theorem flat_at (k : Fin 4) (f : Fin 704) (d : Fin 1024) : flat w (ix2 (unit k f) d) = w (ix4 k 1 f d) := by
  pointwise [flat]
  refine congrArg w ?_
  congr 1 <;> (apply Fin.ext; simp only [unit]; omega)

theorem turned_at (k : Fin 4) (f : Fin 704) (d : Fin 1024) : turned w (ix2 d (unit k f)) = w (ix4 k 1 f d) := by
  pointwise [turned]
  exact flat_at w k f d

theorem act_at (k : Fin 4) (i : Fin 4096) (f : Fin 704) : act x w (ix2 i (unit k f)) = ∑ d, x (ix2 i d) * w (ix4 k 1 f d) := by
  pointwise [act]
  simp only [turned_at]

theorem opening_at (k : Fin 4) (i : Fin 4096) (f : Fin 704) :
    opening x wg (ix2 i (unit k f)) = Ideal.logistic ((lay x wg wu wd dy).gate k i f) := by
  pointwise [opening, one]
  rw [act_at]
  rfl

theorem dHid_at (k : Fin 4) (i : Fin 4096) (f : Fin 704) :
    dHid wd dy (ix2 i (unit k f)) = (lay x wg wu wd dy).dHid k i f := by
  pointwise [dHid]
  simp only [flat_at]
  rfl

theorem dUp_at (k : Fin 4) (i : Fin 4096) (f : Fin 704) :
    dUp x wg wd dy (ix2 i (unit k f)) = (lay x wg wu wd dy).dUp k i f := by
  pointwise [dUp]
  rw [act_at, opening_at x wg wu wd dy, dHid_at x wg wu wd dy]
  rfl

theorem dGate_at (k : Fin 4) (i : Fin 4096) (f : Fin 704) :
    dGate x wg wu wd dy (ix2 i (unit k f)) = (lay x wg wu wd dy).dGate k i f := by
  pointwise [dGate, one]
  rw [act_at, act_at, opening_at x wg wu wd dy, dHid_at x wg wu wd dy]
  rfl

theorem hid_at (k : Fin 4) (i : Fin 4096) (f : Fin 704) :
    hid x wg wu (ix2 i (unit k f)) = (lay x wg wu wd dy).hid k i f := by
  pointwise [hid]
  rw [act_at, act_at, opening_at x wg wu wd dy]
  rfl

theorem gradX_eq : gradX x wg wu wd dy = arrRows (lay x wg wu wd dy).gradX := by
  funext j
  idx_vars j
  pointwise [gradX, arrRows]
  simp only [sum_units, turned_at, dUp_at x wg wu wd dy, dGate_at x wg wu wd dy]
  rw [add_comm, ← Finset.sum_add_distrib]
  rfl

theorem gradWg_at (k : Fin 4) (f : Fin 704) (d : Fin 1024) :
    gradIn x (dGate x wg wu wd dy) (ix2 d (unit k f)) = (lay x wg wu wd dy).gradWg k f d := by
  pointwise [gradIn]
  simp only [dGate_at x wg wu wd dy]
  rfl

theorem gradWu_at (k : Fin 4) (f : Fin 704) (d : Fin 1024) :
    gradIn x (dUp x wg wd dy) (ix2 d (unit k f)) = (lay x wg wu wd dy).gradWu k f d := by
  pointwise [gradIn]
  simp only [dUp_at x wg wu wd dy]
  rfl

theorem gradWd_at (k : Fin 4) (f : Fin 704) (d : Fin 1024) :
    gradOut x wg wu dy (ix2 d (unit k f)) = (lay x wg wu wd dy).gradWd k f d := by
  pointwise [gradOut]
  simp only [hid_at x wg wu wd dy]
  exact Finset.sum_congr rfl fun i _ => mul_comm _ _

end

/-- The stack with the second layer replaced, by its entries. -/
theorem put_eq (g : FVec Ideal S1024x2816 .f32) (old : FVec Ideal S4x4x704x1024 .f32) (G : Fin 4 → Fin 704 → Fin 1024 → EReal)
    (h : ∀ k f d, g (ix2 d (unit k f)) = G k f d) : put g old = arrStack 1 G old := by
  funext j
  idx_vars j
  pointwise [put, arrStack]
  rw [← h j0 j2 j3]
  have hu : (⟨(j0 : ℕ) * 704 + j2, by omega⟩ : Fin 2816) = unit j0 j2 := Fin.ext (by simp only [unit]; omega)
  split
  · exact (if_neg (c := (j1 : ℕ) = 1) (by omega)).symm
  · split
    · exact (congrArg (fun b => g (ix2 j3 b)) hu).trans (if_pos (c := (j1 : ℕ) = 1) (by omega)).symm
    · exact (congrArg (fun b => old (ix4 j0 b j2 j3)) (Fin.ext (by show 2 + ((j1 : ℕ) - 1 - 1) = j1; omega))).trans
        (if_neg (c := (j1 : ℕ) = 1) (by omega)).symm

end Cert.FfnOneReferenceIdeal.Stage

end
-- ==== Proof.FfnOne.lean ====
/-
  The five claims about the second feed-forward layer: the three frames, the ledger, and the equation of the kernel with the
  reference.
-/
module

public import proofs.«01_k».proof.Defs
public import proofs.«01_k».proof.Proof.Gen.FfnOne.Frame
public import proofs.«01_k».proof.Proof.FfnOneResults
public import proofs.«01_k».proof.Proof.FfnOneStagesAt

@[expose] public section

noncomputable section

namespace Cert.FfnOneClaims

open Idealize.ShloMosaic Idealize.ShloMosaic.TcCoe Idealize.SL.Sem Cert.Swiglu

theorem frame_p : Cert.quiescent_FfnOne := fun m ρ _ => Cert.FfnOne.Gen.frame m ρ

theorem frame_pi : Cert.quiescent_FfnOneIdeal := fun m ρ _ => Cert.FfnOneIdeal.Gen.frame m ρ

theorem frame_ri : Cert.quiescent_FfnOneReferenceIdeal := fun m ρ _ =>
  (θ_run Cert.FfnOneReferenceIdeal.defs _ _).mono
    (fun r h => ⟨fun c => (h c).2.2.2.2, sem_eq_zero_of_no_sems (by decide) r.2⟩)
    (Cert.FfnOneReferenceIdeal.Value.run (F := Ideal) m ρ)

theorem preserves : Cert.preserves_FfnOne_FfnOneIdeal := trivial

section
open Cert.FfnOneIdeal Cert.FfnOneIdeal.Whole

theorem algebraic : Cert.algebraic_FfnOneIdeal_FfnOneReferenceIdeal := by
  intro m ρ m' ρ' _ hag
  have e : ∀ c : Dev nD, Layer.ofArrays 1 (Cert.FfnOneReferenceIdeal.Stage.ax m' c) (Cert.FfnOneReferenceIdeal.Stage.awg m' c)
      (Cert.FfnOneReferenceIdeal.Stage.awu m' c) (Cert.FfnOneReferenceIdeal.Stage.awd m' c) (Cert.FfnOneReferenceIdeal.Stage.ady m' c)
        = layer m c := fun c => by
    obtain ⟨h0, h1, h2, h3, h4, -, -, -⟩ := hag c
    simp only [Cert.FfnOneReferenceIdeal.Stage.ax, Cert.FfnOneReferenceIdeal.Stage.awg, Cert.FfnOneReferenceIdeal.Stage.awu,
      Cert.FfnOneReferenceIdeal.Stage.awd, Cert.FfnOneReferenceIdeal.Stage.ady, layer]
    rw [h0, h1, h2, h3, h4]
  refine ⟨fun c => arrRows (layer m c).gradX,
    fun c => arrStack 1 (layer m c).gradWg (m ((c.tc : Thread nD τ).loc main_arg5)),
    fun c => arrStack 1 (layer m c).gradWu (m ((c.tc : Thread nD τ).loc main_arg6)),
    fun c => arrStack 1 (layer m c).gradWd (m ((c.tc : Thread nD τ).loc main_arg7)), ?_, ?_⟩
  · refine (θ_run defs _ _).mono (fun r h c => ?_) (run m ρ)
    exact ⟨(h c main_v2 (by decide)).trans (out_x m ρ c), (h c main_v3_0 (by decide)).trans (out_wg m ρ c),
      (h c main_v3_1 (by decide)).trans (out_wu m ρ c), (h c main_v4 (by decide)).trans (out_wd m ρ c),
      (h c main_arg0 (by decide)).trans (Gen.W7_main_arg0 m ρ c), (h c main_arg1 (by decide)).trans (Gen.W7_main_arg1 m ρ c),
      (h c main_arg2 (by decide)).trans (Gen.W7_main_arg2 m ρ c), (h c main_arg3 (by decide)).trans (Gen.W7_main_arg3 m ρ c),
      (h c main_arg4 (by decide)).trans (Gen.W7_main_arg4 m ρ c), (h c main_arg5 (by decide)).trans (Gen.W7_main_arg5 m ρ c),
      (h c main_arg6 (by decide)).trans (Gen.W7_main_arg6 m ρ c), (h c main_arg7 (by decide)).trans (Gen.W7_main_arg7 m ρ c)⟩
  · refine (θ_run Cert.FfnOneReferenceIdeal.defs _ _).mono (fun r h c => ?_) (Cert.FfnOneReferenceIdeal.Stage.run m' ρ')
    obtain ⟨h0, h1, h2, h3, ha⟩ := h c
    obtain ⟨-, -, -, -, -, h5, h6, h7⟩ := hag c
    refine ⟨h0.trans ?_, h1.trans ?_, h2.trans ?_, h3.trans ?_, ha⟩
    · rw [Cert.FfnOneReferenceIdeal.Stage.gradX_eq]
      exact congrArg (fun L => arrRows (Layer.gradX L)) (e c)
    · rw [h5, Cert.FfnOneReferenceIdeal.Stage.put_eq _ _ _ (Cert.FfnOneReferenceIdeal.Stage.gradWg_at _ _ _ _ _)]
      exact congrArg (fun L => arrStack 1 (Layer.gradWg L) _) (e c)
    · rw [h6, Cert.FfnOneReferenceIdeal.Stage.put_eq _ _ _ (Cert.FfnOneReferenceIdeal.Stage.gradWu_at _ _ (Cert.FfnOneReferenceIdeal.Stage.awu m' c) _ _)]
      exact congrArg (fun L => arrStack 1 (Layer.gradWu L) _) (e c)
    · rw [h7, Cert.FfnOneReferenceIdeal.Stage.put_eq _ _ _ (Cert.FfnOneReferenceIdeal.Stage.gradWd_at _ _ _ (Cert.FfnOneReferenceIdeal.Stage.awd m' c) _)]
      exact congrArg (fun L => arrStack 1 (Layer.gradWd L) _) (e c)

end

end Cert.FfnOneClaims

end
-- ==== Proof.FfnZeroRun.lean ====
/-
  The feed-forward program runs to its end: what every buffer of a core holds there. Its five calls run one after the
  other, and the contents after the last of them are the fold of the five over the launch contents.
-/
module

public import proofs.«01_k».proof.Proof.Gen.FfnZeroIdeal.Frame
public import Idealize.ShloMosaic.Lib.Pointwise

@[expose] public section

noncomputable section

namespace Cert.FfnZeroIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.FfnZeroIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the five calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W7 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W7 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W7 m ρ c) s)
    isplitl [Hbufs] <;> iassumption

end Cert.FfnZeroIdeal.Whole

end
-- ==== Proof.FfnZeroActs.lean ====
/-
  The arrays of hidden units of the feed-forward program of the first layer.
-/
module

public import proofs.«01_k».proof.Proof.Gen.FfnZeroIdeal.Frame
public import Idealize.ShloMosaic.Lib.Pointwise

@[expose] public section

noncomputable section

namespace Cert.FfnZeroIdeal.Whole

open Cert.FfnZeroIdeal Cert.FfnZeroIdeal.Gen Idealize.ShloMosaic Idealize.ShloMosaic.TcCoe

/-- An array of one number per part, row and hidden unit. -/
def acts (g : Fin 4 → Fin 4096 → Fin 704 → EReal) : FVec Ideal S4x4096x704 .bf16 := fun j => g (j 0) (j 1) (j 2)

end Cert.FfnZeroIdeal.Whole

end
-- ==== Proof.FfnZeroValue.lean ====
/-
  What the first call of the feed-forward program of the first layer leaves in its arrays.
-/
module

public import proofs.«01_k».proof.Proof.FfnZeroActs
public import proofs.«01_k».proof.Proof.Swiglu
public import Idealize.ShloMosaic.Lib.Pipeline.ValueKit
public import Idealize.ShloMosaic.Lib.Claim

@[expose] public section

set_option maxRecDepth 16384
noncomputable section

namespace Cert.FfnZeroIdeal.Whole

open Cert.FfnZeroIdeal Cert.FfnZeroIdeal.Gen Idealize.ShloMosaic Idealize.ShloMosaic.TcCoe Cert.Swiglu
open Idealize.ShloMosaic.Pipeline (Dat)

variable (m : (ℓ : Loc nD τ sig) → Buf (Elt Ideal) ℓ) (ρ : Dev nD → PrngReg)

/-- The layer that a core is given: the first of four. -/
def layer (c : Dev nD) : Layer :=
  Layer.ofArrays 0 (m ((c : Thread nD τ).loc main_arg0)) (m ((c : Thread nD τ).loc main_arg1))
    (m ((c : Thread nD τ).loc main_arg2)) (m ((c : Thread nD τ).loc main_arg3)) (m ((c : Thread nD τ).loc main_arg4))

theorem idx0 : ∀ t : Fin cfg0.N, win0_0.index t = ![(grid0.coords t 1).val, 0] ∧
    win0_1.index t = ![(grid0.coords t 0).val, 0, 0, 0] ∧ win0_2.index t = ![(grid0.coords t 0).val, 0, 0, 0] ∧
    win0_3.index t = ![(grid0.coords t 0).val, (grid0.coords t 1).val, 0] ∧
    win0_4.index t = ![(grid0.coords t 0).val, (grid0.coords t 1).val, 0] ∧
    win0_5.index t = ![(grid0.coords t 0).val, (grid0.coords t 1).val, 0] := (by decide +kernel : ∀ t : Fin grid0.N, _)

/-! ## The first call: the products with the two input weights, and the hidden units -/

theorem up3 (c : Dev nD) : (dat0 (V0 m ρ) c).arrAt 3 cfg0.N = acts (layer m c).gate := by
  refine (dat0 (V0 m ρ) c).arrAt_eq_of_covers 3 _ (by decide +kernel) fun t _ y => ?_
  blk_simp
  rw [after0_3]
  frame_out
  idx_vars y
  pointwise [k0_pay3, k0_pay1, acts, Layer.gate, layer, Layer.ofArrays]
  blk_point [iblk0, V0, idx0 t]

theorem up4 (c : Dev nD) : (dat0 (V0 m ρ) c).arrAt 4 cfg0.N = acts (layer m c).up := by
  refine (dat0 (V0 m ρ) c).arrAt_eq_of_covers 4 _ (by decide +kernel) fun t _ y => ?_
  blk_simp
  rw [after0_4]
  frame_out
  idx_vars y
  pointwise [k0_pay4, k0_pay2, acts, Layer.up, layer, Layer.ofArrays]
  blk_point [iblk0, V0, idx0 t]

theorem up5 (c : Dev nD) : (dat0 (V0 m ρ) c).arrAt 5 cfg0.N = acts (layer m c).hid := by
  refine (dat0 (V0 m ρ) c).arrAt_eq_of_covers 5 _ (by decide +kernel) fun t _ y => ?_
  blk_simp
  rw [after0_5]
  frame_out
  idx_vars y
  pointwise [k0_pay5, k0_pay1, k0_pay2, acts, Layer.hid, Layer.gate, Layer.up, layer, Layer.ofArrays]
  blk_point [iblk0, V0, idx0 t]

end Cert.FfnZeroIdeal.Whole

end
-- ==== Proof.FfnZeroCalls.lean ====
/-
  What the second and the third call of the feed-forward program of the first layer leave in their arrays, whatever the arrays they read
  hold.
-/
module

public import proofs.«01_k».proof.Proof.FfnZeroActs
public import proofs.«01_k».proof.Proof.Swiglu
public import Idealize.ShloMosaic.Lib.Pipeline.ValueKit
public import Idealize.ShloMosaic.Lib.Claim

@[expose] public section

set_option maxRecDepth 16384
noncomputable section

namespace Cert.FfnZeroIdeal.Whole

open Cert.FfnZeroIdeal Cert.FfnZeroIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The second call: the derivative at the two products with the input weights -/

theorem idx1 : ∀ t : Fin cfg1.N, win1_0.index t = ![(grid1.coords t 1).val, 0] ∧
    win1_1.index t = ![(grid1.coords t 0).val, 0, 0, 0] ∧
    win1_2.index t = ![(grid1.coords t 0).val, (grid1.coords t 1).val, 0] ∧
    win1_3.index t = ![(grid1.coords t 0).val, (grid1.coords t 1).val, 0] ∧
    win1_4.index t = ![(grid1.coords t 0).val, (grid1.coords t 1).val, 0] ∧
    win1_5.index t = ![(grid1.coords t 0).val, (grid1.coords t 1).val, 0] := (by decide +kernel : ∀ t : Fin grid1.N, _)

/-- The derivative at the hidden units. -/
def dhid (dy : FVec Ideal S4096x1024 .bf16) (wd : FVec Ideal S4x4x704x1024 .bf16) (k : Fin 4) (i : Fin 4096) (f : Fin 704) :
    EReal := ∑ d : Fin 1024, dy (ix2 i d) * wd (ix4 k 0 f d)

theorem dact4 (c : Dev nD) : (dat1 V c).arrAt 4 cfg1.N
    = acts fun k i f => stepGate (V c main_v0_0 (ix3 k i f)) (V c main_v0_1 (ix3 k i f)) (dhid (V c main_arg4) (V c main_arg3) k i f) := by
  refine (dat1 V c).arrAt_eq_of_covers 4 _ (by decide +kernel) fun t _ y => ?_
  blk_simp
  rw [after1_4]
  frame_out
  idx_vars y
  pointwise [k1_pay4, k1_pay3, k1_pay2, k1_pay1, acts, stepGate, dhid]
  blk_point [iblk1, idx1 t]

theorem dact5 (c : Dev nD) : (dat1 V c).arrAt 5 cfg1.N
    = acts fun k i f => stepUp (V c main_v0_0 (ix3 k i f)) (dhid (V c main_arg4) (V c main_arg3) k i f) := by
  refine (dat1 V c).arrAt_eq_of_covers 5 _ (by decide +kernel) fun t _ y => ?_
  blk_simp
  rw [after1_5]
  frame_out
  idx_vars y
  pointwise [k1_pay5, k1_pay3, k1_pay2, k1_pay1, acts, stepUp, dhid]
  blk_point [iblk1, idx1 t]

/-! ## The third call: the derivative at the layer's input -/

theorem idx2 : ∀ t : Fin cfg2.N, win2_0.index t = ![0, (grid2.coords t 0).val, 0] ∧
    win2_1.index t = ![0, (grid2.coords t 0).val, 0] ∧ win2_2.index t = ![0, 0, 0, 0] ∧ win2_3.index t = ![0, 0, 0, 0] ∧
    win2_4.index t = ![(grid2.coords t 0).val, 0] := (by decide +kernel : ∀ t : Fin grid2.N, _)

/-- The derivative at the layer's input, one part after another. -/
def dxSum (da du : FVec Ideal S4x4096x704 .bf16) (wg wu : FVec Ideal S4x4x704x1024 .bf16) (i : Fin 4096) (d : Fin 1024) :
    EReal := ∑ k : Fin 4, ((∑ f : Fin 704, da (ix3 k i f) * wg (ix4 k 0 f d)) + ∑ f : Fin 704, du (ix3 k i f) * wu (ix4 k 0 f d))

theorem dx4 (c : Dev nD) : (dat2 V c).arrAt 4 cfg2.N = (fun j => dxSum (V c main_v1_0) (V c main_v1_1) (V c main_arg1) (V c main_arg2) (j 0) (j 1) : FVec Ideal S4096x1024 .f32) := by
  refine (dat2 V c).arrAt_eq_of_covers 4 _ (by decide +kernel) fun t _ y => ?_
  blk_simp
  rw [after2_4]
  frame_out
  idx_vars y
  pointwise [k2_pay1, k2_pay2, dxSum, Fin.sum_univ_four]
  blk_point [iblk2, idx2 t]

end Cert.FfnZeroIdeal.Whole

end
-- ==== Proof.FfnZeroGrads.lean ====
/-
  What the last two calls of the feed-forward program of the first layer leave in their arrays, whatever the arrays they read
  hold.
-/
module

public import proofs.«01_k».proof.Proof.Gen.FfnZeroIdeal.Frame
public import proofs.«01_k».proof.Proof.Swiglu
public import Idealize.ShloMosaic.Lib.Pipeline.ValueKit
public import Idealize.ShloMosaic.Lib.Claim

@[expose] public section

set_option maxRecDepth 16384
noncomputable section

namespace Cert.FfnZeroIdeal.Whole

open Cert.FfnZeroIdeal Cert.FfnZeroIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The fourth call: the derivatives at the two input weights -/

theorem idx3 : ∀ t : Fin cfg3.N, win3_0.index t = ![0, 0] ∧ win3_1.index t = ![(grid3.coords t 0).val, 0, 0] ∧
    win3_2.index t = ![(grid3.coords t 0).val, 0, 0] ∧ win3_3.index t = ![(grid3.coords t 0).val, 0, 0, 0] ∧
    win3_4.index t = ![(grid3.coords t 0).val, 0, 0, 0] := (by decide +kernel : ∀ t : Fin grid3.N, _)

/-- The derivative at one weight: over the rows, the derivative at the product times what the weight met. -/
def weightSum (a : FVec Ideal S4x4096x704 .bf16) (x : FVec Ideal S4096x1024 .bf16) (k : Fin 4) (f : Fin 704) (d : Fin 1024) :
    EReal := ∑ i : Fin 4096, a (ix3 k i f) * x (ix2 i d)

/-- The same of two blocks the call reads. -/
def blockSum (a : Vec Ideal S1x4096x704 .bf16) (x : Vec Ideal S4096x1024 .bf16) (f : Fin 704) (d : Fin 1024) : EReal :=
  ∑ i : Fin 4096, (a : FVec Ideal S1x4096x704 .bf16) (ix3 0 i f) * (x : FVec Ideal S4096x1024 .bf16) (ix2 i d)

theorem dwin3_point (c : Dev nD) (t : Fin cfg3.N) (y : S1x1x704x1024.Idx) :
    (outsAt3 V c t).1 y = blockSum (iblk3 V c 1 t) (iblk3 V c 0 t) (y 2) (y 3) := by
  dsimp only [outsAt3, out3_A_3]
  frame_out
  canon_tiles x h
  all_goals (open_payloads; pointwise [blockSum]; blk_point [])

theorem dwin4_point (c : Dev nD) (t : Fin cfg3.N) (y : S1x1x704x1024.Idx) :
    (outsAt3 V c t).2 y = blockSum (iblk3 V c 2 t) (iblk3 V c 0 t) (y 2) (y 3) := by
  dsimp only [outsAt3, out3_A_4]
  frame_out
  canon_tiles x h
  all_goals (open_payloads; pointwise [blockSum]; blk_point [])

theorem dwin3 (c : Dev nD) : (dat3 V c).arrAt 3 cfg3.N
    = (fun j => if (j 1 : ℕ) = 0 then weightSum (V c main_v1_0) (V c main_arg0) (j 0) (j 2) (j 3) else V c main_v3_0 j
        : FVec Ideal S4x4x704x1024 .f32) := by
  refine (dat3 V c).arrAt_eq_of_coversWhere 3 _ (fun β => (β 1 : ℕ) = 0) (by decide +kernel) (fun t hf y => ?_)
    (fun j => by blk_simp [Pipeline.Window.cell_apply]; omega)
  blk_simp
  rw [after3_3]
  refine (dwin3_point V c t y).trans ?_
  idx_vars y
  pointwise [blockSum, weightSum]
  blk_point [iblk3, idx3 t]

theorem dwin4 (c : Dev nD) : (dat3 V c).arrAt 4 cfg3.N
    = (fun j => if (j 1 : ℕ) = 0 then weightSum (V c main_v1_1) (V c main_arg0) (j 0) (j 2) (j 3) else V c main_v3_1 j
        : FVec Ideal S4x4x704x1024 .f32) := by
  refine (dat3 V c).arrAt_eq_of_coversWhere 4 _ (fun β => (β 1 : ℕ) = 0) (by decide +kernel) (fun t hf y => ?_)
    (fun j => by blk_simp [Pipeline.Window.cell_apply]; omega)
  blk_simp
  rw [after3_4]
  refine (dwin4_point V c t y).trans ?_
  idx_vars y
  pointwise [blockSum, weightSum]
  blk_point [iblk3, idx3 t]

/-! ## The fifth call: the derivative at the output weight -/

theorem idx4 : ∀ t : Fin cfg4.N, win4_0.index t = ![(grid4.coords t 0).val, 0, 0] ∧ win4_1.index t = ![0, 0] ∧
    win4_2.index t = ![(grid4.coords t 0).val, 0, 0, 0] := (by decide +kernel : ∀ t : Fin grid4.N, _)

theorem dwd2_point (c : Dev nD) (t : Fin cfg4.N) (y : S1x1x704x1024.Idx) :
    (outsAt4 V c t) y = blockSum (iblk4 V c 0 t) (iblk4 V c 1 t) (y 2) (y 3) := by
  dsimp only [outsAt4, out4_A_2]
  frame_out
  canon_tiles x h
  all_goals (open_payloads; pointwise [blockSum]; blk_point [])

theorem dwd2 (c : Dev nD) : (dat4 V c).arrAt 2 cfg4.N
    = (fun j => if (j 1 : ℕ) = 0 then weightSum (V c main_v0_2) (V c main_arg4) (j 0) (j 2) (j 3) else V c main_v4 j
        : FVec Ideal S4x4x704x1024 .f32) := by
  refine (dat4 V c).arrAt_eq_of_coversWhere 2 _ (fun β => (β 1 : ℕ) = 0) (by decide +kernel) (fun t hf y => ?_)
    (fun j => by blk_simp [Pipeline.Window.cell_apply]; omega)
  blk_simp
  rw [after4_2]
  refine (dwd2_point V c t y).trans ?_
  idx_vars y
  pointwise [blockSum, weightSum]
  blk_point [iblk4, idx4 t]

end Cert.FfnZeroIdeal.Whole

end
-- ==== Proof.FfnZeroResults.lean ====
/-
  What the feed-forward program of the first layer leaves in its results: the derivatives of the layer it is given.
-/
module

public import proofs.«01_k».proof.Proof.FfnZeroRun
public import proofs.«01_k».proof.Proof.FfnZeroValue
public import proofs.«01_k».proof.Proof.FfnZeroCalls
public import proofs.«01_k».proof.Proof.FfnZeroGrads

@[expose] public section

set_option maxRecDepth 16384
noncomputable section

namespace Cert.FfnZeroIdeal.Whole

open Cert.FfnZeroIdeal Cert.FfnZeroIdeal.Gen Idealize.ShloMosaic Idealize.ShloMosaic.TcCoe Cert.Swiglu

variable (m : (ℓ : Loc nD τ sig) → Buf (Elt Ideal) ℓ) (ρ : Dev nD → PrngReg) (c : Dev nD)

/-! ## Between the calls -/

theorem gate1 : V1 m ρ c main_v0_0 = acts (layer m c).gate := (W1_arr m ρ c 3).trans (up3 m ρ c)
theorem up1 : V1 m ρ c main_v0_1 = acts (layer m c).up := (W1_arr m ρ c 4).trans (up4 m ρ c)
theorem hid1 : V1 m ρ c main_v0_2 = acts (layer m c).hid := (W1_arr m ρ c 5).trans (up5 m ρ c)
theorem wd1 : V1 m ρ c main_arg3 = m ((c : Thread nD τ).loc main_arg3) := W1_args m ρ c main_arg3 (by decide)
theorem dy1 : V1 m ρ c main_arg4 = m ((c : Thread nD τ).loc main_arg4) := W1_args m ρ c main_arg4 (by decide)

theorem dgate2 : V2 m ρ c main_v1_0 = acts (layer m c).dGate :=
  (W2_arr m ρ c 4).trans ((dact4 (V1 m ρ) c).trans (by rw [gate1, up1, wd1, dy1]; rfl))
theorem dup2 : V2 m ρ c main_v1_1 = acts (layer m c).dUp :=
  (W2_arr m ρ c 5).trans ((dact5 (V1 m ρ) c).trans (by rw [gate1, wd1, dy1]; rfl))
theorem wg2 : V2 m ρ c main_arg1 = m ((c : Thread nD τ).loc main_arg1) := W2_args m ρ c main_arg1 (by decide)
theorem wu2 : V2 m ρ c main_arg2 = m ((c : Thread nD τ).loc main_arg2) := W2_args m ρ c main_arg2 (by decide)

theorem dx3 : W3 m ρ c (Proc.devRef .tc main_v2) = arrRows (layer m c).gradX :=
  (W3_arr m ρ c 4).trans ((dx4 (V2 m ρ) c).trans (by rw [dgate2, dup2, wg2, wu2]; rfl))

theorem dgate4 : V4 m ρ c main_v1_0 = acts (layer m c).dGate :=
  (W4_of m ρ c main_v1_0 (by decide)).trans ((W3_of m ρ c main_v1_0 (by decide)).trans (dgate2 m ρ c))
theorem dup4 : V4 m ρ c main_v1_1 = acts (layer m c).dUp :=
  (W4_of m ρ c main_v1_1 (by decide)).trans ((W3_of m ρ c main_v1_1 (by decide)).trans (dup2 m ρ c))
theorem x4 : V4 m ρ c main_arg0 = m ((c : Thread nD τ).loc main_arg0) := W4_args m ρ c main_arg0 (by decide)
theorem oldg4 : V4 m ρ c main_v3_0 = m ((c : Thread nD τ).loc main_arg5) := by
  refine Eq.trans ?_ (W3_args m ρ c main_arg5 (by decide))
  show W4 m ρ c _ = _
  unfold W4
  after_results
  rfl
theorem oldu4 : V4 m ρ c main_v3_1 = m ((c : Thread nD τ).loc main_arg6) := by
  refine Eq.trans ?_ (W3_args m ρ c main_arg6 (by decide))
  show W4 m ρ c _ = _
  unfold W4
  after_results
  rfl

theorem hid6 : V6 m ρ c main_v0_2 = acts (layer m c).hid :=
  (W6_of m ρ c main_v0_2 (by decide)).trans ((W5_of m ρ c main_v0_2 (by decide)).trans
    ((W4_of m ρ c main_v0_2 (by decide)).trans ((W3_of m ρ c main_v0_2 (by decide)).trans
      ((W2_of m ρ c main_v0_2 (by decide)).trans (hid1 m ρ c)))))
theorem dy6 : V6 m ρ c main_arg4 = m ((c : Thread nD τ).loc main_arg4) := W6_args m ρ c main_arg4 (by decide)
theorem oldd6 : V6 m ρ c main_v4 = m ((c : Thread nD τ).loc main_arg7) := by
  refine Eq.trans ?_ (W5_args m ρ c main_arg7 (by decide))
  show W6 m ρ c _ = _
  unfold W6
  after_results
  rfl

/-! ## At the end -/

theorem out_x : W7 m ρ c (Proc.devRef .tc main_v2) = arrRows (layer m c).gradX :=
  (W7_of m ρ c main_v2 (by decide)).trans ((W6_of m ρ c main_v2 (by decide)).trans
    ((W5_of m ρ c main_v2 (by decide)).trans ((W4_of m ρ c main_v2 (by decide)).trans (dx3 m ρ c))))

theorem out_wg : W7 m ρ c (Proc.devRef .tc main_v3_0)
    = arrStack 0 (layer m c).gradWg (m ((c : Thread nD τ).loc main_arg5)) :=
  (W7_of m ρ c main_v3_0 (by decide)).trans ((W6_of m ρ c main_v3_0 (by decide)).trans
    ((W5_arr m ρ c 3).trans ((dwin3 (V4 m ρ) c).trans (by rw [dgate4, x4, oldg4]; rfl))))

theorem out_wu : W7 m ρ c (Proc.devRef .tc main_v3_1)
    = arrStack 0 (layer m c).gradWu (m ((c : Thread nD τ).loc main_arg6)) :=
  (W7_of m ρ c main_v3_1 (by decide)).trans ((W6_of m ρ c main_v3_1 (by decide)).trans
    ((W5_arr m ρ c 4).trans ((dwin4 (V4 m ρ) c).trans (by rw [dup4, x4, oldu4]; rfl))))

theorem out_wd : W7 m ρ c (Proc.devRef .tc main_v4)
    = arrStack 0 (layer m c).gradWd (m ((c : Thread nD τ).loc main_arg7)) :=
  (W7_arr m ρ c 2).trans ((dwd2 (V6 m ρ) c).trans (by rw [hid6, dy6, oldd6]; rfl))

end Cert.FfnZeroIdeal.Whole

end
-- ==== Proof.FfnZeroStages.lean ====
/-
  The operations of the feed-forward reference of the first layer, named, and read at an index. Its 2816 hidden units are the four parts of
  704 one after another.
-/
module

public import proofs.«01_k».proof.Proof.Gen.FfnZeroReferenceIdeal.Run
public import proofs.«01_k».proof.Proof.Swiglu
public import Idealize.ShloMosaic.Lib.Claim

@[expose] public section

set_option maxRecDepth 16384
noncomputable section

namespace Cert.FfnZeroReferenceIdeal.Stage

open Cert.FfnZeroReferenceIdeal Cert.FfnZeroReferenceIdeal.Gen Idealize.ShloMosaic Idealize.ShloMosaic.TcCoe Cert.Swiglu

section
variable (x : FVec Ideal S4096x1024 .bf16) (wg wu wd w : FVec Ideal S4x4x704x1024 .bf16) (dy : FVec Ideal S4096x1024 .bf16)

/-- The first layer of a stack of weights, a row for each hidden unit. -/
def flat : FVec Ideal S2816x1024 .f32 :=
  extf .f32 (shapeCast _ (shapeCast _ (extractStridedSlice S4x1x704x1024 ![0, 0, 0, 0] w slices_S4x4x704x1024_S4x1x704x1024_0_0_0_0) shapeCasts_S4x1x704x1024_S4x704x1024) shapeCasts_S4x704x1024_S2816x1024) bitsLt_bf16_f32

def turned : FVec Ideal S1024x2816 .f32 := transpose S1024x2816 [1, 0] (flat w) transposes_S2816x1024_S1024x2816_1_0

/-- The product with an input weight. -/
def act : FVec Ideal S4096x2816 .f32 :=
  Host.dotGeneral dot_S4096x1024_S1024x2816_S4096x2816_1_0_0_1_n_n none (extf .f32 x bitsLt_bf16_f32) (turned w)

def one : FVec Ideal S4096x2816 .f32 := broadcastInDim S4096x2816 ![] bcast_S_S4096x2816 (constant S_ .f32 0x3F800000#32)

def opening : FVec Ideal S4096x2816 .f32 := Host.divf one (addf one (Host.exp (Host.negf (act x wg))))

/-- The derivative at the hidden units, and at the two products. -/
def dHid : FVec Ideal S4096x2816 .f32 :=
  Host.dotGeneral dot_S4096x1024_S2816x1024_S4096x2816_1_1_0_0_n_n none (extf .f32 dy bitsLt_bf16_f32) (flat wd)

def dUp : FVec Ideal S4096x2816 .f32 := mulf (mulf (act x wg) (opening x wg)) (dHid wd dy)

def dGate : FVec Ideal S4096x2816 .f32 :=
  addf (mulf (mulf (dHid wd dy) (act x wu)) (opening x wg))
    (mulf (mulf (act x wg) (mulf (dHid wd dy) (act x wu))) (mulf (opening x wg) (subf one (opening x wg))))

def hid : FVec Ideal S4096x2816 .f32 := mulf (mulf (act x wg) (opening x wg)) (act x wu)

/-- The derivative at the input and at the weights. -/
def gradX : FVec Ideal S4096x1024 .f32 :=
  addf (Host.dotGeneral dot_S4096x2816_S1024x2816_S4096x1024_1_1_0_0_n_n none (dUp x wg wd dy) (turned wu))
    (Host.dotGeneral dot_S4096x2816_S1024x2816_S4096x1024_1_1_0_0_n_n none (dGate x wg wu wd dy) (turned wg))

def gradIn (d : FVec Ideal S4096x2816 .f32) : FVec Ideal S1024x2816 .f32 :=
  transpose S1024x2816 [1, 0] (Host.dotGeneral dot_S4096x2816_S4096x1024_S2816x1024_0_0_1_1_n_n none d (extf .f32 x bitsLt_bf16_f32)) transposes_S2816x1024_S1024x2816_1_0

def gradOut : FVec Ideal S1024x2816 .f32 :=
  Host.dotGeneral dot_S4096x1024_S4096x2816_S1024x2816_0_0_1_1_n_n none (extf .f32 dy bitsLt_bf16_f32) (hid x wg wu)

/-- A stack of gradients with its first layer replaced. -/
def put (g : FVec Ideal S1024x2816 .f32) (old : FVec Ideal S4x4x704x1024 .f32) : FVec Ideal S4x4x704x1024 .f32 :=
  concatenate S4x4x704x1024 1 [⟨S4x1x704x1024, shapeCast _ (transpose S2816x1024 [1, 0] g transposes_S1024x2816_S2816x1024_1_0) shapeCasts_S2816x1024_S4x1x704x1024⟩, ⟨S4x3x704x1024, extractStridedSlice S4x3x704x1024 ![0, 1, 0, 0] old slices_S4x4x704x1024_S4x3x704x1024_0_1_0_0⟩] concatenates_S4x1x704x1024_S4x3x704x1024_S4x4x704x1024_d1

end

section
variable (m : (ℓ : Loc nD τ sig) → Buf (Elt Ideal) ℓ) (c : Dev nD)

/-- The arguments. -/
def ax : FVec Ideal S4096x1024 .bf16 := m ((c.tc : Thread nD τ).loc main_arg0)
def awg : FVec Ideal S4x4x704x1024 .bf16 := m ((c.tc : Thread nD τ).loc main_arg1)
def awu : FVec Ideal S4x4x704x1024 .bf16 := m ((c.tc : Thread nD τ).loc main_arg2)
def awd : FVec Ideal S4x4x704x1024 .bf16 := m ((c.tc : Thread nD τ).loc main_arg3)
def ady : FVec Ideal S4096x1024 .bf16 := m ((c.tc : Thread nD τ).loc main_arg4)

theorem out0 : Value.res_main_v34 m c = gradX (ax m c) (awg m c) (awu m c) (awd m c) (ady m c) := rfl

theorem out1 : Value.res_main_v38 m c
    = put (gradIn (ax m c) (dGate (ax m c) (awg m c) (awu m c) (awd m c) (ady m c))) (m ((c.tc : Thread nD τ).loc main_arg5)) := rfl

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v34) = gradX (ax m c) (awg m c) (awu m c) (awd m c) (ady m c)
    ∧ r.2.mem ((c.tc : Thread nD τ).loc main_v38)
      = put (gradIn (ax m c) (dGate (ax m c) (awg m c) (awu m c) (awd m c) (ady m c))) (m ((c.tc : Thread nD τ).loc main_arg5))
    ∧ r.2.mem ((c.tc : Thread nD τ).loc main_v41)
      = put (gradIn (ax m c) (dUp (ax m c) (awg m c) (awd m c) (ady m c))) (m ((c.tc : Thread nD τ).loc main_arg6))
    ∧ r.2.mem ((c.tc : Thread nD τ).loc main_v44)
      = put (gradOut (ax m c) (awg m c) (awu m c) (ady m c)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => by
    obtain ⟨h0, h1, h2, h3, ha⟩ := h c
    exact ⟨h0.trans (out0 m c), h1.trans (out1 m c), h2, h3, ha⟩) (Value.run (F := Ideal) m ρ)

end

end Cert.FfnZeroReferenceIdeal.Stage

end
-- ==== Proof.FfnZeroStagesAt.lean ====
/-
  The operations of the feed-forward reference of the first layer read at an index: they are the layer's formulas.
-/
module

public import proofs.«01_k».proof.Proof.FfnZeroStages

@[expose] public section

set_option maxRecDepth 16384
noncomputable section

namespace Cert.FfnZeroReferenceIdeal.Stage

open Cert.FfnZeroReferenceIdeal Cert.FfnZeroReferenceIdeal.Gen Idealize.ShloMosaic Idealize.ShloMosaic.TcCoe Cert.Swiglu

/-- Unit `f` of part `k` among all. -/
def unit (k : Fin 4) (f : Fin 704) : Fin 2816 := ⟨704 * k + f, by omega⟩

theorem sum_units (F : Fin 2816 → EReal) : ∑ x, F x = ∑ k, ∑ f, F (unit k f) := by
  rw [← Fintype.sum_prod_type' (fun k f => F (unit k f))]
  refine (Fintype.sum_equiv (finProdFinEquiv (m := 4) (n := 704)) _ _ fun p => congrArg F (Fin.ext ?_)).symm
  simp only [unit, finProdFinEquiv_apply_val]
  omega

section
variable (x : FVec Ideal S4096x1024 .bf16) (wg wu wd w : FVec Ideal S4x4x704x1024 .bf16) (dy : FVec Ideal S4096x1024 .bf16)

/-- The layer given. -/
abbrev lay : Layer := Layer.ofArrays 0 x wg wu wd dy

theorem flat_at (k : Fin 4) (f : Fin 704) (d : Fin 1024) : flat w (ix2 (unit k f) d) = w (ix4 k 0 f d) := by
  pointwise [flat]
  refine congrArg w ?_
  congr 1 <;> (apply Fin.ext; simp only [unit]; omega)

theorem turned_at (k : Fin 4) (f : Fin 704) (d : Fin 1024) : turned w (ix2 d (unit k f)) = w (ix4 k 0 f d) := by
  pointwise [turned]
  exact flat_at w k f d

theorem act_at (k : Fin 4) (i : Fin 4096) (f : Fin 704) : act x w (ix2 i (unit k f)) = ∑ d, x (ix2 i d) * w (ix4 k 0 f d) := by
  pointwise [act]
  simp only [turned_at]

theorem opening_at (k : Fin 4) (i : Fin 4096) (f : Fin 704) :
    opening x wg (ix2 i (unit k f)) = Ideal.logistic ((lay x wg wu wd dy).gate k i f) := by
  pointwise [opening, one]
  rw [act_at]
  rfl

theorem dHid_at (k : Fin 4) (i : Fin 4096) (f : Fin 704) :
    dHid wd dy (ix2 i (unit k f)) = (lay x wg wu wd dy).dHid k i f := by
  pointwise [dHid]
  simp only [flat_at]
  rfl

theorem dUp_at (k : Fin 4) (i : Fin 4096) (f : Fin 704) :
    dUp x wg wd dy (ix2 i (unit k f)) = (lay x wg wu wd dy).dUp k i f := by
  pointwise [dUp]
  rw [act_at, opening_at x wg wu wd dy, dHid_at x wg wu wd dy]
  rfl

theorem dGate_at (k : Fin 4) (i : Fin 4096) (f : Fin 704) :
    dGate x wg wu wd dy (ix2 i (unit k f)) = (lay x wg wu wd dy).dGate k i f := by
  pointwise [dGate, one]
  rw [act_at, act_at, opening_at x wg wu wd dy, dHid_at x wg wu wd dy]
  rfl

theorem hid_at (k : Fin 4) (i : Fin 4096) (f : Fin 704) :
    hid x wg wu (ix2 i (unit k f)) = (lay x wg wu wd dy).hid k i f := by
  pointwise [hid]
  rw [act_at, act_at, opening_at x wg wu wd dy]
  rfl

theorem gradX_eq : gradX x wg wu wd dy = arrRows (lay x wg wu wd dy).gradX := by
  funext j
  idx_vars j
  pointwise [gradX, arrRows]
  simp only [sum_units, turned_at, dUp_at x wg wu wd dy, dGate_at x wg wu wd dy]
  rw [add_comm, ← Finset.sum_add_distrib]
  rfl

theorem gradWg_at (k : Fin 4) (f : Fin 704) (d : Fin 1024) :
    gradIn x (dGate x wg wu wd dy) (ix2 d (unit k f)) = (lay x wg wu wd dy).gradWg k f d := by
  pointwise [gradIn]
  simp only [dGate_at x wg wu wd dy]
  rfl

theorem gradWu_at (k : Fin 4) (f : Fin 704) (d : Fin 1024) :
    gradIn x (dUp x wg wd dy) (ix2 d (unit k f)) = (lay x wg wu wd dy).gradWu k f d := by
  pointwise [gradIn]
  simp only [dUp_at x wg wu wd dy]
  rfl

theorem gradWd_at (k : Fin 4) (f : Fin 704) (d : Fin 1024) :
    gradOut x wg wu dy (ix2 d (unit k f)) = (lay x wg wu wd dy).gradWd k f d := by
  pointwise [gradOut]
  simp only [hid_at x wg wu wd dy]
  exact Finset.sum_congr rfl fun i _ => mul_comm _ _

end

/-- The stack with the first layer replaced, by its entries. -/
theorem put_eq (g : FVec Ideal S1024x2816 .f32) (old : FVec Ideal S4x4x704x1024 .f32) (G : Fin 4 → Fin 704 → Fin 1024 → EReal)
    (h : ∀ k f d, g (ix2 d (unit k f)) = G k f d) : put g old = arrStack 0 G old := by
  funext j
  idx_vars j
  pointwise [put, arrStack]
  rw [← h j0 j2 j3]
  have hu : (⟨(j0 : ℕ) * 704 + j2, by omega⟩ : Fin 2816) = unit j0 j2 := Fin.ext (by simp only [unit]; omega)
  split
  · exact (congrArg (fun b => g (ix2 j3 b)) hu).trans (if_pos (c := (j1 : ℕ) = 0) (by omega)).symm
  · exact (congrArg (fun b => old (ix4 j0 b j2 j3)) (Fin.ext (by show 1 + ((j1 : ℕ) - 1) = j1; omega))).trans
      (if_neg (c := (j1 : ℕ) = 0) (by omega)).symm

end Cert.FfnZeroReferenceIdeal.Stage

end
-- ==== Proof.FfnZero.lean ====
/-
  The five claims about the first feed-forward layer: the three frames, the ledger, and the equation of the kernel with the
  reference.
-/
module

public import proofs.«01_k».proof.Defs
public import proofs.«01_k».proof.Proof.Gen.FfnZero.Frame
public import proofs.«01_k».proof.Proof.FfnZeroResults
public import proofs.«01_k».proof.Proof.FfnZeroStagesAt

@[expose] public section

noncomputable section

namespace Cert.FfnZeroClaims

open Idealize.ShloMosaic Idealize.ShloMosaic.TcCoe Idealize.SL.Sem Cert.Swiglu

theorem frame_p : Cert.quiescent_FfnZero := fun m ρ _ => Cert.FfnZero.Gen.frame m ρ

theorem frame_pi : Cert.quiescent_FfnZeroIdeal := fun m ρ _ => Cert.FfnZeroIdeal.Gen.frame m ρ

theorem frame_ri : Cert.quiescent_FfnZeroReferenceIdeal := fun m ρ _ =>
  (θ_run Cert.FfnZeroReferenceIdeal.defs _ _).mono
    (fun r h => ⟨fun c => (h c).2.2.2.2, sem_eq_zero_of_no_sems (by decide) r.2⟩)
    (Cert.FfnZeroReferenceIdeal.Value.run (F := Ideal) m ρ)

theorem preserves : Cert.preserves_FfnZero_FfnZeroIdeal := trivial

section
open Cert.FfnZeroIdeal Cert.FfnZeroIdeal.Whole

theorem algebraic : Cert.algebraic_FfnZeroIdeal_FfnZeroReferenceIdeal := by
  intro m ρ m' ρ' _ hag
  have e : ∀ c : Dev nD, Layer.ofArrays 0 (Cert.FfnZeroReferenceIdeal.Stage.ax m' c) (Cert.FfnZeroReferenceIdeal.Stage.awg m' c)
      (Cert.FfnZeroReferenceIdeal.Stage.awu m' c) (Cert.FfnZeroReferenceIdeal.Stage.awd m' c) (Cert.FfnZeroReferenceIdeal.Stage.ady m' c)
        = layer m c := fun c => by
    obtain ⟨h0, h1, h2, h3, h4, -, -, -⟩ := hag c
    simp only [Cert.FfnZeroReferenceIdeal.Stage.ax, Cert.FfnZeroReferenceIdeal.Stage.awg, Cert.FfnZeroReferenceIdeal.Stage.awu,
      Cert.FfnZeroReferenceIdeal.Stage.awd, Cert.FfnZeroReferenceIdeal.Stage.ady, layer]
    rw [h0, h1, h2, h3, h4]
  refine ⟨fun c => arrRows (layer m c).gradX,
    fun c => arrStack 0 (layer m c).gradWg (m ((c.tc : Thread nD τ).loc main_arg5)),
    fun c => arrStack 0 (layer m c).gradWu (m ((c.tc : Thread nD τ).loc main_arg6)),
    fun c => arrStack 0 (layer m c).gradWd (m ((c.tc : Thread nD τ).loc main_arg7)), ?_, ?_⟩
  · refine (θ_run defs _ _).mono (fun r h c => ?_) (run m ρ)
    exact ⟨(h c main_v2 (by decide)).trans (out_x m ρ c), (h c main_v3_0 (by decide)).trans (out_wg m ρ c),
      (h c main_v3_1 (by decide)).trans (out_wu m ρ c), (h c main_v4 (by decide)).trans (out_wd m ρ c),
      (h c main_arg0 (by decide)).trans (Gen.W7_main_arg0 m ρ c), (h c main_arg1 (by decide)).trans (Gen.W7_main_arg1 m ρ c),
      (h c main_arg2 (by decide)).trans (Gen.W7_main_arg2 m ρ c), (h c main_arg3 (by decide)).trans (Gen.W7_main_arg3 m ρ c),
      (h c main_arg4 (by decide)).trans (Gen.W7_main_arg4 m ρ c), (h c main_arg5 (by decide)).trans (Gen.W7_main_arg5 m ρ c),
      (h c main_arg6 (by decide)).trans (Gen.W7_main_arg6 m ρ c), (h c main_arg7 (by decide)).trans (Gen.W7_main_arg7 m ρ c)⟩
  · refine (θ_run Cert.FfnZeroReferenceIdeal.defs _ _).mono (fun r h c => ?_) (Cert.FfnZeroReferenceIdeal.Stage.run m' ρ')
    obtain ⟨h0, h1, h2, h3, ha⟩ := h c
    obtain ⟨-, -, -, -, -, h5, h6, h7⟩ := hag c
    refine ⟨h0.trans ?_, h1.trans ?_, h2.trans ?_, h3.trans ?_, ha⟩
    · rw [Cert.FfnZeroReferenceIdeal.Stage.gradX_eq]
      exact congrArg (fun L => arrRows (Layer.gradX L)) (e c)
    · rw [h5, Cert.FfnZeroReferenceIdeal.Stage.put_eq _ _ _ (Cert.FfnZeroReferenceIdeal.Stage.gradWg_at _ _ _ _ _)]
      exact congrArg (fun L => arrStack 0 (Layer.gradWg L) _) (e c)
    · rw [h6, Cert.FfnZeroReferenceIdeal.Stage.put_eq _ _ _ (Cert.FfnZeroReferenceIdeal.Stage.gradWu_at _ _ (Cert.FfnZeroReferenceIdeal.Stage.awu m' c) _ _)]
      exact congrArg (fun L => arrStack 0 (Layer.gradWu L) _) (e c)
    · rw [h7, Cert.FfnZeroReferenceIdeal.Stage.put_eq _ _ _ (Cert.FfnZeroReferenceIdeal.Stage.gradWd_at _ _ _ (Cert.FfnZeroReferenceIdeal.Stage.awd m' c) _)]
      exact congrArg (fun L => arrStack 0 (Layer.gradWd L) _) (e c)

end

end Cert.FfnZeroClaims

end
-- ==== Proof.FfnThreeRun.lean ====
/-
  The feed-forward program runs to its end: what every buffer of a core holds there. Its five calls run one after the
  other, and the contents after the last of them are the fold of the five over the launch contents.
-/
module

public import proofs.«01_k».proof.Proof.Gen.FfnThreeIdeal.Frame
public import Idealize.ShloMosaic.Lib.Pointwise

@[expose] public section

noncomputable section

namespace Cert.FfnThreeIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.FfnThreeIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the five calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W6 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W6 m ρ c b) (fun c s => ?_)
    (fun s h _ c b hb => h c _ (mem_uc b hb))
  · simp only [segs, Seg.pipes_host, Seg.pipes_region, Seg.pipes_nil]
    decide
  · refine ⟨fun _ => .rfl, fun _ => .rfl, fun _ => .rfl, fun _ => .rfl, fun _ => .rfl, fun _ => .rfl, fun c => ?_⟩
    dsimp only [Seg.post, hseg, HostSeg.ofOps]
    iintro ⟨Hbufs, Hprng, Howes⟩
    isplitl [Hbufs Hprng]
    · isplitl [Hbufs] <;> iassumption
    · iexact Howes
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W6 m ρ c) s)
    isplitl [Hbufs] <;> iassumption

end Cert.FfnThreeIdeal.Whole

end
-- ==== Proof.FfnThreeActs.lean ====
/-
  The arrays of hidden units of the feed-forward program of the last layer.
-/
module

public import proofs.«01_k».proof.Proof.Gen.FfnThreeIdeal.Frame
public import Idealize.ShloMosaic.Lib.Pointwise

@[expose] public section

noncomputable section

namespace Cert.FfnThreeIdeal.Whole

open Cert.FfnThreeIdeal Cert.FfnThreeIdeal.Gen Idealize.ShloMosaic Idealize.ShloMosaic.TcCoe

/-- An array of one number per part, row and hidden unit. -/
def acts (g : Fin 4 → Fin 4096 → Fin 704 → EReal) : FVec Ideal S4x4096x704 .bf16 := fun j => g (j 0) (j 1) (j 2)

end Cert.FfnThreeIdeal.Whole

end
-- ==== Proof.FfnThreeValue.lean ====
/-
  What the first call of the feed-forward program of the last layer leaves in its arrays.
-/
module

public import proofs.«01_k».proof.Proof.FfnThreeActs
public import proofs.«01_k».proof.Proof.Swiglu
public import Idealize.ShloMosaic.Lib.Pipeline.ValueKit
public import Idealize.ShloMosaic.Lib.Claim

@[expose] public section

set_option maxRecDepth 16384
noncomputable section

namespace Cert.FfnThreeIdeal.Whole

open Cert.FfnThreeIdeal Cert.FfnThreeIdeal.Gen Idealize.ShloMosaic Idealize.ShloMosaic.TcCoe Cert.Swiglu
open Idealize.ShloMosaic.Pipeline (Dat)

variable (m : (ℓ : Loc nD τ sig) → Buf (Elt Ideal) ℓ) (ρ : Dev nD → PrngReg)

/-- The layer that a core is given: the last of four. -/
def layer (c : Dev nD) : Layer :=
  Layer.ofArrays 3 (m ((c : Thread nD τ).loc main_arg0)) (m ((c : Thread nD τ).loc main_arg1))
    (m ((c : Thread nD τ).loc main_arg2)) (m ((c : Thread nD τ).loc main_arg3)) (m ((c : Thread nD τ).loc main_arg4))

theorem idx0 : ∀ t : Fin cfg0.N, win0_0.index t = ![(grid0.coords t 1).val, 0] ∧
    win0_1.index t = ![(grid0.coords t 0).val, 3, 0, 0] ∧ win0_2.index t = ![(grid0.coords t 0).val, 3, 0, 0] ∧
    win0_3.index t = ![(grid0.coords t 0).val, (grid0.coords t 1).val, 0] ∧
    win0_4.index t = ![(grid0.coords t 0).val, (grid0.coords t 1).val, 0] ∧
    win0_5.index t = ![(grid0.coords t 0).val, (grid0.coords t 1).val, 0] := (by decide +kernel : ∀ t : Fin grid0.N, _)

/-! ## The first call: the products with the two input weights, and the hidden units -/

theorem up3 (c : Dev nD) : (dat0 (V0 m ρ) c).arrAt 3 cfg0.N = acts (layer m c).gate := by
  refine (dat0 (V0 m ρ) c).arrAt_eq_of_covers 3 _ (by decide +kernel) fun t _ y => ?_
  blk_simp
  rw [after0_3]
  frame_out
  idx_vars y
  pointwise [k0_pay3, k0_pay1, acts, Layer.gate, layer, Layer.ofArrays]
  blk_point [iblk0, V0, idx0 t]

theorem up4 (c : Dev nD) : (dat0 (V0 m ρ) c).arrAt 4 cfg0.N = acts (layer m c).up := by
  refine (dat0 (V0 m ρ) c).arrAt_eq_of_covers 4 _ (by decide +kernel) fun t _ y => ?_
  blk_simp
  rw [after0_4]
  frame_out
  idx_vars y
  pointwise [k0_pay4, k0_pay2, acts, Layer.up, layer, Layer.ofArrays]
  blk_point [iblk0, V0, idx0 t]

theorem up5 (c : Dev nD) : (dat0 (V0 m ρ) c).arrAt 5 cfg0.N = acts (layer m c).hid := by
  refine (dat0 (V0 m ρ) c).arrAt_eq_of_covers 5 _ (by decide +kernel) fun t _ y => ?_
  blk_simp
  rw [after0_5]
  frame_out
  idx_vars y
  pointwise [k0_pay5, k0_pay1, k0_pay2, acts, Layer.hid, Layer.gate, Layer.up, layer, Layer.ofArrays]
  blk_point [iblk0, V0, idx0 t]

end Cert.FfnThreeIdeal.Whole

end
-- ==== Proof.FfnThreeCalls.lean ====
/-
  What the second and the third call of the feed-forward program of the last layer leave in their arrays, whatever the arrays they read
  hold.
-/
module

public import proofs.«01_k».proof.Proof.FfnThreeActs
public import proofs.«01_k».proof.Proof.Swiglu
public import Idealize.ShloMosaic.Lib.Pipeline.ValueKit
public import Idealize.ShloMosaic.Lib.Claim

@[expose] public section

set_option maxRecDepth 16384
noncomputable section

namespace Cert.FfnThreeIdeal.Whole

open Cert.FfnThreeIdeal Cert.FfnThreeIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The second call: the derivative at the two products with the input weights -/

theorem idx1 : ∀ t : Fin cfg1.N, win1_0.index t = ![(grid1.coords t 1).val, 0] ∧
    win1_1.index t = ![(grid1.coords t 0).val, 3, 0, 0] ∧
    win1_2.index t = ![(grid1.coords t 0).val, (grid1.coords t 1).val, 0] ∧
    win1_3.index t = ![(grid1.coords t 0).val, (grid1.coords t 1).val, 0] ∧
    win1_4.index t = ![(grid1.coords t 0).val, (grid1.coords t 1).val, 0] ∧
    win1_5.index t = ![(grid1.coords t 0).val, (grid1.coords t 1).val, 0] := (by decide +kernel : ∀ t : Fin grid1.N, _)

/-- The derivative at the hidden units. -/
def dhid (dy : FVec Ideal S4096x1024 .bf16) (wd : FVec Ideal S4x4x704x1024 .bf16) (k : Fin 4) (i : Fin 4096) (f : Fin 704) :
    EReal := ∑ d : Fin 1024, dy (ix2 i d) * wd (ix4 k 3 f d)

theorem dact4 (c : Dev nD) : (dat1 V c).arrAt 4 cfg1.N
    = acts fun k i f => stepGate (V c main_v0_0 (ix3 k i f)) (V c main_v0_1 (ix3 k i f)) (dhid (V c main_arg4) (V c main_arg3) k i f) := by
  refine (dat1 V c).arrAt_eq_of_covers 4 _ (by decide +kernel) fun t _ y => ?_
  blk_simp
  rw [after1_4]
  frame_out
  idx_vars y
  pointwise [k1_pay4, k1_pay3, k1_pay2, k1_pay1, acts, stepGate, dhid]
  blk_point [iblk1, idx1 t]

theorem dact5 (c : Dev nD) : (dat1 V c).arrAt 5 cfg1.N
    = acts fun k i f => stepUp (V c main_v0_0 (ix3 k i f)) (dhid (V c main_arg4) (V c main_arg3) k i f) := by
  refine (dat1 V c).arrAt_eq_of_covers 5 _ (by decide +kernel) fun t _ y => ?_
  blk_simp
  rw [after1_5]
  frame_out
  idx_vars y
  pointwise [k1_pay5, k1_pay3, k1_pay2, k1_pay1, acts, stepUp, dhid]
  blk_point [iblk1, idx1 t]

/-! ## The third call: the derivative at the layer's input -/

theorem idx2 : ∀ t : Fin cfg2.N, win2_0.index t = ![0, (grid2.coords t 0).val, 0] ∧
    win2_1.index t = ![0, (grid2.coords t 0).val, 0] ∧ win2_2.index t = ![0, 3, 0, 0] ∧ win2_3.index t = ![0, 3, 0, 0] ∧
    win2_4.index t = ![(grid2.coords t 0).val, 0] := (by decide +kernel : ∀ t : Fin grid2.N, _)

/-- The derivative at the layer's input, one part after another. -/
def dxSum (da du : FVec Ideal S4x4096x704 .bf16) (wg wu : FVec Ideal S4x4x704x1024 .bf16) (i : Fin 4096) (d : Fin 1024) :
    EReal := ∑ k : Fin 4, ((∑ f : Fin 704, da (ix3 k i f) * wg (ix4 k 3 f d)) + ∑ f : Fin 704, du (ix3 k i f) * wu (ix4 k 3 f d))

theorem dx4 (c : Dev nD) : (dat2 V c).arrAt 4 cfg2.N = (fun j => dxSum (V c main_v1_0) (V c main_v1_1) (V c main_arg1) (V c main_arg2) (j 0) (j 1) : FVec Ideal S4096x1024 .f32) := by
  refine (dat2 V c).arrAt_eq_of_covers 4 _ (by decide +kernel) fun t _ y => ?_
  blk_simp
  rw [after2_4]
  frame_out
  idx_vars y
  pointwise [k2_pay1, k2_pay2, dxSum, Fin.sum_univ_four]
  blk_point [iblk2, idx2 t]

end Cert.FfnThreeIdeal.Whole

end
-- ==== Proof.FfnThreeGrads.lean ====
/-
  What the last two calls of the feed-forward program of the last layer leave in their arrays, whatever the arrays they read
  hold.
-/
module

public import proofs.«01_k».proof.Proof.Gen.FfnThreeIdeal.Frame
public import proofs.«01_k».proof.Proof.Swiglu
public import Idealize.ShloMosaic.Lib.Pipeline.ValueKit
public import Idealize.ShloMosaic.Lib.Claim

@[expose] public section

set_option maxRecDepth 16384
noncomputable section

namespace Cert.FfnThreeIdeal.Whole

open Cert.FfnThreeIdeal Cert.FfnThreeIdeal.Gen Idealize.ShloMosaic Idealize.ShloMosaic.TcCoe Cert.Swiglu
open Idealize.ShloMosaic.Pipeline (Dat)

variable (V : (c : Dev nD) → (b : Ref sig .tc) → Buf (Elt Ideal) ((c : Thread nD τ).loc b))

/-! ## The fourth call: the derivatives at the two input weights -/

theorem idx3 : ∀ t : Fin cfg3.N, win3_0.index t = ![0, 0] ∧ win3_1.index t = ![(grid3.coords t 0).val, 0, 0] ∧
    win3_2.index t = ![(grid3.coords t 0).val, 0, 0] ∧ win3_3.index t = ![(grid3.coords t 0).val, 3, 0, 0] ∧
    win3_4.index t = ![(grid3.coords t 0).val, 3, 0, 0] := (by decide +kernel : ∀ t : Fin grid3.N, _)

/-- The derivative at one weight: over the rows, the derivative at the product times what the weight met. -/
def weightSum (a : FVec Ideal S4x4096x704 .bf16) (x : FVec Ideal S4096x1024 .bf16) (k : Fin 4) (f : Fin 704) (d : Fin 1024) :
    EReal := ∑ i : Fin 4096, a (ix3 k i f) * x (ix2 i d)

/-- The same of two blocks the call reads. -/
def blockSum (a : Vec Ideal S1x4096x704 .bf16) (x : Vec Ideal S4096x1024 .bf16) (f : Fin 704) (d : Fin 1024) : EReal :=
  ∑ i : Fin 4096, (a : FVec Ideal S1x4096x704 .bf16) (ix3 0 i f) * (x : FVec Ideal S4096x1024 .bf16) (ix2 i d)

theorem dwin3_point (c : Dev nD) (t : Fin cfg3.N) (y : S1x1x704x1024.Idx) :
    out3_3 (iblk3 V c 0 t) (iblk3 V c 1 t) (iblk3 V c 2 t) y = blockSum (iblk3 V c 1 t) (iblk3 V c 0 t) (y 2) (y 3) := by
  dsimp only [out3_3]
  frame_out
  canon_tiles x h
  all_goals (open_payloads; pointwise [blockSum]; blk_point [])

theorem dwin4_point (c : Dev nD) (t : Fin cfg3.N) (y : S1x1x704x1024.Idx) :
    out3_4 (iblk3 V c 0 t) (iblk3 V c 1 t) (iblk3 V c 2 t) y = blockSum (iblk3 V c 2 t) (iblk3 V c 0 t) (y 2) (y 3) := by
  dsimp only [out3_4]
  frame_out
  canon_tiles x h
  all_goals (open_payloads; pointwise [blockSum]; blk_point [])

theorem dwin3 (c : Dev nD) : (dat3 V c).arrAt 3 cfg3.N
    = (fun j => if (j 1 : ℕ) = 3 then weightSum (V c main_v1_0) (V c main_arg0) (j 0) (j 2) (j 3) else V c main_v3_0 j
        : FVec Ideal S4x4x704x1024 .f32) := by
  refine (dat3 V c).arrAt_eq_of_coversWhere 3 _ (fun β => (β 1 : ℕ) = 3) (by decide +kernel) (fun t hf y => ?_)
    (fun j => by blk_simp [Pipeline.Window.cell_apply]; omega)
  blk_simp
  rw [after3_3]
  refine (dwin3_point V c t y).trans ?_
  idx_vars y
  pointwise [blockSum, weightSum]
  blk_point [iblk3, idx3 t]

theorem dwin4 (c : Dev nD) : (dat3 V c).arrAt 4 cfg3.N
    = (fun j => if (j 1 : ℕ) = 3 then weightSum (V c main_v1_1) (V c main_arg0) (j 0) (j 2) (j 3) else V c main_v3_1 j
        : FVec Ideal S4x4x704x1024 .f32) := by
  refine (dat3 V c).arrAt_eq_of_coversWhere 4 _ (fun β => (β 1 : ℕ) = 3) (by decide +kernel) (fun t hf y => ?_)
    (fun j => by blk_simp [Pipeline.Window.cell_apply]; omega)
  blk_simp
  rw [after3_4]
  refine (dwin4_point V c t y).trans ?_
  idx_vars y
  pointwise [blockSum, weightSum]
  blk_point [iblk3, idx3 t]

/-! ## The fifth call: the derivative at the output weight -/

theorem idx4 : ∀ t : Fin cfg4.N, win4_0.index t = ![(grid4.coords t 0).val, 0, 0] ∧ win4_1.index t = ![0, 0] ∧
    win4_2.index t = ![(grid4.coords t 0).val, 3, 0, 0] := (by decide +kernel : ∀ t : Fin grid4.N, _)

theorem dwd2_point (c : Dev nD) (t : Fin cfg4.N) (y : S1x1x704x1024.Idx) :
    out4_2 (iblk4 V c 0 t) (iblk4 V c 1 t) y = blockSum (iblk4 V c 0 t) (iblk4 V c 1 t) (y 2) (y 3) := by
  dsimp only [out4_2]
  frame_out
  canon_tiles x h
  all_goals (open_payloads; pointwise [blockSum]; blk_point [])

theorem dwd2 (c : Dev nD) : (dat4 V c).arrAt 2 cfg4.N
    = (fun j => if (j 1 : ℕ) = 3 then weightSum (V c main_v0_2) (V c main_arg4) (j 0) (j 2) (j 3) else V c main_v4 j
        : FVec Ideal S4x4x704x1024 .f32) := by
  refine (dat4 V c).arrAt_eq_of_coversWhere 2 _ (fun β => (β 1 : ℕ) = 3) (by decide +kernel) (fun t hf y => ?_)
    (fun j => by blk_simp [Pipeline.Window.cell_apply]; omega)
  blk_simp
  rw [after4_2]
  refine (dwd2_point V c t y).trans ?_
  idx_vars y
  pointwise [blockSum, weightSum]
  blk_point [iblk4, idx4 t]

end Cert.FfnThreeIdeal.Whole

end
-- ==== Proof.FfnThreeResults.lean ====
/-
  What the feed-forward program of the last layer leaves in its results: the derivatives of the layer it is given.
-/
module

public import proofs.«01_k».proof.Proof.FfnThreeRun
public import proofs.«01_k».proof.Proof.FfnThreeValue
public import proofs.«01_k».proof.Proof.FfnThreeCalls
public import proofs.«01_k».proof.Proof.FfnThreeGrads

@[expose] public section

set_option maxRecDepth 16384
noncomputable section

namespace Cert.FfnThreeIdeal.Whole

open Cert.FfnThreeIdeal Cert.FfnThreeIdeal.Gen Idealize.ShloMosaic Idealize.ShloMosaic.TcCoe Cert.Swiglu

variable (m : (ℓ : Loc nD τ sig) → Buf (Elt Ideal) ℓ) (ρ : Dev nD → PrngReg) (c : Dev nD)

/-! ## Between the calls -/

theorem gate1 : V1 m ρ c main_v0_0 = acts (layer m c).gate := (W1_arr m ρ c 3).trans (up3 m ρ c)
theorem up1 : V1 m ρ c main_v0_1 = acts (layer m c).up := (W1_arr m ρ c 4).trans (up4 m ρ c)
theorem hid1 : V1 m ρ c main_v0_2 = acts (layer m c).hid := (W1_arr m ρ c 5).trans (up5 m ρ c)
theorem wd1 : V1 m ρ c main_arg3 = m ((c : Thread nD τ).loc main_arg3) := W1_args m ρ c main_arg3 (by decide)
theorem dy1 : V1 m ρ c main_arg4 = m ((c : Thread nD τ).loc main_arg4) := W1_args m ρ c main_arg4 (by decide)

theorem dgate2 : V2 m ρ c main_v1_0 = acts (layer m c).dGate :=
  (W2_arr m ρ c 4).trans ((dact4 (V1 m ρ) c).trans (by rw [gate1, up1, wd1, dy1]; rfl))
theorem dup2 : V2 m ρ c main_v1_1 = acts (layer m c).dUp :=
  (W2_arr m ρ c 5).trans ((dact5 (V1 m ρ) c).trans (by rw [gate1, wd1, dy1]; rfl))
theorem wg2 : V2 m ρ c main_arg1 = m ((c : Thread nD τ).loc main_arg1) := W2_args m ρ c main_arg1 (by decide)
theorem wu2 : V2 m ρ c main_arg2 = m ((c : Thread nD τ).loc main_arg2) := W2_args m ρ c main_arg2 (by decide)

theorem dx3 : W3 m ρ c (Proc.devRef .tc main_v2) = arrRows (layer m c).gradX :=
  (W3_arr m ρ c 4).trans ((dx4 (V2 m ρ) c).trans (by rw [dgate2, dup2, wg2, wu2]; rfl))

theorem dgate3 : V3 m ρ c main_v1_0 = acts (layer m c).dGate := (W3_of m ρ c main_v1_0 (by decide)).trans (dgate2 m ρ c)
theorem dup3 : V3 m ρ c main_v1_1 = acts (layer m c).dUp := (W3_of m ρ c main_v1_1 (by decide)).trans (dup2 m ρ c)
theorem x3 : V3 m ρ c main_arg0 = m ((c : Thread nD τ).loc main_arg0) := W3_args m ρ c main_arg0 (by decide)

theorem hid4 : V4 m ρ c main_v0_2 = acts (layer m c).hid :=
  (W4_of m ρ c main_v0_2 (by decide)).trans ((W3_of m ρ c main_v0_2 (by decide)).trans
    ((W2_of m ρ c main_v0_2 (by decide)).trans (hid1 m ρ c)))
theorem dy4 : V4 m ρ c main_arg4 = m ((c : Thread nD τ).loc main_arg4) := W4_args m ρ c main_arg4 (by decide)

/-- The stacks of gradients after the last call: the last layer of each is written, and the rest is what it was before. -/
theorem stack_wg : W5 m ρ c (Proc.devRef .tc main_v3_0) = arrStack 3 (layer m c).gradWg (V3 m ρ c main_v3_0) :=
  (W5_of m ρ c main_v3_0 (by decide)).trans ((W4_arr m ρ c 3).trans ((dwin3 (V3 m ρ) c).trans (by rw [dgate3, x3]; rfl)))

theorem stack_wu : W5 m ρ c (Proc.devRef .tc main_v3_1) = arrStack 3 (layer m c).gradWu (V3 m ρ c main_v3_1) :=
  (W5_of m ρ c main_v3_1 (by decide)).trans ((W4_arr m ρ c 4).trans ((dwin4 (V3 m ρ) c).trans (by rw [dup3, x3]; rfl)))

theorem stack_wd : W5 m ρ c (Proc.devRef .tc main_v4) = arrStack 3 (layer m c).gradWd (V4 m ρ c main_v4) :=
  (W5_arr m ρ c 2).trans ((dwd2 (V4 m ρ) c).trans (by rw [hid4, dy4]; rfl))

/-- The last layer of a stack. -/
def lastLayer (s : FVec Ideal S4x4x704x1024 .f32) : FVec Ideal S4x704x1024 .f32 :=
  shapeCast _ (extractStridedSlice S4x1x704x1024 ![0, 3, 0, 0] s slices_S4x4x704x1024_S4x1x704x1024_0_3_0_0) shapeCasts_S4x1x704x1024_S4x704x1024

theorem lastLayer_stack (g : Fin 4 → Fin 704 → Fin 1024 → EReal) (old : FVec Ideal S4x4x704x1024 .f32) :
    lastLayer (arrStack 3 g old) = arrParts g := by
  funext j
  idx_vars j
  pointwise [lastLayer, arrStack, arrParts]

/-! ## At the end -/

theorem out_x : W6 m ρ c (Proc.devRef .tc main_v2) = arrRows (layer m c).gradX :=
  (W6_of m ρ c main_v2 (by decide)).trans ((W5_of m ρ c main_v2 (by decide)).trans
    ((W4_of m ρ c main_v2 (by decide)).trans (dx3 m ρ c)))

theorem out_wg : W6 m ρ c (Proc.devRef .tc main_v6) = arrParts (layer m c).gradWg := by
  refine Eq.trans (b := lastLayer (W5 m ρ c (Proc.devRef .tc main_v3_0))) ?_ ?_
  · unfold W6
    after_results
    rfl
  · rw [stack_wg]
    exact lastLayer_stack _ _

theorem out_wu : W6 m ρ c (Proc.devRef .tc main_v8) = arrParts (layer m c).gradWu := by
  refine Eq.trans (b := lastLayer (W5 m ρ c (Proc.devRef .tc main_v3_1))) ?_ ?_
  · unfold W6
    after_results
    rfl
  · rw [stack_wu]
    exact lastLayer_stack _ _

theorem out_wd : W6 m ρ c (Proc.devRef .tc main_v10) = arrParts (layer m c).gradWd := by
  refine Eq.trans (b := lastLayer (W5 m ρ c (Proc.devRef .tc main_v4))) ?_ ?_
  · unfold W6
    after_results
    rfl
  · rw [stack_wd]
    exact lastLayer_stack _ _

end Cert.FfnThreeIdeal.Whole

end
-- ==== Proof.FfnThreeStages.lean ====
/-
  The operations of the feed-forward reference of the last layer, named, and read at an index. Its 2816 hidden units are the four parts of
  704 one after another.
-/
module

public import proofs.«01_k».proof.Proof.Gen.FfnThreeReferenceIdeal.Run
public import proofs.«01_k».proof.Proof.Swiglu
public import Idealize.ShloMosaic.Lib.Claim

@[expose] public section

set_option maxRecDepth 16384
noncomputable section

namespace Cert.FfnThreeReferenceIdeal.Stage

open Cert.FfnThreeReferenceIdeal Cert.FfnThreeReferenceIdeal.Gen Idealize.ShloMosaic Idealize.ShloMosaic.TcCoe Cert.Swiglu

section
variable (x : FVec Ideal S4096x1024 .bf16) (wg wu wd w : FVec Ideal S4x4x704x1024 .bf16) (dy : FVec Ideal S4096x1024 .bf16)

/-- The last layer of a stack of weights, a row for each hidden unit. -/
def flat : FVec Ideal S2816x1024 .f32 :=
  extf .f32 (shapeCast _ (shapeCast _ (extractStridedSlice S4x1x704x1024 ![0, 3, 0, 0] w slices_S4x4x704x1024_S4x1x704x1024_0_3_0_0) shapeCasts_S4x1x704x1024_S4x704x1024) shapeCasts_S4x704x1024_S2816x1024) bitsLt_bf16_f32

def turned : FVec Ideal S1024x2816 .f32 := transpose S1024x2816 [1, 0] (flat w) transposes_S2816x1024_S1024x2816_1_0

/-- The product with an input weight. -/
def act : FVec Ideal S4096x2816 .f32 :=
  Host.dotGeneral dot_S4096x1024_S1024x2816_S4096x2816_1_0_0_1_n_n none (extf .f32 x bitsLt_bf16_f32) (turned w)

def one : FVec Ideal S4096x2816 .f32 := broadcastInDim S4096x2816 ![] bcast_S_S4096x2816 (constant S_ .f32 0x3F800000#32)

def opening : FVec Ideal S4096x2816 .f32 := Host.divf one (addf one (Host.exp (Host.negf (act x wg))))

/-- The derivative at the hidden units, and at the two products. -/
def dHid : FVec Ideal S4096x2816 .f32 :=
  Host.dotGeneral dot_S4096x1024_S2816x1024_S4096x2816_1_1_0_0_n_n none (extf .f32 dy bitsLt_bf16_f32) (flat wd)

def dUp : FVec Ideal S4096x2816 .f32 := mulf (mulf (act x wg) (opening x wg)) (dHid wd dy)

def dGate : FVec Ideal S4096x2816 .f32 :=
  addf (mulf (mulf (dHid wd dy) (act x wu)) (opening x wg))
    (mulf (mulf (act x wg) (mulf (dHid wd dy) (act x wu))) (mulf (opening x wg) (subf one (opening x wg))))

def hid : FVec Ideal S4096x2816 .f32 := mulf (mulf (act x wg) (opening x wg)) (act x wu)

/-- The derivative at the input and at the weights. -/
def gradX : FVec Ideal S4096x1024 .f32 :=
  addf (Host.dotGeneral dot_S4096x2816_S1024x2816_S4096x1024_1_1_0_0_n_n none (dUp x wg wd dy) (turned wu))
    (Host.dotGeneral dot_S4096x2816_S1024x2816_S4096x1024_1_1_0_0_n_n none (dGate x wg wu wd dy) (turned wg))

def gradIn (d : FVec Ideal S4096x2816 .f32) : FVec Ideal S1024x2816 .f32 :=
  transpose S1024x2816 [1, 0] (Host.dotGeneral dot_S4096x2816_S4096x1024_S2816x1024_0_0_1_1_n_n none d (extf .f32 x bitsLt_bf16_f32)) transposes_S2816x1024_S1024x2816_1_0

def gradOut : FVec Ideal S1024x2816 .f32 :=
  Host.dotGeneral dot_S4096x1024_S4096x2816_S1024x2816_0_0_1_1_n_n none (extf .f32 dy bitsLt_bf16_f32) (hid x wg wu)

/-- The gradient of a weight, by part and place. -/
def parts (g : FVec Ideal S1024x2816 .f32) : FVec Ideal S4x704x1024 .f32 :=
  shapeCast _ (transpose S2816x1024 [1, 0] g transposes_S1024x2816_S2816x1024_1_0) shapeCasts_S2816x1024_S4x704x1024

end

section
variable (m : (ℓ : Loc nD τ sig) → Buf (Elt Ideal) ℓ) (c : Dev nD)

/-- The arguments. -/
def ax : FVec Ideal S4096x1024 .bf16 := m ((c.tc : Thread nD τ).loc main_arg0)
def awg : FVec Ideal S4x4x704x1024 .bf16 := m ((c.tc : Thread nD τ).loc main_arg1)
def awu : FVec Ideal S4x4x704x1024 .bf16 := m ((c.tc : Thread nD τ).loc main_arg2)
def awd : FVec Ideal S4x4x704x1024 .bf16 := m ((c.tc : Thread nD τ).loc main_arg3)
def ady : FVec Ideal S4096x1024 .bf16 := m ((c.tc : Thread nD τ).loc main_arg4)

theorem out0 : Value.res_main_v34 m c = gradX (ax m c) (awg m c) (awu m c) (awd m c) (ady m c) := rfl

theorem out1 : Value.res_main_v36 m c
    = parts (gradIn (ax m c) (dGate (ax m c) (awg m c) (awu m c) (awd m c) (ady m c))) := rfl

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v34) = gradX (ax m c) (awg m c) (awu m c) (awd m c) (ady m c)
    ∧ r.2.mem ((c.tc : Thread nD τ).loc main_v36)
      = parts (gradIn (ax m c) (dGate (ax m c) (awg m c) (awu m c) (awd m c) (ady m c)))
    ∧ r.2.mem ((c.tc : Thread nD τ).loc main_v37)
      = parts (gradIn (ax m c) (dUp (ax m c) (awg m c) (awd m c) (ady m c)))
    ∧ r.2.mem ((c.tc : Thread nD τ).loc main_v38)
      = parts (gradOut (ax m c) (awg m c) (awu m c) (ady m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => by
    obtain ⟨h0, h1, h2, h3, ha⟩ := h c
    exact ⟨h0.trans (out0 m c), h1.trans (out1 m c), h2, h3, ha⟩) (Value.run (F := Ideal) m ρ)

end

end Cert.FfnThreeReferenceIdeal.Stage

end
-- ==== Proof.FfnThreeStagesAt.lean ====
/-
  The operations of the feed-forward reference of the last layer read at an index: they are the layer's formulas.
-/
module

public import proofs.«01_k».proof.Proof.FfnThreeStages

@[expose] public section

set_option maxRecDepth 16384
noncomputable section

namespace Cert.FfnThreeReferenceIdeal.Stage

open Cert.FfnThreeReferenceIdeal Cert.FfnThreeReferenceIdeal.Gen Idealize.ShloMosaic Idealize.ShloMosaic.TcCoe Cert.Swiglu

/-- Unit `f` of part `k` among all. -/
def unit (k : Fin 4) (f : Fin 704) : Fin 2816 := ⟨704 * k + f, by omega⟩

theorem sum_units (F : Fin 2816 → EReal) : ∑ x, F x = ∑ k, ∑ f, F (unit k f) := by
  rw [← Fintype.sum_prod_type' (fun k f => F (unit k f))]
  refine (Fintype.sum_equiv (finProdFinEquiv (m := 4) (n := 704)) _ _ fun p => congrArg F (Fin.ext ?_)).symm
  simp only [unit, finProdFinEquiv_apply_val]
  omega

section
variable (x : FVec Ideal S4096x1024 .bf16) (wg wu wd w : FVec Ideal S4x4x704x1024 .bf16) (dy : FVec Ideal S4096x1024 .bf16)

/-- The layer given. -/
abbrev lay : Layer := Layer.ofArrays 3 x wg wu wd dy

theorem flat_at (k : Fin 4) (f : Fin 704) (d : Fin 1024) : flat w (ix2 (unit k f) d) = w (ix4 k 3 f d) := by
  pointwise [flat]
  refine congrArg w ?_
  congr 1 <;> (apply Fin.ext; simp only [unit]; omega)

theorem turned_at (k : Fin 4) (f : Fin 704) (d : Fin 1024) : turned w (ix2 d (unit k f)) = w (ix4 k 3 f d) := by
  pointwise [turned]
  exact flat_at w k f d

theorem act_at (k : Fin 4) (i : Fin 4096) (f : Fin 704) : act x w (ix2 i (unit k f)) = ∑ d, x (ix2 i d) * w (ix4 k 3 f d) := by
  pointwise [act]
  simp only [turned_at]

theorem opening_at (k : Fin 4) (i : Fin 4096) (f : Fin 704) :
    opening x wg (ix2 i (unit k f)) = Ideal.logistic ((lay x wg wu wd dy).gate k i f) := by
  pointwise [opening, one]
  rw [act_at]
  rfl

theorem dHid_at (k : Fin 4) (i : Fin 4096) (f : Fin 704) :
    dHid wd dy (ix2 i (unit k f)) = (lay x wg wu wd dy).dHid k i f := by
  pointwise [dHid]
  simp only [flat_at]
  rfl

theorem dUp_at (k : Fin 4) (i : Fin 4096) (f : Fin 704) :
    dUp x wg wd dy (ix2 i (unit k f)) = (lay x wg wu wd dy).dUp k i f := by
  pointwise [dUp]
  rw [act_at, opening_at x wg wu wd dy, dHid_at x wg wu wd dy]
  rfl

theorem dGate_at (k : Fin 4) (i : Fin 4096) (f : Fin 704) :
    dGate x wg wu wd dy (ix2 i (unit k f)) = (lay x wg wu wd dy).dGate k i f := by
  pointwise [dGate, one]
  rw [act_at, act_at, opening_at x wg wu wd dy, dHid_at x wg wu wd dy]
  rfl

theorem hid_at (k : Fin 4) (i : Fin 4096) (f : Fin 704) :
    hid x wg wu (ix2 i (unit k f)) = (lay x wg wu wd dy).hid k i f := by
  pointwise [hid]
  rw [act_at, act_at, opening_at x wg wu wd dy]
  rfl

theorem gradX_eq : gradX x wg wu wd dy = arrRows (lay x wg wu wd dy).gradX := by
  funext j
  idx_vars j
  pointwise [gradX, arrRows]
  simp only [sum_units, turned_at, dUp_at x wg wu wd dy, dGate_at x wg wu wd dy]
  rw [add_comm, ← Finset.sum_add_distrib]
  rfl

theorem gradWg_at (k : Fin 4) (f : Fin 704) (d : Fin 1024) :
    gradIn x (dGate x wg wu wd dy) (ix2 d (unit k f)) = (lay x wg wu wd dy).gradWg k f d := by
  pointwise [gradIn]
  simp only [dGate_at x wg wu wd dy]
  rfl

theorem gradWu_at (k : Fin 4) (f : Fin 704) (d : Fin 1024) :
    gradIn x (dUp x wg wd dy) (ix2 d (unit k f)) = (lay x wg wu wd dy).gradWu k f d := by
  pointwise [gradIn]
  simp only [dUp_at x wg wu wd dy]
  rfl

theorem gradWd_at (k : Fin 4) (f : Fin 704) (d : Fin 1024) :
    gradOut x wg wu dy (ix2 d (unit k f)) = (lay x wg wu wd dy).gradWd k f d := by
  pointwise [gradOut]
  simp only [hid_at x wg wu wd dy]
  exact Finset.sum_congr rfl fun i _ => mul_comm _ _

end

/-- The gradient of a weight by part and place, by its entries. -/
theorem parts_eq (g : FVec Ideal S1024x2816 .f32) (G : Fin 4 → Fin 704 → Fin 1024 → EReal)
    (h : ∀ k f d, g (ix2 d (unit k f)) = G k f d) : parts g = arrParts G := by
  funext j
  idx_vars j
  pointwise [parts, arrParts]
  rw [← h j0 j1 j2]
  refine congrArg g ?_
  congr 1 <;> (apply Fin.ext; simp only [unit]; omega)

end Cert.FfnThreeReferenceIdeal.Stage

end
-- ==== Proof.FfnThree.lean ====
/-
  The five claims about the last feed-forward layer: the three frames, the ledger, and the equation of the kernel with the
  reference.
-/
module

public import proofs.«01_k».proof.Defs
public import proofs.«01_k».proof.Proof.Gen.FfnThree.Frame
public import proofs.«01_k».proof.Proof.FfnThreeResults
public import proofs.«01_k».proof.Proof.FfnThreeStagesAt

@[expose] public section

noncomputable section

namespace Cert.FfnThreeClaims

open Idealize.ShloMosaic Idealize.ShloMosaic.TcCoe Idealize.SL.Sem Cert.Swiglu

theorem frame_p : Cert.quiescent_FfnThree := fun m ρ _ => Cert.FfnThree.Gen.frame m ρ

theorem frame_pi : Cert.quiescent_FfnThreeIdeal := fun m ρ _ => Cert.FfnThreeIdeal.Gen.frame m ρ

theorem frame_ri : Cert.quiescent_FfnThreeReferenceIdeal := fun m ρ _ =>
  (θ_run Cert.FfnThreeReferenceIdeal.defs _ _).mono
    (fun r h => ⟨fun c => (h c).2.2.2.2, sem_eq_zero_of_no_sems (by decide) r.2⟩)
    (Cert.FfnThreeReferenceIdeal.Value.run (F := Ideal) m ρ)

theorem preserves : Cert.preserves_FfnThree_FfnThreeIdeal := trivial

section
open Cert.FfnThreeIdeal Cert.FfnThreeIdeal.Whole

theorem algebraic : Cert.algebraic_FfnThreeIdeal_FfnThreeReferenceIdeal := by
  intro m ρ m' ρ' _ hag
  have e : ∀ c : Dev nD, Layer.ofArrays 3 (Cert.FfnThreeReferenceIdeal.Stage.ax m' c) (Cert.FfnThreeReferenceIdeal.Stage.awg m' c)
      (Cert.FfnThreeReferenceIdeal.Stage.awu m' c) (Cert.FfnThreeReferenceIdeal.Stage.awd m' c) (Cert.FfnThreeReferenceIdeal.Stage.ady m' c)
        = layer m c := fun c => by
    obtain ⟨h0, h1, h2, h3, h4⟩ := hag c
    simp only [Cert.FfnThreeReferenceIdeal.Stage.ax, Cert.FfnThreeReferenceIdeal.Stage.awg, Cert.FfnThreeReferenceIdeal.Stage.awu,
      Cert.FfnThreeReferenceIdeal.Stage.awd, Cert.FfnThreeReferenceIdeal.Stage.ady, layer]
    rw [h0, h1, h2, h3, h4]
  refine ⟨fun c => arrRows (layer m c).gradX,
    fun c => arrParts (layer m c).gradWg,
    fun c => arrParts (layer m c).gradWu,
    fun c => arrParts (layer m c).gradWd, ?_, ?_⟩
  · refine (θ_run defs _ _).mono (fun r h c => ?_) (run m ρ)
    exact ⟨(h c main_v2 (by decide)).trans (out_x m ρ c), (h c main_v6 (by decide)).trans (out_wg m ρ c),
      (h c main_v8 (by decide)).trans (out_wu m ρ c), (h c main_v10 (by decide)).trans (out_wd m ρ c),
      (h c main_arg0 (by decide)).trans (Gen.W6_main_arg0 m ρ c), (h c main_arg1 (by decide)).trans (Gen.W6_main_arg1 m ρ c),
      (h c main_arg2 (by decide)).trans (Gen.W6_main_arg2 m ρ c), (h c main_arg3 (by decide)).trans (Gen.W6_main_arg3 m ρ c),
      (h c main_arg4 (by decide)).trans (Gen.W6_main_arg4 m ρ c)⟩
  · refine (θ_run Cert.FfnThreeReferenceIdeal.defs _ _).mono (fun r h c => ?_) (Cert.FfnThreeReferenceIdeal.Stage.run m' ρ')
    obtain ⟨h0, h1, h2, h3, ha⟩ := h c
    refine ⟨h0.trans ?_, h1.trans ?_, h2.trans ?_, h3.trans ?_, ha⟩
    · rw [Cert.FfnThreeReferenceIdeal.Stage.gradX_eq]
      exact congrArg (fun L => arrRows (Layer.gradX L)) (e c)
    · rw [Cert.FfnThreeReferenceIdeal.Stage.parts_eq _ _ (Cert.FfnThreeReferenceIdeal.Stage.gradWg_at _ _ _ _ _)]
      exact congrArg (fun L => arrParts (Layer.gradWg L)) (e c)
    · rw [Cert.FfnThreeReferenceIdeal.Stage.parts_eq _ _ (Cert.FfnThreeReferenceIdeal.Stage.gradWu_at _ _ (Cert.FfnThreeReferenceIdeal.Stage.awu m' c) _ _)]
      exact congrArg (fun L => arrParts (Layer.gradWu L)) (e c)
    · rw [Cert.FfnThreeReferenceIdeal.Stage.parts_eq _ _ (Cert.FfnThreeReferenceIdeal.Stage.gradWd_at _ _ _ (Cert.FfnThreeReferenceIdeal.Stage.awd m' c) _)]
      exact congrArg (fun L => arrParts (Layer.gradWd L)) (e c)

end

end Cert.FfnThreeClaims

end
-- ==== Proof.GluRun.lean ====
/-
  The program of the gated linear units runs to its end: what every buffer of a core holds there. Its calls run one after the
  other, and the contents after the last of them are the fold of them over the launch contents.
-/
module

public import proofs.«01_k».proof.Proof.Gen.GluIdeal.Frame
public import Idealize.ShloMosaic.Lib.Pointwise

@[expose] public section

noncomputable section

namespace Cert.GluIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.GluIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W16 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W16 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W16 m ρ c) s)
    isplitl [Hbufs] <;> iassumption

end Cert.GluIdeal.Whole

end
-- ==== Proof.Gated.lean ====
/-
  The gated linear unit `(gelu y Wo) * sigmoid (gelu y Wg)` and its derivative, on extended reals. The two weights lie
  beside each other in one matrix of 2048 columns.
-/
module

public import Idealize.ShloMosaic.Lib.Pointwise

@[expose] public section

noncomputable section

namespace Cert.Gated

open Idealize.ShloMosaic

/-- The constants of the tanh form of gelu: the weight of the cube, `sqrt (2 / pi)`, one half and three. -/
def bend : EReal := Ideal.ofBits .f32 0x3D372713#32
def steep : EReal := Ideal.ofBits .f32 0x3F4C422A#32
def half : EReal := Ideal.ofBits .f32 0x3F000000#32
def three : EReal := Ideal.ofBits .f32 0x40400000#32

/-- What multiplies `x` in `gelu x`, and `gelu` itself. -/
def arc (x : EReal) : EReal := Ideal.tanh (steep * (x + bend * (x * (x * x))))
def share (x : EReal) : EReal := half * (1 + arc x)
def gelu (x : EReal) : EReal := x * share x

/-- The derivative of `gelu` at `x`, times `g`. -/
def innerStep (x g : EReal) : EReal := steep * (half * (x * g) * ((1 + arc x) * (1 - arc x)))
def geluStep (x g : EReal) : EReal := g * share x + innerStep x g + bend * innerStep x g * (three * (x * x))

/-- A column of the value and a column of the gate among all. -/
def valueCol (j : Fin 1024) : Fin 2048 := ⟨j, by omega⟩
def gateCol (j : Fin 1024) : Fin 2048 := ⟨1024 + j, by omega⟩

theorem sum_cols (F : Fin 2048 → EReal) : ∑ x, F x = ∑ j, F (valueCol j) + ∑ j, F (gateCol j) :=
  Fin.sum_univ_add (M := EReal) (a := 1024) (b := 1024) F

/-- What is in two halves of the columns, as one. -/
def beside (a b : Fin 1024 → EReal) (j : Fin 2048) : EReal :=
  if h : (j : ℕ) < 1024 then a ⟨j, h⟩ else b ⟨(j : ℕ) - 1024, by omega⟩

theorem beside_value (a b : Fin 1024 → EReal) (j : Fin 1024) : beside a b (valueCol j) = a j := dif_pos j.isLt

theorem beside_gate (a b : Fin 1024 → EReal) (j : Fin 1024) : beside a b (gateCol j) = b j :=
  (dif_neg (by simp only [gateCol]; omega)).trans (congrArg b (Fin.ext (by simp only [gateCol]; omega)))

/-- One unit: its input, its two weights, and the derivative at its output. -/
structure Glu where
  x : Fin 4096 → Fin 1024 → EReal
  w : Fin 1024 → Fin 2048 → EReal
  dy : Fin 4096 → Fin 1024 → EReal

namespace Glu

variable (U : Glu)

/-- The hidden row, and its products with the weights. -/
def hid (i : Fin 4096) (k : Fin 1024) : EReal := gelu (U.x i k)
def prod (i : Fin 4096) (j : Fin 2048) : EReal := ∑ k, U.hid i k * U.w k j
def gate (i : Fin 4096) (j : Fin 1024) : EReal := Ideal.logistic (U.prod i (gateCol j))

/-- The derivatives at the two products, at the hidden row, at the input and at the two weights. -/
def dValue (i : Fin 4096) (j : Fin 1024) : EReal := U.dy i j * U.gate i j
def dGate (i : Fin 4096) (j : Fin 1024) : EReal := U.prod i (valueCol j) * U.dy i j * (U.gate i j * (1 - U.gate i j))
def dProd (i : Fin 4096) (j : Fin 2048) : EReal := beside (U.dValue i) (U.dGate i) j
def dHid (i : Fin 4096) (k : Fin 1024) : EReal :=
  (∑ j, U.dValue i j * U.w k (valueCol j)) + ∑ j, U.dGate i j * U.w k (gateCol j)
def gradX (i : Fin 4096) (k : Fin 1024) : EReal := geluStep (U.x i k) (U.dHid i k)
def gradWo (k j : Fin 1024) : EReal := ∑ i, U.hid i k * U.dValue i j
def gradWg (k j : Fin 1024) : EReal := ∑ i, U.hid i k * U.dGate i j

/-- The unit held by arrays. -/
def ofArrays (x : (⟨2, ![4096, 1024]⟩ : Shape).Idx → EReal) (w : (⟨2, ![1024, 2048]⟩ : Shape).Idx → EReal)
    (dy : (⟨2, ![4096, 1024]⟩ : Shape).Idx → EReal) : Glu where
  x := fun i k => x (ix2 i k)
  w := fun k j => w (ix2 k j)
  dy := fun i j => dy (ix2 i j)

end Glu

/-- Rows as an array, and the weight gradients of two units with their rows in four parts, a place for each unit. -/
def arrRows (g : Fin 4096 → Fin 1024 → EReal) : (⟨2, ![4096, 1024]⟩ : Shape).Idx → EReal := fun i => g (i 0) (i 1)
def row (p : Fin 4) (r : Fin 256) : Fin 1024 := ⟨256 * p + r, by omega⟩
def arrPair (g₀ g₁ : Fin 1024 → Fin 1024 → EReal) : (⟨4, ![4, 2, 256, 1024]⟩ : Shape).Idx → EReal :=
  fun j => if (j 1 : ℕ) = 0 then g₀ (row (j 0) (j 2)) (j 3) else g₁ (row (j 0) (j 2)) (j 3)

end Cert.Gated

end
-- ==== Proof.GluArrays.lean ====
/-
  What the calls of the two gated linear units compute of the arrays they read, one formula for each kind of call.
-/
module

public import proofs.«01_k».proof.Proof.Gen.GluIdeal.Skeleton
public import proofs.«01_k».proof.Proof.Gated
public import Idealize.ShloMosaic.Lib.Pipeline.ValueKit
public import Idealize.ShloMosaic.Lib.Claim

@[expose] public section

set_option maxRecDepth 16384
noncomputable section

namespace Cert.GluIdeal.Whole

open Cert.GluIdeal Cert.GluIdeal.Gen Idealize.ShloMosaic Idealize.ShloMosaic.TcCoe Cert.Gated
open Idealize.ShloMosaic.Pipeline (Dat)

/-- The products of the hidden rows with the weights, of the whole arrays and of the blocks of one call. -/
def times (a : FVec Ideal S4096x1024 .bf16) (w : FVec Ideal S1024x2048 .bf16) (i : Fin 4096) (j : Fin 2048) : EReal :=
  ∑ k : Fin 1024, a (ix2 i k) * w (ix2 k j)
def blockTimes (a : Vec Ideal S1024x1024 .bf16) (w : Vec Ideal S1024x2048 .bf16) (i : Fin 1024) (j : Fin 2048) : EReal :=
  ∑ k : Fin 1024, (a : FVec Ideal S1024x1024 .bf16) (ix2 i k) * (w : FVec Ideal S1024x2048 .bf16) (ix2 k j)

/-- The derivatives at the products of one row, those for the value beside those for the gate. -/
def atValue (p : Fin 2048 → EReal) (dy : Fin 1024 → EReal) (j : Fin 1024) : EReal := dy j * Ideal.logistic (p (gateCol j))
def atGate (p : Fin 2048 → EReal) (dy : Fin 1024 → EReal) (j : Fin 1024) : EReal :=
  p (valueCol j) * dy j * (Ideal.logistic (p (gateCol j)) * (1 - Ideal.logistic (p (gateCol j))))
def atBoth (p : Fin 2048 → EReal) (dy : Fin 1024 → EReal) (j : Fin 2048) : EReal := beside (atValue p dy) (atGate p dy) j

/-- A row of an array, and of a block. -/
def row2048 (p : FVec Ideal S4096x2048 .f32) (i : Fin 4096) : Fin 2048 → EReal := fun j => p (ix2 i j)
def row1024 (p : FVec Ideal S4096x1024 .bf16) (i : Fin 4096) : Fin 1024 → EReal := fun j => p (ix2 i j)
def blockRow2048 (p : Vec Ideal S512x2048 .f32) (i : Fin 512) : Fin 2048 → EReal := fun j => p (ix2 i j)
def blockRow1024 (p : Vec Ideal S512x1024 .bf16) (i : Fin 512) : Fin 1024 → EReal := fun j => p (ix2 i j)

/-- The derivative at a weight: over the rows, a hidden unit times the derivative at a product. -/
def weightSum (a : FVec Ideal S4096x1024 .bf16) (d : FVec Ideal S4096x2048 .f32) (k : Fin 1024) (j : Fin 2048) : EReal :=
  ∑ i : Fin 4096, a (ix2 i k) * d (ix2 i j)
def blockSum (a : Vec Ideal S4096x1024 .bf16) (d : Vec Ideal S4096x256 .f32) (p : Fin 4) (r j : Fin 256) : EReal :=
  ∑ i : Fin 4096, (a : FVec Ideal S4096x1024 .bf16) (ix2 i (row p r)) * (d : FVec Ideal S4096x256 .f32) (ix2 i j)

/-- The derivative at the hidden rows. -/
def back (d : FVec Ideal S4096x2048 .f32) (w : FVec Ideal S1024x2048 .bf16) (i : Fin 4096) (k : Fin 1024) : EReal :=
  ∑ j : Fin 2048, d (ix2 i j) * w (ix2 k j)
def blockBack (d : Vec Ideal S1024x2048 .f32) (w : Vec Ideal S1024x2048 .bf16) (i k : Fin 1024) : EReal :=
  ∑ j : Fin 2048, (d : FVec Ideal S1024x2048 .f32) (ix2 i j) * (w : FVec Ideal S1024x2048 .bf16) (ix2 k j)

/-- The derivative at the rows put through `gelu`. -/
def bendBack (x g : FVec Ideal S4096x1024 .f32) (i : Fin 4096) (k : Fin 1024) : EReal := geluStep (x (ix2 i k)) (g (ix2 i k))
def hidOf (x : FVec Ideal S4096x1024 .f32) (i : Fin 4096) (k : Fin 1024) : EReal := gelu (x (ix2 i k))

/-- Rows of 2048 numbers as an array. -/
def arrWide (g : Fin 4096 → Fin 2048 → EReal) : FVec Ideal S4096x2048 .f32 := fun j => g (j 0) (j 1)

end Cert.GluIdeal.Whole

end
-- ==== Proof.GluRowsThree.lean ====
/-
  The calls of the first unit which lead to the derivatives at its products, whatever the arrays they read hold.
-/
module

public import proofs.«01_k».proof.Proof.GluArrays
public import proofs.«01_k».proof.Proof.Gen.GluIdeal.Frame.Region0
public import proofs.«01_k».proof.Proof.Gen.GluIdeal.Frame.Region1
public import proofs.«01_k».proof.Proof.Gen.GluIdeal.Frame.Region2
public import Idealize.ShloMosaic.Lib.Pipeline.ValueKit
public import Idealize.ShloMosaic.Lib.Claim

@[expose] public section

set_option maxRecDepth 16384
noncomputable section

namespace Cert.GluIdeal.Whole

open Cert.GluIdeal Cert.GluIdeal.Gen Idealize.ShloMosaic Idealize.ShloMosaic.TcCoe Cert.Gated
open Idealize.ShloMosaic.Pipeline (Dat)

variable (V : (c : Dev nD) → (b : Ref sig .tc) → Buf (Elt Ideal) ((c : Thread nD τ).loc b))

theorem idx0 : ∀ t : Fin cfg0.N, win0_0.index t = ![(grid0.coords t 0).val, 0] ∧ win0_1.index t = ![(grid0.coords t 0).val, 0] :=
  (by decide +kernel : ∀ t : Fin grid0.N, _)

theorem gelu0 (c : Dev nD) : (dat0 V c).arrAt 1 cfg0.N = arrRows (hidOf (V c main_arg0)) := by
  refine (dat0 V c).arrAt_eq_of_covers 1 _ (by decide +kernel) fun t _ y => ?_
  blk_simp
  rw [after0_1]
  frame_out
  idx_vars y
  pointwise [k0_pay1, arrRows, hidOf, gelu, share, arc, bend, steep, half]
  blk_point [iblk0, idx0 t]

theorem idx1 : ∀ t : Fin cfg1.N, win1_0.index t = ![(grid1.coords t 0).val, 0] ∧ win1_1.index t = ![0, 0] ∧ win1_2.index t = ![(grid1.coords t 0).val, 0] :=
  (by decide +kernel : ∀ t : Fin grid1.N, _)

theorem times1_point (a : Vec Ideal S1024x1024 .bf16) (w : Vec Ideal S1024x2048 .bf16) (y : S1024x2048.Idx) :
    out1_2 a w y = blockTimes a w (y 0) (y 1) := by
  dsimp only [out1_2]
  frame_out
  canon_tiles x h
  all_goals (open_payloads; pointwise [blockTimes]; blk_point [])

theorem times1 (c : Dev nD) : (dat1 V c).arrAt 2 cfg1.N = arrWide (times (V c main_v0) (V c main_arg1)) := by
  refine (dat1 V c).arrAt_eq_of_covers 2 _ (by decide +kernel) fun t _ y => ?_
  blk_simp
  rw [after1_2]
  refine (times1_point _ _ y).trans ?_
  idx_vars y
  pointwise [blockTimes, times, arrWide]
  blk_point [iblk1, idx1 t]

theorem idx2 : ∀ t : Fin cfg2.N, win2_0.index t = ![(grid2.coords t 0).val, 0] ∧ win2_1.index t = ![(grid2.coords t 0).val, 0] ∧ win2_2.index t = ![(grid2.coords t 0).val, 0] :=
  (by decide +kernel : ∀ t : Fin grid2.N, _)

theorem split2_point (p : Vec Ideal S512x2048 .f32) (dy : Vec Ideal S512x1024 .bf16) (y : S512x2048.Idx) :
    out2_2 p dy y = atBoth (blockRow2048 p (y 0)) (blockRow1024 dy (y 0)) (y 1) := by
  dsimp only [out2_2]
  frame_out
  idx_vars y
  pointwise [k2_pay1, atBoth, atValue, atGate, beside, valueCol, gateCol, blockRow2048, blockRow1024]
  split <;> simp

theorem split2 (c : Dev nD) : (dat2 V c).arrAt 2 cfg2.N
    = arrWide fun i => atBoth (row2048 (V c main_v1) i) (row1024 (V c main_arg2) i) := by
  refine (dat2 V c).arrAt_eq_of_covers 2 _ (by decide +kernel) fun t _ y => ?_
  blk_simp
  rw [after2_2]
  refine (split2_point _ _ y).trans ?_
  idx_vars y
  show atBoth _ _ _ = atBoth _ _ _
  congr 1
  · funext j
    pointwise [blockRow2048, row2048]
    blk_point [iblk2, idx2 t]
  · funext j
    pointwise [blockRow1024, row1024]
    blk_point [iblk2, idx2 t]
  · apply Fin.ext
    blk_simp [idx2 t]

end Cert.GluIdeal.Whole

end
-- ==== Proof.GluBackThree.lean ====
/-
  The calls of the first unit which lead from the derivatives at its products to that at its rows, whatever the arrays
  they read hold.
-/
module

public import proofs.«01_k».proof.Proof.GluArrays
public import proofs.«01_k».proof.Proof.Gen.GluIdeal.Frame.Region5
public import proofs.«01_k».proof.Proof.Gen.GluIdeal.Frame.Region6
public import Idealize.ShloMosaic.Lib.Pipeline.ValueKit
public import Idealize.ShloMosaic.Lib.Claim

@[expose] public section

set_option maxRecDepth 16384
noncomputable section

namespace Cert.GluIdeal.Whole

open Cert.GluIdeal Cert.GluIdeal.Gen Idealize.ShloMosaic Idealize.ShloMosaic.TcCoe Cert.Gated
open Idealize.ShloMosaic.Pipeline (Dat)

variable (V : (c : Dev nD) → (b : Ref sig .tc) → Buf (Elt Ideal) ((c : Thread nD τ).loc b))

theorem idx5 : ∀ t : Fin cfg5.N, win5_0.index t = ![(grid5.coords t 0).val, 0] ∧ win5_1.index t = ![0, 0] ∧ win5_2.index t = ![(grid5.coords t 0).val, 0] :=
  (by decide +kernel : ∀ t : Fin grid5.N, _)

theorem back5_point (a : Vec Ideal S1024x2048 .f32) (w : Vec Ideal S1024x2048 .bf16) (y : S1024x1024.Idx) :
    out5_2 a w y = blockBack a w (y 0) (y 1) := by
  dsimp only [out5_2]
  frame_out
  canon_tiles x h
  all_goals (open_payloads; pointwise [blockBack]; blk_point [])

theorem back5 (c : Dev nD) : (dat5 V c).arrAt 2 cfg5.N = arrRows (back (V c main_v2) (V c main_arg1)) := by
  refine (dat5 V c).arrAt_eq_of_covers 2 _ (by decide +kernel) fun t _ y => ?_
  blk_simp
  rw [after5_2]
  refine (back5_point _ _ y).trans ?_
  idx_vars y
  pointwise [blockBack, back, arrRows]
  blk_point [iblk5, idx5 t]

theorem idx6 : ∀ t : Fin cfg6.N, win6_0.index t = ![(grid6.coords t 0).val, 0] ∧ win6_1.index t = ![(grid6.coords t 0).val, 0] ∧ win6_2.index t = ![(grid6.coords t 0).val, 0] :=
  (by decide +kernel : ∀ t : Fin grid6.N, _)

theorem bend6 (c : Dev nD) : (dat6 V c).arrAt 2 cfg6.N = arrRows (bendBack (V c main_arg0) (V c main_v5)) := by
  refine (dat6 V c).arrAt_eq_of_covers 2 _ (by decide +kernel) fun t _ y => ?_
  blk_simp
  rw [after6_2]
  frame_out
  idx_vars y
  pointwise [k6_pay1, arrRows, bendBack, geluStep, innerStep, share, arc, bend, steep, half, three]
  blk_point [iblk6, idx6 t]

end Cert.GluIdeal.Whole

end
-- ==== Proof.GluWeightsThree.lean ====
/-
  The calls which make the derivatives at the weights of the first unit, whatever the arrays they read hold.
-/
module

public import proofs.«01_k».proof.Proof.GluArrays
public import proofs.«01_k».proof.Proof.Gen.GluIdeal.Frame.Region3
public import proofs.«01_k».proof.Proof.Gen.GluIdeal.Frame.Region4
public import Idealize.ShloMosaic.Lib.Pipeline.ValueKit
public import Idealize.ShloMosaic.Lib.Claim

@[expose] public section

set_option maxRecDepth 16384
noncomputable section

namespace Cert.GluIdeal.Whole

open Cert.GluIdeal Cert.GluIdeal.Gen Idealize.ShloMosaic Idealize.ShloMosaic.TcCoe Cert.Gated
open Idealize.ShloMosaic.Pipeline (Dat)

variable (V : (c : Dev nD) → (b : Ref sig .tc) → Buf (Elt Ideal) ((c : Thread nD τ).loc b))

theorem idx3 : ∀ t : Fin cfg3.N, win3_0.index t = ![0, 0] ∧ win3_1.index t = ![0, (grid3.coords t 0).val] ∧
    win3_2.index t = ![0, 1, 0, (grid3.coords t 0).val] := (by decide +kernel : ∀ t : Fin grid3.N, _)

theorem weight3_point (a : Vec Ideal S4096x1024 .bf16) (d : Vec Ideal S4096x256 .f32) (y : S4x1x256x256.Idx) :
    out3_2 a d y = blockSum a d (y 0) (y 2) (y 3) := by
  dsimp only [out3_2]
  frame_out
  canon_tiles x h
  all_goals (open_payloads; pointwise [blockSum, row]; blk_point [])

theorem weight3 (c : Dev nD) : (dat3 V c).arrAt 2 cfg3.N
    = (fun j => if (j 1 : ℕ) = 1 then weightSum (V c main_v0) (V c main_v2) (row (j 0) (j 2)) (valueCol (j 3)) else V c main_v3 j
        : FVec Ideal S4x2x256x1024 .f32) := by
  refine (dat3 V c).arrAt_eq_of_coversWhere 2 _ (fun β => (β 1 : ℕ) = 1) (by decide +kernel) (fun t hf y => ?_)
    (fun j => by blk_simp [Pipeline.Window.cell_apply]; omega)
  blk_simp
  rw [after3_2]
  refine (weight3_point _ _ y).trans ?_
  idx_vars y
  pointwise [blockSum, weightSum, row, valueCol]
  blk_point [iblk3, idx3 t]

theorem idx4 : ∀ t : Fin cfg4.N, win4_0.index t = ![0, 0] ∧ win4_1.index t = ![0, 4 + (grid4.coords t 0).val] ∧
    win4_2.index t = ![0, 1, 0, (grid4.coords t 0).val] := (by decide +kernel : ∀ t : Fin grid4.N, _)

theorem weight4_point (a : Vec Ideal S4096x1024 .bf16) (d : Vec Ideal S4096x256 .f32) (y : S4x1x256x256.Idx) :
    out4_2 a d y = blockSum a d (y 0) (y 2) (y 3) := by
  dsimp only [out4_2]
  frame_out
  canon_tiles x h
  all_goals (open_payloads; pointwise [blockSum, row]; blk_point [])

theorem weight4 (c : Dev nD) : (dat4 V c).arrAt 2 cfg4.N
    = (fun j => if (j 1 : ℕ) = 1 then weightSum (V c main_v0) (V c main_v2) (row (j 0) (j 2)) (gateCol (j 3)) else V c main_v4 j
        : FVec Ideal S4x2x256x1024 .f32) := by
  refine (dat4 V c).arrAt_eq_of_coversWhere 2 _ (fun β => (β 1 : ℕ) = 1) (by decide +kernel) (fun t hf y => ?_)
    (fun j => by blk_simp [Pipeline.Window.cell_apply]; omega)
  blk_simp
  rw [after4_2]
  refine (weight4_point _ _ y).trans ?_
  idx_vars y
  pointwise [blockSum, weightSum, row, gateCol]
  blk_point [iblk4, idx4 t]

end Cert.GluIdeal.Whole

end
-- ==== Proof.GluRowsOne.lean ====
/-
  The calls of the second unit which lead to the derivatives at its products, whatever the arrays they read hold.
-/
module

public import proofs.«01_k».proof.Proof.GluArrays
public import proofs.«01_k».proof.Proof.Gen.GluIdeal.Frame.Region7
public import proofs.«01_k».proof.Proof.Gen.GluIdeal.Frame.Region8
public import proofs.«01_k».proof.Proof.Gen.GluIdeal.Frame.Region9
public import Idealize.ShloMosaic.Lib.Pipeline.ValueKit
public import Idealize.ShloMosaic.Lib.Claim

@[expose] public section

set_option maxRecDepth 16384
noncomputable section

namespace Cert.GluIdeal.Whole

open Cert.GluIdeal Cert.GluIdeal.Gen Idealize.ShloMosaic Idealize.ShloMosaic.TcCoe Cert.Gated
open Idealize.ShloMosaic.Pipeline (Dat)

variable (V : (c : Dev nD) → (b : Ref sig .tc) → Buf (Elt Ideal) ((c : Thread nD τ).loc b))

theorem idx7 : ∀ t : Fin cfg7.N, win7_0.index t = ![(grid7.coords t 0).val, 0] ∧ win7_1.index t = ![(grid7.coords t 0).val, 0] :=
  (by decide +kernel : ∀ t : Fin grid7.N, _)

theorem gelu7 (c : Dev nD) : (dat7 V c).arrAt 1 cfg7.N = arrRows (hidOf (V c main_arg3)) := by
  refine (dat7 V c).arrAt_eq_of_covers 1 _ (by decide +kernel) fun t _ y => ?_
  blk_simp
  rw [after7_1]
  frame_out
  idx_vars y
  pointwise [k7_pay1, arrRows, hidOf, gelu, share, arc, bend, steep, half]
  blk_point [iblk7, idx7 t]

theorem idx8 : ∀ t : Fin cfg8.N, win8_0.index t = ![(grid8.coords t 0).val, 0] ∧ win8_1.index t = ![0, 0] ∧ win8_2.index t = ![(grid8.coords t 0).val, 0] :=
  (by decide +kernel : ∀ t : Fin grid8.N, _)

theorem times8_point (a : Vec Ideal S1024x1024 .bf16) (w : Vec Ideal S1024x2048 .bf16) (y : S1024x2048.Idx) :
    out8_2 a w y = blockTimes a w (y 0) (y 1) := by
  dsimp only [out8_2]
  frame_out
  canon_tiles x h
  all_goals (open_payloads; pointwise [blockTimes]; blk_point [])

theorem times8 (c : Dev nD) : (dat8 V c).arrAt 2 cfg8.N = arrWide (times (V c main_v7) (V c main_arg4)) := by
  refine (dat8 V c).arrAt_eq_of_covers 2 _ (by decide +kernel) fun t _ y => ?_
  blk_simp
  rw [after8_2]
  refine (times8_point _ _ y).trans ?_
  idx_vars y
  pointwise [blockTimes, times, arrWide]
  blk_point [iblk8, idx8 t]

theorem idx9 : ∀ t : Fin cfg9.N, win9_0.index t = ![(grid9.coords t 0).val, 0] ∧ win9_1.index t = ![(grid9.coords t 0).val, 0] ∧ win9_2.index t = ![(grid9.coords t 0).val, 0] :=
  (by decide +kernel : ∀ t : Fin grid9.N, _)

theorem split9_point (p : Vec Ideal S512x2048 .f32) (dy : Vec Ideal S512x1024 .bf16) (y : S512x2048.Idx) :
    out9_2 p dy y = atBoth (blockRow2048 p (y 0)) (blockRow1024 dy (y 0)) (y 1) := by
  dsimp only [out9_2]
  frame_out
  idx_vars y
  pointwise [k9_pay1, atBoth, atValue, atGate, beside, valueCol, gateCol, blockRow2048, blockRow1024]
  split <;> simp

theorem split9 (c : Dev nD) : (dat9 V c).arrAt 2 cfg9.N
    = arrWide fun i => atBoth (row2048 (V c main_v8) i) (row1024 (V c main_arg5) i) := by
  refine (dat9 V c).arrAt_eq_of_covers 2 _ (by decide +kernel) fun t _ y => ?_
  blk_simp
  rw [after9_2]
  refine (split9_point _ _ y).trans ?_
  idx_vars y
  show atBoth _ _ _ = atBoth _ _ _
  congr 1
  · funext j
    pointwise [blockRow2048, row2048]
    blk_point [iblk9, idx9 t]
  · funext j
    pointwise [blockRow1024, row1024]
    blk_point [iblk9, idx9 t]
  · apply Fin.ext
    blk_simp [idx9 t]

end Cert.GluIdeal.Whole

end
-- ==== Proof.GluBackOne.lean ====
/-
  The calls of the second unit which lead from the derivatives at its products to that at its rows, whatever the arrays
  they read hold.
-/
module

public import proofs.«01_k».proof.Proof.GluArrays
public import proofs.«01_k».proof.Proof.Gen.GluIdeal.Frame.Region12
public import proofs.«01_k».proof.Proof.Gen.GluIdeal.Frame.Region13
public import Idealize.ShloMosaic.Lib.Pipeline.ValueKit
public import Idealize.ShloMosaic.Lib.Claim

@[expose] public section

set_option maxRecDepth 16384
noncomputable section

namespace Cert.GluIdeal.Whole

open Cert.GluIdeal Cert.GluIdeal.Gen Idealize.ShloMosaic Idealize.ShloMosaic.TcCoe Cert.Gated
open Idealize.ShloMosaic.Pipeline (Dat)

variable (V : (c : Dev nD) → (b : Ref sig .tc) → Buf (Elt Ideal) ((c : Thread nD τ).loc b))

theorem idx12 : ∀ t : Fin cfg12.N, win12_0.index t = ![(grid12.coords t 0).val, 0] ∧ win12_1.index t = ![0, 0] ∧ win12_2.index t = ![(grid12.coords t 0).val, 0] :=
  (by decide +kernel : ∀ t : Fin grid12.N, _)

theorem back12_point (a : Vec Ideal S1024x2048 .f32) (w : Vec Ideal S1024x2048 .bf16) (y : S1024x1024.Idx) :
    out12_2 a w y = blockBack a w (y 0) (y 1) := by
  dsimp only [out12_2]
  frame_out
  canon_tiles x h
  all_goals (open_payloads; pointwise [blockBack]; blk_point [])

theorem back12 (c : Dev nD) : (dat12 V c).arrAt 2 cfg12.N = arrRows (back (V c main_v9) (V c main_arg4)) := by
  refine (dat12 V c).arrAt_eq_of_covers 2 _ (by decide +kernel) fun t _ y => ?_
  blk_simp
  rw [after12_2]
  refine (back12_point _ _ y).trans ?_
  idx_vars y
  pointwise [blockBack, back, arrRows]
  blk_point [iblk12, idx12 t]

theorem idx13 : ∀ t : Fin cfg13.N, win13_0.index t = ![(grid13.coords t 0).val, 0] ∧ win13_1.index t = ![(grid13.coords t 0).val, 0] ∧ win13_2.index t = ![(grid13.coords t 0).val, 0] :=
  (by decide +kernel : ∀ t : Fin grid13.N, _)

theorem bend13 (c : Dev nD) : (dat13 V c).arrAt 2 cfg13.N = arrRows (bendBack (V c main_arg3) (V c main_v12)) := by
  refine (dat13 V c).arrAt_eq_of_covers 2 _ (by decide +kernel) fun t _ y => ?_
  blk_simp
  rw [after13_2]
  frame_out
  idx_vars y
  pointwise [k13_pay1, arrRows, bendBack, geluStep, innerStep, share, arc, bend, steep, half, three]
  blk_point [iblk13, idx13 t]

end Cert.GluIdeal.Whole

end
-- ==== Proof.GluWeightsOne.lean ====
/-
  The calls which make the derivatives at the weights of the second unit, whatever the arrays they read hold.
-/
module

public import proofs.«01_k».proof.Proof.GluArrays
public import proofs.«01_k».proof.Proof.Gen.GluIdeal.Frame.Region10
public import proofs.«01_k».proof.Proof.Gen.GluIdeal.Frame.Region11
public import Idealize.ShloMosaic.Lib.Pipeline.ValueKit
public import Idealize.ShloMosaic.Lib.Claim

@[expose] public section

set_option maxRecDepth 16384
noncomputable section

namespace Cert.GluIdeal.Whole

open Cert.GluIdeal Cert.GluIdeal.Gen Idealize.ShloMosaic Idealize.ShloMosaic.TcCoe Cert.Gated
open Idealize.ShloMosaic.Pipeline (Dat)

variable (V : (c : Dev nD) → (b : Ref sig .tc) → Buf (Elt Ideal) ((c : Thread nD τ).loc b))

theorem idx10 : ∀ t : Fin cfg10.N, win10_0.index t = ![0, 0] ∧ win10_1.index t = ![0, (grid10.coords t 0).val] ∧
    win10_2.index t = ![0, 0, 0, (grid10.coords t 0).val] := (by decide +kernel : ∀ t : Fin grid10.N, _)

theorem weight10_point (c : Dev nD) (t : Fin cfg10.N) (y : S4x1x256x256.Idx) :
    (outsAt10 V c t) y = blockSum (iblk10 V c 0 t) (iblk10 V c 1 t) (y 0) (y 2) (y 3) := by
  dsimp only [outsAt10, out10_A_2]
  frame_out
  canon_tiles x h
  all_goals (open_payloads; pointwise [blockSum, row]; blk_point [])

theorem weight10 (c : Dev nD) : (dat10 V c).arrAt 2 cfg10.N
    = (fun j => if (j 1 : ℕ) = 0 then weightSum (V c main_v7) (V c main_v9) (row (j 0) (j 2)) (valueCol (j 3)) else V c main_v10 j
        : FVec Ideal S4x2x256x1024 .f32) := by
  refine (dat10 V c).arrAt_eq_of_coversWhere 2 _ (fun β => (β 1 : ℕ) = 0) (by decide +kernel) (fun t hf y => ?_)
    (fun j => by blk_simp [Pipeline.Window.cell_apply]; omega)
  blk_simp
  rw [after10_2]
  refine (weight10_point V c t y).trans ?_
  idx_vars y
  pointwise [blockSum, weightSum, row, valueCol]
  blk_point [iblk10, idx10 t]

theorem idx11 : ∀ t : Fin cfg11.N, win11_0.index t = ![0, 0] ∧ win11_1.index t = ![0, 4 + (grid11.coords t 0).val] ∧
    win11_2.index t = ![0, 0, 0, (grid11.coords t 0).val] := (by decide +kernel : ∀ t : Fin grid11.N, _)

theorem weight11_point (c : Dev nD) (t : Fin cfg11.N) (y : S4x1x256x256.Idx) :
    (outsAt11 V c t) y = blockSum (iblk11 V c 0 t) (iblk11 V c 1 t) (y 0) (y 2) (y 3) := by
  dsimp only [outsAt11, out11_A_2]
  frame_out
  canon_tiles x h
  all_goals (open_payloads; pointwise [blockSum, row]; blk_point [])

theorem weight11 (c : Dev nD) : (dat11 V c).arrAt 2 cfg11.N
    = (fun j => if (j 1 : ℕ) = 0 then weightSum (V c main_v7) (V c main_v9) (row (j 0) (j 2)) (gateCol (j 3)) else V c main_v11 j
        : FVec Ideal S4x2x256x1024 .f32) := by
  refine (dat11 V c).arrAt_eq_of_coversWhere 2 _ (fun β => (β 1 : ℕ) = 0) (by decide +kernel) (fun t hf y => ?_)
    (fun j => by blk_simp [Pipeline.Window.cell_apply]; omega)
  blk_simp
  rw [after11_2]
  refine (weight11_point V c t y).trans ?_
  idx_vars y
  pointwise [blockSum, weightSum, row, gateCol]
  blk_point [iblk11, idx11 t]

end Cert.GluIdeal.Whole

end
-- ==== Proof.GluResults.lean ====
/-
  What the program of the gated linear units leaves in its results: the derivatives of the two units it is given.
-/
module

public import proofs.«01_k».proof.Proof.GluRun
public import proofs.«01_k».proof.Proof.GluRowsThree
public import proofs.«01_k».proof.Proof.GluBackThree
public import proofs.«01_k».proof.Proof.GluWeightsThree
public import proofs.«01_k».proof.Proof.GluRowsOne
public import proofs.«01_k».proof.Proof.GluBackOne
public import proofs.«01_k».proof.Proof.GluWeightsOne

@[expose] public section

set_option maxRecDepth 16384
noncomputable section

namespace Cert.GluIdeal.Whole

open Cert.GluIdeal Cert.GluIdeal.Gen Idealize.ShloMosaic Idealize.ShloMosaic.TcCoe Cert.Gated

/-! ## The formulas of the calls at a unit's arrays -/

theorem weight_value (U : Glu) (k j : Fin 1024) : weightSum (arrRows U.hid) (arrWide U.dProd) k (valueCol j) = U.gradWo k j :=
  Finset.sum_congr rfl fun i _ => congrArg (U.hid i k * ·) (beside_value _ _ j)

theorem weight_gate (U : Glu) (k j : Fin 1024) : weightSum (arrRows U.hid) (arrWide U.dProd) k (gateCol j) = U.gradWg k j :=
  Finset.sum_congr rfl fun i _ => congrArg (U.hid i k * ·) (beside_gate _ _ j)

theorem back_hid (U : Glu) (w : FVec Ideal S1024x2048 .bf16) (h : ∀ k j, w (ix2 k j) = U.w k j) :
    arrRows (back (arrWide U.dProd) w) = arrRows U.dHid := by
  refine congrArg arrRows (funext fun i => funext fun k => ?_)
  rw [back, sum_cols]
  simp only [h]
  exact congrArg₂ (· + ·) (Finset.sum_congr rfl fun j _ => congrArg (· * U.w k (valueCol j)) (beside_value _ _ j))
    (Finset.sum_congr rfl fun j _ => congrArg (· * U.w k (gateCol j)) (beside_gate _ _ j))

variable (m : (ℓ : Loc nD τ sig) → Buf (Elt Ideal) ℓ) (ρ : Dev nD → PrngReg) (c : Dev nD)

/-- The two units that a core is given. -/
def later : Glu := Glu.ofArrays (m ((c : Thread nD τ).loc main_arg0)) (m ((c : Thread nD τ).loc main_arg1)) (m ((c : Thread nD τ).loc main_arg2))
def earlier : Glu := Glu.ofArrays (m ((c : Thread nD τ).loc main_arg3)) (m ((c : Thread nD τ).loc main_arg4)) (m ((c : Thread nD τ).loc main_arg5))

/-! ## The later unit -/

theorem hid1 : V1 m ρ c main_v0 = arrRows (later m c).hid :=
  (W1_arr m ρ c 1).trans (gelu0 (V0 m ρ) c)
theorem w1 : V1 m ρ c main_arg1 = m ((c : Thread nD τ).loc main_arg1) :=
  W1_args m ρ c main_arg1 (by decide)
theorem prod2 : V2 m ρ c main_v1 = arrWide (later m c).prod :=
  (W2_arr m ρ c 2).trans ((times1 (V1 m ρ) c).trans (by rw [hid1, w1]; rfl))
theorem dy2 : V2 m ρ c main_arg2 = m ((c : Thread nD τ).loc main_arg2) :=
  W2_args m ρ c main_arg2 (by decide)
theorem both3 : V3 m ρ c main_v2 = arrWide (later m c).dProd :=
  (W3_arr m ρ c 2).trans ((split2 (V2 m ρ) c).trans (by rw [prod2, dy2]; rfl))
theorem hid3' : V3 m ρ c main_v0 = arrRows (later m c).hid :=
  (W3_of m ρ c main_v0 (by decide)).trans ((W2_of m ρ c main_v0 (by decide)).trans (hid1 m ρ c))
theorem both3' : V3 m ρ c main_v2 = arrWide (later m c).dProd :=
  both3 m ρ c
theorem grad4 (j : S4x2x256x1024.Idx) (hj : (j 1 : ℕ) = 1) : V4 m ρ c main_v3 j = (later m c).gradWo (row (j 0) (j 2)) (j 3) := by
  refine (congrFun ((W4_arr m ρ c 2).trans (weight3 (V3 m ρ) c)) j).trans ((if_pos hj).trans ?_)
  rw [hid3', both3']
  exact weight_value _ _ _
theorem hid4' : V4 m ρ c main_v0 = arrRows (later m c).hid :=
  (W4_of m ρ c main_v0 (by decide)).trans ((W3_of m ρ c main_v0 (by decide)).trans ((W2_of m ρ c main_v0 (by decide)).trans (hid1 m ρ c)))
theorem both4' : V4 m ρ c main_v2 = arrWide (later m c).dProd :=
  (W4_of m ρ c main_v2 (by decide)).trans (both3 m ρ c)
theorem grad5 (j : S4x2x256x1024.Idx) (hj : (j 1 : ℕ) = 1) : V5 m ρ c main_v4 j = (later m c).gradWg (row (j 0) (j 2)) (j 3) := by
  refine (congrFun ((W5_arr m ρ c 2).trans (weight4 (V4 m ρ) c)) j).trans ((if_pos hj).trans ?_)
  rw [hid4', both4']
  exact weight_gate _ _ _
theorem both5' : V5 m ρ c main_v2 = arrWide (later m c).dProd :=
  (W5_of m ρ c main_v2 (by decide)).trans ((W4_of m ρ c main_v2 (by decide)).trans (both3 m ρ c))
theorem w5 : V5 m ρ c main_arg1 = m ((c : Thread nD τ).loc main_arg1) :=
  W5_args m ρ c main_arg1 (by decide)
theorem dHid6 : V6 m ρ c main_v5 = arrRows (later m c).dHid :=
  (W6_arr m ρ c 2).trans ((back5 (V5 m ρ) c).trans (by rw [both5', w5]; exact back_hid _ _ fun _ _ => rfl))
theorem x6' : V6 m ρ c main_arg0 = m ((c : Thread nD τ).loc main_arg0) :=
  W6_args m ρ c main_arg0 (by decide)
theorem dx7 : V7 m ρ c main_v6 = arrRows (later m c).gradX :=
  (W7_arr m ρ c 2).trans ((bend6 (V6 m ρ) c).trans (by rw [x6', dHid6]; rfl))

/-! ## The earlier unit -/

theorem x7 : V7 m ρ c main_arg3 = m ((c : Thread nD τ).loc main_arg3) :=
  W7_args m ρ c main_arg3 (by decide)
theorem hid8 : V8 m ρ c main_v7 = arrRows (earlier m c).hid :=
  (W8_arr m ρ c 1).trans ((gelu7 (V7 m ρ) c).trans (by rw [x7]; rfl))
theorem w8 : V8 m ρ c main_arg4 = m ((c : Thread nD τ).loc main_arg4) :=
  W8_args m ρ c main_arg4 (by decide)
theorem prod9 : V9 m ρ c main_v8 = arrWide (earlier m c).prod :=
  (W9_arr m ρ c 2).trans ((times8 (V8 m ρ) c).trans (by rw [hid8, w8]; rfl))
theorem dy9 : V9 m ρ c main_arg5 = m ((c : Thread nD τ).loc main_arg5) :=
  W9_args m ρ c main_arg5 (by decide)
theorem both10 : V10 m ρ c main_v9 = arrWide (earlier m c).dProd :=
  (W10_arr m ρ c 2).trans ((split9 (V9 m ρ) c).trans (by rw [prod9, dy9]; rfl))
theorem hid11' : V11 m ρ c main_v7 = arrRows (earlier m c).hid :=
  (W11_of m ρ c main_v7 (by decide)).trans ((W10_of m ρ c main_v7 (by decide)).trans ((W9_of m ρ c main_v7 (by decide)).trans (hid8 m ρ c)))
theorem both11' : V11 m ρ c main_v9 = arrWide (earlier m c).dProd :=
  (W11_of m ρ c main_v9 (by decide)).trans (both10 m ρ c)
theorem old11 : V11 m ρ c main_v10 = V4 m ρ c main_v3 := by
  refine Eq.trans ?_ ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans (rfl)))))))
  show W11 m ρ c _ = _
  unfold W11
  after_results
  rfl
theorem pair12 : V12 m ρ c main_v10 = arrPair (earlier m c).gradWo (later m c).gradWo := by
  refine ((W12_arr m ρ c 2).trans (weight10 (V11 m ρ) c)).trans (funext fun j => ?_)
  by_cases hj : (j 1 : ℕ) = 0
  · refine (if_pos hj).trans (Eq.trans ?_ (if_pos hj).symm)
    rw [hid11', both11']
    exact weight_value _ _ _
  · refine (if_neg hj).trans (Eq.trans ?_ (if_neg hj).symm)
    rw [old11]
    exact grad4 m ρ c j (by have := (j 1).isLt; change (j 1 : ℕ) < 2 at this; omega)
theorem hid13' : V13 m ρ c main_v7 = arrRows (earlier m c).hid :=
  (W13_of m ρ c main_v7 (by decide)).trans ((W12_of m ρ c main_v7 (by decide)).trans ((W11_of m ρ c main_v7 (by decide)).trans ((W10_of m ρ c main_v7 (by decide)).trans ((W9_of m ρ c main_v7 (by decide)).trans (hid8 m ρ c)))))
theorem both13' : V13 m ρ c main_v9 = arrWide (earlier m c).dProd :=
  (W13_of m ρ c main_v9 (by decide)).trans ((W12_of m ρ c main_v9 (by decide)).trans ((W11_of m ρ c main_v9 (by decide)).trans (both10 m ρ c)))
theorem old13 : V13 m ρ c main_v11 = V5 m ρ c main_v4 := by
  refine Eq.trans ?_ ((W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans (rfl))))))))
  show W13 m ρ c _ = _
  unfold W13
  after_results
  rfl
theorem pair14 : V14 m ρ c main_v11 = arrPair (earlier m c).gradWg (later m c).gradWg := by
  refine ((W14_arr m ρ c 2).trans (weight11 (V13 m ρ) c)).trans (funext fun j => ?_)
  by_cases hj : (j 1 : ℕ) = 0
  · refine (if_pos hj).trans (Eq.trans ?_ (if_pos hj).symm)
    rw [hid13', both13']
    exact weight_gate _ _ _
  · refine (if_neg hj).trans (Eq.trans ?_ (if_neg hj).symm)
    rw [old13]
    exact grad5 m ρ c j (by have := (j 1).isLt; change (j 1 : ℕ) < 2 at this; omega)
theorem both14' : V14 m ρ c main_v9 = arrWide (earlier m c).dProd :=
  (W14_of m ρ c main_v9 (by decide)).trans ((W13_of m ρ c main_v9 (by decide)).trans ((W12_of m ρ c main_v9 (by decide)).trans ((W11_of m ρ c main_v9 (by decide)).trans (both10 m ρ c))))
theorem w14 : V14 m ρ c main_arg4 = m ((c : Thread nD τ).loc main_arg4) :=
  W14_args m ρ c main_arg4 (by decide)
theorem dHid15 : V15 m ρ c main_v12 = arrRows (earlier m c).dHid :=
  (W15_arr m ρ c 2).trans ((back12 (V14 m ρ) c).trans (by rw [both14', w14]; exact back_hid _ _ fun _ _ => rfl))
theorem x15' : V15 m ρ c main_arg3 = m ((c : Thread nD τ).loc main_arg3) :=
  W15_args m ρ c main_arg3 (by decide)
theorem dx16 : V16 m ρ c main_v13 = arrRows (earlier m c).gradX :=
  (W16_arr m ρ c 2).trans ((bend13 (V15 m ρ) c).trans (by rw [x15', dHid15]; rfl))

/-! ## At the end -/

theorem out_x1 : W16 m ρ c (Proc.devRef .tc main_v6) = arrRows (later m c).gradX :=
  (W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans (dx7 m ρ c)))))))))
theorem out_x0 : W16 m ρ c (Proc.devRef .tc main_v13) = arrRows (earlier m c).gradX :=
  dx16 m ρ c
theorem out_wo : W16 m ρ c (Proc.devRef .tc main_v10) = arrPair (earlier m c).gradWo (later m c).gradWo :=
  (W16_of m ρ c main_v10 (by decide)).trans ((W15_of m ρ c main_v10 (by decide)).trans ((W14_of m ρ c main_v10 (by decide)).trans ((W13_of m ρ c main_v10 (by decide)).trans (pair12 m ρ c))))
theorem out_wg : W16 m ρ c (Proc.devRef .tc main_v11) = arrPair (earlier m c).gradWg (later m c).gradWg :=
  (W16_of m ρ c main_v11 (by decide)).trans ((W15_of m ρ c main_v11 (by decide)).trans (pair14 m ρ c))

end Cert.GluIdeal.Whole

end
-- ==== Proof.GluStages.lean ====
/-
  The operations of the reference of the gated linear units, named.
-/
module

public import proofs.«01_k».proof.Proof.Gen.GluReferenceIdeal.Run
public import proofs.«01_k».proof.Proof.Gated
public import Idealize.ShloMosaic.Lib.Claim

@[expose] public section

set_option maxRecDepth 16384
noncomputable section

namespace Cert.GluReferenceIdeal.Stage

open Cert.GluReferenceIdeal Cert.GluReferenceIdeal.Gen Idealize.ShloMosaic Idealize.ShloMosaic.TcCoe Cert.Gated

section
variable (x : FVec Ideal S4096x1024 .f32) (w : FVec Ideal S1024x2048 .bf16) (dy : FVec Ideal S4096x1024 .bf16)

/-- A number at every place. -/
def all (b : BitVec 32) : FVec Ideal S4096x1024 .f32 := broadcastInDim S4096x1024 ![] bcast_S_S4096x1024 (constant S_ .f32 b)

def arcs : FVec Ideal S4096x1024 .f32 :=
  Host.tanh (mulf (all 0x3F4C422A#32) (addf x (mulf (all 0x3D372713#32) (mulf (mulf x x) x))))

def shares : FVec Ideal S4096x1024 .f32 := mulf (all 0x3F000000#32) (addf (all 0x3F800000#32) (arcs x))

def hid : FVec Ideal S4096x1024 .f32 := mulf x (shares x)

/-- The two weights. -/
def wo : FVec Ideal S1024x1024 .f32 := extractStridedSlice S1024x1024 ![0, 0] (extf .f32 w bitsLt_bf16_f32) slices_S1024x2048_S1024x1024_0_0
def wg : FVec Ideal S1024x1024 .f32 :=
  extractStridedSlice S1024x1024 ![0, 1024] (extf .f32 w bitsLt_bf16_f32) slices_S1024x2048_S1024x1024_0_1024

def value : FVec Ideal S4096x1024 .f32 := Host.dotGeneral dot_S4096x1024_S1024x1024_S4096x1024_1_0_0_1_n_n none (hid x) (wo w)

def opening : FVec Ideal S4096x1024 .f32 :=
  Host.divf (all 0x3F800000#32) (addf (all 0x3F800000#32)
    (Host.exp (Host.negf (Host.dotGeneral dot_S4096x1024_S1024x1024_S4096x1024_1_0_0_1_n_n none (hid x) (wg w)))))

/-- The derivatives at the two products, and at the hidden rows. -/
def dValue : FVec Ideal S4096x1024 .f32 := mulf (extf .f32 dy bitsLt_bf16_f32) (opening x w)

def dGate : FVec Ideal S4096x1024 .f32 :=
  mulf (mulf (value x w) (extf .f32 dy bitsLt_bf16_f32)) (mulf (opening x w) (subf (all 0x3F800000#32) (opening x w)))

def dHid : FVec Ideal S4096x1024 .f32 :=
  addf (Host.dotGeneral dot_S4096x1024_S1024x1024_S4096x1024_1_1_0_0_n_n none (dGate x w dy) (wg w))
    (Host.dotGeneral dot_S4096x1024_S1024x1024_S4096x1024_1_1_0_0_n_n none (dValue x w dy) (wo w))

/-- The derivative of the curve, from that at its value. -/
def curve (g : FVec Ideal S4096x1024 .f32) : FVec Ideal S4096x1024 .f32 :=
  mulf (all 0x3F4C422A#32) (mulf (mulf (all 0x3F000000#32) (mulf x g))
    (mulf (addf (all 0x3F800000#32) (arcs x)) (subf (all 0x3F800000#32) (arcs x))))

def gradX : FVec Ideal S4096x1024 .f32 :=
  addf (addf (mulf (dHid x w dy) (shares x)) (curve x (dHid x w dy)))
    (mulf (mulf (all 0x3D372713#32) (curve x (dHid x w dy))) (mulf (all 0x40400000#32) (mulf x x)))

/-- The derivative at a weight, from that at its product. -/
def gradW (d : FVec Ideal S4096x1024 .f32) : FVec Ideal S1024x1024 .f32 :=
  transpose S1024x1024 [1, 0] (Host.dotGeneral dot_S4096x1024_S4096x1024_S1024x1024_0_0_1_1_n_n none d (hid x)) transposes_S1024x1024_S1024x1024_1_0

/-- The derivatives of two units in four parts of their rows. -/
def pair (g₀ g₁ : FVec Ideal S1024x1024 .f32) : FVec Ideal S4x2x256x1024 .f32 :=
  concatenate S4x2x256x1024 1 [⟨S4x1x256x1024, shapeCast _ g₀ shapeCasts_S1024x1024_S4x1x256x1024⟩,
    ⟨S4x1x256x1024, shapeCast _ g₁ shapeCasts_S1024x1024_S4x1x256x1024⟩] concatenates_S4x1x256x1024_S4x1x256x1024_S4x2x256x1024_d1

end

section
variable (m : (ℓ : Loc nD τ sig) → Buf (Elt Ideal) ℓ) (c : Dev nD)

/-- The arguments: those of the later unit and those of the earlier one. -/
def x₁ : FVec Ideal S4096x1024 .f32 := m ((c.tc : Thread nD τ).loc main_arg0)
def w₁ : FVec Ideal S1024x2048 .bf16 := m ((c.tc : Thread nD τ).loc main_arg1)
def dy₁ : FVec Ideal S4096x1024 .bf16 := m ((c.tc : Thread nD τ).loc main_arg2)
def x₀ : FVec Ideal S4096x1024 .f32 := m ((c.tc : Thread nD τ).loc main_arg3)
def w₀ : FVec Ideal S1024x2048 .bf16 := m ((c.tc : Thread nD τ).loc main_arg4)
def dy₀ : FVec Ideal S4096x1024 .bf16 := m ((c.tc : Thread nD τ).loc main_arg5)

theorem out0 : Value.res_main_v58 m c = gradX (x₁ m c) (w₁ m c) (dy₁ m c) := rfl
theorem out1 : Value.res_main_v117 m c = gradX (x₀ m c) (w₀ m c) (dy₀ m c) := rfl
theorem out3 : Value.res_main_v123 m c = pair (gradW (x₀ m c) (dGate (x₀ m c) (w₀ m c) (dy₀ m c)))
    (gradW (x₁ m c) (dGate (x₁ m c) (w₁ m c) (dy₁ m c))) := rfl

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v58) = gradX (x₁ m c) (w₁ m c) (dy₁ m c)
    ∧ r.2.mem ((c.tc : Thread nD τ).loc main_v117) = gradX (x₀ m c) (w₀ m c) (dy₀ m c)
    ∧ r.2.mem ((c.tc : Thread nD τ).loc main_v120)
      = pair (gradW (x₀ m c) (dValue (x₀ m c) (w₀ m c) (dy₀ m c))) (gradW (x₁ m c) (dValue (x₁ m c) (w₁ m c) (dy₁ m c)))
    ∧ r.2.mem ((c.tc : Thread nD τ).loc main_v123)
      = pair (gradW (x₀ m c) (dGate (x₀ m c) (w₀ m c) (dy₀ m c))) (gradW (x₁ m c) (dGate (x₁ m c) (w₁ m c) (dy₁ m c)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => by
    obtain ⟨h0, h1, h2, h3, ha⟩ := h c
    exact ⟨h0.trans (out0 m c), h1.trans (out1 m c), h2, h3.trans (out3 m c), ha⟩) (Value.run (F := Ideal) m ρ)

end

end Cert.GluReferenceIdeal.Stage

end
-- ==== Proof.GluStagesAt.lean ====
/-
  The operations of the reference of the gated linear units read at an index: they are the units' formulas.
-/
module

public import proofs.«01_k».proof.Proof.GluStages

@[expose] public section

set_option maxRecDepth 16384
noncomputable section

namespace Cert.GluReferenceIdeal.Stage

open Cert.GluReferenceIdeal Cert.GluReferenceIdeal.Gen Idealize.ShloMosaic Idealize.ShloMosaic.TcCoe Cert.Gated

section
variable (x : FVec Ideal S4096x1024 .f32) (w : FVec Ideal S1024x2048 .bf16) (dy : FVec Ideal S4096x1024 .bf16)

/-- The unit given. -/
abbrev given : Glu := Glu.ofArrays x w dy

theorem arcs_at (i : Fin 4096) (k : Fin 1024) : arcs x (ix2 i k) = arc (x (ix2 i k)) := by
  pointwise [arcs, all, arc, steep, bend]
  rw [mul_comm (x (ix2 i k)) (x (ix2 i k) * x (ix2 i k))]

theorem shares_at (i : Fin 4096) (k : Fin 1024) : shares x (ix2 i k) = share (x (ix2 i k)) := by
  pointwise [shares, all, share, half]
  rw [arcs_at]

theorem hid_at (i : Fin 4096) (k : Fin 1024) : hid x (ix2 i k) = (given x w dy).hid i k := by
  pointwise [hid]
  rw [shares_at]
  rfl

theorem wo_at (k j : Fin 1024) : wo w (ix2 k j) = w (ix2 k (valueCol j)) := by
  pointwise [wo, valueCol]

theorem wg_at (k j : Fin 1024) : wg w (ix2 k j) = w (ix2 k (gateCol j)) := by
  pointwise [wg, gateCol]

theorem value_at (i : Fin 4096) (j : Fin 1024) : value x w (ix2 i j) = (given x w dy).prod i (valueCol j) := by
  pointwise [value]
  simp only [wo_at, hid_at x w dy]
  rfl

theorem opening_at (i : Fin 4096) (j : Fin 1024) : opening x w (ix2 i j) = (given x w dy).gate i j := by
  pointwise [opening, all]
  simp only [wg_at, hid_at x w dy]
  rfl

theorem dValue_at (i : Fin 4096) (j : Fin 1024) : dValue x w dy (ix2 i j) = (given x w dy).dValue i j := by
  pointwise [dValue]
  rw [opening_at x w dy]
  rfl

theorem dGate_at (i : Fin 4096) (j : Fin 1024) : dGate x w dy (ix2 i j) = (given x w dy).dGate i j := by
  pointwise [dGate, all]
  rw [opening_at x w dy, value_at x w dy]
  rfl

theorem dHid_at (i : Fin 4096) (k : Fin 1024) : dHid x w dy (ix2 i k) = (given x w dy).dHid i k := by
  pointwise [dHid]
  simp only [wo_at, wg_at, dGate_at x w dy, dValue_at x w dy]
  exact add_comm _ _

theorem curve_at (g : FVec Ideal S4096x1024 .f32) (i : Fin 4096) (k : Fin 1024) :
    curve x g (ix2 i k) = innerStep (x (ix2 i k)) (g (ix2 i k)) := by
  pointwise [curve, all, innerStep, steep, half]
  rw [arcs_at]

theorem gradX_eq : gradX x w dy = arrRows (given x w dy).gradX := by
  funext j
  idx_vars j
  pointwise [gradX, all, arrRows, Glu.gradX, geluStep, bend, three]
  rw [curve_at, dHid_at, shares_at]
  rfl

theorem gradWo_at (k j : Fin 1024) : gradW x (dValue x w dy) (ix2 k j) = (given x w dy).gradWo k j := by
  pointwise [gradW]
  simp only [dValue_at, hid_at x w dy]
  exact Finset.sum_congr rfl fun i _ => mul_comm _ _

theorem gradWg_at (k j : Fin 1024) : gradW x (dGate x w dy) (ix2 k j) = (given x w dy).gradWg k j := by
  pointwise [gradW]
  simp only [dGate_at, hid_at x w dy]
  exact Finset.sum_congr rfl fun i _ => mul_comm _ _

end

/-- The two stacked gradients, by their entries. -/
theorem pair_eq (g₀ g₁ : FVec Ideal S1024x1024 .f32) (G₀ G₁ : Fin 1024 → Fin 1024 → EReal)
    (h₀ : ∀ k j, g₀ (ix2 k j) = G₀ k j) (h₁ : ∀ k j, g₁ (ix2 k j) = G₁ k j) : pair g₀ g₁ = arrPair G₀ G₁ := by
  funext j
  idx_vars j
  pointwise [pair, arrPair]
  rw [← h₀, ← h₁]
  have hu : (⟨(j0 : ℕ) * 256 + j2, by omega⟩ : Fin 1024) = row j0 j2 := Fin.ext (by simp only [row]; omega)
  split
  · exact (congrArg (fun b => g₀ (ix2 b j3)) hu).trans (if_pos (c := (j1 : ℕ) = 0) (by omega)).symm
  · exact (congrArg (fun b => g₁ (ix2 b j3)) hu).trans (if_neg (c := (j1 : ℕ) = 0) (by omega)).symm

end Cert.GluReferenceIdeal.Stage

end
-- ==== Proof.Glu.lean ====
/-
  The five claims about the gated linear units: the three frames, the ledger, and the equation of the kernel with the
  reference.
-/
module

public import proofs.«01_k».proof.Defs
public import proofs.«01_k».proof.Proof.Gen.Glu.Frame
public import proofs.«01_k».proof.Proof.GluResults
public import proofs.«01_k».proof.Proof.GluStagesAt

@[expose] public section

noncomputable section

namespace Cert.GluClaims

open Idealize.ShloMosaic Idealize.ShloMosaic.TcCoe Idealize.SL.Sem Cert.Gated

theorem frame_p : Cert.quiescent_Glu := fun m ρ _ => Cert.Glu.Gen.frame m ρ

theorem frame_pi : Cert.quiescent_GluIdeal := fun m ρ _ => Cert.GluIdeal.Gen.frame m ρ

theorem frame_ri : Cert.quiescent_GluReferenceIdeal := fun m ρ _ =>
  (θ_run Cert.GluReferenceIdeal.defs _ _).mono
    (fun r h => ⟨fun c => (h c).2.2.2.2, sem_eq_zero_of_no_sems (by decide) r.2⟩)
    (Cert.GluReferenceIdeal.Value.run (F := Ideal) m ρ)

theorem preserves : Cert.preserves_Glu_GluIdeal := trivial

section
open Cert.GluIdeal Cert.GluIdeal.Whole

theorem algebraic : Cert.algebraic_GluIdeal_GluReferenceIdeal := by
  intro m ρ m' ρ' _ hag
  have e1 : ∀ c : Dev nD, Cert.GluReferenceIdeal.Stage.given (Cert.GluReferenceIdeal.Stage.x₁ m' c)
      (Cert.GluReferenceIdeal.Stage.w₁ m' c) (Cert.GluReferenceIdeal.Stage.dy₁ m' c) = later m c := fun c => by
    obtain ⟨h0, h1, h2, -, -, -⟩ := hag c
    simp only [Cert.GluReferenceIdeal.Stage.x₁, Cert.GluReferenceIdeal.Stage.w₁, Cert.GluReferenceIdeal.Stage.dy₁, later]
    rw [h0, h1, h2]
  have e0 : ∀ c : Dev nD, Cert.GluReferenceIdeal.Stage.given (Cert.GluReferenceIdeal.Stage.x₀ m' c)
      (Cert.GluReferenceIdeal.Stage.w₀ m' c) (Cert.GluReferenceIdeal.Stage.dy₀ m' c) = earlier m c := fun c => by
    obtain ⟨-, -, -, h3, h4, h5⟩ := hag c
    simp only [Cert.GluReferenceIdeal.Stage.x₀, Cert.GluReferenceIdeal.Stage.w₀, Cert.GluReferenceIdeal.Stage.dy₀, earlier]
    rw [h3, h4, h5]
  refine ⟨fun c => arrRows (later m c).gradX, fun c => arrRows (earlier m c).gradX,
    fun c => arrPair (earlier m c).gradWo (later m c).gradWo, fun c => arrPair (earlier m c).gradWg (later m c).gradWg, ?_, ?_⟩
  · refine (θ_run defs _ _).mono (fun r h c => ?_) (run m ρ)
    exact ⟨(h c main_v6 (by decide)).trans (out_x1 m ρ c), (h c main_v13 (by decide)).trans (out_x0 m ρ c),
      (h c main_v10 (by decide)).trans (out_wo m ρ c), (h c main_v11 (by decide)).trans (out_wg m ρ c),
      (h c main_arg0 (by decide)).trans (Gen.W16_main_arg0 m ρ c),
      (h c main_arg1 (by decide)).trans (Gen.W16_main_arg1 m ρ c),
      (h c main_arg2 (by decide)).trans (Gen.W16_main_arg2 m ρ c),
      (h c main_arg3 (by decide)).trans (Gen.W16_main_arg3 m ρ c),
      (h c main_arg4 (by decide)).trans (Gen.W16_main_arg4 m ρ c),
      (h c main_arg5 (by decide)).trans (Gen.W16_main_arg5 m ρ c)⟩
  · refine (θ_run Cert.GluReferenceIdeal.defs _ _).mono (fun r h c => ?_) (Cert.GluReferenceIdeal.Stage.run m' ρ')
    obtain ⟨h0, h1, h2, h3, ha⟩ := h c
    refine ⟨h0.trans ?_, h1.trans ?_, h2.trans ?_, h3.trans ?_, ha⟩
    · rw [Cert.GluReferenceIdeal.Stage.gradX_eq]
      exact congrArg (fun U => arrRows (Glu.gradX U)) (e1 c)
    · rw [Cert.GluReferenceIdeal.Stage.gradX_eq]
      exact congrArg (fun U => arrRows (Glu.gradX U)) (e0 c)
    · rw [Cert.GluReferenceIdeal.Stage.pair_eq _ _ _ _ (Cert.GluReferenceIdeal.Stage.gradWo_at _ _ _)
        (Cert.GluReferenceIdeal.Stage.gradWo_at _ _ _)]
      exact congrArg₂ (fun U W => arrPair (Glu.gradWo U) (Glu.gradWo W)) (e0 c) (e1 c)
    · rw [Cert.GluReferenceIdeal.Stage.pair_eq _ _ _ _ (Cert.GluReferenceIdeal.Stage.gradWg_at _ _ _)
        (Cert.GluReferenceIdeal.Stage.gradWg_at _ _ _)]
      exact congrArg₂ (fun U W => arrPair (Glu.gradWg U) (Glu.gradWg W)) (e0 c) (e1 c)

end

end Cert.GluClaims

end
-- ==== Proof.CrossRun.lean ====
/-
  The program of the cross-attention runs to its end: what every buffer of a core holds there. Its calls run one after the
  other, and the contents after the last of them are the fold of them over the launch contents.
-/
module

public import proofs.«01_k».proof.Proof.Gen.CrossIdeal.Frame
public import Idealize.ShloMosaic.Lib.Pointwise

@[expose] public section

noncomputable section

namespace Cert.CrossIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.CrossIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W5 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W5 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W5 m ρ c) s)
    isplitl [Hbufs] <;> iassumption

end Cert.CrossIdeal.Whole

end
-- ==== Proof.Attend.lean ====
/-
  Attention of one row over a memory of 256 rows, in four heads of 256 columns, as formulas.
-/
module

public import proofs.«01_k».proof.Proof.Gated
public import Idealize.ShloMosaic.Lib.Pointwise

@[expose] public section

noncomputable section

namespace Cert.Attend

open Idealize.ShloMosaic Idealize.ShloMosaic.TcCoe
open Cert.Gated (row)

/-- A column of a head. -/
def col (h : Fin 4) (d : Fin 256) : Fin 1024 := ⟨256 * h.val + d.val, by omega⟩

/-- The head of a column. -/
def headOf (j : Fin 1024) : Fin 4 := ⟨j.val / 256, by omega⟩

/-- A column of the keys and of the values, in an array of the keys beside the values. -/
def keyCol (j : Fin 1024) : Fin 2048 := ⟨j.val, by omega⟩
def valCol (j : Fin 1024) : Fin 2048 := ⟨1024 + j.val, by omega⟩

/-- One over the square root of the width of a head. -/
def scale : EReal := Ideal.ofBits .f32 0x3D800000#32

section
variable (q : Fin 1024 → EReal) (kv : Fin 256 → Fin 2048 → EReal) (h : Fin 4)

/-- The scaled score of a row of the memory, the greatest score, and the weights before and after normalisation. -/
def score (n : Fin 256) : EReal := (∑ d : Fin 256, q (col h d) * kv n (keyCol (col h d))) * scale
def top : EReal := Finset.univ.fold max ⊥ fun n => score q kv h n
def weight (n : Fin 256) : EReal := Ideal.exp (score q kv h n - top q kv h)
def part (n : Fin 256) : EReal := Ideal.div (weight q kv h n) (∑ n, weight q kv h n)

/-- The output at a column. -/
def attend (j : Fin 1024) : EReal := ∑ n : Fin 256, part q kv (headOf j) n * kv n (valCol j)
end

/-- Four layers' gradients in four parts of their rows, as an array. -/
def arrFour (g : Fin 4 → Fin 1024 → Fin 1024 → EReal) : (⟨4, ![4, 4, 256, 1024]⟩ : Shape).Idx → EReal :=
  fun j => g (j 1) (row (j 0) (j 2)) (j 3)

end Cert.Attend

end
-- ==== Proof.CrossHead.lean ====
/-
  The attention call on one block of 512 rows: its stored block is the attention of each row over the memory.
-/
module

public import proofs.«01_k».proof.Proof.Gen.CrossIdeal.Frame
public import proofs.«01_k».proof.Proof.Attend
public import proofs.«01_k».proof.Proof.Head
public import Idealize.ShloMosaic.Lib.Pipeline.ValueKit
public import Idealize.ShloMosaic.Lib.Claim

@[expose] public section

set_option maxRecDepth 16384
noncomputable section

namespace Cert.CrossIdeal.Whole

open Cert.CrossIdeal Cert.CrossIdeal.Gen Idealize.ShloMosaic Idealize.ShloMosaic.TcCoe Cert.Attend

/-! ## One head, from its slices -/

section
variable (q : FVec Ideal S512x256 .bf16) (k v : FVec Ideal S256x256 .bf16)

def scores : FVec Ideal S512x256 .f32 :=
  mulf (matmul dot_S512x256_S256x256_S512x256_1_1_0_0_n_n none q k (constant S512x256 .f32 0x00000000#32))
    (broadcast S512x256 (Scalar.ofBits .f32 0x3D800000#32))

def weights : FVec Ideal S512x256 .f32 :=
  exp (subf (scores q k) (broadcastTo S512x256 (shapeCast S512x1
    (multiReduction .maximumf [1] S512 (scores q k) 0xFF800000#32 reduces_S512x256_S512 (.inl rfl) rfl) shapeCasts_S512_S512x1) broadcasts_S512x1_S512x256))

def parts : FVec Ideal S512x256 .f32 :=
  divf (weights q k) (broadcastTo S512x256 (shapeCast S512x1
    (multiReduction .add [1] S512 (weights q k) 0x00000000#32 reduces_S512x256_S512 (.inl rfl) rfl) shapeCasts_S512_S512x1) broadcasts_S512x1_S512x256)

def mixed : FVec Ideal S512x256 .f32 :=
  matmul dot_S512x256_S256x256_S512x256_1_0_0_1_n_n none (truncf .bf16 (parts q k) bitsLt_bf16_f32) v (constant S512x256 .f32 0x00000000#32)

/-- A row's queries and the memory's keys beside its values, of which the slices are those of head `h`. -/
structure IsHead (h : Fin 4) (a : Fin 512) (Q : Fin 1024 → EReal) (KV : Fin 256 → Fin 2048 → EReal) : Prop where
  q : ∀ d, q (ix2 a d) = Q (col h d)
  k : ∀ n d, k (ix2 n d) = KV n (keyCol (col h d))
  v : ∀ n d, v (ix2 n d) = KV n (valCol (col h d))

variable {q k v} {h : Fin 4} {a : Fin 512} {Q : Fin 1024 → EReal} {KV : Fin 256 → Fin 2048 → EReal}

theorem scores_at (H : IsHead q k v h a Q KV) (n : Fin 256) : scores q k (ix2 a n) = score Q KV h n := by
  pointwise [scores]
  simp only [H.q, H.k]
  rfl

theorem weights_at (H : IsHead q k v h a Q KV) (n : Fin 256) : weights q k (ix2 a n) = weight Q KV h n := by
  pointwise [weights]
  simp only [scores_at H]
  rw [Cert.Attention.ofBits_neg_inf]
  rfl

theorem parts_at (H : IsHead q k v h a Q KV) (n : Fin 256) : parts q k (ix2 a n) = part Q KV h n := by
  pointwise [parts]
  simp only [weights_at H]
  rfl

theorem mixed_at (H : IsHead q k v h a Q KV) (d : Fin 256) :
    mixed q k v (ix2 a d) = ∑ n : Fin 256, part Q KV h n * KV n (valCol (col h d)) := by
  pointwise [mixed]
  simp only [parts_at H, H.v]
end

/-! ## The block -/

section
variable (x : FVec Ideal S512x1024 .bf16) (y : FVec Ideal S256x2048 .f32)

def blockRow (a : Fin 512) : Fin 1024 → EReal := fun j => x (ix2 a j)
def memory : Fin 256 → Fin 2048 → EReal := fun n j => y (ix2 n j)

def q0 : FVec Ideal S512x256 .bf16 := extractStridedSlice S512x256 ![0, 0] x slices_S512x1024_o0_0_S512x256
def k0 : FVec Ideal S256x256 .bf16 := truncf .bf16 (extractStridedSlice S256x256 ![0, 0] y slices_S256x2048_o0_0_S256x256) bitsLt_bf16_f32
def v0 : FVec Ideal S256x256 .bf16 := truncf .bf16 (extractStridedSlice S256x256 ![0, 1024] y slices_S256x2048_o0_1024_S256x256) bitsLt_bf16_f32

theorem isHead0 (a : Fin 512) : IsHead (q0 x) (k0 y) (v0 y) 0 a (blockRow x a) (memory y) where
  q d := by pointwise [q0, blockRow, col]
  k n d := by pointwise [k0, memory, keyCol, col]
  v n d := by
    pointwise [v0, memory, valCol, col]

def q1 : FVec Ideal S512x256 .bf16 := extractStridedSlice S512x256 ![0, 256] x slices_S512x1024_o0_256_S512x256
def k1 : FVec Ideal S256x256 .bf16 := truncf .bf16 (extractStridedSlice S256x256 ![0, 256] y slices_S256x2048_o0_256_S256x256) bitsLt_bf16_f32
def v1 : FVec Ideal S256x256 .bf16 := truncf .bf16 (extractStridedSlice S256x256 ![0, 1280] y slices_S256x2048_o0_1280_S256x256) bitsLt_bf16_f32

theorem isHead1 (a : Fin 512) : IsHead (q1 x) (k1 y) (v1 y) 1 a (blockRow x a) (memory y) where
  q d := by pointwise [q1, blockRow, col]
  k n d := by pointwise [k1, memory, keyCol, col]
  v n d := by
    pointwise [v1, memory, valCol, col]
    exact congrArg (fun e => y (ix2 n e)) (Fin.ext (by show 1280 + d.val = 1024 + (256 + d.val); omega))

def q2 : FVec Ideal S512x256 .bf16 := extractStridedSlice S512x256 ![0, 512] x slices_S512x1024_o0_512_S512x256
def k2 : FVec Ideal S256x256 .bf16 := truncf .bf16 (extractStridedSlice S256x256 ![0, 512] y slices_S256x2048_o0_512_S256x256) bitsLt_bf16_f32
def v2 : FVec Ideal S256x256 .bf16 := truncf .bf16 (extractStridedSlice S256x256 ![0, 1536] y slices_S256x2048_o0_1536_S256x256) bitsLt_bf16_f32

theorem isHead2 (a : Fin 512) : IsHead (q2 x) (k2 y) (v2 y) 2 a (blockRow x a) (memory y) where
  q d := by pointwise [q2, blockRow, col]
  k n d := by pointwise [k2, memory, keyCol, col]
  v n d := by
    pointwise [v2, memory, valCol, col]
    exact congrArg (fun e => y (ix2 n e)) (Fin.ext (by show 1536 + d.val = 1024 + (512 + d.val); omega))

def q3 : FVec Ideal S512x256 .bf16 := extractStridedSlice S512x256 ![0, 768] x slices_S512x1024_o0_768_S512x256
def k3 : FVec Ideal S256x256 .bf16 := truncf .bf16 (extractStridedSlice S256x256 ![0, 768] y slices_S256x2048_o0_768_S256x256) bitsLt_bf16_f32
def v3 : FVec Ideal S256x256 .bf16 := truncf .bf16 (extractStridedSlice S256x256 ![0, 1792] y slices_S256x2048_o0_1792_S256x256) bitsLt_bf16_f32

theorem isHead3 (a : Fin 512) : IsHead (q3 x) (k3 y) (v3 y) 3 a (blockRow x a) (memory y) where
  q d := by pointwise [q3, blockRow, col]
  k n d := by pointwise [k3, memory, keyCol, col]
  v n d := by
    pointwise [v3, memory, valCol, col]
    exact congrArg (fun e => y (ix2 n e)) (Fin.ext (by show 1792 + d.val = 1024 + (768 + d.val); omega))

/-- The four heads side by side. -/
def side : FVec Ideal S512x1024 .bf16 :=
  truncf .bf16 (concatenate S512x1024 1 [⟨S512x256, mixed (q0 x) (k0 y) (v0 y)⟩, ⟨S512x256, mixed (q1 x) (k1 y) (v1 y)⟩,
    ⟨S512x256, mixed (q2 x) (k2 y) (v2 y)⟩, ⟨S512x256, mixed (q3 x) (k3 y) (v3 y)⟩]
    concatenates_S512x256_S512x256_S512x256_S512x256_S512x1024_d1) bitsLt_bf16_f32

theorem attend_of {h : Fin 4} {d : Fin 256} {j : Fin 1024} (e : j = col h d) (Q : Fin 1024 → EReal) (KV : Fin 256 → Fin 2048 → EReal) :
    ∑ n : Fin 256, part Q KV h n * KV n (valCol (col h d)) = attend Q KV j := by
  subst e
  have : headOf (col h d) = h := Fin.ext (by simp only [headOf, col]; omega)
  simp only [attend, this]

theorem side_at (a : Fin 512) (j : Fin 1024) : side x y (ix2 a j) = attend (blockRow x a) (memory y) j := by
  pointwise [side]
  split
  · exact (mixed_at (isHead0 x y a) _).trans (attend_of (Fin.ext (by simp only [col]; omega)) _ _)
  split
  · exact (mixed_at (isHead1 x y a) _).trans (attend_of (Fin.ext (by simp only [col]; omega)) _ _)
  split
  · exact (mixed_at (isHead2 x y a) _).trans (attend_of (Fin.ext (by simp only [col]; omega)) _ _)
  · exact (mixed_at (isHead3 x y a) _).trans (attend_of (Fin.ext (by simp only [col]; omega)) _ _)

theorem pay_eq : k2_pay1 (k2_pay2 x) (k2_pay3 y) (k2_pay4 x y) (k2_pay5 x y) (k2_pay6 x) (k2_pay7 y) = side (k2_pay2 x) (k2_pay3 y) := rfl

theorem pay2_eq : k2_pay2 (F := Ideal) x = x := by
  funext j
  idx_vars j
  pointwise [k2_pay2]

theorem pay3_eq : k2_pay3 (F := Ideal) y = y := by
  funext j
  idx_vars j
  pointwise [k2_pay3]
end

theorem attend2_point (x : Vec Ideal S512x1024 .bf16) (y : Vec Ideal S256x2048 .f32) (z : S512x1024.Idx) :
    out2_2 x y z = attend (blockRow x (z 0)) (memory y) (z 1) := by
  dsimp only [out2_2]
  frame_out
  idx_vars z
  rw [pay_eq, pay2_eq, pay3_eq]
  exact side_at x y _ _

end Cert.CrossIdeal.Whole

end
-- ==== Proof.CrossCalls.lean ====
/-
  The calls of the cross-attention, whatever the arrays they read hold.
-/
module

public import proofs.«01_k».proof.Proof.CrossHead

@[expose] public section

set_option maxRecDepth 16384
noncomputable section

namespace Cert.CrossIdeal.Whole

open Cert.CrossIdeal Cert.CrossIdeal.Gen Idealize.ShloMosaic Idealize.ShloMosaic.TcCoe Cert.Attend
open Idealize.ShloMosaic.Pipeline (Dat)

/-- Products with weights, and with the weights across, of the whole arrays and of the blocks of one call. -/
def times (a : FVec Ideal S4096x1024 .bf16) (w : FVec Ideal S1024x1024 .bf16) (i : Fin 4096) (j : Fin 1024) : EReal :=
  ∑ k : Fin 1024, a (ix2 i k) * w (ix2 k j)
def blockTimes (a : Vec Ideal S1024x1024 .bf16) (w : Vec Ideal S1024x1024 .bf16) (i j : Fin 1024) : EReal :=
  ∑ k : Fin 1024, (a : FVec Ideal S1024x1024 .bf16) (ix2 i k) * (w : FVec Ideal S1024x1024 .bf16) (ix2 k j)
def across (a : FVec Ideal S4096x1024 .bf16) (w : FVec Ideal S1024x1024 .bf16) (i : Fin 4096) (k : Fin 1024) : EReal :=
  ∑ j : Fin 1024, a (ix2 i j) * w (ix2 k j)
def blockAcross (a : Vec Ideal S1024x1024 .bf16) (w : Vec Ideal S1024x1024 .bf16) (i k : Fin 1024) : EReal :=
  ∑ j : Fin 1024, (a : FVec Ideal S1024x1024 .bf16) (ix2 i j) * (w : FVec Ideal S1024x1024 .bf16) (ix2 k j)
def memoryTimes (a : FVec Ideal S256x1024 .f32) (w : FVec Ideal S1024x2048 .bf16) (i : Fin 256) (j : Fin 2048) : EReal :=
  ∑ k : Fin 1024, a (ix2 i k) * w (ix2 k j)
def blockMemoryTimes (a : Vec Ideal S256x1024 .f32) (w : Vec Ideal S1024x2048 .bf16) (i : Fin 256) (j : Fin 2048) : EReal :=
  ∑ k : Fin 1024, (a : FVec Ideal S256x1024 .f32) (ix2 i k) * (w : FVec Ideal S1024x2048 .bf16) (ix2 k j)

/-- The attention of every row. -/
def attendAll (q : FVec Ideal S4096x1024 .bf16) (kv : FVec Ideal S256x2048 .f32) (i : Fin 4096) (j : Fin 1024) : EReal :=
  attend (fun d => q (ix2 i d)) (fun n l => kv (ix2 n l)) j

def arrRows16 (g : Fin 4096 → Fin 1024 → EReal) : FVec Ideal S4096x1024 .bf16 := fun j => g (j 0) (j 1)
def arrRows32 (g : Fin 4096 → Fin 1024 → EReal) : FVec Ideal S4096x1024 .f32 := fun j => g (j 0) (j 1)
def arrMemory (g : Fin 256 → Fin 2048 → EReal) : FVec Ideal S256x2048 .f32 := fun j => g (j 0) (j 1)

variable (V : (c : Dev nD) → (b : Ref sig .tc) → Buf (Elt Ideal) ((c : Thread nD τ).loc b))

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

theorem times0_point (a : Vec Ideal S1024x1024 .bf16) (w : Vec Ideal S1024x1024 .bf16) (y : S1024x1024.Idx) :
    out0_2 a w y = blockTimes a w (y 0) (y 1) := by
  dsimp only [out0_2]
  frame_out
  canon_tiles x h
  all_goals (open_payloads; pointwise [blockTimes]; blk_point [])

theorem times0 (c : Dev nD) : (dat0 V c).arrAt 2 cfg0.N = arrRows16 (times (V c main_arg0) (V c main_arg2)) := by
  refine (dat0 V c).arrAt_eq_of_covers 2 _ (by decide +kernel) fun t _ y => ?_
  blk_simp
  rw [after0_2]
  refine (times0_point _ _ y).trans ?_
  idx_vars y
  pointwise [blockTimes, times, arrRows16]
  blk_point [iblk0, idx0 t]

theorem idx1 : ∀ t : Fin cfg1.N, win1_0.index t = ![(grid1.coords t 0).val, 0] ∧ win1_1.index t = ![0, 0] ∧ win1_2.index t = ![(grid1.coords t 0).val, 0] :=
  (by decide +kernel : ∀ t : Fin grid1.N, _)

theorem memory1_point (a : Vec Ideal S256x1024 .f32) (w : Vec Ideal S1024x2048 .bf16) (y : S256x2048.Idx) :
    out1_2 a w y = blockMemoryTimes a w (y 0) (y 1) := by
  dsimp only [out1_2]
  frame_out
  canon_tiles x h
  all_goals (open_payloads; pointwise [blockMemoryTimes]; blk_point [])

theorem memory1 (c : Dev nD) : (dat1 V c).arrAt 2 cfg1.N = arrMemory (memoryTimes (V c main_arg1) (V c main_arg3)) := by
  refine (dat1 V c).arrAt_eq_of_covers 2 _ (by decide +kernel) fun t _ y => ?_
  blk_simp
  rw [after1_2]
  refine (memory1_point _ _ y).trans ?_
  idx_vars y
  pointwise [blockMemoryTimes, memoryTimes, arrMemory]
  blk_point [iblk1, idx1 t]

theorem idx2 : ∀ t : Fin cfg2.N, win2_0.index t = ![(grid2.coords t 0).val, 0] ∧ win2_1.index t = ![0, 0] ∧ win2_2.index t = ![(grid2.coords t 0).val, 0] :=
  (by decide +kernel : ∀ t : Fin grid2.N, _)

theorem attend2 (c : Dev nD) : (dat2 V c).arrAt 2 cfg2.N = arrRows16 (attendAll (V c main_v0) (V c main_v1)) := by
  refine (dat2 V c).arrAt_eq_of_covers 2 _ (by decide +kernel) fun t _ y => ?_
  blk_simp
  rw [after2_2]
  refine (attend2_point _ _ y).trans ?_
  idx_vars y
  show attend _ _ _ = attend _ _ _
  congr 1
  · funext j
    pointwise [blockRow]
    blk_point [iblk2, idx2 t]
  · funext n l
    pointwise [memory]
    blk_point [iblk2, idx2 t]
  · apply Fin.ext
    blk_simp [idx2 t]

theorem idx3 : ∀ t : Fin cfg3.N, win3_0.index t = ![(grid3.coords t 0).val, 0] ∧ win3_1.index t = ![0, 0] ∧ win3_2.index t = ![(grid3.coords t 0).val, 0] :=
  (by decide +kernel : ∀ t : Fin grid3.N, _)

theorem across3_point (a : Vec Ideal S1024x1024 .bf16) (w : Vec Ideal S1024x1024 .bf16) (y : S1024x1024.Idx) :
    out3_2 a w y = blockAcross a w (y 0) (y 1) := by
  dsimp only [out3_2]
  frame_out
  canon_tiles x h
  all_goals (open_payloads; pointwise [blockAcross]; blk_point [])

theorem across3 (c : Dev nD) : (dat3 V c).arrAt 2 cfg3.N = arrRows32 (across (V c main_arg6) (V c main_arg4)) := by
  refine (dat3 V c).arrAt_eq_of_covers 2 _ (by decide +kernel) fun t _ y => ?_
  blk_simp
  rw [after3_2]
  refine (across3_point _ _ y).trans ?_
  idx_vars y
  pointwise [blockAcross, across, arrRows32]
  blk_point [iblk3, idx3 t]

theorem idx4 : ∀ t : Fin cfg4.N, win4_0.index t = ![(grid4.coords t 0).val, 0] ∧ win4_1.index t = ![0, 0] ∧ win4_2.index t = ![(grid4.coords t 0).val, 0] :=
  (by decide +kernel : ∀ t : Fin grid4.N, _)

theorem across4_point (a : Vec Ideal S1024x1024 .bf16) (w : Vec Ideal S1024x1024 .bf16) (y : S1024x1024.Idx) :
    out4_2 a w y = blockAcross a w (y 0) (y 1) := by
  dsimp only [out4_2]
  frame_out
  canon_tiles x h
  all_goals (open_payloads; pointwise [blockAcross]; blk_point [])

theorem across4 (c : Dev nD) : (dat4 V c).arrAt 2 cfg4.N = arrRows32 (across (V c main_arg5) (V c main_arg2)) := by
  refine (dat4 V c).arrAt_eq_of_covers 2 _ (by decide +kernel) fun t _ y => ?_
  blk_simp
  rw [after4_2]
  refine (across4_point _ _ y).trans ?_
  idx_vars y
  pointwise [blockAcross, across, arrRows32]
  blk_point [iblk4, idx4 t]

end Cert.CrossIdeal.Whole

end
-- ==== Proof.CrossResults.lean ====
/-
  What the program of the cross-attention leaves in its results.
-/
module

public import proofs.«01_k».proof.Proof.CrossRun
public import proofs.«01_k».proof.Proof.CrossCalls

@[expose] public section

set_option maxRecDepth 16384
noncomputable section

namespace Cert.CrossIdeal.Whole

open Cert.CrossIdeal Cert.CrossIdeal.Gen Idealize.ShloMosaic Idealize.ShloMosaic.TcCoe Cert.Attend

/-- Attention from the rows, the memory and the weights. -/
def outRows (h : FVec Ideal S4096x1024 .bf16) (mem : FVec Ideal S256x1024 .f32) (wq : FVec Ideal S1024x1024 .bf16)
    (wkv : FVec Ideal S1024x2048 .bf16) (i : Fin 4096) (j : Fin 1024) : EReal := attend (times h wq i) (memoryTimes mem wkv) j

variable (m : (ℓ : Loc nD τ sig) → Buf (Elt Ideal) ℓ) (ρ : Dev nD → PrngReg) (c : Dev nD)

theorem q1' : V1 m ρ c main_v0 = arrRows16 (times (m ((c : Thread nD τ).loc main_arg0)) (m ((c : Thread nD τ).loc main_arg2))) :=
  (W1_arr m ρ c 2).trans (times0 (V0 m ρ) c)
theorem q2' : V2 m ρ c main_v0 = arrRows16 (times (m ((c : Thread nD τ).loc main_arg0)) (m ((c : Thread nD τ).loc main_arg2))) :=
  (W2_of m ρ c main_v0 (by decide)).trans (q1' m ρ c)
theorem mem1 : V1 m ρ c main_arg1 = m ((c : Thread nD τ).loc main_arg1) := W1_args m ρ c main_arg1 (by decide)
theorem w1 : V1 m ρ c main_arg3 = m ((c : Thread nD τ).loc main_arg3) := W1_args m ρ c main_arg3 (by decide)
theorem kv2 : V2 m ρ c main_v1 = arrMemory (memoryTimes (m ((c : Thread nD τ).loc main_arg1)) (m ((c : Thread nD τ).loc main_arg3))) :=
  (W2_arr m ρ c 2).trans ((memory1 (V1 m ρ) c).trans (by rw [mem1, w1]))

/-! ## At the end -/

theorem out_o : W5 m ρ c (Proc.devRef .tc main_v2) = arrRows16 (outRows (m ((c : Thread nD τ).loc main_arg0))
    (m ((c : Thread nD τ).loc main_arg1)) (m ((c : Thread nD τ).loc main_arg2)) (m ((c : Thread nD τ).loc main_arg3))) :=
  (W5_of m ρ c main_v2 (by decide)).trans ((W4_of m ρ c main_v2 (by decide)).trans ((W3_arr m ρ c 2).trans
    ((attend2 (V2 m ρ) c).trans (by rw [q2', kv2]; rfl))))

theorem dout3 : V3 m ρ c main_arg6 = m ((c : Thread nD τ).loc main_arg6) := W3_args m ρ c main_arg6 (by decide)
theorem wo3 : V3 m ρ c main_arg4 = m ((c : Thread nD τ).loc main_arg4) := W3_args m ρ c main_arg4 (by decide)
theorem out_do : W5 m ρ c (Proc.devRef .tc main_v3)
    = arrRows32 (across (m ((c : Thread nD τ).loc main_arg6)) (m ((c : Thread nD τ).loc main_arg4))) :=
  (W5_of m ρ c main_v3 (by decide)).trans ((W4_arr m ρ c 2).trans ((across3 (V3 m ρ) c).trans (by rw [dout3, wo3])))

theorem dq4 : V4 m ρ c main_arg5 = m ((c : Thread nD τ).loc main_arg5) := W4_args m ρ c main_arg5 (by decide)
theorem wq4 : V4 m ρ c main_arg2 = m ((c : Thread nD τ).loc main_arg2) := W4_args m ρ c main_arg2 (by decide)
theorem out_dh : W5 m ρ c (Proc.devRef .tc main_v4)
    = arrRows32 (across (m ((c : Thread nD τ).loc main_arg5)) (m ((c : Thread nD τ).loc main_arg2))) :=
  (W5_arr m ρ c 2).trans ((across4 (V4 m ρ) c).trans (by rw [dq4, wq4]))

end Cert.CrossIdeal.Whole

end
-- ==== Proof.CrossStages.lean ====
/-
  The stages of the cross-attention's reference, from its arguments to its results.
-/
module

public import proofs.«01_k».proof.Proof.Gen.CrossReferenceIdeal.Run
public import proofs.«01_k».proof.Proof.Attend
public import proofs.«01_k».proof.Proof.Head
public import Idealize.ShloMosaic.Lib.Pointwise
public import Idealize.ShloMosaic.Lib.Claim

@[expose] public section

set_option maxRecDepth 16384
noncomputable section

namespace Cert.CrossReferenceIdeal.Stage

open Cert.CrossReferenceIdeal Cert.CrossReferenceIdeal.Gen Idealize.ShloMosaic Idealize.ShloMosaic.TcCoe Cert.Attend

section
variable (h : FVec Ideal S4096x1024 .bf16) (mem : FVec Ideal S256x1024 .f32) (wq : FVec Ideal S1024x1024 .bf16)
  (wkv : FVec Ideal S1024x2048 .bf16)

def q : FVec Ideal S4096x4x256 .f32 :=
  shapeCast _ (Host.dotGeneral dot_S4096x1024_S1024x1024_S4096x1024_1_0_0_1_n_n none (extf .f32 h bitsLt_bf16_f32) (extf .f32 wq bitsLt_bf16_f32))
    shapeCasts_S4096x1024_S4096x4x256

def k : FVec Ideal S256x4x256 .f32 :=
  shapeCast _ (Host.dotGeneral dot_S256x1024_S1024x1024_S256x1024_1_0_0_1_n_n none mem
    (extractStridedSlice S1024x1024 ![0, 0] (extf .f32 wkv bitsLt_bf16_f32) slices_S1024x2048_S1024x1024_0_0)) shapeCasts_S256x1024_S256x4x256

def v : FVec Ideal S256x4x256 .f32 :=
  shapeCast _ (Host.dotGeneral dot_S256x1024_S1024x1024_S256x1024_1_0_0_1_n_n none mem
    (extractStridedSlice S1024x1024 ![0, 1024] (extf .f32 wkv bitsLt_bf16_f32) slices_S1024x2048_S1024x1024_0_1024)) shapeCasts_S256x1024_S256x4x256

def scores : FVec Ideal S4x4096x256 .f32 :=
  mulf (Host.dotGeneral dot_S4096x4x256_S256x4x256_S4x4096x256_2_2_0_0_1_1 none (q h wq) (k mem wkv))
    (broadcastInDim S4x4096x256 ![] bcast_S_S4x4096x256 (constant S_ .f32 0x3D800000#32))

end

/-- The greatest score of every row and head, and the weights before and after normalisation, from the scores. -/
def tops (s : FVec Ideal S4x4096x256 .f32) : FVec Ideal S4x4096 .f32 :=
  maximumf (broadcastInDim S4x4096 ![] bcast_S_S4x4096 (constant S_ .f32 0xFF800000#32))
    (Host.reduce FloatOps.maximumf s (constant S_ .f32 0xFF800000#32) reducesTo_S4x4096x256_S4x4096_d2 h_S_)

def weights (s : FVec Ideal S4x4096x256 .f32) : FVec Ideal S4x4096x256 .f32 :=
  Host.exp (subf s (broadcastInDim S4x4096x256 ![0, 1, 2] bcast_S4x4096x1_S4x4096x256_0_1_2
    (broadcastInDim S4x4096x1 ![0, 1] bcast_S4x4096_S4x4096x1_0_1 (tops s))))

def parts (s : FVec Ideal S4x4096x256 .f32) : FVec Ideal S4x4096x256 .f32 :=
  Host.divf (weights s) (broadcastInDim S4x4096x256 ![0, 1, 2] bcast_S4x4096x1_S4x4096x256_0_1_2
    (broadcastInDim S4x4096x1 ![0, 1] bcast_S4x4096_S4x4096x1_0_1
      (Host.reduceAdd (weights s) (constant S_ .f32 0x00000000#32) reducesTo_S4x4096x256_S4x4096_d2 h_S_)))

section
variable (h : FVec Ideal S4096x1024 .bf16) (mem : FVec Ideal S256x1024 .f32) (wq : FVec Ideal S1024x1024 .bf16)
  (wkv : FVec Ideal S1024x2048 .bf16)

def out : FVec Ideal S4096x1024 .bf16 :=
  truncf .bf16 (shapeCast S4096x1024 (transpose S4096x4x256 [2, 0, 1]
    (Host.dotGeneral dot_S256x4x256_S4x4096x256_S4x256x4096_0_2_2_1_1_0 none (v mem wkv) (parts (scores h mem wq wkv)))
    transposes_S4x256x4096_S4096x4x256_2_0_1) shapeCasts_S4096x4x256_S4096x1024) bitsLt_bf16_f32
end

/-- The derivative at what a product multiplies. -/
def back (d : FVec Ideal S4096x1024 .bf16) (w : FVec Ideal S1024x1024 .bf16) : FVec Ideal S4096x1024 .f32 :=
  Host.dotGeneral dot_S4096x1024_S1024x1024_S4096x1024_1_1_0_0_n_n none (extf .f32 d bitsLt_bf16_f32) (extf .f32 w bitsLt_bf16_f32)

variable (m : (ℓ : Loc nD τ sig) → Buf (Elt Ideal) ℓ) (c : Dev nD)

theorem out0 : Value.res_main_v35 m c = out (m ((c.tc : Thread nD τ).loc main_arg0)) (m ((c.tc : Thread nD τ).loc main_arg1))
    (m ((c.tc : Thread nD τ).loc main_arg2)) (m ((c.tc : Thread nD τ).loc main_arg3)) := rfl

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v35) = out (m ((c.tc : Thread nD τ).loc main_arg0)) (m ((c.tc : Thread nD τ).loc main_arg1))
      (m ((c.tc : Thread nD τ).loc main_arg2)) (m ((c.tc : Thread nD τ).loc main_arg3))
    ∧ r.2.mem ((c.tc : Thread nD τ).loc main_v32) = back (m ((c.tc : Thread nD τ).loc main_arg6)) (m ((c.tc : Thread nD τ).loc main_arg4))
    ∧ r.2.mem ((c.tc : Thread nD τ).loc main_v34) = back (m ((c.tc : Thread nD τ).loc main_arg5)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => by
    obtain ⟨h0, h1, h2, ha⟩ := h c
    exact ⟨h0.trans (out0 m c), h1, h2, ha⟩) (Value.run (F := Ideal) m ρ)

end Cert.CrossReferenceIdeal.Stage

end
-- ==== Proof.CrossStagesAt.lean ====
/-
  The entries of the reference's stages: the attention of each row over the memory, and the derivatives at the two products.
-/
module

public import proofs.«01_k».proof.Proof.CrossStages

@[expose] public section

set_option maxRecDepth 16384
noncomputable section

namespace Cert.CrossReferenceIdeal.Stage

open Cert.CrossReferenceIdeal Cert.CrossReferenceIdeal.Gen Idealize.ShloMosaic Idealize.ShloMosaic.TcCoe Cert.Attend

section
variable (h : FVec Ideal S4096x1024 .bf16) (mem : FVec Ideal S256x1024 .f32) (wq : FVec Ideal S1024x1024 .bf16)
  (wkv : FVec Ideal S1024x2048 .bf16)

/-- A row's queries, and the keys of the memory beside its values. -/
def queries (i : Fin 4096) (j : Fin 1024) : EReal := ∑ l : Fin 1024, h (ix2 i l) * wq (ix2 l j)
def memory (n : Fin 256) (j : Fin 2048) : EReal := ∑ l : Fin 1024, mem (ix2 n l) * wkv (ix2 l j)

theorem q_at (i : Fin 4096) (r : Fin 4) (d : Fin 256) : q h wq (ix3 i r d) = queries h wq i (col r d) := by
  pointwise [q, queries, col]
  exact Finset.sum_congr rfl fun l _ => congrArg (fun e => h (ix2 i l) * wq (ix2 l e)) (Fin.ext (by simp only []; omega))

theorem k_at (n : Fin 256) (r : Fin 4) (d : Fin 256) : k mem wkv (ix3 n r d) = memory mem wkv n (keyCol (col r d)) := by
  pointwise [k, memory, col, keyCol]
  exact Finset.sum_congr rfl fun l _ => congrArg (fun e => mem (ix2 n l) * wkv (ix2 l e)) (Fin.ext (by simp only []; omega))

theorem v_at (n : Fin 256) (r : Fin 4) (d : Fin 256) : v mem wkv (ix3 n r d) = memory mem wkv n (valCol (col r d)) := by
  pointwise [v, memory, col, valCol]
  exact Finset.sum_congr rfl fun l _ => congrArg (fun e => mem (ix2 n l) * wkv (ix2 l e)) (Fin.ext (by simp only []; omega))

theorem scores_at (r : Fin 4) (i : Fin 4096) (n : Fin 256) :
    scores h mem wq wkv (ix3 r i n) = score (queries h wq i) (memory mem wkv) r n := by
  pointwise [scores]
  simp only [q_at, k_at, score, scale]
end

section
variable (s : FVec Ideal S4x4096x256 .f32)

/-- A maximum with minus infinity changes nothing. -/
theorem max_at (i : S4x4096.Idx) (a b : FVec Ideal S4x4096 .f32) : maximumf a b i = max (a i) (b i) := rfl

theorem bottom_at (i : S4x4096.Idx) :
    broadcastInDim S4x4096 ![] bcast_S_S4x4096 (constant (F := Ideal) S_ .f32 0xFF800000#32) i = ⊥ :=
  Cert.Attention.ofBits_neg_inf

theorem fold_at (r : Fin 4) (i : Fin 4096) :
    (Host.reduce FloatOps.maximumf s (constant S_ .f32 0xFF800000#32) reducesTo_S4x4096x256_S4x4096_d2 h_S_ : FVec Ideal S4x4096 .f32) (ix2 r i)
      = Finset.univ.fold max ⊥ fun n => s (ix3 r i n) := by
  pointwise []
  rw [Cert.Attention.ofBits_neg_inf]

theorem tops_at (r : Fin 4) (i : Fin 4096) : tops s (ix2 r i) = Finset.univ.fold max ⊥ fun n => s (ix3 r i n) := by
  rw [tops, max_at, bottom_at, fold_at, max_eq_right bot_le]

theorem weights_at (r : Fin 4) (i : Fin 4096) (n : Fin 256) :
    weights s (ix3 r i n) = Ideal.exp (s (ix3 r i n) - Finset.univ.fold max ⊥ fun n => s (ix3 r i n)) := by
  rw [← tops_at]
  pointwise [weights]

theorem parts_at (r : Fin 4) (i : Fin 4096) (n : Fin 256) :
    parts s (ix3 r i n) = Ideal.div (weights s (ix3 r i n)) (∑ n, weights s (ix3 r i n)) := by
  pointwise [parts]
end

section
variable (h : FVec Ideal S4096x1024 .bf16) (mem : FVec Ideal S256x1024 .f32) (wq : FVec Ideal S1024x1024 .bf16)
  (wkv : FVec Ideal S1024x2048 .bf16)

theorem part_at (r : Fin 4) (i : Fin 4096) (n : Fin 256) :
    parts (scores h mem wq wkv) (ix3 r i n) = part (queries h wq i) (memory mem wkv) r n := by
  simp only [parts_at, weights_at, scores_at, part, weight, top]

theorem out_at (i : Fin 4096) (j : Fin 1024) : out h mem wq wkv (ix2 i j) = attend (queries h wq i) (memory mem wkv) j := by
  pointwise [out]
  simp only [part_at, v_at]
  refine Finset.sum_congr rfl fun n _ => (mul_comm _ _).trans ?_
  have e : col (headOf j) ⟨j.val % 256, by omega⟩ = j := Fin.ext (by simp only [col, headOf]; omega)
  exact congrArg (fun e => part (queries h wq i) (memory mem wkv) (headOf j) n * memory mem wkv n (valCol e)) e

end

theorem back_at (d : FVec Ideal S4096x1024 .bf16) (w : FVec Ideal S1024x1024 .bf16) (i : Fin 4096) (k : Fin 1024) :
    back d w (ix2 i k) = ∑ j : Fin 1024, d (ix2 i j) * w (ix2 k j) := by
  pointwise [back]

end Cert.CrossReferenceIdeal.Stage

end
-- ==== Proof.Cross.lean ====
/-
  The five claims about the cross-attention: the three frames, the ledger, and the equation of the kernel with the
  reference.
-/
module

public import proofs.«01_k».proof.Defs
public import proofs.«01_k».proof.Proof.Gen.Cross.Frame
public import proofs.«01_k».proof.Proof.CrossResults
public import proofs.«01_k».proof.Proof.CrossStagesAt

@[expose] public section

noncomputable section

namespace Cert.CrossClaims

open Idealize.ShloMosaic Idealize.ShloMosaic.TcCoe Idealize.SL.Sem

theorem frame_p : Cert.quiescent_Cross := fun m ρ _ => Cert.Cross.Gen.frame m ρ

theorem frame_pi : Cert.quiescent_CrossIdeal := fun m ρ _ => Cert.CrossIdeal.Gen.frame m ρ

theorem frame_ri : Cert.quiescent_CrossReferenceIdeal := fun m ρ _ =>
  (θ_run Cert.CrossReferenceIdeal.defs _ _).mono
    (fun r h => ⟨fun c => (h c).2.2.2, sem_eq_zero_of_no_sems (by decide) r.2⟩)
    (Cert.CrossReferenceIdeal.Value.run (F := Ideal) m ρ)

theorem preserves : Cert.preserves_Cross_CrossIdeal := trivial

section
open Cert.CrossIdeal Cert.CrossIdeal.Whole

theorem algebraic : Cert.algebraic_CrossIdeal_CrossReferenceIdeal := by
  intro m ρ m' ρ' _ hag
  refine ⟨fun c => arrRows16 (outRows (m ((c : Thread nD τ).loc main_arg0)) (m ((c : Thread nD τ).loc main_arg1)) (m ((c : Thread nD τ).loc main_arg2)) (m ((c : Thread nD τ).loc main_arg3))),
    fun c => arrRows32 (across (m ((c : Thread nD τ).loc main_arg6)) (m ((c : Thread nD τ).loc main_arg4))),
    fun c => arrRows32 (across (m ((c : Thread nD τ).loc main_arg5)) (m ((c : Thread nD τ).loc main_arg2))), ?_, ?_⟩
  · refine (θ_run defs _ _).mono (fun r h c => ?_) (run m ρ)
    exact ⟨(h c main_v2 (by decide)).trans (out_o m ρ c), (h c main_v3 (by decide)).trans (out_do m ρ c),
      (h c main_v4 (by decide)).trans (out_dh m ρ c),
      (h c main_arg0 (by decide)).trans (Gen.W5_main_arg0 m ρ c),
      (h c main_arg1 (by decide)).trans (Gen.W5_main_arg1 m ρ c),
      (h c main_arg2 (by decide)).trans (Gen.W5_main_arg2 m ρ c),
      (h c main_arg3 (by decide)).trans (Gen.W5_main_arg3 m ρ c),
      (h c main_arg4 (by decide)).trans (Gen.W5_main_arg4 m ρ c),
      (h c main_arg5 (by decide)).trans (Gen.W5_main_arg5 m ρ c),
      (h c main_arg6 (by decide)).trans (Gen.W5_main_arg6 m ρ c)⟩
  · refine (θ_run Cert.CrossReferenceIdeal.defs _ _).mono (fun r h c => ?_) (Cert.CrossReferenceIdeal.Stage.run m' ρ')
    obtain ⟨h0, h1, h2, ha⟩ := h c
    obtain ⟨g0, g1, g2, g3, g4, g5, g6⟩ := hag c
    refine ⟨h0.trans ?_, h1.trans ?_, h2.trans ?_, ha⟩
    · rw [g0, g1, g2, g3]
      exact funext fun j => (congrArg _ (eq_ix2 j)).trans (Cert.CrossReferenceIdeal.Stage.out_at _ _ _ _ _ _)
    · rw [g6, g4]
      exact funext fun j => (congrArg _ (eq_ix2 j)).trans (Cert.CrossReferenceIdeal.Stage.back_at _ _ _ _)
    · rw [g5, g2]
      exact funext fun j => (congrArg _ (eq_ix2 j)).trans (Cert.CrossReferenceIdeal.Stage.back_at _ _ _ _)

end

end Cert.CrossClaims

end
-- ==== Proof.CrossGradsRun.lean ====
/-
  The program of the cross-attention's weight gradients runs to its end: what every buffer of a core holds there. Its calls run one after the
  other, and the contents after the last of them are the fold of them over the launch contents.
-/
module

public import proofs.«01_k».proof.Proof.Gen.CrossGradsIdeal.Frame
public import Idealize.ShloMosaic.Lib.Pointwise

@[expose] public section

noncomputable section

namespace Cert.CrossGradsIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.CrossGradsIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W28 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W28 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W28 m ρ c) s)
    isplitl [Hbufs] <;> iassumption

end Cert.CrossGradsIdeal.Whole

end
-- ==== Proof.CrossGradsArrays.lean ====
/-
  The gradients at the weights of the cross-attention's products, as formulas of the arrays that the calls read.
-/
module

public import proofs.«01_k».proof.Proof.Gen.CrossGradsIdeal.Skeleton
public import proofs.«01_k».proof.Proof.Gated
public import proofs.«01_k».proof.Proof.Attend
public import Idealize.ShloMosaic.Lib.Pipeline.ValueKit
public import Idealize.ShloMosaic.Lib.Claim

@[expose] public section

set_option maxRecDepth 16384
noncomputable section

namespace Cert.CrossGradsIdeal.Whole

open Cert.CrossGradsIdeal Cert.CrossGradsIdeal.Gen Idealize.ShloMosaic Idealize.ShloMosaic.TcCoe Cert.Attend
open Cert.Gated (row)
open Idealize.ShloMosaic.Pipeline (Dat)

/-- The derivative at a weight that the 4096 rows are put through: over the rows, what the weight multiplies times the
derivative at the product. The second is of the blocks of one call. -/
def tall (a d : FVec Ideal S4096x1024 .bf16) (k j : Fin 1024) : EReal := ∑ i : Fin 4096, a (ix2 i k) * d (ix2 i j)
def blockTall (a : Vec Ideal S4096x1024 .bf16) (d : Vec Ideal S4096x256 .bf16) (p : Fin 4) (r j : Fin 256) : EReal :=
  ∑ i : Fin 4096, (a : FVec Ideal S4096x1024 .bf16) (ix2 i (row p r)) * (d : FVec Ideal S4096x256 .bf16) (ix2 i j)

/-- The same of a weight that the 256 rows of the memory are put through; `j` is a column of the keys beside the values. -/
def short (a : FVec Ideal S256x1024 .f32) (d : FVec Ideal S256x2048 .f32) (k : Fin 1024) (j : Fin 2048) : EReal :=
  ∑ i : Fin 256, a (ix2 i k) * d (ix2 i j)
def blockShort (a : Vec Ideal S256x1024 .f32) (d : Vec Ideal S256x256 .f32) (p : Fin 4) (r j : Fin 256) : EReal :=
  ∑ i : Fin 256, (a : FVec Ideal S256x1024 .f32) (ix2 i (row p r)) * (d : FVec Ideal S256x256 .f32) (ix2 i j)

end Cert.CrossGradsIdeal.Whole

end
-- ==== Proof.CrossGradsThree.lean ====
/-
  The calls which make the derivatives at the weights of the cross-attention at layer 3, whatever the arrays they read hold.
-/
module

public import proofs.«01_k».proof.Proof.CrossGradsArrays
public import proofs.«01_k».proof.Proof.Gen.CrossGradsIdeal.Frame.Region0
public import proofs.«01_k».proof.Proof.Gen.CrossGradsIdeal.Frame.Region1
public import proofs.«01_k».proof.Proof.Gen.CrossGradsIdeal.Frame.Region2
public import proofs.«01_k».proof.Proof.Gen.CrossGradsIdeal.Frame.Region3
public import Idealize.ShloMosaic.Lib.Pipeline.ValueKit
public import Idealize.ShloMosaic.Lib.Claim

@[expose] public section

set_option maxRecDepth 16384
noncomputable section

namespace Cert.CrossGradsIdeal.Whole

open Cert.CrossGradsIdeal Cert.CrossGradsIdeal.Gen Idealize.ShloMosaic Idealize.ShloMosaic.TcCoe Cert.Attend
open Cert.Gated (row)
open Idealize.ShloMosaic.Pipeline (Dat)

variable (V : (c : Dev nD) → (b : Ref sig .tc) → Buf (Elt Ideal) ((c : Thread nD τ).loc b))

theorem idx0 : ∀ t : Fin cfg0.N, win0_0.index t = ![0, 0] ∧ win0_1.index t = ![0, (grid0.coords t 0).val] ∧
    win0_2.index t = ![0, 3, 0, (grid0.coords t 0).val] := (by decide +kernel : ∀ t : Fin grid0.N, _)

theorem weight0_point (a : Vec Ideal S4096x1024 .bf16) (d : Vec Ideal S4096x256 .bf16) (y : S4x1x256x256.Idx) :
    out0_2 a d y = blockTall a d (y 0) (y 2) (y 3) := by
  dsimp only [out0_2]
  frame_out
  canon_tiles x h
  all_goals (open_payloads; pointwise [blockTall, row]; blk_point [])

theorem weight0 (c : Dev nD) : (dat0 V c).arrAt 2 cfg0.N
    = (fun j => if (j 1 : ℕ) = 3 then tall (V c main_arg4) (V c main_arg5) (row (j 0) (j 2)) (j 3) else V c main_v0 j
        : FVec Ideal S4x4x256x1024 .f32) := by
  refine (dat0 V c).arrAt_eq_of_coversWhere 2 _ (fun β => (β 1 : ℕ) = 3) (by decide +kernel) (fun t hf y => ?_)
    (fun j => by blk_simp [Pipeline.Window.cell_apply]; omega)
  blk_simp
  rw [after0_2]
  refine (weight0_point _ _ y).trans ?_
  idx_vars y
  pointwise [blockTall, tall, row]
  blk_point [iblk0, idx0 t]

theorem idx1 : ∀ t : Fin cfg1.N, win1_0.index t = ![0, 0] ∧ win1_1.index t = ![0, (grid1.coords t 0).val] ∧
    win1_2.index t = ![0, 3, 0, (grid1.coords t 0).val] := (by decide +kernel : ∀ t : Fin grid1.N, _)

theorem weight1_point (a : Vec Ideal S4096x1024 .bf16) (d : Vec Ideal S4096x256 .bf16) (y : S4x1x256x256.Idx) :
    out1_2 a d y = blockTall a d (y 0) (y 2) (y 3) := by
  dsimp only [out1_2]
  frame_out
  canon_tiles x h
  all_goals (open_payloads; pointwise [blockTall, row]; blk_point [])

theorem weight1 (c : Dev nD) : (dat1 V c).arrAt 2 cfg1.N
    = (fun j => if (j 1 : ℕ) = 3 then tall (V c main_arg1) (V c main_arg2) (row (j 0) (j 2)) (j 3) else V c main_v1 j
        : FVec Ideal S4x4x256x1024 .f32) := by
  refine (dat1 V c).arrAt_eq_of_coversWhere 2 _ (fun β => (β 1 : ℕ) = 3) (by decide +kernel) (fun t hf y => ?_)
    (fun j => by blk_simp [Pipeline.Window.cell_apply]; omega)
  blk_simp
  rw [after1_2]
  refine (weight1_point _ _ y).trans ?_
  idx_vars y
  pointwise [blockTall, tall, row]
  blk_point [iblk1, idx1 t]

theorem idx2 : ∀ t : Fin cfg2.N, win2_0.index t = ![0, 0] ∧ win2_1.index t = ![0, (grid2.coords t 0).val] ∧
    win2_2.index t = ![0, 3, 0, (grid2.coords t 0).val] := (by decide +kernel : ∀ t : Fin grid2.N, _)

theorem weight2_point (a : Vec Ideal S256x1024 .f32) (d : Vec Ideal S256x256 .f32) (y : S4x1x256x256.Idx) :
    out2_2 a d y = blockShort a d (y 0) (y 2) (y 3) := by
  dsimp only [out2_2]
  frame_out
  canon_tiles x h
  all_goals (open_payloads; pointwise [blockShort, row]; blk_point [])

theorem weight2 (c : Dev nD) : (dat2 V c).arrAt 2 cfg2.N
    = (fun j => if (j 1 : ℕ) = 3 then short (V c main_arg0) (V c main_arg3) (row (j 0) (j 2)) (keyCol (j 3)) else V c main_v2 j
        : FVec Ideal S4x4x256x1024 .f32) := by
  refine (dat2 V c).arrAt_eq_of_coversWhere 2 _ (fun β => (β 1 : ℕ) = 3) (by decide +kernel) (fun t hf y => ?_)
    (fun j => by blk_simp [Pipeline.Window.cell_apply]; omega)
  blk_simp
  rw [after2_2]
  refine (weight2_point _ _ y).trans ?_
  idx_vars y
  pointwise [blockShort, short, row, keyCol]
  blk_point [iblk2, idx2 t]

theorem idx3 : ∀ t : Fin cfg3.N, win3_0.index t = ![0, 0] ∧ win3_1.index t = ![0, 4 + (grid3.coords t 0).val] ∧
    win3_2.index t = ![0, 3, 0, (grid3.coords t 0).val] := (by decide +kernel : ∀ t : Fin grid3.N, _)

theorem weight3_point (a : Vec Ideal S256x1024 .f32) (d : Vec Ideal S256x256 .f32) (y : S4x1x256x256.Idx) :
    out3_2 a d y = blockShort a d (y 0) (y 2) (y 3) := by
  dsimp only [out3_2]
  frame_out
  canon_tiles x h
  all_goals (open_payloads; pointwise [blockShort, row]; blk_point [])

theorem weight3 (c : Dev nD) : (dat3 V c).arrAt 2 cfg3.N
    = (fun j => if (j 1 : ℕ) = 3 then short (V c main_arg0) (V c main_arg3) (row (j 0) (j 2)) (valCol (j 3)) else V c main_v3 j
        : FVec Ideal S4x4x256x1024 .f32) := by
  refine (dat3 V c).arrAt_eq_of_coversWhere 2 _ (fun β => (β 1 : ℕ) = 3) (by decide +kernel) (fun t hf y => ?_)
    (fun j => by blk_simp [Pipeline.Window.cell_apply]; omega)
  blk_simp
  rw [after3_2]
  refine (weight3_point _ _ y).trans ?_
  idx_vars y
  pointwise [blockShort, short, row, valCol]
  blk_point [iblk3, idx3 t]

end Cert.CrossGradsIdeal.Whole

end
-- ==== Proof.CrossGradsTwo.lean ====
/-
  The calls which make the derivatives at the weights of the cross-attention at layer 2, whatever the arrays they read hold.
-/
module

public import proofs.«01_k».proof.Proof.CrossGradsArrays
public import proofs.«01_k».proof.Proof.Gen.CrossGradsIdeal.Frame.Region4
public import proofs.«01_k».proof.Proof.Gen.CrossGradsIdeal.Frame.Region5
public import proofs.«01_k».proof.Proof.Gen.CrossGradsIdeal.Frame.Region6
public import proofs.«01_k».proof.Proof.Gen.CrossGradsIdeal.Frame.Region7
public import Idealize.ShloMosaic.Lib.Pipeline.ValueKit
public import Idealize.ShloMosaic.Lib.Claim

@[expose] public section

set_option maxRecDepth 16384
noncomputable section

namespace Cert.CrossGradsIdeal.Whole

open Cert.CrossGradsIdeal Cert.CrossGradsIdeal.Gen Idealize.ShloMosaic Idealize.ShloMosaic.TcCoe Cert.Attend
open Cert.Gated (row)
open Idealize.ShloMosaic.Pipeline (Dat)

variable (V : (c : Dev nD) → (b : Ref sig .tc) → Buf (Elt Ideal) ((c : Thread nD τ).loc b))

theorem idx4 : ∀ t : Fin cfg4.N, win4_0.index t = ![0, 0] ∧ win4_1.index t = ![0, (grid4.coords t 0).val] ∧
    win4_2.index t = ![0, 2, 0, (grid4.coords t 0).val] := (by decide +kernel : ∀ t : Fin grid4.N, _)

theorem weight4_point (c : Dev nD) (t : Fin cfg4.N) (y : S4x1x256x256.Idx) :
    (outsAt4 V c t) y = blockTall (iblk4 V c 0 t) (iblk4 V c 1 t) (y 0) (y 2) (y 3) := by
  dsimp only [outsAt4, out4_A_2]
  frame_out
  canon_tiles x h
  all_goals (open_payloads; pointwise [blockTall, row]; blk_point [])

theorem weight4 (c : Dev nD) : (dat4 V c).arrAt 2 cfg4.N
    = (fun j => if (j 1 : ℕ) = 2 then tall (V c main_arg9) (V c main_arg10) (row (j 0) (j 2)) (j 3) else V c main_v4 j
        : FVec Ideal S4x4x256x1024 .f32) := by
  refine (dat4 V c).arrAt_eq_of_coversWhere 2 _ (fun β => (β 1 : ℕ) = 2) (by decide +kernel) (fun t hf y => ?_)
    (fun j => by blk_simp [Pipeline.Window.cell_apply]; omega)
  blk_simp
  rw [after4_2]
  refine (weight4_point V c t y).trans ?_
  idx_vars y
  pointwise [blockTall, tall, row]
  blk_point [iblk4, idx4 t]

theorem idx5 : ∀ t : Fin cfg5.N, win5_0.index t = ![0, 0] ∧ win5_1.index t = ![0, (grid5.coords t 0).val] ∧
    win5_2.index t = ![0, 2, 0, (grid5.coords t 0).val] := (by decide +kernel : ∀ t : Fin grid5.N, _)

theorem weight5_point (c : Dev nD) (t : Fin cfg5.N) (y : S4x1x256x256.Idx) :
    (outsAt5 V c t) y = blockTall (iblk5 V c 0 t) (iblk5 V c 1 t) (y 0) (y 2) (y 3) := by
  dsimp only [outsAt5, out5_A_2]
  frame_out
  canon_tiles x h
  all_goals (open_payloads; pointwise [blockTall, row]; blk_point [])

theorem weight5 (c : Dev nD) : (dat5 V c).arrAt 2 cfg5.N
    = (fun j => if (j 1 : ℕ) = 2 then tall (V c main_arg6) (V c main_arg7) (row (j 0) (j 2)) (j 3) else V c main_v5 j
        : FVec Ideal S4x4x256x1024 .f32) := by
  refine (dat5 V c).arrAt_eq_of_coversWhere 2 _ (fun β => (β 1 : ℕ) = 2) (by decide +kernel) (fun t hf y => ?_)
    (fun j => by blk_simp [Pipeline.Window.cell_apply]; omega)
  blk_simp
  rw [after5_2]
  refine (weight5_point V c t y).trans ?_
  idx_vars y
  pointwise [blockTall, tall, row]
  blk_point [iblk5, idx5 t]

theorem idx6 : ∀ t : Fin cfg6.N, win6_0.index t = ![0, 0] ∧ win6_1.index t = ![0, (grid6.coords t 0).val] ∧
    win6_2.index t = ![0, 2, 0, (grid6.coords t 0).val] := (by decide +kernel : ∀ t : Fin grid6.N, _)

theorem weight6_point (c : Dev nD) (t : Fin cfg6.N) (y : S4x1x256x256.Idx) :
    (outsAt6 V c t) y = blockShort (iblk6 V c 0 t) (iblk6 V c 1 t) (y 0) (y 2) (y 3) := by
  dsimp only [outsAt6, out6_A_2]
  frame_out
  canon_tiles x h
  all_goals (open_payloads; pointwise [blockShort, row]; blk_point [])

theorem weight6 (c : Dev nD) : (dat6 V c).arrAt 2 cfg6.N
    = (fun j => if (j 1 : ℕ) = 2 then short (V c main_arg0) (V c main_arg8) (row (j 0) (j 2)) (keyCol (j 3)) else V c main_v6 j
        : FVec Ideal S4x4x256x1024 .f32) := by
  refine (dat6 V c).arrAt_eq_of_coversWhere 2 _ (fun β => (β 1 : ℕ) = 2) (by decide +kernel) (fun t hf y => ?_)
    (fun j => by blk_simp [Pipeline.Window.cell_apply]; omega)
  blk_simp
  rw [after6_2]
  refine (weight6_point V c t y).trans ?_
  idx_vars y
  pointwise [blockShort, short, row, keyCol]
  blk_point [iblk6, idx6 t]

theorem idx7 : ∀ t : Fin cfg7.N, win7_0.index t = ![0, 0] ∧ win7_1.index t = ![0, 4 + (grid7.coords t 0).val] ∧
    win7_2.index t = ![0, 2, 0, (grid7.coords t 0).val] := (by decide +kernel : ∀ t : Fin grid7.N, _)

theorem weight7_point (c : Dev nD) (t : Fin cfg7.N) (y : S4x1x256x256.Idx) :
    (outsAt7 V c t) y = blockShort (iblk7 V c 0 t) (iblk7 V c 1 t) (y 0) (y 2) (y 3) := by
  dsimp only [outsAt7, out7_A_2]
  frame_out
  canon_tiles x h
  all_goals (open_payloads; pointwise [blockShort, row]; blk_point [])

theorem weight7 (c : Dev nD) : (dat7 V c).arrAt 2 cfg7.N
    = (fun j => if (j 1 : ℕ) = 2 then short (V c main_arg0) (V c main_arg8) (row (j 0) (j 2)) (valCol (j 3)) else V c main_v7 j
        : FVec Ideal S4x4x256x1024 .f32) := by
  refine (dat7 V c).arrAt_eq_of_coversWhere 2 _ (fun β => (β 1 : ℕ) = 2) (by decide +kernel) (fun t hf y => ?_)
    (fun j => by blk_simp [Pipeline.Window.cell_apply]; omega)
  blk_simp
  rw [after7_2]
  refine (weight7_point V c t y).trans ?_
  idx_vars y
  pointwise [blockShort, short, row, valCol]
  blk_point [iblk7, idx7 t]

end Cert.CrossGradsIdeal.Whole

end
-- ==== Proof.CrossGradsOne.lean ====
/-
  The calls which make the derivatives at the weights of the cross-attention at layer 1, whatever the arrays they read hold.
-/
module

public import proofs.«01_k».proof.Proof.CrossGradsArrays
public import proofs.«01_k».proof.Proof.Gen.CrossGradsIdeal.Frame.Region8
public import proofs.«01_k».proof.Proof.Gen.CrossGradsIdeal.Frame.Region9
public import proofs.«01_k».proof.Proof.Gen.CrossGradsIdeal.Frame.Region10
public import proofs.«01_k».proof.Proof.Gen.CrossGradsIdeal.Frame.Region11
public import Idealize.ShloMosaic.Lib.Pipeline.ValueKit
public import Idealize.ShloMosaic.Lib.Claim

@[expose] public section

set_option maxRecDepth 16384
noncomputable section

namespace Cert.CrossGradsIdeal.Whole

open Cert.CrossGradsIdeal Cert.CrossGradsIdeal.Gen Idealize.ShloMosaic Idealize.ShloMosaic.TcCoe Cert.Attend
open Cert.Gated (row)
open Idealize.ShloMosaic.Pipeline (Dat)

variable (V : (c : Dev nD) → (b : Ref sig .tc) → Buf (Elt Ideal) ((c : Thread nD τ).loc b))

theorem idx8 : ∀ t : Fin cfg8.N, win8_0.index t = ![0, 0] ∧ win8_1.index t = ![0, (grid8.coords t 0).val] ∧
    win8_2.index t = ![0, 1, 0, (grid8.coords t 0).val] := (by decide +kernel : ∀ t : Fin grid8.N, _)

theorem weight8_point (c : Dev nD) (t : Fin cfg8.N) (y : S4x1x256x256.Idx) :
    (outsAt8 V c t) y = blockTall (iblk8 V c 0 t) (iblk8 V c 1 t) (y 0) (y 2) (y 3) := by
  dsimp only [outsAt8, out8_A_2]
  frame_out
  canon_tiles x h
  all_goals (open_payloads; pointwise [blockTall, row]; blk_point [])

theorem weight8 (c : Dev nD) : (dat8 V c).arrAt 2 cfg8.N
    = (fun j => if (j 1 : ℕ) = 1 then tall (V c main_arg14) (V c main_arg15) (row (j 0) (j 2)) (j 3) else V c main_v8 j
        : FVec Ideal S4x4x256x1024 .f32) := by
  refine (dat8 V c).arrAt_eq_of_coversWhere 2 _ (fun β => (β 1 : ℕ) = 1) (by decide +kernel) (fun t hf y => ?_)
    (fun j => by blk_simp [Pipeline.Window.cell_apply]; omega)
  blk_simp
  rw [after8_2]
  refine (weight8_point V c t y).trans ?_
  idx_vars y
  pointwise [blockTall, tall, row]
  blk_point [iblk8, idx8 t]

theorem idx9 : ∀ t : Fin cfg9.N, win9_0.index t = ![0, 0] ∧ win9_1.index t = ![0, (grid9.coords t 0).val] ∧
    win9_2.index t = ![0, 1, 0, (grid9.coords t 0).val] := (by decide +kernel : ∀ t : Fin grid9.N, _)

theorem weight9_point (c : Dev nD) (t : Fin cfg9.N) (y : S4x1x256x256.Idx) :
    (outsAt9 V c t) y = blockTall (iblk9 V c 0 t) (iblk9 V c 1 t) (y 0) (y 2) (y 3) := by
  dsimp only [outsAt9, out9_A_2]
  frame_out
  canon_tiles x h
  all_goals (open_payloads; pointwise [blockTall, row]; blk_point [])

theorem weight9 (c : Dev nD) : (dat9 V c).arrAt 2 cfg9.N
    = (fun j => if (j 1 : ℕ) = 1 then tall (V c main_arg11) (V c main_arg12) (row (j 0) (j 2)) (j 3) else V c main_v9 j
        : FVec Ideal S4x4x256x1024 .f32) := by
  refine (dat9 V c).arrAt_eq_of_coversWhere 2 _ (fun β => (β 1 : ℕ) = 1) (by decide +kernel) (fun t hf y => ?_)
    (fun j => by blk_simp [Pipeline.Window.cell_apply]; omega)
  blk_simp
  rw [after9_2]
  refine (weight9_point V c t y).trans ?_
  idx_vars y
  pointwise [blockTall, tall, row]
  blk_point [iblk9, idx9 t]

theorem idx10 : ∀ t : Fin cfg10.N, win10_0.index t = ![0, 0] ∧ win10_1.index t = ![0, (grid10.coords t 0).val] ∧
    win10_2.index t = ![0, 1, 0, (grid10.coords t 0).val] := (by decide +kernel : ∀ t : Fin grid10.N, _)

theorem weight10_point (c : Dev nD) (t : Fin cfg10.N) (y : S4x1x256x256.Idx) :
    (outsAt10 V c t) y = blockShort (iblk10 V c 0 t) (iblk10 V c 1 t) (y 0) (y 2) (y 3) := by
  dsimp only [outsAt10, out10_A_2]
  frame_out
  canon_tiles x h
  all_goals (open_payloads; pointwise [blockShort, row]; blk_point [])

theorem weight10 (c : Dev nD) : (dat10 V c).arrAt 2 cfg10.N
    = (fun j => if (j 1 : ℕ) = 1 then short (V c main_arg0) (V c main_arg13) (row (j 0) (j 2)) (keyCol (j 3)) else V c main_v10 j
        : FVec Ideal S4x4x256x1024 .f32) := by
  refine (dat10 V c).arrAt_eq_of_coversWhere 2 _ (fun β => (β 1 : ℕ) = 1) (by decide +kernel) (fun t hf y => ?_)
    (fun j => by blk_simp [Pipeline.Window.cell_apply]; omega)
  blk_simp
  rw [after10_2]
  refine (weight10_point V c t y).trans ?_
  idx_vars y
  pointwise [blockShort, short, row, keyCol]
  blk_point [iblk10, idx10 t]

theorem idx11 : ∀ t : Fin cfg11.N, win11_0.index t = ![0, 0] ∧ win11_1.index t = ![0, 4 + (grid11.coords t 0).val] ∧
    win11_2.index t = ![0, 1, 0, (grid11.coords t 0).val] := (by decide +kernel : ∀ t : Fin grid11.N, _)

theorem weight11_point (c : Dev nD) (t : Fin cfg11.N) (y : S4x1x256x256.Idx) :
    (outsAt11 V c t) y = blockShort (iblk11 V c 0 t) (iblk11 V c 1 t) (y 0) (y 2) (y 3) := by
  dsimp only [outsAt11, out11_A_2]
  frame_out
  canon_tiles x h
  all_goals (open_payloads; pointwise [blockShort, row]; blk_point [])

theorem weight11 (c : Dev nD) : (dat11 V c).arrAt 2 cfg11.N
    = (fun j => if (j 1 : ℕ) = 1 then short (V c main_arg0) (V c main_arg13) (row (j 0) (j 2)) (valCol (j 3)) else V c main_v11 j
        : FVec Ideal S4x4x256x1024 .f32) := by
  refine (dat11 V c).arrAt_eq_of_coversWhere 2 _ (fun β => (β 1 : ℕ) = 1) (by decide +kernel) (fun t hf y => ?_)
    (fun j => by blk_simp [Pipeline.Window.cell_apply]; omega)
  blk_simp
  rw [after11_2]
  refine (weight11_point V c t y).trans ?_
  idx_vars y
  pointwise [blockShort, short, row, valCol]
  blk_point [iblk11, idx11 t]

end Cert.CrossGradsIdeal.Whole

end
-- ==== Proof.CrossGradsZero.lean ====
/-
  The calls which make the derivatives at the weights of the cross-attention at layer 0, whatever the arrays they read hold.
-/
module

public import proofs.«01_k».proof.Proof.CrossGradsArrays
public import proofs.«01_k».proof.Proof.Gen.CrossGradsIdeal.Frame.Region12
public import proofs.«01_k».proof.Proof.Gen.CrossGradsIdeal.Frame.Region13
public import proofs.«01_k».proof.Proof.Gen.CrossGradsIdeal.Frame.Region14
public import proofs.«01_k».proof.Proof.Gen.CrossGradsIdeal.Frame.Region15
public import Idealize.ShloMosaic.Lib.Pipeline.ValueKit
public import Idealize.ShloMosaic.Lib.Claim

@[expose] public section

set_option maxRecDepth 16384
noncomputable section

namespace Cert.CrossGradsIdeal.Whole

open Cert.CrossGradsIdeal Cert.CrossGradsIdeal.Gen Idealize.ShloMosaic Idealize.ShloMosaic.TcCoe Cert.Attend
open Cert.Gated (row)
open Idealize.ShloMosaic.Pipeline (Dat)

variable (V : (c : Dev nD) → (b : Ref sig .tc) → Buf (Elt Ideal) ((c : Thread nD τ).loc b))

theorem idx12 : ∀ t : Fin cfg12.N, win12_0.index t = ![0, 0] ∧ win12_1.index t = ![0, (grid12.coords t 0).val] ∧
    win12_2.index t = ![0, 0, 0, (grid12.coords t 0).val] := (by decide +kernel : ∀ t : Fin grid12.N, _)

theorem weight12_point (c : Dev nD) (t : Fin cfg12.N) (y : S4x1x256x256.Idx) :
    (outsAt12 V c t) y = blockTall (iblk12 V c 0 t) (iblk12 V c 1 t) (y 0) (y 2) (y 3) := by
  dsimp only [outsAt12, out12_A_2]
  frame_out
  canon_tiles x h
  all_goals (open_payloads; pointwise [blockTall, row]; blk_point [])

theorem weight12 (c : Dev nD) : (dat12 V c).arrAt 2 cfg12.N
    = (fun j => if (j 1 : ℕ) = 0 then tall (V c main_arg19) (V c main_arg20) (row (j 0) (j 2)) (j 3) else V c main_v12 j
        : FVec Ideal S4x4x256x1024 .f32) := by
  refine (dat12 V c).arrAt_eq_of_coversWhere 2 _ (fun β => (β 1 : ℕ) = 0) (by decide +kernel) (fun t hf y => ?_)
    (fun j => by blk_simp [Pipeline.Window.cell_apply]; omega)
  blk_simp
  rw [after12_2]
  refine (weight12_point V c t y).trans ?_
  idx_vars y
  pointwise [blockTall, tall, row]
  blk_point [iblk12, idx12 t]

theorem idx13 : ∀ t : Fin cfg13.N, win13_0.index t = ![0, 0] ∧ win13_1.index t = ![0, (grid13.coords t 0).val] ∧
    win13_2.index t = ![0, 0, 0, (grid13.coords t 0).val] := (by decide +kernel : ∀ t : Fin grid13.N, _)

theorem weight13_point (c : Dev nD) (t : Fin cfg13.N) (y : S4x1x256x256.Idx) :
    (outsAt13 V c t) y = blockTall (iblk13 V c 0 t) (iblk13 V c 1 t) (y 0) (y 2) (y 3) := by
  dsimp only [outsAt13, out13_A_2]
  frame_out
  canon_tiles x h
  all_goals (open_payloads; pointwise [blockTall, row]; blk_point [])

theorem weight13 (c : Dev nD) : (dat13 V c).arrAt 2 cfg13.N
    = (fun j => if (j 1 : ℕ) = 0 then tall (V c main_arg16) (V c main_arg17) (row (j 0) (j 2)) (j 3) else V c main_v13 j
        : FVec Ideal S4x4x256x1024 .f32) := by
  refine (dat13 V c).arrAt_eq_of_coversWhere 2 _ (fun β => (β 1 : ℕ) = 0) (by decide +kernel) (fun t hf y => ?_)
    (fun j => by blk_simp [Pipeline.Window.cell_apply]; omega)
  blk_simp
  rw [after13_2]
  refine (weight13_point V c t y).trans ?_
  idx_vars y
  pointwise [blockTall, tall, row]
  blk_point [iblk13, idx13 t]

theorem idx14 : ∀ t : Fin cfg14.N, win14_0.index t = ![0, 0] ∧ win14_1.index t = ![0, (grid14.coords t 0).val] ∧
    win14_2.index t = ![0, 0, 0, (grid14.coords t 0).val] := (by decide +kernel : ∀ t : Fin grid14.N, _)

theorem weight14_point (c : Dev nD) (t : Fin cfg14.N) (y : S4x1x256x256.Idx) :
    (outsAt14 V c t) y = blockShort (iblk14 V c 0 t) (iblk14 V c 1 t) (y 0) (y 2) (y 3) := by
  dsimp only [outsAt14, out14_A_2]
  frame_out
  canon_tiles x h
  all_goals (open_payloads; pointwise [blockShort, row]; blk_point [])

theorem weight14 (c : Dev nD) : (dat14 V c).arrAt 2 cfg14.N
    = (fun j => if (j 1 : ℕ) = 0 then short (V c main_arg0) (V c main_arg18) (row (j 0) (j 2)) (keyCol (j 3)) else V c main_v14 j
        : FVec Ideal S4x4x256x1024 .f32) := by
  refine (dat14 V c).arrAt_eq_of_coversWhere 2 _ (fun β => (β 1 : ℕ) = 0) (by decide +kernel) (fun t hf y => ?_)
    (fun j => by blk_simp [Pipeline.Window.cell_apply]; omega)
  blk_simp
  rw [after14_2]
  refine (weight14_point V c t y).trans ?_
  idx_vars y
  pointwise [blockShort, short, row, keyCol]
  blk_point [iblk14, idx14 t]

theorem idx15 : ∀ t : Fin cfg15.N, win15_0.index t = ![0, 0] ∧ win15_1.index t = ![0, 4 + (grid15.coords t 0).val] ∧
    win15_2.index t = ![0, 0, 0, (grid15.coords t 0).val] := (by decide +kernel : ∀ t : Fin grid15.N, _)

theorem weight15_point (c : Dev nD) (t : Fin cfg15.N) (y : S4x1x256x256.Idx) :
    (outsAt15 V c t) y = blockShort (iblk15 V c 0 t) (iblk15 V c 1 t) (y 0) (y 2) (y 3) := by
  dsimp only [outsAt15, out15_A_2]
  frame_out
  canon_tiles x h
  all_goals (open_payloads; pointwise [blockShort, row]; blk_point [])

theorem weight15 (c : Dev nD) : (dat15 V c).arrAt 2 cfg15.N
    = (fun j => if (j 1 : ℕ) = 0 then short (V c main_arg0) (V c main_arg18) (row (j 0) (j 2)) (valCol (j 3)) else V c main_v15 j
        : FVec Ideal S4x4x256x1024 .f32) := by
  refine (dat15 V c).arrAt_eq_of_coversWhere 2 _ (fun β => (β 1 : ℕ) = 0) (by decide +kernel) (fun t hf y => ?_)
    (fun j => by blk_simp [Pipeline.Window.cell_apply]; omega)
  blk_simp
  rw [after15_2]
  refine (weight15_point V c t y).trans ?_
  idx_vars y
  pointwise [blockShort, short, row, valCol]
  blk_point [iblk15, idx15 t]

end Cert.CrossGradsIdeal.Whole

end
-- ==== Proof.CrossGradsResults.lean ====
/-
  What the program of the cross-attention's weight gradients leaves in its four results.
-/
module

public import proofs.«01_k».proof.Proof.CrossGradsRun
public import proofs.«01_k».proof.Proof.CrossGradsThree
public import proofs.«01_k».proof.Proof.CrossGradsTwo
public import proofs.«01_k».proof.Proof.CrossGradsOne
public import proofs.«01_k».proof.Proof.CrossGradsZero
public import Idealize.ShloMosaic.Lib.Pipeline.ValueKit
public import Idealize.ShloMosaic.Lib.Claim

@[expose] public section

set_option maxRecDepth 16384
noncomputable section

namespace Cert.CrossGradsIdeal.Whole

open Cert.CrossGradsIdeal Cert.CrossGradsIdeal.Gen Idealize.ShloMosaic Idealize.ShloMosaic.TcCoe Cert.Attend
open Cert.Gated (row)
open Idealize.ShloMosaic.Pipeline (Dat)

variable (m : (ℓ : Loc nD τ sig) → Buf (Elt Ideal) ℓ) (ρ : Dev nD → PrngReg) (c : Dev nD)

/-- The derivatives at the weights of one kind of product, at layers 0 to 3. -/
def gradOut : Fin 4 → Fin 1024 → Fin 1024 → EReal :=
  ![fun k j => tall (m ((c : Thread nD τ).loc main_arg19)) (m ((c : Thread nD τ).loc main_arg20)) k j,
    fun k j => tall (m ((c : Thread nD τ).loc main_arg14)) (m ((c : Thread nD τ).loc main_arg15)) k j,
    fun k j => tall (m ((c : Thread nD τ).loc main_arg9)) (m ((c : Thread nD τ).loc main_arg10)) k j,
    fun k j => tall (m ((c : Thread nD τ).loc main_arg4)) (m ((c : Thread nD τ).loc main_arg5)) k j]
def gradQuery : Fin 4 → Fin 1024 → Fin 1024 → EReal :=
  ![fun k j => tall (m ((c : Thread nD τ).loc main_arg16)) (m ((c : Thread nD τ).loc main_arg17)) k j,
    fun k j => tall (m ((c : Thread nD τ).loc main_arg11)) (m ((c : Thread nD τ).loc main_arg12)) k j,
    fun k j => tall (m ((c : Thread nD τ).loc main_arg6)) (m ((c : Thread nD τ).loc main_arg7)) k j,
    fun k j => tall (m ((c : Thread nD τ).loc main_arg1)) (m ((c : Thread nD τ).loc main_arg2)) k j]
def gradKey : Fin 4 → Fin 1024 → Fin 1024 → EReal :=
  ![fun k j => short (m ((c : Thread nD τ).loc main_arg0)) (m ((c : Thread nD τ).loc main_arg18)) k (keyCol j),
    fun k j => short (m ((c : Thread nD τ).loc main_arg0)) (m ((c : Thread nD τ).loc main_arg13)) k (keyCol j),
    fun k j => short (m ((c : Thread nD τ).loc main_arg0)) (m ((c : Thread nD τ).loc main_arg8)) k (keyCol j),
    fun k j => short (m ((c : Thread nD τ).loc main_arg0)) (m ((c : Thread nD τ).loc main_arg3)) k (keyCol j)]
def gradValue : Fin 4 → Fin 1024 → Fin 1024 → EReal :=
  ![fun k j => short (m ((c : Thread nD τ).loc main_arg0)) (m ((c : Thread nD τ).loc main_arg18)) k (valCol j),
    fun k j => short (m ((c : Thread nD τ).loc main_arg0)) (m ((c : Thread nD τ).loc main_arg13)) k (valCol j),
    fun k j => short (m ((c : Thread nD τ).loc main_arg0)) (m ((c : Thread nD τ).loc main_arg8)) k (valCol j),
    fun k j => short (m ((c : Thread nD τ).loc main_arg0)) (m ((c : Thread nD τ).loc main_arg3)) k (valCol j)]

/-! ## The results of kind `out` -/

theorem at1 (j : S4x4x256x1024.Idx) (hj : 3 ≤ (j 1 : ℕ)) : V1 m ρ c main_v0 j = gradOut m c (j 1) (row (j 0) (j 2)) (j 3) := by
  refine (congrFun ((W1_arr m ρ c 2).trans (weight0 (V0 m ρ) c)) j).trans ?_
  have h : (j 1 : ℕ) = 3 := by have := (j 1).isLt; change (j 1 : ℕ) < 4 at this; omega
  refine (if_pos h).trans ?_
  rw [show j 1 = (3 : Fin 4) from Fin.ext h]
  rfl
theorem old5 : V5 m ρ c main_v4 = V1 m ρ c main_v0 := by
  refine Eq.trans ?_ ((W4_of m ρ c main_v0 (by decide)).trans ((W3_of m ρ c main_v0 (by decide)).trans ((W2_of m ρ c main_v0 (by decide)).trans (rfl))))
  show W5 m ρ c _ = _
  unfold W5
  after_results
  rfl
theorem at6 (j : S4x4x256x1024.Idx) (hj : 2 ≤ (j 1 : ℕ)) : V6 m ρ c main_v4 j = gradOut m c (j 1) (row (j 0) (j 2)) (j 3) := by
  refine (congrFun ((W6_arr m ρ c 2).trans (weight4 (V5 m ρ) c)) j).trans ?_
  by_cases h : (j 1 : ℕ) = 2
  · refine (if_pos h).trans ?_
    rw [show V5 m ρ c main_arg9 = m ((c : Thread nD τ).loc main_arg9) from W5_args m ρ c main_arg9 (by decide),
      show V5 m ρ c main_arg10 = m ((c : Thread nD τ).loc main_arg10) from W5_args m ρ c main_arg10 (by decide),
      show j 1 = (2 : Fin 4) from Fin.ext h]
    rfl
  · refine (if_neg h).trans ?_
    rw [old5]
    exact at1 m ρ c j (by omega)
theorem old13 : V13 m ρ c main_v8 = V6 m ρ c main_v4 := by
  refine Eq.trans ?_ ((W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans (rfl)))))))
  show W13 m ρ c _ = _
  unfold W13
  after_results
  rfl
theorem at14 (j : S4x4x256x1024.Idx) (hj : 1 ≤ (j 1 : ℕ)) : V14 m ρ c main_v8 j = gradOut m c (j 1) (row (j 0) (j 2)) (j 3) := by
  refine (congrFun ((W14_arr m ρ c 2).trans (weight8 (V13 m ρ) c)) j).trans ?_
  by_cases h : (j 1 : ℕ) = 1
  · refine (if_pos h).trans ?_
    rw [show V13 m ρ c main_arg14 = m ((c : Thread nD τ).loc main_arg14) from W13_args m ρ c main_arg14 (by decide),
      show V13 m ρ c main_arg15 = m ((c : Thread nD τ).loc main_arg15) from W13_args m ρ c main_arg15 (by decide),
      show j 1 = (1 : Fin 4) from Fin.ext h]
    rfl
  · refine (if_neg h).trans ?_
    rw [old13]
    exact at6 m ρ c j (by omega)
theorem old21 : V21 m ρ c main_v12 = V14 m ρ c main_v8 := by
  refine Eq.trans ?_ ((W20_of m ρ c main_v8 (by decide)).trans ((W19_of m ρ c main_v8 (by decide)).trans ((W18_of m ρ c main_v8 (by decide)).trans ((W17_of m ρ c main_v8 (by decide)).trans ((W16_of m ρ c main_v8 (by decide)).trans ((W15_of m ρ c main_v8 (by decide)).trans (rfl)))))))
  show W21 m ρ c _ = _
  unfold W21
  after_results
  rfl
theorem at22 (j : S4x4x256x1024.Idx) : V22 m ρ c main_v12 j = gradOut m c (j 1) (row (j 0) (j 2)) (j 3) := by
  refine (congrFun ((W22_arr m ρ c 2).trans (weight12 (V21 m ρ) c)) j).trans ?_
  by_cases h : (j 1 : ℕ) = 0
  · refine (if_pos h).trans ?_
    rw [show V21 m ρ c main_arg19 = m ((c : Thread nD τ).loc main_arg19) from W21_args m ρ c main_arg19 (by decide),
      show V21 m ρ c main_arg20 = m ((c : Thread nD τ).loc main_arg20) from W21_args m ρ c main_arg20 (by decide),
      show j 1 = (0 : Fin 4) from Fin.ext h]
    rfl
  · refine (if_neg h).trans ?_
    rw [old21]
    exact at14 m ρ c j (by omega)

/-! ## The results of kind `query` -/

theorem at2 (j : S4x4x256x1024.Idx) (hj : 3 ≤ (j 1 : ℕ)) : V2 m ρ c main_v1 j = gradQuery m c (j 1) (row (j 0) (j 2)) (j 3) := by
  refine (congrFun ((W2_arr m ρ c 2).trans (weight1 (V1 m ρ) c)) j).trans ?_
  have h : (j 1 : ℕ) = 3 := by have := (j 1).isLt; change (j 1 : ℕ) < 4 at this; omega
  refine (if_pos h).trans ?_
  rw [show V1 m ρ c main_arg1 = m ((c : Thread nD τ).loc main_arg1) from W1_args m ρ c main_arg1 (by decide),
    show V1 m ρ c main_arg2 = m ((c : Thread nD τ).loc main_arg2) from W1_args m ρ c main_arg2 (by decide),
    show j 1 = (3 : Fin 4) from Fin.ext h]
  rfl
theorem old7 : V7 m ρ c main_v5 = V2 m ρ c main_v1 := by
  refine Eq.trans ?_ ((W6_of m ρ c main_v1 (by decide)).trans ((W5_of m ρ c main_v1 (by decide)).trans ((W4_of m ρ c main_v1 (by decide)).trans ((W3_of m ρ c main_v1 (by decide)).trans (rfl)))))
  show W7 m ρ c _ = _
  unfold W7
  after_results
  rfl
theorem at8 (j : S4x4x256x1024.Idx) (hj : 2 ≤ (j 1 : ℕ)) : V8 m ρ c main_v5 j = gradQuery m c (j 1) (row (j 0) (j 2)) (j 3) := by
  refine (congrFun ((W8_arr m ρ c 2).trans (weight5 (V7 m ρ) c)) j).trans ?_
  by_cases h : (j 1 : ℕ) = 2
  · refine (if_pos h).trans ?_
    rw [show V7 m ρ c main_arg6 = m ((c : Thread nD τ).loc main_arg6) from W7_args m ρ c main_arg6 (by decide),
      show V7 m ρ c main_arg7 = m ((c : Thread nD τ).loc main_arg7) from W7_args m ρ c main_arg7 (by decide),
      show j 1 = (2 : Fin 4) from Fin.ext h]
    rfl
  · refine (if_neg h).trans ?_
    rw [old7]
    exact at2 m ρ c j (by omega)
theorem old15 : V15 m ρ c main_v9 = V8 m ρ c main_v5 := by
  refine Eq.trans ?_ ((W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans (rfl)))))))
  show W15 m ρ c _ = _
  unfold W15
  after_results
  rfl
theorem at16 (j : S4x4x256x1024.Idx) (hj : 1 ≤ (j 1 : ℕ)) : V16 m ρ c main_v9 j = gradQuery m c (j 1) (row (j 0) (j 2)) (j 3) := by
  refine (congrFun ((W16_arr m ρ c 2).trans (weight9 (V15 m ρ) c)) j).trans ?_
  by_cases h : (j 1 : ℕ) = 1
  · refine (if_pos h).trans ?_
    rw [show V15 m ρ c main_arg11 = m ((c : Thread nD τ).loc main_arg11) from W15_args m ρ c main_arg11 (by decide),
      show V15 m ρ c main_arg12 = m ((c : Thread nD τ).loc main_arg12) from W15_args m ρ c main_arg12 (by decide),
      show j 1 = (1 : Fin 4) from Fin.ext h]
    rfl
  · refine (if_neg h).trans ?_
    rw [old15]
    exact at8 m ρ c j (by omega)
theorem old23 : V23 m ρ c main_v13 = V16 m ρ c main_v9 := by
  refine Eq.trans ?_ ((W22_of m ρ c main_v9 (by decide)).trans ((W21_of m ρ c main_v9 (by decide)).trans ((W20_of m ρ c main_v9 (by decide)).trans ((W19_of m ρ c main_v9 (by decide)).trans ((W18_of m ρ c main_v9 (by decide)).trans ((W17_of m ρ c main_v9 (by decide)).trans (rfl)))))))
  show W23 m ρ c _ = _
  unfold W23
  after_results
  rfl
theorem at24 (j : S4x4x256x1024.Idx) : V24 m ρ c main_v13 j = gradQuery m c (j 1) (row (j 0) (j 2)) (j 3) := by
  refine (congrFun ((W24_arr m ρ c 2).trans (weight13 (V23 m ρ) c)) j).trans ?_
  by_cases h : (j 1 : ℕ) = 0
  · refine (if_pos h).trans ?_
    rw [show V23 m ρ c main_arg16 = m ((c : Thread nD τ).loc main_arg16) from W23_args m ρ c main_arg16 (by decide),
      show V23 m ρ c main_arg17 = m ((c : Thread nD τ).loc main_arg17) from W23_args m ρ c main_arg17 (by decide),
      show j 1 = (0 : Fin 4) from Fin.ext h]
    rfl
  · refine (if_neg h).trans ?_
    rw [old23]
    exact at16 m ρ c j (by omega)

/-! ## The results of kind `key` -/

theorem at3 (j : S4x4x256x1024.Idx) (hj : 3 ≤ (j 1 : ℕ)) : V3 m ρ c main_v2 j = gradKey m c (j 1) (row (j 0) (j 2)) (j 3) := by
  refine (congrFun ((W3_arr m ρ c 2).trans (weight2 (V2 m ρ) c)) j).trans ?_
  have h : (j 1 : ℕ) = 3 := by have := (j 1).isLt; change (j 1 : ℕ) < 4 at this; omega
  refine (if_pos h).trans ?_
  rw [show V2 m ρ c main_arg0 = m ((c : Thread nD τ).loc main_arg0) from W2_args m ρ c main_arg0 (by decide),
    show V2 m ρ c main_arg3 = m ((c : Thread nD τ).loc main_arg3) from W2_args m ρ c main_arg3 (by decide),
    show j 1 = (3 : Fin 4) from Fin.ext h]
  rfl
theorem old9 : V9 m ρ c main_v6 = V3 m ρ c main_v2 := by
  refine Eq.trans ?_ ((W8_of m ρ c main_v2 (by decide)).trans ((W7_of m ρ c main_v2 (by decide)).trans ((W6_of m ρ c main_v2 (by decide)).trans ((W5_of m ρ c main_v2 (by decide)).trans ((W4_of m ρ c main_v2 (by decide)).trans (rfl))))))
  show W9 m ρ c _ = _
  unfold W9
  after_results
  rfl
theorem at10 (j : S4x4x256x1024.Idx) (hj : 2 ≤ (j 1 : ℕ)) : V10 m ρ c main_v6 j = gradKey m c (j 1) (row (j 0) (j 2)) (j 3) := by
  refine (congrFun ((W10_arr m ρ c 2).trans (weight6 (V9 m ρ) c)) j).trans ?_
  by_cases h : (j 1 : ℕ) = 2
  · refine (if_pos h).trans ?_
    rw [show V9 m ρ c main_arg0 = m ((c : Thread nD τ).loc main_arg0) from W9_args m ρ c main_arg0 (by decide),
      show V9 m ρ c main_arg8 = m ((c : Thread nD τ).loc main_arg8) from W9_args m ρ c main_arg8 (by decide),
      show j 1 = (2 : Fin 4) from Fin.ext h]
    rfl
  · refine (if_neg h).trans ?_
    rw [old9]
    exact at3 m ρ c j (by omega)
theorem old17 : V17 m ρ c main_v10 = V10 m ρ c main_v6 := by
  refine Eq.trans ?_ ((W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans (rfl)))))))
  show W17 m ρ c _ = _
  unfold W17
  after_results
  rfl
theorem at18 (j : S4x4x256x1024.Idx) (hj : 1 ≤ (j 1 : ℕ)) : V18 m ρ c main_v10 j = gradKey m c (j 1) (row (j 0) (j 2)) (j 3) := by
  refine (congrFun ((W18_arr m ρ c 2).trans (weight10 (V17 m ρ) c)) j).trans ?_
  by_cases h : (j 1 : ℕ) = 1
  · refine (if_pos h).trans ?_
    rw [show V17 m ρ c main_arg0 = m ((c : Thread nD τ).loc main_arg0) from W17_args m ρ c main_arg0 (by decide),
      show V17 m ρ c main_arg13 = m ((c : Thread nD τ).loc main_arg13) from W17_args m ρ c main_arg13 (by decide),
      show j 1 = (1 : Fin 4) from Fin.ext h]
    rfl
  · refine (if_neg h).trans ?_
    rw [old17]
    exact at10 m ρ c j (by omega)
theorem old25 : V25 m ρ c main_v14 = V18 m ρ c main_v10 := by
  refine Eq.trans ?_ ((W24_of m ρ c main_v10 (by decide)).trans ((W23_of m ρ c main_v10 (by decide)).trans ((W22_of m ρ c main_v10 (by decide)).trans ((W21_of m ρ c main_v10 (by decide)).trans ((W20_of m ρ c main_v10 (by decide)).trans ((W19_of m ρ c main_v10 (by decide)).trans (rfl)))))))
  show W25 m ρ c _ = _
  unfold W25
  after_results
  rfl
theorem at26 (j : S4x4x256x1024.Idx) : V26 m ρ c main_v14 j = gradKey m c (j 1) (row (j 0) (j 2)) (j 3) := by
  refine (congrFun ((W26_arr m ρ c 2).trans (weight14 (V25 m ρ) c)) j).trans ?_
  by_cases h : (j 1 : ℕ) = 0
  · refine (if_pos h).trans ?_
    rw [show V25 m ρ c main_arg0 = m ((c : Thread nD τ).loc main_arg0) from W25_args m ρ c main_arg0 (by decide),
      show V25 m ρ c main_arg18 = m ((c : Thread nD τ).loc main_arg18) from W25_args m ρ c main_arg18 (by decide),
      show j 1 = (0 : Fin 4) from Fin.ext h]
    rfl
  · refine (if_neg h).trans ?_
    rw [old25]
    exact at18 m ρ c j (by omega)

/-! ## The results of kind `value` -/

theorem at4 (j : S4x4x256x1024.Idx) (hj : 3 ≤ (j 1 : ℕ)) : V4 m ρ c main_v3 j = gradValue m c (j 1) (row (j 0) (j 2)) (j 3) := by
  refine (congrFun ((W4_arr m ρ c 2).trans (weight3 (V3 m ρ) c)) j).trans ?_
  have h : (j 1 : ℕ) = 3 := by have := (j 1).isLt; change (j 1 : ℕ) < 4 at this; omega
  refine (if_pos h).trans ?_
  rw [show V3 m ρ c main_arg0 = m ((c : Thread nD τ).loc main_arg0) from W3_args m ρ c main_arg0 (by decide),
    show V3 m ρ c main_arg3 = m ((c : Thread nD τ).loc main_arg3) from W3_args m ρ c main_arg3 (by decide),
    show j 1 = (3 : Fin 4) from Fin.ext h]
  rfl
theorem old11 : V11 m ρ c main_v7 = V4 m ρ c main_v3 := by
  refine Eq.trans ?_ ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans (rfl)))))))
  show W11 m ρ c _ = _
  unfold W11
  after_results
  rfl
theorem at12 (j : S4x4x256x1024.Idx) (hj : 2 ≤ (j 1 : ℕ)) : V12 m ρ c main_v7 j = gradValue m c (j 1) (row (j 0) (j 2)) (j 3) := by
  refine (congrFun ((W12_arr m ρ c 2).trans (weight7 (V11 m ρ) c)) j).trans ?_
  by_cases h : (j 1 : ℕ) = 2
  · refine (if_pos h).trans ?_
    rw [show V11 m ρ c main_arg0 = m ((c : Thread nD τ).loc main_arg0) from W11_args m ρ c main_arg0 (by decide),
      show V11 m ρ c main_arg8 = m ((c : Thread nD τ).loc main_arg8) from W11_args m ρ c main_arg8 (by decide),
      show j 1 = (2 : Fin 4) from Fin.ext h]
    rfl
  · refine (if_neg h).trans ?_
    rw [old11]
    exact at4 m ρ c j (by omega)
theorem old19 : V19 m ρ c main_v11 = V12 m ρ c main_v7 := by
  refine Eq.trans ?_ ((W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans (rfl)))))))
  show W19 m ρ c _ = _
  unfold W19
  after_results
  rfl
theorem at20 (j : S4x4x256x1024.Idx) (hj : 1 ≤ (j 1 : ℕ)) : V20 m ρ c main_v11 j = gradValue m c (j 1) (row (j 0) (j 2)) (j 3) := by
  refine (congrFun ((W20_arr m ρ c 2).trans (weight11 (V19 m ρ) c)) j).trans ?_
  by_cases h : (j 1 : ℕ) = 1
  · refine (if_pos h).trans ?_
    rw [show V19 m ρ c main_arg0 = m ((c : Thread nD τ).loc main_arg0) from W19_args m ρ c main_arg0 (by decide),
      show V19 m ρ c main_arg13 = m ((c : Thread nD τ).loc main_arg13) from W19_args m ρ c main_arg13 (by decide),
      show j 1 = (1 : Fin 4) from Fin.ext h]
    rfl
  · refine (if_neg h).trans ?_
    rw [old19]
    exact at12 m ρ c j (by omega)
theorem old27 : V27 m ρ c main_v15 = V20 m ρ c main_v11 := by
  refine Eq.trans ?_ ((W26_of m ρ c main_v11 (by decide)).trans ((W25_of m ρ c main_v11 (by decide)).trans ((W24_of m ρ c main_v11 (by decide)).trans ((W23_of m ρ c main_v11 (by decide)).trans ((W22_of m ρ c main_v11 (by decide)).trans ((W21_of m ρ c main_v11 (by decide)).trans (rfl)))))))
  show W27 m ρ c _ = _
  unfold W27
  after_results
  rfl
theorem at28 (j : S4x4x256x1024.Idx) : V28 m ρ c main_v15 j = gradValue m c (j 1) (row (j 0) (j 2)) (j 3) := by
  refine (congrFun ((W28_arr m ρ c 2).trans (weight15 (V27 m ρ) c)) j).trans ?_
  by_cases h : (j 1 : ℕ) = 0
  · refine (if_pos h).trans ?_
    rw [show V27 m ρ c main_arg0 = m ((c : Thread nD τ).loc main_arg0) from W27_args m ρ c main_arg0 (by decide),
      show V27 m ρ c main_arg18 = m ((c : Thread nD τ).loc main_arg18) from W27_args m ρ c main_arg18 (by decide),
      show j 1 = (0 : Fin 4) from Fin.ext h]
    rfl
  · refine (if_neg h).trans ?_
    rw [old27]
    exact at20 m ρ c j (by omega)

/-! ## At the end -/

theorem outOut : W28 m ρ c (Proc.devRef .tc main_v12) = arrFour (gradOut m c) :=
  (W28_of m ρ c main_v12 (by decide)).trans ((W27_of m ρ c main_v12 (by decide)).trans ((W26_of m ρ c main_v12 (by decide)).trans ((W25_of m ρ c main_v12 (by decide)).trans ((W24_of m ρ c main_v12 (by decide)).trans ((W23_of m ρ c main_v12 (by decide)).trans (funext fun j => at22 m ρ c j))))))
theorem outQuery : W28 m ρ c (Proc.devRef .tc main_v13) = arrFour (gradQuery m c) :=
  (W28_of m ρ c main_v13 (by decide)).trans ((W27_of m ρ c main_v13 (by decide)).trans ((W26_of m ρ c main_v13 (by decide)).trans ((W25_of m ρ c main_v13 (by decide)).trans (funext fun j => at24 m ρ c j))))
theorem outKey : W28 m ρ c (Proc.devRef .tc main_v14) = arrFour (gradKey m c) :=
  (W28_of m ρ c main_v14 (by decide)).trans ((W27_of m ρ c main_v14 (by decide)).trans (funext fun j => at26 m ρ c j))
theorem outValue : W28 m ρ c (Proc.devRef .tc main_v15) = arrFour (gradValue m c) :=
  funext fun j => at28 m ρ c j

end Cert.CrossGradsIdeal.Whole

end
-- ==== Proof.CrossGradsStages.lean ====
/-
  The operations of the reference of the cross-attention's weight gradients, named.
-/
module

public import proofs.«01_k».proof.Proof.Gen.CrossGradsReferenceIdeal.Run
public import proofs.«01_k».proof.Proof.Attend
public import Idealize.ShloMosaic.Lib.Claim

@[expose] public section

set_option maxRecDepth 16384
noncomputable section

namespace Cert.CrossGradsReferenceIdeal.Stage

open Cert.CrossGradsReferenceIdeal Cert.CrossGradsReferenceIdeal.Gen Idealize.ShloMosaic Idealize.ShloMosaic.TcCoe

/-- The derivative at a weight that multiplies the rows `a`, from that at the product. -/
def tallW (a d : FVec Ideal S4096x1024 .bf16) : FVec Ideal S1024x1024 .f32 :=
  transpose S1024x1024 [1, 0] (Host.dotGeneral dot_S4096x1024_S4096x1024_S1024x1024_0_0_1_1_n_n none
    (extf .f32 d bitsLt_bf16_f32) (extf .f32 a bitsLt_bf16_f32)) transposes_S1024x1024_S1024x1024_1_0

/-- The same at a weight that multiplies the memory. -/
def shortW (a d : FVec Ideal S256x1024 .f32) : FVec Ideal S1024x1024 .f32 :=
  transpose S1024x1024 [1, 0] (Host.dotGeneral dot_S256x1024_S256x1024_S1024x1024_0_0_1_1_n_n none d a)
    transposes_S1024x1024_S1024x1024_1_0

/-- The halves of the derivative at the keys and the values. -/
def keys (d : FVec Ideal S256x2048 .f32) : FVec Ideal S256x1024 .f32 := extractStridedSlice S256x1024 ![0, 0] d slices_S256x2048_S256x1024_0_0
def values (d : FVec Ideal S256x2048 .f32) : FVec Ideal S256x1024 .f32 :=
  extractStridedSlice S256x1024 ![0, 1024] d slices_S256x2048_S256x1024_0_1024

/-- The derivatives of four layers in four parts of their rows. -/
def four (g₀ g₁ g₂ g₃ : FVec Ideal S1024x1024 .f32) : FVec Ideal S4x4x256x1024 .f32 :=
  concatenate S4x4x256x1024 1 [⟨S4x1x256x1024, shapeCast _ g₀ shapeCasts_S1024x1024_S4x1x256x1024⟩,
    ⟨S4x1x256x1024, shapeCast _ g₁ shapeCasts_S1024x1024_S4x1x256x1024⟩,
    ⟨S4x1x256x1024, shapeCast _ g₂ shapeCasts_S1024x1024_S4x1x256x1024⟩,
    ⟨S4x1x256x1024, shapeCast _ g₃ shapeCasts_S1024x1024_S4x1x256x1024⟩]
    concatenates_S4x1x256x1024_S4x1x256x1024_S4x1x256x1024_S4x1x256x1024_S4x4x256x1024_d1

variable (m : (ℓ : Loc nD τ sig) → Buf (Elt Ideal) ℓ) (c : Dev nD)

/-- The four results, of the arguments: the derivatives at the weights of one kind of product. -/
def gradQuery : FVec Ideal S4x4x256x1024 .f32 :=
  four (tallW (m ((c.tc : Thread nD τ).loc main_arg16)) (m ((c.tc : Thread nD τ).loc main_arg17)))
    (tallW (m ((c.tc : Thread nD τ).loc main_arg11)) (m ((c.tc : Thread nD τ).loc main_arg12)))
    (tallW (m ((c.tc : Thread nD τ).loc main_arg6)) (m ((c.tc : Thread nD τ).loc main_arg7)))
    (tallW (m ((c.tc : Thread nD τ).loc main_arg1)) (m ((c.tc : Thread nD τ).loc main_arg2)))
def gradKey : FVec Ideal S4x4x256x1024 .f32 :=
  four (shortW (m ((c.tc : Thread nD τ).loc main_arg0)) (keys (m ((c.tc : Thread nD τ).loc main_arg18))))
    (shortW (m ((c.tc : Thread nD τ).loc main_arg0)) (keys (m ((c.tc : Thread nD τ).loc main_arg13))))
    (shortW (m ((c.tc : Thread nD τ).loc main_arg0)) (keys (m ((c.tc : Thread nD τ).loc main_arg8))))
    (shortW (m ((c.tc : Thread nD τ).loc main_arg0)) (keys (m ((c.tc : Thread nD τ).loc main_arg3))))
def gradValue : FVec Ideal S4x4x256x1024 .f32 :=
  four (shortW (m ((c.tc : Thread nD τ).loc main_arg0)) (values (m ((c.tc : Thread nD τ).loc main_arg18))))
    (shortW (m ((c.tc : Thread nD τ).loc main_arg0)) (values (m ((c.tc : Thread nD τ).loc main_arg13))))
    (shortW (m ((c.tc : Thread nD τ).loc main_arg0)) (values (m ((c.tc : Thread nD τ).loc main_arg8))))
    (shortW (m ((c.tc : Thread nD τ).loc main_arg0)) (values (m ((c.tc : Thread nD τ).loc main_arg3))))
def gradOut : FVec Ideal S4x4x256x1024 .f32 :=
  four (tallW (m ((c.tc : Thread nD τ).loc main_arg19)) (m ((c.tc : Thread nD τ).loc main_arg20)))
    (tallW (m ((c.tc : Thread nD τ).loc main_arg14)) (m ((c.tc : Thread nD τ).loc main_arg15)))
    (tallW (m ((c.tc : Thread nD τ).loc main_arg9)) (m ((c.tc : Thread nD τ).loc main_arg10)))
    (tallW (m ((c.tc : Thread nD τ).loc main_arg4)) (m ((c.tc : Thread nD τ).loc main_arg5)))

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v80) = gradQuery m c
    ∧ r.2.mem ((c.tc : Thread nD τ).loc main_v85) = gradKey m c
    ∧ r.2.mem ((c.tc : Thread nD τ).loc main_v90) = gradValue m c
    ∧ r.2.mem ((c.tc : Thread nD τ).loc main_v95) = gradOut m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20) :=
  (θ_run defs _ _).mono (fun _ h c => by
    obtain ⟨h0, h1, h2, h3, ha⟩ := h c
    exact ⟨h0, h1, h2, h3, ha⟩) (Value.run (F := Ideal) m ρ)

end Cert.CrossGradsReferenceIdeal.Stage

end
-- ==== Proof.CrossGradsStagesAt.lean ====
/-
  The operations of the reference of the cross-attention's weight gradients read at an index.
-/
module

public import proofs.«01_k».proof.Proof.CrossGradsStages
public import proofs.«01_k».proof.Proof.CrossGradsArrays

@[expose] public section

set_option maxRecDepth 16384
noncomputable section

namespace Cert.CrossGradsReferenceIdeal.Stage

open Cert.CrossGradsReferenceIdeal Cert.CrossGradsReferenceIdeal.Gen Idealize.ShloMosaic Idealize.ShloMosaic.TcCoe Cert.Attend
open Cert.Gated (row)
open Cert.CrossGradsIdeal.Whole (tall short)

theorem tallW_at (a d : FVec Ideal S4096x1024 .bf16) (k j : Fin 1024) : tallW a d (ix2 k j) = tall a d k j := by
  pointwise [tallW]
  exact Finset.sum_congr rfl fun i _ => mul_comm _ _

theorem keys_at (a : FVec Ideal S256x1024 .f32) (d : FVec Ideal S256x2048 .f32) (k j : Fin 1024) :
    shortW a (keys d) (ix2 k j) = short a d k (keyCol j) := by
  pointwise [shortW, keys]
  exact Finset.sum_congr rfl fun i _ => (mul_comm _ _).trans
    (congrArg (fun e => a (ix2 i k) * d (ix2 i e)) (Fin.ext (by simp only [keyCol]; try omega)))

theorem values_at (a : FVec Ideal S256x1024 .f32) (d : FVec Ideal S256x2048 .f32) (k j : Fin 1024) :
    shortW a (values d) (ix2 k j) = short a d k (valCol j) := by
  pointwise [shortW, values]
  exact Finset.sum_congr rfl fun i _ => (mul_comm _ _).trans
    (congrArg (fun e => a (ix2 i k) * d (ix2 i e)) (Fin.ext (by simp only [valCol]; try omega)))

/-- The four stacked gradients, by their entries. -/
theorem four_eq (g₀ g₁ g₂ g₃ : FVec Ideal S1024x1024 .f32) (G₀ G₁ G₂ G₃ : Fin 1024 → Fin 1024 → EReal)
    (h₀ : ∀ k j, g₀ (ix2 k j) = G₀ k j) (h₁ : ∀ k j, g₁ (ix2 k j) = G₁ k j) (h₂ : ∀ k j, g₂ (ix2 k j) = G₂ k j)
    (h₃ : ∀ k j, g₃ (ix2 k j) = G₃ k j) : four g₀ g₁ g₂ g₃ = arrFour ![G₀, G₁, G₂, G₃] := by
  funext j
  idx_vars j
  have hu : ∀ h : (j0 : ℕ) * 256 + j2 < 1024, (⟨(j0 : ℕ) * 256 + j2, h⟩ : Fin 1024) = row j0 j2 :=
    fun h => Fin.ext (by simp only [row]; omega)
  pointwise [four, arrFour]
  simp only [hu, h₀, h₁, h₂, h₃]
  fin_cases j1 <;> rfl

end Cert.CrossGradsReferenceIdeal.Stage

end
-- ==== Proof.CrossGrads.lean ====
/-
  The five claims about the cross-attention's weight gradients: the three frames, the ledger, and the equation of the kernel with the
  reference.
-/
module

public import proofs.«01_k».proof.Defs
public import proofs.«01_k».proof.Proof.Gen.CrossGrads.Frame
public import proofs.«01_k».proof.Proof.CrossGradsResults
public import proofs.«01_k».proof.Proof.CrossGradsStagesAt

@[expose] public section

noncomputable section

namespace Cert.CrossGradsClaims

open Idealize.ShloMosaic Idealize.ShloMosaic.TcCoe Idealize.SL.Sem Cert.Attend

theorem frame_p : Cert.quiescent_CrossGrads := fun m ρ _ => Cert.CrossGrads.Gen.frame m ρ

theorem frame_pi : Cert.quiescent_CrossGradsIdeal := fun m ρ _ => Cert.CrossGradsIdeal.Gen.frame m ρ

theorem frame_ri : Cert.quiescent_CrossGradsReferenceIdeal := fun m ρ _ =>
  (θ_run Cert.CrossGradsReferenceIdeal.defs _ _).mono
    (fun r h => ⟨fun c => (h c).2.2.2.2, sem_eq_zero_of_no_sems (by decide) r.2⟩)
    (Cert.CrossGradsReferenceIdeal.Value.run (F := Ideal) m ρ)

theorem preserves : Cert.preserves_CrossGrads_CrossGradsIdeal := trivial

section
open Cert.CrossGradsIdeal Cert.CrossGradsIdeal.Whole

theorem algebraic : Cert.algebraic_CrossGradsIdeal_CrossGradsReferenceIdeal := by
  intro m ρ m' ρ' _ hag
  refine ⟨fun c => arrFour (gradQuery m c), fun c => arrFour (gradKey m c), fun c => arrFour (gradValue m c),
    fun c => arrFour (gradOut m c), ?_, ?_⟩
  · refine (θ_run defs _ _).mono (fun r h c => ?_) (run m ρ)
    exact ⟨(h c main_v13 (by decide)).trans (outQuery m ρ c), (h c main_v14 (by decide)).trans (outKey m ρ c),
      (h c main_v15 (by decide)).trans (outValue m ρ c), (h c main_v12 (by decide)).trans (outOut m ρ c),
      (h c main_arg0 (by decide)).trans (Gen.W28_main_arg0 m ρ c),
      (h c main_arg1 (by decide)).trans (Gen.W28_main_arg1 m ρ c),
      (h c main_arg2 (by decide)).trans (Gen.W28_main_arg2 m ρ c),
      (h c main_arg3 (by decide)).trans (Gen.W28_main_arg3 m ρ c),
      (h c main_arg4 (by decide)).trans (Gen.W28_main_arg4 m ρ c),
      (h c main_arg5 (by decide)).trans (Gen.W28_main_arg5 m ρ c),
      (h c main_arg6 (by decide)).trans (Gen.W28_main_arg6 m ρ c),
      (h c main_arg7 (by decide)).trans (Gen.W28_main_arg7 m ρ c),
      (h c main_arg8 (by decide)).trans (Gen.W28_main_arg8 m ρ c),
      (h c main_arg9 (by decide)).trans (Gen.W28_main_arg9 m ρ c),
      (h c main_arg10 (by decide)).trans (Gen.W28_main_arg10 m ρ c),
      (h c main_arg11 (by decide)).trans (Gen.W28_main_arg11 m ρ c),
      (h c main_arg12 (by decide)).trans (Gen.W28_main_arg12 m ρ c),
      (h c main_arg13 (by decide)).trans (Gen.W28_main_arg13 m ρ c),
      (h c main_arg14 (by decide)).trans (Gen.W28_main_arg14 m ρ c),
      (h c main_arg15 (by decide)).trans (Gen.W28_main_arg15 m ρ c),
      (h c main_arg16 (by decide)).trans (Gen.W28_main_arg16 m ρ c),
      (h c main_arg17 (by decide)).trans (Gen.W28_main_arg17 m ρ c),
      (h c main_arg18 (by decide)).trans (Gen.W28_main_arg18 m ρ c),
      (h c main_arg19 (by decide)).trans (Gen.W28_main_arg19 m ρ c),
      (h c main_arg20 (by decide)).trans (Gen.W28_main_arg20 m ρ c)⟩
  · refine (θ_run Cert.CrossGradsReferenceIdeal.defs _ _).mono (fun r h c => ?_) (Cert.CrossGradsReferenceIdeal.Stage.run m' ρ')
    obtain ⟨h0, h1, h2, h3, ha⟩ := h c
    obtain ⟨e0, e1, e2, e3, e4, e5, e6, e7, e8, e9, e10, e11, e12, e13, e14, e15, e16, e17, e18, e19, e20⟩ := hag c
    refine ⟨h0.trans ?_, h1.trans ?_, h2.trans ?_, h3.trans ?_, ha⟩
    · rw [Cert.CrossGradsReferenceIdeal.Stage.gradQuery, e16, e17, e11, e12, e6, e7, e1, e2]
      exact Cert.CrossGradsReferenceIdeal.Stage.four_eq _ _ _ _ _ _ _ _ (Cert.CrossGradsReferenceIdeal.Stage.tallW_at _ _) (Cert.CrossGradsReferenceIdeal.Stage.tallW_at _ _) (Cert.CrossGradsReferenceIdeal.Stage.tallW_at _ _) (Cert.CrossGradsReferenceIdeal.Stage.tallW_at _ _)
    · rw [Cert.CrossGradsReferenceIdeal.Stage.gradKey, e0, e18, e13, e8, e3]
      exact Cert.CrossGradsReferenceIdeal.Stage.four_eq _ _ _ _ _ _ _ _ (Cert.CrossGradsReferenceIdeal.Stage.keys_at _ _) (Cert.CrossGradsReferenceIdeal.Stage.keys_at _ _) (Cert.CrossGradsReferenceIdeal.Stage.keys_at _ _) (Cert.CrossGradsReferenceIdeal.Stage.keys_at _ _)
    · rw [Cert.CrossGradsReferenceIdeal.Stage.gradValue, e0, e18, e13, e8, e3]
      exact Cert.CrossGradsReferenceIdeal.Stage.four_eq _ _ _ _ _ _ _ _ (Cert.CrossGradsReferenceIdeal.Stage.values_at _ _) (Cert.CrossGradsReferenceIdeal.Stage.values_at _ _) (Cert.CrossGradsReferenceIdeal.Stage.values_at _ _) (Cert.CrossGradsReferenceIdeal.Stage.values_at _ _)
    · rw [Cert.CrossGradsReferenceIdeal.Stage.gradOut, e19, e20, e14, e15, e9, e10, e4, e5]
      exact Cert.CrossGradsReferenceIdeal.Stage.four_eq _ _ _ _ _ _ _ _ (Cert.CrossGradsReferenceIdeal.Stage.tallW_at _ _) (Cert.CrossGradsReferenceIdeal.Stage.tallW_at _ _) (Cert.CrossGradsReferenceIdeal.Stage.tallW_at _ _) (Cert.CrossGradsReferenceIdeal.Stage.tallW_at _ _)

end

end Cert.CrossGradsClaims

end
-- ==== Proof.HybRun.lean ====
/-
  The program of the hybrid mixer's projections runs to its end: what every buffer of a core holds there. Its calls run one after the
  other, and the contents after the last of them are the fold of them over the launch contents.
-/
module

public import proofs.«01_k».proof.Proof.Gen.HybIdeal.Frame
public import Idealize.ShloMosaic.Lib.Pointwise

@[expose] public section

noncomputable section

namespace Cert.HybIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.HybIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W7 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W7 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W7 m ρ c) s)
    isplitl [Hbufs] <;> iassumption

end Cert.HybIdeal.Whole

end
-- ==== Proof.HybArrays.lean ====
/-
  The products of the hybrid mixer's projections and of their derivatives, as formulas of the arrays that the calls read.
-/
module

public import proofs.«01_k».proof.Proof.Gen.HybIdeal.Skeleton
public import proofs.«01_k».proof.Proof.Gated
public import Idealize.ShloMosaic.Lib.Pipeline.ValueKit
public import Idealize.ShloMosaic.Lib.Claim

@[expose] public section

set_option maxRecDepth 16384
noncomputable section

namespace Cert.HybIdeal.Whole

open Cert.HybIdeal Cert.HybIdeal.Gen Idealize.ShloMosaic Idealize.ShloMosaic.TcCoe
open Cert.Gated (row)

/-- The projection of the rows. The second formula, here and below, is of the blocks of one call. -/
def project (a : FVec Ideal S4096x1024 .bf16) (d : FVec Ideal S1024x3840 .bf16) (i : Fin 4096) (j : Fin 3840) : EReal :=
  ∑ k : Fin 1024, a (ix2 i k) * d (ix2 k j)
def blockProject (a : Vec Ideal S512x1024 .bf16) (d : Vec Ideal S1024x3840 .bf16) (i : Fin 512) (j : Fin 3840) : EReal :=
  ∑ k : Fin 1024, (a : FVec Ideal S512x1024 .bf16) (ix2 i k) * (d : FVec Ideal S1024x3840 .bf16) (ix2 k j)

/-- The derivative at the rows that the output product multiplies. -/
def backOut (a : FVec Ideal S4096x1024 .bf16) (d : FVec Ideal S1024x1024 .bf16) (i : Fin 4096) (k : Fin 1024) : EReal :=
  ∑ j : Fin 1024, a (ix2 i j) * d (ix2 k j)
def blockBackOut (a : Vec Ideal S1024x1024 .bf16) (d : Vec Ideal S1024x1024 .bf16) (i k : Fin 1024) : EReal :=
  ∑ j : Fin 1024, (a : FVec Ideal S1024x1024 .bf16) (ix2 i j) * (d : FVec Ideal S1024x1024 .bf16) (ix2 k j)

/-- The derivative at the rows that are projected. -/
def backIn (a : FVec Ideal S4096x3840 .f32) (d : FVec Ideal S1024x3840 .bf16) (i : Fin 4096) (k : Fin 1024) : EReal :=
  ∑ j : Fin 3840, a (ix2 i j) * d (ix2 k j)
def blockBackIn (a : Vec Ideal S512x3840 .f32) (d : Vec Ideal S1024x3840 .bf16) (i : Fin 512) (k : Fin 1024) : EReal :=
  ∑ j : Fin 3840, (a : FVec Ideal S512x3840 .f32) (ix2 i j) * (d : FVec Ideal S1024x3840 .bf16) (ix2 k j)

/-- The derivative at the weight of the projection. -/
def gradIn (a : FVec Ideal S4096x1024 .bf16) (d : FVec Ideal S4096x3840 .f32) (k : Fin 1024) (j : Fin 3840) : EReal :=
  ∑ i : Fin 4096, a (ix2 i k) * d (ix2 i j)
def blockGradIn (a : Vec Ideal S4096x1024 .bf16) (d : Vec Ideal S4096x256 .f32) (k : Fin 1024) (j : Fin 256) : EReal :=
  ∑ i : Fin 4096, (a : FVec Ideal S4096x1024 .bf16) (ix2 i k) * (d : FVec Ideal S4096x256 .f32) (ix2 i j)

/-- The derivative at the weight of the output product. -/
def gradOut (a : FVec Ideal S4096x1024 .f32) (d : FVec Ideal S4096x1024 .bf16) (k j : Fin 1024) : EReal :=
  ∑ i : Fin 4096, a (ix2 i k) * d (ix2 i j)
def blockGradOut (a : Vec Ideal S4096x1024 .f32) (d : Vec Ideal S4096x256 .bf16) (p : Fin 4) (r j : Fin 256) : EReal :=
  ∑ i : Fin 4096, (a : FVec Ideal S4096x1024 .f32) (ix2 i (row p r)) * (d : FVec Ideal S4096x256 .bf16) (ix2 i j)

def arrProj (g : Fin 4096 → Fin 3840 → EReal) : FVec Ideal S4096x3840 .f32 := fun j => g (j 0) (j 1)
def arrRows (g : Fin 4096 → Fin 1024 → EReal) : FVec Ideal S4096x1024 .f32 := fun j => g (j 0) (j 1)
def arrIn (g : Fin 1024 → Fin 3840 → EReal) : FVec Ideal S1024x3840 .f32 := fun j => g (j 0) (j 1)

/-- The two gradients of the output product, side by side, each in four parts of its rows. -/
def arrPair (g₀ g₁ : Fin 1024 → Fin 1024 → EReal) : FVec Ideal S4x2x256x1024 .f32 :=
  fun j => if (j 1 : ℕ) = 0 then g₀ (row (j 0) (j 2)) (j 3) else g₁ (row (j 0) (j 2)) (j 3)

end Cert.HybIdeal.Whole

end
-- ==== Proof.HybRows.lean ====
/-
  The calls which make rows: the projection, and the derivatives at what the two products multiply.
-/
module

public import proofs.«01_k».proof.Proof.HybArrays
public import proofs.«01_k».proof.Proof.Gen.HybIdeal.Frame
public import Idealize.ShloMosaic.Lib.Pipeline.ValueKit
public import Idealize.ShloMosaic.Lib.Claim

@[expose] public section

set_option maxRecDepth 16384
noncomputable section

namespace Cert.HybIdeal.Whole

open Cert.HybIdeal Cert.HybIdeal.Gen Idealize.ShloMosaic Idealize.ShloMosaic.TcCoe
open Cert.Gated (row)
open Idealize.ShloMosaic.Pipeline (Dat)

variable (V : (c : Dev nD) → (b : Ref sig .tc) → Buf (Elt Ideal) ((c : Thread nD τ).loc b))

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

theorem project0_point (a : Vec Ideal S512x1024 .bf16) (d : Vec Ideal S1024x3840 .bf16) (y : S512x3840.Idx) : out0_2 a d y = blockProject a d (y 0) (y 1) := by
  dsimp only [out0_2]
  frame_out
  canon_tiles x h
  all_goals (open_payloads; pointwise [blockProject]; blk_point [])

theorem project0 (c : Dev nD) : (dat0 V c).arrAt 2 cfg0.N = arrProj (project (V c main_arg0) (V c main_arg1)) := by
  refine (dat0 V c).arrAt_eq_of_covers 2 _ (by decide +kernel) fun t _ y => ?_
  blk_simp
  rw [after0_2]
  refine (project0_point _ _ y).trans ?_
  idx_vars y
  pointwise [blockProject, project, arrProj]
  blk_point [iblk0, idx0 t]

theorem idx3 : ∀ t : Fin cfg3.N, win3_0.index t = ![(grid3.coords t 0).val, 0] ∧ win3_1.index t = ![0, 0] ∧ win3_2.index t = ![(grid3.coords t 0).val, 0] :=
  (by decide +kernel : ∀ t : Fin grid3.N, _)

theorem backOut3_point (a : Vec Ideal S1024x1024 .bf16) (d : Vec Ideal S1024x1024 .bf16) (y : S1024x1024.Idx) : out3_2 a d y = blockBackOut a d (y 0) (y 1) := by
  dsimp only [out3_2]
  frame_out
  canon_tiles x h
  all_goals (open_payloads; pointwise [blockBackOut]; blk_point [])

theorem backOut3 (c : Dev nD) : (dat3 V c).arrAt 2 cfg3.N = arrRows (backOut (V c main_arg5) (V c main_arg4)) := by
  refine (dat3 V c).arrAt_eq_of_covers 2 _ (by decide +kernel) fun t _ y => ?_
  blk_simp
  rw [after3_2]
  refine (backOut3_point _ _ y).trans ?_
  idx_vars y
  pointwise [blockBackOut, backOut, arrRows]
  blk_point [iblk3, idx3 t]

theorem idx5 : ∀ t : Fin cfg5.N, win5_0.index t = ![(grid5.coords t 0).val, 0] ∧ win5_1.index t = ![0, 0] ∧ win5_2.index t = ![(grid5.coords t 0).val, 0] :=
  (by decide +kernel : ∀ t : Fin grid5.N, _)

theorem backIn5_point (a : Vec Ideal S512x3840 .f32) (d : Vec Ideal S1024x3840 .bf16) (y : S512x1024.Idx) : out5_2 a d y = blockBackIn a d (y 0) (y 1) := by
  dsimp only [out5_2]
  frame_out
  canon_tiles x h
  all_goals (open_payloads; pointwise [blockBackIn]; blk_point [])

theorem backIn5 (c : Dev nD) : (dat5 V c).arrAt 2 cfg5.N = arrRows (backIn (V c main_arg2) (V c main_arg1)) := by
  refine (dat5 V c).arrAt_eq_of_covers 2 _ (by decide +kernel) fun t _ y => ?_
  blk_simp
  rw [after5_2]
  refine (backIn5_point _ _ y).trans ?_
  idx_vars y
  pointwise [blockBackIn, backIn, arrRows]
  blk_point [iblk5, idx5 t]

end Cert.HybIdeal.Whole

end
-- ==== Proof.HybWeights.lean ====
/-
  The calls which make the derivatives at the weights of the two products.
-/
module

public import proofs.«01_k».proof.Proof.HybArrays
public import proofs.«01_k».proof.Proof.Gen.HybIdeal.Frame
public import Idealize.ShloMosaic.Lib.Pipeline.ValueKit
public import Idealize.ShloMosaic.Lib.Claim

@[expose] public section

set_option maxRecDepth 16384
noncomputable section

namespace Cert.HybIdeal.Whole

open Cert.HybIdeal Cert.HybIdeal.Gen Idealize.ShloMosaic Idealize.ShloMosaic.TcCoe
open Cert.Gated (row)
open Idealize.ShloMosaic.Pipeline (Dat)

variable (V : (c : Dev nD) → (b : Ref sig .tc) → Buf (Elt Ideal) ((c : Thread nD τ).loc b))

theorem idx1 : ∀ t : Fin cfg1.N, win1_0.index t = ![0, 0] ∧ win1_1.index t = ![0, (grid1.coords t 0).val] ∧
    win1_2.index t = ![0, 1, 0, (grid1.coords t 0).val] := (by decide +kernel : ∀ t : Fin grid1.N, _)

theorem gradOut1_point (a : Vec Ideal S4096x1024 .f32) (d : Vec Ideal S4096x256 .bf16) (y : S4x1x256x256.Idx) :
    out1_2 a d y = blockGradOut a d (y 0) (y 2) (y 3) := by
  dsimp only [out1_2]
  frame_out
  canon_tiles x h
  all_goals (open_payloads; pointwise [blockGradOut, row]; blk_point [])

theorem gradOut1 (c : Dev nD) : (dat1 V c).arrAt 2 cfg1.N
    = (fun j => if (j 1 : ℕ) = 1 then gradOut (V c main_arg6) (V c main_arg7) (row (j 0) (j 2)) (j 3) else V c main_v1 j
        : FVec Ideal S4x2x256x1024 .f32) := by
  refine (dat1 V c).arrAt_eq_of_coversWhere 2 _ (fun β => (β 1 : ℕ) = 1) (by decide +kernel) (fun t hf y => ?_)
    (fun j => by blk_simp [Pipeline.Window.cell_apply]; omega)
  blk_simp
  rw [after1_2]
  refine (gradOut1_point _ _ y).trans ?_
  idx_vars y
  pointwise [blockGradOut, gradOut, row]
  blk_point [iblk1, idx1 t]

theorem idx2 : ∀ t : Fin cfg2.N, win2_0.index t = ![0, 0] ∧ win2_1.index t = ![0, (grid2.coords t 0).val] ∧
    win2_2.index t = ![0, 0, 0, (grid2.coords t 0).val] := (by decide +kernel : ∀ t : Fin grid2.N, _)

theorem gradOut2_point (c : Dev nD) (t : Fin cfg2.N) (y : S4x1x256x256.Idx) :
    (outsAt2 V c t) y = blockGradOut (iblk2 V c 0 t) (iblk2 V c 1 t) (y 0) (y 2) (y 3) := by
  dsimp only [outsAt2, out2_A_2]
  frame_out
  canon_tiles x h
  all_goals (open_payloads; pointwise [blockGradOut, row]; blk_point [])

theorem gradOut2 (c : Dev nD) : (dat2 V c).arrAt 2 cfg2.N
    = (fun j => if (j 1 : ℕ) = 0 then gradOut (V c main_arg3) (V c main_arg5) (row (j 0) (j 2)) (j 3) else V c main_v2 j
        : FVec Ideal S4x2x256x1024 .f32) := by
  refine (dat2 V c).arrAt_eq_of_coversWhere 2 _ (fun β => (β 1 : ℕ) = 0) (by decide +kernel) (fun t hf y => ?_)
    (fun j => by blk_simp [Pipeline.Window.cell_apply]; omega)
  blk_simp
  rw [after2_2]
  refine (gradOut2_point V c t y).trans ?_
  idx_vars y
  pointwise [blockGradOut, gradOut, row]
  blk_point [iblk2, idx2 t]

theorem idx4 : ∀ t : Fin cfg4.N, win4_0.index t = ![0, 0] ∧ win4_1.index t = ![0, (grid4.coords t 0).val] ∧ win4_2.index t = ![0, (grid4.coords t 0).val] :=
  (by decide +kernel : ∀ t : Fin grid4.N, _)

theorem gradIn4_point (a : Vec Ideal S4096x1024 .bf16) (d : Vec Ideal S4096x256 .f32) (y : S1024x256.Idx) : out4_2 a d y = blockGradIn a d (y 0) (y 1) := by
  dsimp only [out4_2]
  frame_out
  canon_tiles x h
  all_goals (open_payloads; pointwise [blockGradIn]; blk_point [])

theorem gradIn4 (c : Dev nD) : (dat4 V c).arrAt 2 cfg4.N = arrIn (gradIn (V c main_arg0) (V c main_arg2)) := by
  refine (dat4 V c).arrAt_eq_of_covers 2 _ (by decide +kernel) fun t _ y => ?_
  blk_simp
  rw [after4_2]
  refine (gradIn4_point _ _ y).trans ?_
  idx_vars y
  pointwise [blockGradIn, gradIn, arrIn]
  blk_point [iblk4, idx4 t]

end Cert.HybIdeal.Whole

end
-- ==== Proof.HybResults.lean ====
/-
  What the program of the hybrid mixer's projections leaves in its results.
-/
module

public import proofs.«01_k».proof.Proof.HybRun
public import proofs.«01_k».proof.Proof.HybRows
public import proofs.«01_k».proof.Proof.HybWeights
public import Idealize.ShloMosaic.Lib.Pipeline.ValueKit
public import Idealize.ShloMosaic.Lib.Claim

@[expose] public section

set_option maxRecDepth 16384
noncomputable section

namespace Cert.HybIdeal.Whole

open Cert.HybIdeal Cert.HybIdeal.Gen Idealize.ShloMosaic Idealize.ShloMosaic.TcCoe
open Cert.Gated (row)
open Idealize.ShloMosaic.Pipeline (Dat)

variable (m : (ℓ : Loc nD τ sig) → Buf (Elt Ideal) ℓ) (ρ : Dev nD → PrngReg) (c : Dev nD)

theorem out_proj : W7 m ρ c (Proc.devRef .tc main_v0) = arrProj (project (m ((c : Thread nD τ).loc main_arg0)) (m ((c : Thread nD τ).loc main_arg1))) :=
  (W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans (project0 (V0 m ρ) c)))))))

theorem out_mixed : W7 m ρ c (Proc.devRef .tc main_v3) = arrRows (backOut (m ((c : Thread nD τ).loc main_arg5)) (m ((c : Thread nD τ).loc main_arg4))) := by
  refine (W7_of m ρ c main_v3 (by decide)).trans ((W6_of m ρ c main_v3 (by decide)).trans ((W5_arr m ρ c 2).trans ((backOut3 (V4 m ρ) c).trans ?_)))
  rw [show V4 m ρ c main_arg5 = m ((c : Thread nD τ).loc main_arg5) from W4_args m ρ c main_arg5 (by decide),
    show V4 m ρ c main_arg4 = m ((c : Thread nD τ).loc main_arg4) from W4_args m ρ c main_arg4 (by decide)]

theorem out_in : W7 m ρ c (Proc.devRef .tc main_v4) = arrIn (gradIn (m ((c : Thread nD τ).loc main_arg0)) (m ((c : Thread nD τ).loc main_arg2))) := by
  refine (W7_of m ρ c main_v4 (by decide)).trans ((W6_arr m ρ c 2).trans ((gradIn4 (V5 m ρ) c).trans ?_))
  rw [show V5 m ρ c main_arg0 = m ((c : Thread nD τ).loc main_arg0) from W5_args m ρ c main_arg0 (by decide),
    show V5 m ρ c main_arg2 = m ((c : Thread nD τ).loc main_arg2) from W5_args m ρ c main_arg2 (by decide)]

theorem out_rows : W7 m ρ c (Proc.devRef .tc main_v5) = arrRows (backIn (m ((c : Thread nD τ).loc main_arg2)) (m ((c : Thread nD τ).loc main_arg1))) := by
  refine (W7_arr m ρ c 2).trans ((backIn5 (V6 m ρ) c).trans ?_)
  rw [show V6 m ρ c main_arg2 = m ((c : Thread nD τ).loc main_arg2) from W6_args m ρ c main_arg2 (by decide),
    show V6 m ρ c main_arg1 = m ((c : Thread nD τ).loc main_arg1) from W6_args m ρ c main_arg1 (by decide)]

/-! ## The stack of the output product's gradients -/

theorem old3 : V3 m ρ c main_v2 = V2 m ρ c main_v1 := by
  show W3 m ρ c _ = _
  unfold W3
  after_results
  rfl

theorem at2 (j : S4x2x256x1024.Idx) (h : (j 1 : ℕ) = 1) : V2 m ρ c main_v1 j = gradOut (m ((c : Thread nD τ).loc main_arg6)) (m ((c : Thread nD τ).loc main_arg7)) (row (j 0) (j 2)) (j 3) := by
  refine (congrFun ((W2_arr m ρ c 2).trans (gradOut1 (V1 m ρ) c)) j).trans ((if_pos h).trans ?_)
  rw [show V1 m ρ c main_arg6 = m ((c : Thread nD τ).loc main_arg6) from W1_args m ρ c main_arg6 (by decide),
    show V1 m ρ c main_arg7 = m ((c : Thread nD τ).loc main_arg7) from W1_args m ρ c main_arg7 (by decide)]

theorem at4 : V4 m ρ c main_v2 = arrPair (gradOut (m ((c : Thread nD τ).loc main_arg3)) (m ((c : Thread nD τ).loc main_arg5))) (gradOut (m ((c : Thread nD τ).loc main_arg6)) (m ((c : Thread nD τ).loc main_arg7))) := by
  funext j
  have h2 : (j 1 : ℕ) < 2 := (j 1).isLt
  refine (congrFun ((W4_arr m ρ c 2).trans (gradOut2 (V3 m ρ) c)) j).trans ?_
  by_cases h : (j 1 : ℕ) = 0
  · refine (if_pos h).trans (Eq.trans ?_ (if_pos h).symm)
    rw [show V3 m ρ c main_arg3 = m ((c : Thread nD τ).loc main_arg3) from W3_args m ρ c main_arg3 (by decide),
      show V3 m ρ c main_arg5 = m ((c : Thread nD τ).loc main_arg5) from W3_args m ρ c main_arg5 (by decide)]
  · refine (if_neg h).trans (Eq.trans ?_ (if_neg h).symm)
    rw [old3]
    exact at2 m ρ c j (by omega)

theorem out_stack : W7 m ρ c (Proc.devRef .tc main_v2) = arrPair (gradOut (m ((c : Thread nD τ).loc main_arg3)) (m ((c : Thread nD τ).loc main_arg5))) (gradOut (m ((c : Thread nD τ).loc main_arg6)) (m ((c : Thread nD τ).loc main_arg7))) :=
  (W7_of m ρ c main_v2 (by decide)).trans ((W6_of m ρ c main_v2 (by decide)).trans ((W5_of m ρ c main_v2 (by decide)).trans (at4 m ρ c)))

end Cert.HybIdeal.Whole

end
-- ==== Proof.HybStages.lean ====
/-
  The operations of the reference of the hybrid mixer's projections, named.
-/
module

public import proofs.«01_k».proof.Proof.Gen.HybReferenceIdeal.Run
public import proofs.«01_k».proof.Proof.Gated
public import Idealize.ShloMosaic.Lib.Claim

@[expose] public section

set_option maxRecDepth 16384
noncomputable section

namespace Cert.HybReferenceIdeal.Stage

open Cert.HybReferenceIdeal Cert.HybReferenceIdeal.Gen Idealize.ShloMosaic Idealize.ShloMosaic.TcCoe
open Cert.Gated (row)

/-- The projection of the rows. -/
def proj (h : FVec Ideal S4096x1024 .bf16) (w : FVec Ideal S1024x3840 .bf16) : FVec Ideal S4096x3840 .f32 :=
  Host.dotGeneral dot_S4096x1024_S1024x3840_S4096x3840_1_0_0_1_n_n none (extf .f32 h bitsLt_bf16_f32) (extf .f32 w bitsLt_bf16_f32)

/-- The derivatives at what the two products multiply. -/
def outRows (d : FVec Ideal S4096x1024 .bf16) (w : FVec Ideal S1024x1024 .bf16) : FVec Ideal S4096x1024 .f32 :=
  Host.dotGeneral dot_S4096x1024_S1024x1024_S4096x1024_1_1_0_0_n_n none (extf .f32 d bitsLt_bf16_f32) (extf .f32 w bitsLt_bf16_f32)
def inRows (d : FVec Ideal S4096x3840 .f32) (w : FVec Ideal S1024x3840 .bf16) : FVec Ideal S4096x1024 .f32 :=
  Host.dotGeneral dot_S4096x3840_S1024x3840_S4096x1024_1_1_0_0_n_n none d (extf .f32 w bitsLt_bf16_f32)

/-- The derivatives at the weights of the two products. -/
def inWeight (h : FVec Ideal S4096x1024 .bf16) (d : FVec Ideal S4096x3840 .f32) : FVec Ideal S1024x3840 .f32 :=
  transpose S1024x3840 [1, 0] (Host.dotGeneral dot_S4096x3840_S4096x1024_S3840x1024_0_0_1_1_n_n none d (extf .f32 h bitsLt_bf16_f32))
    transposes_S3840x1024_S1024x3840_1_0
def outWeight (a : FVec Ideal S4096x1024 .f32) (d : FVec Ideal S4096x1024 .bf16) : FVec Ideal S1024x1024 .f32 :=
  transpose S1024x1024 [1, 0] (Host.dotGeneral dot_S4096x1024_S4096x1024_S1024x1024_0_0_1_1_n_n none (extf .f32 d bitsLt_bf16_f32) a)
    transposes_S1024x1024_S1024x1024_1_0

/-- Two gradients in four parts of their rows. -/
def pair (g₀ g₁ : FVec Ideal S1024x1024 .f32) : FVec Ideal S4x2x256x1024 .f32 :=
  concatenate S4x2x256x1024 1 [⟨S4x1x256x1024, shapeCast _ g₀ shapeCasts_S1024x1024_S4x1x256x1024⟩,
    ⟨S4x1x256x1024, shapeCast _ g₁ shapeCasts_S1024x1024_S4x1x256x1024⟩] concatenates_S4x1x256x1024_S4x1x256x1024_S4x2x256x1024_d1

variable (m : (ℓ : Loc nD τ sig) → Buf (Elt Ideal) ℓ) (c : Dev nD)

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v5) = proj (m ((c.tc : Thread nD τ).loc main_arg0)) (m ((c.tc : Thread nD τ).loc main_arg1))
    ∧ r.2.mem ((c.tc : Thread nD τ).loc main_v12) = outRows (m ((c.tc : Thread nD τ).loc main_arg5)) (m ((c.tc : Thread nD τ).loc main_arg4))
    ∧ r.2.mem ((c.tc : Thread nD τ).loc main_v8) = inRows (m ((c.tc : Thread nD τ).loc main_arg2)) (m ((c.tc : Thread nD τ).loc main_arg1))
    ∧ r.2.mem ((c.tc : Thread nD τ).loc main_v7) = inWeight (m ((c.tc : Thread nD τ).loc main_arg0)) (m ((c.tc : Thread nD τ).loc main_arg2))
    ∧ r.2.mem ((c.tc : Thread nD τ).loc main_v19) = pair (outWeight (m ((c.tc : Thread nD τ).loc main_arg3)) (m ((c.tc : Thread nD τ).loc main_arg5)))
      (outWeight (m ((c.tc : Thread nD τ).loc main_arg6)) (m ((c.tc : Thread nD τ).loc main_arg7)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => by
    obtain ⟨h0, h1, h2, h3, h4, ha⟩ := h c
    exact ⟨h0, h1, h2, h3, h4, ha⟩) (Value.run (F := Ideal) m ρ)

end Cert.HybReferenceIdeal.Stage

end
-- ==== Proof.HybStagesAt.lean ====
/-
  The operations of the reference of the hybrid mixer's projections read at an index: they are the formulas of the calls.
-/
module

public import proofs.«01_k».proof.Proof.HybStages
public import proofs.«01_k».proof.Proof.HybArrays

@[expose] public section

set_option maxRecDepth 16384
noncomputable section

namespace Cert.HybReferenceIdeal.Stage

open Cert.HybReferenceIdeal Cert.HybReferenceIdeal.Gen Idealize.ShloMosaic Idealize.ShloMosaic.TcCoe
open Cert.Gated (row)
open Cert.HybIdeal.Whole (project backOut backIn gradIn gradOut arrProj arrRows arrIn arrPair)

theorem proj_eq (h : FVec Ideal S4096x1024 .bf16) (w : FVec Ideal S1024x3840 .bf16) : proj h w = arrProj (project h w) := by
  funext j
  idx_vars j
  pointwise [proj, arrProj, project]

theorem outRows_eq (d : FVec Ideal S4096x1024 .bf16) (w : FVec Ideal S1024x1024 .bf16) : outRows d w = arrRows (backOut d w) := by
  funext j
  idx_vars j
  pointwise [outRows, arrRows, backOut]

theorem inRows_eq (d : FVec Ideal S4096x3840 .f32) (w : FVec Ideal S1024x3840 .bf16) : inRows d w = arrRows (backIn d w) := by
  funext j
  idx_vars j
  pointwise [inRows, arrRows, backIn]

theorem inWeight_eq (h : FVec Ideal S4096x1024 .bf16) (d : FVec Ideal S4096x3840 .f32) : inWeight h d = arrIn (gradIn h d) := by
  funext j
  idx_vars j
  pointwise [inWeight, arrIn, gradIn]
  exact Finset.sum_congr rfl fun i _ => mul_comm _ _

theorem outWeight_at (a : FVec Ideal S4096x1024 .f32) (d : FVec Ideal S4096x1024 .bf16) (k j : Fin 1024) :
    outWeight a d (ix2 k j) = gradOut a d k j := by
  pointwise [outWeight, gradOut]
  exact Finset.sum_congr rfl fun i _ => mul_comm _ _

theorem pair_eq (g₀ g₁ : FVec Ideal S1024x1024 .f32) (G₀ G₁ : Fin 1024 → Fin 1024 → EReal)
    (h₀ : ∀ k j, g₀ (ix2 k j) = G₀ k j) (h₁ : ∀ k j, g₁ (ix2 k j) = G₁ k j) : pair g₀ g₁ = arrPair G₀ G₁ := by
  funext j
  idx_vars j
  have hu : ∀ h : (j0 : ℕ) * 256 + j2 < 1024, (⟨(j0 : ℕ) * 256 + j2, h⟩ : Fin 1024) = row j0 j2 :=
    fun h => Fin.ext (by simp only [row]; omega)
  pointwise [pair, arrPair]
  simp only [hu, h₀, h₁]
  fin_cases j1 <;> rfl

end Cert.HybReferenceIdeal.Stage

end
-- ==== Proof.Hyb.lean ====
/-
  The five claims about the hybrid mixer's projections: the three frames, the ledger, and the equation of the kernel with the
  reference.
-/
module

public import proofs.«01_k».proof.Defs
public import proofs.«01_k».proof.Proof.Gen.Hyb.Frame
public import proofs.«01_k».proof.Proof.HybResults
public import proofs.«01_k».proof.Proof.HybStagesAt

@[expose] public section

noncomputable section

namespace Cert.HybClaims

open Idealize.ShloMosaic Idealize.ShloMosaic.TcCoe Idealize.SL.Sem

theorem frame_p : Cert.quiescent_Hyb := fun m ρ _ => Cert.Hyb.Gen.frame m ρ

theorem frame_pi : Cert.quiescent_HybIdeal := fun m ρ _ => Cert.HybIdeal.Gen.frame m ρ

theorem frame_ri : Cert.quiescent_HybReferenceIdeal := fun m ρ _ =>
  (θ_run Cert.HybReferenceIdeal.defs _ _).mono
    (fun r h => ⟨fun c => (h c).2.2.2.2.2, sem_eq_zero_of_no_sems (by decide) r.2⟩)
    (Cert.HybReferenceIdeal.Value.run (F := Ideal) m ρ)

theorem preserves : Cert.preserves_Hyb_HybIdeal := trivial

section
open Cert.HybIdeal Cert.HybIdeal.Whole

theorem algebraic : Cert.algebraic_HybIdeal_HybReferenceIdeal := by
  intro m ρ m' ρ' _ hag
  refine ⟨fun c => arrProj (project (m ((c : Thread nD τ).loc main_arg0)) (m ((c : Thread nD τ).loc main_arg1))),
    fun c => arrRows (backOut (m ((c : Thread nD τ).loc main_arg5)) (m ((c : Thread nD τ).loc main_arg4))),
    fun c => arrRows (backIn (m ((c : Thread nD τ).loc main_arg2)) (m ((c : Thread nD τ).loc main_arg1))),
    fun c => arrIn (gradIn (m ((c : Thread nD τ).loc main_arg0)) (m ((c : Thread nD τ).loc main_arg2))),
    fun c => arrPair (gradOut (m ((c : Thread nD τ).loc main_arg3)) (m ((c : Thread nD τ).loc main_arg5)))
      (gradOut (m ((c : Thread nD τ).loc main_arg6)) (m ((c : Thread nD τ).loc main_arg7))), ?_, ?_⟩
  · refine (θ_run defs _ _).mono (fun r h c => ?_) (run m ρ)
    exact ⟨(h c main_v0 (by decide)).trans (out_proj m ρ c), (h c main_v3 (by decide)).trans (out_mixed m ρ c),
      (h c main_v5 (by decide)).trans (out_rows m ρ c), (h c main_v4 (by decide)).trans (out_in m ρ c),
      (h c main_v2 (by decide)).trans (out_stack m ρ c),
      (h c main_arg0 (by decide)).trans (Gen.W7_main_arg0 m ρ c),
      (h c main_arg1 (by decide)).trans (Gen.W7_main_arg1 m ρ c),
      (h c main_arg2 (by decide)).trans (Gen.W7_main_arg2 m ρ c),
      (h c main_arg3 (by decide)).trans (Gen.W7_main_arg3 m ρ c),
      (h c main_arg4 (by decide)).trans (Gen.W7_main_arg4 m ρ c),
      (h c main_arg5 (by decide)).trans (Gen.W7_main_arg5 m ρ c),
      (h c main_arg6 (by decide)).trans (Gen.W7_main_arg6 m ρ c),
      (h c main_arg7 (by decide)).trans (Gen.W7_main_arg7 m ρ c)⟩
  · refine (θ_run Cert.HybReferenceIdeal.defs _ _).mono (fun r h c => ?_) (Cert.HybReferenceIdeal.Stage.run m' ρ')
    obtain ⟨h0, h1, h2, h3, h4, ha⟩ := h c
    obtain ⟨e0, e1, e2, e3, e4, e5, e6, e7⟩ := hag c
    refine ⟨h0.trans ?_, h1.trans ?_, h2.trans ?_, h3.trans ?_, h4.trans ?_, ha⟩
    · rw [Cert.HybReferenceIdeal.Stage.proj_eq, e0, e1]
    · rw [Cert.HybReferenceIdeal.Stage.outRows_eq, e5, e4]
    · rw [Cert.HybReferenceIdeal.Stage.inRows_eq, e2, e1]
    · rw [Cert.HybReferenceIdeal.Stage.inWeight_eq, e0, e2]
    · rw [Cert.HybReferenceIdeal.Stage.pair_eq _ _ _ _ (Cert.HybReferenceIdeal.Stage.outWeight_at _ _)
        (Cert.HybReferenceIdeal.Stage.outWeight_at _ _), e3, e5, e6, e7]

end

end Cert.HybClaims

end
-- ==== Proof.DownRun.lean ====
/-
  The program of the feed-forward output products runs to its end: what every buffer of a core holds there. Its calls run one after the
  other, and the contents after the last of them are the fold of them over the launch contents.
-/
module

public import proofs.«01_k».proof.Proof.Gen.DownIdeal.Frame
public import Idealize.ShloMosaic.Lib.Pointwise

@[expose] public section

noncomputable section

namespace Cert.DownIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.DownIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W4 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W4 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W4 m ρ c) s)
    isplitl [Hbufs] <;> iassumption

end Cert.DownIdeal.Whole

end
-- ==== Proof.Norm.lean ====
/-
  The norm of a row after a layer, `(z - mean z) / sqrt (variance of z + eps) * g + b` at `z = alpha * h + s`, on extended
  reals.
-/
module

public import Idealize.ShloMosaic.Lib.Pointwise

@[expose] public section

noncomputable section

namespace Cert.Norm

open Idealize.ShloMosaic

/-- The weight of the layer's input, the number of columns, and what is added to the variance. -/
def alpha : EReal := Ideal.ofBits .f32 0x3FD744FD#32
def columns : EReal := Ideal.ofBits .f32 0x44800000#32
def eps : EReal := Ideal.ofBits .f32 0x3727C5AC#32

/-- The row that is normed, from the layer's input and its output. -/
def joined (h s : Fin 1024 → EReal) (j : Fin 1024) : EReal := alpha * h j + s j

/-- The mean of a row, and its variance. -/
def mean (z : Fin 1024 → EReal) : EReal := Ideal.div (∑ j, z j) columns
def variance (z : Fin 1024 → EReal) : EReal := mean fun j => (z j - mean z) * (z j - mean z)

/-- The normed row. -/
def normed (z g b : Fin 1024 → EReal) (j : Fin 1024) : EReal :=
  (z j - mean z) * Ideal.rsqrt (variance z + eps) * g j + b j

/-- The row that is handed on. -/
def postNorm (h s g b : Fin 1024 → EReal) : Fin 1024 → EReal := normed (joined h s) g b

end Cert.Norm

end
-- ==== Proof.DownArrays.lean ====
/-
  The output product of the feed-forward layer and the normed rows, as formulas of the arrays that the calls read.
-/
module

public import proofs.«01_k».proof.Proof.Gen.DownIdeal.Skeleton
public import proofs.«01_k».proof.Proof.Norm
public import proofs.«01_k».proof.Proof.Gated
public import Idealize.ShloMosaic.Lib.Pipeline.ValueKit
public import Idealize.ShloMosaic.Lib.Claim

@[expose] public section

set_option maxRecDepth 16384
noncomputable section

namespace Cert.DownIdeal.Whole

open Cert.DownIdeal Cert.DownIdeal.Gen Idealize.ShloMosaic Idealize.ShloMosaic.TcCoe

/-- The product of the hidden units with the weight of layer `l`, one part of the units after another. -/
def output (l : Fin 4) (a : FVec Ideal S4x4096x704 .bf16) (w : FVec Ideal S4x4x704x1024 .bf16) (i : Fin 4096) (j : Fin 1024) : EReal :=
  ∑ k : Fin 4, ∑ f : Fin 704, a (ix3 k i f) * w (ix4 k l f j)

/-- The same of the blocks of one call. -/
def blockOutput (a : Vec Ideal S4x512x704 .bf16) (w : Vec Ideal S4x1x704x1024 .bf16) (i : Fin 512) (j : Fin 1024) : EReal :=
  ∑ k : Fin 4, ∑ f : Fin 704, (a : FVec Ideal S4x512x704 .bf16) (ix3 k i f) * (w : FVec Ideal S4x1x704x1024 .bf16) (ix4 k 0 f j)

/-- The row that is handed on. -/
def handed (h : FVec Ideal S4096x1024 .f32) (g b : FVec Ideal S1x1024 .f32) (s : Fin 4096 → Fin 1024 → EReal) (i : Fin 4096) :
    Fin 1024 → EReal :=
  Cert.Norm.postNorm (fun j => h (ix2 i j)) (s i) (fun j => g (ix2 0 j)) (fun j => b (ix2 0 j))

def arrRows (g : Fin 4096 → Fin 1024 → EReal) : FVec Ideal S4096x1024 .f32 := fun j => g (j 0) (j 1)
def arrShort (g : Fin 4096 → Fin 1024 → EReal) : FVec Ideal S4096x1024 .bf16 := fun j => g (j 0) (j 1)

end Cert.DownIdeal.Whole

end
-- ==== Proof.DownBlock.lean ====
/-
  The output product of the feed-forward layer with the norm after it, on one block of 512 rows.
-/
module

public import proofs.«01_k».proof.Proof.Gen.DownIdeal.Skeleton
public import proofs.«01_k».proof.Proof.Norm
public import Idealize.ShloMosaic.Lib.Pipeline.ValueKit
public import Idealize.ShloMosaic.Lib.Claim

@[expose] public section

set_option maxRecDepth 16384
noncomputable section

namespace Cert.DownIdeal.Whole

open Cert.DownIdeal Cert.DownIdeal.Gen Idealize.ShloMosaic Idealize.ShloMosaic.TcCoe Cert.Norm

/-! ## The norm -/

section
variable (s h : FVec Ideal S512x1024 .f32) (g b : FVec Ideal S1x1024 .f32)

def sums : FVec Ideal S512x1024 .f32 := addf (mulf (broadcast S512x1024 (Scalar.ofBits .f32 0x3FD744FD#32)) h) s

variable {s h} in
theorem sums_at (i : Fin 512) (j : Fin 1024) :
    sums s h (ix2 i j) = joined (fun j => h (ix2 i j)) (fun j => s (ix2 i j)) j := by
  pointwise [sums, joined, alpha]

/-- The mean of each row of a block. -/
def means (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

theorem means_at (z : FVec Ideal S512x1024 .f32) (i : Fin 512) (u : Fin 1) : means z (ix2 i u) = mean fun j => z (ix2 i j) := by
  pointwise [means, mean, columns]

def centred (z : FVec Ideal S512x1024 .f32) : FVec Ideal S512x1024 .f32 :=
  subf z (broadcastTo S512x1024 (means z) broadcasts_S512x1_S512x1024)

theorem centred_at (z : FVec Ideal S512x1024 .f32) (i : Fin 512) (j : Fin 1024) :
    centred z (ix2 i j) = z (ix2 i j) - mean fun j => z (ix2 i j) := by
  pointwise [centred]
  rw [means_at]

def scales (z : FVec Ideal S512x1024 .f32) : FVec Ideal S512x1 .f32 :=
  rsqrt (addf (means (mulf (centred z) (centred z))) (broadcast S512x1 (Scalar.ofBits .f32 0x3727C5AC#32)))

theorem scales_at (z : FVec Ideal S512x1024 .f32) (i : Fin 512) (u : Fin 1) :
    scales z (ix2 i u) = Ideal.rsqrt (variance (fun j => z (ix2 i j)) + eps) := by
  pointwise [scales, eps]
  rw [means_at]
  pointwise [variance]
  simp only [centred_at]

theorem norm_at (i : Fin 512) (j : Fin 1024) : k0_pay1 s h g b (ix2 i j)
    = postNorm (fun j => h (ix2 i j)) (fun j => s (ix2 i j)) (fun j => g (ix2 0 j)) (fun j => b (ix2 0 j)) j := by
  show addf (mulf (mulf (centred (sums s h)) (broadcastTo S512x1024 (scales (sums s h)) broadcasts_S512x1_S512x1024))
    (broadcastTo S512x1024 g broadcasts_S1x1024_S512x1024)) (broadcastTo S512x1024 b broadcasts_S1x1024_S512x1024) (ix2 i j) = _
  pointwise [postNorm, normed]
  simp only [centred_at, scales_at, sums_at]
end

end Cert.DownIdeal.Whole

end
-- ==== Proof.DownZero.lean ====
/-
  The call at layer 0: the output product of the feed-forward layer, and the normed rows in both widths.
-/
module

public import proofs.«01_k».proof.Proof.DownArrays
public import proofs.«01_k».proof.Proof.DownBlock
public import proofs.«01_k».proof.Proof.Gen.DownIdeal.Frame
public import Idealize.ShloMosaic.Lib.Pipeline.ValueKit
public import Idealize.ShloMosaic.Lib.Claim

@[expose] public section

set_option maxRecDepth 16384
noncomputable section

namespace Cert.DownIdeal.Whole

open Cert.DownIdeal Cert.DownIdeal.Gen Idealize.ShloMosaic Idealize.ShloMosaic.TcCoe
open Cert.Norm
open Idealize.ShloMosaic.Pipeline (Dat)

theorem idx0 : ∀ t : Fin cfg0.N, win0_0.index t = ![0, (grid0.coords t 0).val, 0] ∧ win0_1.index t = ![0, 0, 0, 0] ∧
    win0_2.index t = ![(grid0.coords t 0).val, 0] ∧ win0_3.index t = ![0, 0] ∧ win0_4.index t = ![0, 0] ∧
    win0_5.index t = ![(grid0.coords t 0).val, 0] ∧ win0_6.index t = ![(grid0.coords t 0).val, 0] ∧ win0_7.index t = ![(grid0.coords t 0).val, 0] :=
  (by decide +kernel : ∀ t : Fin grid0.N, _)

section
variable (a : Vec Ideal S4x512x704 .bf16) (w : Vec Ideal S4x1x704x1024 .bf16) (h : Vec Ideal S512x1024 .f32) (g b : Vec Ideal S1x1024 .f32)

theorem product0_at (i : Fin 512) (j : Fin 1024) : k0_pay4 a w h g b (ix2 i j) = blockOutput a w i j := by
  pointwise [k0_pay4, k0_pay3, blockOutput, Fin.sum_univ_four]

theorem output0_point (y : S512x1024.Idx) : out0_5 a w h g b y = blockOutput a w (y 0) (y 1) := by
  dsimp only [out0_5]
  frame_out
  idx_vars y
  exact product0_at a w h g b y0 y1

theorem handed0_point (y : S512x1024.Idx) : out0_6 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  dsimp only [out0_6]
  frame_out
  idx_vars y
  rw [norm_at]
  simp only [product0_at]

theorem short0_point (y : S512x1024.Idx) : out0_7 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  refine Eq.trans ?_ (handed0_point a w h g b y)
  dsimp only [out0_6, out0_7]
  frame_out
  idx_vars y
  pointwise [k0_pay2]
end

section
variable (V : (c : Dev nD) → (b : Ref sig .tc) → Buf (Elt Ideal) ((c : Thread nD τ).loc b)) (c : Dev nD)

theorem output0 : (dat0 V c).arrAt 5 cfg0.N = arrRows (output 0 (V c main_arg0) (V c main_arg1)) := by
  refine (dat0 V c).arrAt_eq_of_covers 5 _ (by decide +kernel) fun t _ y => ?_
  blk_simp
  rw [after0_5]
  refine (output0_point _ _ _ _ _ y).trans ?_
  idx_vars y
  pointwise [blockOutput, output, arrRows]
  blk_point [iblk0, idx0 t]

theorem handed0 : (dat0 V c).arrAt 6 cfg0.N
    = arrRows (handed (V c main_arg2) (V c main_arg3) (V c main_arg4) (output 0 (V c main_arg0) (V c main_arg1))) := by
  refine (dat0 V c).arrAt_eq_of_covers 6 _ (by decide +kernel) fun t _ y => ?_
  blk_simp
  rw [after0_6]
  refine (handed0_point _ _ _ _ _ y).trans ?_
  idx_vars y
  pointwise [arrRows, handed, postNorm, normed, variance, mean, joined, blockOutput, output]
  blk_point [iblk0, idx0 t]

theorem short0 : (dat0 V c).arrAt 7 cfg0.N
    = arrShort (handed (V c main_arg2) (V c main_arg3) (V c main_arg4) (output 0 (V c main_arg0) (V c main_arg1))) := by
  refine (dat0 V c).arrAt_eq_of_covers 7 _ (by decide +kernel) fun t _ y => ?_
  blk_simp
  rw [after0_7]
  refine (short0_point _ _ _ _ _ y).trans ?_
  idx_vars y
  pointwise [arrShort, handed, postNorm, normed, variance, mean, joined, blockOutput, output]
  blk_point [iblk0, idx0 t]
end

end Cert.DownIdeal.Whole

end
-- ==== Proof.DownOne.lean ====
/-
  The call at layer 1: the output product of the feed-forward layer, and the normed rows in both widths.
-/
module

public import proofs.«01_k».proof.Proof.DownArrays
public import proofs.«01_k».proof.Proof.DownBlock
public import proofs.«01_k».proof.Proof.Gen.DownIdeal.Frame
public import Idealize.ShloMosaic.Lib.Pipeline.ValueKit
public import Idealize.ShloMosaic.Lib.Claim

@[expose] public section

set_option maxRecDepth 16384
noncomputable section

namespace Cert.DownIdeal.Whole

open Cert.DownIdeal Cert.DownIdeal.Gen Idealize.ShloMosaic Idealize.ShloMosaic.TcCoe
open Cert.Norm
open Idealize.ShloMosaic.Pipeline (Dat)

theorem idx1 : ∀ t : Fin cfg1.N, win1_0.index t = ![0, (grid1.coords t 0).val, 0] ∧ win1_1.index t = ![0, 1, 0, 0] ∧
    win1_2.index t = ![(grid1.coords t 0).val, 0] ∧ win1_3.index t = ![0, 0] ∧ win1_4.index t = ![0, 0] ∧
    win1_5.index t = ![(grid1.coords t 0).val, 0] ∧ win1_6.index t = ![(grid1.coords t 0).val, 0] ∧ win1_7.index t = ![(grid1.coords t 0).val, 0] :=
  (by decide +kernel : ∀ t : Fin grid1.N, _)

theorem norm1_at (s h : FVec Ideal S512x1024 .f32) (g b : FVec Ideal S1x1024 .f32) (i : Fin 512) (j : Fin 1024) :
    k1_pay1 s h g b (ix2 i j)
      = postNorm (fun j => h (ix2 i j)) (fun j => s (ix2 i j)) (fun j => g (ix2 0 j)) (fun j => b (ix2 0 j)) j :=
  norm_at s h g b i j

section
variable (a : Vec Ideal S4x512x704 .bf16) (w : Vec Ideal S4x1x704x1024 .bf16) (h : Vec Ideal S512x1024 .f32) (g b : Vec Ideal S1x1024 .f32)

theorem product1_at (i : Fin 512) (j : Fin 1024) : k1_pay4 a w h g b (ix2 i j) = blockOutput a w i j := by
  pointwise [k1_pay4, k1_pay3, blockOutput, Fin.sum_univ_four]

theorem output1_point (y : S512x1024.Idx) : out1_5 a w h g b y = blockOutput a w (y 0) (y 1) := by
  dsimp only [out1_5]
  frame_out
  idx_vars y
  exact product1_at a w h g b y0 y1

theorem handed1_point (y : S512x1024.Idx) : out1_6 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  dsimp only [out1_6]
  frame_out
  idx_vars y
  rw [norm1_at]
  simp only [product1_at]

theorem short1_point (y : S512x1024.Idx) : out1_7 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  refine Eq.trans ?_ (handed1_point a w h g b y)
  dsimp only [out1_6, out1_7]
  frame_out
  idx_vars y
  pointwise [k1_pay2]
end

section
variable (V : (c : Dev nD) → (b : Ref sig .tc) → Buf (Elt Ideal) ((c : Thread nD τ).loc b)) (c : Dev nD)

theorem output1 : (dat1 V c).arrAt 5 cfg1.N = arrRows (output 1 (V c main_arg0) (V c main_arg1)) := by
  refine (dat1 V c).arrAt_eq_of_covers 5 _ (by decide +kernel) fun t _ y => ?_
  blk_simp
  rw [after1_5]
  refine (output1_point _ _ _ _ _ y).trans ?_
  idx_vars y
  pointwise [blockOutput, output, arrRows]
  blk_point [iblk1, idx1 t]

theorem handed1 : (dat1 V c).arrAt 6 cfg1.N
    = arrRows (handed (V c main_arg2) (V c main_arg3) (V c main_arg4) (output 1 (V c main_arg0) (V c main_arg1))) := by
  refine (dat1 V c).arrAt_eq_of_covers 6 _ (by decide +kernel) fun t _ y => ?_
  blk_simp
  rw [after1_6]
  refine (handed1_point _ _ _ _ _ y).trans ?_
  idx_vars y
  pointwise [arrRows, handed, postNorm, normed, variance, mean, joined, blockOutput, output]
  blk_point [iblk1, idx1 t]

theorem short1 : (dat1 V c).arrAt 7 cfg1.N
    = arrShort (handed (V c main_arg2) (V c main_arg3) (V c main_arg4) (output 1 (V c main_arg0) (V c main_arg1))) := by
  refine (dat1 V c).arrAt_eq_of_covers 7 _ (by decide +kernel) fun t _ y => ?_
  blk_simp
  rw [after1_7]
  refine (short1_point _ _ _ _ _ y).trans ?_
  idx_vars y
  pointwise [arrShort, handed, postNorm, normed, variance, mean, joined, blockOutput, output]
  blk_point [iblk1, idx1 t]
end

end Cert.DownIdeal.Whole

end
-- ==== Proof.DownTwo.lean ====
/-
  The call at layer 2: the output product of the feed-forward layer, and the normed rows in both widths.
-/
module

public import proofs.«01_k».proof.Proof.DownArrays
public import proofs.«01_k».proof.Proof.DownBlock
public import proofs.«01_k».proof.Proof.Gen.DownIdeal.Frame
public import Idealize.ShloMosaic.Lib.Pipeline.ValueKit
public import Idealize.ShloMosaic.Lib.Claim

@[expose] public section

set_option maxRecDepth 16384
noncomputable section

namespace Cert.DownIdeal.Whole

open Cert.DownIdeal Cert.DownIdeal.Gen Idealize.ShloMosaic Idealize.ShloMosaic.TcCoe
open Cert.Norm
open Idealize.ShloMosaic.Pipeline (Dat)

theorem idx2 : ∀ t : Fin cfg2.N, win2_0.index t = ![0, (grid2.coords t 0).val, 0] ∧ win2_1.index t = ![0, 2, 0, 0] ∧
    win2_2.index t = ![(grid2.coords t 0).val, 0] ∧ win2_3.index t = ![0, 0] ∧ win2_4.index t = ![0, 0] ∧
    win2_5.index t = ![(grid2.coords t 0).val, 0] ∧ win2_6.index t = ![(grid2.coords t 0).val, 0] ∧ win2_7.index t = ![(grid2.coords t 0).val, 0] :=
  (by decide +kernel : ∀ t : Fin grid2.N, _)

theorem norm2_at (s h : FVec Ideal S512x1024 .f32) (g b : FVec Ideal S1x1024 .f32) (i : Fin 512) (j : Fin 1024) :
    k2_pay1 s h g b (ix2 i j)
      = postNorm (fun j => h (ix2 i j)) (fun j => s (ix2 i j)) (fun j => g (ix2 0 j)) (fun j => b (ix2 0 j)) j :=
  norm_at s h g b i j

section
variable (a : Vec Ideal S4x512x704 .bf16) (w : Vec Ideal S4x1x704x1024 .bf16) (h : Vec Ideal S512x1024 .f32) (g b : Vec Ideal S1x1024 .f32)

theorem product2_at (i : Fin 512) (j : Fin 1024) : k2_pay4 a w h g b (ix2 i j) = blockOutput a w i j := by
  pointwise [k2_pay4, k2_pay3, blockOutput, Fin.sum_univ_four]

theorem output2_point (y : S512x1024.Idx) : out2_5 a w h g b y = blockOutput a w (y 0) (y 1) := by
  dsimp only [out2_5]
  frame_out
  idx_vars y
  exact product2_at a w h g b y0 y1

theorem handed2_point (y : S512x1024.Idx) : out2_6 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  dsimp only [out2_6]
  frame_out
  idx_vars y
  rw [norm2_at]
  simp only [product2_at]

theorem short2_point (y : S512x1024.Idx) : out2_7 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  refine Eq.trans ?_ (handed2_point a w h g b y)
  dsimp only [out2_6, out2_7]
  frame_out
  idx_vars y
  pointwise [k2_pay2]
end

section
variable (V : (c : Dev nD) → (b : Ref sig .tc) → Buf (Elt Ideal) ((c : Thread nD τ).loc b)) (c : Dev nD)

theorem output2 : (dat2 V c).arrAt 5 cfg2.N = arrRows (output 2 (V c main_arg0) (V c main_arg1)) := by
  refine (dat2 V c).arrAt_eq_of_covers 5 _ (by decide +kernel) fun t _ y => ?_
  blk_simp
  rw [after2_5]
  refine (output2_point _ _ _ _ _ y).trans ?_
  idx_vars y
  pointwise [blockOutput, output, arrRows]
  blk_point [iblk2, idx2 t]

theorem handed2 : (dat2 V c).arrAt 6 cfg2.N
    = arrRows (handed (V c main_arg2) (V c main_arg3) (V c main_arg4) (output 2 (V c main_arg0) (V c main_arg1))) := by
  refine (dat2 V c).arrAt_eq_of_covers 6 _ (by decide +kernel) fun t _ y => ?_
  blk_simp
  rw [after2_6]
  refine (handed2_point _ _ _ _ _ y).trans ?_
  idx_vars y
  pointwise [arrRows, handed, postNorm, normed, variance, mean, joined, blockOutput, output]
  blk_point [iblk2, idx2 t]

theorem short2 : (dat2 V c).arrAt 7 cfg2.N
    = arrShort (handed (V c main_arg2) (V c main_arg3) (V c main_arg4) (output 2 (V c main_arg0) (V c main_arg1))) := by
  refine (dat2 V c).arrAt_eq_of_covers 7 _ (by decide +kernel) fun t _ y => ?_
  blk_simp
  rw [after2_7]
  refine (short2_point _ _ _ _ _ y).trans ?_
  idx_vars y
  pointwise [arrShort, handed, postNorm, normed, variance, mean, joined, blockOutput, output]
  blk_point [iblk2, idx2 t]
end

end Cert.DownIdeal.Whole

end
-- ==== Proof.DownThree.lean ====
/-
  The call at layer 3: the output product of the feed-forward layer, and the normed rows in both widths.
-/
module

public import proofs.«01_k».proof.Proof.DownArrays
public import proofs.«01_k».proof.Proof.DownBlock
public import proofs.«01_k».proof.Proof.Gen.DownIdeal.Frame
public import Idealize.ShloMosaic.Lib.Pipeline.ValueKit
public import Idealize.ShloMosaic.Lib.Claim

@[expose] public section

set_option maxRecDepth 16384
noncomputable section

namespace Cert.DownIdeal.Whole

open Cert.DownIdeal Cert.DownIdeal.Gen Idealize.ShloMosaic Idealize.ShloMosaic.TcCoe
open Cert.Norm
open Idealize.ShloMosaic.Pipeline (Dat)

theorem idx3 : ∀ t : Fin cfg3.N, win3_0.index t = ![0, (grid3.coords t 0).val, 0] ∧ win3_1.index t = ![0, 3, 0, 0] ∧
    win3_2.index t = ![(grid3.coords t 0).val, 0] ∧ win3_3.index t = ![0, 0] ∧ win3_4.index t = ![0, 0] ∧
    win3_5.index t = ![(grid3.coords t 0).val, 0] ∧ win3_6.index t = ![(grid3.coords t 0).val, 0] ∧ win3_7.index t = ![(grid3.coords t 0).val, 0] :=
  (by decide +kernel : ∀ t : Fin grid3.N, _)

theorem norm3_at (s h : FVec Ideal S512x1024 .f32) (g b : FVec Ideal S1x1024 .f32) (i : Fin 512) (j : Fin 1024) :
    k3_pay1 s h g b (ix2 i j)
      = postNorm (fun j => h (ix2 i j)) (fun j => s (ix2 i j)) (fun j => g (ix2 0 j)) (fun j => b (ix2 0 j)) j :=
  norm_at s h g b i j

section
variable (a : Vec Ideal S4x512x704 .bf16) (w : Vec Ideal S4x1x704x1024 .bf16) (h : Vec Ideal S512x1024 .f32) (g b : Vec Ideal S1x1024 .f32)

theorem product3_at (i : Fin 512) (j : Fin 1024) : k3_pay4 a w h g b (ix2 i j) = blockOutput a w i j := by
  pointwise [k3_pay4, k3_pay3, blockOutput, Fin.sum_univ_four]

theorem output3_point (y : S512x1024.Idx) : out3_5 a w h g b y = blockOutput a w (y 0) (y 1) := by
  dsimp only [out3_5]
  frame_out
  idx_vars y
  exact product3_at a w h g b y0 y1

theorem handed3_point (y : S512x1024.Idx) : out3_6 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  dsimp only [out3_6]
  frame_out
  idx_vars y
  rw [norm3_at]
  simp only [product3_at]

theorem short3_point (y : S512x1024.Idx) : out3_7 a w h g b y
    = postNorm (fun j => (h : FVec Ideal S512x1024 .f32) (ix2 (y 0) j)) (blockOutput a w (y 0))
        (fun j => (g : FVec Ideal S1x1024 .f32) (ix2 0 j)) (fun j => (b : FVec Ideal S1x1024 .f32) (ix2 0 j)) (y 1) := by
  refine Eq.trans ?_ (handed3_point a w h g b y)
  dsimp only [out3_6, out3_7]
  frame_out
  idx_vars y
  pointwise [k3_pay2]
end

section
variable (V : (c : Dev nD) → (b : Ref sig .tc) → Buf (Elt Ideal) ((c : Thread nD τ).loc b)) (c : Dev nD)

theorem output3 : (dat3 V c).arrAt 5 cfg3.N = arrRows (output 3 (V c main_arg0) (V c main_arg1)) := by
  refine (dat3 V c).arrAt_eq_of_covers 5 _ (by decide +kernel) fun t _ y => ?_
  blk_simp
  rw [after3_5]
  refine (output3_point _ _ _ _ _ y).trans ?_
  idx_vars y
  pointwise [blockOutput, output, arrRows]
  blk_point [iblk3, idx3 t]

theorem handed3 : (dat3 V c).arrAt 6 cfg3.N
    = arrRows (handed (V c main_arg2) (V c main_arg3) (V c main_arg4) (output 3 (V c main_arg0) (V c main_arg1))) := by
  refine (dat3 V c).arrAt_eq_of_covers 6 _ (by decide +kernel) fun t _ y => ?_
  blk_simp
  rw [after3_6]
  refine (handed3_point _ _ _ _ _ y).trans ?_
  idx_vars y
  pointwise [arrRows, handed, postNorm, normed, variance, mean, joined, blockOutput, output]
  blk_point [iblk3, idx3 t]

theorem short3 : (dat3 V c).arrAt 7 cfg3.N
    = arrShort (handed (V c main_arg2) (V c main_arg3) (V c main_arg4) (output 3 (V c main_arg0) (V c main_arg1))) := by
  refine (dat3 V c).arrAt_eq_of_covers 7 _ (by decide +kernel) fun t _ y => ?_
  blk_simp
  rw [after3_7]
  refine (short3_point _ _ _ _ _ y).trans ?_
  idx_vars y
  pointwise [arrShort, handed, postNorm, normed, variance, mean, joined, blockOutput, output]
  blk_point [iblk3, idx3 t]
end

end Cert.DownIdeal.Whole

end
-- ==== Proof.DownResults.lean ====
/-
  What the program of the feed-forward output products leaves in its results.
-/
module

public import proofs.«01_k».proof.Proof.DownRun
public import proofs.«01_k».proof.Proof.DownZero
public import proofs.«01_k».proof.Proof.DownOne
public import proofs.«01_k».proof.Proof.DownTwo
public import proofs.«01_k».proof.Proof.DownThree
public import Idealize.ShloMosaic.Lib.Pipeline.ValueKit
public import Idealize.ShloMosaic.Lib.Claim

@[expose] public section

set_option maxRecDepth 16384
noncomputable section

namespace Cert.DownIdeal.Whole

open Cert.DownIdeal Cert.DownIdeal.Gen Idealize.ShloMosaic Idealize.ShloMosaic.TcCoe
open Idealize.ShloMosaic.Pipeline (Dat)

variable (m : (ℓ : Loc nD τ sig) → Buf (Elt Ideal) ℓ) (ρ : Dev nD → PrngReg) (c : Dev nD)

theorem output_of_zero : W4 m ρ c (Proc.devRef .tc main_v0_0) = arrRows (output 0 (m ((c : Thread nD τ).loc main_arg0)) (m ((c : Thread nD τ).loc main_arg1))) := by
  refine (W4_of m ρ c main_v0_0 (by decide)).trans ((W3_of m ρ c main_v0_0 (by decide)).trans ((W2_of m ρ c main_v0_0 (by decide)).trans ((W1_arr m ρ c 5).trans ((output0 (V0 m ρ) c).trans ?_))))
  rw [show V0 m ρ c main_arg0 = m ((c : Thread nD τ).loc main_arg0) from rfl,
    show V0 m ρ c main_arg1 = m ((c : Thread nD τ).loc main_arg1) from rfl]

theorem handed_of_zero : W4 m ρ c (Proc.devRef .tc main_v0_1) = arrRows (handed (m ((c : Thread nD τ).loc main_arg2)) (m ((c : Thread nD τ).loc main_arg3)) (m ((c : Thread nD τ).loc main_arg4))
      (output 0 (m ((c : Thread nD τ).loc main_arg0)) (m ((c : Thread nD τ).loc main_arg1)))) := by
  refine (W4_of m ρ c main_v0_1 (by decide)).trans ((W3_of m ρ c main_v0_1 (by decide)).trans ((W2_of m ρ c main_v0_1 (by decide)).trans ((W1_arr m ρ c 6).trans ((handed0 (V0 m ρ) c).trans ?_))))
  rw [show V0 m ρ c main_arg0 = m ((c : Thread nD τ).loc main_arg0) from rfl,
    show V0 m ρ c main_arg1 = m ((c : Thread nD τ).loc main_arg1) from rfl,
    show V0 m ρ c main_arg2 = m ((c : Thread nD τ).loc main_arg2) from rfl,
    show V0 m ρ c main_arg3 = m ((c : Thread nD τ).loc main_arg3) from rfl,
    show V0 m ρ c main_arg4 = m ((c : Thread nD τ).loc main_arg4) from rfl]

theorem short_of_zero : W4 m ρ c (Proc.devRef .tc main_v0_2) = arrShort (handed (m ((c : Thread nD τ).loc main_arg2)) (m ((c : Thread nD τ).loc main_arg3)) (m ((c : Thread nD τ).loc main_arg4))
      (output 0 (m ((c : Thread nD τ).loc main_arg0)) (m ((c : Thread nD τ).loc main_arg1)))) := by
  refine (W4_of m ρ c main_v0_2 (by decide)).trans ((W3_of m ρ c main_v0_2 (by decide)).trans ((W2_of m ρ c main_v0_2 (by decide)).trans ((W1_arr m ρ c 7).trans ((short0 (V0 m ρ) c).trans ?_))))
  rw [show V0 m ρ c main_arg0 = m ((c : Thread nD τ).loc main_arg0) from rfl,
    show V0 m ρ c main_arg1 = m ((c : Thread nD τ).loc main_arg1) from rfl,
    show V0 m ρ c main_arg2 = m ((c : Thread nD τ).loc main_arg2) from rfl,
    show V0 m ρ c main_arg3 = m ((c : Thread nD τ).loc main_arg3) from rfl,
    show V0 m ρ c main_arg4 = m ((c : Thread nD τ).loc main_arg4) from rfl]

theorem output_of_one : W4 m ρ c (Proc.devRef .tc main_v1_0) = arrRows (output 1 (m ((c : Thread nD τ).loc main_arg0)) (m ((c : Thread nD τ).loc main_arg1))) := by
  refine (W4_of m ρ c main_v1_0 (by decide)).trans ((W3_of m ρ c main_v1_0 (by decide)).trans ((W2_arr m ρ c 5).trans ((output1 (V1 m ρ) c).trans ?_)))
  rw [show V1 m ρ c main_arg0 = m ((c : Thread nD τ).loc main_arg0) from W1_args m ρ c main_arg0 (by decide),
    show V1 m ρ c main_arg1 = m ((c : Thread nD τ).loc main_arg1) from W1_args m ρ c main_arg1 (by decide)]

theorem handed_of_one : W4 m ρ c (Proc.devRef .tc main_v1_1) = arrRows (handed (m ((c : Thread nD τ).loc main_arg2)) (m ((c : Thread nD τ).loc main_arg3)) (m ((c : Thread nD τ).loc main_arg4))
      (output 1 (m ((c : Thread nD τ).loc main_arg0)) (m ((c : Thread nD τ).loc main_arg1)))) := by
  refine (W4_of m ρ c main_v1_1 (by decide)).trans ((W3_of m ρ c main_v1_1 (by decide)).trans ((W2_arr m ρ c 6).trans ((handed1 (V1 m ρ) c).trans ?_)))
  rw [show V1 m ρ c main_arg0 = m ((c : Thread nD τ).loc main_arg0) from W1_args m ρ c main_arg0 (by decide),
    show V1 m ρ c main_arg1 = m ((c : Thread nD τ).loc main_arg1) from W1_args m ρ c main_arg1 (by decide),
    show V1 m ρ c main_arg2 = m ((c : Thread nD τ).loc main_arg2) from W1_args m ρ c main_arg2 (by decide),
    show V1 m ρ c main_arg3 = m ((c : Thread nD τ).loc main_arg3) from W1_args m ρ c main_arg3 (by decide),
    show V1 m ρ c main_arg4 = m ((c : Thread nD τ).loc main_arg4) from W1_args m ρ c main_arg4 (by decide)]

theorem short_of_one : W4 m ρ c (Proc.devRef .tc main_v1_2) = arrShort (handed (m ((c : Thread nD τ).loc main_arg2)) (m ((c : Thread nD τ).loc main_arg3)) (m ((c : Thread nD τ).loc main_arg4))
      (output 1 (m ((c : Thread nD τ).loc main_arg0)) (m ((c : Thread nD τ).loc main_arg1)))) := by
  refine (W4_of m ρ c main_v1_2 (by decide)).trans ((W3_of m ρ c main_v1_2 (by decide)).trans ((W2_arr m ρ c 7).trans ((short1 (V1 m ρ) c).trans ?_)))
  rw [show V1 m ρ c main_arg0 = m ((c : Thread nD τ).loc main_arg0) from W1_args m ρ c main_arg0 (by decide),
    show V1 m ρ c main_arg1 = m ((c : Thread nD τ).loc main_arg1) from W1_args m ρ c main_arg1 (by decide),
    show V1 m ρ c main_arg2 = m ((c : Thread nD τ).loc main_arg2) from W1_args m ρ c main_arg2 (by decide),
    show V1 m ρ c main_arg3 = m ((c : Thread nD τ).loc main_arg3) from W1_args m ρ c main_arg3 (by decide),
    show V1 m ρ c main_arg4 = m ((c : Thread nD τ).loc main_arg4) from W1_args m ρ c main_arg4 (by decide)]

theorem output_of_two : W4 m ρ c (Proc.devRef .tc main_v2_0) = arrRows (output 2 (m ((c : Thread nD τ).loc main_arg0)) (m ((c : Thread nD τ).loc main_arg1))) := by
  refine (W4_of m ρ c main_v2_0 (by decide)).trans ((W3_arr m ρ c 5).trans ((output2 (V2 m ρ) c).trans ?_))
  rw [show V2 m ρ c main_arg0 = m ((c : Thread nD τ).loc main_arg0) from W2_args m ρ c main_arg0 (by decide),
    show V2 m ρ c main_arg1 = m ((c : Thread nD τ).loc main_arg1) from W2_args m ρ c main_arg1 (by decide)]

theorem handed_of_two : W4 m ρ c (Proc.devRef .tc main_v2_1) = arrRows (handed (m ((c : Thread nD τ).loc main_arg2)) (m ((c : Thread nD τ).loc main_arg3)) (m ((c : Thread nD τ).loc main_arg4))
      (output 2 (m ((c : Thread nD τ).loc main_arg0)) (m ((c : Thread nD τ).loc main_arg1)))) := by
  refine (W4_of m ρ c main_v2_1 (by decide)).trans ((W3_arr m ρ c 6).trans ((handed2 (V2 m ρ) c).trans ?_))
  rw [show V2 m ρ c main_arg0 = m ((c : Thread nD τ).loc main_arg0) from W2_args m ρ c main_arg0 (by decide),
    show V2 m ρ c main_arg1 = m ((c : Thread nD τ).loc main_arg1) from W2_args m ρ c main_arg1 (by decide),
    show V2 m ρ c main_arg2 = m ((c : Thread nD τ).loc main_arg2) from W2_args m ρ c main_arg2 (by decide),
    show V2 m ρ c main_arg3 = m ((c : Thread nD τ).loc main_arg3) from W2_args m ρ c main_arg3 (by decide),
    show V2 m ρ c main_arg4 = m ((c : Thread nD τ).loc main_arg4) from W2_args m ρ c main_arg4 (by decide)]

theorem short_of_two : W4 m ρ c (Proc.devRef .tc main_v2_2) = arrShort (handed (m ((c : Thread nD τ).loc main_arg2)) (m ((c : Thread nD τ).loc main_arg3)) (m ((c : Thread nD τ).loc main_arg4))
      (output 2 (m ((c : Thread nD τ).loc main_arg0)) (m ((c : Thread nD τ).loc main_arg1)))) := by
  refine (W4_of m ρ c main_v2_2 (by decide)).trans ((W3_arr m ρ c 7).trans ((short2 (V2 m ρ) c).trans ?_))
  rw [show V2 m ρ c main_arg0 = m ((c : Thread nD τ).loc main_arg0) from W2_args m ρ c main_arg0 (by decide),
    show V2 m ρ c main_arg1 = m ((c : Thread nD τ).loc main_arg1) from W2_args m ρ c main_arg1 (by decide),
    show V2 m ρ c main_arg2 = m ((c : Thread nD τ).loc main_arg2) from W2_args m ρ c main_arg2 (by decide),
    show V2 m ρ c main_arg3 = m ((c : Thread nD τ).loc main_arg3) from W2_args m ρ c main_arg3 (by decide),
    show V2 m ρ c main_arg4 = m ((c : Thread nD τ).loc main_arg4) from W2_args m ρ c main_arg4 (by decide)]

theorem output_of_three : W4 m ρ c (Proc.devRef .tc main_v3_0) = arrRows (output 3 (m ((c : Thread nD τ).loc main_arg0)) (m ((c : Thread nD τ).loc main_arg1))) := by
  refine (W4_arr m ρ c 5).trans ((output3 (V3 m ρ) c).trans ?_)
  rw [show V3 m ρ c main_arg0 = m ((c : Thread nD τ).loc main_arg0) from W3_args m ρ c main_arg0 (by decide),
    show V3 m ρ c main_arg1 = m ((c : Thread nD τ).loc main_arg1) from W3_args m ρ c main_arg1 (by decide)]

theorem handed_of_three : W4 m ρ c (Proc.devRef .tc main_v3_1) = arrRows (handed (m ((c : Thread nD τ).loc main_arg2)) (m ((c : Thread nD τ).loc main_arg3)) (m ((c : Thread nD τ).loc main_arg4))
      (output 3 (m ((c : Thread nD τ).loc main_arg0)) (m ((c : Thread nD τ).loc main_arg1)))) := by
  refine (W4_arr m ρ c 6).trans ((handed3 (V3 m ρ) c).trans ?_)
  rw [show V3 m ρ c main_arg0 = m ((c : Thread nD τ).loc main_arg0) from W3_args m ρ c main_arg0 (by decide),
    show V3 m ρ c main_arg1 = m ((c : Thread nD τ).loc main_arg1) from W3_args m ρ c main_arg1 (by decide),
    show V3 m ρ c main_arg2 = m ((c : Thread nD τ).loc main_arg2) from W3_args m ρ c main_arg2 (by decide),
    show V3 m ρ c main_arg3 = m ((c : Thread nD τ).loc main_arg3) from W3_args m ρ c main_arg3 (by decide),
    show V3 m ρ c main_arg4 = m ((c : Thread nD τ).loc main_arg4) from W3_args m ρ c main_arg4 (by decide)]

theorem short_of_three : W4 m ρ c (Proc.devRef .tc main_v3_2) = arrShort (handed (m ((c : Thread nD τ).loc main_arg2)) (m ((c : Thread nD τ).loc main_arg3)) (m ((c : Thread nD τ).loc main_arg4))
      (output 3 (m ((c : Thread nD τ).loc main_arg0)) (m ((c : Thread nD τ).loc main_arg1)))) := by
  refine (W4_arr m ρ c 7).trans ((short3 (V3 m ρ) c).trans ?_)
  rw [show V3 m ρ c main_arg0 = m ((c : Thread nD τ).loc main_arg0) from W3_args m ρ c main_arg0 (by decide),
    show V3 m ρ c main_arg1 = m ((c : Thread nD τ).loc main_arg1) from W3_args m ρ c main_arg1 (by decide),
    show V3 m ρ c main_arg2 = m ((c : Thread nD τ).loc main_arg2) from W3_args m ρ c main_arg2 (by decide),
    show V3 m ρ c main_arg3 = m ((c : Thread nD τ).loc main_arg3) from W3_args m ρ c main_arg3 (by decide),
    show V3 m ρ c main_arg4 = m ((c : Thread nD τ).loc main_arg4) from W3_args m ρ c main_arg4 (by decide)]

end Cert.DownIdeal.Whole

end
-- ==== Proof.DownStages.lean ====
/-
  The operations of the reference of the feed-forward output products, named.
-/
module

public import proofs.«01_k».proof.Proof.Gen.DownReferenceIdeal.Run
public import proofs.«01_k».proof.Proof.Norm
public import proofs.«01_k».proof.Proof.Gated
public import Idealize.ShloMosaic.Lib.Claim

@[expose] public section

set_option maxRecDepth 16384
noncomputable section

namespace Cert.DownReferenceIdeal.Stage

open Cert.DownReferenceIdeal Cert.DownReferenceIdeal.Gen Idealize.ShloMosaic Idealize.ShloMosaic.TcCoe

/-- The hidden units of all parts as columns. -/
def units (a : FVec Ideal S4x4096x704 .bf16) : FVec Ideal S4096x2816 .f32 :=
  shapeCast _ (transpose S4096x4x704 [1, 0, 2] (extf .f32 a bitsLt_bf16_f32) transposes_S4x4096x704_S4096x4x704_1_0_2)
    shapeCasts_S4096x4x704_S4096x2816

/-- A layer's weight, its rows the hidden units of all parts. -/
def flat (w : FVec Ideal S4x1x704x1024 .bf16) : FVec Ideal S2816x1024 .f32 :=
  extf .f32 (shapeCast _ (shapeCast _ w shapeCasts_S4x1x704x1024_S4x704x1024 : FVec Ideal S4x704x1024 .bf16)
    shapeCasts_S4x704x1024_S2816x1024) bitsLt_bf16_f32

def weight0 (w : FVec Ideal S4x4x704x1024 .bf16) : FVec Ideal S4x1x704x1024 .bf16 :=
  extractStridedSlice S4x1x704x1024 ![0, 0, 0, 0] w slices_S4x4x704x1024_S4x1x704x1024_0_0_0_0
def weight1 (w : FVec Ideal S4x4x704x1024 .bf16) : FVec Ideal S4x1x704x1024 .bf16 :=
  extractStridedSlice S4x1x704x1024 ![0, 1, 0, 0] w slices_S4x4x704x1024_S4x1x704x1024_0_1_0_0
def weight2 (w : FVec Ideal S4x4x704x1024 .bf16) : FVec Ideal S4x1x704x1024 .bf16 :=
  extractStridedSlice S4x1x704x1024 ![0, 2, 0, 0] w slices_S4x4x704x1024_S4x1x704x1024_0_2_0_0
def weight3 (w : FVec Ideal S4x4x704x1024 .bf16) : FVec Ideal S4x1x704x1024 .bf16 :=
  extractStridedSlice S4x1x704x1024 ![0, 3, 0, 0] w slices_S4x4x704x1024_S4x1x704x1024_0_3_0_0

def product (a : FVec Ideal S4x4096x704 .bf16) (w : FVec Ideal S4x1x704x1024 .bf16) : FVec Ideal S4096x1024 .f32 :=
  Host.dotGeneral dot_S4096x2816_S2816x1024_S4096x1024_1_0_0_1_n_n none (units a) (flat w)

/-! ## The norm -/

def sums (h s : FVec Ideal S4096x1024 .f32) : FVec Ideal S4096x1024 .f32 :=
  addf (mulf (broadcastInDim S4096x1024 ![] bcast_S_S4096x1024 (constant S_ .f32 0x3FD744FD#32)) h) s

def means (z : FVec Ideal S4096x1024 .f32) : FVec Ideal S4096x1 .f32 :=
  Host.divf (broadcastInDim S4096x1 ![0] bcast_S4096_S4096x1_0
    (Host.reduceAdd z (constant S_ .f32 0x00000000#32) reducesTo_S4096x1024_S4096_d1 h_S_))
    (broadcastInDim S4096x1 ![] bcast_S_S4096x1 (constant S_ .f32 0x44800000#32))

def centred (z : FVec Ideal S4096x1024 .f32) : FVec Ideal S4096x1024 .f32 :=
  subf z (broadcastInDim S4096x1024 ![0, 1] bcast_S4096x1_S4096x1024_0_1 (means z))

def scales (z : FVec Ideal S4096x1024 .f32) : FVec Ideal S4096x1 .f32 :=
  Host.rsqrt (addf (means (mulf (centred z) (centred z)))
    (broadcastInDim S4096x1 ![] bcast_S_S4096x1 (constant S_ .f32 0x3727C5AC#32)))

/-- One row of numbers at every row. -/
def everyRow (g : FVec Ideal S1x1024 .f32) : FVec Ideal S4096x1024 .f32 :=
  broadcastInDim S4096x1024 ![0, 1] bcast_S1x1024_S4096x1024_0_1
    (broadcastInDim S1x1024 ![1] bcast_S1024_S1x1024_1 (shapeCast _ g shapeCasts_S1x1024_S1024 : FVec Ideal S1024 .f32))

def norm (z : FVec Ideal S4096x1024 .f32) (g b : FVec Ideal S1x1024 .f32) : FVec Ideal S4096x1024 .f32 :=
  addf (mulf (mulf (centred z) (broadcastInDim S4096x1024 ![0, 1] bcast_S4096x1_S4096x1024_0_1 (scales z))) (everyRow g)) (everyRow b)

def short (y : FVec Ideal S4096x1024 .f32) : FVec Ideal S4096x1024 .bf16 := truncf .bf16 y bitsLt_bf16_f32

variable (m : (ℓ : Loc nD τ sig) → Buf (Elt Ideal) ℓ) (c : Dev nD)

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v7) = product (m ((c.tc : Thread nD τ).loc main_arg0)) (weight0 (m ((c.tc : Thread nD τ).loc main_arg1)))
    ∧ r.2.mem ((c.tc : Thread nD τ).loc main_v36) = norm (sums (m ((c.tc : Thread nD τ).loc main_arg2))
      (product (m ((c.tc : Thread nD τ).loc main_arg0)) (weight0 (m ((c.tc : Thread nD τ).loc main_arg1))))) (m ((c.tc : Thread nD τ).loc main_arg3)) (m ((c.tc : Thread nD τ).loc main_arg4))
    ∧ r.2.mem ((c.tc : Thread nD τ).loc main_v37) = short (norm (sums (m ((c.tc : Thread nD τ).loc main_arg2))
      (product (m ((c.tc : Thread nD τ).loc main_arg0)) (weight0 (m ((c.tc : Thread nD τ).loc main_arg1))))) (m ((c.tc : Thread nD τ).loc main_arg3)) (m ((c.tc : Thread nD τ).loc main_arg4)))
    ∧ r.2.mem ((c.tc : Thread nD τ).loc main_v42) = product (m ((c.tc : Thread nD τ).loc main_arg0)) (weight1 (m ((c.tc : Thread nD τ).loc main_arg1)))
    ∧ r.2.mem ((c.tc : Thread nD τ).loc main_v71) = norm (sums (m ((c.tc : Thread nD τ).loc main_arg2))
      (product (m ((c.tc : Thread nD τ).loc main_arg0)) (weight1 (m ((c.tc : Thread nD τ).loc main_arg1))))) (m ((c.tc : Thread nD τ).loc main_arg3)) (m ((c.tc : Thread nD τ).loc main_arg4))
    ∧ r.2.mem ((c.tc : Thread nD τ).loc main_v72) = short (norm (sums (m ((c.tc : Thread nD τ).loc main_arg2))
      (product (m ((c.tc : Thread nD τ).loc main_arg0)) (weight1 (m ((c.tc : Thread nD τ).loc main_arg1))))) (m ((c.tc : Thread nD τ).loc main_arg3)) (m ((c.tc : Thread nD τ).loc main_arg4)))
    ∧ r.2.mem ((c.tc : Thread nD τ).loc main_v77) = product (m ((c.tc : Thread nD τ).loc main_arg0)) (weight2 (m ((c.tc : Thread nD τ).loc main_arg1)))
    ∧ r.2.mem ((c.tc : Thread nD τ).loc main_v106) = norm (sums (m ((c.tc : Thread nD τ).loc main_arg2))
      (product (m ((c.tc : Thread nD τ).loc main_arg0)) (weight2 (m ((c.tc : Thread nD τ).loc main_arg1))))) (m ((c.tc : Thread nD τ).loc main_arg3)) (m ((c.tc : Thread nD τ).loc main_arg4))
    ∧ r.2.mem ((c.tc : Thread nD τ).loc main_v107) = short (norm (sums (m ((c.tc : Thread nD τ).loc main_arg2))
      (product (m ((c.tc : Thread nD τ).loc main_arg0)) (weight2 (m ((c.tc : Thread nD τ).loc main_arg1))))) (m ((c.tc : Thread nD τ).loc main_arg3)) (m ((c.tc : Thread nD τ).loc main_arg4)))
    ∧ r.2.mem ((c.tc : Thread nD τ).loc main_v112) = product (m ((c.tc : Thread nD τ).loc main_arg0)) (weight3 (m ((c.tc : Thread nD τ).loc main_arg1)))
    ∧ r.2.mem ((c.tc : Thread nD τ).loc main_v141) = norm (sums (m ((c.tc : Thread nD τ).loc main_arg2))
      (product (m ((c.tc : Thread nD τ).loc main_arg0)) (weight3 (m ((c.tc : Thread nD τ).loc main_arg1))))) (m ((c.tc : Thread nD τ).loc main_arg3)) (m ((c.tc : Thread nD τ).loc main_arg4))
    ∧ r.2.mem ((c.tc : Thread nD τ).loc main_v142) = short (norm (sums (m ((c.tc : Thread nD τ).loc main_arg2))
      (product (m ((c.tc : Thread nD τ).loc main_arg0)) (weight3 (m ((c.tc : Thread nD τ).loc main_arg1))))) (m ((c.tc : Thread nD τ).loc main_arg3)) (m ((c.tc : Thread nD τ).loc main_arg4)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => by
    obtain ⟨h0, h1, h2, h3, h4, h5, h6, h7, h8, h9, h10, h11, ha⟩ := h c
    exact ⟨h0, h1, h2, h3, h4, h5, h6, h7, h8, h9, h10, h11, ha⟩) (Value.run (F := Ideal) m ρ)

end Cert.DownReferenceIdeal.Stage

end
-- ==== Proof.DownStagesAt.lean ====
/-
  The operations of the reference of the feed-forward output products read at an index: they are the formulas of the calls.
-/
module

public import proofs.«01_k».proof.Proof.DownStages
public import proofs.«01_k».proof.Proof.DownArrays

@[expose] public section

set_option maxRecDepth 16384
noncomputable section

namespace Cert.DownReferenceIdeal.Stage

open Cert.DownReferenceIdeal Cert.DownReferenceIdeal.Gen Idealize.ShloMosaic Idealize.ShloMosaic.TcCoe
open Cert.Norm
open Cert.DownIdeal.Whole (output handed arrRows arrShort)

/-- Unit `f` of part `k` among all. -/
def unit (k : Fin 4) (f : Fin 704) : Fin 2816 := ⟨704 * k + f, by omega⟩

theorem sum_units (F : Fin 2816 → EReal) : ∑ x, F x = ∑ k, ∑ f, F (unit k f) := by
  rw [← Fintype.sum_prod_type' (fun k f => F (unit k f))]
  refine (Fintype.sum_equiv (finProdFinEquiv (m := 4) (n := 704)) _ _ fun p => congrArg F (Fin.ext ?_)).symm
  simp only [unit, finProdFinEquiv_apply_val]
  omega

theorem units_at (a : FVec Ideal S4x4096x704 .bf16) (i : Fin 4096) (k : Fin 4) (f : Fin 704) :
    units a (ix2 i (unit k f)) = a (ix3 k i f) := by
  pointwise [units]
  refine congrArg a ?_
  congr 1 <;> (apply Fin.ext; simp only [unit]; omega)

theorem flat_at (w : FVec Ideal S4x1x704x1024 .bf16) (k : Fin 4) (f : Fin 704) (d : Fin 1024) :
    flat w (ix2 (unit k f) d) = w (ix4 k 0 f d) := by
  pointwise [flat]
  refine congrArg w ?_
  congr 1 <;> (apply Fin.ext; simp only [unit]; omega)

theorem product_at (a : FVec Ideal S4x4096x704 .bf16) (w : FVec Ideal S4x1x704x1024 .bf16) (i : Fin 4096) (j : Fin 1024) :
    product a w (ix2 i j) = ∑ k, ∑ f, a (ix3 k i f) * w (ix4 k 0 f j) := by
  pointwise [product]
  simp only [sum_units, units_at, flat_at]

theorem output0_at (a : FVec Ideal S4x4096x704 .bf16) (w : FVec Ideal S4x4x704x1024 .bf16) (i : Fin 4096) (j : Fin 1024) :
    product a (weight0 w) (ix2 i j) = output 0 a w i j := by
  rw [product_at]
  pointwise [weight0, output]

theorem output1_at (a : FVec Ideal S4x4096x704 .bf16) (w : FVec Ideal S4x4x704x1024 .bf16) (i : Fin 4096) (j : Fin 1024) :
    product a (weight1 w) (ix2 i j) = output 1 a w i j := by
  rw [product_at]
  pointwise [weight1, output]

theorem output2_at (a : FVec Ideal S4x4096x704 .bf16) (w : FVec Ideal S4x4x704x1024 .bf16) (i : Fin 4096) (j : Fin 1024) :
    product a (weight2 w) (ix2 i j) = output 2 a w i j := by
  rw [product_at]
  pointwise [weight2, output]

theorem output3_at (a : FVec Ideal S4x4096x704 .bf16) (w : FVec Ideal S4x4x704x1024 .bf16) (i : Fin 4096) (j : Fin 1024) :
    product a (weight3 w) (ix2 i j) = output 3 a w i j := by
  rw [product_at]
  pointwise [weight3, output]

/-! ## The norm -/

theorem sums_at (h s : FVec Ideal S4096x1024 .f32) (i : Fin 4096) (j : Fin 1024) :
    sums h s (ix2 i j) = joined (fun j => h (ix2 i j)) (fun j => s (ix2 i j)) j := by
  pointwise [sums, joined, alpha]

theorem means_at (z : FVec Ideal S4096x1024 .f32) (i : Fin 4096) (u : Fin 1) : means z (ix2 i u) = mean fun j => z (ix2 i j) := by
  pointwise [means, mean, columns]

theorem centred_at (z : FVec Ideal S4096x1024 .f32) (i : Fin 4096) (j : Fin 1024) :
    centred z (ix2 i j) = z (ix2 i j) - mean fun j => z (ix2 i j) := by
  pointwise [centred]
  rw [means_at]

theorem scales_at (z : FVec Ideal S4096x1024 .f32) (i : Fin 4096) (u : Fin 1) :
    scales z (ix2 i u) = Ideal.rsqrt (variance (fun j => z (ix2 i j)) + eps) := by
  pointwise [scales, eps]
  rw [means_at]
  pointwise [variance]
  simp only [centred_at]

theorem everyRow_at (g : FVec Ideal S1x1024 .f32) (i : Fin 4096) (j : Fin 1024) : everyRow g (ix2 i j) = g (ix2 0 j) := by
  pointwise [everyRow]

theorem norm_at (h s : FVec Ideal S4096x1024 .f32) (g b : FVec Ideal S1x1024 .f32) (i : Fin 4096) (j : Fin 1024) :
    norm (sums h s) g b (ix2 i j)
      = postNorm (fun j => h (ix2 i j)) (fun j => s (ix2 i j)) (fun j => g (ix2 0 j)) (fun j => b (ix2 0 j)) j := by
  pointwise [norm, postNorm, normed]
  simp only [centred_at, scales_at, sums_at, everyRow_at]

/-! ## The results -/

section
variable (s : FVec Ideal S4096x1024 .f32) (S : Fin 4096 → Fin 1024 → EReal) (hs : ∀ i j, s (ix2 i j) = S i j)
  (h : FVec Ideal S4096x1024 .f32) (g b : FVec Ideal S1x1024 .f32)
include hs

theorem output_eq : s = arrRows S := by
  funext j
  idx_vars j
  exact hs j0 j1

theorem handed_eq : norm (sums h s) g b = arrRows (handed h g b S) := by
  funext j
  idx_vars j
  rw [norm_at]
  simp only [hs]
  rfl

theorem short_eq : short (norm (sums h s) g b) = arrShort (handed h g b S) := by
  funext j
  idx_vars j
  pointwise [short]
  rw [norm_at]
  simp only [hs]
  rfl
end

end Cert.DownReferenceIdeal.Stage

end
-- ==== Proof.Down.lean ====
/-
  The five claims about the feed-forward output products: the three frames, the ledger, and the equation of the kernel with the
  reference.
-/
module

public import proofs.«01_k».proof.Defs
public import proofs.«01_k».proof.Proof.Gen.Down.Frame
public import proofs.«01_k».proof.Proof.DownResults
public import proofs.«01_k».proof.Proof.DownStagesAt

@[expose] public section

noncomputable section

namespace Cert.DownClaims

open Idealize.ShloMosaic Idealize.ShloMosaic.TcCoe Idealize.SL.Sem

theorem frame_p : Cert.quiescent_Down := fun m ρ _ => Cert.Down.Gen.frame m ρ

theorem frame_pi : Cert.quiescent_DownIdeal := fun m ρ _ => Cert.DownIdeal.Gen.frame m ρ

theorem frame_ri : Cert.quiescent_DownReferenceIdeal := fun m ρ _ =>
  (θ_run Cert.DownReferenceIdeal.defs _ _).mono
    (fun r h => ⟨fun c => (h c).2.2.2.2.2.2.2.2.2.2.2.2, sem_eq_zero_of_no_sems (by decide) r.2⟩)
    (Cert.DownReferenceIdeal.Value.run (F := Ideal) m ρ)

theorem preserves : Cert.preserves_Down_DownIdeal := trivial

section
open Cert.DownIdeal Cert.DownIdeal.Whole

theorem algebraic : Cert.algebraic_DownIdeal_DownReferenceIdeal := by
  intro m ρ m' ρ' _ hag
  refine ⟨fun c => arrRows (output 0 (m ((c : Thread nD τ).loc main_arg0)) (m ((c : Thread nD τ).loc main_arg1))),
    fun c => arrRows (handed (m ((c : Thread nD τ).loc main_arg2)) (m ((c : Thread nD τ).loc main_arg3)) (m ((c : Thread nD τ).loc main_arg4))
      (output 0 (m ((c : Thread nD τ).loc main_arg0)) (m ((c : Thread nD τ).loc main_arg1)))),
    fun c => arrShort (handed (m ((c : Thread nD τ).loc main_arg2)) (m ((c : Thread nD τ).loc main_arg3)) (m ((c : Thread nD τ).loc main_arg4))
      (output 0 (m ((c : Thread nD τ).loc main_arg0)) (m ((c : Thread nD τ).loc main_arg1)))),
    fun c => arrRows (output 1 (m ((c : Thread nD τ).loc main_arg0)) (m ((c : Thread nD τ).loc main_arg1))),
    fun c => arrRows (handed (m ((c : Thread nD τ).loc main_arg2)) (m ((c : Thread nD τ).loc main_arg3)) (m ((c : Thread nD τ).loc main_arg4))
      (output 1 (m ((c : Thread nD τ).loc main_arg0)) (m ((c : Thread nD τ).loc main_arg1)))),
    fun c => arrShort (handed (m ((c : Thread nD τ).loc main_arg2)) (m ((c : Thread nD τ).loc main_arg3)) (m ((c : Thread nD τ).loc main_arg4))
      (output 1 (m ((c : Thread nD τ).loc main_arg0)) (m ((c : Thread nD τ).loc main_arg1)))),
    fun c => arrRows (output 2 (m ((c : Thread nD τ).loc main_arg0)) (m ((c : Thread nD τ).loc main_arg1))),
    fun c => arrRows (handed (m ((c : Thread nD τ).loc main_arg2)) (m ((c : Thread nD τ).loc main_arg3)) (m ((c : Thread nD τ).loc main_arg4))
      (output 2 (m ((c : Thread nD τ).loc main_arg0)) (m ((c : Thread nD τ).loc main_arg1)))),
    fun c => arrShort (handed (m ((c : Thread nD τ).loc main_arg2)) (m ((c : Thread nD τ).loc main_arg3)) (m ((c : Thread nD τ).loc main_arg4))
      (output 2 (m ((c : Thread nD τ).loc main_arg0)) (m ((c : Thread nD τ).loc main_arg1)))),
    fun c => arrRows (output 3 (m ((c : Thread nD τ).loc main_arg0)) (m ((c : Thread nD τ).loc main_arg1))),
    fun c => arrRows (handed (m ((c : Thread nD τ).loc main_arg2)) (m ((c : Thread nD τ).loc main_arg3)) (m ((c : Thread nD τ).loc main_arg4))
      (output 3 (m ((c : Thread nD τ).loc main_arg0)) (m ((c : Thread nD τ).loc main_arg1)))),
    fun c => arrShort (handed (m ((c : Thread nD τ).loc main_arg2)) (m ((c : Thread nD τ).loc main_arg3)) (m ((c : Thread nD τ).loc main_arg4))
      (output 3 (m ((c : Thread nD τ).loc main_arg0)) (m ((c : Thread nD τ).loc main_arg1)))), ?_, ?_⟩
  · refine (θ_run defs _ _).mono (fun r h c => ?_) (run m ρ)
    exact ⟨(h c main_v0_0 (by decide)).trans (output_of_zero m ρ c),
      (h c main_v0_1 (by decide)).trans (handed_of_zero m ρ c),
      (h c main_v0_2 (by decide)).trans (short_of_zero m ρ c),
      (h c main_v1_0 (by decide)).trans (output_of_one m ρ c),
      (h c main_v1_1 (by decide)).trans (handed_of_one m ρ c),
      (h c main_v1_2 (by decide)).trans (short_of_one m ρ c),
      (h c main_v2_0 (by decide)).trans (output_of_two m ρ c),
      (h c main_v2_1 (by decide)).trans (handed_of_two m ρ c),
      (h c main_v2_2 (by decide)).trans (short_of_two m ρ c),
      (h c main_v3_0 (by decide)).trans (output_of_three m ρ c),
      (h c main_v3_1 (by decide)).trans (handed_of_three m ρ c),
      (h c main_v3_2 (by decide)).trans (short_of_three m ρ c),
      (h c main_arg0 (by decide)).trans (Gen.W4_main_arg0 m ρ c),
      (h c main_arg1 (by decide)).trans (Gen.W4_main_arg1 m ρ c),
      (h c main_arg2 (by decide)).trans (Gen.W4_main_arg2 m ρ c),
      (h c main_arg3 (by decide)).trans (Gen.W4_main_arg3 m ρ c),
      (h c main_arg4 (by decide)).trans (Gen.W4_main_arg4 m ρ c)⟩
  · refine (θ_run Cert.DownReferenceIdeal.defs _ _).mono (fun r h c => ?_) (Cert.DownReferenceIdeal.Stage.run m' ρ')
    obtain ⟨h0, h1, h2, h3, h4, h5, h6, h7, h8, h9, h10, h11, ha⟩ := h c
    obtain ⟨e0, e1, e2, e3, e4⟩ := hag c
    refine ⟨h0.trans ?_, h1.trans ?_, h2.trans ?_, h3.trans ?_, h4.trans ?_, h5.trans ?_, h6.trans ?_, h7.trans ?_, h8.trans ?_, h9.trans ?_, h10.trans ?_, h11.trans ?_, ha⟩
    · rw [Cert.DownReferenceIdeal.Stage.output_eq _ _ (Cert.DownReferenceIdeal.Stage.output0_at _ _), e0, e1]
    · rw [Cert.DownReferenceIdeal.Stage.handed_eq _ _ (Cert.DownReferenceIdeal.Stage.output0_at _ _), e0, e1, e2, e3, e4]
    · rw [Cert.DownReferenceIdeal.Stage.short_eq _ _ (Cert.DownReferenceIdeal.Stage.output0_at _ _), e0, e1, e2, e3, e4]
    · rw [Cert.DownReferenceIdeal.Stage.output_eq _ _ (Cert.DownReferenceIdeal.Stage.output1_at _ _), e0, e1]
    · rw [Cert.DownReferenceIdeal.Stage.handed_eq _ _ (Cert.DownReferenceIdeal.Stage.output1_at _ _), e0, e1, e2, e3, e4]
    · rw [Cert.DownReferenceIdeal.Stage.short_eq _ _ (Cert.DownReferenceIdeal.Stage.output1_at _ _), e0, e1, e2, e3, e4]
    · rw [Cert.DownReferenceIdeal.Stage.output_eq _ _ (Cert.DownReferenceIdeal.Stage.output2_at _ _), e0, e1]
    · rw [Cert.DownReferenceIdeal.Stage.handed_eq _ _ (Cert.DownReferenceIdeal.Stage.output2_at _ _), e0, e1, e2, e3, e4]
    · rw [Cert.DownReferenceIdeal.Stage.short_eq _ _ (Cert.DownReferenceIdeal.Stage.output2_at _ _), e0, e1, e2, e3, e4]
    · rw [Cert.DownReferenceIdeal.Stage.output_eq _ _ (Cert.DownReferenceIdeal.Stage.output3_at _ _), e0, e1]
    · rw [Cert.DownReferenceIdeal.Stage.handed_eq _ _ (Cert.DownReferenceIdeal.Stage.output3_at _ _), e0, e1, e2, e3, e4]
    · rw [Cert.DownReferenceIdeal.Stage.short_eq _ _ (Cert.DownReferenceIdeal.Stage.output3_at _ _), e0, e1, e2, e3, e4]

end

end Cert.DownClaims

end
-- ==== Proof.MixedRun.lean ====
/-
  The program of the mixers' output products runs to its end: what every buffer of a core holds there. Its calls run one after the
  other, and the contents after the last of them are the fold of them over the launch contents.
-/
module

public import proofs.«01_k».proof.Proof.Gen.MixedIdeal.Frame
public import Idealize.ShloMosaic.Lib.Pointwise

@[expose] public section

noncomputable section

namespace Cert.MixedIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.MixedIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- At the end every buffer outside the calls' own scopes holds what the fold of the calls says. -/
theorem run : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W2 m ρ c (Proc.devRef .tc b)) := by
  have start : (ownU (initOf (cells cfgs cellOf_inj) (launchToks cfgs cellOf_inj)) : sProp 𝕄)
      ⊢ |={Set.univ}=> iprop(BI.own (emb₁ (initOf (cells cfgs cellOf_inj) (launchToks cfgs cellOf_inj)))
        ∗ bigSep Finset.univ fun _ : Dev nD => (BI.emp : sProp 𝕄)) := by
    rw [BI.bigSep_emp_const]
    iintro H
    imodintro
    isplitl [H]
    · iapply (show (ownU (initOf (cells cfgs cellOf_inj) (launchToks cfgs cellOf_inj)) : sProp 𝕄)
        ⊢ BI.own (emb₁ (initOf (cells cfgs cellOf_inj) (launchToks cfgs cellOf_inj))) from .rfl)
      iexact H
    · iempintro
  refine θ_run_regions_kit_sems (pcfgs (F := Ideal)) adm (pdats m ρ) () cellOf_inj emb₁ defs₀ 𝒱₀ L lv m ρ main (segs m ρ)
    (fun c Q => by rw [main_run m ρ c]) ?_ 0 (fun _ _ => rfl) (fun _ => BI.emp) _ start
    (fun c => iprop(StableHlo.held (c : Thread nD τ) (ucRefs τ sig) (W0 m ρ c) ∗ R c)) (Tₙ m ρ) ?_ ?_
    (fun c s => ∀ b ∈ ucRefs τ sig, s.mem (((c : Thread nD τ)).1, b) = W2 m ρ c b) (fun c s => ?_)
    (fun s h _ c b hb => h c _ (mem_uc b hb))
  · simp only [segs, Seg.pipes_host, Seg.pipes_region, Seg.pipes_nil]
    decide
  · exact ⟨fun _ => .rfl, fun _ => .rfl, fun _ => .rfl⟩
  · refine initEach L lv fun c => ?_
    rw [show unscopedBufs c (fun b => m ((c : Thread nD τ).loc b)) = StableHlo.held (c : Thread nD τ) (ucRefs τ sig) (W0 m ρ c)
      from unscopedBufs_held c (W0 m ρ c)]
    iintro ⟨⟨Hbufs, -, Howes, -, Hprng, -⟩, -⟩
    imodintro
    isplitl [Hbufs]
    · iexact Hbufs
    isplitl [Hprng]
    · iexists _
      iexact Hprng
    · iexists ∅
      iexact Howes
  · iintro ⟨⟨Hbufs, -⟩, Hmem⟩
    unfold StableHlo.held
    imodintro
    iapply (pointsTo_read_all (ucRefs τ sig) (fun b => (((c : Thread nD τ)).1, b)) (W2 m ρ c) s)
    isplitl [Hbufs] <;> iassumption

end Cert.MixedIdeal.Whole

end
-- ==== Proof.MixedArrays.lean ====
/-
  The output products of the mixers and the normed rows, as formulas of the arrays that the calls read.
-/
module

public import proofs.«01_k».proof.Proof.Gen.MixedIdeal.Skeleton
public import proofs.«01_k».proof.Proof.Norm
public import Idealize.ShloMosaic.Lib.Pipeline.ValueKit
public import Idealize.ShloMosaic.Lib.Claim

@[expose] public section

set_option maxRecDepth 16384
noncomputable section

namespace Cert.MixedIdeal.Whole

open Cert.MixedIdeal Cert.MixedIdeal.Gen Idealize.ShloMosaic Idealize.ShloMosaic.TcCoe

/-- The product of the mixed rows with the weight. -/
def output {e : FTy} (a : FVec Ideal S4096x1024 e) (w : FVec Ideal S1024x1024 .bf16) (i : Fin 4096) (j : Fin 1024) : EReal :=
  ∑ k : Fin 1024, a (ix2 i k) * w (ix2 k j)

/-- The row that is handed on. -/
def handed (h : FVec Ideal S4096x1024 .f32) (g b : FVec Ideal S1x1024 .f32) (s : Fin 4096 → Fin 1024 → EReal) (i : Fin 4096) :
    Fin 1024 → EReal :=
  Cert.Norm.postNorm (fun j => h (ix2 i j)) (s i) (fun j => g (ix2 0 j)) (fun j => b (ix2 0 j))

def arrRows (g : Fin 4096 → Fin 1024 → EReal) : FVec Ideal S4096x1024 .f32 := fun j => g (j 0) (j 1)
def arrShort (g : Fin 4096 → Fin 1024 → EReal) : FVec Ideal S4096x1024 .bf16 := fun j => g (j 0) (j 1)

end Cert.MixedIdeal.Whole

end
-- ==== Proof.MixedBlock.lean ====
/-
  The norm after an output product, on one block of 512 rows.
-/
module

public import proofs.«01_k».proof.Proof.Gen.MixedIdeal.Skeleton
public import proofs.«01_k».proof.Proof.Norm
public import Idealize.ShloMosaic.Lib.Pipeline.ValueKit
public import Idealize.ShloMosaic.Lib.Claim

@[expose] public section

set_option maxRecDepth 16384
noncomputable section

namespace Cert.MixedIdeal.Whole

open Cert.MixedIdeal Cert.MixedIdeal.Gen Idealize.ShloMosaic Idealize.ShloMosaic.TcCoe Cert.Norm

/-! ## The norm -/

section
variable (s h : FVec Ideal S512x1024 .f32) (g b : FVec Ideal S1x1024 .f32)

def sums : FVec Ideal S512x1024 .f32 := addf (mulf (broadcast S512x1024 (Scalar.ofBits .f32 0x3FD744FD#32)) h)
    (shapeCast S512x1024 s shapeCasts_S512x1024_S512x1024)

variable {s h} in
theorem sums_at (i : Fin 512) (j : Fin 1024) :
    sums s h (ix2 i j) = joined (fun j => h (ix2 i j)) (fun j => s (ix2 i j)) j := by
  pointwise [sums, joined, alpha]

/-- The mean of each row of a block. -/
def means (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

theorem means_at (z : FVec Ideal S512x1024 .f32) (i : Fin 512) (u : Fin 1) : means z (ix2 i u) = mean fun j => z (ix2 i j) := by
  pointwise [means, mean, columns]

def centred (z : FVec Ideal S512x1024 .f32) : FVec Ideal S512x1024 .f32 :=
  subf z (broadcastTo S512x1024 (means z) broadcasts_S512x1_S512x1024)

theorem centred_at (z : FVec Ideal S512x1024 .f32) (i : Fin 512) (j : Fin 1024) :
    centred z (ix2 i j) = z (ix2 i j) - mean fun j => z (ix2 i j) := by
  pointwise [centred]
  rw [means_at]

def scales (z : FVec Ideal S512x1024 .f32) : FVec Ideal S512x1 .f32 :=
  rsqrt (addf (means (mulf (centred z) (centred z))) (broadcast S512x1 (Scalar.ofBits .f32 0x3727C5AC#32)))

theorem scales_at (z : FVec Ideal S512x1024 .f32) (i : Fin 512) (u : Fin 1) :
    scales z (ix2 i u) = Ideal.rsqrt (variance (fun j => z (ix2 i j)) + eps) := by
  pointwise [scales, eps]
  rw [means_at]
  pointwise [variance]
  simp only [centred_at]

theorem norm0_at (i : Fin 512) (j : Fin 1024) : k0_pay1 (F := Ideal) g b (k0_pay6 h s) (k0_pay7 h s) (ix2 i j)
    = postNorm (fun j => h (ix2 i j)) (fun j => s (ix2 i j)) (fun j => g (ix2 0 j)) (fun j => b (ix2 0 j)) j := by
  show addf (mulf (mulf (centred (sums s h)) (broadcastTo S512x1024 (scales (sums s h)) broadcasts_S512x1_S512x1024))
    (broadcastTo S512x1024 g broadcasts_S1x1024_S512x1024)) (broadcastTo S512x1024 b broadcasts_S1x1024_S512x1024) (ix2 i j) = _
  pointwise [postNorm, normed]
  simp only [centred_at, scales_at, sums_at]

theorem norm1_at (i : Fin 512) (j : Fin 1024) : k1_pay1 (F := Ideal) g b (k1_pay5 h s) (ix2 i j)
    = postNorm (fun j => h (ix2 i j)) (fun j => s (ix2 i j)) (fun j => g (ix2 0 j)) (fun j => b (ix2 0 j)) j := by
  show addf (mulf (mulf (centred (sums s h)) (broadcastTo S512x1024 (scales (sums s h)) broadcasts_S512x1_S512x1024))
    (broadcastTo S512x1024 g broadcasts_S1x1024_S512x1024)) (broadcastTo S512x1024 b broadcasts_S1x1024_S512x1024) (ix2 i j) = _
  pointwise [postNorm, normed]
  simp only [centred_at, scales_at, sums_at]

end

end Cert.MixedIdeal.Whole

end
-- ==== Proof.MixedZero.lean ====
/-
  The output product of the hybrid mixer, and the normed rows in both widths. A block of the product is written in two halves of its
  columns and read back whole before the norm.
-/
module

public import proofs.«01_k».proof.Proof.MixedArrays
public import proofs.«01_k».proof.Proof.MixedBlock
public import proofs.«01_k».proof.Proof.Gen.MixedIdeal.Frame
public import Idealize.ShloMosaic.Lib.Pipeline.ValueKit
public import Idealize.ShloMosaic.Lib.Claim

@[expose] public section

set_option maxRecDepth 16384
noncomputable section

namespace Cert.MixedIdeal.Whole

open Cert.MixedIdeal Cert.MixedIdeal.Gen Idealize.ShloMosaic Idealize.ShloMosaic.TcCoe
open Cert.Norm
open Idealize.ShloMosaic.Pipeline (Dat)

theorem idx0 : ∀ t : Fin cfg0.N, win0_0.index t = ![(grid0.coords t 0).val, 0] ∧ win0_1.index t = ![0, 0] ∧
    win0_2.index t = ![(grid0.coords t 0).val, 0] ∧ win0_3.index t = ![0, 0] ∧ win0_4.index t = ![0, 0] ∧
    win0_5.index t = ![(grid0.coords t 0).val, 0] ∧ win0_6.index t = ![(grid0.coords t 0).val, 0] ∧ win0_7.index t = ![(grid0.coords t 0).val, 0] :=
  (by decide +kernel : ∀ t : Fin grid0.N, _)

section
variable (a : Vec Ideal S512x1024 .f32) (w : Vec Ideal S1024x1024 .bf16)

/-- The product of the blocks of one call. -/
def blockProduct0 (i : Fin 512) (j : Fin 1024) : EReal :=
  ∑ k : Fin 1024, (a : FVec Ideal S512x1024 .f32) (ix2 i k) * (w : FVec Ideal S1024x1024 .bf16) (ix2 k j)

/-- The two halves of the columns, the one written last first. -/
def halves0 : List (View.Piece (Elt Ideal) S512x1024 .f32) :=
  [⟨Rect.unit ![0, 512] ![512, 512] inb_S512x1024_S512x512_0_512,
    k0_pay5 a (View.ld w (Rect.unit ![0, 512] ![1024, 512] inb_S1024x1024_S1024x512_0_512))⟩,
   ⟨Rect.unit ![0, 0] ![512, 512] inb_S512x1024_S512x512_0_0,
    k0_pay4 a (View.ld w (Rect.unit ![0, 0] ![1024, 512] inb_S1024x1024_S1024x512_0_0))⟩]

theorem halves0_at (y : S512x1024.Idx) : View.canon (halves0 a w) y = blockProduct0 a w (y 0) (y 1) := by
  unfold halves0
  canon_tiles x h
  · idx_vars x
    pointwise [k0_pay5, k0_pay3, blockProduct0]
    blk_point []
  · idx_vars x
    pointwise [k0_pay4, k0_pay3, blockProduct0]
    blk_point []

theorem read0 {sp : Space} (v : View sig .tc sp S512x1024 .f32) :
    v.readCov (halves0 a w) (Rect.unit ![0, 0] ![512, 1024] inb_S512x1024_S512x1024_0_0).toLoadRect
      = fun y => blockProduct0 a w (y 0) (y 1) := by
  rw [View.readCov_eq_canon']
  funext y
  rw [halves0_at]
  idx_vars y
  blk_point []
end

variable (V : (c : Dev nD) → (b : Ref sig .tc) → Buf (Elt Ideal) ((c : Thread nD τ).loc b)) (c : Dev nD)

section
variable (t : Fin cfg0.N) (y : S512x1024.Idx)

theorem output0_point : (outsAt0 V c t).1 y = blockProduct0 (iblk0 V c 0 t) (iblk0 V c 1 t) (y 0) (y 1) := by
  dsimp only [outsAt0, out0_A_5]
  frame_out
  exact halves0_at _ _ y

theorem handed0_point : (outsAt0 V c t).2.1 y
    = postNorm (fun j => (iblk0 V c 2 t : FVec Ideal S512x1024 .f32) (ix2 (y 0) j))
        (blockProduct0 (iblk0 V c 0 t) (iblk0 V c 1 t) (y 0)) (fun j => (iblk0 V c 3 t : FVec Ideal S1x1024 .f32) (ix2 0 j))
        (fun j => (iblk0 V c 4 t : FVec Ideal S1x1024 .f32) (ix2 0 j)) (y 1) := by
  dsimp only [outsAt0, out0_A_6]
  frame_out
  refine (congrArg (fun r => k0_pay1 (F := Ideal) (iblk0 V c 3 t) (iblk0 V c 4 t) (k0_pay6 (iblk0 V c 2 t) r) (k0_pay7 (iblk0 V c 2 t) r) y)
    (read0 (iblk0 V c 0 t) (iblk0 V c 1 t) (ms0_5 t).view)).trans ?_
  idx_vars y
  beta_reduce
  exact norm0_at _ _ _ _ y0 y1

theorem short0_point : (outsAt0 V c t).2.2 y
    = postNorm (fun j => (iblk0 V c 2 t : FVec Ideal S512x1024 .f32) (ix2 (y 0) j))
        (blockProduct0 (iblk0 V c 0 t) (iblk0 V c 1 t) (y 0)) (fun j => (iblk0 V c 3 t : FVec Ideal S1x1024 .f32) (ix2 0 j))
        (fun j => (iblk0 V c 4 t : FVec Ideal S1x1024 .f32) (ix2 0 j)) (y 1) := by
  dsimp only [outsAt0, out0_A_7]
  frame_out
  refine (congrArg (fun r => k0_pay2 (F := Ideal) (iblk0 V c 3 t) (iblk0 V c 4 t) (k0_pay6 (iblk0 V c 2 t) r) (k0_pay7 (iblk0 V c 2 t) r) y)
    (read0 (iblk0 V c 0 t) (iblk0 V c 1 t) (ms0_5 t).view)).trans ?_
  idx_vars y
  beta_reduce
  exact norm0_at _ _ _ _ y0 y1
end

theorem output0 : (dat0 V c).arrAt 5 cfg0.N = arrRows (output (e := .f32) (V c main_arg0) (V c main_arg1)) := by
  refine (dat0 V c).arrAt_eq_of_covers 5 _ (by decide +kernel) fun t _ y => ?_
  blk_simp
  rw [after0_5]
  refine (output0_point V c t y).trans ?_
  idx_vars y
  pointwise [blockProduct0, output, arrRows]
  blk_point [iblk0, idx0 t]

theorem handed0 : (dat0 V c).arrAt 6 cfg0.N
    = arrRows (handed (V c main_arg2) (V c main_arg3) (V c main_arg4) (output (e := .f32) (V c main_arg0) (V c main_arg1))) := by
  refine (dat0 V c).arrAt_eq_of_covers 6 _ (by decide +kernel) fun t _ y => ?_
  blk_simp
  rw [after0_6]
  refine (handed0_point V c t y).trans ?_
  idx_vars y
  pointwise [arrRows, handed, postNorm, normed, variance, mean, joined, blockProduct0, output]
  blk_point [iblk0, idx0 t]

theorem short0 : (dat0 V c).arrAt 7 cfg0.N
    = arrShort (handed (V c main_arg2) (V c main_arg3) (V c main_arg4) (output (e := .f32) (V c main_arg0) (V c main_arg1))) := by
  refine (dat0 V c).arrAt_eq_of_covers 7 _ (by decide +kernel) fun t _ y => ?_
  blk_simp
  rw [after0_7]
  refine (short0_point V c t y).trans ?_
  idx_vars y
  pointwise [arrShort, handed, postNorm, normed, variance, mean, joined, blockProduct0, output]
  blk_point [iblk0, idx0 t]

end Cert.MixedIdeal.Whole

end
-- ==== Proof.MixedOne.lean ====
/-
  The output product of the cross-attention, and the normed rows in both widths. A block of the product is written in two halves of its
  columns and read back whole before the norm.
-/
module

public import proofs.«01_k».proof.Proof.MixedArrays
public import proofs.«01_k».proof.Proof.MixedBlock
public import proofs.«01_k».proof.Proof.Gen.MixedIdeal.Frame
public import Idealize.ShloMosaic.Lib.Pipeline.ValueKit
public import Idealize.ShloMosaic.Lib.Claim

@[expose] public section

set_option maxRecDepth 16384
noncomputable section

namespace Cert.MixedIdeal.Whole

open Cert.MixedIdeal Cert.MixedIdeal.Gen Idealize.ShloMosaic Idealize.ShloMosaic.TcCoe
open Cert.Norm
open Idealize.ShloMosaic.Pipeline (Dat)

theorem idx1 : ∀ t : Fin cfg1.N, win1_0.index t = ![(grid1.coords t 0).val, 0] ∧ win1_1.index t = ![0, 0] ∧
    win1_2.index t = ![(grid1.coords t 0).val, 0] ∧ win1_3.index t = ![0, 0] ∧ win1_4.index t = ![0, 0] ∧
    win1_5.index t = ![(grid1.coords t 0).val, 0] ∧ win1_6.index t = ![(grid1.coords t 0).val, 0] ∧ win1_7.index t = ![(grid1.coords t 0).val, 0] :=
  (by decide +kernel : ∀ t : Fin grid1.N, _)

section
variable (a : Vec Ideal S512x1024 .bf16) (w : Vec Ideal S1024x1024 .bf16)

/-- The product of the blocks of one call. -/
def blockProduct1 (i : Fin 512) (j : Fin 1024) : EReal :=
  ∑ k : Fin 1024, (a : FVec Ideal S512x1024 .bf16) (ix2 i k) * (w : FVec Ideal S1024x1024 .bf16) (ix2 k j)

/-- The two halves of the columns, the one written last first. -/
def halves1 : List (View.Piece (Elt Ideal) S512x1024 .f32) :=
  [⟨Rect.unit ![0, 512] ![512, 512] inb_S512x1024_S512x512_0_512,
    k1_pay4 a (View.ld w (Rect.unit ![0, 512] ![1024, 512] inb_S1024x1024_S1024x512_0_512))⟩,
   ⟨Rect.unit ![0, 0] ![512, 512] inb_S512x1024_S512x512_0_0,
    k1_pay3 a (View.ld w (Rect.unit ![0, 0] ![1024, 512] inb_S1024x1024_S1024x512_0_0))⟩]

theorem halves1_at (y : S512x1024.Idx) : View.canon (halves1 a w) y = blockProduct1 a w (y 0) (y 1) := by
  unfold halves1
  canon_tiles x h
  · idx_vars x
    pointwise [k1_pay4, blockProduct1]
    blk_point []
  · idx_vars x
    pointwise [k1_pay3, blockProduct1]
    blk_point []

theorem read1 {sp : Space} (v : View sig .tc sp S512x1024 .f32) :
    v.readCov (halves1 a w) (Rect.unit ![0, 0] ![512, 1024] inb_S512x1024_S512x1024_0_0).toLoadRect
      = fun y => blockProduct1 a w (y 0) (y 1) := by
  rw [View.readCov_eq_canon']
  funext y
  rw [halves1_at]
  idx_vars y
  blk_point []
end

variable (V : (c : Dev nD) → (b : Ref sig .tc) → Buf (Elt Ideal) ((c : Thread nD τ).loc b)) (c : Dev nD)

section
variable (t : Fin cfg1.N) (y : S512x1024.Idx)

theorem output1_point : (outsAt1 V c t).1 y = blockProduct1 (iblk1 V c 0 t) (iblk1 V c 1 t) (y 0) (y 1) := by
  dsimp only [outsAt1, out1_A_5]
  frame_out
  exact halves1_at _ _ y

theorem handed1_point : (outsAt1 V c t).2.1 y
    = postNorm (fun j => (iblk1 V c 2 t : FVec Ideal S512x1024 .f32) (ix2 (y 0) j))
        (blockProduct1 (iblk1 V c 0 t) (iblk1 V c 1 t) (y 0)) (fun j => (iblk1 V c 3 t : FVec Ideal S1x1024 .f32) (ix2 0 j))
        (fun j => (iblk1 V c 4 t : FVec Ideal S1x1024 .f32) (ix2 0 j)) (y 1) := by
  dsimp only [outsAt1, out1_A_6]
  frame_out
  refine (congrArg (fun r => k1_pay1 (F := Ideal) (iblk1 V c 3 t) (iblk1 V c 4 t) (k1_pay5 (iblk1 V c 2 t) r) y)
    (read1 (iblk1 V c 0 t) (iblk1 V c 1 t) (ms1_5 t).view)).trans ?_
  idx_vars y
  beta_reduce
  exact norm1_at _ _ _ _ y0 y1

theorem short1_point : (outsAt1 V c t).2.2 y
    = postNorm (fun j => (iblk1 V c 2 t : FVec Ideal S512x1024 .f32) (ix2 (y 0) j))
        (blockProduct1 (iblk1 V c 0 t) (iblk1 V c 1 t) (y 0)) (fun j => (iblk1 V c 3 t : FVec Ideal S1x1024 .f32) (ix2 0 j))
        (fun j => (iblk1 V c 4 t : FVec Ideal S1x1024 .f32) (ix2 0 j)) (y 1) := by
  dsimp only [outsAt1, out1_A_7]
  frame_out
  refine (congrArg (fun r => k1_pay2 (F := Ideal) (iblk1 V c 3 t) (iblk1 V c 4 t) (k1_pay5 (iblk1 V c 2 t) r) y)
    (read1 (iblk1 V c 0 t) (iblk1 V c 1 t) (ms1_5 t).view)).trans ?_
  idx_vars y
  beta_reduce
  exact norm1_at _ _ _ _ y0 y1
end

theorem output1 : (dat1 V c).arrAt 5 cfg1.N = arrRows (output (e := .bf16) (V c main_arg5) (V c main_arg6)) := by
  refine (dat1 V c).arrAt_eq_of_covers 5 _ (by decide +kernel) fun t _ y => ?_
  blk_simp
  rw [after1_5]
  refine (output1_point V c t y).trans ?_
  idx_vars y
  pointwise [blockProduct1, output, arrRows]
  blk_point [iblk1, idx1 t]

theorem handed1 : (dat1 V c).arrAt 6 cfg1.N
    = arrRows (handed (V c main_arg7) (V c main_arg8) (V c main_arg9) (output (e := .bf16) (V c main_arg5) (V c main_arg6))) := by
  refine (dat1 V c).arrAt_eq_of_covers 6 _ (by decide +kernel) fun t _ y => ?_
  blk_simp
  rw [after1_6]
  refine (handed1_point V c t y).trans ?_
  idx_vars y
  pointwise [arrRows, handed, postNorm, normed, variance, mean, joined, blockProduct1, output]
  blk_point [iblk1, idx1 t]

theorem short1 : (dat1 V c).arrAt 7 cfg1.N
    = arrShort (handed (V c main_arg7) (V c main_arg8) (V c main_arg9) (output (e := .bf16) (V c main_arg5) (V c main_arg6))) := by
  refine (dat1 V c).arrAt_eq_of_covers 7 _ (by decide +kernel) fun t _ y => ?_
  blk_simp
  rw [after1_7]
  refine (short1_point V c t y).trans ?_
  idx_vars y
  pointwise [arrShort, handed, postNorm, normed, variance, mean, joined, blockProduct1, output]
  blk_point [iblk1, idx1 t]

end Cert.MixedIdeal.Whole

end
-- ==== Proof.MixedResults.lean ====
/-
  What the program of the mixers' output products leaves in its results.
-/
module

public import proofs.«01_k».proof.Proof.MixedRun
public import proofs.«01_k».proof.Proof.MixedZero
public import proofs.«01_k».proof.Proof.MixedOne
public import Idealize.ShloMosaic.Lib.Pipeline.ValueKit
public import Idealize.ShloMosaic.Lib.Claim

@[expose] public section

set_option maxRecDepth 16384
noncomputable section

namespace Cert.MixedIdeal.Whole

open Cert.MixedIdeal Cert.MixedIdeal.Gen Idealize.ShloMosaic Idealize.ShloMosaic.TcCoe
open Idealize.ShloMosaic.Pipeline (Dat)

variable (m : (ℓ : Loc nD τ sig) → Buf (Elt Ideal) ℓ) (ρ : Dev nD → PrngReg) (c : Dev nD)

theorem output_of_zero : W2 m ρ c (Proc.devRef .tc main_v0_0) = arrRows (output (e := .f32) (m ((c : Thread nD τ).loc main_arg0)) (m ((c : Thread nD τ).loc main_arg1))) := by
  refine (W2_of m ρ c main_v0_0 (by decide)).trans ((W1_arr m ρ c 5).trans ((output0 (V0 m ρ) c).trans ?_))
  rw [show V0 m ρ c main_arg0 = m ((c : Thread nD τ).loc main_arg0) from rfl,
    show V0 m ρ c main_arg1 = m ((c : Thread nD τ).loc main_arg1) from rfl]

theorem handed_of_zero : W2 m ρ c (Proc.devRef .tc main_v0_1) = arrRows (handed (m ((c : Thread nD τ).loc main_arg2)) (m ((c : Thread nD τ).loc main_arg3)) (m ((c : Thread nD τ).loc main_arg4))
      (output (e := .f32) (m ((c : Thread nD τ).loc main_arg0)) (m ((c : Thread nD τ).loc main_arg1)))) := by
  refine (W2_of m ρ c main_v0_1 (by decide)).trans ((W1_arr m ρ c 6).trans ((handed0 (V0 m ρ) c).trans ?_))
  rw [show V0 m ρ c main_arg0 = m ((c : Thread nD τ).loc main_arg0) from rfl,
    show V0 m ρ c main_arg1 = m ((c : Thread nD τ).loc main_arg1) from rfl,
    show V0 m ρ c main_arg2 = m ((c : Thread nD τ).loc main_arg2) from rfl,
    show V0 m ρ c main_arg3 = m ((c : Thread nD τ).loc main_arg3) from rfl,
    show V0 m ρ c main_arg4 = m ((c : Thread nD τ).loc main_arg4) from rfl]

theorem short_of_zero : W2 m ρ c (Proc.devRef .tc main_v0_2) = arrShort (handed (m ((c : Thread nD τ).loc main_arg2)) (m ((c : Thread nD τ).loc main_arg3)) (m ((c : Thread nD τ).loc main_arg4))
      (output (e := .f32) (m ((c : Thread nD τ).loc main_arg0)) (m ((c : Thread nD τ).loc main_arg1)))) := by
  refine (W2_of m ρ c main_v0_2 (by decide)).trans ((W1_arr m ρ c 7).trans ((short0 (V0 m ρ) c).trans ?_))
  rw [show V0 m ρ c main_arg0 = m ((c : Thread nD τ).loc main_arg0) from rfl,
    show V0 m ρ c main_arg1 = m ((c : Thread nD τ).loc main_arg1) from rfl,
    show V0 m ρ c main_arg2 = m ((c : Thread nD τ).loc main_arg2) from rfl,
    show V0 m ρ c main_arg3 = m ((c : Thread nD τ).loc main_arg3) from rfl,
    show V0 m ρ c main_arg4 = m ((c : Thread nD τ).loc main_arg4) from rfl]

theorem output_of_one : W2 m ρ c (Proc.devRef .tc main_v1_0) = arrRows (output (e := .bf16) (m ((c : Thread nD τ).loc main_arg5)) (m ((c : Thread nD τ).loc main_arg6))) := by
  refine (W2_arr m ρ c 5).trans ((output1 (V1 m ρ) c).trans ?_)
  rw [show V1 m ρ c main_arg5 = m ((c : Thread nD τ).loc main_arg5) from W1_args m ρ c main_arg5 (by decide),
    show V1 m ρ c main_arg6 = m ((c : Thread nD τ).loc main_arg6) from W1_args m ρ c main_arg6 (by decide)]

theorem handed_of_one : W2 m ρ c (Proc.devRef .tc main_v1_1) = arrRows (handed (m ((c : Thread nD τ).loc main_arg7)) (m ((c : Thread nD τ).loc main_arg8)) (m ((c : Thread nD τ).loc main_arg9))
      (output (e := .bf16) (m ((c : Thread nD τ).loc main_arg5)) (m ((c : Thread nD τ).loc main_arg6)))) := by
  refine (W2_arr m ρ c 6).trans ((handed1 (V1 m ρ) c).trans ?_)
  rw [show V1 m ρ c main_arg5 = m ((c : Thread nD τ).loc main_arg5) from W1_args m ρ c main_arg5 (by decide),
    show V1 m ρ c main_arg6 = m ((c : Thread nD τ).loc main_arg6) from W1_args m ρ c main_arg6 (by decide),
    show V1 m ρ c main_arg7 = m ((c : Thread nD τ).loc main_arg7) from W1_args m ρ c main_arg7 (by decide),
    show V1 m ρ c main_arg8 = m ((c : Thread nD τ).loc main_arg8) from W1_args m ρ c main_arg8 (by decide),
    show V1 m ρ c main_arg9 = m ((c : Thread nD τ).loc main_arg9) from W1_args m ρ c main_arg9 (by decide)]

theorem short_of_one : W2 m ρ c (Proc.devRef .tc main_v1_2) = arrShort (handed (m ((c : Thread nD τ).loc main_arg7)) (m ((c : Thread nD τ).loc main_arg8)) (m ((c : Thread nD τ).loc main_arg9))
      (output (e := .bf16) (m ((c : Thread nD τ).loc main_arg5)) (m ((c : Thread nD τ).loc main_arg6)))) := by
  refine (W2_arr m ρ c 7).trans ((short1 (V1 m ρ) c).trans ?_)
  rw [show V1 m ρ c main_arg5 = m ((c : Thread nD τ).loc main_arg5) from W1_args m ρ c main_arg5 (by decide),
    show V1 m ρ c main_arg6 = m ((c : Thread nD τ).loc main_arg6) from W1_args m ρ c main_arg6 (by decide),
    show V1 m ρ c main_arg7 = m ((c : Thread nD τ).loc main_arg7) from W1_args m ρ c main_arg7 (by decide),
    show V1 m ρ c main_arg8 = m ((c : Thread nD τ).loc main_arg8) from W1_args m ρ c main_arg8 (by decide),
    show V1 m ρ c main_arg9 = m ((c : Thread nD τ).loc main_arg9) from W1_args m ρ c main_arg9 (by decide)]

end Cert.MixedIdeal.Whole

end
-- ==== Proof.MixedStages.lean ====
/-
  The operations of the reference of the mixers' output products, named.
-/
module

public import proofs.«01_k».proof.Proof.Gen.MixedReferenceIdeal.Run
public import proofs.«01_k».proof.Proof.Norm
public import Idealize.ShloMosaic.Lib.Claim

@[expose] public section

set_option maxRecDepth 16384
noncomputable section

namespace Cert.MixedReferenceIdeal.Stage

open Cert.MixedReferenceIdeal Cert.MixedReferenceIdeal.Gen Idealize.ShloMosaic Idealize.ShloMosaic.TcCoe

def hybrid (a : FVec Ideal S4096x1024 .f32) (w : FVec Ideal S1024x1024 .bf16) : FVec Ideal S4096x1024 .f32 :=
  Host.dotGeneral dot_S4096x1024_S1024x1024_S4096x1024_1_0_0_1_n_n none a (extf .f32 w bitsLt_bf16_f32)

def cross (a : FVec Ideal S4096x1024 .bf16) (w : FVec Ideal S1024x1024 .bf16) : FVec Ideal S4096x1024 .f32 :=
  Host.dotGeneral dot_S4096x1024_S1024x1024_S4096x1024_1_0_0_1_n_n none (extf .f32 a bitsLt_bf16_f32) (extf .f32 w bitsLt_bf16_f32)

/-! ## The norm -/

def sums (h s : FVec Ideal S4096x1024 .f32) : FVec Ideal S4096x1024 .f32 :=
  addf (mulf (broadcastInDim S4096x1024 ![] bcast_S_S4096x1024 (constant S_ .f32 0x3FD744FD#32)) h) s

def means (z : FVec Ideal S4096x1024 .f32) : FVec Ideal S4096x1 .f32 :=
  Host.divf (broadcastInDim S4096x1 ![0] bcast_S4096_S4096x1_0
    (Host.reduceAdd z (constant S_ .f32 0x00000000#32) reducesTo_S4096x1024_S4096_d1 h_S_))
    (broadcastInDim S4096x1 ![] bcast_S_S4096x1 (constant S_ .f32 0x44800000#32))

def centred (z : FVec Ideal S4096x1024 .f32) : FVec Ideal S4096x1024 .f32 :=
  subf z (broadcastInDim S4096x1024 ![0, 1] bcast_S4096x1_S4096x1024_0_1 (means z))

def scales (z : FVec Ideal S4096x1024 .f32) : FVec Ideal S4096x1 .f32 :=
  Host.rsqrt (addf (means (mulf (centred z) (centred z)))
    (broadcastInDim S4096x1 ![] bcast_S_S4096x1 (constant S_ .f32 0x3727C5AC#32)))

/-- One row of numbers at every row. -/
def everyRow (g : FVec Ideal S1x1024 .f32) : FVec Ideal S4096x1024 .f32 :=
  broadcastInDim S4096x1024 ![0, 1] bcast_S1x1024_S4096x1024_0_1
    (broadcastInDim S1x1024 ![1] bcast_S1024_S1x1024_1 (shapeCast _ g shapeCasts_S1x1024_S1024 : FVec Ideal S1024 .f32))

def norm (z : FVec Ideal S4096x1024 .f32) (g b : FVec Ideal S1x1024 .f32) : FVec Ideal S4096x1024 .f32 :=
  addf (mulf (mulf (centred z) (broadcastInDim S4096x1024 ![0, 1] bcast_S4096x1_S4096x1024_0_1 (scales z))) (everyRow g)) (everyRow b)

def short (y : FVec Ideal S4096x1024 .f32) : FVec Ideal S4096x1024 .bf16 := truncf .bf16 y bitsLt_bf16_f32

variable (m : (ℓ : Loc nD τ sig) → Buf (Elt Ideal) ℓ) (c : Dev nD)

/-- From any memory: the results are the named ones, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v1) = hybrid (m ((c.tc : Thread nD τ).loc main_arg0)) (m ((c.tc : Thread nD τ).loc main_arg1))
    ∧ r.2.mem ((c.tc : Thread nD τ).loc main_v30) = norm (sums (m ((c.tc : Thread nD τ).loc main_arg2))
      (hybrid (m ((c.tc : Thread nD τ).loc main_arg0)) (m ((c.tc : Thread nD τ).loc main_arg1)))) (m ((c.tc : Thread nD τ).loc main_arg3)) (m ((c.tc : Thread nD τ).loc main_arg4))
    ∧ r.2.mem ((c.tc : Thread nD τ).loc main_v63) = short (norm (sums (m ((c.tc : Thread nD τ).loc main_arg2))
      (hybrid (m ((c.tc : Thread nD τ).loc main_arg0)) (m ((c.tc : Thread nD τ).loc main_arg1)))) (m ((c.tc : Thread nD τ).loc main_arg3)) (m ((c.tc : Thread nD τ).loc main_arg4)))
    ∧ r.2.mem ((c.tc : Thread nD τ).loc main_v33) = cross (m ((c.tc : Thread nD τ).loc main_arg5)) (m ((c.tc : Thread nD τ).loc main_arg6))
    ∧ r.2.mem ((c.tc : Thread nD τ).loc main_v62) = norm (sums (m ((c.tc : Thread nD τ).loc main_arg7))
      (cross (m ((c.tc : Thread nD τ).loc main_arg5)) (m ((c.tc : Thread nD τ).loc main_arg6)))) (m ((c.tc : Thread nD τ).loc main_arg8)) (m ((c.tc : Thread nD τ).loc main_arg9))
    ∧ r.2.mem ((c.tc : Thread nD τ).loc main_v64) = short (norm (sums (m ((c.tc : Thread nD τ).loc main_arg7))
      (cross (m ((c.tc : Thread nD τ).loc main_arg5)) (m ((c.tc : Thread nD τ).loc main_arg6)))) (m ((c.tc : Thread nD τ).loc main_arg8)) (m ((c.tc : Thread nD τ).loc main_arg9)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun _ h c => by
    obtain ⟨h0, h1, h2, h3, h4, h5, ha⟩ := h c
    exact ⟨h0, h1, h2, h3, h4, h5, ha⟩) (Value.run (F := Ideal) m ρ)

end Cert.MixedReferenceIdeal.Stage

end
-- ==== Proof.MixedStagesAt.lean ====
/-
  The operations of the reference of the mixers' output products read at an index: they are the formulas of the calls.
-/
module

public import proofs.«01_k».proof.Proof.MixedStages
public import proofs.«01_k».proof.Proof.MixedArrays

@[expose] public section

set_option maxRecDepth 16384
noncomputable section

namespace Cert.MixedReferenceIdeal.Stage

open Cert.MixedReferenceIdeal Cert.MixedReferenceIdeal.Gen Idealize.ShloMosaic Idealize.ShloMosaic.TcCoe
open Cert.Norm
open Cert.MixedIdeal.Whole (output handed arrRows arrShort)

theorem hybrid_at (a : FVec Ideal S4096x1024 .f32) (w : FVec Ideal S1024x1024 .bf16) (i : Fin 4096) (j : Fin 1024) :
    hybrid a w (ix2 i j) = output a w i j := by
  pointwise [hybrid, output]

theorem cross_at (a : FVec Ideal S4096x1024 .bf16) (w : FVec Ideal S1024x1024 .bf16) (i : Fin 4096) (j : Fin 1024) :
    cross a w (ix2 i j) = output a w i j := by
  pointwise [cross, output]

/-! ## The norm -/

theorem sums_at (h s : FVec Ideal S4096x1024 .f32) (i : Fin 4096) (j : Fin 1024) :
    sums h s (ix2 i j) = joined (fun j => h (ix2 i j)) (fun j => s (ix2 i j)) j := by
  pointwise [sums, joined, alpha]

theorem means_at (z : FVec Ideal S4096x1024 .f32) (i : Fin 4096) (u : Fin 1) : means z (ix2 i u) = mean fun j => z (ix2 i j) := by
  pointwise [means, mean, columns]

theorem centred_at (z : FVec Ideal S4096x1024 .f32) (i : Fin 4096) (j : Fin 1024) :
    centred z (ix2 i j) = z (ix2 i j) - mean fun j => z (ix2 i j) := by
  pointwise [centred]
  rw [means_at]

theorem scales_at (z : FVec Ideal S4096x1024 .f32) (i : Fin 4096) (u : Fin 1) :
    scales z (ix2 i u) = Ideal.rsqrt (variance (fun j => z (ix2 i j)) + eps) := by
  pointwise [scales, eps]
  rw [means_at]
  pointwise [variance]
  simp only [centred_at]

theorem everyRow_at (g : FVec Ideal S1x1024 .f32) (i : Fin 4096) (j : Fin 1024) : everyRow g (ix2 i j) = g (ix2 0 j) := by
  pointwise [everyRow]

theorem norm_at (h s : FVec Ideal S4096x1024 .f32) (g b : FVec Ideal S1x1024 .f32) (i : Fin 4096) (j : Fin 1024) :
    norm (sums h s) g b (ix2 i j)
      = postNorm (fun j => h (ix2 i j)) (fun j => s (ix2 i j)) (fun j => g (ix2 0 j)) (fun j => b (ix2 0 j)) j := by
  pointwise [norm, postNorm, normed]
  simp only [centred_at, scales_at, sums_at, everyRow_at]

/-! ## The results -/

section
variable (s : FVec Ideal S4096x1024 .f32) (S : Fin 4096 → Fin 1024 → EReal) (hs : ∀ i j, s (ix2 i j) = S i j)
  (h : FVec Ideal S4096x1024 .f32) (g b : FVec Ideal S1x1024 .f32)
include hs

theorem output_eq : s = arrRows S := by
  funext j
  idx_vars j
  exact hs j0 j1

theorem handed_eq : norm (sums h s) g b = arrRows (handed h g b S) := by
  funext j
  idx_vars j
  rw [norm_at]
  simp only [hs]
  rfl

theorem short_eq : short (norm (sums h s) g b) = arrShort (handed h g b S) := by
  funext j
  idx_vars j
  pointwise [short]
  rw [norm_at]
  simp only [hs]
  rfl
end

end Cert.MixedReferenceIdeal.Stage

end
-- ==== Proof.Mixed.lean ====
/-
  The five claims about the mixers' output products: the three frames, the ledger, and the equation of the kernel with the
  reference.
-/
module

public import proofs.«01_k».proof.Defs
public import proofs.«01_k».proof.Proof.Gen.Mixed.Frame
public import proofs.«01_k».proof.Proof.MixedResults
public import proofs.«01_k».proof.Proof.MixedStagesAt

@[expose] public section

noncomputable section

namespace Cert.MixedClaims

open Idealize.ShloMosaic Idealize.ShloMosaic.TcCoe Idealize.SL.Sem

theorem frame_p : Cert.quiescent_Mixed := fun m ρ _ => Cert.Mixed.Gen.frame m ρ

theorem frame_pi : Cert.quiescent_MixedIdeal := fun m ρ _ => Cert.MixedIdeal.Gen.frame m ρ

theorem frame_ri : Cert.quiescent_MixedReferenceIdeal := fun m ρ _ =>
  (θ_run Cert.MixedReferenceIdeal.defs _ _).mono
    (fun r h => ⟨fun c => (h c).2.2.2.2.2.2, sem_eq_zero_of_no_sems (by decide) r.2⟩)
    (Cert.MixedReferenceIdeal.Value.run (F := Ideal) m ρ)

theorem preserves : Cert.preserves_Mixed_MixedIdeal := trivial

section
open Cert.MixedIdeal Cert.MixedIdeal.Whole

theorem algebraic : Cert.algebraic_MixedIdeal_MixedReferenceIdeal := by
  intro m ρ m' ρ' _ hag
  refine ⟨fun c => arrRows (output (e := .f32) (m ((c : Thread nD τ).loc main_arg0)) (m ((c : Thread nD τ).loc main_arg1))),
    fun c => arrRows (handed (m ((c : Thread nD τ).loc main_arg2)) (m ((c : Thread nD τ).loc main_arg3)) (m ((c : Thread nD τ).loc main_arg4))
      (output (e := .f32) (m ((c : Thread nD τ).loc main_arg0)) (m ((c : Thread nD τ).loc main_arg1)))),
    fun c => arrShort (handed (m ((c : Thread nD τ).loc main_arg2)) (m ((c : Thread nD τ).loc main_arg3)) (m ((c : Thread nD τ).loc main_arg4))
      (output (e := .f32) (m ((c : Thread nD τ).loc main_arg0)) (m ((c : Thread nD τ).loc main_arg1)))),
    fun c => arrRows (output (e := .bf16) (m ((c : Thread nD τ).loc main_arg5)) (m ((c : Thread nD τ).loc main_arg6))),
    fun c => arrRows (handed (m ((c : Thread nD τ).loc main_arg7)) (m ((c : Thread nD τ).loc main_arg8)) (m ((c : Thread nD τ).loc main_arg9))
      (output (e := .bf16) (m ((c : Thread nD τ).loc main_arg5)) (m ((c : Thread nD τ).loc main_arg6)))),
    fun c => arrShort (handed (m ((c : Thread nD τ).loc main_arg7)) (m ((c : Thread nD τ).loc main_arg8)) (m ((c : Thread nD τ).loc main_arg9))
      (output (e := .bf16) (m ((c : Thread nD τ).loc main_arg5)) (m ((c : Thread nD τ).loc main_arg6)))), ?_, ?_⟩
  · refine (θ_run defs _ _).mono (fun r h c => ?_) (run m ρ)
    exact ⟨(h c main_v0_0 (by decide)).trans (output_of_zero m ρ c),
      (h c main_v0_1 (by decide)).trans (handed_of_zero m ρ c),
      (h c main_v0_2 (by decide)).trans (short_of_zero m ρ c),
      (h c main_v1_0 (by decide)).trans (output_of_one m ρ c),
      (h c main_v1_1 (by decide)).trans (handed_of_one m ρ c),
      (h c main_v1_2 (by decide)).trans (short_of_one m ρ c),
      (h c main_arg0 (by decide)).trans (Gen.W2_main_arg0 m ρ c),
      (h c main_arg1 (by decide)).trans (Gen.W2_main_arg1 m ρ c),
      (h c main_arg2 (by decide)).trans (Gen.W2_main_arg2 m ρ c),
      (h c main_arg3 (by decide)).trans (Gen.W2_main_arg3 m ρ c),
      (h c main_arg4 (by decide)).trans (Gen.W2_main_arg4 m ρ c),
      (h c main_arg5 (by decide)).trans (Gen.W2_main_arg5 m ρ c),
      (h c main_arg6 (by decide)).trans (Gen.W2_main_arg6 m ρ c),
      (h c main_arg7 (by decide)).trans (Gen.W2_main_arg7 m ρ c),
      (h c main_arg8 (by decide)).trans (Gen.W2_main_arg8 m ρ c),
      (h c main_arg9 (by decide)).trans (Gen.W2_main_arg9 m ρ c)⟩
  · refine (θ_run Cert.MixedReferenceIdeal.defs _ _).mono (fun r h c => ?_) (Cert.MixedReferenceIdeal.Stage.run m' ρ')
    obtain ⟨h0, h1, h2, h3, h4, h5, ha⟩ := h c
    obtain ⟨e0, e1, e2, e3, e4, e5, e6, e7, e8, e9⟩ := hag c
    refine ⟨h0.trans ?_, h1.trans ?_, h2.trans ?_, h3.trans ?_, h4.trans ?_, h5.trans ?_, ha⟩
    · rw [Cert.MixedReferenceIdeal.Stage.output_eq _ _ (Cert.MixedReferenceIdeal.Stage.hybrid_at _ _), e0, e1]
    · rw [Cert.MixedReferenceIdeal.Stage.handed_eq _ _ (Cert.MixedReferenceIdeal.Stage.hybrid_at _ _), e0, e1, e2, e3, e4]
    · rw [Cert.MixedReferenceIdeal.Stage.short_eq _ _ (Cert.MixedReferenceIdeal.Stage.hybrid_at _ _), e0, e1, e2, e3, e4]
    · rw [Cert.MixedReferenceIdeal.Stage.output_eq _ _ (Cert.MixedReferenceIdeal.Stage.cross_at _ _), e5, e6]
    · rw [Cert.MixedReferenceIdeal.Stage.handed_eq _ _ (Cert.MixedReferenceIdeal.Stage.cross_at _ _), e5, e6, e7, e8, e9]
    · rw [Cert.MixedReferenceIdeal.Stage.short_eq _ _ (Cert.MixedReferenceIdeal.Stage.cross_at _ _), e5, e6, e7, e8, e9]

end

end Cert.MixedClaims

end
-- ==== Proof.lean ====
/-
  The claims of `Cert.Claim` put together, from the modules which prove them.
-/
module

public import proofs.«01_k».proof.Defs
public import proofs.«01_k».proof.Proof.Gen.KernelIdeal.Value
public import proofs.«01_k».proof.Proof.Gen.Kernel.Frame
public import proofs.«01_k».proof.Proof.Gen.Ffn.Frame
public import proofs.«01_k».proof.Proof.Gen.FfnOne.Frame
public import proofs.«01_k».proof.Proof.Gen.FfnZero.Frame
public import proofs.«01_k».proof.Proof.Gen.FfnThree.Frame
public import proofs.«01_k».proof.Proof.Gen.Glu.Frame
public import proofs.«01_k».proof.Proof.Gen.Cross.Frame
public import proofs.«01_k».proof.Proof.Gen.CrossGrads.Frame
public import proofs.«01_k».proof.Proof.Gen.Hyb.Frame
public import proofs.«01_k».proof.Proof.Gen.Down.Frame
public import proofs.«01_k».proof.Proof.Gen.Mixed.Frame
public import proofs.«01_k».proof.Proof.Gen.ReferenceIdeal.Run
public import proofs.«01_k».proof.Proof.Gen.FfnReferenceIdeal.Run
public import proofs.«01_k».proof.Proof.Gen.FfnOneReferenceIdeal.Run
public import proofs.«01_k».proof.Proof.Gen.FfnZeroReferenceIdeal.Run
public import proofs.«01_k».proof.Proof.Gen.FfnThreeReferenceIdeal.Run
public import proofs.«01_k».proof.Proof.Gen.GluReferenceIdeal.Run
public import proofs.«01_k».proof.Proof.Gen.CrossReferenceIdeal.Run
public import proofs.«01_k».proof.Proof.Gen.CrossGradsReferenceIdeal.Run
public import proofs.«01_k».proof.Proof.Gen.HybReferenceIdeal.Run
public import proofs.«01_k».proof.Proof.Gen.DownReferenceIdeal.Run
public import proofs.«01_k».proof.Proof.Gen.MixedReferenceIdeal.Run
public import proofs.«01_k».proof.Proof.Swa
public import proofs.«01_k».proof.Proof.Ffn
public import proofs.«01_k».proof.Proof.FfnOne
public import proofs.«01_k».proof.Proof.FfnZero
public import proofs.«01_k».proof.Proof.FfnThree
public import proofs.«01_k».proof.Proof.Glu
public import proofs.«01_k».proof.Proof.Cross
public import proofs.«01_k».proof.Proof.CrossGrads
public import proofs.«01_k».proof.Proof.Hyb
public import proofs.«01_k».proof.Proof.Down
public import proofs.«01_k».proof.Proof.Mixed
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Ffn.Gen.facts, Cert.FfnIdeal.Gen.facts, Cert.FfnReferenceIdeal.Gen.facts,
  Cert.FfnOne.Gen.facts, Cert.FfnOneIdeal.Gen.facts, Cert.FfnOneReferenceIdeal.Gen.facts,
  Cert.FfnZero.Gen.facts, Cert.FfnZeroIdeal.Gen.facts, Cert.FfnZeroReferenceIdeal.Gen.facts,
  Cert.FfnThree.Gen.facts, Cert.FfnThreeIdeal.Gen.facts, Cert.FfnThreeReferenceIdeal.Gen.facts,
  Cert.Glu.Gen.facts, Cert.GluIdeal.Gen.facts, Cert.GluReferenceIdeal.Gen.facts,
  Cert.Cross.Gen.facts, Cert.CrossIdeal.Gen.facts, Cert.CrossReferenceIdeal.Gen.facts,
  Cert.CrossGrads.Gen.facts, Cert.CrossGradsIdeal.Gen.facts, Cert.CrossGradsReferenceIdeal.Gen.facts,
  Cert.Hyb.Gen.facts, Cert.HybIdeal.Gen.facts, Cert.HybReferenceIdeal.Gen.facts,
  Cert.Down.Gen.facts, Cert.DownIdeal.Gen.facts, Cert.DownReferenceIdeal.Gen.facts,
  Cert.Mixed.Gen.facts, Cert.MixedIdeal.Gen.facts, Cert.MixedReferenceIdeal.Gen.facts,
  Cert.Swa.frame_p, Cert.Swa.frame_pi, Cert.Swa.frame_ri,
  Cert.FfnClaims.frame_p, Cert.FfnClaims.frame_pi, Cert.FfnClaims.frame_ri,
  Cert.FfnOneClaims.frame_p, Cert.FfnOneClaims.frame_pi, Cert.FfnOneClaims.frame_ri,
  Cert.FfnZeroClaims.frame_p, Cert.FfnZeroClaims.frame_pi, Cert.FfnZeroClaims.frame_ri,
  Cert.FfnThreeClaims.frame_p, Cert.FfnThreeClaims.frame_pi, Cert.FfnThreeClaims.frame_ri,
  Cert.GluClaims.frame_p, Cert.GluClaims.frame_pi, Cert.GluClaims.frame_ri,
  Cert.CrossClaims.frame_p, Cert.CrossClaims.frame_pi, Cert.CrossClaims.frame_ri,
  Cert.CrossGradsClaims.frame_p, Cert.CrossGradsClaims.frame_pi, Cert.CrossGradsClaims.frame_ri,
  Cert.HybClaims.frame_p, Cert.HybClaims.frame_pi, Cert.HybClaims.frame_ri,
  Cert.DownClaims.frame_p, Cert.DownClaims.frame_pi, Cert.DownClaims.frame_ri,
  Cert.MixedClaims.frame_p, Cert.MixedClaims.frame_pi, Cert.MixedClaims.frame_ri,
  Cert.Swa.preserves, Cert.Swa.algebraic,
  Cert.FfnClaims.preserves, Cert.FfnClaims.algebraic,
  Cert.FfnOneClaims.preserves, Cert.FfnOneClaims.algebraic,
  Cert.FfnZeroClaims.preserves, Cert.FfnZeroClaims.algebraic,
  Cert.FfnThreeClaims.preserves, Cert.FfnThreeClaims.algebraic,
  Cert.GluClaims.preserves, Cert.GluClaims.algebraic,
  Cert.CrossClaims.preserves, Cert.CrossClaims.algebraic,
  Cert.CrossGradsClaims.preserves, Cert.CrossGradsClaims.algebraic,
  Cert.HybClaims.preserves, Cert.HybClaims.algebraic,
  Cert.DownClaims.preserves, Cert.DownClaims.algebraic,
  Cert.MixedClaims.preserves, Cert.MixedClaims.algebraic⟩

end Cert.Proof

end
